-- ==== Defs.lean ====
def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_DupKernel (m : (ℓ : Loc Cert.DupKernel.nD Cert.DupKernel.τ Cert.DupKernel.sig) → Buf (Elt Bits) ℓ) : Prop :=
  True

def Pre_DupKernelIdeal (m : (ℓ : Loc Cert.DupKernelIdeal.nD Cert.DupKernelIdeal.τ Cert.DupKernelIdeal.sig) → Buf (Elt Ideal) ℓ) : Prop :=
  True

def Pre_DupReferenceIdeal (m : (ℓ : Loc Cert.DupReferenceIdeal.nD Cert.DupReferenceIdeal.τ Cert.DupReferenceIdeal.sig) → Buf (Elt Ideal) ℓ) : Prop :=
  True

def Pre_GdownKernel (m : (ℓ : Loc Cert.GdownKernel.nD Cert.GdownKernel.τ Cert.GdownKernel.sig) → Buf (Elt Bits) ℓ) : Prop :=
  True

def Pre_GdownKernelIdeal (m : (ℓ : Loc Cert.GdownKernelIdeal.nD Cert.GdownKernelIdeal.τ Cert.GdownKernelIdeal.sig) → Buf (Elt Ideal) ℓ) : Prop :=
  True

def Pre_GdownReferenceIdeal (m : (ℓ : Loc Cert.GdownReferenceIdeal.nD Cert.GdownReferenceIdeal.τ Cert.GdownReferenceIdeal.sig) → Buf (Elt Ideal) ℓ) : Prop :=
  True

def Pre_DhTwoKernel (m : (ℓ : Loc Cert.DhTwoKernel.nD Cert.DhTwoKernel.τ Cert.DhTwoKernel.sig) → Buf (Elt Bits) ℓ) : Prop :=
  True

def Pre_DhTwoKernelIdeal (m : (ℓ : Loc Cert.DhTwoKernelIdeal.nD Cert.DhTwoKernelIdeal.τ Cert.DhTwoKernelIdeal.sig) → Buf (Elt Ideal) ℓ) : Prop :=
  True

def Pre_DhTwoReferenceIdeal (m : (ℓ : Loc Cert.DhTwoReferenceIdeal.nD Cert.DhTwoReferenceIdeal.τ Cert.DhTwoReferenceIdeal.sig) → Buf (Elt Ideal) ℓ) : Prop :=
  True

def Pre_GupKernel (m : (ℓ : Loc Cert.GupKernel.nD Cert.GupKernel.τ Cert.GupKernel.sig) → Buf (Elt Bits) ℓ) : Prop :=
  True

def Pre_GupKernelIdeal (m : (ℓ : Loc Cert.GupKernelIdeal.nD Cert.GupKernelIdeal.τ Cert.GupKernelIdeal.sig) → Buf (Elt Ideal) ℓ) : Prop :=
  True

def Pre_GupReferenceIdeal (m : (ℓ : Loc Cert.GupReferenceIdeal.nD Cert.GupReferenceIdeal.τ Cert.GupReferenceIdeal.sig) → Buf (Elt Ideal) ℓ) : Prop :=
  True

def Pre_DmergedKernel (m : (ℓ : Loc Cert.DmergedKernel.nD Cert.DmergedKernel.τ Cert.DmergedKernel.sig) → Buf (Elt Bits) ℓ) : Prop :=
  True

def Pre_DmergedKernelIdeal (m : (ℓ : Loc Cert.DmergedKernelIdeal.nD Cert.DmergedKernelIdeal.τ Cert.DmergedKernelIdeal.sig) → Buf (Elt Ideal) ℓ) : Prop :=
  True

def Pre_DmergedReferenceIdeal (m : (ℓ : Loc Cert.DmergedReferenceIdeal.nD Cert.DmergedReferenceIdeal.τ Cert.DmergedReferenceIdeal.sig) → Buf (Elt Ideal) ℓ) : Prop :=
  True

def Pre_GoutKernel (m : (ℓ : Loc Cert.GoutKernel.nD Cert.GoutKernel.τ Cert.GoutKernel.sig) → Buf (Elt Bits) ℓ) : Prop :=
  True

def Pre_GoutKernelIdeal (m : (ℓ : Loc Cert.GoutKernelIdeal.nD Cert.GoutKernelIdeal.τ Cert.GoutKernelIdeal.sig) → Buf (Elt Ideal) ℓ) : Prop :=
  True

def Pre_GoutReferenceIdeal (m : (ℓ : Loc Cert.GoutReferenceIdeal.nD Cert.GoutReferenceIdeal.τ Cert.GoutReferenceIdeal.sig) → Buf (Elt Ideal) ℓ) : Prop :=
  True

def Pre_DyKernel (m : (ℓ : Loc Cert.DyKernel.nD Cert.DyKernel.τ Cert.DyKernel.sig) → Buf (Elt Bits) ℓ) : Prop :=
  True

def Pre_DyKernelIdeal (m : (ℓ : Loc Cert.DyKernelIdeal.nD Cert.DyKernelIdeal.τ Cert.DyKernelIdeal.sig) → Buf (Elt Ideal) ℓ) : Prop :=
  True

def Pre_DyReferenceIdeal (m : (ℓ : Loc Cert.DyReferenceIdeal.nD Cert.DyReferenceIdeal.τ Cert.DyReferenceIdeal.sig) → Buf (Elt Ideal) ℓ) : Prop :=
  True

def Pre_GbranchKernel (m : (ℓ : Loc Cert.GbranchKernel.nD Cert.GbranchKernel.τ Cert.GbranchKernel.sig) → Buf (Elt Bits) ℓ) : Prop :=
  True

def Pre_GbranchKernelIdeal (m : (ℓ : Loc Cert.GbranchKernelIdeal.nD Cert.GbranchKernelIdeal.τ Cert.GbranchKernelIdeal.sig) → Buf (Elt Ideal) ℓ) : Prop :=
  True

def Pre_GbranchReferenceIdeal (m : (ℓ : Loc Cert.GbranchReferenceIdeal.nD Cert.GbranchReferenceIdeal.τ Cert.GbranchReferenceIdeal.sig) → Buf (Elt Ideal) ℓ) : Prop :=
  True

def Pre_GinKernel (m : (ℓ : Loc Cert.GinKernel.nD Cert.GinKernel.τ Cert.GinKernel.sig) → Buf (Elt Bits) ℓ) : Prop :=
  True

def Pre_GinKernelIdeal (m : (ℓ : Loc Cert.GinKernelIdeal.nD Cert.GinKernelIdeal.τ Cert.GinKernelIdeal.sig) → Buf (Elt Ideal) ℓ) : Prop :=
  True

def Pre_GinReferenceIdeal (m : (ℓ : Loc Cert.GinReferenceIdeal.nD Cert.GinReferenceIdeal.τ Cert.GinReferenceIdeal.sig) → Buf (Elt Ideal) ℓ) : Prop :=
  True

def Pre_DhKernel (m : (ℓ : Loc Cert.DhKernel.nD Cert.DhKernel.τ Cert.DhKernel.sig) → Buf (Elt Bits) ℓ) : Prop :=
  True

def Pre_DhKernelIdeal (m : (ℓ : Loc Cert.DhKernelIdeal.nD Cert.DhKernelIdeal.τ Cert.DhKernelIdeal.sig) → Buf (Elt Ideal) ℓ) : Prop :=
  True

def Pre_DhReferenceIdeal (m : (ℓ : Loc Cert.DhReferenceIdeal.nD Cert.DhReferenceIdeal.τ Cert.DhReferenceIdeal.sig) → Buf (Elt Ideal) ℓ) : Prop :=
  True

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_BranchKernel (m : (ℓ : Loc Cert.BranchKernel.nD Cert.BranchKernel.τ Cert.BranchKernel.sig) → Buf (Elt Bits) ℓ) : Prop :=
  True

def Pre_BranchKernelIdeal (m : (ℓ : Loc Cert.BranchKernelIdeal.nD Cert.BranchKernelIdeal.τ Cert.BranchKernelIdeal.sig) → Buf (Elt Ideal) ℓ) : Prop :=
  True

def Pre_BranchReferenceIdeal (m : (ℓ : Loc Cert.BranchReferenceIdeal.nD Cert.BranchReferenceIdeal.τ Cert.BranchReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_DownKernel (m : (ℓ : Loc Cert.DownKernel.nD Cert.DownKernel.τ Cert.DownKernel.sig) → Buf (Elt Bits) ℓ) : Prop :=
  True

def Pre_DownKernelIdeal (m : (ℓ : Loc Cert.DownKernelIdeal.nD Cert.DownKernelIdeal.τ Cert.DownKernelIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_UpKernel (m : (ℓ : Loc Cert.UpKernel.nD Cert.UpKernel.τ Cert.UpKernel.sig) → Buf (Elt Bits) ℓ) : Prop :=
  True

def Pre_UpKernelIdeal (m : (ℓ : Loc Cert.UpKernelIdeal.nD Cert.UpKernelIdeal.τ Cert.UpKernelIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_LruKernel (m : (ℓ : Loc Cert.LruKernel.nD Cert.LruKernel.τ Cert.LruKernel.sig) → Buf (Elt Bits) ℓ) : Prop :=
  True

def Pre_LruKernelIdeal (m : (ℓ : Loc Cert.LruKernelIdeal.nD Cert.LruKernelIdeal.τ Cert.LruKernelIdeal.sig) → Buf (Elt Ideal) ℓ) : Prop :=
  True

def Pre_LruReferenceIdeal (m : (ℓ : Loc Cert.LruReferenceIdeal.nD Cert.LruReferenceIdeal.τ Cert.LruReferenceIdeal.sig) → Buf (Elt Ideal) ℓ) : Prop :=
  True

def Pre_DupZeroKernel (m : (ℓ : Loc Cert.DupZeroKernel.nD Cert.DupZeroKernel.τ Cert.DupZeroKernel.sig) → Buf (Elt Bits) ℓ) : Prop :=
  True

def Pre_DupZeroKernelIdeal (m : (ℓ : Loc Cert.DupZeroKernelIdeal.nD Cert.DupZeroKernelIdeal.τ Cert.DupZeroKernelIdeal.sig) → Buf (Elt Ideal) ℓ) : Prop :=
  True

def Pre_GdownZeroKernel (m : (ℓ : Loc Cert.GdownZeroKernel.nD Cert.GdownZeroKernel.τ Cert.GdownZeroKernel.sig) → Buf (Elt Bits) ℓ) : Prop :=
  True

def Pre_GdownZeroKernelIdeal (m : (ℓ : Loc Cert.GdownZeroKernelIdeal.nD Cert.GdownZeroKernelIdeal.τ Cert.GdownZeroKernelIdeal.sig) → Buf (Elt Ideal) ℓ) : Prop :=
  True

def Pre_DhTwoZeroKernel (m : (ℓ : Loc Cert.DhTwoZeroKernel.nD Cert.DhTwoZeroKernel.τ Cert.DhTwoZeroKernel.sig) → Buf (Elt Bits) ℓ) : Prop :=
  True

def Pre_DhTwoZeroKernelIdeal (m : (ℓ : Loc Cert.DhTwoZeroKernelIdeal.nD Cert.DhTwoZeroKernelIdeal.τ Cert.DhTwoZeroKernelIdeal.sig) → Buf (Elt Ideal) ℓ) : Prop :=
  True

def Pre_GupZeroKernel (m : (ℓ : Loc Cert.GupZeroKernel.nD Cert.GupZeroKernel.τ Cert.GupZeroKernel.sig) → Buf (Elt Bits) ℓ) : Prop :=
  True

def Pre_GupZeroKernelIdeal (m : (ℓ : Loc Cert.GupZeroKernelIdeal.nD Cert.GupZeroKernelIdeal.τ Cert.GupZeroKernelIdeal.sig) → Buf (Elt Ideal) ℓ) : Prop :=
  True

def Pre_DmergedZeroKernel (m : (ℓ : Loc Cert.DmergedZeroKernel.nD Cert.DmergedZeroKernel.τ Cert.DmergedZeroKernel.sig) → Buf (Elt Bits) ℓ) : Prop :=
  True

def Pre_DmergedZeroKernelIdeal (m : (ℓ : Loc Cert.DmergedZeroKernelIdeal.nD Cert.DmergedZeroKernelIdeal.τ Cert.DmergedZeroKernelIdeal.sig) → Buf (Elt Ideal) ℓ) : Prop :=
  True

def Pre_GoutZeroKernel (m : (ℓ : Loc Cert.GoutZeroKernel.nD Cert.GoutZeroKernel.τ Cert.GoutZeroKernel.sig) → Buf (Elt Bits) ℓ) : Prop :=
  True

def Pre_GoutZeroKernelIdeal (m : (ℓ : Loc Cert.GoutZeroKernelIdeal.nD Cert.GoutZeroKernelIdeal.τ Cert.GoutZeroKernelIdeal.sig) → Buf (Elt Ideal) ℓ) : Prop :=
  True

def Pre_DyZeroKernel (m : (ℓ : Loc Cert.DyZeroKernel.nD Cert.DyZeroKernel.τ Cert.DyZeroKernel.sig) → Buf (Elt Bits) ℓ) : Prop :=
  True

def Pre_DyZeroKernelIdeal (m : (ℓ : Loc Cert.DyZeroKernelIdeal.nD Cert.DyZeroKernelIdeal.τ Cert.DyZeroKernelIdeal.sig) → Buf (Elt Ideal) ℓ) : Prop :=
  True

def Pre_GbranchZeroKernel (m : (ℓ : Loc Cert.GbranchZeroKernel.nD Cert.GbranchZeroKernel.τ Cert.GbranchZeroKernel.sig) → Buf (Elt Bits) ℓ) : Prop :=
  True

def Pre_GbranchZeroKernelIdeal (m : (ℓ : Loc Cert.GbranchZeroKernelIdeal.nD Cert.GbranchZeroKernelIdeal.τ Cert.GbranchZeroKernelIdeal.sig) → Buf (Elt Ideal) ℓ) : Prop :=
  True

def Pre_GinZeroKernel (m : (ℓ : Loc Cert.GinZeroKernel.nD Cert.GinZeroKernel.τ Cert.GinZeroKernel.sig) → Buf (Elt Bits) ℓ) : Prop :=
  True

def Pre_GinZeroKernelIdeal (m : (ℓ : Loc Cert.GinZeroKernelIdeal.nD Cert.GinZeroKernelIdeal.τ Cert.GinZeroKernelIdeal.sig) → Buf (Elt Ideal) ℓ) : Prop :=
  True

def Pre_BranchZeroKernel (m : (ℓ : Loc Cert.BranchZeroKernel.nD Cert.BranchZeroKernel.τ Cert.BranchZeroKernel.sig) → Buf (Elt Bits) ℓ) : Prop :=
  True

def Pre_BranchZeroKernelIdeal (m : (ℓ : Loc Cert.BranchZeroKernelIdeal.nD Cert.BranchZeroKernelIdeal.τ Cert.BranchZeroKernelIdeal.sig) → Buf (Elt Ideal) ℓ) : Prop :=
  True

def Pre_OutZeroKernel (m : (ℓ : Loc Cert.OutZeroKernel.nD Cert.OutZeroKernel.τ Cert.OutZeroKernel.sig) → Buf (Elt Bits) ℓ) : Prop :=
  True

def Pre_OutZeroKernelIdeal (m : (ℓ : Loc Cert.OutZeroKernelIdeal.nD Cert.OutZeroKernelIdeal.τ Cert.OutZeroKernelIdeal.sig) → Buf (Elt Ideal) ℓ) : Prop :=
  True

def Pre_DownZeroKernel (m : (ℓ : Loc Cert.DownZeroKernel.nD Cert.DownZeroKernel.τ Cert.DownZeroKernel.sig) → Buf (Elt Bits) ℓ) : Prop :=
  True

def Pre_DownZeroKernelIdeal (m : (ℓ : Loc Cert.DownZeroKernelIdeal.nD Cert.DownZeroKernelIdeal.τ Cert.DownZeroKernelIdeal.sig) → Buf (Elt Ideal) ℓ) : Prop :=
  True

def Pre_UpZeroKernel (m : (ℓ : Loc Cert.UpZeroKernel.nD Cert.UpZeroKernel.τ Cert.UpZeroKernel.sig) → Buf (Elt Bits) ℓ) : Prop :=
  True

def Pre_UpZeroKernelIdeal (m : (ℓ : Loc Cert.UpZeroKernelIdeal.nD Cert.UpZeroKernelIdeal.τ Cert.UpZeroKernelIdeal.sig) → Buf (Elt Ideal) ℓ) : Prop :=
  True

def Pre_PreBKernel (m : (ℓ : Loc Cert.PreBKernel.nD Cert.PreBKernel.τ Cert.PreBKernel.sig) → Buf (Elt Bits) ℓ) : Prop :=
  True

def Pre_PreBKernelIdeal (m : (ℓ : Loc Cert.PreBKernelIdeal.nD Cert.PreBKernelIdeal.τ Cert.PreBKernelIdeal.sig) → Buf (Elt Ideal) ℓ) : Prop :=
  True

def Pre_PreBReferenceIdeal (m : (ℓ : Loc Cert.PreBReferenceIdeal.nD Cert.PreBReferenceIdeal.τ Cert.PreBReferenceIdeal.sig) → Buf (Elt Ideal) ℓ) : Prop :=
  True

def Pre_PostBKernel (m : (ℓ : Loc Cert.PostBKernel.nD Cert.PostBKernel.τ Cert.PostBKernel.sig) → Buf (Elt Bits) ℓ) : Prop :=
  True

def Pre_PostBKernelIdeal (m : (ℓ : Loc Cert.PostBKernelIdeal.nD Cert.PostBKernelIdeal.τ Cert.PostBKernelIdeal.sig) → Buf (Elt Ideal) ℓ) : Prop :=
  True

def Pre_PostBReferenceIdeal (m : (ℓ : Loc Cert.PostBReferenceIdeal.nD Cert.PostBReferenceIdeal.τ Cert.PostBReferenceIdeal.sig) → Buf (Elt Ideal) ℓ) : Prop :=
  True

def Pre_PostBZeroKernel (m : (ℓ : Loc Cert.PostBZeroKernel.nD Cert.PostBZeroKernel.τ Cert.PostBZeroKernel.sig) → Buf (Elt Bits) ℓ) : Prop :=
  True

def Pre_PostBZeroKernelIdeal (m : (ℓ : Loc Cert.PostBZeroKernelIdeal.nD Cert.PostBZeroKernelIdeal.τ Cert.PostBZeroKernelIdeal.sig) → Buf (Elt Ideal) ℓ) : Prop :=
  True

def Pre_ResPreBZeroKernel (m : (ℓ : Loc Cert.ResPreBZeroKernel.nD Cert.ResPreBZeroKernel.τ Cert.ResPreBZeroKernel.sig) → Buf (Elt Bits) ℓ) : Prop :=
  True

def Pre_ResPreBZeroKernelIdeal (m : (ℓ : Loc Cert.ResPreBZeroKernelIdeal.nD Cert.ResPreBZeroKernelIdeal.τ Cert.ResPreBZeroKernelIdeal.sig) → Buf (Elt Ideal) ℓ) : Prop :=
  True

def Pre_ResBKernel (m : (ℓ : Loc Cert.ResBKernel.nD Cert.ResBKernel.τ Cert.ResBKernel.sig) → Buf (Elt Bits) ℓ) : Prop :=
  True

def Pre_ResBKernelIdeal (m : (ℓ : Loc Cert.ResBKernelIdeal.nD Cert.ResBKernelIdeal.τ Cert.ResBKernelIdeal.sig) → Buf (Elt Ideal) ℓ) : Prop :=
  True

def Pre_ResBReferenceIdeal (m : (ℓ : Loc Cert.ResBReferenceIdeal.nD Cert.ResBReferenceIdeal.τ Cert.ResBReferenceIdeal.sig) → Buf (Elt Ideal) ℓ) : Prop :=
  True

def Pre_PostKernel (m : (ℓ : Loc Cert.PostKernel.nD Cert.PostKernel.τ Cert.PostKernel.sig) → Buf (Elt Bits) ℓ) : Prop :=
  True

def Pre_PostKernelIdeal (m : (ℓ : Loc Cert.PostKernelIdeal.nD Cert.PostKernelIdeal.τ Cert.PostKernelIdeal.sig) → Buf (Elt Ideal) ℓ) : Prop :=
  True

def Pre_PostReferenceIdeal (m : (ℓ : Loc Cert.PostReferenceIdeal.nD Cert.PostReferenceIdeal.τ Cert.PostReferenceIdeal.sig) → Buf (Elt Ideal) ℓ) : Prop :=
  True

def Pre_ResKernel (m : (ℓ : Loc Cert.ResKernel.nD Cert.ResKernel.τ Cert.ResKernel.sig) → Buf (Elt Bits) ℓ) : Prop :=
  True

def Pre_ResKernelIdeal (m : (ℓ : Loc Cert.ResKernelIdeal.nD Cert.ResKernelIdeal.τ Cert.ResKernelIdeal.sig) → Buf (Elt Ideal) ℓ) : Prop :=
  True

def Pre_ResReferenceIdeal (m : (ℓ : Loc Cert.ResReferenceIdeal.nD Cert.ResReferenceIdeal.τ Cert.ResReferenceIdeal.sig) → Buf (Elt Ideal) ℓ) : Prop :=
  True

def Pre_AdamAdaKernel (m : (ℓ : Loc Cert.AdamAdaKernel.nD Cert.AdamAdaKernel.τ Cert.AdamAdaKernel.sig) → Buf (Elt Bits) ℓ) : Prop :=
  True

def Pre_AdamAdaKernelIdeal (m : (ℓ : Loc Cert.AdamAdaKernelIdeal.nD Cert.AdamAdaKernelIdeal.τ Cert.AdamAdaKernelIdeal.sig) → Buf (Elt Ideal) ℓ) : Prop :=
  True

def Pre_AdamAdaReferenceIdeal (m : (ℓ : Loc Cert.AdamAdaReferenceIdeal.nD Cert.AdamAdaReferenceIdeal.τ Cert.AdamAdaReferenceIdeal.sig) → Buf (Elt Ideal) ℓ) : Prop :=
  True

def Pre_AdamUpKernel (m : (ℓ : Loc Cert.AdamUpKernel.nD Cert.AdamUpKernel.τ Cert.AdamUpKernel.sig) → Buf (Elt Bits) ℓ) : Prop :=
  True

def Pre_AdamUpKernelIdeal (m : (ℓ : Loc Cert.AdamUpKernelIdeal.nD Cert.AdamUpKernelIdeal.τ Cert.AdamUpKernelIdeal.sig) → Buf (Elt Ideal) ℓ) : Prop :=
  True

def Pre_AdamUpReferenceIdeal (m : (ℓ : Loc Cert.AdamUpReferenceIdeal.nD Cert.AdamUpReferenceIdeal.τ Cert.AdamUpReferenceIdeal.sig) → Buf (Elt Ideal) ℓ) : Prop :=
  True

def Pre_AdamDownKernel (m : (ℓ : Loc Cert.AdamDownKernel.nD Cert.AdamDownKernel.τ Cert.AdamDownKernel.sig) → Buf (Elt Bits) ℓ) : Prop :=
  True

def Pre_AdamDownKernelIdeal (m : (ℓ : Loc Cert.AdamDownKernelIdeal.nD Cert.AdamDownKernelIdeal.τ Cert.AdamDownKernelIdeal.sig) → Buf (Elt Ideal) ℓ) : Prop :=
  True

def Pre_AdamDownReferenceIdeal (m : (ℓ : Loc Cert.AdamDownReferenceIdeal.nD Cert.AdamDownReferenceIdeal.τ Cert.AdamDownReferenceIdeal.sig) → Buf (Elt Ideal) ℓ) : Prop :=
  True

def Pre_AdamInKernel (m : (ℓ : Loc Cert.AdamInKernel.nD Cert.AdamInKernel.τ Cert.AdamInKernel.sig) → Buf (Elt Bits) ℓ) : Prop :=
  True

def Pre_AdamInKernelIdeal (m : (ℓ : Loc Cert.AdamInKernelIdeal.nD Cert.AdamInKernelIdeal.τ Cert.AdamInKernelIdeal.sig) → Buf (Elt Ideal) ℓ) : Prop :=
  True

def Pre_AdamInReferenceIdeal (m : (ℓ : Loc Cert.AdamInReferenceIdeal.nD Cert.AdamInReferenceIdeal.τ Cert.AdamInReferenceIdeal.sig) → Buf (Elt Ideal) ℓ) : Prop :=
  True

def Pre_AdamBranchKernel (m : (ℓ : Loc Cert.AdamBranchKernel.nD Cert.AdamBranchKernel.τ Cert.AdamBranchKernel.sig) → Buf (Elt Bits) ℓ) : Prop :=
  True

def Pre_AdamBranchKernelIdeal (m : (ℓ : Loc Cert.AdamBranchKernelIdeal.nD Cert.AdamBranchKernelIdeal.τ Cert.AdamBranchKernelIdeal.sig) → Buf (Elt Ideal) ℓ) : Prop :=
  True

def Pre_AdamBranchReferenceIdeal (m : (ℓ : Loc Cert.AdamBranchReferenceIdeal.nD Cert.AdamBranchReferenceIdeal.τ Cert.AdamBranchReferenceIdeal.sig) → Buf (Elt Ideal) ℓ) : Prop :=
  True

def Pre_AdamOutKernel (m : (ℓ : Loc Cert.AdamOutKernel.nD Cert.AdamOutKernel.τ Cert.AdamOutKernel.sig) → Buf (Elt Bits) ℓ) : Prop :=
  True

def Pre_AdamOutKernelIdeal (m : (ℓ : Loc Cert.AdamOutKernelIdeal.nD Cert.AdamOutKernelIdeal.τ Cert.AdamOutKernelIdeal.sig) → Buf (Elt Ideal) ℓ) : Prop :=
  True

def Pre_AdamOutReferenceIdeal (m : (ℓ : Loc Cert.AdamOutReferenceIdeal.nD Cert.AdamOutReferenceIdeal.τ Cert.AdamOutReferenceIdeal.sig) → Buf (Elt Ideal) ℓ) : Prop :=
  True

def Pre_MergeFKernel (m : (ℓ : Loc Cert.MergeFKernel.nD Cert.MergeFKernel.τ Cert.MergeFKernel.sig) → Buf (Elt Bits) ℓ) : Prop :=
  True

def Pre_MergeFKernelIdeal (m : (ℓ : Loc Cert.MergeFKernelIdeal.nD Cert.MergeFKernelIdeal.τ Cert.MergeFKernelIdeal.sig) → Buf (Elt Ideal) ℓ) : Prop :=
  True

def Pre_MergeFReferenceIdeal (m : (ℓ : Loc Cert.MergeFReferenceIdeal.nD Cert.MergeFReferenceIdeal.τ Cert.MergeFReferenceIdeal.sig) → Buf (Elt Ideal) ℓ) : Prop :=
  True

def Pre_LossHeadKernel (m : (ℓ : Loc Cert.LossHeadKernel.nD Cert.LossHeadKernel.τ Cert.LossHeadKernel.sig) → Buf (Elt Bits) ℓ) : Prop :=
  True

def Pre_LossHeadKernelIdeal (m : (ℓ : Loc Cert.LossHeadKernelIdeal.nD Cert.LossHeadKernelIdeal.τ Cert.LossHeadKernelIdeal.sig) → Buf (Elt Ideal) ℓ) : Prop :=
  True

def Pre_LossHeadReferenceIdeal (m : (ℓ : Loc Cert.LossHeadReferenceIdeal.nD Cert.LossHeadReferenceIdeal.τ Cert.LossHeadReferenceIdeal.sig) → Buf (Elt Ideal) ℓ) : Prop :=
  True

def Pre_AdamSmallKernel (m : (ℓ : Loc Cert.AdamSmallKernel.nD Cert.AdamSmallKernel.τ Cert.AdamSmallKernel.sig) → Buf (Elt Bits) ℓ) : Prop :=
  True

def Pre_AdamSmallKernelIdeal (m : (ℓ : Loc Cert.AdamSmallKernelIdeal.nD Cert.AdamSmallKernelIdeal.τ Cert.AdamSmallKernelIdeal.sig) → Buf (Elt Ideal) ℓ) : Prop :=
  True

def Pre_AdamSmallReferenceIdeal (m : (ℓ : Loc Cert.AdamSmallReferenceIdeal.nD Cert.AdamSmallReferenceIdeal.τ Cert.AdamSmallReferenceIdeal.sig) → Buf (Elt Ideal) ℓ) : Prop :=
  True

def Pre_MergeZeroKernel (m : (ℓ : Loc Cert.MergeZeroKernel.nD Cert.MergeZeroKernel.τ Cert.MergeZeroKernel.sig) → Buf (Elt Bits) ℓ) : Prop :=
  True

def Pre_MergeZeroKernelIdeal (m : (ℓ : Loc Cert.MergeZeroKernelIdeal.nD Cert.MergeZeroKernelIdeal.τ Cert.MergeZeroKernelIdeal.sig) → Buf (Elt Ideal) ℓ) : Prop :=
  True

def Pre_PostZeroKernel (m : (ℓ : Loc Cert.PostZeroKernel.nD Cert.PostZeroKernel.τ Cert.PostZeroKernel.sig) → Buf (Elt Bits) ℓ) : Prop :=
  True

def Pre_PostZeroKernelIdeal (m : (ℓ : Loc Cert.PostZeroKernelIdeal.nD Cert.PostZeroKernelIdeal.τ Cert.PostZeroKernelIdeal.sig) → Buf (Elt Ideal) ℓ) : Prop :=
  True

def Pre_ResPreZeroKernel (m : (ℓ : Loc Cert.ResPreZeroKernel.nD Cert.ResPreZeroKernel.τ Cert.ResPreZeroKernel.sig) → Buf (Elt Bits) ℓ) : Prop :=
  True

def Pre_ResPreZeroKernelIdeal (m : (ℓ : Loc Cert.ResPreZeroKernelIdeal.nD Cert.ResPreZeroKernelIdeal.τ Cert.ResPreZeroKernelIdeal.sig) → Buf (Elt Ideal) ℓ) : Prop :=
  True

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3)
      ∧ r.2.mem ((c.tc : Thread Cert.MergeKernel.nD Cert.MergeKernel.τ).loc Cert.MergeKernel.main_arg4) = m ((c.tc : Thread Cert.MergeKernel.nD Cert.MergeKernel.τ).loc Cert.MergeKernel.main_arg4))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4))
      ∧ r.2.sem = fun _ => 0)

def quiescent_DupKernel [hDupKernel : Cert.DupKernel.Facts] : Prop :=
  ∀ (m : (ℓ : Loc Cert.DupKernel.nD Cert.DupKernel.τ Cert.DupKernel.sig) → Buf (Elt Bits) ℓ) (g : Dev Cert.DupKernel.nD → PrngReg), Pre_DupKernel m →
    θ_run (Cert.DupKernel.defs (F := Bits)) (onTc (τ := Cert.DupKernel.τ) (Cert.DupKernel.main (F := Bits))) ⟨m, fun _ => 0, g⟩ (fun r => (∀ c : Dev Cert.DupKernel.nD,
      r.2.mem ((c.tc : Thread Cert.DupKernel.nD Cert.DupKernel.τ).loc Cert.DupKernel.main_arg0) = m ((c.tc : Thread Cert.DupKernel.nD Cert.DupKernel.τ).loc Cert.DupKernel.main_arg0)
      ∧ r.2.mem ((c.tc : Thread Cert.DupKernel.nD Cert.DupKernel.τ).loc Cert.DupKernel.main_arg1) = m ((c.tc : Thread Cert.DupKernel.nD Cert.DupKernel.τ).loc Cert.DupKernel.main_arg1)
      ∧ r.2.mem ((c.tc : Thread Cert.DupKernel.nD Cert.DupKernel.τ).loc Cert.DupKernel.main_arg2) = m ((c.tc : Thread Cert.DupKernel.nD Cert.DupKernel.τ).loc Cert.DupKernel.main_arg2))
      ∧ r.2.sem = fun _ => 0)

def quiescent_DupKernelIdeal [hDupKernelIdeal : Cert.DupKernelIdeal.Facts] : Prop :=
  ∀ (m : (ℓ : Loc Cert.DupKernelIdeal.nD Cert.DupKernelIdeal.τ Cert.DupKernelIdeal.sig) → Buf (Elt Ideal) ℓ) (g : Dev Cert.DupKernelIdeal.nD → PrngReg), Pre_DupKernelIdeal m →
    θ_run (Cert.DupKernelIdeal.defs (F := Ideal)) (onTc (τ := Cert.DupKernelIdeal.τ) (Cert.DupKernelIdeal.main (F := Ideal))) ⟨m, fun _ => 0, g⟩ (fun r => (∀ c : Dev Cert.DupKernelIdeal.nD,
      r.2.mem ((c.tc : Thread Cert.DupKernelIdeal.nD Cert.DupKernelIdeal.τ).loc Cert.DupKernelIdeal.main_arg0) = m ((c.tc : Thread Cert.DupKernelIdeal.nD Cert.DupKernelIdeal.τ).loc Cert.DupKernelIdeal.main_arg0)
      ∧ r.2.mem ((c.tc : Thread Cert.DupKernelIdeal.nD Cert.DupKernelIdeal.τ).loc Cert.DupKernelIdeal.main_arg1) = m ((c.tc : Thread Cert.DupKernelIdeal.nD Cert.DupKernelIdeal.τ).loc Cert.DupKernelIdeal.main_arg1)
      ∧ r.2.mem ((c.tc : Thread Cert.DupKernelIdeal.nD Cert.DupKernelIdeal.τ).loc Cert.DupKernelIdeal.main_arg2) = m ((c.tc : Thread Cert.DupKernelIdeal.nD Cert.DupKernelIdeal.τ).loc Cert.DupKernelIdeal.main_arg2))
      ∧ r.2.sem = fun _ => 0)

def quiescent_DupReferenceIdeal [hDupReferenceIdeal : Cert.DupReferenceIdeal.Facts] : Prop :=
  ∀ (m : (ℓ : Loc Cert.DupReferenceIdeal.nD Cert.DupReferenceIdeal.τ Cert.DupReferenceIdeal.sig) → Buf (Elt Ideal) ℓ) (g : Dev Cert.DupReferenceIdeal.nD → PrngReg), Pre_DupReferenceIdeal m →
    θ_run (Cert.DupReferenceIdeal.defs (F := Ideal)) (onTc (τ := Cert.DupReferenceIdeal.τ) (Cert.DupReferenceIdeal.main (F := Ideal))) ⟨m, fun _ => 0, g⟩ (fun r => (∀ c : Dev Cert.DupReferenceIdeal.nD,
      r.2.mem ((c.tc : Thread Cert.DupReferenceIdeal.nD Cert.DupReferenceIdeal.τ).loc Cert.DupReferenceIdeal.main_arg0) = m ((c.tc : Thread Cert.DupReferenceIdeal.nD Cert.DupReferenceIdeal.τ).loc Cert.DupReferenceIdeal.main_arg0)
      ∧ r.2.mem ((c.tc : Thread Cert.DupReferenceIdeal.nD Cert.DupReferenceIdeal.τ).loc Cert.DupReferenceIdeal.main_arg1) = m ((c.tc : Thread Cert.DupReferenceIdeal.nD Cert.DupReferenceIdeal.τ).loc Cert.DupReferenceIdeal.main_arg1)
      ∧ r.2.mem ((c.tc : Thread Cert.DupReferenceIdeal.nD Cert.DupReferenceIdeal.τ).loc Cert.DupReferenceIdeal.main_arg2) = m ((c.tc : Thread Cert.DupReferenceIdeal.nD Cert.DupReferenceIdeal.τ).loc Cert.DupReferenceIdeal.main_arg2))
      ∧ r.2.sem = fun _ => 0)

def quiescent_GdownKernel [hGdownKernel : Cert.GdownKernel.Facts] : Prop :=
  ∀ (m : (ℓ : Loc Cert.GdownKernel.nD Cert.GdownKernel.τ Cert.GdownKernel.sig) → Buf (Elt Bits) ℓ) (g : Dev Cert.GdownKernel.nD → PrngReg), Pre_GdownKernel m →
    θ_run (Cert.GdownKernel.defs (F := Bits)) (onTc (τ := Cert.GdownKernel.τ) (Cert.GdownKernel.main (F := Bits))) ⟨m, fun _ => 0, g⟩ (fun r => (∀ c : Dev Cert.GdownKernel.nD,
      r.2.mem ((c.tc : Thread Cert.GdownKernel.nD Cert.GdownKernel.τ).loc Cert.GdownKernel.main_arg0) = m ((c.tc : Thread Cert.GdownKernel.nD Cert.GdownKernel.τ).loc Cert.GdownKernel.main_arg0)
      ∧ r.2.mem ((c.tc : Thread Cert.GdownKernel.nD Cert.GdownKernel.τ).loc Cert.GdownKernel.main_arg1) = m ((c.tc : Thread Cert.GdownKernel.nD Cert.GdownKernel.τ).loc Cert.GdownKernel.main_arg1))
      ∧ r.2.sem = fun _ => 0)

def quiescent_GdownKernelIdeal [hGdownKernelIdeal : Cert.GdownKernelIdeal.Facts] : Prop :=
  ∀ (m : (ℓ : Loc Cert.GdownKernelIdeal.nD Cert.GdownKernelIdeal.τ Cert.GdownKernelIdeal.sig) → Buf (Elt Ideal) ℓ) (g : Dev Cert.GdownKernelIdeal.nD → PrngReg), Pre_GdownKernelIdeal m →
    θ_run (Cert.GdownKernelIdeal.defs (F := Ideal)) (onTc (τ := Cert.GdownKernelIdeal.τ) (Cert.GdownKernelIdeal.main (F := Ideal))) ⟨m, fun _ => 0, g⟩ (fun r => (∀ c : Dev Cert.GdownKernelIdeal.nD,
      r.2.mem ((c.tc : Thread Cert.GdownKernelIdeal.nD Cert.GdownKernelIdeal.τ).loc Cert.GdownKernelIdeal.main_arg0) = m ((c.tc : Thread Cert.GdownKernelIdeal.nD Cert.GdownKernelIdeal.τ).loc Cert.GdownKernelIdeal.main_arg0)
      ∧ r.2.mem ((c.tc : Thread Cert.GdownKernelIdeal.nD Cert.GdownKernelIdeal.τ).loc Cert.GdownKernelIdeal.main_arg1) = m ((c.tc : Thread Cert.GdownKernelIdeal.nD Cert.GdownKernelIdeal.τ).loc Cert.GdownKernelIdeal.main_arg1))
      ∧ r.2.sem = fun _ => 0)

def quiescent_GdownReferenceIdeal [hGdownReferenceIdeal : Cert.GdownReferenceIdeal.Facts] : Prop :=
  ∀ (m : (ℓ : Loc Cert.GdownReferenceIdeal.nD Cert.GdownReferenceIdeal.τ Cert.GdownReferenceIdeal.sig) → Buf (Elt Ideal) ℓ) (g : Dev Cert.GdownReferenceIdeal.nD → PrngReg), Pre_GdownReferenceIdeal m →
    θ_run (Cert.GdownReferenceIdeal.defs (F := Ideal)) (onTc (τ := Cert.GdownReferenceIdeal.τ) (Cert.GdownReferenceIdeal.main (F := Ideal))) ⟨m, fun _ => 0, g⟩ (fun r => (∀ c : Dev Cert.GdownReferenceIdeal.nD,
      r.2.mem ((c.tc : Thread Cert.GdownReferenceIdeal.nD Cert.GdownReferenceIdeal.τ).loc Cert.GdownReferenceIdeal.main_arg0) = m ((c.tc : Thread Cert.GdownReferenceIdeal.nD Cert.GdownReferenceIdeal.τ).loc Cert.GdownReferenceIdeal.main_arg0)
      ∧ r.2.mem ((c.tc : Thread Cert.GdownReferenceIdeal.nD Cert.GdownReferenceIdeal.τ).loc Cert.GdownReferenceIdeal.main_arg1) = m ((c.tc : Thread Cert.GdownReferenceIdeal.nD Cert.GdownReferenceIdeal.τ).loc Cert.GdownReferenceIdeal.main_arg1))
      ∧ r.2.sem = fun _ => 0)

def quiescent_DhTwoKernel [hDhTwoKernel : Cert.DhTwoKernel.Facts] : Prop :=
  ∀ (m : (ℓ : Loc Cert.DhTwoKernel.nD Cert.DhTwoKernel.τ Cert.DhTwoKernel.sig) → Buf (Elt Bits) ℓ) (g : Dev Cert.DhTwoKernel.nD → PrngReg), Pre_DhTwoKernel m →
    θ_run (Cert.DhTwoKernel.defs (F := Bits)) (onTc (τ := Cert.DhTwoKernel.τ) (Cert.DhTwoKernel.main (F := Bits))) ⟨m, fun _ => 0, g⟩ (fun r => (∀ c : Dev Cert.DhTwoKernel.nD,
      r.2.mem ((c.tc : Thread Cert.DhTwoKernel.nD Cert.DhTwoKernel.τ).loc Cert.DhTwoKernel.main_arg0) = m ((c.tc : Thread Cert.DhTwoKernel.nD Cert.DhTwoKernel.τ).loc Cert.DhTwoKernel.main_arg0)
      ∧ r.2.mem ((c.tc : Thread Cert.DhTwoKernel.nD Cert.DhTwoKernel.τ).loc Cert.DhTwoKernel.main_arg1) = m ((c.tc : Thread Cert.DhTwoKernel.nD Cert.DhTwoKernel.τ).loc Cert.DhTwoKernel.main_arg1))
      ∧ r.2.sem = fun _ => 0)

def quiescent_DhTwoKernelIdeal [hDhTwoKernelIdeal : Cert.DhTwoKernelIdeal.Facts] : Prop :=
  ∀ (m : (ℓ : Loc Cert.DhTwoKernelIdeal.nD Cert.DhTwoKernelIdeal.τ Cert.DhTwoKernelIdeal.sig) → Buf (Elt Ideal) ℓ) (g : Dev Cert.DhTwoKernelIdeal.nD → PrngReg), Pre_DhTwoKernelIdeal m →
    θ_run (Cert.DhTwoKernelIdeal.defs (F := Ideal)) (onTc (τ := Cert.DhTwoKernelIdeal.τ) (Cert.DhTwoKernelIdeal.main (F := Ideal))) ⟨m, fun _ => 0, g⟩ (fun r => (∀ c : Dev Cert.DhTwoKernelIdeal.nD,
      r.2.mem ((c.tc : Thread Cert.DhTwoKernelIdeal.nD Cert.DhTwoKernelIdeal.τ).loc Cert.DhTwoKernelIdeal.main_arg0) = m ((c.tc : Thread Cert.DhTwoKernelIdeal.nD Cert.DhTwoKernelIdeal.τ).loc Cert.DhTwoKernelIdeal.main_arg0)
      ∧ r.2.mem ((c.tc : Thread Cert.DhTwoKernelIdeal.nD Cert.DhTwoKernelIdeal.τ).loc Cert.DhTwoKernelIdeal.main_arg1) = m ((c.tc : Thread Cert.DhTwoKernelIdeal.nD Cert.DhTwoKernelIdeal.τ).loc Cert.DhTwoKernelIdeal.main_arg1))
      ∧ r.2.sem = fun _ => 0)

def quiescent_DhTwoReferenceIdeal [hDhTwoReferenceIdeal : Cert.DhTwoReferenceIdeal.Facts] : Prop :=
  ∀ (m : (ℓ : Loc Cert.DhTwoReferenceIdeal.nD Cert.DhTwoReferenceIdeal.τ Cert.DhTwoReferenceIdeal.sig) → Buf (Elt Ideal) ℓ) (g : Dev Cert.DhTwoReferenceIdeal.nD → PrngReg), Pre_DhTwoReferenceIdeal m →
    θ_run (Cert.DhTwoReferenceIdeal.defs (F := Ideal)) (onTc (τ := Cert.DhTwoReferenceIdeal.τ) (Cert.DhTwoReferenceIdeal.main (F := Ideal))) ⟨m, fun _ => 0, g⟩ (fun r => (∀ c : Dev Cert.DhTwoReferenceIdeal.nD,
      r.2.mem ((c.tc : Thread Cert.DhTwoReferenceIdeal.nD Cert.DhTwoReferenceIdeal.τ).loc Cert.DhTwoReferenceIdeal.main_arg0) = m ((c.tc : Thread Cert.DhTwoReferenceIdeal.nD Cert.DhTwoReferenceIdeal.τ).loc Cert.DhTwoReferenceIdeal.main_arg0)
      ∧ r.2.mem ((c.tc : Thread Cert.DhTwoReferenceIdeal.nD Cert.DhTwoReferenceIdeal.τ).loc Cert.DhTwoReferenceIdeal.main_arg1) = m ((c.tc : Thread Cert.DhTwoReferenceIdeal.nD Cert.DhTwoReferenceIdeal.τ).loc Cert.DhTwoReferenceIdeal.main_arg1))
      ∧ r.2.sem = fun _ => 0)

def quiescent_GupKernel [hGupKernel : Cert.GupKernel.Facts] : Prop :=
  ∀ (m : (ℓ : Loc Cert.GupKernel.nD Cert.GupKernel.τ Cert.GupKernel.sig) → Buf (Elt Bits) ℓ) (g : Dev Cert.GupKernel.nD → PrngReg), Pre_GupKernel m →
    θ_run (Cert.GupKernel.defs (F := Bits)) (onTc (τ := Cert.GupKernel.τ) (Cert.GupKernel.main (F := Bits))) ⟨m, fun _ => 0, g⟩ (fun r => (∀ c : Dev Cert.GupKernel.nD,
      r.2.mem ((c.tc : Thread Cert.GupKernel.nD Cert.GupKernel.τ).loc Cert.GupKernel.main_arg0) = m ((c.tc : Thread Cert.GupKernel.nD Cert.GupKernel.τ).loc Cert.GupKernel.main_arg0)
      ∧ r.2.mem ((c.tc : Thread Cert.GupKernel.nD Cert.GupKernel.τ).loc Cert.GupKernel.main_arg1) = m ((c.tc : Thread Cert.GupKernel.nD Cert.GupKernel.τ).loc Cert.GupKernel.main_arg1))
      ∧ r.2.sem = fun _ => 0)

def quiescent_GupKernelIdeal [hGupKernelIdeal : Cert.GupKernelIdeal.Facts] : Prop :=
  ∀ (m : (ℓ : Loc Cert.GupKernelIdeal.nD Cert.GupKernelIdeal.τ Cert.GupKernelIdeal.sig) → Buf (Elt Ideal) ℓ) (g : Dev Cert.GupKernelIdeal.nD → PrngReg), Pre_GupKernelIdeal m →
    θ_run (Cert.GupKernelIdeal.defs (F := Ideal)) (onTc (τ := Cert.GupKernelIdeal.τ) (Cert.GupKernelIdeal.main (F := Ideal))) ⟨m, fun _ => 0, g⟩ (fun r => (∀ c : Dev Cert.GupKernelIdeal.nD,
      r.2.mem ((c.tc : Thread Cert.GupKernelIdeal.nD Cert.GupKernelIdeal.τ).loc Cert.GupKernelIdeal.main_arg0) = m ((c.tc : Thread Cert.GupKernelIdeal.nD Cert.GupKernelIdeal.τ).loc Cert.GupKernelIdeal.main_arg0)
      ∧ r.2.mem ((c.tc : Thread Cert.GupKernelIdeal.nD Cert.GupKernelIdeal.τ).loc Cert.GupKernelIdeal.main_arg1) = m ((c.tc : Thread Cert.GupKernelIdeal.nD Cert.GupKernelIdeal.τ).loc Cert.GupKernelIdeal.main_arg1))
      ∧ r.2.sem = fun _ => 0)

def quiescent_GupReferenceIdeal [hGupReferenceIdeal : Cert.GupReferenceIdeal.Facts] : Prop :=
  ∀ (m : (ℓ : Loc Cert.GupReferenceIdeal.nD Cert.GupReferenceIdeal.τ Cert.GupReferenceIdeal.sig) → Buf (Elt Ideal) ℓ) (g : Dev Cert.GupReferenceIdeal.nD → PrngReg), Pre_GupReferenceIdeal m →
    θ_run (Cert.GupReferenceIdeal.defs (F := Ideal)) (onTc (τ := Cert.GupReferenceIdeal.τ) (Cert.GupReferenceIdeal.main (F := Ideal))) ⟨m, fun _ => 0, g⟩ (fun r => (∀ c : Dev Cert.GupReferenceIdeal.nD,
      r.2.mem ((c.tc : Thread Cert.GupReferenceIdeal.nD Cert.GupReferenceIdeal.τ).loc Cert.GupReferenceIdeal.main_arg0) = m ((c.tc : Thread Cert.GupReferenceIdeal.nD Cert.GupReferenceIdeal.τ).loc Cert.GupReferenceIdeal.main_arg0)
      ∧ r.2.mem ((c.tc : Thread Cert.GupReferenceIdeal.nD Cert.GupReferenceIdeal.τ).loc Cert.GupReferenceIdeal.main_arg1) = m ((c.tc : Thread Cert.GupReferenceIdeal.nD Cert.GupReferenceIdeal.τ).loc Cert.GupReferenceIdeal.main_arg1))
      ∧ r.2.sem = fun _ => 0)

def quiescent_DmergedKernel [hDmergedKernel : Cert.DmergedKernel.Facts] : Prop :=
  ∀ (m : (ℓ : Loc Cert.DmergedKernel.nD Cert.DmergedKernel.τ Cert.DmergedKernel.sig) → Buf (Elt Bits) ℓ) (g : Dev Cert.DmergedKernel.nD → PrngReg), Pre_DmergedKernel m →
    θ_run (Cert.DmergedKernel.defs (F := Bits)) (onTc (τ := Cert.DmergedKernel.τ) (Cert.DmergedKernel.main (F := Bits))) ⟨m, fun _ => 0, g⟩ (fun r => (∀ c : Dev Cert.DmergedKernel.nD,
      r.2.mem ((c.tc : Thread Cert.DmergedKernel.nD Cert.DmergedKernel.τ).loc Cert.DmergedKernel.main_arg0) = m ((c.tc : Thread Cert.DmergedKernel.nD Cert.DmergedKernel.τ).loc Cert.DmergedKernel.main_arg0)
      ∧ r.2.mem ((c.tc : Thread Cert.DmergedKernel.nD Cert.DmergedKernel.τ).loc Cert.DmergedKernel.main_arg1) = m ((c.tc : Thread Cert.DmergedKernel.nD Cert.DmergedKernel.τ).loc Cert.DmergedKernel.main_arg1))
      ∧ r.2.sem = fun _ => 0)

def quiescent_DmergedKernelIdeal [hDmergedKernelIdeal : Cert.DmergedKernelIdeal.Facts] : Prop :=
  ∀ (m : (ℓ : Loc Cert.DmergedKernelIdeal.nD Cert.DmergedKernelIdeal.τ Cert.DmergedKernelIdeal.sig) → Buf (Elt Ideal) ℓ) (g : Dev Cert.DmergedKernelIdeal.nD → PrngReg), Pre_DmergedKernelIdeal m →
    θ_run (Cert.DmergedKernelIdeal.defs (F := Ideal)) (onTc (τ := Cert.DmergedKernelIdeal.τ) (Cert.DmergedKernelIdeal.main (F := Ideal))) ⟨m, fun _ => 0, g⟩ (fun r => (∀ c : Dev Cert.DmergedKernelIdeal.nD,
      r.2.mem ((c.tc : Thread Cert.DmergedKernelIdeal.nD Cert.DmergedKernelIdeal.τ).loc Cert.DmergedKernelIdeal.main_arg0) = m ((c.tc : Thread Cert.DmergedKernelIdeal.nD Cert.DmergedKernelIdeal.τ).loc Cert.DmergedKernelIdeal.main_arg0)
      ∧ r.2.mem ((c.tc : Thread Cert.DmergedKernelIdeal.nD Cert.DmergedKernelIdeal.τ).loc Cert.DmergedKernelIdeal.main_arg1) = m ((c.tc : Thread Cert.DmergedKernelIdeal.nD Cert.DmergedKernelIdeal.τ).loc Cert.DmergedKernelIdeal.main_arg1))
      ∧ r.2.sem = fun _ => 0)

def quiescent_DmergedReferenceIdeal [hDmergedReferenceIdeal : Cert.DmergedReferenceIdeal.Facts] : Prop :=
  ∀ (m : (ℓ : Loc Cert.DmergedReferenceIdeal.nD Cert.DmergedReferenceIdeal.τ Cert.DmergedReferenceIdeal.sig) → Buf (Elt Ideal) ℓ) (g : Dev Cert.DmergedReferenceIdeal.nD → PrngReg), Pre_DmergedReferenceIdeal m →
    θ_run (Cert.DmergedReferenceIdeal.defs (F := Ideal)) (onTc (τ := Cert.DmergedReferenceIdeal.τ) (Cert.DmergedReferenceIdeal.main (F := Ideal))) ⟨m, fun _ => 0, g⟩ (fun r => (∀ c : Dev Cert.DmergedReferenceIdeal.nD,
      r.2.mem ((c.tc : Thread Cert.DmergedReferenceIdeal.nD Cert.DmergedReferenceIdeal.τ).loc Cert.DmergedReferenceIdeal.main_arg0) = m ((c.tc : Thread Cert.DmergedReferenceIdeal.nD Cert.DmergedReferenceIdeal.τ).loc Cert.DmergedReferenceIdeal.main_arg0)
      ∧ r.2.mem ((c.tc : Thread Cert.DmergedReferenceIdeal.nD Cert.DmergedReferenceIdeal.τ).loc Cert.DmergedReferenceIdeal.main_arg1) = m ((c.tc : Thread Cert.DmergedReferenceIdeal.nD Cert.DmergedReferenceIdeal.τ).loc Cert.DmergedReferenceIdeal.main_arg1))
      ∧ r.2.sem = fun _ => 0)

def quiescent_GoutKernel [hGoutKernel : Cert.GoutKernel.Facts] : Prop :=
  ∀ (m : (ℓ : Loc Cert.GoutKernel.nD Cert.GoutKernel.τ Cert.GoutKernel.sig) → Buf (Elt Bits) ℓ) (g : Dev Cert.GoutKernel.nD → PrngReg), Pre_GoutKernel m →
    θ_run (Cert.GoutKernel.defs (F := Bits)) (onTc (τ := Cert.GoutKernel.τ) (Cert.GoutKernel.main (F := Bits))) ⟨m, fun _ => 0, g⟩ (fun r => (∀ c : Dev Cert.GoutKernel.nD,
      r.2.mem ((c.tc : Thread Cert.GoutKernel.nD Cert.GoutKernel.τ).loc Cert.GoutKernel.main_arg0) = m ((c.tc : Thread Cert.GoutKernel.nD Cert.GoutKernel.τ).loc Cert.GoutKernel.main_arg0)
      ∧ r.2.mem ((c.tc : Thread Cert.GoutKernel.nD Cert.GoutKernel.τ).loc Cert.GoutKernel.main_arg1) = m ((c.tc : Thread Cert.GoutKernel.nD Cert.GoutKernel.τ).loc Cert.GoutKernel.main_arg1))
      ∧ r.2.sem = fun _ => 0)

def quiescent_GoutKernelIdeal [hGoutKernelIdeal : Cert.GoutKernelIdeal.Facts] : Prop :=
  ∀ (m : (ℓ : Loc Cert.GoutKernelIdeal.nD Cert.GoutKernelIdeal.τ Cert.GoutKernelIdeal.sig) → Buf (Elt Ideal) ℓ) (g : Dev Cert.GoutKernelIdeal.nD → PrngReg), Pre_GoutKernelIdeal m →
    θ_run (Cert.GoutKernelIdeal.defs (F := Ideal)) (onTc (τ := Cert.GoutKernelIdeal.τ) (Cert.GoutKernelIdeal.main (F := Ideal))) ⟨m, fun _ => 0, g⟩ (fun r => (∀ c : Dev Cert.GoutKernelIdeal.nD,
      r.2.mem ((c.tc : Thread Cert.GoutKernelIdeal.nD Cert.GoutKernelIdeal.τ).loc Cert.GoutKernelIdeal.main_arg0) = m ((c.tc : Thread Cert.GoutKernelIdeal.nD Cert.GoutKernelIdeal.τ).loc Cert.GoutKernelIdeal.main_arg0)
      ∧ r.2.mem ((c.tc : Thread Cert.GoutKernelIdeal.nD Cert.GoutKernelIdeal.τ).loc Cert.GoutKernelIdeal.main_arg1) = m ((c.tc : Thread Cert.GoutKernelIdeal.nD Cert.GoutKernelIdeal.τ).loc Cert.GoutKernelIdeal.main_arg1))
      ∧ r.2.sem = fun _ => 0)

def quiescent_GoutReferenceIdeal [hGoutReferenceIdeal : Cert.GoutReferenceIdeal.Facts] : Prop :=
  ∀ (m : (ℓ : Loc Cert.GoutReferenceIdeal.nD Cert.GoutReferenceIdeal.τ Cert.GoutReferenceIdeal.sig) → Buf (Elt Ideal) ℓ) (g : Dev Cert.GoutReferenceIdeal.nD → PrngReg), Pre_GoutReferenceIdeal m →
    θ_run (Cert.GoutReferenceIdeal.defs (F := Ideal)) (onTc (τ := Cert.GoutReferenceIdeal.τ) (Cert.GoutReferenceIdeal.main (F := Ideal))) ⟨m, fun _ => 0, g⟩ (fun r => (∀ c : Dev Cert.GoutReferenceIdeal.nD,
      r.2.mem ((c.tc : Thread Cert.GoutReferenceIdeal.nD Cert.GoutReferenceIdeal.τ).loc Cert.GoutReferenceIdeal.main_arg0) = m ((c.tc : Thread Cert.GoutReferenceIdeal.nD Cert.GoutReferenceIdeal.τ).loc Cert.GoutReferenceIdeal.main_arg0)
      ∧ r.2.mem ((c.tc : Thread Cert.GoutReferenceIdeal.nD Cert.GoutReferenceIdeal.τ).loc Cert.GoutReferenceIdeal.main_arg1) = m ((c.tc : Thread Cert.GoutReferenceIdeal.nD Cert.GoutReferenceIdeal.τ).loc Cert.GoutReferenceIdeal.main_arg1))
      ∧ r.2.sem = fun _ => 0)

def quiescent_DyKernel [hDyKernel : Cert.DyKernel.Facts] : Prop :=
  ∀ (m : (ℓ : Loc Cert.DyKernel.nD Cert.DyKernel.τ Cert.DyKernel.sig) → Buf (Elt Bits) ℓ) (g : Dev Cert.DyKernel.nD → PrngReg), Pre_DyKernel m →
    θ_run (Cert.DyKernel.defs (F := Bits)) (onTc (τ := Cert.DyKernel.τ) (Cert.DyKernel.main (F := Bits))) ⟨m, fun _ => 0, g⟩ (fun r => (∀ c : Dev Cert.DyKernel.nD,
      r.2.mem ((c.tc : Thread Cert.DyKernel.nD Cert.DyKernel.τ).loc Cert.DyKernel.main_arg0) = m ((c.tc : Thread Cert.DyKernel.nD Cert.DyKernel.τ).loc Cert.DyKernel.main_arg0)
      ∧ r.2.mem ((c.tc : Thread Cert.DyKernel.nD Cert.DyKernel.τ).loc Cert.DyKernel.main_arg1) = m ((c.tc : Thread Cert.DyKernel.nD Cert.DyKernel.τ).loc Cert.DyKernel.main_arg1))
      ∧ r.2.sem = fun _ => 0)

def quiescent_DyKernelIdeal [hDyKernelIdeal : Cert.DyKernelIdeal.Facts] : Prop :=
  ∀ (m : (ℓ : Loc Cert.DyKernelIdeal.nD Cert.DyKernelIdeal.τ Cert.DyKernelIdeal.sig) → Buf (Elt Ideal) ℓ) (g : Dev Cert.DyKernelIdeal.nD → PrngReg), Pre_DyKernelIdeal m →
    θ_run (Cert.DyKernelIdeal.defs (F := Ideal)) (onTc (τ := Cert.DyKernelIdeal.τ) (Cert.DyKernelIdeal.main (F := Ideal))) ⟨m, fun _ => 0, g⟩ (fun r => (∀ c : Dev Cert.DyKernelIdeal.nD,
      r.2.mem ((c.tc : Thread Cert.DyKernelIdeal.nD Cert.DyKernelIdeal.τ).loc Cert.DyKernelIdeal.main_arg0) = m ((c.tc : Thread Cert.DyKernelIdeal.nD Cert.DyKernelIdeal.τ).loc Cert.DyKernelIdeal.main_arg0)
      ∧ r.2.mem ((c.tc : Thread Cert.DyKernelIdeal.nD Cert.DyKernelIdeal.τ).loc Cert.DyKernelIdeal.main_arg1) = m ((c.tc : Thread Cert.DyKernelIdeal.nD Cert.DyKernelIdeal.τ).loc Cert.DyKernelIdeal.main_arg1))
      ∧ r.2.sem = fun _ => 0)

def quiescent_DyReferenceIdeal [hDyReferenceIdeal : Cert.DyReferenceIdeal.Facts] : Prop :=
  ∀ (m : (ℓ : Loc Cert.DyReferenceIdeal.nD Cert.DyReferenceIdeal.τ Cert.DyReferenceIdeal.sig) → Buf (Elt Ideal) ℓ) (g : Dev Cert.DyReferenceIdeal.nD → PrngReg), Pre_DyReferenceIdeal m →
    θ_run (Cert.DyReferenceIdeal.defs (F := Ideal)) (onTc (τ := Cert.DyReferenceIdeal.τ) (Cert.DyReferenceIdeal.main (F := Ideal))) ⟨m, fun _ => 0, g⟩ (fun r => (∀ c : Dev Cert.DyReferenceIdeal.nD,
      r.2.mem ((c.tc : Thread Cert.DyReferenceIdeal.nD Cert.DyReferenceIdeal.τ).loc Cert.DyReferenceIdeal.main_arg0) = m ((c.tc : Thread Cert.DyReferenceIdeal.nD Cert.DyReferenceIdeal.τ).loc Cert.DyReferenceIdeal.main_arg0)
      ∧ r.2.mem ((c.tc : Thread Cert.DyReferenceIdeal.nD Cert.DyReferenceIdeal.τ).loc Cert.DyReferenceIdeal.main_arg1) = m ((c.tc : Thread Cert.DyReferenceIdeal.nD Cert.DyReferenceIdeal.τ).loc Cert.DyReferenceIdeal.main_arg1))
      ∧ r.2.sem = fun _ => 0)

def quiescent_GbranchKernel [hGbranchKernel : Cert.GbranchKernel.Facts] : Prop :=
  ∀ (m : (ℓ : Loc Cert.GbranchKernel.nD Cert.GbranchKernel.τ Cert.GbranchKernel.sig) → Buf (Elt Bits) ℓ) (g : Dev Cert.GbranchKernel.nD → PrngReg), Pre_GbranchKernel m →
    θ_run (Cert.GbranchKernel.defs (F := Bits)) (onTc (τ := Cert.GbranchKernel.τ) (Cert.GbranchKernel.main (F := Bits))) ⟨m, fun _ => 0, g⟩ (fun r => (∀ c : Dev Cert.GbranchKernel.nD,
      r.2.mem ((c.tc : Thread Cert.GbranchKernel.nD Cert.GbranchKernel.τ).loc Cert.GbranchKernel.main_arg0) = m ((c.tc : Thread Cert.GbranchKernel.nD Cert.GbranchKernel.τ).loc Cert.GbranchKernel.main_arg0)
      ∧ r.2.mem ((c.tc : Thread Cert.GbranchKernel.nD Cert.GbranchKernel.τ).loc Cert.GbranchKernel.main_arg1) = m ((c.tc : Thread Cert.GbranchKernel.nD Cert.GbranchKernel.τ).loc Cert.GbranchKernel.main_arg1))
      ∧ r.2.sem = fun _ => 0)

def quiescent_GbranchKernelIdeal [hGbranchKernelIdeal : Cert.GbranchKernelIdeal.Facts] : Prop :=
  ∀ (m : (ℓ : Loc Cert.GbranchKernelIdeal.nD Cert.GbranchKernelIdeal.τ Cert.GbranchKernelIdeal.sig) → Buf (Elt Ideal) ℓ) (g : Dev Cert.GbranchKernelIdeal.nD → PrngReg), Pre_GbranchKernelIdeal m →
    θ_run (Cert.GbranchKernelIdeal.defs (F := Ideal)) (onTc (τ := Cert.GbranchKernelIdeal.τ) (Cert.GbranchKernelIdeal.main (F := Ideal))) ⟨m, fun _ => 0, g⟩ (fun r => (∀ c : Dev Cert.GbranchKernelIdeal.nD,
      r.2.mem ((c.tc : Thread Cert.GbranchKernelIdeal.nD Cert.GbranchKernelIdeal.τ).loc Cert.GbranchKernelIdeal.main_arg0) = m ((c.tc : Thread Cert.GbranchKernelIdeal.nD Cert.GbranchKernelIdeal.τ).loc Cert.GbranchKernelIdeal.main_arg0)
      ∧ r.2.mem ((c.tc : Thread Cert.GbranchKernelIdeal.nD Cert.GbranchKernelIdeal.τ).loc Cert.GbranchKernelIdeal.main_arg1) = m ((c.tc : Thread Cert.GbranchKernelIdeal.nD Cert.GbranchKernelIdeal.τ).loc Cert.GbranchKernelIdeal.main_arg1))
      ∧ r.2.sem = fun _ => 0)

def quiescent_GbranchReferenceIdeal [hGbranchReferenceIdeal : Cert.GbranchReferenceIdeal.Facts] : Prop :=
  ∀ (m : (ℓ : Loc Cert.GbranchReferenceIdeal.nD Cert.GbranchReferenceIdeal.τ Cert.GbranchReferenceIdeal.sig) → Buf (Elt Ideal) ℓ) (g : Dev Cert.GbranchReferenceIdeal.nD → PrngReg), Pre_GbranchReferenceIdeal m →
    θ_run (Cert.GbranchReferenceIdeal.defs (F := Ideal)) (onTc (τ := Cert.GbranchReferenceIdeal.τ) (Cert.GbranchReferenceIdeal.main (F := Ideal))) ⟨m, fun _ => 0, g⟩ (fun r => (∀ c : Dev Cert.GbranchReferenceIdeal.nD,
      r.2.mem ((c.tc : Thread Cert.GbranchReferenceIdeal.nD Cert.GbranchReferenceIdeal.τ).loc Cert.GbranchReferenceIdeal.main_arg0) = m ((c.tc : Thread Cert.GbranchReferenceIdeal.nD Cert.GbranchReferenceIdeal.τ).loc Cert.GbranchReferenceIdeal.main_arg0)
      ∧ r.2.mem ((c.tc : Thread Cert.GbranchReferenceIdeal.nD Cert.GbranchReferenceIdeal.τ).loc Cert.GbranchReferenceIdeal.main_arg1) = m ((c.tc : Thread Cert.GbranchReferenceIdeal.nD Cert.GbranchReferenceIdeal.τ).loc Cert.GbranchReferenceIdeal.main_arg1))
      ∧ r.2.sem = fun _ => 0)

def quiescent_GinKernel [hGinKernel : Cert.GinKernel.Facts] : Prop :=
  ∀ (m : (ℓ : Loc Cert.GinKernel.nD Cert.GinKernel.τ Cert.GinKernel.sig) → Buf (Elt Bits) ℓ) (g : Dev Cert.GinKernel.nD → PrngReg), Pre_GinKernel m →
    θ_run (Cert.GinKernel.defs (F := Bits)) (onTc (τ := Cert.GinKernel.τ) (Cert.GinKernel.main (F := Bits))) ⟨m, fun _ => 0, g⟩ (fun r => (∀ c : Dev Cert.GinKernel.nD,
      r.2.mem ((c.tc : Thread Cert.GinKernel.nD Cert.GinKernel.τ).loc Cert.GinKernel.main_arg0) = m ((c.tc : Thread Cert.GinKernel.nD Cert.GinKernel.τ).loc Cert.GinKernel.main_arg0)
      ∧ r.2.mem ((c.tc : Thread Cert.GinKernel.nD Cert.GinKernel.τ).loc Cert.GinKernel.main_arg1) = m ((c.tc : Thread Cert.GinKernel.nD Cert.GinKernel.τ).loc Cert.GinKernel.main_arg1))
      ∧ r.2.sem = fun _ => 0)

def quiescent_GinKernelIdeal [hGinKernelIdeal : Cert.GinKernelIdeal.Facts] : Prop :=
  ∀ (m : (ℓ : Loc Cert.GinKernelIdeal.nD Cert.GinKernelIdeal.τ Cert.GinKernelIdeal.sig) → Buf (Elt Ideal) ℓ) (g : Dev Cert.GinKernelIdeal.nD → PrngReg), Pre_GinKernelIdeal m →
    θ_run (Cert.GinKernelIdeal.defs (F := Ideal)) (onTc (τ := Cert.GinKernelIdeal.τ) (Cert.GinKernelIdeal.main (F := Ideal))) ⟨m, fun _ => 0, g⟩ (fun r => (∀ c : Dev Cert.GinKernelIdeal.nD,
      r.2.mem ((c.tc : Thread Cert.GinKernelIdeal.nD Cert.GinKernelIdeal.τ).loc Cert.GinKernelIdeal.main_arg0) = m ((c.tc : Thread Cert.GinKernelIdeal.nD Cert.GinKernelIdeal.τ).loc Cert.GinKernelIdeal.main_arg0)
      ∧ r.2.mem ((c.tc : Thread Cert.GinKernelIdeal.nD Cert.GinKernelIdeal.τ).loc Cert.GinKernelIdeal.main_arg1) = m ((c.tc : Thread Cert.GinKernelIdeal.nD Cert.GinKernelIdeal.τ).loc Cert.GinKernelIdeal.main_arg1))
      ∧ r.2.sem = fun _ => 0)

def quiescent_GinReferenceIdeal [hGinReferenceIdeal : Cert.GinReferenceIdeal.Facts] : Prop :=
  ∀ (m : (ℓ : Loc Cert.GinReferenceIdeal.nD Cert.GinReferenceIdeal.τ Cert.GinReferenceIdeal.sig) → Buf (Elt Ideal) ℓ) (g : Dev Cert.GinReferenceIdeal.nD → PrngReg), Pre_GinReferenceIdeal m →
    θ_run (Cert.GinReferenceIdeal.defs (F := Ideal)) (onTc (τ := Cert.GinReferenceIdeal.τ) (Cert.GinReferenceIdeal.main (F := Ideal))) ⟨m, fun _ => 0, g⟩ (fun r => (∀ c : Dev Cert.GinReferenceIdeal.nD,
      r.2.mem ((c.tc : Thread Cert.GinReferenceIdeal.nD Cert.GinReferenceIdeal.τ).loc Cert.GinReferenceIdeal.main_arg0) = m ((c.tc : Thread Cert.GinReferenceIdeal.nD Cert.GinReferenceIdeal.τ).loc Cert.GinReferenceIdeal.main_arg0)
      ∧ r.2.mem ((c.tc : Thread Cert.GinReferenceIdeal.nD Cert.GinReferenceIdeal.τ).loc Cert.GinReferenceIdeal.main_arg1) = m ((c.tc : Thread Cert.GinReferenceIdeal.nD Cert.GinReferenceIdeal.τ).loc Cert.GinReferenceIdeal.main_arg1))
      ∧ r.2.sem = fun _ => 0)

def quiescent_DhKernel [hDhKernel : Cert.DhKernel.Facts] : Prop :=
  ∀ (m : (ℓ : Loc Cert.DhKernel.nD Cert.DhKernel.τ Cert.DhKernel.sig) → Buf (Elt Bits) ℓ) (g : Dev Cert.DhKernel.nD → PrngReg), Pre_DhKernel m →
    θ_run (Cert.DhKernel.defs (F := Bits)) (onTc (τ := Cert.DhKernel.τ) (Cert.DhKernel.main (F := Bits))) ⟨m, fun _ => 0, g⟩ (fun r => (∀ c : Dev Cert.DhKernel.nD,
      r.2.mem ((c.tc : Thread Cert.DhKernel.nD Cert.DhKernel.τ).loc Cert.DhKernel.main_arg0) = m ((c.tc : Thread Cert.DhKernel.nD Cert.DhKernel.τ).loc Cert.DhKernel.main_arg0)
      ∧ r.2.mem ((c.tc : Thread Cert.DhKernel.nD Cert.DhKernel.τ).loc Cert.DhKernel.main_arg1) = m ((c.tc : Thread Cert.DhKernel.nD Cert.DhKernel.τ).loc Cert.DhKernel.main_arg1))
      ∧ r.2.sem = fun _ => 0)

def quiescent_DhKernelIdeal [hDhKernelIdeal : Cert.DhKernelIdeal.Facts] : Prop :=
  ∀ (m : (ℓ : Loc Cert.DhKernelIdeal.nD Cert.DhKernelIdeal.τ Cert.DhKernelIdeal.sig) → Buf (Elt Ideal) ℓ) (g : Dev Cert.DhKernelIdeal.nD → PrngReg), Pre_DhKernelIdeal m →
    θ_run (Cert.DhKernelIdeal.defs (F := Ideal)) (onTc (τ := Cert.DhKernelIdeal.τ) (Cert.DhKernelIdeal.main (F := Ideal))) ⟨m, fun _ => 0, g⟩ (fun r => (∀ c : Dev Cert.DhKernelIdeal.nD,
      r.2.mem ((c.tc : Thread Cert.DhKernelIdeal.nD Cert.DhKernelIdeal.τ).loc Cert.DhKernelIdeal.main_arg0) = m ((c.tc : Thread Cert.DhKernelIdeal.nD Cert.DhKernelIdeal.τ).loc Cert.DhKernelIdeal.main_arg0)
      ∧ r.2.mem ((c.tc : Thread Cert.DhKernelIdeal.nD Cert.DhKernelIdeal.τ).loc Cert.DhKernelIdeal.main_arg1) = m ((c.tc : Thread Cert.DhKernelIdeal.nD Cert.DhKernelIdeal.τ).loc Cert.DhKernelIdeal.main_arg1))
      ∧ r.2.sem = fun _ => 0)

def quiescent_DhReferenceIdeal [hDhReferenceIdeal : Cert.DhReferenceIdeal.Facts] : Prop :=
  ∀ (m : (ℓ : Loc Cert.DhReferenceIdeal.nD Cert.DhReferenceIdeal.τ Cert.DhReferenceIdeal.sig) → Buf (Elt Ideal) ℓ) (g : Dev Cert.DhReferenceIdeal.nD → PrngReg), Pre_DhReferenceIdeal m →
    θ_run (Cert.DhReferenceIdeal.defs (F := Ideal)) (onTc (τ := Cert.DhReferenceIdeal.τ) (Cert.DhReferenceIdeal.main (F := Ideal))) ⟨m, fun _ => 0, g⟩ (fun r => (∀ c : Dev Cert.DhReferenceIdeal.nD,
      r.2.mem ((c.tc : Thread Cert.DhReferenceIdeal.nD Cert.DhReferenceIdeal.τ).loc Cert.DhReferenceIdeal.main_arg0) = m ((c.tc : Thread Cert.DhReferenceIdeal.nD Cert.DhReferenceIdeal.τ).loc Cert.DhReferenceIdeal.main_arg0)
      ∧ r.2.mem ((c.tc : Thread Cert.DhReferenceIdeal.nD Cert.DhReferenceIdeal.τ).loc Cert.DhReferenceIdeal.main_arg1) = m ((c.tc : Thread Cert.DhReferenceIdeal.nD Cert.DhReferenceIdeal.τ).loc Cert.DhReferenceIdeal.main_arg1))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1))
      ∧ r.2.sem = fun _ => 0)

def quiescent_BranchKernel [hBranchKernel : Cert.BranchKernel.Facts] : Prop :=
  ∀ (m : (ℓ : Loc Cert.BranchKernel.nD Cert.BranchKernel.τ Cert.BranchKernel.sig) → Buf (Elt Bits) ℓ) (g : Dev Cert.BranchKernel.nD → PrngReg), Pre_BranchKernel m →
    θ_run (Cert.BranchKernel.defs (F := Bits)) (onTc (τ := Cert.BranchKernel.τ) (Cert.BranchKernel.main (F := Bits))) ⟨m, fun _ => 0, g⟩ (fun r => (∀ c : Dev Cert.BranchKernel.nD,
      r.2.mem ((c.tc : Thread Cert.BranchKernel.nD Cert.BranchKernel.τ).loc Cert.BranchKernel.main_arg0) = m ((c.tc : Thread Cert.BranchKernel.nD Cert.BranchKernel.τ).loc Cert.BranchKernel.main_arg0)
      ∧ r.2.mem ((c.tc : Thread Cert.BranchKernel.nD Cert.BranchKernel.τ).loc Cert.BranchKernel.main_arg1) = m ((c.tc : Thread Cert.BranchKernel.nD Cert.BranchKernel.τ).loc Cert.BranchKernel.main_arg1))
      ∧ r.2.sem = fun _ => 0)

def quiescent_BranchKernelIdeal [hBranchKernelIdeal : Cert.BranchKernelIdeal.Facts] : Prop :=
  ∀ (m : (ℓ : Loc Cert.BranchKernelIdeal.nD Cert.BranchKernelIdeal.τ Cert.BranchKernelIdeal.sig) → Buf (Elt Ideal) ℓ) (g : Dev Cert.BranchKernelIdeal.nD → PrngReg), Pre_BranchKernelIdeal m →
    θ_run (Cert.BranchKernelIdeal.defs (F := Ideal)) (onTc (τ := Cert.BranchKernelIdeal.τ) (Cert.BranchKernelIdeal.main (F := Ideal))) ⟨m, fun _ => 0, g⟩ (fun r => (∀ c : Dev Cert.BranchKernelIdeal.nD,
      r.2.mem ((c.tc : Thread Cert.BranchKernelIdeal.nD Cert.BranchKernelIdeal.τ).loc Cert.BranchKernelIdeal.main_arg0) = m ((c.tc : Thread Cert.BranchKernelIdeal.nD Cert.BranchKernelIdeal.τ).loc Cert.BranchKernelIdeal.main_arg0)
      ∧ r.2.mem ((c.tc : Thread Cert.BranchKernelIdeal.nD Cert.BranchKernelIdeal.τ).loc Cert.BranchKernelIdeal.main_arg1) = m ((c.tc : Thread Cert.BranchKernelIdeal.nD Cert.BranchKernelIdeal.τ).loc Cert.BranchKernelIdeal.main_arg1))
      ∧ r.2.sem = fun _ => 0)

def quiescent_BranchReferenceIdeal [hBranchReferenceIdeal : Cert.BranchReferenceIdeal.Facts] : Prop :=
  ∀ (m : (ℓ : Loc Cert.BranchReferenceIdeal.nD Cert.BranchReferenceIdeal.τ Cert.BranchReferenceIdeal.sig) → Buf (Elt Ideal) ℓ) (g : Dev Cert.BranchReferenceIdeal.nD → PrngReg), Pre_BranchReferenceIdeal m →
    θ_run (Cert.BranchReferenceIdeal.defs (F := Ideal)) (onTc (τ := Cert.BranchReferenceIdeal.τ) (Cert.BranchReferenceIdeal.main (F := Ideal))) ⟨m, fun _ => 0, g⟩ (fun r => (∀ c : Dev Cert.BranchReferenceIdeal.nD,
      r.2.mem ((c.tc : Thread Cert.BranchReferenceIdeal.nD Cert.BranchReferenceIdeal.τ).loc Cert.BranchReferenceIdeal.main_arg0) = m ((c.tc : Thread Cert.BranchReferenceIdeal.nD Cert.BranchReferenceIdeal.τ).loc Cert.BranchReferenceIdeal.main_arg0)
      ∧ r.2.mem ((c.tc : Thread Cert.BranchReferenceIdeal.nD Cert.BranchReferenceIdeal.τ).loc Cert.BranchReferenceIdeal.main_arg1) = m ((c.tc : Thread Cert.BranchReferenceIdeal.nD Cert.BranchReferenceIdeal.τ).loc Cert.BranchReferenceIdeal.main_arg1))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1))
      ∧ r.2.sem = fun _ => 0)

def quiescent_DownKernel [hDownKernel : Cert.DownKernel.Facts] : Prop :=
  ∀ (m : (ℓ : Loc Cert.DownKernel.nD Cert.DownKernel.τ Cert.DownKernel.sig) → Buf (Elt Bits) ℓ) (g : Dev Cert.DownKernel.nD → PrngReg), Pre_DownKernel m →
    θ_run (Cert.DownKernel.defs (F := Bits)) (onTc (τ := Cert.DownKernel.τ) (Cert.DownKernel.main (F := Bits))) ⟨m, fun _ => 0, g⟩ (fun r => (∀ c : Dev Cert.DownKernel.nD,
      r.2.mem ((c.tc : Thread Cert.DownKernel.nD Cert.DownKernel.τ).loc Cert.DownKernel.main_arg0) = m ((c.tc : Thread Cert.DownKernel.nD Cert.DownKernel.τ).loc Cert.DownKernel.main_arg0)
      ∧ r.2.mem ((c.tc : Thread Cert.DownKernel.nD Cert.DownKernel.τ).loc Cert.DownKernel.main_arg1) = m ((c.tc : Thread Cert.DownKernel.nD Cert.DownKernel.τ).loc Cert.DownKernel.main_arg1))
      ∧ r.2.sem = fun _ => 0)

def quiescent_DownKernelIdeal [hDownKernelIdeal : Cert.DownKernelIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg), Pre_DownKernelIdeal m →
    θ_run (Cert.DownKernelIdeal.defs (F := Ideal)) (onTc (τ := Cert.DownKernelIdeal.τ) (Cert.DownKernelIdeal.main (F := Ideal))) ⟨m, fun _ => 0, g⟩ (fun r => (∀ c : Dev Cert.DownKernelIdeal.nD,
      r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
      ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1))
      ∧ r.2.sem = fun _ => 0)

def quiescent_UpKernel [hUpKernel : Cert.UpKernel.Facts] : Prop :=
  ∀ (m : (ℓ : Loc Cert.UpKernel.nD Cert.UpKernel.τ Cert.UpKernel.sig) → Buf (Elt Bits) ℓ) (g : Dev Cert.UpKernel.nD → PrngReg), Pre_UpKernel m →
    θ_run (Cert.UpKernel.defs (F := Bits)) (onTc (τ := Cert.UpKernel.τ) (Cert.UpKernel.main (F := Bits))) ⟨m, fun _ => 0, g⟩ (fun r => (∀ c : Dev Cert.UpKernel.nD,
      r.2.mem ((c.tc : Thread Cert.UpKernel.nD Cert.UpKernel.τ).loc Cert.UpKernel.main_arg0) = m ((c.tc : Thread Cert.UpKernel.nD Cert.UpKernel.τ).loc Cert.UpKernel.main_arg0)
      ∧ r.2.mem ((c.tc : Thread Cert.UpKernel.nD Cert.UpKernel.τ).loc Cert.UpKernel.main_arg1) = m ((c.tc : Thread Cert.UpKernel.nD Cert.UpKernel.τ).loc Cert.UpKernel.main_arg1))
      ∧ r.2.sem = fun _ => 0)

def quiescent_UpKernelIdeal [hUpKernelIdeal : Cert.UpKernelIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg), Pre_UpKernelIdeal m →
    θ_run (Cert.UpKernelIdeal.defs (F := Ideal)) (onTc (τ := Cert.UpKernelIdeal.τ) (Cert.UpKernelIdeal.main (F := Ideal))) ⟨m, fun _ => 0, g⟩ (fun r => (∀ c : Dev Cert.UpKernelIdeal.nD,
      r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
      ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1))
      ∧ r.2.sem = fun _ => 0)

def quiescent_LruKernel [hLruKernel : Cert.LruKernel.Facts] : Prop :=
  ∀ (m : (ℓ : Loc Cert.LruKernel.nD Cert.LruKernel.τ Cert.LruKernel.sig) → Buf (Elt Bits) ℓ) (g : Dev Cert.LruKernel.nD → PrngReg), Pre_LruKernel m →
    θ_run (Cert.LruKernel.defs (F := Bits)) (onTc (τ := Cert.LruKernel.τ) (Cert.LruKernel.main (F := Bits))) ⟨m, fun _ => 0, g⟩ (fun r => (∀ c : Dev Cert.LruKernel.nD,
      r.2.mem ((c.tc : Thread Cert.LruKernel.nD Cert.LruKernel.τ).loc Cert.LruKernel.main_arg0) = m ((c.tc : Thread Cert.LruKernel.nD Cert.LruKernel.τ).loc Cert.LruKernel.main_arg0)
      ∧ r.2.mem ((c.tc : Thread Cert.LruKernel.nD Cert.LruKernel.τ).loc Cert.LruKernel.main_arg1) = m ((c.tc : Thread Cert.LruKernel.nD Cert.LruKernel.τ).loc Cert.LruKernel.main_arg1)
      ∧ r.2.mem ((c.tc : Thread Cert.LruKernel.nD Cert.LruKernel.τ).loc Cert.LruKernel.main_arg2) = m ((c.tc : Thread Cert.LruKernel.nD Cert.LruKernel.τ).loc Cert.LruKernel.main_arg2)
      ∧ r.2.mem ((c.tc : Thread Cert.LruKernel.nD Cert.LruKernel.τ).loc Cert.LruKernel.main_arg3) = m ((c.tc : Thread Cert.LruKernel.nD Cert.LruKernel.τ).loc Cert.LruKernel.main_arg3)
      ∧ r.2.mem ((c.tc : Thread Cert.LruKernel.nD Cert.LruKernel.τ).loc Cert.LruKernel.main_arg4) = m ((c.tc : Thread Cert.LruKernel.nD Cert.LruKernel.τ).loc Cert.LruKernel.main_arg4)
      ∧ r.2.mem ((c.tc : Thread Cert.LruKernel.nD Cert.LruKernel.τ).loc Cert.LruKernel.main_arg5) = m ((c.tc : Thread Cert.LruKernel.nD Cert.LruKernel.τ).loc Cert.LruKernel.main_arg5)
      ∧ r.2.mem ((c.tc : Thread Cert.LruKernel.nD Cert.LruKernel.τ).loc Cert.LruKernel.main_arg6) = m ((c.tc : Thread Cert.LruKernel.nD Cert.LruKernel.τ).loc Cert.LruKernel.main_arg6)
      ∧ r.2.mem ((c.tc : Thread Cert.LruKernel.nD Cert.LruKernel.τ).loc Cert.LruKernel.main_arg7) = m ((c.tc : Thread Cert.LruKernel.nD Cert.LruKernel.τ).loc Cert.LruKernel.main_arg7))
      ∧ r.2.sem = fun _ => 0)

def quiescent_LruKernelIdeal [hLruKernelIdeal : Cert.LruKernelIdeal.Facts] : Prop :=
  ∀ (m : (ℓ : Loc Cert.LruKernelIdeal.nD Cert.LruKernelIdeal.τ Cert.LruKernelIdeal.sig) → Buf (Elt Ideal) ℓ) (g : Dev Cert.LruKernelIdeal.nD → PrngReg), Pre_LruKernelIdeal m →
    θ_run (Cert.LruKernelIdeal.defs (F := Ideal)) (onTc (τ := Cert.LruKernelIdeal.τ) (Cert.LruKernelIdeal.main (F := Ideal))) ⟨m, fun _ => 0, g⟩ (fun r => (∀ c : Dev Cert.LruKernelIdeal.nD,
      r.2.mem ((c.tc : Thread Cert.LruKernelIdeal.nD Cert.LruKernelIdeal.τ).loc Cert.LruKernelIdeal.main_arg0) = m ((c.tc : Thread Cert.LruKernelIdeal.nD Cert.LruKernelIdeal.τ).loc Cert.LruKernelIdeal.main_arg0)
      ∧ r.2.mem ((c.tc : Thread Cert.LruKernelIdeal.nD Cert.LruKernelIdeal.τ).loc Cert.LruKernelIdeal.main_arg1) = m ((c.tc : Thread Cert.LruKernelIdeal.nD Cert.LruKernelIdeal.τ).loc Cert.LruKernelIdeal.main_arg1)
      ∧ r.2.mem ((c.tc : Thread Cert.LruKernelIdeal.nD Cert.LruKernelIdeal.τ).loc Cert.LruKernelIdeal.main_arg2) = m ((c.tc : Thread Cert.LruKernelIdeal.nD Cert.LruKernelIdeal.τ).loc Cert.LruKernelIdeal.main_arg2)
      ∧ r.2.mem ((c.tc : Thread Cert.LruKernelIdeal.nD Cert.LruKernelIdeal.τ).loc Cert.LruKernelIdeal.main_arg3) = m ((c.tc : Thread Cert.LruKernelIdeal.nD Cert.LruKernelIdeal.τ).loc Cert.LruKernelIdeal.main_arg3)
      ∧ r.2.mem ((c.tc : Thread Cert.LruKernelIdeal.nD Cert.LruKernelIdeal.τ).loc Cert.LruKernelIdeal.main_arg4) = m ((c.tc : Thread Cert.LruKernelIdeal.nD Cert.LruKernelIdeal.τ).loc Cert.LruKernelIdeal.main_arg4)
      ∧ r.2.mem ((c.tc : Thread Cert.LruKernelIdeal.nD Cert.LruKernelIdeal.τ).loc Cert.LruKernelIdeal.main_arg5) = m ((c.tc : Thread Cert.LruKernelIdeal.nD Cert.LruKernelIdeal.τ).loc Cert.LruKernelIdeal.main_arg5)
      ∧ r.2.mem ((c.tc : Thread Cert.LruKernelIdeal.nD Cert.LruKernelIdeal.τ).loc Cert.LruKernelIdeal.main_arg6) = m ((c.tc : Thread Cert.LruKernelIdeal.nD Cert.LruKernelIdeal.τ).loc Cert.LruKernelIdeal.main_arg6)
      ∧ r.2.mem ((c.tc : Thread Cert.LruKernelIdeal.nD Cert.LruKernelIdeal.τ).loc Cert.LruKernelIdeal.main_arg7) = m ((c.tc : Thread Cert.LruKernelIdeal.nD Cert.LruKernelIdeal.τ).loc Cert.LruKernelIdeal.main_arg7))
      ∧ r.2.sem = fun _ => 0)

def quiescent_LruReferenceIdeal [hLruReferenceIdeal : Cert.LruReferenceIdeal.Facts] : Prop :=
  ∀ (m : (ℓ : Loc Cert.LruReferenceIdeal.nD Cert.LruReferenceIdeal.τ Cert.LruReferenceIdeal.sig) → Buf (Elt Ideal) ℓ) (g : Dev Cert.LruReferenceIdeal.nD → PrngReg), Pre_LruReferenceIdeal m →
    θ_run (Cert.LruReferenceIdeal.defs (F := Ideal)) (onTc (τ := Cert.LruReferenceIdeal.τ) (Cert.LruReferenceIdeal.main (F := Ideal))) ⟨m, fun _ => 0, g⟩ (fun r => (∀ c : Dev Cert.LruReferenceIdeal.nD,
      r.2.mem ((c.tc : Thread Cert.LruReferenceIdeal.nD Cert.LruReferenceIdeal.τ).loc Cert.LruReferenceIdeal.main_arg0) = m ((c.tc : Thread Cert.LruReferenceIdeal.nD Cert.LruReferenceIdeal.τ).loc Cert.LruReferenceIdeal.main_arg0)
      ∧ r.2.mem ((c.tc : Thread Cert.LruReferenceIdeal.nD Cert.LruReferenceIdeal.τ).loc Cert.LruReferenceIdeal.main_arg1) = m ((c.tc : Thread Cert.LruReferenceIdeal.nD Cert.LruReferenceIdeal.τ).loc Cert.LruReferenceIdeal.main_arg1)
      ∧ r.2.mem ((c.tc : Thread Cert.LruReferenceIdeal.nD Cert.LruReferenceIdeal.τ).loc Cert.LruReferenceIdeal.main_arg2) = m ((c.tc : Thread Cert.LruReferenceIdeal.nD Cert.LruReferenceIdeal.τ).loc Cert.LruReferenceIdeal.main_arg2)
      ∧ r.2.mem ((c.tc : Thread Cert.LruReferenceIdeal.nD Cert.LruReferenceIdeal.τ).loc Cert.LruReferenceIdeal.main_arg3) = m ((c.tc : Thread Cert.LruReferenceIdeal.nD Cert.LruReferenceIdeal.τ).loc Cert.LruReferenceIdeal.main_arg3)
      ∧ r.2.mem ((c.tc : Thread Cert.LruReferenceIdeal.nD Cert.LruReferenceIdeal.τ).loc Cert.LruReferenceIdeal.main_arg4) = m ((c.tc : Thread Cert.LruReferenceIdeal.nD Cert.LruReferenceIdeal.τ).loc Cert.LruReferenceIdeal.main_arg4)
      ∧ r.2.mem ((c.tc : Thread Cert.LruReferenceIdeal.nD Cert.LruReferenceIdeal.τ).loc Cert.LruReferenceIdeal.main_arg5) = m ((c.tc : Thread Cert.LruReferenceIdeal.nD Cert.LruReferenceIdeal.τ).loc Cert.LruReferenceIdeal.main_arg5)
      ∧ r.2.mem ((c.tc : Thread Cert.LruReferenceIdeal.nD Cert.LruReferenceIdeal.τ).loc Cert.LruReferenceIdeal.main_arg6) = m ((c.tc : Thread Cert.LruReferenceIdeal.nD Cert.LruReferenceIdeal.τ).loc Cert.LruReferenceIdeal.main_arg6)
      ∧ r.2.mem ((c.tc : Thread Cert.LruReferenceIdeal.nD Cert.LruReferenceIdeal.τ).loc Cert.LruReferenceIdeal.main_arg7) = m ((c.tc : Thread Cert.LruReferenceIdeal.nD Cert.LruReferenceIdeal.τ).loc Cert.LruReferenceIdeal.main_arg7))
      ∧ r.2.sem = fun _ => 0)

def quiescent_DupZeroKernel [hDupZeroKernel : Cert.DupZeroKernel.Facts] : Prop :=
  ∀ (m : (ℓ : Loc Cert.DupZeroKernel.nD Cert.DupZeroKernel.τ Cert.DupZeroKernel.sig) → Buf (Elt Bits) ℓ) (g : Dev Cert.DupZeroKernel.nD → PrngReg), Pre_DupZeroKernel m →
    θ_run (Cert.DupZeroKernel.defs (F := Bits)) (onTc (τ := Cert.DupZeroKernel.τ) (Cert.DupZeroKernel.main (F := Bits))) ⟨m, fun _ => 0, g⟩ (fun r => (∀ c : Dev Cert.DupZeroKernel.nD,
      r.2.mem ((c.tc : Thread Cert.DupZeroKernel.nD Cert.DupZeroKernel.τ).loc Cert.DupZeroKernel.main_arg0) = m ((c.tc : Thread Cert.DupZeroKernel.nD Cert.DupZeroKernel.τ).loc Cert.DupZeroKernel.main_arg0)
      ∧ r.2.mem ((c.tc : Thread Cert.DupZeroKernel.nD Cert.DupZeroKernel.τ).loc Cert.DupZeroKernel.main_arg1) = m ((c.tc : Thread Cert.DupZeroKernel.nD Cert.DupZeroKernel.τ).loc Cert.DupZeroKernel.main_arg1)
      ∧ r.2.mem ((c.tc : Thread Cert.DupZeroKernel.nD Cert.DupZeroKernel.τ).loc Cert.DupZeroKernel.main_arg2) = m ((c.tc : Thread Cert.DupZeroKernel.nD Cert.DupZeroKernel.τ).loc Cert.DupZeroKernel.main_arg2))
      ∧ r.2.sem = fun _ => 0)

def quiescent_DupZeroKernelIdeal [hDupZeroKernelIdeal : Cert.DupZeroKernelIdeal.Facts] : Prop :=
  ∀ (m : (ℓ : Loc Cert.DupZeroKernelIdeal.nD Cert.DupZeroKernelIdeal.τ Cert.DupZeroKernelIdeal.sig) → Buf (Elt Ideal) ℓ) (g : Dev Cert.DupZeroKernelIdeal.nD → PrngReg), Pre_DupZeroKernelIdeal m →
    θ_run (Cert.DupZeroKernelIdeal.defs (F := Ideal)) (onTc (τ := Cert.DupZeroKernelIdeal.τ) (Cert.DupZeroKernelIdeal.main (F := Ideal))) ⟨m, fun _ => 0, g⟩ (fun r => (∀ c : Dev Cert.DupZeroKernelIdeal.nD,
      r.2.mem ((c.tc : Thread Cert.DupZeroKernelIdeal.nD Cert.DupZeroKernelIdeal.τ).loc Cert.DupZeroKernelIdeal.main_arg0) = m ((c.tc : Thread Cert.DupZeroKernelIdeal.nD Cert.DupZeroKernelIdeal.τ).loc Cert.DupZeroKernelIdeal.main_arg0)
      ∧ r.2.mem ((c.tc : Thread Cert.DupZeroKernelIdeal.nD Cert.DupZeroKernelIdeal.τ).loc Cert.DupZeroKernelIdeal.main_arg1) = m ((c.tc : Thread Cert.DupZeroKernelIdeal.nD Cert.DupZeroKernelIdeal.τ).loc Cert.DupZeroKernelIdeal.main_arg1)
      ∧ r.2.mem ((c.tc : Thread Cert.DupZeroKernelIdeal.nD Cert.DupZeroKernelIdeal.τ).loc Cert.DupZeroKernelIdeal.main_arg2) = m ((c.tc : Thread Cert.DupZeroKernelIdeal.nD Cert.DupZeroKernelIdeal.τ).loc Cert.DupZeroKernelIdeal.main_arg2))
      ∧ r.2.sem = fun _ => 0)

def quiescent_GdownZeroKernel [hGdownZeroKernel : Cert.GdownZeroKernel.Facts] : Prop :=
  ∀ (m : (ℓ : Loc Cert.GdownZeroKernel.nD Cert.GdownZeroKernel.τ Cert.GdownZeroKernel.sig) → Buf (Elt Bits) ℓ) (g : Dev Cert.GdownZeroKernel.nD → PrngReg), Pre_GdownZeroKernel m →
    θ_run (Cert.GdownZeroKernel.defs (F := Bits)) (onTc (τ := Cert.GdownZeroKernel.τ) (Cert.GdownZeroKernel.main (F := Bits))) ⟨m, fun _ => 0, g⟩ (fun r => (∀ c : Dev Cert.GdownZeroKernel.nD,
      r.2.mem ((c.tc : Thread Cert.GdownZeroKernel.nD Cert.GdownZeroKernel.τ).loc Cert.GdownZeroKernel.main_arg0) = m ((c.tc : Thread Cert.GdownZeroKernel.nD Cert.GdownZeroKernel.τ).loc Cert.GdownZeroKernel.main_arg0)
      ∧ r.2.mem ((c.tc : Thread Cert.GdownZeroKernel.nD Cert.GdownZeroKernel.τ).loc Cert.GdownZeroKernel.main_arg1) = m ((c.tc : Thread Cert.GdownZeroKernel.nD Cert.GdownZeroKernel.τ).loc Cert.GdownZeroKernel.main_arg1))
      ∧ r.2.sem = fun _ => 0)

def quiescent_GdownZeroKernelIdeal [hGdownZeroKernelIdeal : Cert.GdownZeroKernelIdeal.Facts] : Prop :=
  ∀ (m : (ℓ : Loc Cert.GdownZeroKernelIdeal.nD Cert.GdownZeroKernelIdeal.τ Cert.GdownZeroKernelIdeal.sig) → Buf (Elt Ideal) ℓ) (g : Dev Cert.GdownZeroKernelIdeal.nD → PrngReg), Pre_GdownZeroKernelIdeal m →
    θ_run (Cert.GdownZeroKernelIdeal.defs (F := Ideal)) (onTc (τ := Cert.GdownZeroKernelIdeal.τ) (Cert.GdownZeroKernelIdeal.main (F := Ideal))) ⟨m, fun _ => 0, g⟩ (fun r => (∀ c : Dev Cert.GdownZeroKernelIdeal.nD,
      r.2.mem ((c.tc : Thread Cert.GdownZeroKernelIdeal.nD Cert.GdownZeroKernelIdeal.τ).loc Cert.GdownZeroKernelIdeal.main_arg0) = m ((c.tc : Thread Cert.GdownZeroKernelIdeal.nD Cert.GdownZeroKernelIdeal.τ).loc Cert.GdownZeroKernelIdeal.main_arg0)
      ∧ r.2.mem ((c.tc : Thread Cert.GdownZeroKernelIdeal.nD Cert.GdownZeroKernelIdeal.τ).loc Cert.GdownZeroKernelIdeal.main_arg1) = m ((c.tc : Thread Cert.GdownZeroKernelIdeal.nD Cert.GdownZeroKernelIdeal.τ).loc Cert.GdownZeroKernelIdeal.main_arg1))
      ∧ r.2.sem = fun _ => 0)

def quiescent_DhTwoZeroKernel [hDhTwoZeroKernel : Cert.DhTwoZeroKernel.Facts] : Prop :=
  ∀ (m : (ℓ : Loc Cert.DhTwoZeroKernel.nD Cert.DhTwoZeroKernel.τ Cert.DhTwoZeroKernel.sig) → Buf (Elt Bits) ℓ) (g : Dev Cert.DhTwoZeroKernel.nD → PrngReg), Pre_DhTwoZeroKernel m →
    θ_run (Cert.DhTwoZeroKernel.defs (F := Bits)) (onTc (τ := Cert.DhTwoZeroKernel.τ) (Cert.DhTwoZeroKernel.main (F := Bits))) ⟨m, fun _ => 0, g⟩ (fun r => (∀ c : Dev Cert.DhTwoZeroKernel.nD,
      r.2.mem ((c.tc : Thread Cert.DhTwoZeroKernel.nD Cert.DhTwoZeroKernel.τ).loc Cert.DhTwoZeroKernel.main_arg0) = m ((c.tc : Thread Cert.DhTwoZeroKernel.nD Cert.DhTwoZeroKernel.τ).loc Cert.DhTwoZeroKernel.main_arg0)
      ∧ r.2.mem ((c.tc : Thread Cert.DhTwoZeroKernel.nD Cert.DhTwoZeroKernel.τ).loc Cert.DhTwoZeroKernel.main_arg1) = m ((c.tc : Thread Cert.DhTwoZeroKernel.nD Cert.DhTwoZeroKernel.τ).loc Cert.DhTwoZeroKernel.main_arg1))
      ∧ r.2.sem = fun _ => 0)

def quiescent_DhTwoZeroKernelIdeal [hDhTwoZeroKernelIdeal : Cert.DhTwoZeroKernelIdeal.Facts] : Prop :=
  ∀ (m : (ℓ : Loc Cert.DhTwoZeroKernelIdeal.nD Cert.DhTwoZeroKernelIdeal.τ Cert.DhTwoZeroKernelIdeal.sig) → Buf (Elt Ideal) ℓ) (g : Dev Cert.DhTwoZeroKernelIdeal.nD → PrngReg), Pre_DhTwoZeroKernelIdeal m →
    θ_run (Cert.DhTwoZeroKernelIdeal.defs (F := Ideal)) (onTc (τ := Cert.DhTwoZeroKernelIdeal.τ) (Cert.DhTwoZeroKernelIdeal.main (F := Ideal))) ⟨m, fun _ => 0, g⟩ (fun r => (∀ c : Dev Cert.DhTwoZeroKernelIdeal.nD,
      r.2.mem ((c.tc : Thread Cert.DhTwoZeroKernelIdeal.nD Cert.DhTwoZeroKernelIdeal.τ).loc Cert.DhTwoZeroKernelIdeal.main_arg0) = m ((c.tc : Thread Cert.DhTwoZeroKernelIdeal.nD Cert.DhTwoZeroKernelIdeal.τ).loc Cert.DhTwoZeroKernelIdeal.main_arg0)
      ∧ r.2.mem ((c.tc : Thread Cert.DhTwoZeroKernelIdeal.nD Cert.DhTwoZeroKernelIdeal.τ).loc Cert.DhTwoZeroKernelIdeal.main_arg1) = m ((c.tc : Thread Cert.DhTwoZeroKernelIdeal.nD Cert.DhTwoZeroKernelIdeal.τ).loc Cert.DhTwoZeroKernelIdeal.main_arg1))
      ∧ r.2.sem = fun _ => 0)

def quiescent_GupZeroKernel [hGupZeroKernel : Cert.GupZeroKernel.Facts] : Prop :=
  ∀ (m : (ℓ : Loc Cert.GupZeroKernel.nD Cert.GupZeroKernel.τ Cert.GupZeroKernel.sig) → Buf (Elt Bits) ℓ) (g : Dev Cert.GupZeroKernel.nD → PrngReg), Pre_GupZeroKernel m →
    θ_run (Cert.GupZeroKernel.defs (F := Bits)) (onTc (τ := Cert.GupZeroKernel.τ) (Cert.GupZeroKernel.main (F := Bits))) ⟨m, fun _ => 0, g⟩ (fun r => (∀ c : Dev Cert.GupZeroKernel.nD,
      r.2.mem ((c.tc : Thread Cert.GupZeroKernel.nD Cert.GupZeroKernel.τ).loc Cert.GupZeroKernel.main_arg0) = m ((c.tc : Thread Cert.GupZeroKernel.nD Cert.GupZeroKernel.τ).loc Cert.GupZeroKernel.main_arg0)
      ∧ r.2.mem ((c.tc : Thread Cert.GupZeroKernel.nD Cert.GupZeroKernel.τ).loc Cert.GupZeroKernel.main_arg1) = m ((c.tc : Thread Cert.GupZeroKernel.nD Cert.GupZeroKernel.τ).loc Cert.GupZeroKernel.main_arg1))
      ∧ r.2.sem = fun _ => 0)

def quiescent_GupZeroKernelIdeal [hGupZeroKernelIdeal : Cert.GupZeroKernelIdeal.Facts] : Prop :=
  ∀ (m : (ℓ : Loc Cert.GupZeroKernelIdeal.nD Cert.GupZeroKernelIdeal.τ Cert.GupZeroKernelIdeal.sig) → Buf (Elt Ideal) ℓ) (g : Dev Cert.GupZeroKernelIdeal.nD → PrngReg), Pre_GupZeroKernelIdeal m →
    θ_run (Cert.GupZeroKernelIdeal.defs (F := Ideal)) (onTc (τ := Cert.GupZeroKernelIdeal.τ) (Cert.GupZeroKernelIdeal.main (F := Ideal))) ⟨m, fun _ => 0, g⟩ (fun r => (∀ c : Dev Cert.GupZeroKernelIdeal.nD,
      r.2.mem ((c.tc : Thread Cert.GupZeroKernelIdeal.nD Cert.GupZeroKernelIdeal.τ).loc Cert.GupZeroKernelIdeal.main_arg0) = m ((c.tc : Thread Cert.GupZeroKernelIdeal.nD Cert.GupZeroKernelIdeal.τ).loc Cert.GupZeroKernelIdeal.main_arg0)
      ∧ r.2.mem ((c.tc : Thread Cert.GupZeroKernelIdeal.nD Cert.GupZeroKernelIdeal.τ).loc Cert.GupZeroKernelIdeal.main_arg1) = m ((c.tc : Thread Cert.GupZeroKernelIdeal.nD Cert.GupZeroKernelIdeal.τ).loc Cert.GupZeroKernelIdeal.main_arg1))
      ∧ r.2.sem = fun _ => 0)

def quiescent_DmergedZeroKernel [hDmergedZeroKernel : Cert.DmergedZeroKernel.Facts] : Prop :=
  ∀ (m : (ℓ : Loc Cert.DmergedZeroKernel.nD Cert.DmergedZeroKernel.τ Cert.DmergedZeroKernel.sig) → Buf (Elt Bits) ℓ) (g : Dev Cert.DmergedZeroKernel.nD → PrngReg), Pre_DmergedZeroKernel m →
    θ_run (Cert.DmergedZeroKernel.defs (F := Bits)) (onTc (τ := Cert.DmergedZeroKernel.τ) (Cert.DmergedZeroKernel.main (F := Bits))) ⟨m, fun _ => 0, g⟩ (fun r => (∀ c : Dev Cert.DmergedZeroKernel.nD,
      r.2.mem ((c.tc : Thread Cert.DmergedZeroKernel.nD Cert.DmergedZeroKernel.τ).loc Cert.DmergedZeroKernel.main_arg0) = m ((c.tc : Thread Cert.DmergedZeroKernel.nD Cert.DmergedZeroKernel.τ).loc Cert.DmergedZeroKernel.main_arg0)
      ∧ r.2.mem ((c.tc : Thread Cert.DmergedZeroKernel.nD Cert.DmergedZeroKernel.τ).loc Cert.DmergedZeroKernel.main_arg1) = m ((c.tc : Thread Cert.DmergedZeroKernel.nD Cert.DmergedZeroKernel.τ).loc Cert.DmergedZeroKernel.main_arg1))
      ∧ r.2.sem = fun _ => 0)

def quiescent_DmergedZeroKernelIdeal [hDmergedZeroKernelIdeal : Cert.DmergedZeroKernelIdeal.Facts] : Prop :=
  ∀ (m : (ℓ : Loc Cert.DmergedZeroKernelIdeal.nD Cert.DmergedZeroKernelIdeal.τ Cert.DmergedZeroKernelIdeal.sig) → Buf (Elt Ideal) ℓ) (g : Dev Cert.DmergedZeroKernelIdeal.nD → PrngReg), Pre_DmergedZeroKernelIdeal m →
    θ_run (Cert.DmergedZeroKernelIdeal.defs (F := Ideal)) (onTc (τ := Cert.DmergedZeroKernelIdeal.τ) (Cert.DmergedZeroKernelIdeal.main (F := Ideal))) ⟨m, fun _ => 0, g⟩ (fun r => (∀ c : Dev Cert.DmergedZeroKernelIdeal.nD,
      r.2.mem ((c.tc : Thread Cert.DmergedZeroKernelIdeal.nD Cert.DmergedZeroKernelIdeal.τ).loc Cert.DmergedZeroKernelIdeal.main_arg0) = m ((c.tc : Thread Cert.DmergedZeroKernelIdeal.nD Cert.DmergedZeroKernelIdeal.τ).loc Cert.DmergedZeroKernelIdeal.main_arg0)
      ∧ r.2.mem ((c.tc : Thread Cert.DmergedZeroKernelIdeal.nD Cert.DmergedZeroKernelIdeal.τ).loc Cert.DmergedZeroKernelIdeal.main_arg1) = m ((c.tc : Thread Cert.DmergedZeroKernelIdeal.nD Cert.DmergedZeroKernelIdeal.τ).loc Cert.DmergedZeroKernelIdeal.main_arg1))
      ∧ r.2.sem = fun _ => 0)

def quiescent_GoutZeroKernel [hGoutZeroKernel : Cert.GoutZeroKernel.Facts] : Prop :=
  ∀ (m : (ℓ : Loc Cert.GoutZeroKernel.nD Cert.GoutZeroKernel.τ Cert.GoutZeroKernel.sig) → Buf (Elt Bits) ℓ) (g : Dev Cert.GoutZeroKernel.nD → PrngReg), Pre_GoutZeroKernel m →
    θ_run (Cert.GoutZeroKernel.defs (F := Bits)) (onTc (τ := Cert.GoutZeroKernel.τ) (Cert.GoutZeroKernel.main (F := Bits))) ⟨m, fun _ => 0, g⟩ (fun r => (∀ c : Dev Cert.GoutZeroKernel.nD,
      r.2.mem ((c.tc : Thread Cert.GoutZeroKernel.nD Cert.GoutZeroKernel.τ).loc Cert.GoutZeroKernel.main_arg0) = m ((c.tc : Thread Cert.GoutZeroKernel.nD Cert.GoutZeroKernel.τ).loc Cert.GoutZeroKernel.main_arg0)
      ∧ r.2.mem ((c.tc : Thread Cert.GoutZeroKernel.nD Cert.GoutZeroKernel.τ).loc Cert.GoutZeroKernel.main_arg1) = m ((c.tc : Thread Cert.GoutZeroKernel.nD Cert.GoutZeroKernel.τ).loc Cert.GoutZeroKernel.main_arg1))
      ∧ r.2.sem = fun _ => 0)

def quiescent_GoutZeroKernelIdeal [hGoutZeroKernelIdeal : Cert.GoutZeroKernelIdeal.Facts] : Prop :=
  ∀ (m : (ℓ : Loc Cert.GoutZeroKernelIdeal.nD Cert.GoutZeroKernelIdeal.τ Cert.GoutZeroKernelIdeal.sig) → Buf (Elt Ideal) ℓ) (g : Dev Cert.GoutZeroKernelIdeal.nD → PrngReg), Pre_GoutZeroKernelIdeal m →
    θ_run (Cert.GoutZeroKernelIdeal.defs (F := Ideal)) (onTc (τ := Cert.GoutZeroKernelIdeal.τ) (Cert.GoutZeroKernelIdeal.main (F := Ideal))) ⟨m, fun _ => 0, g⟩ (fun r => (∀ c : Dev Cert.GoutZeroKernelIdeal.nD,
      r.2.mem ((c.tc : Thread Cert.GoutZeroKernelIdeal.nD Cert.GoutZeroKernelIdeal.τ).loc Cert.GoutZeroKernelIdeal.main_arg0) = m ((c.tc : Thread Cert.GoutZeroKernelIdeal.nD Cert.GoutZeroKernelIdeal.τ).loc Cert.GoutZeroKernelIdeal.main_arg0)
      ∧ r.2.mem ((c.tc : Thread Cert.GoutZeroKernelIdeal.nD Cert.GoutZeroKernelIdeal.τ).loc Cert.GoutZeroKernelIdeal.main_arg1) = m ((c.tc : Thread Cert.GoutZeroKernelIdeal.nD Cert.GoutZeroKernelIdeal.τ).loc Cert.GoutZeroKernelIdeal.main_arg1))
      ∧ r.2.sem = fun _ => 0)

def quiescent_DyZeroKernel [hDyZeroKernel : Cert.DyZeroKernel.Facts] : Prop :=
  ∀ (m : (ℓ : Loc Cert.DyZeroKernel.nD Cert.DyZeroKernel.τ Cert.DyZeroKernel.sig) → Buf (Elt Bits) ℓ) (g : Dev Cert.DyZeroKernel.nD → PrngReg), Pre_DyZeroKernel m →
    θ_run (Cert.DyZeroKernel.defs (F := Bits)) (onTc (τ := Cert.DyZeroKernel.τ) (Cert.DyZeroKernel.main (F := Bits))) ⟨m, fun _ => 0, g⟩ (fun r => (∀ c : Dev Cert.DyZeroKernel.nD,
      r.2.mem ((c.tc : Thread Cert.DyZeroKernel.nD Cert.DyZeroKernel.τ).loc Cert.DyZeroKernel.main_arg0) = m ((c.tc : Thread Cert.DyZeroKernel.nD Cert.DyZeroKernel.τ).loc Cert.DyZeroKernel.main_arg0)
      ∧ r.2.mem ((c.tc : Thread Cert.DyZeroKernel.nD Cert.DyZeroKernel.τ).loc Cert.DyZeroKernel.main_arg1) = m ((c.tc : Thread Cert.DyZeroKernel.nD Cert.DyZeroKernel.τ).loc Cert.DyZeroKernel.main_arg1))
      ∧ r.2.sem = fun _ => 0)

def quiescent_DyZeroKernelIdeal [hDyZeroKernelIdeal : Cert.DyZeroKernelIdeal.Facts] : Prop :=
  ∀ (m : (ℓ : Loc Cert.DyZeroKernelIdeal.nD Cert.DyZeroKernelIdeal.τ Cert.DyZeroKernelIdeal.sig) → Buf (Elt Ideal) ℓ) (g : Dev Cert.DyZeroKernelIdeal.nD → PrngReg), Pre_DyZeroKernelIdeal m →
    θ_run (Cert.DyZeroKernelIdeal.defs (F := Ideal)) (onTc (τ := Cert.DyZeroKernelIdeal.τ) (Cert.DyZeroKernelIdeal.main (F := Ideal))) ⟨m, fun _ => 0, g⟩ (fun r => (∀ c : Dev Cert.DyZeroKernelIdeal.nD,
      r.2.mem ((c.tc : Thread Cert.DyZeroKernelIdeal.nD Cert.DyZeroKernelIdeal.τ).loc Cert.DyZeroKernelIdeal.main_arg0) = m ((c.tc : Thread Cert.DyZeroKernelIdeal.nD Cert.DyZeroKernelIdeal.τ).loc Cert.DyZeroKernelIdeal.main_arg0)
      ∧ r.2.mem ((c.tc : Thread Cert.DyZeroKernelIdeal.nD Cert.DyZeroKernelIdeal.τ).loc Cert.DyZeroKernelIdeal.main_arg1) = m ((c.tc : Thread Cert.DyZeroKernelIdeal.nD Cert.DyZeroKernelIdeal.τ).loc Cert.DyZeroKernelIdeal.main_arg1))
      ∧ r.2.sem = fun _ => 0)

def quiescent_GbranchZeroKernel [hGbranchZeroKernel : Cert.GbranchZeroKernel.Facts] : Prop :=
  ∀ (m : (ℓ : Loc Cert.GbranchZeroKernel.nD Cert.GbranchZeroKernel.τ Cert.GbranchZeroKernel.sig) → Buf (Elt Bits) ℓ) (g : Dev Cert.GbranchZeroKernel.nD → PrngReg), Pre_GbranchZeroKernel m →
    θ_run (Cert.GbranchZeroKernel.defs (F := Bits)) (onTc (τ := Cert.GbranchZeroKernel.τ) (Cert.GbranchZeroKernel.main (F := Bits))) ⟨m, fun _ => 0, g⟩ (fun r => (∀ c : Dev Cert.GbranchZeroKernel.nD,
      r.2.mem ((c.tc : Thread Cert.GbranchZeroKernel.nD Cert.GbranchZeroKernel.τ).loc Cert.GbranchZeroKernel.main_arg0) = m ((c.tc : Thread Cert.GbranchZeroKernel.nD Cert.GbranchZeroKernel.τ).loc Cert.GbranchZeroKernel.main_arg0)
      ∧ r.2.mem ((c.tc : Thread Cert.GbranchZeroKernel.nD Cert.GbranchZeroKernel.τ).loc Cert.GbranchZeroKernel.main_arg1) = m ((c.tc : Thread Cert.GbranchZeroKernel.nD Cert.GbranchZeroKernel.τ).loc Cert.GbranchZeroKernel.main_arg1))
      ∧ r.2.sem = fun _ => 0)

def quiescent_GbranchZeroKernelIdeal [hGbranchZeroKernelIdeal : Cert.GbranchZeroKernelIdeal.Facts] : Prop :=
  ∀ (m : (ℓ : Loc Cert.GbranchZeroKernelIdeal.nD Cert.GbranchZeroKernelIdeal.τ Cert.GbranchZeroKernelIdeal.sig) → Buf (Elt Ideal) ℓ) (g : Dev Cert.GbranchZeroKernelIdeal.nD → PrngReg), Pre_GbranchZeroKernelIdeal m →
    θ_run (Cert.GbranchZeroKernelIdeal.defs (F := Ideal)) (onTc (τ := Cert.GbranchZeroKernelIdeal.τ) (Cert.GbranchZeroKernelIdeal.main (F := Ideal))) ⟨m, fun _ => 0, g⟩ (fun r => (∀ c : Dev Cert.GbranchZeroKernelIdeal.nD,
      r.2.mem ((c.tc : Thread Cert.GbranchZeroKernelIdeal.nD Cert.GbranchZeroKernelIdeal.τ).loc Cert.GbranchZeroKernelIdeal.main_arg0) = m ((c.tc : Thread Cert.GbranchZeroKernelIdeal.nD Cert.GbranchZeroKernelIdeal.τ).loc Cert.GbranchZeroKernelIdeal.main_arg0)
      ∧ r.2.mem ((c.tc : Thread Cert.GbranchZeroKernelIdeal.nD Cert.GbranchZeroKernelIdeal.τ).loc Cert.GbranchZeroKernelIdeal.main_arg1) = m ((c.tc : Thread Cert.GbranchZeroKernelIdeal.nD Cert.GbranchZeroKernelIdeal.τ).loc Cert.GbranchZeroKernelIdeal.main_arg1))
      ∧ r.2.sem = fun _ => 0)

def quiescent_GinZeroKernel [hGinZeroKernel : Cert.GinZeroKernel.Facts] : Prop :=
  ∀ (m : (ℓ : Loc Cert.GinZeroKernel.nD Cert.GinZeroKernel.τ Cert.GinZeroKernel.sig) → Buf (Elt Bits) ℓ) (g : Dev Cert.GinZeroKernel.nD → PrngReg), Pre_GinZeroKernel m →
    θ_run (Cert.GinZeroKernel.defs (F := Bits)) (onTc (τ := Cert.GinZeroKernel.τ) (Cert.GinZeroKernel.main (F := Bits))) ⟨m, fun _ => 0, g⟩ (fun r => (∀ c : Dev Cert.GinZeroKernel.nD,
      r.2.mem ((c.tc : Thread Cert.GinZeroKernel.nD Cert.GinZeroKernel.τ).loc Cert.GinZeroKernel.main_arg0) = m ((c.tc : Thread Cert.GinZeroKernel.nD Cert.GinZeroKernel.τ).loc Cert.GinZeroKernel.main_arg0)
      ∧ r.2.mem ((c.tc : Thread Cert.GinZeroKernel.nD Cert.GinZeroKernel.τ).loc Cert.GinZeroKernel.main_arg1) = m ((c.tc : Thread Cert.GinZeroKernel.nD Cert.GinZeroKernel.τ).loc Cert.GinZeroKernel.main_arg1))
      ∧ r.2.sem = fun _ => 0)

def quiescent_GinZeroKernelIdeal [hGinZeroKernelIdeal : Cert.GinZeroKernelIdeal.Facts] : Prop :=
  ∀ (m : (ℓ : Loc Cert.GinZeroKernelIdeal.nD Cert.GinZeroKernelIdeal.τ Cert.GinZeroKernelIdeal.sig) → Buf (Elt Ideal) ℓ) (g : Dev Cert.GinZeroKernelIdeal.nD → PrngReg), Pre_GinZeroKernelIdeal m →
    θ_run (Cert.GinZeroKernelIdeal.defs (F := Ideal)) (onTc (τ := Cert.GinZeroKernelIdeal.τ) (Cert.GinZeroKernelIdeal.main (F := Ideal))) ⟨m, fun _ => 0, g⟩ (fun r => (∀ c : Dev Cert.GinZeroKernelIdeal.nD,
      r.2.mem ((c.tc : Thread Cert.GinZeroKernelIdeal.nD Cert.GinZeroKernelIdeal.τ).loc Cert.GinZeroKernelIdeal.main_arg0) = m ((c.tc : Thread Cert.GinZeroKernelIdeal.nD Cert.GinZeroKernelIdeal.τ).loc Cert.GinZeroKernelIdeal.main_arg0)
      ∧ r.2.mem ((c.tc : Thread Cert.GinZeroKernelIdeal.nD Cert.GinZeroKernelIdeal.τ).loc Cert.GinZeroKernelIdeal.main_arg1) = m ((c.tc : Thread Cert.GinZeroKernelIdeal.nD Cert.GinZeroKernelIdeal.τ).loc Cert.GinZeroKernelIdeal.main_arg1))
      ∧ r.2.sem = fun _ => 0)

def quiescent_BranchZeroKernel [hBranchZeroKernel : Cert.BranchZeroKernel.Facts] : Prop :=
  ∀ (m : (ℓ : Loc Cert.BranchZeroKernel.nD Cert.BranchZeroKernel.τ Cert.BranchZeroKernel.sig) → Buf (Elt Bits) ℓ) (g : Dev Cert.BranchZeroKernel.nD → PrngReg), Pre_BranchZeroKernel m →
    θ_run (Cert.BranchZeroKernel.defs (F := Bits)) (onTc (τ := Cert.BranchZeroKernel.τ) (Cert.BranchZeroKernel.main (F := Bits))) ⟨m, fun _ => 0, g⟩ (fun r => (∀ c : Dev Cert.BranchZeroKernel.nD,
      r.2.mem ((c.tc : Thread Cert.BranchZeroKernel.nD Cert.BranchZeroKernel.τ).loc Cert.BranchZeroKernel.main_arg0) = m ((c.tc : Thread Cert.BranchZeroKernel.nD Cert.BranchZeroKernel.τ).loc Cert.BranchZeroKernel.main_arg0)
      ∧ r.2.mem ((c.tc : Thread Cert.BranchZeroKernel.nD Cert.BranchZeroKernel.τ).loc Cert.BranchZeroKernel.main_arg1) = m ((c.tc : Thread Cert.BranchZeroKernel.nD Cert.BranchZeroKernel.τ).loc Cert.BranchZeroKernel.main_arg1))
      ∧ r.2.sem = fun _ => 0)

def quiescent_BranchZeroKernelIdeal [hBranchZeroKernelIdeal : Cert.BranchZeroKernelIdeal.Facts] : Prop :=
  ∀ (m : (ℓ : Loc Cert.BranchZeroKernelIdeal.nD Cert.BranchZeroKernelIdeal.τ Cert.BranchZeroKernelIdeal.sig) → Buf (Elt Ideal) ℓ) (g : Dev Cert.BranchZeroKernelIdeal.nD → PrngReg), Pre_BranchZeroKernelIdeal m →
    θ_run (Cert.BranchZeroKernelIdeal.defs (F := Ideal)) (onTc (τ := Cert.BranchZeroKernelIdeal.τ) (Cert.BranchZeroKernelIdeal.main (F := Ideal))) ⟨m, fun _ => 0, g⟩ (fun r => (∀ c : Dev Cert.BranchZeroKernelIdeal.nD,
      r.2.mem ((c.tc : Thread Cert.BranchZeroKernelIdeal.nD Cert.BranchZeroKernelIdeal.τ).loc Cert.BranchZeroKernelIdeal.main_arg0) = m ((c.tc : Thread Cert.BranchZeroKernelIdeal.nD Cert.BranchZeroKernelIdeal.τ).loc Cert.BranchZeroKernelIdeal.main_arg0)
      ∧ r.2.mem ((c.tc : Thread Cert.BranchZeroKernelIdeal.nD Cert.BranchZeroKernelIdeal.τ).loc Cert.BranchZeroKernelIdeal.main_arg1) = m ((c.tc : Thread Cert.BranchZeroKernelIdeal.nD Cert.BranchZeroKernelIdeal.τ).loc Cert.BranchZeroKernelIdeal.main_arg1))
      ∧ r.2.sem = fun _ => 0)

def quiescent_OutZeroKernel [hOutZeroKernel : Cert.OutZeroKernel.Facts] : Prop :=
  ∀ (m : (ℓ : Loc Cert.OutZeroKernel.nD Cert.OutZeroKernel.τ Cert.OutZeroKernel.sig) → Buf (Elt Bits) ℓ) (g : Dev Cert.OutZeroKernel.nD → PrngReg), Pre_OutZeroKernel m →
    θ_run (Cert.OutZeroKernel.defs (F := Bits)) (onTc (τ := Cert.OutZeroKernel.τ) (Cert.OutZeroKernel.main (F := Bits))) ⟨m, fun _ => 0, g⟩ (fun r => (∀ c : Dev Cert.OutZeroKernel.nD,
      r.2.mem ((c.tc : Thread Cert.OutZeroKernel.nD Cert.OutZeroKernel.τ).loc Cert.OutZeroKernel.main_arg0) = m ((c.tc : Thread Cert.OutZeroKernel.nD Cert.OutZeroKernel.τ).loc Cert.OutZeroKernel.main_arg0)
      ∧ r.2.mem ((c.tc : Thread Cert.OutZeroKernel.nD Cert.OutZeroKernel.τ).loc Cert.OutZeroKernel.main_arg1) = m ((c.tc : Thread Cert.OutZeroKernel.nD Cert.OutZeroKernel.τ).loc Cert.OutZeroKernel.main_arg1))
      ∧ r.2.sem = fun _ => 0)

def quiescent_OutZeroKernelIdeal [hOutZeroKernelIdeal : Cert.OutZeroKernelIdeal.Facts] : Prop :=
  ∀ (m : (ℓ : Loc Cert.OutZeroKernelIdeal.nD Cert.OutZeroKernelIdeal.τ Cert.OutZeroKernelIdeal.sig) → Buf (Elt Ideal) ℓ) (g : Dev Cert.OutZeroKernelIdeal.nD → PrngReg), Pre_OutZeroKernelIdeal m →
    θ_run (Cert.OutZeroKernelIdeal.defs (F := Ideal)) (onTc (τ := Cert.OutZeroKernelIdeal.τ) (Cert.OutZeroKernelIdeal.main (F := Ideal))) ⟨m, fun _ => 0, g⟩ (fun r => (∀ c : Dev Cert.OutZeroKernelIdeal.nD,
      r.2.mem ((c.tc : Thread Cert.OutZeroKernelIdeal.nD Cert.OutZeroKernelIdeal.τ).loc Cert.OutZeroKernelIdeal.main_arg0) = m ((c.tc : Thread Cert.OutZeroKernelIdeal.nD Cert.OutZeroKernelIdeal.τ).loc Cert.OutZeroKernelIdeal.main_arg0)
      ∧ r.2.mem ((c.tc : Thread Cert.OutZeroKernelIdeal.nD Cert.OutZeroKernelIdeal.τ).loc Cert.OutZeroKernelIdeal.main_arg1) = m ((c.tc : Thread Cert.OutZeroKernelIdeal.nD Cert.OutZeroKernelIdeal.τ).loc Cert.OutZeroKernelIdeal.main_arg1))
      ∧ r.2.sem = fun _ => 0)

def quiescent_DownZeroKernel [hDownZeroKernel : Cert.DownZeroKernel.Facts] : Prop :=
  ∀ (m : (ℓ : Loc Cert.DownZeroKernel.nD Cert.DownZeroKernel.τ Cert.DownZeroKernel.sig) → Buf (Elt Bits) ℓ) (g : Dev Cert.DownZeroKernel.nD → PrngReg), Pre_DownZeroKernel m →
    θ_run (Cert.DownZeroKernel.defs (F := Bits)) (onTc (τ := Cert.DownZeroKernel.τ) (Cert.DownZeroKernel.main (F := Bits))) ⟨m, fun _ => 0, g⟩ (fun r => (∀ c : Dev Cert.DownZeroKernel.nD,
      r.2.mem ((c.tc : Thread Cert.DownZeroKernel.nD Cert.DownZeroKernel.τ).loc Cert.DownZeroKernel.main_arg0) = m ((c.tc : Thread Cert.DownZeroKernel.nD Cert.DownZeroKernel.τ).loc Cert.DownZeroKernel.main_arg0)
      ∧ r.2.mem ((c.tc : Thread Cert.DownZeroKernel.nD Cert.DownZeroKernel.τ).loc Cert.DownZeroKernel.main_arg1) = m ((c.tc : Thread Cert.DownZeroKernel.nD Cert.DownZeroKernel.τ).loc Cert.DownZeroKernel.main_arg1))
      ∧ r.2.sem = fun _ => 0)

def quiescent_DownZeroKernelIdeal [hDownZeroKernelIdeal : Cert.DownZeroKernelIdeal.Facts] : Prop :=
  ∀ (m : (ℓ : Loc Cert.DownZeroKernelIdeal.nD Cert.DownZeroKernelIdeal.τ Cert.DownZeroKernelIdeal.sig) → Buf (Elt Ideal) ℓ) (g : Dev Cert.DownZeroKernelIdeal.nD → PrngReg), Pre_DownZeroKernelIdeal m →
    θ_run (Cert.DownZeroKernelIdeal.defs (F := Ideal)) (onTc (τ := Cert.DownZeroKernelIdeal.τ) (Cert.DownZeroKernelIdeal.main (F := Ideal))) ⟨m, fun _ => 0, g⟩ (fun r => (∀ c : Dev Cert.DownZeroKernelIdeal.nD,
      r.2.mem ((c.tc : Thread Cert.DownZeroKernelIdeal.nD Cert.DownZeroKernelIdeal.τ).loc Cert.DownZeroKernelIdeal.main_arg0) = m ((c.tc : Thread Cert.DownZeroKernelIdeal.nD Cert.DownZeroKernelIdeal.τ).loc Cert.DownZeroKernelIdeal.main_arg0)
      ∧ r.2.mem ((c.tc : Thread Cert.DownZeroKernelIdeal.nD Cert.DownZeroKernelIdeal.τ).loc Cert.DownZeroKernelIdeal.main_arg1) = m ((c.tc : Thread Cert.DownZeroKernelIdeal.nD Cert.DownZeroKernelIdeal.τ).loc Cert.DownZeroKernelIdeal.main_arg1))
      ∧ r.2.sem = fun _ => 0)

def quiescent_UpZeroKernel [hUpZeroKernel : Cert.UpZeroKernel.Facts] : Prop :=
  ∀ (m : (ℓ : Loc Cert.UpZeroKernel.nD Cert.UpZeroKernel.τ Cert.UpZeroKernel.sig) → Buf (Elt Bits) ℓ) (g : Dev Cert.UpZeroKernel.nD → PrngReg), Pre_UpZeroKernel m →
    θ_run (Cert.UpZeroKernel.defs (F := Bits)) (onTc (τ := Cert.UpZeroKernel.τ) (Cert.UpZeroKernel.main (F := Bits))) ⟨m, fun _ => 0, g⟩ (fun r => (∀ c : Dev Cert.UpZeroKernel.nD,
      r.2.mem ((c.tc : Thread Cert.UpZeroKernel.nD Cert.UpZeroKernel.τ).loc Cert.UpZeroKernel.main_arg0) = m ((c.tc : Thread Cert.UpZeroKernel.nD Cert.UpZeroKernel.τ).loc Cert.UpZeroKernel.main_arg0)
      ∧ r.2.mem ((c.tc : Thread Cert.UpZeroKernel.nD Cert.UpZeroKernel.τ).loc Cert.UpZeroKernel.main_arg1) = m ((c.tc : Thread Cert.UpZeroKernel.nD Cert.UpZeroKernel.τ).loc Cert.UpZeroKernel.main_arg1))
      ∧ r.2.sem = fun _ => 0)

def quiescent_UpZeroKernelIdeal [hUpZeroKernelIdeal : Cert.UpZeroKernelIdeal.Facts] : Prop :=
  ∀ (m : (ℓ : Loc Cert.UpZeroKernelIdeal.nD Cert.UpZeroKernelIdeal.τ Cert.UpZeroKernelIdeal.sig) → Buf (Elt Ideal) ℓ) (g : Dev Cert.UpZeroKernelIdeal.nD → PrngReg), Pre_UpZeroKernelIdeal m →
    θ_run (Cert.UpZeroKernelIdeal.defs (F := Ideal)) (onTc (τ := Cert.UpZeroKernelIdeal.τ) (Cert.UpZeroKernelIdeal.main (F := Ideal))) ⟨m, fun _ => 0, g⟩ (fun r => (∀ c : Dev Cert.UpZeroKernelIdeal.nD,
      r.2.mem ((c.tc : Thread Cert.UpZeroKernelIdeal.nD Cert.UpZeroKernelIdeal.τ).loc Cert.UpZeroKernelIdeal.main_arg0) = m ((c.tc : Thread Cert.UpZeroKernelIdeal.nD Cert.UpZeroKernelIdeal.τ).loc Cert.UpZeroKernelIdeal.main_arg0)
      ∧ r.2.mem ((c.tc : Thread Cert.UpZeroKernelIdeal.nD Cert.UpZeroKernelIdeal.τ).loc Cert.UpZeroKernelIdeal.main_arg1) = m ((c.tc : Thread Cert.UpZeroKernelIdeal.nD Cert.UpZeroKernelIdeal.τ).loc Cert.UpZeroKernelIdeal.main_arg1))
      ∧ r.2.sem = fun _ => 0)

def quiescent_PreBKernel [hPreBKernel : Cert.PreBKernel.Facts] : Prop :=
  ∀ (m : (ℓ : Loc Cert.PreBKernel.nD Cert.PreBKernel.τ Cert.PreBKernel.sig) → Buf (Elt Bits) ℓ) (g : Dev Cert.PreBKernel.nD → PrngReg), Pre_PreBKernel m →
    θ_run (Cert.PreBKernel.defs (F := Bits)) (onTc (τ := Cert.PreBKernel.τ) (Cert.PreBKernel.main (F := Bits))) ⟨m, fun _ => 0, g⟩ (fun r => (∀ c : Dev Cert.PreBKernel.nD,
      r.2.mem ((c.tc : Thread Cert.PreBKernel.nD Cert.PreBKernel.τ).loc Cert.PreBKernel.main_arg0) = m ((c.tc : Thread Cert.PreBKernel.nD Cert.PreBKernel.τ).loc Cert.PreBKernel.main_arg0)
      ∧ r.2.mem ((c.tc : Thread Cert.PreBKernel.nD Cert.PreBKernel.τ).loc Cert.PreBKernel.main_arg1) = m ((c.tc : Thread Cert.PreBKernel.nD Cert.PreBKernel.τ).loc Cert.PreBKernel.main_arg1)
      ∧ r.2.mem ((c.tc : Thread Cert.PreBKernel.nD Cert.PreBKernel.τ).loc Cert.PreBKernel.main_arg2) = m ((c.tc : Thread Cert.PreBKernel.nD Cert.PreBKernel.τ).loc Cert.PreBKernel.main_arg2)
      ∧ r.2.mem ((c.tc : Thread Cert.PreBKernel.nD Cert.PreBKernel.τ).loc Cert.PreBKernel.main_arg3) = m ((c.tc : Thread Cert.PreBKernel.nD Cert.PreBKernel.τ).loc Cert.PreBKernel.main_arg3)
      ∧ r.2.mem ((c.tc : Thread Cert.PreBKernel.nD Cert.PreBKernel.τ).loc Cert.PreBKernel.main_arg4) = m ((c.tc : Thread Cert.PreBKernel.nD Cert.PreBKernel.τ).loc Cert.PreBKernel.main_arg4)
      ∧ r.2.mem ((c.tc : Thread Cert.PreBKernel.nD Cert.PreBKernel.τ).loc Cert.PreBKernel.main_arg5) = m ((c.tc : Thread Cert.PreBKernel.nD Cert.PreBKernel.τ).loc Cert.PreBKernel.main_arg5))
      ∧ r.2.sem = fun _ => 0)

def quiescent_PreBKernelIdeal [hPreBKernelIdeal : Cert.PreBKernelIdeal.Facts] : Prop :=
  ∀ (m : (ℓ : Loc Cert.PreBKernelIdeal.nD Cert.PreBKernelIdeal.τ Cert.PreBKernelIdeal.sig) → Buf (Elt Ideal) ℓ) (g : Dev Cert.PreBKernelIdeal.nD → PrngReg), Pre_PreBKernelIdeal m →
    θ_run (Cert.PreBKernelIdeal.defs (F := Ideal)) (onTc (τ := Cert.PreBKernelIdeal.τ) (Cert.PreBKernelIdeal.main (F := Ideal))) ⟨m, fun _ => 0, g⟩ (fun r => (∀ c : Dev Cert.PreBKernelIdeal.nD,
      r.2.mem ((c.tc : Thread Cert.PreBKernelIdeal.nD Cert.PreBKernelIdeal.τ).loc Cert.PreBKernelIdeal.main_arg0) = m ((c.tc : Thread Cert.PreBKernelIdeal.nD Cert.PreBKernelIdeal.τ).loc Cert.PreBKernelIdeal.main_arg0)
      ∧ r.2.mem ((c.tc : Thread Cert.PreBKernelIdeal.nD Cert.PreBKernelIdeal.τ).loc Cert.PreBKernelIdeal.main_arg1) = m ((c.tc : Thread Cert.PreBKernelIdeal.nD Cert.PreBKernelIdeal.τ).loc Cert.PreBKernelIdeal.main_arg1)
      ∧ r.2.mem ((c.tc : Thread Cert.PreBKernelIdeal.nD Cert.PreBKernelIdeal.τ).loc Cert.PreBKernelIdeal.main_arg2) = m ((c.tc : Thread Cert.PreBKernelIdeal.nD Cert.PreBKernelIdeal.τ).loc Cert.PreBKernelIdeal.main_arg2)
      ∧ r.2.mem ((c.tc : Thread Cert.PreBKernelIdeal.nD Cert.PreBKernelIdeal.τ).loc Cert.PreBKernelIdeal.main_arg3) = m ((c.tc : Thread Cert.PreBKernelIdeal.nD Cert.PreBKernelIdeal.τ).loc Cert.PreBKernelIdeal.main_arg3)
      ∧ r.2.mem ((c.tc : Thread Cert.PreBKernelIdeal.nD Cert.PreBKernelIdeal.τ).loc Cert.PreBKernelIdeal.main_arg4) = m ((c.tc : Thread Cert.PreBKernelIdeal.nD Cert.PreBKernelIdeal.τ).loc Cert.PreBKernelIdeal.main_arg4)
      ∧ r.2.mem ((c.tc : Thread Cert.PreBKernelIdeal.nD Cert.PreBKernelIdeal.τ).loc Cert.PreBKernelIdeal.main_arg5) = m ((c.tc : Thread Cert.PreBKernelIdeal.nD Cert.PreBKernelIdeal.τ).loc Cert.PreBKernelIdeal.main_arg5))
      ∧ r.2.sem = fun _ => 0)

def quiescent_PreBReferenceIdeal [hPreBReferenceIdeal : Cert.PreBReferenceIdeal.Facts] : Prop :=
  ∀ (m : (ℓ : Loc Cert.PreBReferenceIdeal.nD Cert.PreBReferenceIdeal.τ Cert.PreBReferenceIdeal.sig) → Buf (Elt Ideal) ℓ) (g : Dev Cert.PreBReferenceIdeal.nD → PrngReg), Pre_PreBReferenceIdeal m →
    θ_run (Cert.PreBReferenceIdeal.defs (F := Ideal)) (onTc (τ := Cert.PreBReferenceIdeal.τ) (Cert.PreBReferenceIdeal.main (F := Ideal))) ⟨m, fun _ => 0, g⟩ (fun r => (∀ c : Dev Cert.PreBReferenceIdeal.nD,
      r.2.mem ((c.tc : Thread Cert.PreBReferenceIdeal.nD Cert.PreBReferenceIdeal.τ).loc Cert.PreBReferenceIdeal.main_arg0) = m ((c.tc : Thread Cert.PreBReferenceIdeal.nD Cert.PreBReferenceIdeal.τ).loc Cert.PreBReferenceIdeal.main_arg0)
      ∧ r.2.mem ((c.tc : Thread Cert.PreBReferenceIdeal.nD Cert.PreBReferenceIdeal.τ).loc Cert.PreBReferenceIdeal.main_arg1) = m ((c.tc : Thread Cert.PreBReferenceIdeal.nD Cert.PreBReferenceIdeal.τ).loc Cert.PreBReferenceIdeal.main_arg1)
      ∧ r.2.mem ((c.tc : Thread Cert.PreBReferenceIdeal.nD Cert.PreBReferenceIdeal.τ).loc Cert.PreBReferenceIdeal.main_arg2) = m ((c.tc : Thread Cert.PreBReferenceIdeal.nD Cert.PreBReferenceIdeal.τ).loc Cert.PreBReferenceIdeal.main_arg2)
      ∧ r.2.mem ((c.tc : Thread Cert.PreBReferenceIdeal.nD Cert.PreBReferenceIdeal.τ).loc Cert.PreBReferenceIdeal.main_arg3) = m ((c.tc : Thread Cert.PreBReferenceIdeal.nD Cert.PreBReferenceIdeal.τ).loc Cert.PreBReferenceIdeal.main_arg3)
      ∧ r.2.mem ((c.tc : Thread Cert.PreBReferenceIdeal.nD Cert.PreBReferenceIdeal.τ).loc Cert.PreBReferenceIdeal.main_arg4) = m ((c.tc : Thread Cert.PreBReferenceIdeal.nD Cert.PreBReferenceIdeal.τ).loc Cert.PreBReferenceIdeal.main_arg4)
      ∧ r.2.mem ((c.tc : Thread Cert.PreBReferenceIdeal.nD Cert.PreBReferenceIdeal.τ).loc Cert.PreBReferenceIdeal.main_arg5) = m ((c.tc : Thread Cert.PreBReferenceIdeal.nD Cert.PreBReferenceIdeal.τ).loc Cert.PreBReferenceIdeal.main_arg5))
      ∧ r.2.sem = fun _ => 0)

def quiescent_PostBKernel [hPostBKernel : Cert.PostBKernel.Facts] : Prop :=
  ∀ (m : (ℓ : Loc Cert.PostBKernel.nD Cert.PostBKernel.τ Cert.PostBKernel.sig) → Buf (Elt Bits) ℓ) (g : Dev Cert.PostBKernel.nD → PrngReg), Pre_PostBKernel m →
    θ_run (Cert.PostBKernel.defs (F := Bits)) (onTc (τ := Cert.PostBKernel.τ) (Cert.PostBKernel.main (F := Bits))) ⟨m, fun _ => 0, g⟩ (fun r => (∀ c : Dev Cert.PostBKernel.nD,
      r.2.mem ((c.tc : Thread Cert.PostBKernel.nD Cert.PostBKernel.τ).loc Cert.PostBKernel.main_arg0) = m ((c.tc : Thread Cert.PostBKernel.nD Cert.PostBKernel.τ).loc Cert.PostBKernel.main_arg0)
      ∧ r.2.mem ((c.tc : Thread Cert.PostBKernel.nD Cert.PostBKernel.τ).loc Cert.PostBKernel.main_arg1) = m ((c.tc : Thread Cert.PostBKernel.nD Cert.PostBKernel.τ).loc Cert.PostBKernel.main_arg1)
      ∧ r.2.mem ((c.tc : Thread Cert.PostBKernel.nD Cert.PostBKernel.τ).loc Cert.PostBKernel.main_arg2) = m ((c.tc : Thread Cert.PostBKernel.nD Cert.PostBKernel.τ).loc Cert.PostBKernel.main_arg2)
      ∧ r.2.mem ((c.tc : Thread Cert.PostBKernel.nD Cert.PostBKernel.τ).loc Cert.PostBKernel.main_arg3) = m ((c.tc : Thread Cert.PostBKernel.nD Cert.PostBKernel.τ).loc Cert.PostBKernel.main_arg3)
      ∧ r.2.mem ((c.tc : Thread Cert.PostBKernel.nD Cert.PostBKernel.τ).loc Cert.PostBKernel.main_arg4) = m ((c.tc : Thread Cert.PostBKernel.nD Cert.PostBKernel.τ).loc Cert.PostBKernel.main_arg4)
      ∧ r.2.mem ((c.tc : Thread Cert.PostBKernel.nD Cert.PostBKernel.τ).loc Cert.PostBKernel.main_arg5) = m ((c.tc : Thread Cert.PostBKernel.nD Cert.PostBKernel.τ).loc Cert.PostBKernel.main_arg5)
      ∧ r.2.mem ((c.tc : Thread Cert.PostBKernel.nD Cert.PostBKernel.τ).loc Cert.PostBKernel.main_arg6) = m ((c.tc : Thread Cert.PostBKernel.nD Cert.PostBKernel.τ).loc Cert.PostBKernel.main_arg6)
      ∧ r.2.mem ((c.tc : Thread Cert.PostBKernel.nD Cert.PostBKernel.τ).loc Cert.PostBKernel.main_arg7) = m ((c.tc : Thread Cert.PostBKernel.nD Cert.PostBKernel.τ).loc Cert.PostBKernel.main_arg7))
      ∧ r.2.sem = fun _ => 0)

def quiescent_PostBKernelIdeal [hPostBKernelIdeal : Cert.PostBKernelIdeal.Facts] : Prop :=
  ∀ (m : (ℓ : Loc Cert.PostBKernelIdeal.nD Cert.PostBKernelIdeal.τ Cert.PostBKernelIdeal.sig) → Buf (Elt Ideal) ℓ) (g : Dev Cert.PostBKernelIdeal.nD → PrngReg), Pre_PostBKernelIdeal m →
    θ_run (Cert.PostBKernelIdeal.defs (F := Ideal)) (onTc (τ := Cert.PostBKernelIdeal.τ) (Cert.PostBKernelIdeal.main (F := Ideal))) ⟨m, fun _ => 0, g⟩ (fun r => (∀ c : Dev Cert.PostBKernelIdeal.nD,
      r.2.mem ((c.tc : Thread Cert.PostBKernelIdeal.nD Cert.PostBKernelIdeal.τ).loc Cert.PostBKernelIdeal.main_arg0) = m ((c.tc : Thread Cert.PostBKernelIdeal.nD Cert.PostBKernelIdeal.τ).loc Cert.PostBKernelIdeal.main_arg0)
      ∧ r.2.mem ((c.tc : Thread Cert.PostBKernelIdeal.nD Cert.PostBKernelIdeal.τ).loc Cert.PostBKernelIdeal.main_arg1) = m ((c.tc : Thread Cert.PostBKernelIdeal.nD Cert.PostBKernelIdeal.τ).loc Cert.PostBKernelIdeal.main_arg1)
      ∧ r.2.mem ((c.tc : Thread Cert.PostBKernelIdeal.nD Cert.PostBKernelIdeal.τ).loc Cert.PostBKernelIdeal.main_arg2) = m ((c.tc : Thread Cert.PostBKernelIdeal.nD Cert.PostBKernelIdeal.τ).loc Cert.PostBKernelIdeal.main_arg2)
      ∧ r.2.mem ((c.tc : Thread Cert.PostBKernelIdeal.nD Cert.PostBKernelIdeal.τ).loc Cert.PostBKernelIdeal.main_arg3) = m ((c.tc : Thread Cert.PostBKernelIdeal.nD Cert.PostBKernelIdeal.τ).loc Cert.PostBKernelIdeal.main_arg3)
      ∧ r.2.mem ((c.tc : Thread Cert.PostBKernelIdeal.nD Cert.PostBKernelIdeal.τ).loc Cert.PostBKernelIdeal.main_arg4) = m ((c.tc : Thread Cert.PostBKernelIdeal.nD Cert.PostBKernelIdeal.τ).loc Cert.PostBKernelIdeal.main_arg4)
      ∧ r.2.mem ((c.tc : Thread Cert.PostBKernelIdeal.nD Cert.PostBKernelIdeal.τ).loc Cert.PostBKernelIdeal.main_arg5) = m ((c.tc : Thread Cert.PostBKernelIdeal.nD Cert.PostBKernelIdeal.τ).loc Cert.PostBKernelIdeal.main_arg5)
      ∧ r.2.mem ((c.tc : Thread Cert.PostBKernelIdeal.nD Cert.PostBKernelIdeal.τ).loc Cert.PostBKernelIdeal.main_arg6) = m ((c.tc : Thread Cert.PostBKernelIdeal.nD Cert.PostBKernelIdeal.τ).loc Cert.PostBKernelIdeal.main_arg6)
      ∧ r.2.mem ((c.tc : Thread Cert.PostBKernelIdeal.nD Cert.PostBKernelIdeal.τ).loc Cert.PostBKernelIdeal.main_arg7) = m ((c.tc : Thread Cert.PostBKernelIdeal.nD Cert.PostBKernelIdeal.τ).loc Cert.PostBKernelIdeal.main_arg7))
      ∧ r.2.sem = fun _ => 0)

def quiescent_PostBReferenceIdeal [hPostBReferenceIdeal : Cert.PostBReferenceIdeal.Facts] : Prop :=
  ∀ (m : (ℓ : Loc Cert.PostBReferenceIdeal.nD Cert.PostBReferenceIdeal.τ Cert.PostBReferenceIdeal.sig) → Buf (Elt Ideal) ℓ) (g : Dev Cert.PostBReferenceIdeal.nD → PrngReg), Pre_PostBReferenceIdeal m →
    θ_run (Cert.PostBReferenceIdeal.defs (F := Ideal)) (onTc (τ := Cert.PostBReferenceIdeal.τ) (Cert.PostBReferenceIdeal.main (F := Ideal))) ⟨m, fun _ => 0, g⟩ (fun r => (∀ c : Dev Cert.PostBReferenceIdeal.nD,
      r.2.mem ((c.tc : Thread Cert.PostBReferenceIdeal.nD Cert.PostBReferenceIdeal.τ).loc Cert.PostBReferenceIdeal.main_arg0) = m ((c.tc : Thread Cert.PostBReferenceIdeal.nD Cert.PostBReferenceIdeal.τ).loc Cert.PostBReferenceIdeal.main_arg0)
      ∧ r.2.mem ((c.tc : Thread Cert.PostBReferenceIdeal.nD Cert.PostBReferenceIdeal.τ).loc Cert.PostBReferenceIdeal.main_arg1) = m ((c.tc : Thread Cert.PostBReferenceIdeal.nD Cert.PostBReferenceIdeal.τ).loc Cert.PostBReferenceIdeal.main_arg1)
      ∧ r.2.mem ((c.tc : Thread Cert.PostBReferenceIdeal.nD Cert.PostBReferenceIdeal.τ).loc Cert.PostBReferenceIdeal.main_arg2) = m ((c.tc : Thread Cert.PostBReferenceIdeal.nD Cert.PostBReferenceIdeal.τ).loc Cert.PostBReferenceIdeal.main_arg2)
      ∧ r.2.mem ((c.tc : Thread Cert.PostBReferenceIdeal.nD Cert.PostBReferenceIdeal.τ).loc Cert.PostBReferenceIdeal.main_arg3) = m ((c.tc : Thread Cert.PostBReferenceIdeal.nD Cert.PostBReferenceIdeal.τ).loc Cert.PostBReferenceIdeal.main_arg3)
      ∧ r.2.mem ((c.tc : Thread Cert.PostBReferenceIdeal.nD Cert.PostBReferenceIdeal.τ).loc Cert.PostBReferenceIdeal.main_arg4) = m ((c.tc : Thread Cert.PostBReferenceIdeal.nD Cert.PostBReferenceIdeal.τ).loc Cert.PostBReferenceIdeal.main_arg4)
      ∧ r.2.mem ((c.tc : Thread Cert.PostBReferenceIdeal.nD Cert.PostBReferenceIdeal.τ).loc Cert.PostBReferenceIdeal.main_arg5) = m ((c.tc : Thread Cert.PostBReferenceIdeal.nD Cert.PostBReferenceIdeal.τ).loc Cert.PostBReferenceIdeal.main_arg5)
      ∧ r.2.mem ((c.tc : Thread Cert.PostBReferenceIdeal.nD Cert.PostBReferenceIdeal.τ).loc Cert.PostBReferenceIdeal.main_arg6) = m ((c.tc : Thread Cert.PostBReferenceIdeal.nD Cert.PostBReferenceIdeal.τ).loc Cert.PostBReferenceIdeal.main_arg6)
      ∧ r.2.mem ((c.tc : Thread Cert.PostBReferenceIdeal.nD Cert.PostBReferenceIdeal.τ).loc Cert.PostBReferenceIdeal.main_arg7) = m ((c.tc : Thread Cert.PostBReferenceIdeal.nD Cert.PostBReferenceIdeal.τ).loc Cert.PostBReferenceIdeal.main_arg7))
      ∧ r.2.sem = fun _ => 0)

def quiescent_PostBZeroKernel [hPostBZeroKernel : Cert.PostBZeroKernel.Facts] : Prop :=
  ∀ (m : (ℓ : Loc Cert.PostBZeroKernel.nD Cert.PostBZeroKernel.τ Cert.PostBZeroKernel.sig) → Buf (Elt Bits) ℓ) (g : Dev Cert.PostBZeroKernel.nD → PrngReg), Pre_PostBZeroKernel m →
    θ_run (Cert.PostBZeroKernel.defs (F := Bits)) (onTc (τ := Cert.PostBZeroKernel.τ) (Cert.PostBZeroKernel.main (F := Bits))) ⟨m, fun _ => 0, g⟩ (fun r => (∀ c : Dev Cert.PostBZeroKernel.nD,
      r.2.mem ((c.tc : Thread Cert.PostBZeroKernel.nD Cert.PostBZeroKernel.τ).loc Cert.PostBZeroKernel.main_arg0) = m ((c.tc : Thread Cert.PostBZeroKernel.nD Cert.PostBZeroKernel.τ).loc Cert.PostBZeroKernel.main_arg0)
      ∧ r.2.mem ((c.tc : Thread Cert.PostBZeroKernel.nD Cert.PostBZeroKernel.τ).loc Cert.PostBZeroKernel.main_arg1) = m ((c.tc : Thread Cert.PostBZeroKernel.nD Cert.PostBZeroKernel.τ).loc Cert.PostBZeroKernel.main_arg1)
      ∧ r.2.mem ((c.tc : Thread Cert.PostBZeroKernel.nD Cert.PostBZeroKernel.τ).loc Cert.PostBZeroKernel.main_arg2) = m ((c.tc : Thread Cert.PostBZeroKernel.nD Cert.PostBZeroKernel.τ).loc Cert.PostBZeroKernel.main_arg2)
      ∧ r.2.mem ((c.tc : Thread Cert.PostBZeroKernel.nD Cert.PostBZeroKernel.τ).loc Cert.PostBZeroKernel.main_arg3) = m ((c.tc : Thread Cert.PostBZeroKernel.nD Cert.PostBZeroKernel.τ).loc Cert.PostBZeroKernel.main_arg3)
      ∧ r.2.mem ((c.tc : Thread Cert.PostBZeroKernel.nD Cert.PostBZeroKernel.τ).loc Cert.PostBZeroKernel.main_arg4) = m ((c.tc : Thread Cert.PostBZeroKernel.nD Cert.PostBZeroKernel.τ).loc Cert.PostBZeroKernel.main_arg4)
      ∧ r.2.mem ((c.tc : Thread Cert.PostBZeroKernel.nD Cert.PostBZeroKernel.τ).loc Cert.PostBZeroKernel.main_arg5) = m ((c.tc : Thread Cert.PostBZeroKernel.nD Cert.PostBZeroKernel.τ).loc Cert.PostBZeroKernel.main_arg5)
      ∧ r.2.mem ((c.tc : Thread Cert.PostBZeroKernel.nD Cert.PostBZeroKernel.τ).loc Cert.PostBZeroKernel.main_arg6) = m ((c.tc : Thread Cert.PostBZeroKernel.nD Cert.PostBZeroKernel.τ).loc Cert.PostBZeroKernel.main_arg6)
      ∧ r.2.mem ((c.tc : Thread Cert.PostBZeroKernel.nD Cert.PostBZeroKernel.τ).loc Cert.PostBZeroKernel.main_arg7) = m ((c.tc : Thread Cert.PostBZeroKernel.nD Cert.PostBZeroKernel.τ).loc Cert.PostBZeroKernel.main_arg7))
      ∧ r.2.sem = fun _ => 0)

def quiescent_PostBZeroKernelIdeal [hPostBZeroKernelIdeal : Cert.PostBZeroKernelIdeal.Facts] : Prop :=
  ∀ (m : (ℓ : Loc Cert.PostBZeroKernelIdeal.nD Cert.PostBZeroKernelIdeal.τ Cert.PostBZeroKernelIdeal.sig) → Buf (Elt Ideal) ℓ) (g : Dev Cert.PostBZeroKernelIdeal.nD → PrngReg), Pre_PostBZeroKernelIdeal m →
    θ_run (Cert.PostBZeroKernelIdeal.defs (F := Ideal)) (onTc (τ := Cert.PostBZeroKernelIdeal.τ) (Cert.PostBZeroKernelIdeal.main (F := Ideal))) ⟨m, fun _ => 0, g⟩ (fun r => (∀ c : Dev Cert.PostBZeroKernelIdeal.nD,
      r.2.mem ((c.tc : Thread Cert.PostBZeroKernelIdeal.nD Cert.PostBZeroKernelIdeal.τ).loc Cert.PostBZeroKernelIdeal.main_arg0) = m ((c.tc : Thread Cert.PostBZeroKernelIdeal.nD Cert.PostBZeroKernelIdeal.τ).loc Cert.PostBZeroKernelIdeal.main_arg0)
      ∧ r.2.mem ((c.tc : Thread Cert.PostBZeroKernelIdeal.nD Cert.PostBZeroKernelIdeal.τ).loc Cert.PostBZeroKernelIdeal.main_arg1) = m ((c.tc : Thread Cert.PostBZeroKernelIdeal.nD Cert.PostBZeroKernelIdeal.τ).loc Cert.PostBZeroKernelIdeal.main_arg1)
      ∧ r.2.mem ((c.tc : Thread Cert.PostBZeroKernelIdeal.nD Cert.PostBZeroKernelIdeal.τ).loc Cert.PostBZeroKernelIdeal.main_arg2) = m ((c.tc : Thread Cert.PostBZeroKernelIdeal.nD Cert.PostBZeroKernelIdeal.τ).loc Cert.PostBZeroKernelIdeal.main_arg2)
      ∧ r.2.mem ((c.tc : Thread Cert.PostBZeroKernelIdeal.nD Cert.PostBZeroKernelIdeal.τ).loc Cert.PostBZeroKernelIdeal.main_arg3) = m ((c.tc : Thread Cert.PostBZeroKernelIdeal.nD Cert.PostBZeroKernelIdeal.τ).loc Cert.PostBZeroKernelIdeal.main_arg3)
      ∧ r.2.mem ((c.tc : Thread Cert.PostBZeroKernelIdeal.nD Cert.PostBZeroKernelIdeal.τ).loc Cert.PostBZeroKernelIdeal.main_arg4) = m ((c.tc : Thread Cert.PostBZeroKernelIdeal.nD Cert.PostBZeroKernelIdeal.τ).loc Cert.PostBZeroKernelIdeal.main_arg4)
      ∧ r.2.mem ((c.tc : Thread Cert.PostBZeroKernelIdeal.nD Cert.PostBZeroKernelIdeal.τ).loc Cert.PostBZeroKernelIdeal.main_arg5) = m ((c.tc : Thread Cert.PostBZeroKernelIdeal.nD Cert.PostBZeroKernelIdeal.τ).loc Cert.PostBZeroKernelIdeal.main_arg5)
      ∧ r.2.mem ((c.tc : Thread Cert.PostBZeroKernelIdeal.nD Cert.PostBZeroKernelIdeal.τ).loc Cert.PostBZeroKernelIdeal.main_arg6) = m ((c.tc : Thread Cert.PostBZeroKernelIdeal.nD Cert.PostBZeroKernelIdeal.τ).loc Cert.PostBZeroKernelIdeal.main_arg6)
      ∧ r.2.mem ((c.tc : Thread Cert.PostBZeroKernelIdeal.nD Cert.PostBZeroKernelIdeal.τ).loc Cert.PostBZeroKernelIdeal.main_arg7) = m ((c.tc : Thread Cert.PostBZeroKernelIdeal.nD Cert.PostBZeroKernelIdeal.τ).loc Cert.PostBZeroKernelIdeal.main_arg7))
      ∧ r.2.sem = fun _ => 0)

def quiescent_ResPreBZeroKernel [hResPreBZeroKernel : Cert.ResPreBZeroKernel.Facts] : Prop :=
  ∀ (m : (ℓ : Loc Cert.ResPreBZeroKernel.nD Cert.ResPreBZeroKernel.τ Cert.ResPreBZeroKernel.sig) → Buf (Elt Bits) ℓ) (g : Dev Cert.ResPreBZeroKernel.nD → PrngReg), Pre_ResPreBZeroKernel m →
    θ_run (Cert.ResPreBZeroKernel.defs (F := Bits)) (onTc (τ := Cert.ResPreBZeroKernel.τ) (Cert.ResPreBZeroKernel.main (F := Bits))) ⟨m, fun _ => 0, g⟩ (fun r => (∀ c : Dev Cert.ResPreBZeroKernel.nD,
      r.2.mem ((c.tc : Thread Cert.ResPreBZeroKernel.nD Cert.ResPreBZeroKernel.τ).loc Cert.ResPreBZeroKernel.main_arg0) = m ((c.tc : Thread Cert.ResPreBZeroKernel.nD Cert.ResPreBZeroKernel.τ).loc Cert.ResPreBZeroKernel.main_arg0)
      ∧ r.2.mem ((c.tc : Thread Cert.ResPreBZeroKernel.nD Cert.ResPreBZeroKernel.τ).loc Cert.ResPreBZeroKernel.main_arg1) = m ((c.tc : Thread Cert.ResPreBZeroKernel.nD Cert.ResPreBZeroKernel.τ).loc Cert.ResPreBZeroKernel.main_arg1)
      ∧ r.2.mem ((c.tc : Thread Cert.ResPreBZeroKernel.nD Cert.ResPreBZeroKernel.τ).loc Cert.ResPreBZeroKernel.main_arg2) = m ((c.tc : Thread Cert.ResPreBZeroKernel.nD Cert.ResPreBZeroKernel.τ).loc Cert.ResPreBZeroKernel.main_arg2)
      ∧ r.2.mem ((c.tc : Thread Cert.ResPreBZeroKernel.nD Cert.ResPreBZeroKernel.τ).loc Cert.ResPreBZeroKernel.main_arg3) = m ((c.tc : Thread Cert.ResPreBZeroKernel.nD Cert.ResPreBZeroKernel.τ).loc Cert.ResPreBZeroKernel.main_arg3)
      ∧ r.2.mem ((c.tc : Thread Cert.ResPreBZeroKernel.nD Cert.ResPreBZeroKernel.τ).loc Cert.ResPreBZeroKernel.main_arg4) = m ((c.tc : Thread Cert.ResPreBZeroKernel.nD Cert.ResPreBZeroKernel.τ).loc Cert.ResPreBZeroKernel.main_arg4)
      ∧ r.2.mem ((c.tc : Thread Cert.ResPreBZeroKernel.nD Cert.ResPreBZeroKernel.τ).loc Cert.ResPreBZeroKernel.main_arg5) = m ((c.tc : Thread Cert.ResPreBZeroKernel.nD Cert.ResPreBZeroKernel.τ).loc Cert.ResPreBZeroKernel.main_arg5)
      ∧ r.2.mem ((c.tc : Thread Cert.ResPreBZeroKernel.nD Cert.ResPreBZeroKernel.τ).loc Cert.ResPreBZeroKernel.main_arg6) = m ((c.tc : Thread Cert.ResPreBZeroKernel.nD Cert.ResPreBZeroKernel.τ).loc Cert.ResPreBZeroKernel.main_arg6)
      ∧ r.2.mem ((c.tc : Thread Cert.ResPreBZeroKernel.nD Cert.ResPreBZeroKernel.τ).loc Cert.ResPreBZeroKernel.main_arg7) = m ((c.tc : Thread Cert.ResPreBZeroKernel.nD Cert.ResPreBZeroKernel.τ).loc Cert.ResPreBZeroKernel.main_arg7))
      ∧ r.2.sem = fun _ => 0)

def quiescent_ResPreBZeroKernelIdeal [hResPreBZeroKernelIdeal : Cert.ResPreBZeroKernelIdeal.Facts] : Prop :=
  ∀ (m : (ℓ : Loc Cert.ResPreBZeroKernelIdeal.nD Cert.ResPreBZeroKernelIdeal.τ Cert.ResPreBZeroKernelIdeal.sig) → Buf (Elt Ideal) ℓ) (g : Dev Cert.ResPreBZeroKernelIdeal.nD → PrngReg), Pre_ResPreBZeroKernelIdeal m →
    θ_run (Cert.ResPreBZeroKernelIdeal.defs (F := Ideal)) (onTc (τ := Cert.ResPreBZeroKernelIdeal.τ) (Cert.ResPreBZeroKernelIdeal.main (F := Ideal))) ⟨m, fun _ => 0, g⟩ (fun r => (∀ c : Dev Cert.ResPreBZeroKernelIdeal.nD,
      r.2.mem ((c.tc : Thread Cert.ResPreBZeroKernelIdeal.nD Cert.ResPreBZeroKernelIdeal.τ).loc Cert.ResPreBZeroKernelIdeal.main_arg0) = m ((c.tc : Thread Cert.ResPreBZeroKernelIdeal.nD Cert.ResPreBZeroKernelIdeal.τ).loc Cert.ResPreBZeroKernelIdeal.main_arg0)
      ∧ r.2.mem ((c.tc : Thread Cert.ResPreBZeroKernelIdeal.nD Cert.ResPreBZeroKernelIdeal.τ).loc Cert.ResPreBZeroKernelIdeal.main_arg1) = m ((c.tc : Thread Cert.ResPreBZeroKernelIdeal.nD Cert.ResPreBZeroKernelIdeal.τ).loc Cert.ResPreBZeroKernelIdeal.main_arg1)
      ∧ r.2.mem ((c.tc : Thread Cert.ResPreBZeroKernelIdeal.nD Cert.ResPreBZeroKernelIdeal.τ).loc Cert.ResPreBZeroKernelIdeal.main_arg2) = m ((c.tc : Thread Cert.ResPreBZeroKernelIdeal.nD Cert.ResPreBZeroKernelIdeal.τ).loc Cert.ResPreBZeroKernelIdeal.main_arg2)
      ∧ r.2.mem ((c.tc : Thread Cert.ResPreBZeroKernelIdeal.nD Cert.ResPreBZeroKernelIdeal.τ).loc Cert.ResPreBZeroKernelIdeal.main_arg3) = m ((c.tc : Thread Cert.ResPreBZeroKernelIdeal.nD Cert.ResPreBZeroKernelIdeal.τ).loc Cert.ResPreBZeroKernelIdeal.main_arg3)
      ∧ r.2.mem ((c.tc : Thread Cert.ResPreBZeroKernelIdeal.nD Cert.ResPreBZeroKernelIdeal.τ).loc Cert.ResPreBZeroKernelIdeal.main_arg4) = m ((c.tc : Thread Cert.ResPreBZeroKernelIdeal.nD Cert.ResPreBZeroKernelIdeal.τ).loc Cert.ResPreBZeroKernelIdeal.main_arg4)
      ∧ r.2.mem ((c.tc : Thread Cert.ResPreBZeroKernelIdeal.nD Cert.ResPreBZeroKernelIdeal.τ).loc Cert.ResPreBZeroKernelIdeal.main_arg5) = m ((c.tc : Thread Cert.ResPreBZeroKernelIdeal.nD Cert.ResPreBZeroKernelIdeal.τ).loc Cert.ResPreBZeroKernelIdeal.main_arg5)
      ∧ r.2.mem ((c.tc : Thread Cert.ResPreBZeroKernelIdeal.nD Cert.ResPreBZeroKernelIdeal.τ).loc Cert.ResPreBZeroKernelIdeal.main_arg6) = m ((c.tc : Thread Cert.ResPreBZeroKernelIdeal.nD Cert.ResPreBZeroKernelIdeal.τ).loc Cert.ResPreBZeroKernelIdeal.main_arg6)
      ∧ r.2.mem ((c.tc : Thread Cert.ResPreBZeroKernelIdeal.nD Cert.ResPreBZeroKernelIdeal.τ).loc Cert.ResPreBZeroKernelIdeal.main_arg7) = m ((c.tc : Thread Cert.ResPreBZeroKernelIdeal.nD Cert.ResPreBZeroKernelIdeal.τ).loc Cert.ResPreBZeroKernelIdeal.main_arg7))
      ∧ r.2.sem = fun _ => 0)

def quiescent_ResBKernel [hResBKernel : Cert.ResBKernel.Facts] : Prop :=
  ∀ (m : (ℓ : Loc Cert.ResBKernel.nD Cert.ResBKernel.τ Cert.ResBKernel.sig) → Buf (Elt Bits) ℓ) (g : Dev Cert.ResBKernel.nD → PrngReg), Pre_ResBKernel m →
    θ_run (Cert.ResBKernel.defs (F := Bits)) (onTc (τ := Cert.ResBKernel.τ) (Cert.ResBKernel.main (F := Bits))) ⟨m, fun _ => 0, g⟩ (fun r => (∀ c : Dev Cert.ResBKernel.nD,
      r.2.mem ((c.tc : Thread Cert.ResBKernel.nD Cert.ResBKernel.τ).loc Cert.ResBKernel.main_arg0) = m ((c.tc : Thread Cert.ResBKernel.nD Cert.ResBKernel.τ).loc Cert.ResBKernel.main_arg0)
      ∧ r.2.mem ((c.tc : Thread Cert.ResBKernel.nD Cert.ResBKernel.τ).loc Cert.ResBKernel.main_arg1) = m ((c.tc : Thread Cert.ResBKernel.nD Cert.ResBKernel.τ).loc Cert.ResBKernel.main_arg1)
      ∧ r.2.mem ((c.tc : Thread Cert.ResBKernel.nD Cert.ResBKernel.τ).loc Cert.ResBKernel.main_arg2) = m ((c.tc : Thread Cert.ResBKernel.nD Cert.ResBKernel.τ).loc Cert.ResBKernel.main_arg2)
      ∧ r.2.mem ((c.tc : Thread Cert.ResBKernel.nD Cert.ResBKernel.τ).loc Cert.ResBKernel.main_arg3) = m ((c.tc : Thread Cert.ResBKernel.nD Cert.ResBKernel.τ).loc Cert.ResBKernel.main_arg3))
      ∧ r.2.sem = fun _ => 0)

def quiescent_ResBKernelIdeal [hResBKernelIdeal : Cert.ResBKernelIdeal.Facts] : Prop :=
  ∀ (m : (ℓ : Loc Cert.ResBKernelIdeal.nD Cert.ResBKernelIdeal.τ Cert.ResBKernelIdeal.sig) → Buf (Elt Ideal) ℓ) (g : Dev Cert.ResBKernelIdeal.nD → PrngReg), Pre_ResBKernelIdeal m →
    θ_run (Cert.ResBKernelIdeal.defs (F := Ideal)) (onTc (τ := Cert.ResBKernelIdeal.τ) (Cert.ResBKernelIdeal.main (F := Ideal))) ⟨m, fun _ => 0, g⟩ (fun r => (∀ c : Dev Cert.ResBKernelIdeal.nD,
      r.2.mem ((c.tc : Thread Cert.ResBKernelIdeal.nD Cert.ResBKernelIdeal.τ).loc Cert.ResBKernelIdeal.main_arg0) = m ((c.tc : Thread Cert.ResBKernelIdeal.nD Cert.ResBKernelIdeal.τ).loc Cert.ResBKernelIdeal.main_arg0)
      ∧ r.2.mem ((c.tc : Thread Cert.ResBKernelIdeal.nD Cert.ResBKernelIdeal.τ).loc Cert.ResBKernelIdeal.main_arg1) = m ((c.tc : Thread Cert.ResBKernelIdeal.nD Cert.ResBKernelIdeal.τ).loc Cert.ResBKernelIdeal.main_arg1)
      ∧ r.2.mem ((c.tc : Thread Cert.ResBKernelIdeal.nD Cert.ResBKernelIdeal.τ).loc Cert.ResBKernelIdeal.main_arg2) = m ((c.tc : Thread Cert.ResBKernelIdeal.nD Cert.ResBKernelIdeal.τ).loc Cert.ResBKernelIdeal.main_arg2)
      ∧ r.2.mem ((c.tc : Thread Cert.ResBKernelIdeal.nD Cert.ResBKernelIdeal.τ).loc Cert.ResBKernelIdeal.main_arg3) = m ((c.tc : Thread Cert.ResBKernelIdeal.nD Cert.ResBKernelIdeal.τ).loc Cert.ResBKernelIdeal.main_arg3))
      ∧ r.2.sem = fun _ => 0)

def quiescent_ResBReferenceIdeal [hResBReferenceIdeal : Cert.ResBReferenceIdeal.Facts] : Prop :=
  ∀ (m : (ℓ : Loc Cert.ResBReferenceIdeal.nD Cert.ResBReferenceIdeal.τ Cert.ResBReferenceIdeal.sig) → Buf (Elt Ideal) ℓ) (g : Dev Cert.ResBReferenceIdeal.nD → PrngReg), Pre_ResBReferenceIdeal m →
    θ_run (Cert.ResBReferenceIdeal.defs (F := Ideal)) (onTc (τ := Cert.ResBReferenceIdeal.τ) (Cert.ResBReferenceIdeal.main (F := Ideal))) ⟨m, fun _ => 0, g⟩ (fun r => (∀ c : Dev Cert.ResBReferenceIdeal.nD,
      r.2.mem ((c.tc : Thread Cert.ResBReferenceIdeal.nD Cert.ResBReferenceIdeal.τ).loc Cert.ResBReferenceIdeal.main_arg0) = m ((c.tc : Thread Cert.ResBReferenceIdeal.nD Cert.ResBReferenceIdeal.τ).loc Cert.ResBReferenceIdeal.main_arg0)
      ∧ r.2.mem ((c.tc : Thread Cert.ResBReferenceIdeal.nD Cert.ResBReferenceIdeal.τ).loc Cert.ResBReferenceIdeal.main_arg1) = m ((c.tc : Thread Cert.ResBReferenceIdeal.nD Cert.ResBReferenceIdeal.τ).loc Cert.ResBReferenceIdeal.main_arg1)
      ∧ r.2.mem ((c.tc : Thread Cert.ResBReferenceIdeal.nD Cert.ResBReferenceIdeal.τ).loc Cert.ResBReferenceIdeal.main_arg2) = m ((c.tc : Thread Cert.ResBReferenceIdeal.nD Cert.ResBReferenceIdeal.τ).loc Cert.ResBReferenceIdeal.main_arg2)
      ∧ r.2.mem ((c.tc : Thread Cert.ResBReferenceIdeal.nD Cert.ResBReferenceIdeal.τ).loc Cert.ResBReferenceIdeal.main_arg3) = m ((c.tc : Thread Cert.ResBReferenceIdeal.nD Cert.ResBReferenceIdeal.τ).loc Cert.ResBReferenceIdeal.main_arg3))
      ∧ r.2.sem = fun _ => 0)

def quiescent_PostKernel [hPostKernel : Cert.PostKernel.Facts] : Prop :=
  ∀ (m : (ℓ : Loc Cert.PostKernel.nD Cert.PostKernel.τ Cert.PostKernel.sig) → Buf (Elt Bits) ℓ) (g : Dev Cert.PostKernel.nD → PrngReg), Pre_PostKernel m →
    θ_run (Cert.PostKernel.defs (F := Bits)) (onTc (τ := Cert.PostKernel.τ) (Cert.PostKernel.main (F := Bits))) ⟨m, fun _ => 0, g⟩ (fun r => (∀ c : Dev Cert.PostKernel.nD,
      r.2.mem ((c.tc : Thread Cert.PostKernel.nD Cert.PostKernel.τ).loc Cert.PostKernel.main_arg0) = m ((c.tc : Thread Cert.PostKernel.nD Cert.PostKernel.τ).loc Cert.PostKernel.main_arg0)
      ∧ r.2.mem ((c.tc : Thread Cert.PostKernel.nD Cert.PostKernel.τ).loc Cert.PostKernel.main_arg1) = m ((c.tc : Thread Cert.PostKernel.nD Cert.PostKernel.τ).loc Cert.PostKernel.main_arg1)
      ∧ r.2.mem ((c.tc : Thread Cert.PostKernel.nD Cert.PostKernel.τ).loc Cert.PostKernel.main_arg2) = m ((c.tc : Thread Cert.PostKernel.nD Cert.PostKernel.τ).loc Cert.PostKernel.main_arg2)
      ∧ r.2.mem ((c.tc : Thread Cert.PostKernel.nD Cert.PostKernel.τ).loc Cert.PostKernel.main_arg3) = m ((c.tc : Thread Cert.PostKernel.nD Cert.PostKernel.τ).loc Cert.PostKernel.main_arg3)
      ∧ r.2.mem ((c.tc : Thread Cert.PostKernel.nD Cert.PostKernel.τ).loc Cert.PostKernel.main_arg4) = m ((c.tc : Thread Cert.PostKernel.nD Cert.PostKernel.τ).loc Cert.PostKernel.main_arg4)
      ∧ r.2.mem ((c.tc : Thread Cert.PostKernel.nD Cert.PostKernel.τ).loc Cert.PostKernel.main_arg5) = m ((c.tc : Thread Cert.PostKernel.nD Cert.PostKernel.τ).loc Cert.PostKernel.main_arg5))
      ∧ r.2.sem = fun _ => 0)

def quiescent_PostKernelIdeal [hPostKernelIdeal : Cert.PostKernelIdeal.Facts] : Prop :=
  ∀ (m : (ℓ : Loc Cert.PostKernelIdeal.nD Cert.PostKernelIdeal.τ Cert.PostKernelIdeal.sig) → Buf (Elt Ideal) ℓ) (g : Dev Cert.PostKernelIdeal.nD → PrngReg), Pre_PostKernelIdeal m →
    θ_run (Cert.PostKernelIdeal.defs (F := Ideal)) (onTc (τ := Cert.PostKernelIdeal.τ) (Cert.PostKernelIdeal.main (F := Ideal))) ⟨m, fun _ => 0, g⟩ (fun r => (∀ c : Dev Cert.PostKernelIdeal.nD,
      r.2.mem ((c.tc : Thread Cert.PostKernelIdeal.nD Cert.PostKernelIdeal.τ).loc Cert.PostKernelIdeal.main_arg0) = m ((c.tc : Thread Cert.PostKernelIdeal.nD Cert.PostKernelIdeal.τ).loc Cert.PostKernelIdeal.main_arg0)
      ∧ r.2.mem ((c.tc : Thread Cert.PostKernelIdeal.nD Cert.PostKernelIdeal.τ).loc Cert.PostKernelIdeal.main_arg1) = m ((c.tc : Thread Cert.PostKernelIdeal.nD Cert.PostKernelIdeal.τ).loc Cert.PostKernelIdeal.main_arg1)
      ∧ r.2.mem ((c.tc : Thread Cert.PostKernelIdeal.nD Cert.PostKernelIdeal.τ).loc Cert.PostKernelIdeal.main_arg2) = m ((c.tc : Thread Cert.PostKernelIdeal.nD Cert.PostKernelIdeal.τ).loc Cert.PostKernelIdeal.main_arg2)
      ∧ r.2.mem ((c.tc : Thread Cert.PostKernelIdeal.nD Cert.PostKernelIdeal.τ).loc Cert.PostKernelIdeal.main_arg3) = m ((c.tc : Thread Cert.PostKernelIdeal.nD Cert.PostKernelIdeal.τ).loc Cert.PostKernelIdeal.main_arg3)
      ∧ r.2.mem ((c.tc : Thread Cert.PostKernelIdeal.nD Cert.PostKernelIdeal.τ).loc Cert.PostKernelIdeal.main_arg4) = m ((c.tc : Thread Cert.PostKernelIdeal.nD Cert.PostKernelIdeal.τ).loc Cert.PostKernelIdeal.main_arg4)
      ∧ r.2.mem ((c.tc : Thread Cert.PostKernelIdeal.nD Cert.PostKernelIdeal.τ).loc Cert.PostKernelIdeal.main_arg5) = m ((c.tc : Thread Cert.PostKernelIdeal.nD Cert.PostKernelIdeal.τ).loc Cert.PostKernelIdeal.main_arg5))
      ∧ r.2.sem = fun _ => 0)

def quiescent_PostReferenceIdeal [hPostReferenceIdeal : Cert.PostReferenceIdeal.Facts] : Prop :=
  ∀ (m : (ℓ : Loc Cert.PostReferenceIdeal.nD Cert.PostReferenceIdeal.τ Cert.PostReferenceIdeal.sig) → Buf (Elt Ideal) ℓ) (g : Dev Cert.PostReferenceIdeal.nD → PrngReg), Pre_PostReferenceIdeal m →
    θ_run (Cert.PostReferenceIdeal.defs (F := Ideal)) (onTc (τ := Cert.PostReferenceIdeal.τ) (Cert.PostReferenceIdeal.main (F := Ideal))) ⟨m, fun _ => 0, g⟩ (fun r => (∀ c : Dev Cert.PostReferenceIdeal.nD,
      r.2.mem ((c.tc : Thread Cert.PostReferenceIdeal.nD Cert.PostReferenceIdeal.τ).loc Cert.PostReferenceIdeal.main_arg0) = m ((c.tc : Thread Cert.PostReferenceIdeal.nD Cert.PostReferenceIdeal.τ).loc Cert.PostReferenceIdeal.main_arg0)
      ∧ r.2.mem ((c.tc : Thread Cert.PostReferenceIdeal.nD Cert.PostReferenceIdeal.τ).loc Cert.PostReferenceIdeal.main_arg1) = m ((c.tc : Thread Cert.PostReferenceIdeal.nD Cert.PostReferenceIdeal.τ).loc Cert.PostReferenceIdeal.main_arg1)
      ∧ r.2.mem ((c.tc : Thread Cert.PostReferenceIdeal.nD Cert.PostReferenceIdeal.τ).loc Cert.PostReferenceIdeal.main_arg2) = m ((c.tc : Thread Cert.PostReferenceIdeal.nD Cert.PostReferenceIdeal.τ).loc Cert.PostReferenceIdeal.main_arg2)
      ∧ r.2.mem ((c.tc : Thread Cert.PostReferenceIdeal.nD Cert.PostReferenceIdeal.τ).loc Cert.PostReferenceIdeal.main_arg3) = m ((c.tc : Thread Cert.PostReferenceIdeal.nD Cert.PostReferenceIdeal.τ).loc Cert.PostReferenceIdeal.main_arg3)
      ∧ r.2.mem ((c.tc : Thread Cert.PostReferenceIdeal.nD Cert.PostReferenceIdeal.τ).loc Cert.PostReferenceIdeal.main_arg4) = m ((c.tc : Thread Cert.PostReferenceIdeal.nD Cert.PostReferenceIdeal.τ).loc Cert.PostReferenceIdeal.main_arg4)
      ∧ r.2.mem ((c.tc : Thread Cert.PostReferenceIdeal.nD Cert.PostReferenceIdeal.τ).loc Cert.PostReferenceIdeal.main_arg5) = m ((c.tc : Thread Cert.PostReferenceIdeal.nD Cert.PostReferenceIdeal.τ).loc Cert.PostReferenceIdeal.main_arg5))
      ∧ r.2.sem = fun _ => 0)

def quiescent_ResKernel [hResKernel : Cert.ResKernel.Facts] : Prop :=
  ∀ (m : (ℓ : Loc Cert.ResKernel.nD Cert.ResKernel.τ Cert.ResKernel.sig) → Buf (Elt Bits) ℓ) (g : Dev Cert.ResKernel.nD → PrngReg), Pre_ResKernel m →
    θ_run (Cert.ResKernel.defs (F := Bits)) (onTc (τ := Cert.ResKernel.τ) (Cert.ResKernel.main (F := Bits))) ⟨m, fun _ => 0, g⟩ (fun r => (∀ c : Dev Cert.ResKernel.nD,
      r.2.mem ((c.tc : Thread Cert.ResKernel.nD Cert.ResKernel.τ).loc Cert.ResKernel.main_arg0) = m ((c.tc : Thread Cert.ResKernel.nD Cert.ResKernel.τ).loc Cert.ResKernel.main_arg0)
      ∧ r.2.mem ((c.tc : Thread Cert.ResKernel.nD Cert.ResKernel.τ).loc Cert.ResKernel.main_arg1) = m ((c.tc : Thread Cert.ResKernel.nD Cert.ResKernel.τ).loc Cert.ResKernel.main_arg1)
      ∧ r.2.mem ((c.tc : Thread Cert.ResKernel.nD Cert.ResKernel.τ).loc Cert.ResKernel.main_arg2) = m ((c.tc : Thread Cert.ResKernel.nD Cert.ResKernel.τ).loc Cert.ResKernel.main_arg2))
      ∧ r.2.sem = fun _ => 0)

def quiescent_ResKernelIdeal [hResKernelIdeal : Cert.ResKernelIdeal.Facts] : Prop :=
  ∀ (m : (ℓ : Loc Cert.ResKernelIdeal.nD Cert.ResKernelIdeal.τ Cert.ResKernelIdeal.sig) → Buf (Elt Ideal) ℓ) (g : Dev Cert.ResKernelIdeal.nD → PrngReg), Pre_ResKernelIdeal m →
    θ_run (Cert.ResKernelIdeal.defs (F := Ideal)) (onTc (τ := Cert.ResKernelIdeal.τ) (Cert.ResKernelIdeal.main (F := Ideal))) ⟨m, fun _ => 0, g⟩ (fun r => (∀ c : Dev Cert.ResKernelIdeal.nD,
      r.2.mem ((c.tc : Thread Cert.ResKernelIdeal.nD Cert.ResKernelIdeal.τ).loc Cert.ResKernelIdeal.main_arg0) = m ((c.tc : Thread Cert.ResKernelIdeal.nD Cert.ResKernelIdeal.τ).loc Cert.ResKernelIdeal.main_arg0)
      ∧ r.2.mem ((c.tc : Thread Cert.ResKernelIdeal.nD Cert.ResKernelIdeal.τ).loc Cert.ResKernelIdeal.main_arg1) = m ((c.tc : Thread Cert.ResKernelIdeal.nD Cert.ResKernelIdeal.τ).loc Cert.ResKernelIdeal.main_arg1)
      ∧ r.2.mem ((c.tc : Thread Cert.ResKernelIdeal.nD Cert.ResKernelIdeal.τ).loc Cert.ResKernelIdeal.main_arg2) = m ((c.tc : Thread Cert.ResKernelIdeal.nD Cert.ResKernelIdeal.τ).loc Cert.ResKernelIdeal.main_arg2))
      ∧ r.2.sem = fun _ => 0)

def quiescent_ResReferenceIdeal [hResReferenceIdeal : Cert.ResReferenceIdeal.Facts] : Prop :=
  ∀ (m : (ℓ : Loc Cert.ResReferenceIdeal.nD Cert.ResReferenceIdeal.τ Cert.ResReferenceIdeal.sig) → Buf (Elt Ideal) ℓ) (g : Dev Cert.ResReferenceIdeal.nD → PrngReg), Pre_ResReferenceIdeal m →
    θ_run (Cert.ResReferenceIdeal.defs (F := Ideal)) (onTc (τ := Cert.ResReferenceIdeal.τ) (Cert.ResReferenceIdeal.main (F := Ideal))) ⟨m, fun _ => 0, g⟩ (fun r => (∀ c : Dev Cert.ResReferenceIdeal.nD,
      r.2.mem ((c.tc : Thread Cert.ResReferenceIdeal.nD Cert.ResReferenceIdeal.τ).loc Cert.ResReferenceIdeal.main_arg0) = m ((c.tc : Thread Cert.ResReferenceIdeal.nD Cert.ResReferenceIdeal.τ).loc Cert.ResReferenceIdeal.main_arg0)
      ∧ r.2.mem ((c.tc : Thread Cert.ResReferenceIdeal.nD Cert.ResReferenceIdeal.τ).loc Cert.ResReferenceIdeal.main_arg1) = m ((c.tc : Thread Cert.ResReferenceIdeal.nD Cert.ResReferenceIdeal.τ).loc Cert.ResReferenceIdeal.main_arg1)
      ∧ r.2.mem ((c.tc : Thread Cert.ResReferenceIdeal.nD Cert.ResReferenceIdeal.τ).loc Cert.ResReferenceIdeal.main_arg2) = m ((c.tc : Thread Cert.ResReferenceIdeal.nD Cert.ResReferenceIdeal.τ).loc Cert.ResReferenceIdeal.main_arg2))
      ∧ r.2.sem = fun _ => 0)

def quiescent_AdamAdaKernel [hAdamAdaKernel : Cert.AdamAdaKernel.Facts] : Prop :=
  ∀ (m : (ℓ : Loc Cert.AdamAdaKernel.nD Cert.AdamAdaKernel.τ Cert.AdamAdaKernel.sig) → Buf (Elt Bits) ℓ) (g : Dev Cert.AdamAdaKernel.nD → PrngReg), Pre_AdamAdaKernel m →
    θ_run (Cert.AdamAdaKernel.defs (F := Bits)) (onTc (τ := Cert.AdamAdaKernel.τ) (Cert.AdamAdaKernel.main (F := Bits))) ⟨m, fun _ => 0, g⟩ (fun r => (∀ c : Dev Cert.AdamAdaKernel.nD,
      r.2.mem ((c.tc : Thread Cert.AdamAdaKernel.nD Cert.AdamAdaKernel.τ).loc Cert.AdamAdaKernel.main_arg0) = m ((c.tc : Thread Cert.AdamAdaKernel.nD Cert.AdamAdaKernel.τ).loc Cert.AdamAdaKernel.main_arg0)
      ∧ r.2.mem ((c.tc : Thread Cert.AdamAdaKernel.nD Cert.AdamAdaKernel.τ).loc Cert.AdamAdaKernel.main_arg1) = m ((c.tc : Thread Cert.AdamAdaKernel.nD Cert.AdamAdaKernel.τ).loc Cert.AdamAdaKernel.main_arg1)
      ∧ r.2.mem ((c.tc : Thread Cert.AdamAdaKernel.nD Cert.AdamAdaKernel.τ).loc Cert.AdamAdaKernel.main_arg2) = m ((c.tc : Thread Cert.AdamAdaKernel.nD Cert.AdamAdaKernel.τ).loc Cert.AdamAdaKernel.main_arg2)
      ∧ r.2.mem ((c.tc : Thread Cert.AdamAdaKernel.nD Cert.AdamAdaKernel.τ).loc Cert.AdamAdaKernel.main_arg3) = m ((c.tc : Thread Cert.AdamAdaKernel.nD Cert.AdamAdaKernel.τ).loc Cert.AdamAdaKernel.main_arg3))
      ∧ r.2.sem = fun _ => 0)

def quiescent_AdamAdaKernelIdeal [hAdamAdaKernelIdeal : Cert.AdamAdaKernelIdeal.Facts] : Prop :=
  ∀ (m : (ℓ : Loc Cert.AdamAdaKernelIdeal.nD Cert.AdamAdaKernelIdeal.τ Cert.AdamAdaKernelIdeal.sig) → Buf (Elt Ideal) ℓ) (g : Dev Cert.AdamAdaKernelIdeal.nD → PrngReg), Pre_AdamAdaKernelIdeal m →
    θ_run (Cert.AdamAdaKernelIdeal.defs (F := Ideal)) (onTc (τ := Cert.AdamAdaKernelIdeal.τ) (Cert.AdamAdaKernelIdeal.main (F := Ideal))) ⟨m, fun _ => 0, g⟩ (fun r => (∀ c : Dev Cert.AdamAdaKernelIdeal.nD,
      r.2.mem ((c.tc : Thread Cert.AdamAdaKernelIdeal.nD Cert.AdamAdaKernelIdeal.τ).loc Cert.AdamAdaKernelIdeal.main_arg0) = m ((c.tc : Thread Cert.AdamAdaKernelIdeal.nD Cert.AdamAdaKernelIdeal.τ).loc Cert.AdamAdaKernelIdeal.main_arg0)
      ∧ r.2.mem ((c.tc : Thread Cert.AdamAdaKernelIdeal.nD Cert.AdamAdaKernelIdeal.τ).loc Cert.AdamAdaKernelIdeal.main_arg1) = m ((c.tc : Thread Cert.AdamAdaKernelIdeal.nD Cert.AdamAdaKernelIdeal.τ).loc Cert.AdamAdaKernelIdeal.main_arg1)
      ∧ r.2.mem ((c.tc : Thread Cert.AdamAdaKernelIdeal.nD Cert.AdamAdaKernelIdeal.τ).loc Cert.AdamAdaKernelIdeal.main_arg2) = m ((c.tc : Thread Cert.AdamAdaKernelIdeal.nD Cert.AdamAdaKernelIdeal.τ).loc Cert.AdamAdaKernelIdeal.main_arg2)
      ∧ r.2.mem ((c.tc : Thread Cert.AdamAdaKernelIdeal.nD Cert.AdamAdaKernelIdeal.τ).loc Cert.AdamAdaKernelIdeal.main_arg3) = m ((c.tc : Thread Cert.AdamAdaKernelIdeal.nD Cert.AdamAdaKernelIdeal.τ).loc Cert.AdamAdaKernelIdeal.main_arg3))
      ∧ r.2.sem = fun _ => 0)

def quiescent_AdamAdaReferenceIdeal [hAdamAdaReferenceIdeal : Cert.AdamAdaReferenceIdeal.Facts] : Prop :=
  ∀ (m : (ℓ : Loc Cert.AdamAdaReferenceIdeal.nD Cert.AdamAdaReferenceIdeal.τ Cert.AdamAdaReferenceIdeal.sig) → Buf (Elt Ideal) ℓ) (g : Dev Cert.AdamAdaReferenceIdeal.nD → PrngReg), Pre_AdamAdaReferenceIdeal m →
    θ_run (Cert.AdamAdaReferenceIdeal.defs (F := Ideal)) (onTc (τ := Cert.AdamAdaReferenceIdeal.τ) (Cert.AdamAdaReferenceIdeal.main (F := Ideal))) ⟨m, fun _ => 0, g⟩ (fun r => (∀ c : Dev Cert.AdamAdaReferenceIdeal.nD,
      r.2.mem ((c.tc : Thread Cert.AdamAdaReferenceIdeal.nD Cert.AdamAdaReferenceIdeal.τ).loc Cert.AdamAdaReferenceIdeal.main_arg0) = m ((c.tc : Thread Cert.AdamAdaReferenceIdeal.nD Cert.AdamAdaReferenceIdeal.τ).loc Cert.AdamAdaReferenceIdeal.main_arg0)
      ∧ r.2.mem ((c.tc : Thread Cert.AdamAdaReferenceIdeal.nD Cert.AdamAdaReferenceIdeal.τ).loc Cert.AdamAdaReferenceIdeal.main_arg1) = m ((c.tc : Thread Cert.AdamAdaReferenceIdeal.nD Cert.AdamAdaReferenceIdeal.τ).loc Cert.AdamAdaReferenceIdeal.main_arg1)
      ∧ r.2.mem ((c.tc : Thread Cert.AdamAdaReferenceIdeal.nD Cert.AdamAdaReferenceIdeal.τ).loc Cert.AdamAdaReferenceIdeal.main_arg2) = m ((c.tc : Thread Cert.AdamAdaReferenceIdeal.nD Cert.AdamAdaReferenceIdeal.τ).loc Cert.AdamAdaReferenceIdeal.main_arg2)
      ∧ r.2.mem ((c.tc : Thread Cert.AdamAdaReferenceIdeal.nD Cert.AdamAdaReferenceIdeal.τ).loc Cert.AdamAdaReferenceIdeal.main_arg3) = m ((c.tc : Thread Cert.AdamAdaReferenceIdeal.nD Cert.AdamAdaReferenceIdeal.τ).loc Cert.AdamAdaReferenceIdeal.main_arg3))
      ∧ r.2.sem = fun _ => 0)

def quiescent_AdamUpKernel [hAdamUpKernel : Cert.AdamUpKernel.Facts] : Prop :=
  ∀ (m : (ℓ : Loc Cert.AdamUpKernel.nD Cert.AdamUpKernel.τ Cert.AdamUpKernel.sig) → Buf (Elt Bits) ℓ) (g : Dev Cert.AdamUpKernel.nD → PrngReg), Pre_AdamUpKernel m →
    θ_run (Cert.AdamUpKernel.defs (F := Bits)) (onTc (τ := Cert.AdamUpKernel.τ) (Cert.AdamUpKernel.main (F := Bits))) ⟨m, fun _ => 0, g⟩ (fun r => (∀ c : Dev Cert.AdamUpKernel.nD,
      r.2.mem ((c.tc : Thread Cert.AdamUpKernel.nD Cert.AdamUpKernel.τ).loc Cert.AdamUpKernel.main_arg0) = m ((c.tc : Thread Cert.AdamUpKernel.nD Cert.AdamUpKernel.τ).loc Cert.AdamUpKernel.main_arg0)
      ∧ r.2.mem ((c.tc : Thread Cert.AdamUpKernel.nD Cert.AdamUpKernel.τ).loc Cert.AdamUpKernel.main_arg1) = m ((c.tc : Thread Cert.AdamUpKernel.nD Cert.AdamUpKernel.τ).loc Cert.AdamUpKernel.main_arg1)
      ∧ r.2.mem ((c.tc : Thread Cert.AdamUpKernel.nD Cert.AdamUpKernel.τ).loc Cert.AdamUpKernel.main_arg2) = m ((c.tc : Thread Cert.AdamUpKernel.nD Cert.AdamUpKernel.τ).loc Cert.AdamUpKernel.main_arg2)
      ∧ r.2.mem ((c.tc : Thread Cert.AdamUpKernel.nD Cert.AdamUpKernel.τ).loc Cert.AdamUpKernel.main_arg3) = m ((c.tc : Thread Cert.AdamUpKernel.nD Cert.AdamUpKernel.τ).loc Cert.AdamUpKernel.main_arg3)
      ∧ r.2.mem ((c.tc : Thread Cert.AdamUpKernel.nD Cert.AdamUpKernel.τ).loc Cert.AdamUpKernel.main_arg4) = m ((c.tc : Thread Cert.AdamUpKernel.nD Cert.AdamUpKernel.τ).loc Cert.AdamUpKernel.main_arg4))
      ∧ r.2.sem = fun _ => 0)

def quiescent_AdamUpKernelIdeal [hAdamUpKernelIdeal : Cert.AdamUpKernelIdeal.Facts] : Prop :=
  ∀ (m : (ℓ : Loc Cert.AdamUpKernelIdeal.nD Cert.AdamUpKernelIdeal.τ Cert.AdamUpKernelIdeal.sig) → Buf (Elt Ideal) ℓ) (g : Dev Cert.AdamUpKernelIdeal.nD → PrngReg), Pre_AdamUpKernelIdeal m →
    θ_run (Cert.AdamUpKernelIdeal.defs (F := Ideal)) (onTc (τ := Cert.AdamUpKernelIdeal.τ) (Cert.AdamUpKernelIdeal.main (F := Ideal))) ⟨m, fun _ => 0, g⟩ (fun r => (∀ c : Dev Cert.AdamUpKernelIdeal.nD,
      r.2.mem ((c.tc : Thread Cert.AdamUpKernelIdeal.nD Cert.AdamUpKernelIdeal.τ).loc Cert.AdamUpKernelIdeal.main_arg0) = m ((c.tc : Thread Cert.AdamUpKernelIdeal.nD Cert.AdamUpKernelIdeal.τ).loc Cert.AdamUpKernelIdeal.main_arg0)
      ∧ r.2.mem ((c.tc : Thread Cert.AdamUpKernelIdeal.nD Cert.AdamUpKernelIdeal.τ).loc Cert.AdamUpKernelIdeal.main_arg1) = m ((c.tc : Thread Cert.AdamUpKernelIdeal.nD Cert.AdamUpKernelIdeal.τ).loc Cert.AdamUpKernelIdeal.main_arg1)
      ∧ r.2.mem ((c.tc : Thread Cert.AdamUpKernelIdeal.nD Cert.AdamUpKernelIdeal.τ).loc Cert.AdamUpKernelIdeal.main_arg2) = m ((c.tc : Thread Cert.AdamUpKernelIdeal.nD Cert.AdamUpKernelIdeal.τ).loc Cert.AdamUpKernelIdeal.main_arg2)
      ∧ r.2.mem ((c.tc : Thread Cert.AdamUpKernelIdeal.nD Cert.AdamUpKernelIdeal.τ).loc Cert.AdamUpKernelIdeal.main_arg3) = m ((c.tc : Thread Cert.AdamUpKernelIdeal.nD Cert.AdamUpKernelIdeal.τ).loc Cert.AdamUpKernelIdeal.main_arg3)
      ∧ r.2.mem ((c.tc : Thread Cert.AdamUpKernelIdeal.nD Cert.AdamUpKernelIdeal.τ).loc Cert.AdamUpKernelIdeal.main_arg4) = m ((c.tc : Thread Cert.AdamUpKernelIdeal.nD Cert.AdamUpKernelIdeal.τ).loc Cert.AdamUpKernelIdeal.main_arg4))
      ∧ r.2.sem = fun _ => 0)

def quiescent_AdamUpReferenceIdeal [hAdamUpReferenceIdeal : Cert.AdamUpReferenceIdeal.Facts] : Prop :=
  ∀ (m : (ℓ : Loc Cert.AdamUpReferenceIdeal.nD Cert.AdamUpReferenceIdeal.τ Cert.AdamUpReferenceIdeal.sig) → Buf (Elt Ideal) ℓ) (g : Dev Cert.AdamUpReferenceIdeal.nD → PrngReg), Pre_AdamUpReferenceIdeal m →
    θ_run (Cert.AdamUpReferenceIdeal.defs (F := Ideal)) (onTc (τ := Cert.AdamUpReferenceIdeal.τ) (Cert.AdamUpReferenceIdeal.main (F := Ideal))) ⟨m, fun _ => 0, g⟩ (fun r => (∀ c : Dev Cert.AdamUpReferenceIdeal.nD,
      r.2.mem ((c.tc : Thread Cert.AdamUpReferenceIdeal.nD Cert.AdamUpReferenceIdeal.τ).loc Cert.AdamUpReferenceIdeal.main_arg0) = m ((c.tc : Thread Cert.AdamUpReferenceIdeal.nD Cert.AdamUpReferenceIdeal.τ).loc Cert.AdamUpReferenceIdeal.main_arg0)
      ∧ r.2.mem ((c.tc : Thread Cert.AdamUpReferenceIdeal.nD Cert.AdamUpReferenceIdeal.τ).loc Cert.AdamUpReferenceIdeal.main_arg1) = m ((c.tc : Thread Cert.AdamUpReferenceIdeal.nD Cert.AdamUpReferenceIdeal.τ).loc Cert.AdamUpReferenceIdeal.main_arg1)
      ∧ r.2.mem ((c.tc : Thread Cert.AdamUpReferenceIdeal.nD Cert.AdamUpReferenceIdeal.τ).loc Cert.AdamUpReferenceIdeal.main_arg2) = m ((c.tc : Thread Cert.AdamUpReferenceIdeal.nD Cert.AdamUpReferenceIdeal.τ).loc Cert.AdamUpReferenceIdeal.main_arg2)
      ∧ r.2.mem ((c.tc : Thread Cert.AdamUpReferenceIdeal.nD Cert.AdamUpReferenceIdeal.τ).loc Cert.AdamUpReferenceIdeal.main_arg3) = m ((c.tc : Thread Cert.AdamUpReferenceIdeal.nD Cert.AdamUpReferenceIdeal.τ).loc Cert.AdamUpReferenceIdeal.main_arg3)
      ∧ r.2.mem ((c.tc : Thread Cert.AdamUpReferenceIdeal.nD Cert.AdamUpReferenceIdeal.τ).loc Cert.AdamUpReferenceIdeal.main_arg4) = m ((c.tc : Thread Cert.AdamUpReferenceIdeal.nD Cert.AdamUpReferenceIdeal.τ).loc Cert.AdamUpReferenceIdeal.main_arg4))
      ∧ r.2.sem = fun _ => 0)

def quiescent_AdamDownKernel [hAdamDownKernel : Cert.AdamDownKernel.Facts] : Prop :=
  ∀ (m : (ℓ : Loc Cert.AdamDownKernel.nD Cert.AdamDownKernel.τ Cert.AdamDownKernel.sig) → Buf (Elt Bits) ℓ) (g : Dev Cert.AdamDownKernel.nD → PrngReg), Pre_AdamDownKernel m →
    θ_run (Cert.AdamDownKernel.defs (F := Bits)) (onTc (τ := Cert.AdamDownKernel.τ) (Cert.AdamDownKernel.main (F := Bits))) ⟨m, fun _ => 0, g⟩ (fun r => (∀ c : Dev Cert.AdamDownKernel.nD,
      r.2.mem ((c.tc : Thread Cert.AdamDownKernel.nD Cert.AdamDownKernel.τ).loc Cert.AdamDownKernel.main_arg0) = m ((c.tc : Thread Cert.AdamDownKernel.nD Cert.AdamDownKernel.τ).loc Cert.AdamDownKernel.main_arg0)
      ∧ r.2.mem ((c.tc : Thread Cert.AdamDownKernel.nD Cert.AdamDownKernel.τ).loc Cert.AdamDownKernel.main_arg1) = m ((c.tc : Thread Cert.AdamDownKernel.nD Cert.AdamDownKernel.τ).loc Cert.AdamDownKernel.main_arg1)
      ∧ r.2.mem ((c.tc : Thread Cert.AdamDownKernel.nD Cert.AdamDownKernel.τ).loc Cert.AdamDownKernel.main_arg2) = m ((c.tc : Thread Cert.AdamDownKernel.nD Cert.AdamDownKernel.τ).loc Cert.AdamDownKernel.main_arg2)
      ∧ r.2.mem ((c.tc : Thread Cert.AdamDownKernel.nD Cert.AdamDownKernel.τ).loc Cert.AdamDownKernel.main_arg3) = m ((c.tc : Thread Cert.AdamDownKernel.nD Cert.AdamDownKernel.τ).loc Cert.AdamDownKernel.main_arg3)
      ∧ r.2.mem ((c.tc : Thread Cert.AdamDownKernel.nD Cert.AdamDownKernel.τ).loc Cert.AdamDownKernel.main_arg4) = m ((c.tc : Thread Cert.AdamDownKernel.nD Cert.AdamDownKernel.τ).loc Cert.AdamDownKernel.main_arg4))
      ∧ r.2.sem = fun _ => 0)

def quiescent_AdamDownKernelIdeal [hAdamDownKernelIdeal : Cert.AdamDownKernelIdeal.Facts] : Prop :=
  ∀ (m : (ℓ : Loc Cert.AdamDownKernelIdeal.nD Cert.AdamDownKernelIdeal.τ Cert.AdamDownKernelIdeal.sig) → Buf (Elt Ideal) ℓ) (g : Dev Cert.AdamDownKernelIdeal.nD → PrngReg), Pre_AdamDownKernelIdeal m →
    θ_run (Cert.AdamDownKernelIdeal.defs (F := Ideal)) (onTc (τ := Cert.AdamDownKernelIdeal.τ) (Cert.AdamDownKernelIdeal.main (F := Ideal))) ⟨m, fun _ => 0, g⟩ (fun r => (∀ c : Dev Cert.AdamDownKernelIdeal.nD,
      r.2.mem ((c.tc : Thread Cert.AdamDownKernelIdeal.nD Cert.AdamDownKernelIdeal.τ).loc Cert.AdamDownKernelIdeal.main_arg0) = m ((c.tc : Thread Cert.AdamDownKernelIdeal.nD Cert.AdamDownKernelIdeal.τ).loc Cert.AdamDownKernelIdeal.main_arg0)
      ∧ r.2.mem ((c.tc : Thread Cert.AdamDownKernelIdeal.nD Cert.AdamDownKernelIdeal.τ).loc Cert.AdamDownKernelIdeal.main_arg1) = m ((c.tc : Thread Cert.AdamDownKernelIdeal.nD Cert.AdamDownKernelIdeal.τ).loc Cert.AdamDownKernelIdeal.main_arg1)
      ∧ r.2.mem ((c.tc : Thread Cert.AdamDownKernelIdeal.nD Cert.AdamDownKernelIdeal.τ).loc Cert.AdamDownKernelIdeal.main_arg2) = m ((c.tc : Thread Cert.AdamDownKernelIdeal.nD Cert.AdamDownKernelIdeal.τ).loc Cert.AdamDownKernelIdeal.main_arg2)
      ∧ r.2.mem ((c.tc : Thread Cert.AdamDownKernelIdeal.nD Cert.AdamDownKernelIdeal.τ).loc Cert.AdamDownKernelIdeal.main_arg3) = m ((c.tc : Thread Cert.AdamDownKernelIdeal.nD Cert.AdamDownKernelIdeal.τ).loc Cert.AdamDownKernelIdeal.main_arg3)
      ∧ r.2.mem ((c.tc : Thread Cert.AdamDownKernelIdeal.nD Cert.AdamDownKernelIdeal.τ).loc Cert.AdamDownKernelIdeal.main_arg4) = m ((c.tc : Thread Cert.AdamDownKernelIdeal.nD Cert.AdamDownKernelIdeal.τ).loc Cert.AdamDownKernelIdeal.main_arg4))
      ∧ r.2.sem = fun _ => 0)

def quiescent_AdamDownReferenceIdeal [hAdamDownReferenceIdeal : Cert.AdamDownReferenceIdeal.Facts] : Prop :=
  ∀ (m : (ℓ : Loc Cert.AdamDownReferenceIdeal.nD Cert.AdamDownReferenceIdeal.τ Cert.AdamDownReferenceIdeal.sig) → Buf (Elt Ideal) ℓ) (g : Dev Cert.AdamDownReferenceIdeal.nD → PrngReg), Pre_AdamDownReferenceIdeal m →
    θ_run (Cert.AdamDownReferenceIdeal.defs (F := Ideal)) (onTc (τ := Cert.AdamDownReferenceIdeal.τ) (Cert.AdamDownReferenceIdeal.main (F := Ideal))) ⟨m, fun _ => 0, g⟩ (fun r => (∀ c : Dev Cert.AdamDownReferenceIdeal.nD,
      r.2.mem ((c.tc : Thread Cert.AdamDownReferenceIdeal.nD Cert.AdamDownReferenceIdeal.τ).loc Cert.AdamDownReferenceIdeal.main_arg0) = m ((c.tc : Thread Cert.AdamDownReferenceIdeal.nD Cert.AdamDownReferenceIdeal.τ).loc Cert.AdamDownReferenceIdeal.main_arg0)
      ∧ r.2.mem ((c.tc : Thread Cert.AdamDownReferenceIdeal.nD Cert.AdamDownReferenceIdeal.τ).loc Cert.AdamDownReferenceIdeal.main_arg1) = m ((c.tc : Thread Cert.AdamDownReferenceIdeal.nD Cert.AdamDownReferenceIdeal.τ).loc Cert.AdamDownReferenceIdeal.main_arg1)
      ∧ r.2.mem ((c.tc : Thread Cert.AdamDownReferenceIdeal.nD Cert.AdamDownReferenceIdeal.τ).loc Cert.AdamDownReferenceIdeal.main_arg2) = m ((c.tc : Thread Cert.AdamDownReferenceIdeal.nD Cert.AdamDownReferenceIdeal.τ).loc Cert.AdamDownReferenceIdeal.main_arg2)
      ∧ r.2.mem ((c.tc : Thread Cert.AdamDownReferenceIdeal.nD Cert.AdamDownReferenceIdeal.τ).loc Cert.AdamDownReferenceIdeal.main_arg3) = m ((c.tc : Thread Cert.AdamDownReferenceIdeal.nD Cert.AdamDownReferenceIdeal.τ).loc Cert.AdamDownReferenceIdeal.main_arg3)
      ∧ r.2.mem ((c.tc : Thread Cert.AdamDownReferenceIdeal.nD Cert.AdamDownReferenceIdeal.τ).loc Cert.AdamDownReferenceIdeal.main_arg4) = m ((c.tc : Thread Cert.AdamDownReferenceIdeal.nD Cert.AdamDownReferenceIdeal.τ).loc Cert.AdamDownReferenceIdeal.main_arg4))
      ∧ r.2.sem = fun _ => 0)

def quiescent_AdamInKernel [hAdamInKernel : Cert.AdamInKernel.Facts] : Prop :=
  ∀ (m : (ℓ : Loc Cert.AdamInKernel.nD Cert.AdamInKernel.τ Cert.AdamInKernel.sig) → Buf (Elt Bits) ℓ) (g : Dev Cert.AdamInKernel.nD → PrngReg), Pre_AdamInKernel m →
    θ_run (Cert.AdamInKernel.defs (F := Bits)) (onTc (τ := Cert.AdamInKernel.τ) (Cert.AdamInKernel.main (F := Bits))) ⟨m, fun _ => 0, g⟩ (fun r => (∀ c : Dev Cert.AdamInKernel.nD,
      r.2.mem ((c.tc : Thread Cert.AdamInKernel.nD Cert.AdamInKernel.τ).loc Cert.AdamInKernel.main_arg0) = m ((c.tc : Thread Cert.AdamInKernel.nD Cert.AdamInKernel.τ).loc Cert.AdamInKernel.main_arg0)
      ∧ r.2.mem ((c.tc : Thread Cert.AdamInKernel.nD Cert.AdamInKernel.τ).loc Cert.AdamInKernel.main_arg1) = m ((c.tc : Thread Cert.AdamInKernel.nD Cert.AdamInKernel.τ).loc Cert.AdamInKernel.main_arg1)
      ∧ r.2.mem ((c.tc : Thread Cert.AdamInKernel.nD Cert.AdamInKernel.τ).loc Cert.AdamInKernel.main_arg2) = m ((c.tc : Thread Cert.AdamInKernel.nD Cert.AdamInKernel.τ).loc Cert.AdamInKernel.main_arg2)
      ∧ r.2.mem ((c.tc : Thread Cert.AdamInKernel.nD Cert.AdamInKernel.τ).loc Cert.AdamInKernel.main_arg3) = m ((c.tc : Thread Cert.AdamInKernel.nD Cert.AdamInKernel.τ).loc Cert.AdamInKernel.main_arg3)
      ∧ r.2.mem ((c.tc : Thread Cert.AdamInKernel.nD Cert.AdamInKernel.τ).loc Cert.AdamInKernel.main_arg4) = m ((c.tc : Thread Cert.AdamInKernel.nD Cert.AdamInKernel.τ).loc Cert.AdamInKernel.main_arg4))
      ∧ r.2.sem = fun _ => 0)

def quiescent_AdamInKernelIdeal [hAdamInKernelIdeal : Cert.AdamInKernelIdeal.Facts] : Prop :=
  ∀ (m : (ℓ : Loc Cert.AdamInKernelIdeal.nD Cert.AdamInKernelIdeal.τ Cert.AdamInKernelIdeal.sig) → Buf (Elt Ideal) ℓ) (g : Dev Cert.AdamInKernelIdeal.nD → PrngReg), Pre_AdamInKernelIdeal m →
    θ_run (Cert.AdamInKernelIdeal.defs (F := Ideal)) (onTc (τ := Cert.AdamInKernelIdeal.τ) (Cert.AdamInKernelIdeal.main (F := Ideal))) ⟨m, fun _ => 0, g⟩ (fun r => (∀ c : Dev Cert.AdamInKernelIdeal.nD,
      r.2.mem ((c.tc : Thread Cert.AdamInKernelIdeal.nD Cert.AdamInKernelIdeal.τ).loc Cert.AdamInKernelIdeal.main_arg0) = m ((c.tc : Thread Cert.AdamInKernelIdeal.nD Cert.AdamInKernelIdeal.τ).loc Cert.AdamInKernelIdeal.main_arg0)
      ∧ r.2.mem ((c.tc : Thread Cert.AdamInKernelIdeal.nD Cert.AdamInKernelIdeal.τ).loc Cert.AdamInKernelIdeal.main_arg1) = m ((c.tc : Thread Cert.AdamInKernelIdeal.nD Cert.AdamInKernelIdeal.τ).loc Cert.AdamInKernelIdeal.main_arg1)
      ∧ r.2.mem ((c.tc : Thread Cert.AdamInKernelIdeal.nD Cert.AdamInKernelIdeal.τ).loc Cert.AdamInKernelIdeal.main_arg2) = m ((c.tc : Thread Cert.AdamInKernelIdeal.nD Cert.AdamInKernelIdeal.τ).loc Cert.AdamInKernelIdeal.main_arg2)
      ∧ r.2.mem ((c.tc : Thread Cert.AdamInKernelIdeal.nD Cert.AdamInKernelIdeal.τ).loc Cert.AdamInKernelIdeal.main_arg3) = m ((c.tc : Thread Cert.AdamInKernelIdeal.nD Cert.AdamInKernelIdeal.τ).loc Cert.AdamInKernelIdeal.main_arg3)
      ∧ r.2.mem ((c.tc : Thread Cert.AdamInKernelIdeal.nD Cert.AdamInKernelIdeal.τ).loc Cert.AdamInKernelIdeal.main_arg4) = m ((c.tc : Thread Cert.AdamInKernelIdeal.nD Cert.AdamInKernelIdeal.τ).loc Cert.AdamInKernelIdeal.main_arg4))
      ∧ r.2.sem = fun _ => 0)

def quiescent_AdamInReferenceIdeal [hAdamInReferenceIdeal : Cert.AdamInReferenceIdeal.Facts] : Prop :=
  ∀ (m : (ℓ : Loc Cert.AdamInReferenceIdeal.nD Cert.AdamInReferenceIdeal.τ Cert.AdamInReferenceIdeal.sig) → Buf (Elt Ideal) ℓ) (g : Dev Cert.AdamInReferenceIdeal.nD → PrngReg), Pre_AdamInReferenceIdeal m →
    θ_run (Cert.AdamInReferenceIdeal.defs (F := Ideal)) (onTc (τ := Cert.AdamInReferenceIdeal.τ) (Cert.AdamInReferenceIdeal.main (F := Ideal))) ⟨m, fun _ => 0, g⟩ (fun r => (∀ c : Dev Cert.AdamInReferenceIdeal.nD,
      r.2.mem ((c.tc : Thread Cert.AdamInReferenceIdeal.nD Cert.AdamInReferenceIdeal.τ).loc Cert.AdamInReferenceIdeal.main_arg0) = m ((c.tc : Thread Cert.AdamInReferenceIdeal.nD Cert.AdamInReferenceIdeal.τ).loc Cert.AdamInReferenceIdeal.main_arg0)
      ∧ r.2.mem ((c.tc : Thread Cert.AdamInReferenceIdeal.nD Cert.AdamInReferenceIdeal.τ).loc Cert.AdamInReferenceIdeal.main_arg1) = m ((c.tc : Thread Cert.AdamInReferenceIdeal.nD Cert.AdamInReferenceIdeal.τ).loc Cert.AdamInReferenceIdeal.main_arg1)
      ∧ r.2.mem ((c.tc : Thread Cert.AdamInReferenceIdeal.nD Cert.AdamInReferenceIdeal.τ).loc Cert.AdamInReferenceIdeal.main_arg2) = m ((c.tc : Thread Cert.AdamInReferenceIdeal.nD Cert.AdamInReferenceIdeal.τ).loc Cert.AdamInReferenceIdeal.main_arg2)
      ∧ r.2.mem ((c.tc : Thread Cert.AdamInReferenceIdeal.nD Cert.AdamInReferenceIdeal.τ).loc Cert.AdamInReferenceIdeal.main_arg3) = m ((c.tc : Thread Cert.AdamInReferenceIdeal.nD Cert.AdamInReferenceIdeal.τ).loc Cert.AdamInReferenceIdeal.main_arg3)
      ∧ r.2.mem ((c.tc : Thread Cert.AdamInReferenceIdeal.nD Cert.AdamInReferenceIdeal.τ).loc Cert.AdamInReferenceIdeal.main_arg4) = m ((c.tc : Thread Cert.AdamInReferenceIdeal.nD Cert.AdamInReferenceIdeal.τ).loc Cert.AdamInReferenceIdeal.main_arg4))
      ∧ r.2.sem = fun _ => 0)

def quiescent_AdamBranchKernel [hAdamBranchKernel : Cert.AdamBranchKernel.Facts] : Prop :=
  ∀ (m : (ℓ : Loc Cert.AdamBranchKernel.nD Cert.AdamBranchKernel.τ Cert.AdamBranchKernel.sig) → Buf (Elt Bits) ℓ) (g : Dev Cert.AdamBranchKernel.nD → PrngReg), Pre_AdamBranchKernel m →
    θ_run (Cert.AdamBranchKernel.defs (F := Bits)) (onTc (τ := Cert.AdamBranchKernel.τ) (Cert.AdamBranchKernel.main (F := Bits))) ⟨m, fun _ => 0, g⟩ (fun r => (∀ c : Dev Cert.AdamBranchKernel.nD,
      r.2.mem ((c.tc : Thread Cert.AdamBranchKernel.nD Cert.AdamBranchKernel.τ).loc Cert.AdamBranchKernel.main_arg0) = m ((c.tc : Thread Cert.AdamBranchKernel.nD Cert.AdamBranchKernel.τ).loc Cert.AdamBranchKernel.main_arg0)
      ∧ r.2.mem ((c.tc : Thread Cert.AdamBranchKernel.nD Cert.AdamBranchKernel.τ).loc Cert.AdamBranchKernel.main_arg1) = m ((c.tc : Thread Cert.AdamBranchKernel.nD Cert.AdamBranchKernel.τ).loc Cert.AdamBranchKernel.main_arg1)
      ∧ r.2.mem ((c.tc : Thread Cert.AdamBranchKernel.nD Cert.AdamBranchKernel.τ).loc Cert.AdamBranchKernel.main_arg2) = m ((c.tc : Thread Cert.AdamBranchKernel.nD Cert.AdamBranchKernel.τ).loc Cert.AdamBranchKernel.main_arg2)
      ∧ r.2.mem ((c.tc : Thread Cert.AdamBranchKernel.nD Cert.AdamBranchKernel.τ).loc Cert.AdamBranchKernel.main_arg3) = m ((c.tc : Thread Cert.AdamBranchKernel.nD Cert.AdamBranchKernel.τ).loc Cert.AdamBranchKernel.main_arg3)
      ∧ r.2.mem ((c.tc : Thread Cert.AdamBranchKernel.nD Cert.AdamBranchKernel.τ).loc Cert.AdamBranchKernel.main_arg4) = m ((c.tc : Thread Cert.AdamBranchKernel.nD Cert.AdamBranchKernel.τ).loc Cert.AdamBranchKernel.main_arg4))
      ∧ r.2.sem = fun _ => 0)

def quiescent_AdamBranchKernelIdeal [hAdamBranchKernelIdeal : Cert.AdamBranchKernelIdeal.Facts] : Prop :=
  ∀ (m : (ℓ : Loc Cert.AdamBranchKernelIdeal.nD Cert.AdamBranchKernelIdeal.τ Cert.AdamBranchKernelIdeal.sig) → Buf (Elt Ideal) ℓ) (g : Dev Cert.AdamBranchKernelIdeal.nD → PrngReg), Pre_AdamBranchKernelIdeal m →
    θ_run (Cert.AdamBranchKernelIdeal.defs (F := Ideal)) (onTc (τ := Cert.AdamBranchKernelIdeal.τ) (Cert.AdamBranchKernelIdeal.main (F := Ideal))) ⟨m, fun _ => 0, g⟩ (fun r => (∀ c : Dev Cert.AdamBranchKernelIdeal.nD,
      r.2.mem ((c.tc : Thread Cert.AdamBranchKernelIdeal.nD Cert.AdamBranchKernelIdeal.τ).loc Cert.AdamBranchKernelIdeal.main_arg0) = m ((c.tc : Thread Cert.AdamBranchKernelIdeal.nD Cert.AdamBranchKernelIdeal.τ).loc Cert.AdamBranchKernelIdeal.main_arg0)
      ∧ r.2.mem ((c.tc : Thread Cert.AdamBranchKernelIdeal.nD Cert.AdamBranchKernelIdeal.τ).loc Cert.AdamBranchKernelIdeal.main_arg1) = m ((c.tc : Thread Cert.AdamBranchKernelIdeal.nD Cert.AdamBranchKernelIdeal.τ).loc Cert.AdamBranchKernelIdeal.main_arg1)
      ∧ r.2.mem ((c.tc : Thread Cert.AdamBranchKernelIdeal.nD Cert.AdamBranchKernelIdeal.τ).loc Cert.AdamBranchKernelIdeal.main_arg2) = m ((c.tc : Thread Cert.AdamBranchKernelIdeal.nD Cert.AdamBranchKernelIdeal.τ).loc Cert.AdamBranchKernelIdeal.main_arg2)
      ∧ r.2.mem ((c.tc : Thread Cert.AdamBranchKernelIdeal.nD Cert.AdamBranchKernelIdeal.τ).loc Cert.AdamBranchKernelIdeal.main_arg3) = m ((c.tc : Thread Cert.AdamBranchKernelIdeal.nD Cert.AdamBranchKernelIdeal.τ).loc Cert.AdamBranchKernelIdeal.main_arg3)
      ∧ r.2.mem ((c.tc : Thread Cert.AdamBranchKernelIdeal.nD Cert.AdamBranchKernelIdeal.τ).loc Cert.AdamBranchKernelIdeal.main_arg4) = m ((c.tc : Thread Cert.AdamBranchKernelIdeal.nD Cert.AdamBranchKernelIdeal.τ).loc Cert.AdamBranchKernelIdeal.main_arg4))
      ∧ r.2.sem = fun _ => 0)

def quiescent_AdamBranchReferenceIdeal [hAdamBranchReferenceIdeal : Cert.AdamBranchReferenceIdeal.Facts] : Prop :=
  ∀ (m : (ℓ : Loc Cert.AdamBranchReferenceIdeal.nD Cert.AdamBranchReferenceIdeal.τ Cert.AdamBranchReferenceIdeal.sig) → Buf (Elt Ideal) ℓ) (g : Dev Cert.AdamBranchReferenceIdeal.nD → PrngReg), Pre_AdamBranchReferenceIdeal m →
    θ_run (Cert.AdamBranchReferenceIdeal.defs (F := Ideal)) (onTc (τ := Cert.AdamBranchReferenceIdeal.τ) (Cert.AdamBranchReferenceIdeal.main (F := Ideal))) ⟨m, fun _ => 0, g⟩ (fun r => (∀ c : Dev Cert.AdamBranchReferenceIdeal.nD,
      r.2.mem ((c.tc : Thread Cert.AdamBranchReferenceIdeal.nD Cert.AdamBranchReferenceIdeal.τ).loc Cert.AdamBranchReferenceIdeal.main_arg0) = m ((c.tc : Thread Cert.AdamBranchReferenceIdeal.nD Cert.AdamBranchReferenceIdeal.τ).loc Cert.AdamBranchReferenceIdeal.main_arg0)
      ∧ r.2.mem ((c.tc : Thread Cert.AdamBranchReferenceIdeal.nD Cert.AdamBranchReferenceIdeal.τ).loc Cert.AdamBranchReferenceIdeal.main_arg1) = m ((c.tc : Thread Cert.AdamBranchReferenceIdeal.nD Cert.AdamBranchReferenceIdeal.τ).loc Cert.AdamBranchReferenceIdeal.main_arg1)
      ∧ r.2.mem ((c.tc : Thread Cert.AdamBranchReferenceIdeal.nD Cert.AdamBranchReferenceIdeal.τ).loc Cert.AdamBranchReferenceIdeal.main_arg2) = m ((c.tc : Thread Cert.AdamBranchReferenceIdeal.nD Cert.AdamBranchReferenceIdeal.τ).loc Cert.AdamBranchReferenceIdeal.main_arg2)
      ∧ r.2.mem ((c.tc : Thread Cert.AdamBranchReferenceIdeal.nD Cert.AdamBranchReferenceIdeal.τ).loc Cert.AdamBranchReferenceIdeal.main_arg3) = m ((c.tc : Thread Cert.AdamBranchReferenceIdeal.nD Cert.AdamBranchReferenceIdeal.τ).loc Cert.AdamBranchReferenceIdeal.main_arg3)
      ∧ r.2.mem ((c.tc : Thread Cert.AdamBranchReferenceIdeal.nD Cert.AdamBranchReferenceIdeal.τ).loc Cert.AdamBranchReferenceIdeal.main_arg4) = m ((c.tc : Thread Cert.AdamBranchReferenceIdeal.nD Cert.AdamBranchReferenceIdeal.τ).loc Cert.AdamBranchReferenceIdeal.main_arg4))
      ∧ r.2.sem = fun _ => 0)

def quiescent_AdamOutKernel [hAdamOutKernel : Cert.AdamOutKernel.Facts] : Prop :=
  ∀ (m : (ℓ : Loc Cert.AdamOutKernel.nD Cert.AdamOutKernel.τ Cert.AdamOutKernel.sig) → Buf (Elt Bits) ℓ) (g : Dev Cert.AdamOutKernel.nD → PrngReg), Pre_AdamOutKernel m →
    θ_run (Cert.AdamOutKernel.defs (F := Bits)) (onTc (τ := Cert.AdamOutKernel.τ) (Cert.AdamOutKernel.main (F := Bits))) ⟨m, fun _ => 0, g⟩ (fun r => (∀ c : Dev Cert.AdamOutKernel.nD,
      r.2.mem ((c.tc : Thread Cert.AdamOutKernel.nD Cert.AdamOutKernel.τ).loc Cert.AdamOutKernel.main_arg0) = m ((c.tc : Thread Cert.AdamOutKernel.nD Cert.AdamOutKernel.τ).loc Cert.AdamOutKernel.main_arg0)
      ∧ r.2.mem ((c.tc : Thread Cert.AdamOutKernel.nD Cert.AdamOutKernel.τ).loc Cert.AdamOutKernel.main_arg1) = m ((c.tc : Thread Cert.AdamOutKernel.nD Cert.AdamOutKernel.τ).loc Cert.AdamOutKernel.main_arg1)
      ∧ r.2.mem ((c.tc : Thread Cert.AdamOutKernel.nD Cert.AdamOutKernel.τ).loc Cert.AdamOutKernel.main_arg2) = m ((c.tc : Thread Cert.AdamOutKernel.nD Cert.AdamOutKernel.τ).loc Cert.AdamOutKernel.main_arg2)
      ∧ r.2.mem ((c.tc : Thread Cert.AdamOutKernel.nD Cert.AdamOutKernel.τ).loc Cert.AdamOutKernel.main_arg3) = m ((c.tc : Thread Cert.AdamOutKernel.nD Cert.AdamOutKernel.τ).loc Cert.AdamOutKernel.main_arg3)
      ∧ r.2.mem ((c.tc : Thread Cert.AdamOutKernel.nD Cert.AdamOutKernel.τ).loc Cert.AdamOutKernel.main_arg4) = m ((c.tc : Thread Cert.AdamOutKernel.nD Cert.AdamOutKernel.τ).loc Cert.AdamOutKernel.main_arg4))
      ∧ r.2.sem = fun _ => 0)

def quiescent_AdamOutKernelIdeal [hAdamOutKernelIdeal : Cert.AdamOutKernelIdeal.Facts] : Prop :=
  ∀ (m : (ℓ : Loc Cert.AdamOutKernelIdeal.nD Cert.AdamOutKernelIdeal.τ Cert.AdamOutKernelIdeal.sig) → Buf (Elt Ideal) ℓ) (g : Dev Cert.AdamOutKernelIdeal.nD → PrngReg), Pre_AdamOutKernelIdeal m →
    θ_run (Cert.AdamOutKernelIdeal.defs (F := Ideal)) (onTc (τ := Cert.AdamOutKernelIdeal.τ) (Cert.AdamOutKernelIdeal.main (F := Ideal))) ⟨m, fun _ => 0, g⟩ (fun r => (∀ c : Dev Cert.AdamOutKernelIdeal.nD,
      r.2.mem ((c.tc : Thread Cert.AdamOutKernelIdeal.nD Cert.AdamOutKernelIdeal.τ).loc Cert.AdamOutKernelIdeal.main_arg0) = m ((c.tc : Thread Cert.AdamOutKernelIdeal.nD Cert.AdamOutKernelIdeal.τ).loc Cert.AdamOutKernelIdeal.main_arg0)
      ∧ r.2.mem ((c.tc : Thread Cert.AdamOutKernelIdeal.nD Cert.AdamOutKernelIdeal.τ).loc Cert.AdamOutKernelIdeal.main_arg1) = m ((c.tc : Thread Cert.AdamOutKernelIdeal.nD Cert.AdamOutKernelIdeal.τ).loc Cert.AdamOutKernelIdeal.main_arg1)
      ∧ r.2.mem ((c.tc : Thread Cert.AdamOutKernelIdeal.nD Cert.AdamOutKernelIdeal.τ).loc Cert.AdamOutKernelIdeal.main_arg2) = m ((c.tc : Thread Cert.AdamOutKernelIdeal.nD Cert.AdamOutKernelIdeal.τ).loc Cert.AdamOutKernelIdeal.main_arg2)
      ∧ r.2.mem ((c.tc : Thread Cert.AdamOutKernelIdeal.nD Cert.AdamOutKernelIdeal.τ).loc Cert.AdamOutKernelIdeal.main_arg3) = m ((c.tc : Thread Cert.AdamOutKernelIdeal.nD Cert.AdamOutKernelIdeal.τ).loc Cert.AdamOutKernelIdeal.main_arg3)
      ∧ r.2.mem ((c.tc : Thread Cert.AdamOutKernelIdeal.nD Cert.AdamOutKernelIdeal.τ).loc Cert.AdamOutKernelIdeal.main_arg4) = m ((c.tc : Thread Cert.AdamOutKernelIdeal.nD Cert.AdamOutKernelIdeal.τ).loc Cert.AdamOutKernelIdeal.main_arg4))
      ∧ r.2.sem = fun _ => 0)

def quiescent_AdamOutReferenceIdeal [hAdamOutReferenceIdeal : Cert.AdamOutReferenceIdeal.Facts] : Prop :=
  ∀ (m : (ℓ : Loc Cert.AdamOutReferenceIdeal.nD Cert.AdamOutReferenceIdeal.τ Cert.AdamOutReferenceIdeal.sig) → Buf (Elt Ideal) ℓ) (g : Dev Cert.AdamOutReferenceIdeal.nD → PrngReg), Pre_AdamOutReferenceIdeal m →
    θ_run (Cert.AdamOutReferenceIdeal.defs (F := Ideal)) (onTc (τ := Cert.AdamOutReferenceIdeal.τ) (Cert.AdamOutReferenceIdeal.main (F := Ideal))) ⟨m, fun _ => 0, g⟩ (fun r => (∀ c : Dev Cert.AdamOutReferenceIdeal.nD,
      r.2.mem ((c.tc : Thread Cert.AdamOutReferenceIdeal.nD Cert.AdamOutReferenceIdeal.τ).loc Cert.AdamOutReferenceIdeal.main_arg0) = m ((c.tc : Thread Cert.AdamOutReferenceIdeal.nD Cert.AdamOutReferenceIdeal.τ).loc Cert.AdamOutReferenceIdeal.main_arg0)
      ∧ r.2.mem ((c.tc : Thread Cert.AdamOutReferenceIdeal.nD Cert.AdamOutReferenceIdeal.τ).loc Cert.AdamOutReferenceIdeal.main_arg1) = m ((c.tc : Thread Cert.AdamOutReferenceIdeal.nD Cert.AdamOutReferenceIdeal.τ).loc Cert.AdamOutReferenceIdeal.main_arg1)
      ∧ r.2.mem ((c.tc : Thread Cert.AdamOutReferenceIdeal.nD Cert.AdamOutReferenceIdeal.τ).loc Cert.AdamOutReferenceIdeal.main_arg2) = m ((c.tc : Thread Cert.AdamOutReferenceIdeal.nD Cert.AdamOutReferenceIdeal.τ).loc Cert.AdamOutReferenceIdeal.main_arg2)
      ∧ r.2.mem ((c.tc : Thread Cert.AdamOutReferenceIdeal.nD Cert.AdamOutReferenceIdeal.τ).loc Cert.AdamOutReferenceIdeal.main_arg3) = m ((c.tc : Thread Cert.AdamOutReferenceIdeal.nD Cert.AdamOutReferenceIdeal.τ).loc Cert.AdamOutReferenceIdeal.main_arg3)
      ∧ r.2.mem ((c.tc : Thread Cert.AdamOutReferenceIdeal.nD Cert.AdamOutReferenceIdeal.τ).loc Cert.AdamOutReferenceIdeal.main_arg4) = m ((c.tc : Thread Cert.AdamOutReferenceIdeal.nD Cert.AdamOutReferenceIdeal.τ).loc Cert.AdamOutReferenceIdeal.main_arg4))
      ∧ r.2.sem = fun _ => 0)

def quiescent_MergeFKernel [hMergeFKernel : Cert.MergeFKernel.Facts] : Prop :=
  ∀ (m : (ℓ : Loc Cert.MergeFKernel.nD Cert.MergeFKernel.τ Cert.MergeFKernel.sig) → Buf (Elt Bits) ℓ) (g : Dev Cert.MergeFKernel.nD → PrngReg), Pre_MergeFKernel m →
    θ_run (Cert.MergeFKernel.defs (F := Bits)) (onTc (τ := Cert.MergeFKernel.τ) (Cert.MergeFKernel.main (F := Bits))) ⟨m, fun _ => 0, g⟩ (fun r => (∀ c : Dev Cert.MergeFKernel.nD,
      r.2.mem ((c.tc : Thread Cert.MergeFKernel.nD Cert.MergeFKernel.τ).loc Cert.MergeFKernel.main_arg0) = m ((c.tc : Thread Cert.MergeFKernel.nD Cert.MergeFKernel.τ).loc Cert.MergeFKernel.main_arg0)
      ∧ r.2.mem ((c.tc : Thread Cert.MergeFKernel.nD Cert.MergeFKernel.τ).loc Cert.MergeFKernel.main_arg1) = m ((c.tc : Thread Cert.MergeFKernel.nD Cert.MergeFKernel.τ).loc Cert.MergeFKernel.main_arg1)
      ∧ r.2.mem ((c.tc : Thread Cert.MergeFKernel.nD Cert.MergeFKernel.τ).loc Cert.MergeFKernel.main_arg2) = m ((c.tc : Thread Cert.MergeFKernel.nD Cert.MergeFKernel.τ).loc Cert.MergeFKernel.main_arg2)
      ∧ r.2.mem ((c.tc : Thread Cert.MergeFKernel.nD Cert.MergeFKernel.τ).loc Cert.MergeFKernel.main_arg3) = m ((c.tc : Thread Cert.MergeFKernel.nD Cert.MergeFKernel.τ).loc Cert.MergeFKernel.main_arg3))
      ∧ r.2.sem = fun _ => 0)

def quiescent_MergeFKernelIdeal [hMergeFKernelIdeal : Cert.MergeFKernelIdeal.Facts] : Prop :=
  ∀ (m : (ℓ : Loc Cert.MergeFKernelIdeal.nD Cert.MergeFKernelIdeal.τ Cert.MergeFKernelIdeal.sig) → Buf (Elt Ideal) ℓ) (g : Dev Cert.MergeFKernelIdeal.nD → PrngReg), Pre_MergeFKernelIdeal m →
    θ_run (Cert.MergeFKernelIdeal.defs (F := Ideal)) (onTc (τ := Cert.MergeFKernelIdeal.τ) (Cert.MergeFKernelIdeal.main (F := Ideal))) ⟨m, fun _ => 0, g⟩ (fun r => (∀ c : Dev Cert.MergeFKernelIdeal.nD,
      r.2.mem ((c.tc : Thread Cert.MergeFKernelIdeal.nD Cert.MergeFKernelIdeal.τ).loc Cert.MergeFKernelIdeal.main_arg0) = m ((c.tc : Thread Cert.MergeFKernelIdeal.nD Cert.MergeFKernelIdeal.τ).loc Cert.MergeFKernelIdeal.main_arg0)
      ∧ r.2.mem ((c.tc : Thread Cert.MergeFKernelIdeal.nD Cert.MergeFKernelIdeal.τ).loc Cert.MergeFKernelIdeal.main_arg1) = m ((c.tc : Thread Cert.MergeFKernelIdeal.nD Cert.MergeFKernelIdeal.τ).loc Cert.MergeFKernelIdeal.main_arg1)
      ∧ r.2.mem ((c.tc : Thread Cert.MergeFKernelIdeal.nD Cert.MergeFKernelIdeal.τ).loc Cert.MergeFKernelIdeal.main_arg2) = m ((c.tc : Thread Cert.MergeFKernelIdeal.nD Cert.MergeFKernelIdeal.τ).loc Cert.MergeFKernelIdeal.main_arg2)
      ∧ r.2.mem ((c.tc : Thread Cert.MergeFKernelIdeal.nD Cert.MergeFKernelIdeal.τ).loc Cert.MergeFKernelIdeal.main_arg3) = m ((c.tc : Thread Cert.MergeFKernelIdeal.nD Cert.MergeFKernelIdeal.τ).loc Cert.MergeFKernelIdeal.main_arg3))
      ∧ r.2.sem = fun _ => 0)

def quiescent_MergeFReferenceIdeal [hMergeFReferenceIdeal : Cert.MergeFReferenceIdeal.Facts] : Prop :=
  ∀ (m : (ℓ : Loc Cert.MergeFReferenceIdeal.nD Cert.MergeFReferenceIdeal.τ Cert.MergeFReferenceIdeal.sig) → Buf (Elt Ideal) ℓ) (g : Dev Cert.MergeFReferenceIdeal.nD → PrngReg), Pre_MergeFReferenceIdeal m →
    θ_run (Cert.MergeFReferenceIdeal.defs (F := Ideal)) (onTc (τ := Cert.MergeFReferenceIdeal.τ) (Cert.MergeFReferenceIdeal.main (F := Ideal))) ⟨m, fun _ => 0, g⟩ (fun r => (∀ c : Dev Cert.MergeFReferenceIdeal.nD,
      r.2.mem ((c.tc : Thread Cert.MergeFReferenceIdeal.nD Cert.MergeFReferenceIdeal.τ).loc Cert.MergeFReferenceIdeal.main_arg0) = m ((c.tc : Thread Cert.MergeFReferenceIdeal.nD Cert.MergeFReferenceIdeal.τ).loc Cert.MergeFReferenceIdeal.main_arg0)
      ∧ r.2.mem ((c.tc : Thread Cert.MergeFReferenceIdeal.nD Cert.MergeFReferenceIdeal.τ).loc Cert.MergeFReferenceIdeal.main_arg1) = m ((c.tc : Thread Cert.MergeFReferenceIdeal.nD Cert.MergeFReferenceIdeal.τ).loc Cert.MergeFReferenceIdeal.main_arg1)
      ∧ r.2.mem ((c.tc : Thread Cert.MergeFReferenceIdeal.nD Cert.MergeFReferenceIdeal.τ).loc Cert.MergeFReferenceIdeal.main_arg2) = m ((c.tc : Thread Cert.MergeFReferenceIdeal.nD Cert.MergeFReferenceIdeal.τ).loc Cert.MergeFReferenceIdeal.main_arg2)
      ∧ r.2.mem ((c.tc : Thread Cert.MergeFReferenceIdeal.nD Cert.MergeFReferenceIdeal.τ).loc Cert.MergeFReferenceIdeal.main_arg3) = m ((c.tc : Thread Cert.MergeFReferenceIdeal.nD Cert.MergeFReferenceIdeal.τ).loc Cert.MergeFReferenceIdeal.main_arg3))
      ∧ r.2.sem = fun _ => 0)

def quiescent_LossHeadKernel [hLossHeadKernel : Cert.LossHeadKernel.Facts] : Prop :=
  ∀ (m : (ℓ : Loc Cert.LossHeadKernel.nD Cert.LossHeadKernel.τ Cert.LossHeadKernel.sig) → Buf (Elt Bits) ℓ) (g : Dev Cert.LossHeadKernel.nD → PrngReg), Pre_LossHeadKernel m →
    θ_run (Cert.LossHeadKernel.defs (F := Bits)) (onTc (τ := Cert.LossHeadKernel.τ) (Cert.LossHeadKernel.main (F := Bits))) ⟨m, fun _ => 0, g⟩ (fun r => (∀ c : Dev Cert.LossHeadKernel.nD,
      r.2.mem ((c.tc : Thread Cert.LossHeadKernel.nD Cert.LossHeadKernel.τ).loc Cert.LossHeadKernel.main_arg0) = m ((c.tc : Thread Cert.LossHeadKernel.nD Cert.LossHeadKernel.τ).loc Cert.LossHeadKernel.main_arg0)
      ∧ r.2.mem ((c.tc : Thread Cert.LossHeadKernel.nD Cert.LossHeadKernel.τ).loc Cert.LossHeadKernel.main_arg1) = m ((c.tc : Thread Cert.LossHeadKernel.nD Cert.LossHeadKernel.τ).loc Cert.LossHeadKernel.main_arg1)
      ∧ r.2.mem ((c.tc : Thread Cert.LossHeadKernel.nD Cert.LossHeadKernel.τ).loc Cert.LossHeadKernel.main_arg2) = m ((c.tc : Thread Cert.LossHeadKernel.nD Cert.LossHeadKernel.τ).loc Cert.LossHeadKernel.main_arg2))
      ∧ r.2.sem = fun _ => 0)

def quiescent_LossHeadKernelIdeal [hLossHeadKernelIdeal : Cert.LossHeadKernelIdeal.Facts] : Prop :=
  ∀ (m : (ℓ : Loc Cert.LossHeadKernelIdeal.nD Cert.LossHeadKernelIdeal.τ Cert.LossHeadKernelIdeal.sig) → Buf (Elt Ideal) ℓ) (g : Dev Cert.LossHeadKernelIdeal.nD → PrngReg), Pre_LossHeadKernelIdeal m →
    θ_run (Cert.LossHeadKernelIdeal.defs (F := Ideal)) (onTc (τ := Cert.LossHeadKernelIdeal.τ) (Cert.LossHeadKernelIdeal.main (F := Ideal))) ⟨m, fun _ => 0, g⟩ (fun r => (∀ c : Dev Cert.LossHeadKernelIdeal.nD,
      r.2.mem ((c.tc : Thread Cert.LossHeadKernelIdeal.nD Cert.LossHeadKernelIdeal.τ).loc Cert.LossHeadKernelIdeal.main_arg0) = m ((c.tc : Thread Cert.LossHeadKernelIdeal.nD Cert.LossHeadKernelIdeal.τ).loc Cert.LossHeadKernelIdeal.main_arg0)
      ∧ r.2.mem ((c.tc : Thread Cert.LossHeadKernelIdeal.nD Cert.LossHeadKernelIdeal.τ).loc Cert.LossHeadKernelIdeal.main_arg1) = m ((c.tc : Thread Cert.LossHeadKernelIdeal.nD Cert.LossHeadKernelIdeal.τ).loc Cert.LossHeadKernelIdeal.main_arg1)
      ∧ r.2.mem ((c.tc : Thread Cert.LossHeadKernelIdeal.nD Cert.LossHeadKernelIdeal.τ).loc Cert.LossHeadKernelIdeal.main_arg2) = m ((c.tc : Thread Cert.LossHeadKernelIdeal.nD Cert.LossHeadKernelIdeal.τ).loc Cert.LossHeadKernelIdeal.main_arg2))
      ∧ r.2.sem = fun _ => 0)

def quiescent_LossHeadReferenceIdeal [hLossHeadReferenceIdeal : Cert.LossHeadReferenceIdeal.Facts] : Prop :=
  ∀ (m : (ℓ : Loc Cert.LossHeadReferenceIdeal.nD Cert.LossHeadReferenceIdeal.τ Cert.LossHeadReferenceIdeal.sig) → Buf (Elt Ideal) ℓ) (g : Dev Cert.LossHeadReferenceIdeal.nD → PrngReg), Pre_LossHeadReferenceIdeal m →
    θ_run (Cert.LossHeadReferenceIdeal.defs (F := Ideal)) (onTc (τ := Cert.LossHeadReferenceIdeal.τ) (Cert.LossHeadReferenceIdeal.main (F := Ideal))) ⟨m, fun _ => 0, g⟩ (fun r => (∀ c : Dev Cert.LossHeadReferenceIdeal.nD,
      r.2.mem ((c.tc : Thread Cert.LossHeadReferenceIdeal.nD Cert.LossHeadReferenceIdeal.τ).loc Cert.LossHeadReferenceIdeal.main_arg0) = m ((c.tc : Thread Cert.LossHeadReferenceIdeal.nD Cert.LossHeadReferenceIdeal.τ).loc Cert.LossHeadReferenceIdeal.main_arg0)
      ∧ r.2.mem ((c.tc : Thread Cert.LossHeadReferenceIdeal.nD Cert.LossHeadReferenceIdeal.τ).loc Cert.LossHeadReferenceIdeal.main_arg1) = m ((c.tc : Thread Cert.LossHeadReferenceIdeal.nD Cert.LossHeadReferenceIdeal.τ).loc Cert.LossHeadReferenceIdeal.main_arg1)
      ∧ r.2.mem ((c.tc : Thread Cert.LossHeadReferenceIdeal.nD Cert.LossHeadReferenceIdeal.τ).loc Cert.LossHeadReferenceIdeal.main_arg2) = m ((c.tc : Thread Cert.LossHeadReferenceIdeal.nD Cert.LossHeadReferenceIdeal.τ).loc Cert.LossHeadReferenceIdeal.main_arg2))
      ∧ r.2.sem = fun _ => 0)

def quiescent_AdamSmallKernel [hAdamSmallKernel : Cert.AdamSmallKernel.Facts] : Prop :=
  ∀ (m : (ℓ : Loc Cert.AdamSmallKernel.nD Cert.AdamSmallKernel.τ Cert.AdamSmallKernel.sig) → Buf (Elt Bits) ℓ) (g : Dev Cert.AdamSmallKernel.nD → PrngReg), Pre_AdamSmallKernel m →
    θ_run (Cert.AdamSmallKernel.defs (F := Bits)) (onTc (τ := Cert.AdamSmallKernel.τ) (Cert.AdamSmallKernel.main (F := Bits))) ⟨m, fun _ => 0, g⟩ (fun r => (∀ c : Dev Cert.AdamSmallKernel.nD,
      r.2.mem ((c.tc : Thread Cert.AdamSmallKernel.nD Cert.AdamSmallKernel.τ).loc Cert.AdamSmallKernel.main_arg0) = m ((c.tc : Thread Cert.AdamSmallKernel.nD Cert.AdamSmallKernel.τ).loc Cert.AdamSmallKernel.main_arg0)
      ∧ r.2.mem ((c.tc : Thread Cert.AdamSmallKernel.nD Cert.AdamSmallKernel.τ).loc Cert.AdamSmallKernel.main_arg1) = m ((c.tc : Thread Cert.AdamSmallKernel.nD Cert.AdamSmallKernel.τ).loc Cert.AdamSmallKernel.main_arg1)
      ∧ r.2.mem ((c.tc : Thread Cert.AdamSmallKernel.nD Cert.AdamSmallKernel.τ).loc Cert.AdamSmallKernel.main_arg2) = m ((c.tc : Thread Cert.AdamSmallKernel.nD Cert.AdamSmallKernel.τ).loc Cert.AdamSmallKernel.main_arg2)
      ∧ r.2.mem ((c.tc : Thread Cert.AdamSmallKernel.nD Cert.AdamSmallKernel.τ).loc Cert.AdamSmallKernel.main_arg3) = m ((c.tc : Thread Cert.AdamSmallKernel.nD Cert.AdamSmallKernel.τ).loc Cert.AdamSmallKernel.main_arg3))
      ∧ r.2.sem = fun _ => 0)

def quiescent_AdamSmallKernelIdeal [hAdamSmallKernelIdeal : Cert.AdamSmallKernelIdeal.Facts] : Prop :=
  ∀ (m : (ℓ : Loc Cert.AdamSmallKernelIdeal.nD Cert.AdamSmallKernelIdeal.τ Cert.AdamSmallKernelIdeal.sig) → Buf (Elt Ideal) ℓ) (g : Dev Cert.AdamSmallKernelIdeal.nD → PrngReg), Pre_AdamSmallKernelIdeal m →
    θ_run (Cert.AdamSmallKernelIdeal.defs (F := Ideal)) (onTc (τ := Cert.AdamSmallKernelIdeal.τ) (Cert.AdamSmallKernelIdeal.main (F := Ideal))) ⟨m, fun _ => 0, g⟩ (fun r => (∀ c : Dev Cert.AdamSmallKernelIdeal.nD,
      r.2.mem ((c.tc : Thread Cert.AdamSmallKernelIdeal.nD Cert.AdamSmallKernelIdeal.τ).loc Cert.AdamSmallKernelIdeal.main_arg0) = m ((c.tc : Thread Cert.AdamSmallKernelIdeal.nD Cert.AdamSmallKernelIdeal.τ).loc Cert.AdamSmallKernelIdeal.main_arg0)
      ∧ r.2.mem ((c.tc : Thread Cert.AdamSmallKernelIdeal.nD Cert.AdamSmallKernelIdeal.τ).loc Cert.AdamSmallKernelIdeal.main_arg1) = m ((c.tc : Thread Cert.AdamSmallKernelIdeal.nD Cert.AdamSmallKernelIdeal.τ).loc Cert.AdamSmallKernelIdeal.main_arg1)
      ∧ r.2.mem ((c.tc : Thread Cert.AdamSmallKernelIdeal.nD Cert.AdamSmallKernelIdeal.τ).loc Cert.AdamSmallKernelIdeal.main_arg2) = m ((c.tc : Thread Cert.AdamSmallKernelIdeal.nD Cert.AdamSmallKernelIdeal.τ).loc Cert.AdamSmallKernelIdeal.main_arg2)
      ∧ r.2.mem ((c.tc : Thread Cert.AdamSmallKernelIdeal.nD Cert.AdamSmallKernelIdeal.τ).loc Cert.AdamSmallKernelIdeal.main_arg3) = m ((c.tc : Thread Cert.AdamSmallKernelIdeal.nD Cert.AdamSmallKernelIdeal.τ).loc Cert.AdamSmallKernelIdeal.main_arg3))
      ∧ r.2.sem = fun _ => 0)

def quiescent_AdamSmallReferenceIdeal [hAdamSmallReferenceIdeal : Cert.AdamSmallReferenceIdeal.Facts] : Prop :=
  ∀ (m : (ℓ : Loc Cert.AdamSmallReferenceIdeal.nD Cert.AdamSmallReferenceIdeal.τ Cert.AdamSmallReferenceIdeal.sig) → Buf (Elt Ideal) ℓ) (g : Dev Cert.AdamSmallReferenceIdeal.nD → PrngReg), Pre_AdamSmallReferenceIdeal m →
    θ_run (Cert.AdamSmallReferenceIdeal.defs (F := Ideal)) (onTc (τ := Cert.AdamSmallReferenceIdeal.τ) (Cert.AdamSmallReferenceIdeal.main (F := Ideal))) ⟨m, fun _ => 0, g⟩ (fun r => (∀ c : Dev Cert.AdamSmallReferenceIdeal.nD,
      r.2.mem ((c.tc : Thread Cert.AdamSmallReferenceIdeal.nD Cert.AdamSmallReferenceIdeal.τ).loc Cert.AdamSmallReferenceIdeal.main_arg0) = m ((c.tc : Thread Cert.AdamSmallReferenceIdeal.nD Cert.AdamSmallReferenceIdeal.τ).loc Cert.AdamSmallReferenceIdeal.main_arg0)
      ∧ r.2.mem ((c.tc : Thread Cert.AdamSmallReferenceIdeal.nD Cert.AdamSmallReferenceIdeal.τ).loc Cert.AdamSmallReferenceIdeal.main_arg1) = m ((c.tc : Thread Cert.AdamSmallReferenceIdeal.nD Cert.AdamSmallReferenceIdeal.τ).loc Cert.AdamSmallReferenceIdeal.main_arg1)
      ∧ r.2.mem ((c.tc : Thread Cert.AdamSmallReferenceIdeal.nD Cert.AdamSmallReferenceIdeal.τ).loc Cert.AdamSmallReferenceIdeal.main_arg2) = m ((c.tc : Thread Cert.AdamSmallReferenceIdeal.nD Cert.AdamSmallReferenceIdeal.τ).loc Cert.AdamSmallReferenceIdeal.main_arg2)
      ∧ r.2.mem ((c.tc : Thread Cert.AdamSmallReferenceIdeal.nD Cert.AdamSmallReferenceIdeal.τ).loc Cert.AdamSmallReferenceIdeal.main_arg3) = m ((c.tc : Thread Cert.AdamSmallReferenceIdeal.nD Cert.AdamSmallReferenceIdeal.τ).loc Cert.AdamSmallReferenceIdeal.main_arg3))
      ∧ r.2.sem = fun _ => 0)

def quiescent_MergeZeroKernel [hMergeZeroKernel : Cert.MergeZeroKernel.Facts] : Prop :=
  ∀ (m : (ℓ : Loc Cert.MergeZeroKernel.nD Cert.MergeZeroKernel.τ Cert.MergeZeroKernel.sig) → Buf (Elt Bits) ℓ) (g : Dev Cert.MergeZeroKernel.nD → PrngReg), Pre_MergeZeroKernel m →
    θ_run (Cert.MergeZeroKernel.defs (F := Bits)) (onTc (τ := Cert.MergeZeroKernel.τ) (Cert.MergeZeroKernel.main (F := Bits))) ⟨m, fun _ => 0, g⟩ (fun r => (∀ c : Dev Cert.MergeZeroKernel.nD,
      r.2.mem ((c.tc : Thread Cert.MergeZeroKernel.nD Cert.MergeZeroKernel.τ).loc Cert.MergeZeroKernel.main_arg0) = m ((c.tc : Thread Cert.MergeZeroKernel.nD Cert.MergeZeroKernel.τ).loc Cert.MergeZeroKernel.main_arg0)
      ∧ r.2.mem ((c.tc : Thread Cert.MergeZeroKernel.nD Cert.MergeZeroKernel.τ).loc Cert.MergeZeroKernel.main_arg1) = m ((c.tc : Thread Cert.MergeZeroKernel.nD Cert.MergeZeroKernel.τ).loc Cert.MergeZeroKernel.main_arg1)
      ∧ r.2.mem ((c.tc : Thread Cert.MergeZeroKernel.nD Cert.MergeZeroKernel.τ).loc Cert.MergeZeroKernel.main_arg2) = m ((c.tc : Thread Cert.MergeZeroKernel.nD Cert.MergeZeroKernel.τ).loc Cert.MergeZeroKernel.main_arg2)
      ∧ r.2.mem ((c.tc : Thread Cert.MergeZeroKernel.nD Cert.MergeZeroKernel.τ).loc Cert.MergeZeroKernel.main_arg3) = m ((c.tc : Thread Cert.MergeZeroKernel.nD Cert.MergeZeroKernel.τ).loc Cert.MergeZeroKernel.main_arg3)
      ∧ r.2.mem ((c.tc : Thread Cert.MergeZeroKernel.nD Cert.MergeZeroKernel.τ).loc Cert.MergeZeroKernel.main_arg4) = m ((c.tc : Thread Cert.MergeZeroKernel.nD Cert.MergeZeroKernel.τ).loc Cert.MergeZeroKernel.main_arg4))
      ∧ r.2.sem = fun _ => 0)

def quiescent_MergeZeroKernelIdeal [hMergeZeroKernelIdeal : Cert.MergeZeroKernelIdeal.Facts] : Prop :=
  ∀ (m : (ℓ : Loc Cert.MergeZeroKernelIdeal.nD Cert.MergeZeroKernelIdeal.τ Cert.MergeZeroKernelIdeal.sig) → Buf (Elt Ideal) ℓ) (g : Dev Cert.MergeZeroKernelIdeal.nD → PrngReg), Pre_MergeZeroKernelIdeal m →
    θ_run (Cert.MergeZeroKernelIdeal.defs (F := Ideal)) (onTc (τ := Cert.MergeZeroKernelIdeal.τ) (Cert.MergeZeroKernelIdeal.main (F := Ideal))) ⟨m, fun _ => 0, g⟩ (fun r => (∀ c : Dev Cert.MergeZeroKernelIdeal.nD,
      r.2.mem ((c.tc : Thread Cert.MergeZeroKernelIdeal.nD Cert.MergeZeroKernelIdeal.τ).loc Cert.MergeZeroKernelIdeal.main_arg0) = m ((c.tc : Thread Cert.MergeZeroKernelIdeal.nD Cert.MergeZeroKernelIdeal.τ).loc Cert.MergeZeroKernelIdeal.main_arg0)
      ∧ r.2.mem ((c.tc : Thread Cert.MergeZeroKernelIdeal.nD Cert.MergeZeroKernelIdeal.τ).loc Cert.MergeZeroKernelIdeal.main_arg1) = m ((c.tc : Thread Cert.MergeZeroKernelIdeal.nD Cert.MergeZeroKernelIdeal.τ).loc Cert.MergeZeroKernelIdeal.main_arg1)
      ∧ r.2.mem ((c.tc : Thread Cert.MergeZeroKernelIdeal.nD Cert.MergeZeroKernelIdeal.τ).loc Cert.MergeZeroKernelIdeal.main_arg2) = m ((c.tc : Thread Cert.MergeZeroKernelIdeal.nD Cert.MergeZeroKernelIdeal.τ).loc Cert.MergeZeroKernelIdeal.main_arg2)
      ∧ r.2.mem ((c.tc : Thread Cert.MergeZeroKernelIdeal.nD Cert.MergeZeroKernelIdeal.τ).loc Cert.MergeZeroKernelIdeal.main_arg3) = m ((c.tc : Thread Cert.MergeZeroKernelIdeal.nD Cert.MergeZeroKernelIdeal.τ).loc Cert.MergeZeroKernelIdeal.main_arg3)
      ∧ r.2.mem ((c.tc : Thread Cert.MergeZeroKernelIdeal.nD Cert.MergeZeroKernelIdeal.τ).loc Cert.MergeZeroKernelIdeal.main_arg4) = m ((c.tc : Thread Cert.MergeZeroKernelIdeal.nD Cert.MergeZeroKernelIdeal.τ).loc Cert.MergeZeroKernelIdeal.main_arg4))
      ∧ r.2.sem = fun _ => 0)

def quiescent_PostZeroKernel [hPostZeroKernel : Cert.PostZeroKernel.Facts] : Prop :=
  ∀ (m : (ℓ : Loc Cert.PostZeroKernel.nD Cert.PostZeroKernel.τ Cert.PostZeroKernel.sig) → Buf (Elt Bits) ℓ) (g : Dev Cert.PostZeroKernel.nD → PrngReg), Pre_PostZeroKernel m →
    θ_run (Cert.PostZeroKernel.defs (F := Bits)) (onTc (τ := Cert.PostZeroKernel.τ) (Cert.PostZeroKernel.main (F := Bits))) ⟨m, fun _ => 0, g⟩ (fun r => (∀ c : Dev Cert.PostZeroKernel.nD,
      r.2.mem ((c.tc : Thread Cert.PostZeroKernel.nD Cert.PostZeroKernel.τ).loc Cert.PostZeroKernel.main_arg0) = m ((c.tc : Thread Cert.PostZeroKernel.nD Cert.PostZeroKernel.τ).loc Cert.PostZeroKernel.main_arg0)
      ∧ r.2.mem ((c.tc : Thread Cert.PostZeroKernel.nD Cert.PostZeroKernel.τ).loc Cert.PostZeroKernel.main_arg1) = m ((c.tc : Thread Cert.PostZeroKernel.nD Cert.PostZeroKernel.τ).loc Cert.PostZeroKernel.main_arg1)
      ∧ r.2.mem ((c.tc : Thread Cert.PostZeroKernel.nD Cert.PostZeroKernel.τ).loc Cert.PostZeroKernel.main_arg2) = m ((c.tc : Thread Cert.PostZeroKernel.nD Cert.PostZeroKernel.τ).loc Cert.PostZeroKernel.main_arg2)
      ∧ r.2.mem ((c.tc : Thread Cert.PostZeroKernel.nD Cert.PostZeroKernel.τ).loc Cert.PostZeroKernel.main_arg3) = m ((c.tc : Thread Cert.PostZeroKernel.nD Cert.PostZeroKernel.τ).loc Cert.PostZeroKernel.main_arg3)
      ∧ r.2.mem ((c.tc : Thread Cert.PostZeroKernel.nD Cert.PostZeroKernel.τ).loc Cert.PostZeroKernel.main_arg4) = m ((c.tc : Thread Cert.PostZeroKernel.nD Cert.PostZeroKernel.τ).loc Cert.PostZeroKernel.main_arg4)
      ∧ r.2.mem ((c.tc : Thread Cert.PostZeroKernel.nD Cert.PostZeroKernel.τ).loc Cert.PostZeroKernel.main_arg5) = m ((c.tc : Thread Cert.PostZeroKernel.nD Cert.PostZeroKernel.τ).loc Cert.PostZeroKernel.main_arg5))
      ∧ r.2.sem = fun _ => 0)

def quiescent_PostZeroKernelIdeal [hPostZeroKernelIdeal : Cert.PostZeroKernelIdeal.Facts] : Prop :=
  ∀ (m : (ℓ : Loc Cert.PostZeroKernelIdeal.nD Cert.PostZeroKernelIdeal.τ Cert.PostZeroKernelIdeal.sig) → Buf (Elt Ideal) ℓ) (g : Dev Cert.PostZeroKernelIdeal.nD → PrngReg), Pre_PostZeroKernelIdeal m →
    θ_run (Cert.PostZeroKernelIdeal.defs (F := Ideal)) (onTc (τ := Cert.PostZeroKernelIdeal.τ) (Cert.PostZeroKernelIdeal.main (F := Ideal))) ⟨m, fun _ => 0, g⟩ (fun r => (∀ c : Dev Cert.PostZeroKernelIdeal.nD,
      r.2.mem ((c.tc : Thread Cert.PostZeroKernelIdeal.nD Cert.PostZeroKernelIdeal.τ).loc Cert.PostZeroKernelIdeal.main_arg0) = m ((c.tc : Thread Cert.PostZeroKernelIdeal.nD Cert.PostZeroKernelIdeal.τ).loc Cert.PostZeroKernelIdeal.main_arg0)
      ∧ r.2.mem ((c.tc : Thread Cert.PostZeroKernelIdeal.nD Cert.PostZeroKernelIdeal.τ).loc Cert.PostZeroKernelIdeal.main_arg1) = m ((c.tc : Thread Cert.PostZeroKernelIdeal.nD Cert.PostZeroKernelIdeal.τ).loc Cert.PostZeroKernelIdeal.main_arg1)
      ∧ r.2.mem ((c.tc : Thread Cert.PostZeroKernelIdeal.nD Cert.PostZeroKernelIdeal.τ).loc Cert.PostZeroKernelIdeal.main_arg2) = m ((c.tc : Thread Cert.PostZeroKernelIdeal.nD Cert.PostZeroKernelIdeal.τ).loc Cert.PostZeroKernelIdeal.main_arg2)
      ∧ r.2.mem ((c.tc : Thread Cert.PostZeroKernelIdeal.nD Cert.PostZeroKernelIdeal.τ).loc Cert.PostZeroKernelIdeal.main_arg3) = m ((c.tc : Thread Cert.PostZeroKernelIdeal.nD Cert.PostZeroKernelIdeal.τ).loc Cert.PostZeroKernelIdeal.main_arg3)
      ∧ r.2.mem ((c.tc : Thread Cert.PostZeroKernelIdeal.nD Cert.PostZeroKernelIdeal.τ).loc Cert.PostZeroKernelIdeal.main_arg4) = m ((c.tc : Thread Cert.PostZeroKernelIdeal.nD Cert.PostZeroKernelIdeal.τ).loc Cert.PostZeroKernelIdeal.main_arg4)
      ∧ r.2.mem ((c.tc : Thread Cert.PostZeroKernelIdeal.nD Cert.PostZeroKernelIdeal.τ).loc Cert.PostZeroKernelIdeal.main_arg5) = m ((c.tc : Thread Cert.PostZeroKernelIdeal.nD Cert.PostZeroKernelIdeal.τ).loc Cert.PostZeroKernelIdeal.main_arg5))
      ∧ r.2.sem = fun _ => 0)

def quiescent_ResPreZeroKernel [hResPreZeroKernel : Cert.ResPreZeroKernel.Facts] : Prop :=
  ∀ (m : (ℓ : Loc Cert.ResPreZeroKernel.nD Cert.ResPreZeroKernel.τ Cert.ResPreZeroKernel.sig) → Buf (Elt Bits) ℓ) (g : Dev Cert.ResPreZeroKernel.nD → PrngReg), Pre_ResPreZeroKernel m →
    θ_run (Cert.ResPreZeroKernel.defs (F := Bits)) (onTc (τ := Cert.ResPreZeroKernel.τ) (Cert.ResPreZeroKernel.main (F := Bits))) ⟨m, fun _ => 0, g⟩ (fun r => (∀ c : Dev Cert.ResPreZeroKernel.nD,
      r.2.mem ((c.tc : Thread Cert.ResPreZeroKernel.nD Cert.ResPreZeroKernel.τ).loc Cert.ResPreZeroKernel.main_arg0) = m ((c.tc : Thread Cert.ResPreZeroKernel.nD Cert.ResPreZeroKernel.τ).loc Cert.ResPreZeroKernel.main_arg0)
      ∧ r.2.mem ((c.tc : Thread Cert.ResPreZeroKernel.nD Cert.ResPreZeroKernel.τ).loc Cert.ResPreZeroKernel.main_arg1) = m ((c.tc : Thread Cert.ResPreZeroKernel.nD Cert.ResPreZeroKernel.τ).loc Cert.ResPreZeroKernel.main_arg1)
      ∧ r.2.mem ((c.tc : Thread Cert.ResPreZeroKernel.nD Cert.ResPreZeroKernel.τ).loc Cert.ResPreZeroKernel.main_arg2) = m ((c.tc : Thread Cert.ResPreZeroKernel.nD Cert.ResPreZeroKernel.τ).loc Cert.ResPreZeroKernel.main_arg2)
      ∧ r.2.mem ((c.tc : Thread Cert.ResPreZeroKernel.nD Cert.ResPreZeroKernel.τ).loc Cert.ResPreZeroKernel.main_arg3) = m ((c.tc : Thread Cert.ResPreZeroKernel.nD Cert.ResPreZeroKernel.τ).loc Cert.ResPreZeroKernel.main_arg3)
      ∧ r.2.mem ((c.tc : Thread Cert.ResPreZeroKernel.nD Cert.ResPreZeroKernel.τ).loc Cert.ResPreZeroKernel.main_arg4) = m ((c.tc : Thread Cert.ResPreZeroKernel.nD Cert.ResPreZeroKernel.τ).loc Cert.ResPreZeroKernel.main_arg4)
      ∧ r.2.mem ((c.tc : Thread Cert.ResPreZeroKernel.nD Cert.ResPreZeroKernel.τ).loc Cert.ResPreZeroKernel.main_arg5) = m ((c.tc : Thread Cert.ResPreZeroKernel.nD Cert.ResPreZeroKernel.τ).loc Cert.ResPreZeroKernel.main_arg5))
      ∧ r.2.sem = fun _ => 0)

def quiescent_ResPreZeroKernelIdeal [hResPreZeroKernelIdeal : Cert.ResPreZeroKernelIdeal.Facts] : Prop :=
  ∀ (m : (ℓ : Loc Cert.ResPreZeroKernelIdeal.nD Cert.ResPreZeroKernelIdeal.τ Cert.ResPreZeroKernelIdeal.sig) → Buf (Elt Ideal) ℓ) (g : Dev Cert.ResPreZeroKernelIdeal.nD → PrngReg), Pre_ResPreZeroKernelIdeal m →
    θ_run (Cert.ResPreZeroKernelIdeal.defs (F := Ideal)) (onTc (τ := Cert.ResPreZeroKernelIdeal.τ) (Cert.ResPreZeroKernelIdeal.main (F := Ideal))) ⟨m, fun _ => 0, g⟩ (fun r => (∀ c : Dev Cert.ResPreZeroKernelIdeal.nD,
      r.2.mem ((c.tc : Thread Cert.ResPreZeroKernelIdeal.nD Cert.ResPreZeroKernelIdeal.τ).loc Cert.ResPreZeroKernelIdeal.main_arg0) = m ((c.tc : Thread Cert.ResPreZeroKernelIdeal.nD Cert.ResPreZeroKernelIdeal.τ).loc Cert.ResPreZeroKernelIdeal.main_arg0)
      ∧ r.2.mem ((c.tc : Thread Cert.ResPreZeroKernelIdeal.nD Cert.ResPreZeroKernelIdeal.τ).loc Cert.ResPreZeroKernelIdeal.main_arg1) = m ((c.tc : Thread Cert.ResPreZeroKernelIdeal.nD Cert.ResPreZeroKernelIdeal.τ).loc Cert.ResPreZeroKernelIdeal.main_arg1)
      ∧ r.2.mem ((c.tc : Thread Cert.ResPreZeroKernelIdeal.nD Cert.ResPreZeroKernelIdeal.τ).loc Cert.ResPreZeroKernelIdeal.main_arg2) = m ((c.tc : Thread Cert.ResPreZeroKernelIdeal.nD Cert.ResPreZeroKernelIdeal.τ).loc Cert.ResPreZeroKernelIdeal.main_arg2)
      ∧ r.2.mem ((c.tc : Thread Cert.ResPreZeroKernelIdeal.nD Cert.ResPreZeroKernelIdeal.τ).loc Cert.ResPreZeroKernelIdeal.main_arg3) = m ((c.tc : Thread Cert.ResPreZeroKernelIdeal.nD Cert.ResPreZeroKernelIdeal.τ).loc Cert.ResPreZeroKernelIdeal.main_arg3)
      ∧ r.2.mem ((c.tc : Thread Cert.ResPreZeroKernelIdeal.nD Cert.ResPreZeroKernelIdeal.τ).loc Cert.ResPreZeroKernelIdeal.main_arg4) = m ((c.tc : Thread Cert.ResPreZeroKernelIdeal.nD Cert.ResPreZeroKernelIdeal.τ).loc Cert.ResPreZeroKernelIdeal.main_arg4)
      ∧ r.2.mem ((c.tc : Thread Cert.ResPreZeroKernelIdeal.nD Cert.ResPreZeroKernelIdeal.τ).loc Cert.ResPreZeroKernelIdeal.main_arg5) = m ((c.tc : Thread Cert.ResPreZeroKernelIdeal.nD Cert.ResPreZeroKernelIdeal.τ).loc Cert.ResPreZeroKernelIdeal.main_arg5))
      ∧ r.2.sem = fun _ => 0)

def preserves_MergeKernel_MergeKernelIdeal : Prop :=
  True

def algebraic_MergeKernelIdeal_MergeReferenceIdeal [hMergeKernelIdeal : Cert.MergeKernelIdeal.Facts] [hMergeReferenceIdeal : Cert.MergeReferenceIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeKernelIdeal m →
    (∀ c : Dev Cert.MergeKernelIdeal.nD,
      m' ((c.tc : Thread Cert.MergeReferenceIdeal.nD Cert.MergeReferenceIdeal.τ).loc Cert.MergeReferenceIdeal.main_arg0) = m ((c.tc : Thread Cert.MergeKernelIdeal.nD Cert.MergeKernelIdeal.τ).loc Cert.MergeKernelIdeal.main_arg0)
      ∧ m' ((c.tc : Thread Cert.MergeReferenceIdeal.nD Cert.MergeReferenceIdeal.τ).loc Cert.MergeReferenceIdeal.main_arg1) = m ((c.tc : Thread Cert.MergeKernelIdeal.nD Cert.MergeKernelIdeal.τ).loc Cert.MergeKernelIdeal.main_arg1)
      ∧ m' ((c.tc : Thread Cert.MergeReferenceIdeal.nD Cert.MergeReferenceIdeal.τ).loc Cert.MergeReferenceIdeal.main_arg2) = m ((c.tc : Thread Cert.MergeKernelIdeal.nD Cert.MergeKernelIdeal.τ).loc Cert.MergeKernelIdeal.main_arg2)
      ∧ m' ((c.tc : Thread Cert.MergeReferenceIdeal.nD Cert.MergeReferenceIdeal.τ).loc Cert.MergeReferenceIdeal.main_arg3) = m ((c.tc : Thread Cert.MergeKernelIdeal.nD Cert.MergeKernelIdeal.τ).loc Cert.MergeKernelIdeal.main_arg3)
      ∧ m' ((c.tc : Thread Cert.MergeReferenceIdeal.nD Cert.MergeReferenceIdeal.τ).loc Cert.MergeReferenceIdeal.main_arg4) = m ((c.tc : Thread Cert.MergeKernelIdeal.nD Cert.MergeKernelIdeal.τ).loc Cert.MergeKernelIdeal.main_arg4)) →
    ∃ (v0 : (c : Dev Cert.MergeKernelIdeal.nD) → Buf (Elt Ideal) ((c.tc : Thread Cert.MergeKernelIdeal.nD Cert.MergeKernelIdeal.τ).loc Cert.MergeKernelIdeal.main_v0_0)) (v1 : (c : Dev Cert.MergeKernelIdeal.nD) → Buf (Elt Ideal) ((c.tc : Thread Cert.MergeKernelIdeal.nD Cert.MergeKernelIdeal.τ).loc Cert.MergeKernelIdeal.main_v0_1)) (v2 : (c : Dev Cert.MergeKernelIdeal.nD) → Buf (Elt Ideal) ((c.tc : Thread Cert.MergeKernelIdeal.nD Cert.MergeKernelIdeal.τ).loc Cert.MergeKernelIdeal.main_v0_2)) (v3 : (c : Dev Cert.MergeKernelIdeal.nD) → Buf (Elt Ideal) ((c.tc : Thread Cert.MergeKernelIdeal.nD Cert.MergeKernelIdeal.τ).loc Cert.MergeKernelIdeal.main_v0_3)) (v4 : (c : Dev Cert.MergeKernelIdeal.nD) → Buf (Elt Ideal) ((c.tc : Thread Cert.MergeKernelIdeal.nD Cert.MergeKernelIdeal.τ).loc Cert.MergeKernelIdeal.main_v0_4)) (v5 : (c : Dev Cert.MergeKernelIdeal.nD) → Buf (Elt Ideal) ((c.tc : Thread Cert.MergeKernelIdeal.nD Cert.MergeKernelIdeal.τ).loc Cert.MergeKernelIdeal.main_v0_5)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v0_0) = v0 c
          ∧ r.2.mem ((c.tc : Thread Cert.MergeKernelIdeal.nD Cert.MergeKernelIdeal.τ).loc Cert.MergeKernelIdeal.main_v0_1) = v1 c
          ∧ r.2.mem ((c.tc : Thread Cert.MergeKernelIdeal.nD Cert.MergeKernelIdeal.τ).loc Cert.MergeKernelIdeal.main_v0_2) = v2 c
          ∧ r.2.mem ((c.tc : Thread Cert.MergeKernelIdeal.nD Cert.MergeKernelIdeal.τ).loc Cert.MergeKernelIdeal.main_v0_3) = v3 c
          ∧ r.2.mem ((c.tc : Thread Cert.MergeKernelIdeal.nD Cert.MergeKernelIdeal.τ).loc Cert.MergeKernelIdeal.main_v0_4) = v4 c
          ∧ r.2.mem ((c.tc : Thread Cert.MergeKernelIdeal.nD Cert.MergeKernelIdeal.τ).loc Cert.MergeKernelIdeal.main_v0_5) = v5 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
          ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v48) = v0 c
          ∧ r.2.mem ((c.tc : Thread Cert.MergeReferenceIdeal.nD Cert.MergeReferenceIdeal.τ).loc Cert.MergeReferenceIdeal.main_v49) = v1 c
          ∧ r.2.mem ((c.tc : Thread Cert.MergeReferenceIdeal.nD Cert.MergeReferenceIdeal.τ).loc Cert.MergeReferenceIdeal.main_v50) = v2 c
          ∧ r.2.mem ((c.tc : Thread Cert.MergeReferenceIdeal.nD Cert.MergeReferenceIdeal.τ).loc Cert.MergeReferenceIdeal.main_v51) = v3 c
          ∧ r.2.mem ((c.tc : Thread Cert.MergeReferenceIdeal.nD Cert.MergeReferenceIdeal.τ).loc Cert.MergeReferenceIdeal.main_v52) = v4 c
          ∧ r.2.mem ((c.tc : Thread Cert.MergeReferenceIdeal.nD Cert.MergeReferenceIdeal.τ).loc Cert.MergeReferenceIdeal.main_v53) = v5 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4))

def preserves_DupKernel_DupKernelIdeal : Prop :=
  True

def algebraic_DupKernelIdeal_DupReferenceIdeal [hDupKernelIdeal : Cert.DupKernelIdeal.Facts] [hDupReferenceIdeal : Cert.DupReferenceIdeal.Facts] : Prop :=
  ∀ (m : (ℓ : Loc Cert.DupKernelIdeal.nD Cert.DupKernelIdeal.τ Cert.DupKernelIdeal.sig) → Buf (Elt Ideal) ℓ) (g : Dev Cert.DupKernelIdeal.nD → PrngReg)
    (m' : (ℓ : Loc Cert.DupReferenceIdeal.nD Cert.DupReferenceIdeal.τ Cert.DupReferenceIdeal.sig) → Buf (Elt Ideal) ℓ) (g' : Dev Cert.DupReferenceIdeal.nD → PrngReg), Pre_DupKernelIdeal m →
    (∀ c : Dev Cert.DupKernelIdeal.nD,
      m' ((c.tc : Thread Cert.DupReferenceIdeal.nD Cert.DupReferenceIdeal.τ).loc Cert.DupReferenceIdeal.main_arg0) = m ((c.tc : Thread Cert.DupKernelIdeal.nD Cert.DupKernelIdeal.τ).loc Cert.DupKernelIdeal.main_arg0)
      ∧ m' ((c.tc : Thread Cert.DupReferenceIdeal.nD Cert.DupReferenceIdeal.τ).loc Cert.DupReferenceIdeal.main_arg1) = m ((c.tc : Thread Cert.DupKernelIdeal.nD Cert.DupKernelIdeal.τ).loc Cert.DupKernelIdeal.main_arg1)
      ∧ m' ((c.tc : Thread Cert.DupReferenceIdeal.nD Cert.DupReferenceIdeal.τ).loc Cert.DupReferenceIdeal.main_arg2) = m ((c.tc : Thread Cert.DupKernelIdeal.nD Cert.DupKernelIdeal.τ).loc Cert.DupKernelIdeal.main_arg2)) →
    ∃ (v0 : (c : Dev Cert.DupKernelIdeal.nD) → Buf (Elt Ideal) ((c.tc : Thread Cert.DupKernelIdeal.nD Cert.DupKernelIdeal.τ).loc Cert.DupKernelIdeal.main_v0)),
      θ_run (Cert.DupKernelIdeal.defs (F := Ideal)) (onTc (τ := Cert.DupKernelIdeal.τ) (Cert.DupKernelIdeal.main (F := Ideal))) ⟨m, fun _ => 0, g⟩ (fun r => ∀ c : Dev Cert.DupKernelIdeal.nD,
          r.2.mem ((c.tc : Thread Cert.DupKernelIdeal.nD Cert.DupKernelIdeal.τ).loc Cert.DupKernelIdeal.main_v0) = v0 c
          ∧ r.2.mem ((c.tc : Thread Cert.DupKernelIdeal.nD Cert.DupKernelIdeal.τ).loc Cert.DupKernelIdeal.main_arg0) = m ((c.tc : Thread Cert.DupKernelIdeal.nD Cert.DupKernelIdeal.τ).loc Cert.DupKernelIdeal.main_arg0)
          ∧ r.2.mem ((c.tc : Thread Cert.DupKernelIdeal.nD Cert.DupKernelIdeal.τ).loc Cert.DupKernelIdeal.main_arg1) = m ((c.tc : Thread Cert.DupKernelIdeal.nD Cert.DupKernelIdeal.τ).loc Cert.DupKernelIdeal.main_arg1)
          ∧ r.2.mem ((c.tc : Thread Cert.DupKernelIdeal.nD Cert.DupKernelIdeal.τ).loc Cert.DupKernelIdeal.main_arg2) = m ((c.tc : Thread Cert.DupKernelIdeal.nD Cert.DupKernelIdeal.τ).loc Cert.DupKernelIdeal.main_arg2))
      ∧ θ_run (Cert.DupReferenceIdeal.defs (F := Ideal)) (onTc (τ := Cert.DupReferenceIdeal.τ) (Cert.DupReferenceIdeal.main (F := Ideal))) ⟨m', fun _ => 0, g'⟩ (fun r => ∀ c : Dev Cert.DupReferenceIdeal.nD,
          r.2.mem ((c.tc : Thread Cert.DupReferenceIdeal.nD Cert.DupReferenceIdeal.τ).loc Cert.DupReferenceIdeal.main_v15) = v0 c
          ∧ r.2.mem ((c.tc : Thread Cert.DupReferenceIdeal.nD Cert.DupReferenceIdeal.τ).loc Cert.DupReferenceIdeal.main_arg0) = m' ((c.tc : Thread Cert.DupReferenceIdeal.nD Cert.DupReferenceIdeal.τ).loc Cert.DupReferenceIdeal.main_arg0)
          ∧ r.2.mem ((c.tc : Thread Cert.DupReferenceIdeal.nD Cert.DupReferenceIdeal.τ).loc Cert.DupReferenceIdeal.main_arg1) = m' ((c.tc : Thread Cert.DupReferenceIdeal.nD Cert.DupReferenceIdeal.τ).loc Cert.DupReferenceIdeal.main_arg1)
          ∧ r.2.mem ((c.tc : Thread Cert.DupReferenceIdeal.nD Cert.DupReferenceIdeal.τ).loc Cert.DupReferenceIdeal.main_arg2) = m' ((c.tc : Thread Cert.DupReferenceIdeal.nD Cert.DupReferenceIdeal.τ).loc Cert.DupReferenceIdeal.main_arg2))

def preserves_GdownKernel_GdownKernelIdeal : Prop :=
  True

def algebraic_GdownKernelIdeal_GdownReferenceIdeal [hGdownKernelIdeal : Cert.GdownKernelIdeal.Facts] [hGdownReferenceIdeal : Cert.GdownReferenceIdeal.Facts] : Prop :=
  ∀ (m : (ℓ : Loc Cert.GdownKernelIdeal.nD Cert.GdownKernelIdeal.τ Cert.GdownKernelIdeal.sig) → Buf (Elt Ideal) ℓ) (g : Dev Cert.GdownKernelIdeal.nD → PrngReg)
    (m' : (ℓ : Loc Cert.GdownReferenceIdeal.nD Cert.GdownReferenceIdeal.τ Cert.GdownReferenceIdeal.sig) → Buf (Elt Ideal) ℓ) (g' : Dev Cert.GdownReferenceIdeal.nD → PrngReg), Pre_GdownKernelIdeal m →
    (∀ c : Dev Cert.GdownKernelIdeal.nD,
      m' ((c.tc : Thread Cert.GdownReferenceIdeal.nD Cert.GdownReferenceIdeal.τ).loc Cert.GdownReferenceIdeal.main_arg0) = m ((c.tc : Thread Cert.GdownKernelIdeal.nD Cert.GdownKernelIdeal.τ).loc Cert.GdownKernelIdeal.main_arg0)
      ∧ m' ((c.tc : Thread Cert.GdownReferenceIdeal.nD Cert.GdownReferenceIdeal.τ).loc Cert.GdownReferenceIdeal.main_arg1) = m ((c.tc : Thread Cert.GdownKernelIdeal.nD Cert.GdownKernelIdeal.τ).loc Cert.GdownKernelIdeal.main_arg1)) →
    ∃ (v0 : (c : Dev Cert.GdownKernelIdeal.nD) → Buf (Elt Ideal) ((c.tc : Thread Cert.GdownKernelIdeal.nD Cert.GdownKernelIdeal.τ).loc Cert.GdownKernelIdeal.main_v0)),
      θ_run (Cert.GdownKernelIdeal.defs (F := Ideal)) (onTc (τ := Cert.GdownKernelIdeal.τ) (Cert.GdownKernelIdeal.main (F := Ideal))) ⟨m, fun _ => 0, g⟩ (fun r => ∀ c : Dev Cert.GdownKernelIdeal.nD,
          r.2.mem ((c.tc : Thread Cert.GdownKernelIdeal.nD Cert.GdownKernelIdeal.τ).loc Cert.GdownKernelIdeal.main_v0) = v0 c
          ∧ r.2.mem ((c.tc : Thread Cert.GdownKernelIdeal.nD Cert.GdownKernelIdeal.τ).loc Cert.GdownKernelIdeal.main_arg0) = m ((c.tc : Thread Cert.GdownKernelIdeal.nD Cert.GdownKernelIdeal.τ).loc Cert.GdownKernelIdeal.main_arg0)
          ∧ r.2.mem ((c.tc : Thread Cert.GdownKernelIdeal.nD Cert.GdownKernelIdeal.τ).loc Cert.GdownKernelIdeal.main_arg1) = m ((c.tc : Thread Cert.GdownKernelIdeal.nD Cert.GdownKernelIdeal.τ).loc Cert.GdownKernelIdeal.main_arg1))
      ∧ θ_run (Cert.GdownReferenceIdeal.defs (F := Ideal)) (onTc (τ := Cert.GdownReferenceIdeal.τ) (Cert.GdownReferenceIdeal.main (F := Ideal))) ⟨m', fun _ => 0, g'⟩ (fun r => ∀ c : Dev Cert.GdownReferenceIdeal.nD,
          r.2.mem ((c.tc : Thread Cert.GdownReferenceIdeal.nD Cert.GdownReferenceIdeal.τ).loc Cert.GdownReferenceIdeal.main_v6) = v0 c
          ∧ r.2.mem ((c.tc : Thread Cert.GdownReferenceIdeal.nD Cert.GdownReferenceIdeal.τ).loc Cert.GdownReferenceIdeal.main_arg0) = m' ((c.tc : Thread Cert.GdownReferenceIdeal.nD Cert.GdownReferenceIdeal.τ).loc Cert.GdownReferenceIdeal.main_arg0)
          ∧ r.2.mem ((c.tc : Thread Cert.GdownReferenceIdeal.nD Cert.GdownReferenceIdeal.τ).loc Cert.GdownReferenceIdeal.main_arg1) = m' ((c.tc : Thread Cert.GdownReferenceIdeal.nD Cert.GdownReferenceIdeal.τ).loc Cert.GdownReferenceIdeal.main_arg1))

def preserves_DhTwoKernel_DhTwoKernelIdeal : Prop :=
  True

def algebraic_DhTwoKernelIdeal_DhTwoReferenceIdeal [hDhTwoKernelIdeal : Cert.DhTwoKernelIdeal.Facts] [hDhTwoReferenceIdeal : Cert.DhTwoReferenceIdeal.Facts] : Prop :=
  ∀ (m : (ℓ : Loc Cert.DhTwoKernelIdeal.nD Cert.DhTwoKernelIdeal.τ Cert.DhTwoKernelIdeal.sig) → Buf (Elt Ideal) ℓ) (g : Dev Cert.DhTwoKernelIdeal.nD → PrngReg)
    (m' : (ℓ : Loc Cert.DhTwoReferenceIdeal.nD Cert.DhTwoReferenceIdeal.τ Cert.DhTwoReferenceIdeal.sig) → Buf (Elt Ideal) ℓ) (g' : Dev Cert.DhTwoReferenceIdeal.nD → PrngReg), Pre_DhTwoKernelIdeal m →
    (∀ c : Dev Cert.DhTwoKernelIdeal.nD,
      m' ((c.tc : Thread Cert.DhTwoReferenceIdeal.nD Cert.DhTwoReferenceIdeal.τ).loc Cert.DhTwoReferenceIdeal.main_arg0) = m ((c.tc : Thread Cert.DhTwoKernelIdeal.nD Cert.DhTwoKernelIdeal.τ).loc Cert.DhTwoKernelIdeal.main_arg0)
      ∧ m' ((c.tc : Thread Cert.DhTwoReferenceIdeal.nD Cert.DhTwoReferenceIdeal.τ).loc Cert.DhTwoReferenceIdeal.main_arg1) = m ((c.tc : Thread Cert.DhTwoKernelIdeal.nD Cert.DhTwoKernelIdeal.τ).loc Cert.DhTwoKernelIdeal.main_arg1)) →
    ∃ (v0 : (c : Dev Cert.DhTwoKernelIdeal.nD) → Buf (Elt Ideal) ((c.tc : Thread Cert.DhTwoKernelIdeal.nD Cert.DhTwoKernelIdeal.τ).loc Cert.DhTwoKernelIdeal.main_v0)),
      θ_run (Cert.DhTwoKernelIdeal.defs (F := Ideal)) (onTc (τ := Cert.DhTwoKernelIdeal.τ) (Cert.DhTwoKernelIdeal.main (F := Ideal))) ⟨m, fun _ => 0, g⟩ (fun r => ∀ c : Dev Cert.DhTwoKernelIdeal.nD,
          r.2.mem ((c.tc : Thread Cert.DhTwoKernelIdeal.nD Cert.DhTwoKernelIdeal.τ).loc Cert.DhTwoKernelIdeal.main_v0) = v0 c
          ∧ r.2.mem ((c.tc : Thread Cert.DhTwoKernelIdeal.nD Cert.DhTwoKernelIdeal.τ).loc Cert.DhTwoKernelIdeal.main_arg0) = m ((c.tc : Thread Cert.DhTwoKernelIdeal.nD Cert.DhTwoKernelIdeal.τ).loc Cert.DhTwoKernelIdeal.main_arg0)
          ∧ r.2.mem ((c.tc : Thread Cert.DhTwoKernelIdeal.nD Cert.DhTwoKernelIdeal.τ).loc Cert.DhTwoKernelIdeal.main_arg1) = m ((c.tc : Thread Cert.DhTwoKernelIdeal.nD Cert.DhTwoKernelIdeal.τ).loc Cert.DhTwoKernelIdeal.main_arg1))
      ∧ θ_run (Cert.DhTwoReferenceIdeal.defs (F := Ideal)) (onTc (τ := Cert.DhTwoReferenceIdeal.τ) (Cert.DhTwoReferenceIdeal.main (F := Ideal))) ⟨m', fun _ => 0, g'⟩ (fun r => ∀ c : Dev Cert.DhTwoReferenceIdeal.nD,
          r.2.mem ((c.tc : Thread Cert.DhTwoReferenceIdeal.nD Cert.DhTwoReferenceIdeal.τ).loc Cert.DhTwoReferenceIdeal.main_v4) = v0 c
          ∧ r.2.mem ((c.tc : Thread Cert.DhTwoReferenceIdeal.nD Cert.DhTwoReferenceIdeal.τ).loc Cert.DhTwoReferenceIdeal.main_arg0) = m' ((c.tc : Thread Cert.DhTwoReferenceIdeal.nD Cert.DhTwoReferenceIdeal.τ).loc Cert.DhTwoReferenceIdeal.main_arg0)
          ∧ r.2.mem ((c.tc : Thread Cert.DhTwoReferenceIdeal.nD Cert.DhTwoReferenceIdeal.τ).loc Cert.DhTwoReferenceIdeal.main_arg1) = m' ((c.tc : Thread Cert.DhTwoReferenceIdeal.nD Cert.DhTwoReferenceIdeal.τ).loc Cert.DhTwoReferenceIdeal.main_arg1))

def preserves_GupKernel_GupKernelIdeal : Prop :=
  True

def algebraic_GupKernelIdeal_GupReferenceIdeal [hGupKernelIdeal : Cert.GupKernelIdeal.Facts] [hGupReferenceIdeal : Cert.GupReferenceIdeal.Facts] : Prop :=
  ∀ (m : (ℓ : Loc Cert.GupKernelIdeal.nD Cert.GupKernelIdeal.τ Cert.GupKernelIdeal.sig) → Buf (Elt Ideal) ℓ) (g : Dev Cert.GupKernelIdeal.nD → PrngReg)
    (m' : (ℓ : Loc Cert.GupReferenceIdeal.nD Cert.GupReferenceIdeal.τ Cert.GupReferenceIdeal.sig) → Buf (Elt Ideal) ℓ) (g' : Dev Cert.GupReferenceIdeal.nD → PrngReg), Pre_GupKernelIdeal m →
    (∀ c : Dev Cert.GupKernelIdeal.nD,
      m' ((c.tc : Thread Cert.GupReferenceIdeal.nD Cert.GupReferenceIdeal.τ).loc Cert.GupReferenceIdeal.main_arg0) = m ((c.tc : Thread Cert.GupKernelIdeal.nD Cert.GupKernelIdeal.τ).loc Cert.GupKernelIdeal.main_arg0)
      ∧ m' ((c.tc : Thread Cert.GupReferenceIdeal.nD Cert.GupReferenceIdeal.τ).loc Cert.GupReferenceIdeal.main_arg1) = m ((c.tc : Thread Cert.GupKernelIdeal.nD Cert.GupKernelIdeal.τ).loc Cert.GupKernelIdeal.main_arg1)) →
    ∃ (v0 : (c : Dev Cert.GupKernelIdeal.nD) → Buf (Elt Ideal) ((c.tc : Thread Cert.GupKernelIdeal.nD Cert.GupKernelIdeal.τ).loc Cert.GupKernelIdeal.main_v0)),
      θ_run (Cert.GupKernelIdeal.defs (F := Ideal)) (onTc (τ := Cert.GupKernelIdeal.τ) (Cert.GupKernelIdeal.main (F := Ideal))) ⟨m, fun _ => 0, g⟩ (fun r => ∀ c : Dev Cert.GupKernelIdeal.nD,
          r.2.mem ((c.tc : Thread Cert.GupKernelIdeal.nD Cert.GupKernelIdeal.τ).loc Cert.GupKernelIdeal.main_v0) = v0 c
          ∧ r.2.mem ((c.tc : Thread Cert.GupKernelIdeal.nD Cert.GupKernelIdeal.τ).loc Cert.GupKernelIdeal.main_arg0) = m ((c.tc : Thread Cert.GupKernelIdeal.nD Cert.GupKernelIdeal.τ).loc Cert.GupKernelIdeal.main_arg0)
          ∧ r.2.mem ((c.tc : Thread Cert.GupKernelIdeal.nD Cert.GupKernelIdeal.τ).loc Cert.GupKernelIdeal.main_arg1) = m ((c.tc : Thread Cert.GupKernelIdeal.nD Cert.GupKernelIdeal.τ).loc Cert.GupKernelIdeal.main_arg1))
      ∧ θ_run (Cert.GupReferenceIdeal.defs (F := Ideal)) (onTc (τ := Cert.GupReferenceIdeal.τ) (Cert.GupReferenceIdeal.main (F := Ideal))) ⟨m', fun _ => 0, g'⟩ (fun r => ∀ c : Dev Cert.GupReferenceIdeal.nD,
          r.2.mem ((c.tc : Thread Cert.GupReferenceIdeal.nD Cert.GupReferenceIdeal.τ).loc Cert.GupReferenceIdeal.main_v6) = v0 c
          ∧ r.2.mem ((c.tc : Thread Cert.GupReferenceIdeal.nD Cert.GupReferenceIdeal.τ).loc Cert.GupReferenceIdeal.main_arg0) = m' ((c.tc : Thread Cert.GupReferenceIdeal.nD Cert.GupReferenceIdeal.τ).loc Cert.GupReferenceIdeal.main_arg0)
          ∧ r.2.mem ((c.tc : Thread Cert.GupReferenceIdeal.nD Cert.GupReferenceIdeal.τ).loc Cert.GupReferenceIdeal.main_arg1) = m' ((c.tc : Thread Cert.GupReferenceIdeal.nD Cert.GupReferenceIdeal.τ).loc Cert.GupReferenceIdeal.main_arg1))

def preserves_DmergedKernel_DmergedKernelIdeal : Prop :=
  True

def algebraic_DmergedKernelIdeal_DmergedReferenceIdeal [hDmergedKernelIdeal : Cert.DmergedKernelIdeal.Facts] [hDmergedReferenceIdeal : Cert.DmergedReferenceIdeal.Facts] : Prop :=
  ∀ (m : (ℓ : Loc Cert.DmergedKernelIdeal.nD Cert.DmergedKernelIdeal.τ Cert.DmergedKernelIdeal.sig) → Buf (Elt Ideal) ℓ) (g : Dev Cert.DmergedKernelIdeal.nD → PrngReg)
    (m' : (ℓ : Loc Cert.DmergedReferenceIdeal.nD Cert.DmergedReferenceIdeal.τ Cert.DmergedReferenceIdeal.sig) → Buf (Elt Ideal) ℓ) (g' : Dev Cert.DmergedReferenceIdeal.nD → PrngReg), Pre_DmergedKernelIdeal m →
    (∀ c : Dev Cert.DmergedKernelIdeal.nD,
      m' ((c.tc : Thread Cert.DmergedReferenceIdeal.nD Cert.DmergedReferenceIdeal.τ).loc Cert.DmergedReferenceIdeal.main_arg0) = m ((c.tc : Thread Cert.DmergedKernelIdeal.nD Cert.DmergedKernelIdeal.τ).loc Cert.DmergedKernelIdeal.main_arg0)
      ∧ m' ((c.tc : Thread Cert.DmergedReferenceIdeal.nD Cert.DmergedReferenceIdeal.τ).loc Cert.DmergedReferenceIdeal.main_arg1) = m ((c.tc : Thread Cert.DmergedKernelIdeal.nD Cert.DmergedKernelIdeal.τ).loc Cert.DmergedKernelIdeal.main_arg1)) →
    ∃ (v0 : (c : Dev Cert.DmergedKernelIdeal.nD) → Buf (Elt Ideal) ((c.tc : Thread Cert.DmergedKernelIdeal.nD Cert.DmergedKernelIdeal.τ).loc Cert.DmergedKernelIdeal.main_v0)),
      θ_run (Cert.DmergedKernelIdeal.defs (F := Ideal)) (onTc (τ := Cert.DmergedKernelIdeal.τ) (Cert.DmergedKernelIdeal.main (F := Ideal))) ⟨m, fun _ => 0, g⟩ (fun r => ∀ c : Dev Cert.DmergedKernelIdeal.nD,
          r.2.mem ((c.tc : Thread Cert.DmergedKernelIdeal.nD Cert.DmergedKernelIdeal.τ).loc Cert.DmergedKernelIdeal.main_v0) = v0 c
          ∧ r.2.mem ((c.tc : Thread Cert.DmergedKernelIdeal.nD Cert.DmergedKernelIdeal.τ).loc Cert.DmergedKernelIdeal.main_arg0) = m ((c.tc : Thread Cert.DmergedKernelIdeal.nD Cert.DmergedKernelIdeal.τ).loc Cert.DmergedKernelIdeal.main_arg0)
          ∧ r.2.mem ((c.tc : Thread Cert.DmergedKernelIdeal.nD Cert.DmergedKernelIdeal.τ).loc Cert.DmergedKernelIdeal.main_arg1) = m ((c.tc : Thread Cert.DmergedKernelIdeal.nD Cert.DmergedKernelIdeal.τ).loc Cert.DmergedKernelIdeal.main_arg1))
      ∧ θ_run (Cert.DmergedReferenceIdeal.defs (F := Ideal)) (onTc (τ := Cert.DmergedReferenceIdeal.τ) (Cert.DmergedReferenceIdeal.main (F := Ideal))) ⟨m', fun _ => 0, g'⟩ (fun r => ∀ c : Dev Cert.DmergedReferenceIdeal.nD,
          r.2.mem ((c.tc : Thread Cert.DmergedReferenceIdeal.nD Cert.DmergedReferenceIdeal.τ).loc Cert.DmergedReferenceIdeal.main_v4) = v0 c
          ∧ r.2.mem ((c.tc : Thread Cert.DmergedReferenceIdeal.nD Cert.DmergedReferenceIdeal.τ).loc Cert.DmergedReferenceIdeal.main_arg0) = m' ((c.tc : Thread Cert.DmergedReferenceIdeal.nD Cert.DmergedReferenceIdeal.τ).loc Cert.DmergedReferenceIdeal.main_arg0)
          ∧ r.2.mem ((c.tc : Thread Cert.DmergedReferenceIdeal.nD Cert.DmergedReferenceIdeal.τ).loc Cert.DmergedReferenceIdeal.main_arg1) = m' ((c.tc : Thread Cert.DmergedReferenceIdeal.nD Cert.DmergedReferenceIdeal.τ).loc Cert.DmergedReferenceIdeal.main_arg1))

def preserves_GoutKernel_GoutKernelIdeal : Prop :=
  True

def algebraic_GoutKernelIdeal_GoutReferenceIdeal [hGoutKernelIdeal : Cert.GoutKernelIdeal.Facts] [hGoutReferenceIdeal : Cert.GoutReferenceIdeal.Facts] : Prop :=
  ∀ (m : (ℓ : Loc Cert.GoutKernelIdeal.nD Cert.GoutKernelIdeal.τ Cert.GoutKernelIdeal.sig) → Buf (Elt Ideal) ℓ) (g : Dev Cert.GoutKernelIdeal.nD → PrngReg)
    (m' : (ℓ : Loc Cert.GoutReferenceIdeal.nD Cert.GoutReferenceIdeal.τ Cert.GoutReferenceIdeal.sig) → Buf (Elt Ideal) ℓ) (g' : Dev Cert.GoutReferenceIdeal.nD → PrngReg), Pre_GoutKernelIdeal m →
    (∀ c : Dev Cert.GoutKernelIdeal.nD,
      m' ((c.tc : Thread Cert.GoutReferenceIdeal.nD Cert.GoutReferenceIdeal.τ).loc Cert.GoutReferenceIdeal.main_arg0) = m ((c.tc : Thread Cert.GoutKernelIdeal.nD Cert.GoutKernelIdeal.τ).loc Cert.GoutKernelIdeal.main_arg0)
      ∧ m' ((c.tc : Thread Cert.GoutReferenceIdeal.nD Cert.GoutReferenceIdeal.τ).loc Cert.GoutReferenceIdeal.main_arg1) = m ((c.tc : Thread Cert.GoutKernelIdeal.nD Cert.GoutKernelIdeal.τ).loc Cert.GoutKernelIdeal.main_arg1)) →
    ∃ (v0 : (c : Dev Cert.GoutKernelIdeal.nD) → Buf (Elt Ideal) ((c.tc : Thread Cert.GoutKernelIdeal.nD Cert.GoutKernelIdeal.τ).loc Cert.GoutKernelIdeal.main_v0)),
      θ_run (Cert.GoutKernelIdeal.defs (F := Ideal)) (onTc (τ := Cert.GoutKernelIdeal.τ) (Cert.GoutKernelIdeal.main (F := Ideal))) ⟨m, fun _ => 0, g⟩ (fun r => ∀ c : Dev Cert.GoutKernelIdeal.nD,
          r.2.mem ((c.tc : Thread Cert.GoutKernelIdeal.nD Cert.GoutKernelIdeal.τ).loc Cert.GoutKernelIdeal.main_v0) = v0 c
          ∧ r.2.mem ((c.tc : Thread Cert.GoutKernelIdeal.nD Cert.GoutKernelIdeal.τ).loc Cert.GoutKernelIdeal.main_arg0) = m ((c.tc : Thread Cert.GoutKernelIdeal.nD Cert.GoutKernelIdeal.τ).loc Cert.GoutKernelIdeal.main_arg0)
          ∧ r.2.mem ((c.tc : Thread Cert.GoutKernelIdeal.nD Cert.GoutKernelIdeal.τ).loc Cert.GoutKernelIdeal.main_arg1) = m ((c.tc : Thread Cert.GoutKernelIdeal.nD Cert.GoutKernelIdeal.τ).loc Cert.GoutKernelIdeal.main_arg1))
      ∧ θ_run (Cert.GoutReferenceIdeal.defs (F := Ideal)) (onTc (τ := Cert.GoutReferenceIdeal.τ) (Cert.GoutReferenceIdeal.main (F := Ideal))) ⟨m', fun _ => 0, g'⟩ (fun r => ∀ c : Dev Cert.GoutReferenceIdeal.nD,
          r.2.mem ((c.tc : Thread Cert.GoutReferenceIdeal.nD Cert.GoutReferenceIdeal.τ).loc Cert.GoutReferenceIdeal.main_v6) = v0 c
          ∧ r.2.mem ((c.tc : Thread Cert.GoutReferenceIdeal.nD Cert.GoutReferenceIdeal.τ).loc Cert.GoutReferenceIdeal.main_arg0) = m' ((c.tc : Thread Cert.GoutReferenceIdeal.nD Cert.GoutReferenceIdeal.τ).loc Cert.GoutReferenceIdeal.main_arg0)
          ∧ r.2.mem ((c.tc : Thread Cert.GoutReferenceIdeal.nD Cert.GoutReferenceIdeal.τ).loc Cert.GoutReferenceIdeal.main_arg1) = m' ((c.tc : Thread Cert.GoutReferenceIdeal.nD Cert.GoutReferenceIdeal.τ).loc Cert.GoutReferenceIdeal.main_arg1))

def preserves_DyKernel_DyKernelIdeal : Prop :=
  True

def algebraic_DyKernelIdeal_DyReferenceIdeal [hDyKernelIdeal : Cert.DyKernelIdeal.Facts] [hDyReferenceIdeal : Cert.DyReferenceIdeal.Facts] : Prop :=
  ∀ (m : (ℓ : Loc Cert.DyKernelIdeal.nD Cert.DyKernelIdeal.τ Cert.DyKernelIdeal.sig) → Buf (Elt Ideal) ℓ) (g : Dev Cert.DyKernelIdeal.nD → PrngReg)
    (m' : (ℓ : Loc Cert.DyReferenceIdeal.nD Cert.DyReferenceIdeal.τ Cert.DyReferenceIdeal.sig) → Buf (Elt Ideal) ℓ) (g' : Dev Cert.DyReferenceIdeal.nD → PrngReg), Pre_DyKernelIdeal m →
    (∀ c : Dev Cert.DyKernelIdeal.nD,
      m' ((c.tc : Thread Cert.DyReferenceIdeal.nD Cert.DyReferenceIdeal.τ).loc Cert.DyReferenceIdeal.main_arg0) = m ((c.tc : Thread Cert.DyKernelIdeal.nD Cert.DyKernelIdeal.τ).loc Cert.DyKernelIdeal.main_arg0)
      ∧ m' ((c.tc : Thread Cert.DyReferenceIdeal.nD Cert.DyReferenceIdeal.τ).loc Cert.DyReferenceIdeal.main_arg1) = m ((c.tc : Thread Cert.DyKernelIdeal.nD Cert.DyKernelIdeal.τ).loc Cert.DyKernelIdeal.main_arg1)) →
    ∃ (v0 : (c : Dev Cert.DyKernelIdeal.nD) → Buf (Elt Ideal) ((c.tc : Thread Cert.DyKernelIdeal.nD Cert.DyKernelIdeal.τ).loc Cert.DyKernelIdeal.main_v0)),
      θ_run (Cert.DyKernelIdeal.defs (F := Ideal)) (onTc (τ := Cert.DyKernelIdeal.τ) (Cert.DyKernelIdeal.main (F := Ideal))) ⟨m, fun _ => 0, g⟩ (fun r => ∀ c : Dev Cert.DyKernelIdeal.nD,
          r.2.mem ((c.tc : Thread Cert.DyKernelIdeal.nD Cert.DyKernelIdeal.τ).loc Cert.DyKernelIdeal.main_v0) = v0 c
          ∧ r.2.mem ((c.tc : Thread Cert.DyKernelIdeal.nD Cert.DyKernelIdeal.τ).loc Cert.DyKernelIdeal.main_arg0) = m ((c.tc : Thread Cert.DyKernelIdeal.nD Cert.DyKernelIdeal.τ).loc Cert.DyKernelIdeal.main_arg0)
          ∧ r.2.mem ((c.tc : Thread Cert.DyKernelIdeal.nD Cert.DyKernelIdeal.τ).loc Cert.DyKernelIdeal.main_arg1) = m ((c.tc : Thread Cert.DyKernelIdeal.nD Cert.DyKernelIdeal.τ).loc Cert.DyKernelIdeal.main_arg1))
      ∧ θ_run (Cert.DyReferenceIdeal.defs (F := Ideal)) (onTc (τ := Cert.DyReferenceIdeal.τ) (Cert.DyReferenceIdeal.main (F := Ideal))) ⟨m', fun _ => 0, g'⟩ (fun r => ∀ c : Dev Cert.DyReferenceIdeal.nD,
          r.2.mem ((c.tc : Thread Cert.DyReferenceIdeal.nD Cert.DyReferenceIdeal.τ).loc Cert.DyReferenceIdeal.main_v4) = v0 c
          ∧ r.2.mem ((c.tc : Thread Cert.DyReferenceIdeal.nD Cert.DyReferenceIdeal.τ).loc Cert.DyReferenceIdeal.main_arg0) = m' ((c.tc : Thread Cert.DyReferenceIdeal.nD Cert.DyReferenceIdeal.τ).loc Cert.DyReferenceIdeal.main_arg0)
          ∧ r.2.mem ((c.tc : Thread Cert.DyReferenceIdeal.nD Cert.DyReferenceIdeal.τ).loc Cert.DyReferenceIdeal.main_arg1) = m' ((c.tc : Thread Cert.DyReferenceIdeal.nD Cert.DyReferenceIdeal.τ).loc Cert.DyReferenceIdeal.main_arg1))

def preserves_GbranchKernel_GbranchKernelIdeal : Prop :=
  True

def algebraic_GbranchKernelIdeal_GbranchReferenceIdeal [hGbranchKernelIdeal : Cert.GbranchKernelIdeal.Facts] [hGbranchReferenceIdeal : Cert.GbranchReferenceIdeal.Facts] : Prop :=
  ∀ (m : (ℓ : Loc Cert.GbranchKernelIdeal.nD Cert.GbranchKernelIdeal.τ Cert.GbranchKernelIdeal.sig) → Buf (Elt Ideal) ℓ) (g : Dev Cert.GbranchKernelIdeal.nD → PrngReg)
    (m' : (ℓ : Loc Cert.GbranchReferenceIdeal.nD Cert.GbranchReferenceIdeal.τ Cert.GbranchReferenceIdeal.sig) → Buf (Elt Ideal) ℓ) (g' : Dev Cert.GbranchReferenceIdeal.nD → PrngReg), Pre_GbranchKernelIdeal m →
    (∀ c : Dev Cert.GbranchKernelIdeal.nD,
      m' ((c.tc : Thread Cert.GbranchReferenceIdeal.nD Cert.GbranchReferenceIdeal.τ).loc Cert.GbranchReferenceIdeal.main_arg0) = m ((c.tc : Thread Cert.GbranchKernelIdeal.nD Cert.GbranchKernelIdeal.τ).loc Cert.GbranchKernelIdeal.main_arg0)
      ∧ m' ((c.tc : Thread Cert.GbranchReferenceIdeal.nD Cert.GbranchReferenceIdeal.τ).loc Cert.GbranchReferenceIdeal.main_arg1) = m ((c.tc : Thread Cert.GbranchKernelIdeal.nD Cert.GbranchKernelIdeal.τ).loc Cert.GbranchKernelIdeal.main_arg1)) →
    ∃ (v0 : (c : Dev Cert.GbranchKernelIdeal.nD) → Buf (Elt Ideal) ((c.tc : Thread Cert.GbranchKernelIdeal.nD Cert.GbranchKernelIdeal.τ).loc Cert.GbranchKernelIdeal.main_v0)),
      θ_run (Cert.GbranchKernelIdeal.defs (F := Ideal)) (onTc (τ := Cert.GbranchKernelIdeal.τ) (Cert.GbranchKernelIdeal.main (F := Ideal))) ⟨m, fun _ => 0, g⟩ (fun r => ∀ c : Dev Cert.GbranchKernelIdeal.nD,
          r.2.mem ((c.tc : Thread Cert.GbranchKernelIdeal.nD Cert.GbranchKernelIdeal.τ).loc Cert.GbranchKernelIdeal.main_v0) = v0 c
          ∧ r.2.mem ((c.tc : Thread Cert.GbranchKernelIdeal.nD Cert.GbranchKernelIdeal.τ).loc Cert.GbranchKernelIdeal.main_arg0) = m ((c.tc : Thread Cert.GbranchKernelIdeal.nD Cert.GbranchKernelIdeal.τ).loc Cert.GbranchKernelIdeal.main_arg0)
          ∧ r.2.mem ((c.tc : Thread Cert.GbranchKernelIdeal.nD Cert.GbranchKernelIdeal.τ).loc Cert.GbranchKernelIdeal.main_arg1) = m ((c.tc : Thread Cert.GbranchKernelIdeal.nD Cert.GbranchKernelIdeal.τ).loc Cert.GbranchKernelIdeal.main_arg1))
      ∧ θ_run (Cert.GbranchReferenceIdeal.defs (F := Ideal)) (onTc (τ := Cert.GbranchReferenceIdeal.τ) (Cert.GbranchReferenceIdeal.main (F := Ideal))) ⟨m', fun _ => 0, g'⟩ (fun r => ∀ c : Dev Cert.GbranchReferenceIdeal.nD,
          r.2.mem ((c.tc : Thread Cert.GbranchReferenceIdeal.nD Cert.GbranchReferenceIdeal.τ).loc Cert.GbranchReferenceIdeal.main_v6) = v0 c
          ∧ r.2.mem ((c.tc : Thread Cert.GbranchReferenceIdeal.nD Cert.GbranchReferenceIdeal.τ).loc Cert.GbranchReferenceIdeal.main_arg0) = m' ((c.tc : Thread Cert.GbranchReferenceIdeal.nD Cert.GbranchReferenceIdeal.τ).loc Cert.GbranchReferenceIdeal.main_arg0)
          ∧ r.2.mem ((c.tc : Thread Cert.GbranchReferenceIdeal.nD Cert.GbranchReferenceIdeal.τ).loc Cert.GbranchReferenceIdeal.main_arg1) = m' ((c.tc : Thread Cert.GbranchReferenceIdeal.nD Cert.GbranchReferenceIdeal.τ).loc Cert.GbranchReferenceIdeal.main_arg1))

def preserves_GinKernel_GinKernelIdeal : Prop :=
  True

def algebraic_GinKernelIdeal_GinReferenceIdeal [hGinKernelIdeal : Cert.GinKernelIdeal.Facts] [hGinReferenceIdeal : Cert.GinReferenceIdeal.Facts] : Prop :=
  ∀ (m : (ℓ : Loc Cert.GinKernelIdeal.nD Cert.GinKernelIdeal.τ Cert.GinKernelIdeal.sig) → Buf (Elt Ideal) ℓ) (g : Dev Cert.GinKernelIdeal.nD → PrngReg)
    (m' : (ℓ : Loc Cert.GinReferenceIdeal.nD Cert.GinReferenceIdeal.τ Cert.GinReferenceIdeal.sig) → Buf (Elt Ideal) ℓ) (g' : Dev Cert.GinReferenceIdeal.nD → PrngReg), Pre_GinKernelIdeal m →
    (∀ c : Dev Cert.GinKernelIdeal.nD,
      m' ((c.tc : Thread Cert.GinReferenceIdeal.nD Cert.GinReferenceIdeal.τ).loc Cert.GinReferenceIdeal.main_arg0) = m ((c.tc : Thread Cert.GinKernelIdeal.nD Cert.GinKernelIdeal.τ).loc Cert.GinKernelIdeal.main_arg0)
      ∧ m' ((c.tc : Thread Cert.GinReferenceIdeal.nD Cert.GinReferenceIdeal.τ).loc Cert.GinReferenceIdeal.main_arg1) = m ((c.tc : Thread Cert.GinKernelIdeal.nD Cert.GinKernelIdeal.τ).loc Cert.GinKernelIdeal.main_arg1)) →
    ∃ (v0 : (c : Dev Cert.GinKernelIdeal.nD) → Buf (Elt Ideal) ((c.tc : Thread Cert.GinKernelIdeal.nD Cert.GinKernelIdeal.τ).loc Cert.GinKernelIdeal.main_v0)),
      θ_run (Cert.GinKernelIdeal.defs (F := Ideal)) (onTc (τ := Cert.GinKernelIdeal.τ) (Cert.GinKernelIdeal.main (F := Ideal))) ⟨m, fun _ => 0, g⟩ (fun r => ∀ c : Dev Cert.GinKernelIdeal.nD,
          r.2.mem ((c.tc : Thread Cert.GinKernelIdeal.nD Cert.GinKernelIdeal.τ).loc Cert.GinKernelIdeal.main_v0) = v0 c
          ∧ r.2.mem ((c.tc : Thread Cert.GinKernelIdeal.nD Cert.GinKernelIdeal.τ).loc Cert.GinKernelIdeal.main_arg0) = m ((c.tc : Thread Cert.GinKernelIdeal.nD Cert.GinKernelIdeal.τ).loc Cert.GinKernelIdeal.main_arg0)
          ∧ r.2.mem ((c.tc : Thread Cert.GinKernelIdeal.nD Cert.GinKernelIdeal.τ).loc Cert.GinKernelIdeal.main_arg1) = m ((c.tc : Thread Cert.GinKernelIdeal.nD Cert.GinKernelIdeal.τ).loc Cert.GinKernelIdeal.main_arg1))
      ∧ θ_run (Cert.GinReferenceIdeal.defs (F := Ideal)) (onTc (τ := Cert.GinReferenceIdeal.τ) (Cert.GinReferenceIdeal.main (F := Ideal))) ⟨m', fun _ => 0, g'⟩ (fun r => ∀ c : Dev Cert.GinReferenceIdeal.nD,
          r.2.mem ((c.tc : Thread Cert.GinReferenceIdeal.nD Cert.GinReferenceIdeal.τ).loc Cert.GinReferenceIdeal.main_v6) = v0 c
          ∧ r.2.mem ((c.tc : Thread Cert.GinReferenceIdeal.nD Cert.GinReferenceIdeal.τ).loc Cert.GinReferenceIdeal.main_arg0) = m' ((c.tc : Thread Cert.GinReferenceIdeal.nD Cert.GinReferenceIdeal.τ).loc Cert.GinReferenceIdeal.main_arg0)
          ∧ r.2.mem ((c.tc : Thread Cert.GinReferenceIdeal.nD Cert.GinReferenceIdeal.τ).loc Cert.GinReferenceIdeal.main_arg1) = m' ((c.tc : Thread Cert.GinReferenceIdeal.nD Cert.GinReferenceIdeal.τ).loc Cert.GinReferenceIdeal.main_arg1))

def preserves_DhKernel_DhKernelIdeal : Prop :=
  True

def algebraic_DhKernelIdeal_DhReferenceIdeal [hDhKernelIdeal : Cert.DhKernelIdeal.Facts] [hDhReferenceIdeal : Cert.DhReferenceIdeal.Facts] : Prop :=
  ∀ (m : (ℓ : Loc Cert.DhKernelIdeal.nD Cert.DhKernelIdeal.τ Cert.DhKernelIdeal.sig) → Buf (Elt Ideal) ℓ) (g : Dev Cert.DhKernelIdeal.nD → PrngReg)
    (m' : (ℓ : Loc Cert.DhReferenceIdeal.nD Cert.DhReferenceIdeal.τ Cert.DhReferenceIdeal.sig) → Buf (Elt Ideal) ℓ) (g' : Dev Cert.DhReferenceIdeal.nD → PrngReg), Pre_DhKernelIdeal m →
    (∀ c : Dev Cert.DhKernelIdeal.nD,
      m' ((c.tc : Thread Cert.DhReferenceIdeal.nD Cert.DhReferenceIdeal.τ).loc Cert.DhReferenceIdeal.main_arg0) = m ((c.tc : Thread Cert.DhKernelIdeal.nD Cert.DhKernelIdeal.τ).loc Cert.DhKernelIdeal.main_arg0)
      ∧ m' ((c.tc : Thread Cert.DhReferenceIdeal.nD Cert.DhReferenceIdeal.τ).loc Cert.DhReferenceIdeal.main_arg1) = m ((c.tc : Thread Cert.DhKernelIdeal.nD Cert.DhKernelIdeal.τ).loc Cert.DhKernelIdeal.main_arg1)) →
    ∃ (v0 : (c : Dev Cert.DhKernelIdeal.nD) → Buf (Elt Ideal) ((c.tc : Thread Cert.DhKernelIdeal.nD Cert.DhKernelIdeal.τ).loc Cert.DhKernelIdeal.main_v0)),
      θ_run (Cert.DhKernelIdeal.defs (F := Ideal)) (onTc (τ := Cert.DhKernelIdeal.τ) (Cert.DhKernelIdeal.main (F := Ideal))) ⟨m, fun _ => 0, g⟩ (fun r => ∀ c : Dev Cert.DhKernelIdeal.nD,
          r.2.mem ((c.tc : Thread Cert.DhKernelIdeal.nD Cert.DhKernelIdeal.τ).loc Cert.DhKernelIdeal.main_v0) = v0 c
          ∧ r.2.mem ((c.tc : Thread Cert.DhKernelIdeal.nD Cert.DhKernelIdeal.τ).loc Cert.DhKernelIdeal.main_arg0) = m ((c.tc : Thread Cert.DhKernelIdeal.nD Cert.DhKernelIdeal.τ).loc Cert.DhKernelIdeal.main_arg0)
          ∧ r.2.mem ((c.tc : Thread Cert.DhKernelIdeal.nD Cert.DhKernelIdeal.τ).loc Cert.DhKernelIdeal.main_arg1) = m ((c.tc : Thread Cert.DhKernelIdeal.nD Cert.DhKernelIdeal.τ).loc Cert.DhKernelIdeal.main_arg1))
      ∧ θ_run (Cert.DhReferenceIdeal.defs (F := Ideal)) (onTc (τ := Cert.DhReferenceIdeal.τ) (Cert.DhReferenceIdeal.main (F := Ideal))) ⟨m', fun _ => 0, g'⟩ (fun r => ∀ c : Dev Cert.DhReferenceIdeal.nD,
          r.2.mem ((c.tc : Thread Cert.DhReferenceIdeal.nD Cert.DhReferenceIdeal.τ).loc Cert.DhReferenceIdeal.main_v4) = v0 c
          ∧ r.2.mem ((c.tc : Thread Cert.DhReferenceIdeal.nD Cert.DhReferenceIdeal.τ).loc Cert.DhReferenceIdeal.main_arg0) = m' ((c.tc : Thread Cert.DhReferenceIdeal.nD Cert.DhReferenceIdeal.τ).loc Cert.DhReferenceIdeal.main_arg0)
          ∧ r.2.mem ((c.tc : Thread Cert.DhReferenceIdeal.nD Cert.DhReferenceIdeal.τ).loc Cert.DhReferenceIdeal.main_arg1) = m' ((c.tc : Thread Cert.DhReferenceIdeal.nD Cert.DhReferenceIdeal.τ).loc Cert.DhReferenceIdeal.main_arg1))

def preserves_ProjKernel_ProjKernelIdeal : Prop :=
  True

def algebraic_ProjKernelIdeal_ProjReferenceIdeal [hProjKernelIdeal : Cert.ProjKernelIdeal.Facts] [hProjReferenceIdeal : Cert.ProjReferenceIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)) →
    ∃ (v0 : (c : Dev Cert.ProjKernelIdeal.nD) → Buf (Elt Ideal) ((c.tc : Thread Cert.ProjKernelIdeal.nD Cert.ProjKernelIdeal.τ).loc Cert.ProjKernelIdeal.main_v0)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v0) = v0 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v2) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1))

def preserves_BranchKernel_BranchKernelIdeal : Prop :=
  True

def algebraic_BranchKernelIdeal_BranchReferenceIdeal [hBranchKernelIdeal : Cert.BranchKernelIdeal.Facts] [hBranchReferenceIdeal : Cert.BranchReferenceIdeal.Facts] : Prop :=
  ∀ (m : (ℓ : Loc Cert.BranchKernelIdeal.nD Cert.BranchKernelIdeal.τ Cert.BranchKernelIdeal.sig) → Buf (Elt Ideal) ℓ) (g : Dev Cert.BranchKernelIdeal.nD → PrngReg)
    (m' : (ℓ : Loc Cert.BranchReferenceIdeal.nD Cert.BranchReferenceIdeal.τ Cert.BranchReferenceIdeal.sig) → Buf (Elt Ideal) ℓ) (g' : Dev Cert.BranchReferenceIdeal.nD → PrngReg), Pre_BranchKernelIdeal m →
    (∀ c : Dev Cert.BranchKernelIdeal.nD,
      m' ((c.tc : Thread Cert.BranchReferenceIdeal.nD Cert.BranchReferenceIdeal.τ).loc Cert.BranchReferenceIdeal.main_arg0) = m ((c.tc : Thread Cert.BranchKernelIdeal.nD Cert.BranchKernelIdeal.τ).loc Cert.BranchKernelIdeal.main_arg0)
      ∧ m' ((c.tc : Thread Cert.BranchReferenceIdeal.nD Cert.BranchReferenceIdeal.τ).loc Cert.BranchReferenceIdeal.main_arg1) = m ((c.tc : Thread Cert.BranchKernelIdeal.nD Cert.BranchKernelIdeal.τ).loc Cert.BranchKernelIdeal.main_arg1)) →
    ∃ (v0 : (c : Dev Cert.BranchKernelIdeal.nD) → Buf (Elt Ideal) ((c.tc : Thread Cert.BranchKernelIdeal.nD Cert.BranchKernelIdeal.τ).loc Cert.BranchKernelIdeal.main_v0)),
      θ_run (Cert.BranchKernelIdeal.defs (F := Ideal)) (onTc (τ := Cert.BranchKernelIdeal.τ) (Cert.BranchKernelIdeal.main (F := Ideal))) ⟨m, fun _ => 0, g⟩ (fun r => ∀ c : Dev Cert.BranchKernelIdeal.nD,
          r.2.mem ((c.tc : Thread Cert.BranchKernelIdeal.nD Cert.BranchKernelIdeal.τ).loc Cert.BranchKernelIdeal.main_v0) = v0 c
          ∧ r.2.mem ((c.tc : Thread Cert.BranchKernelIdeal.nD Cert.BranchKernelIdeal.τ).loc Cert.BranchKernelIdeal.main_arg0) = m ((c.tc : Thread Cert.BranchKernelIdeal.nD Cert.BranchKernelIdeal.τ).loc Cert.BranchKernelIdeal.main_arg0)
          ∧ r.2.mem ((c.tc : Thread Cert.BranchKernelIdeal.nD Cert.BranchKernelIdeal.τ).loc Cert.BranchKernelIdeal.main_arg1) = m ((c.tc : Thread Cert.BranchKernelIdeal.nD Cert.BranchKernelIdeal.τ).loc Cert.BranchKernelIdeal.main_arg1))
      ∧ θ_run (Cert.BranchReferenceIdeal.defs (F := Ideal)) (onTc (τ := Cert.BranchReferenceIdeal.τ) (Cert.BranchReferenceIdeal.main (F := Ideal))) ⟨m', fun _ => 0, g'⟩ (fun r => ∀ c : Dev Cert.BranchReferenceIdeal.nD,
          r.2.mem ((c.tc : Thread Cert.BranchReferenceIdeal.nD Cert.BranchReferenceIdeal.τ).loc Cert.BranchReferenceIdeal.main_v3) = v0 c
          ∧ r.2.mem ((c.tc : Thread Cert.BranchReferenceIdeal.nD Cert.BranchReferenceIdeal.τ).loc Cert.BranchReferenceIdeal.main_arg0) = m' ((c.tc : Thread Cert.BranchReferenceIdeal.nD Cert.BranchReferenceIdeal.τ).loc Cert.BranchReferenceIdeal.main_arg0)
          ∧ r.2.mem ((c.tc : Thread Cert.BranchReferenceIdeal.nD Cert.BranchReferenceIdeal.τ).loc Cert.BranchReferenceIdeal.main_arg1) = m' ((c.tc : Thread Cert.BranchReferenceIdeal.nD Cert.BranchReferenceIdeal.τ).loc Cert.BranchReferenceIdeal.main_arg1))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)) →
    ∃ (v0 : (c : Dev Cert.OutKernelIdeal.nD) → Buf (Elt Ideal) ((c.tc : Thread Cert.OutKernelIdeal.nD Cert.OutKernelIdeal.τ).loc Cert.OutKernelIdeal.main_v0)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v0) = v0 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v2) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1))

def preserves_DownKernel_DownKernelIdeal : Prop :=
  True

def algebraic_DownKernelIdeal_DownReferenceIdeal [hDownKernelIdeal : Cert.DownKernelIdeal.Facts] [hDownReferenceIdeal : Cert.DownReferenceIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownKernelIdeal m →
    (∀ c : Dev Cert.DownKernelIdeal.nD,
      m' ((c.tc : Thread Cert.DownReferenceIdeal.nD Cert.DownReferenceIdeal.τ).loc Cert.DownReferenceIdeal.main_arg0) = m ((c.tc : Thread Cert.DownKernelIdeal.nD Cert.DownKernelIdeal.τ).loc Cert.DownKernelIdeal.main_arg0)
      ∧ m' ((c.tc : Thread Cert.DownReferenceIdeal.nD Cert.DownReferenceIdeal.τ).loc Cert.DownReferenceIdeal.main_arg1) = m ((c.tc : Thread Cert.DownKernelIdeal.nD Cert.DownKernelIdeal.τ).loc Cert.DownKernelIdeal.main_arg1)) →
    ∃ (v0 : (c : Dev Cert.DownKernelIdeal.nD) → Buf (Elt Ideal) ((c.tc : Thread Cert.DownKernelIdeal.nD Cert.DownKernelIdeal.τ).loc Cert.DownKernelIdeal.main_v0)),
      θ_run (Cert.DownKernelIdeal.defs (F := Ideal)) (onTc (τ := Cert.DownKernelIdeal.τ) (Cert.DownKernelIdeal.main (F := Ideal))) ⟨m, fun _ => 0, g⟩ (fun r => ∀ c : Dev Cert.DownKernelIdeal.nD,
          r.2.mem ((c.tc : Thread Cert.DownKernelIdeal.nD Cert.DownKernelIdeal.τ).loc Cert.DownKernelIdeal.main_v0) = v0 c
          ∧ r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
          ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v2) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1))

def preserves_UpKernel_UpKernelIdeal : Prop :=
  True

def algebraic_UpKernelIdeal_UpReferenceIdeal [hUpKernelIdeal : Cert.UpKernelIdeal.Facts] [hUpReferenceIdeal : Cert.UpReferenceIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpKernelIdeal m →
    (∀ c : Dev Cert.UpKernelIdeal.nD,
      m' ((c.tc : Thread Cert.UpReferenceIdeal.nD Cert.UpReferenceIdeal.τ).loc Cert.UpReferenceIdeal.main_arg0) = m ((c.tc : Thread Cert.UpKernelIdeal.nD Cert.UpKernelIdeal.τ).loc Cert.UpKernelIdeal.main_arg0)
      ∧ m' ((c.tc : Thread Cert.UpReferenceIdeal.nD Cert.UpReferenceIdeal.τ).loc Cert.UpReferenceIdeal.main_arg1) = m ((c.tc : Thread Cert.UpKernelIdeal.nD Cert.UpKernelIdeal.τ).loc Cert.UpKernelIdeal.main_arg1)) →
    ∃ (v0 : (c : Dev Cert.UpKernelIdeal.nD) → Buf (Elt Ideal) ((c.tc : Thread Cert.UpKernelIdeal.nD Cert.UpKernelIdeal.τ).loc Cert.UpKernelIdeal.main_v0_0)) (v1 : (c : Dev Cert.UpKernelIdeal.nD) → Buf (Elt Ideal) ((c.tc : Thread Cert.UpKernelIdeal.nD Cert.UpKernelIdeal.τ).loc Cert.UpKernelIdeal.main_v0_1)),
      θ_run (Cert.UpKernelIdeal.defs (F := Ideal)) (onTc (τ := Cert.UpKernelIdeal.τ) (Cert.UpKernelIdeal.main (F := Ideal))) ⟨m, fun _ => 0, g⟩ (fun r => ∀ c : Dev Cert.UpKernelIdeal.nD,
          r.2.mem ((c.tc : Thread Cert.UpKernelIdeal.nD Cert.UpKernelIdeal.τ).loc Cert.UpKernelIdeal.main_v0_0) = v0 c
          ∧ r.2.mem ((c.tc : Thread Cert.UpKernelIdeal.nD Cert.UpKernelIdeal.τ).loc Cert.UpKernelIdeal.main_v0_1) = v1 c
          ∧ r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
          ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v3) = v0 c
          ∧ r.2.mem ((c.tc : Thread Cert.UpReferenceIdeal.nD Cert.UpReferenceIdeal.τ).loc Cert.UpReferenceIdeal.main_v6) = v1 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1))

def preserves_LruKernel_LruKernelIdeal : Prop :=
  True

def algebraic_LruKernelIdeal_LruReferenceIdeal [hLruKernelIdeal : Cert.LruKernelIdeal.Facts] [hLruReferenceIdeal : Cert.LruReferenceIdeal.Facts] : Prop :=
  ∀ (m : (ℓ : Loc Cert.LruKernelIdeal.nD Cert.LruKernelIdeal.τ Cert.LruKernelIdeal.sig) → Buf (Elt Ideal) ℓ) (g : Dev Cert.LruKernelIdeal.nD → PrngReg)
    (m' : (ℓ : Loc Cert.LruReferenceIdeal.nD Cert.LruReferenceIdeal.τ Cert.LruReferenceIdeal.sig) → Buf (Elt Ideal) ℓ) (g' : Dev Cert.LruReferenceIdeal.nD → PrngReg), Pre_LruKernelIdeal m →
    (∀ c : Dev Cert.LruKernelIdeal.nD,
      m' ((c.tc : Thread Cert.LruReferenceIdeal.nD Cert.LruReferenceIdeal.τ).loc Cert.LruReferenceIdeal.main_arg0) = m ((c.tc : Thread Cert.LruKernelIdeal.nD Cert.LruKernelIdeal.τ).loc Cert.LruKernelIdeal.main_arg0)
      ∧ m' ((c.tc : Thread Cert.LruReferenceIdeal.nD Cert.LruReferenceIdeal.τ).loc Cert.LruReferenceIdeal.main_arg1) = m ((c.tc : Thread Cert.LruKernelIdeal.nD Cert.LruKernelIdeal.τ).loc Cert.LruKernelIdeal.main_arg1)
      ∧ m' ((c.tc : Thread Cert.LruReferenceIdeal.nD Cert.LruReferenceIdeal.τ).loc Cert.LruReferenceIdeal.main_arg2) = m ((c.tc : Thread Cert.LruKernelIdeal.nD Cert.LruKernelIdeal.τ).loc Cert.LruKernelIdeal.main_arg2)
      ∧ m' ((c.tc : Thread Cert.LruReferenceIdeal.nD Cert.LruReferenceIdeal.τ).loc Cert.LruReferenceIdeal.main_arg3) = m ((c.tc : Thread Cert.LruKernelIdeal.nD Cert.LruKernelIdeal.τ).loc Cert.LruKernelIdeal.main_arg3)
      ∧ m' ((c.tc : Thread Cert.LruReferenceIdeal.nD Cert.LruReferenceIdeal.τ).loc Cert.LruReferenceIdeal.main_arg4) = m ((c.tc : Thread Cert.LruKernelIdeal.nD Cert.LruKernelIdeal.τ).loc Cert.LruKernelIdeal.main_arg4)
      ∧ m' ((c.tc : Thread Cert.LruReferenceIdeal.nD Cert.LruReferenceIdeal.τ).loc Cert.LruReferenceIdeal.main_arg5) = m ((c.tc : Thread Cert.LruKernelIdeal.nD Cert.LruKernelIdeal.τ).loc Cert.LruKernelIdeal.main_arg5)
      ∧ m' ((c.tc : Thread Cert.LruReferenceIdeal.nD Cert.LruReferenceIdeal.τ).loc Cert.LruReferenceIdeal.main_arg6) = m ((c.tc : Thread Cert.LruKernelIdeal.nD Cert.LruKernelIdeal.τ).loc Cert.LruKernelIdeal.main_arg6)
      ∧ m' ((c.tc : Thread Cert.LruReferenceIdeal.nD Cert.LruReferenceIdeal.τ).loc Cert.LruReferenceIdeal.main_arg7) = m ((c.tc : Thread Cert.LruKernelIdeal.nD Cert.LruKernelIdeal.τ).loc Cert.LruKernelIdeal.main_arg7)) →
    ∃ (v0 : (c : Dev Cert.LruKernelIdeal.nD) → Buf (Elt Ideal) ((c.tc : Thread Cert.LruKernelIdeal.nD Cert.LruKernelIdeal.τ).loc Cert.LruKernelIdeal.main_v32_0)),
      θ_run (Cert.LruKernelIdeal.defs (F := Ideal)) (onTc (τ := Cert.LruKernelIdeal.τ) (Cert.LruKernelIdeal.main (F := Ideal))) ⟨m, fun _ => 0, g⟩ (fun r => ∀ c : Dev Cert.LruKernelIdeal.nD,
          r.2.mem ((c.tc : Thread Cert.LruKernelIdeal.nD Cert.LruKernelIdeal.τ).loc Cert.LruKernelIdeal.main_v32_0) = v0 c
          ∧ r.2.mem ((c.tc : Thread Cert.LruKernelIdeal.nD Cert.LruKernelIdeal.τ).loc Cert.LruKernelIdeal.main_arg0) = m ((c.tc : Thread Cert.LruKernelIdeal.nD Cert.LruKernelIdeal.τ).loc Cert.LruKernelIdeal.main_arg0)
          ∧ r.2.mem ((c.tc : Thread Cert.LruKernelIdeal.nD Cert.LruKernelIdeal.τ).loc Cert.LruKernelIdeal.main_arg1) = m ((c.tc : Thread Cert.LruKernelIdeal.nD Cert.LruKernelIdeal.τ).loc Cert.LruKernelIdeal.main_arg1)
          ∧ r.2.mem ((c.tc : Thread Cert.LruKernelIdeal.nD Cert.LruKernelIdeal.τ).loc Cert.LruKernelIdeal.main_arg2) = m ((c.tc : Thread Cert.LruKernelIdeal.nD Cert.LruKernelIdeal.τ).loc Cert.LruKernelIdeal.main_arg2)
          ∧ r.2.mem ((c.tc : Thread Cert.LruKernelIdeal.nD Cert.LruKernelIdeal.τ).loc Cert.LruKernelIdeal.main_arg3) = m ((c.tc : Thread Cert.LruKernelIdeal.nD Cert.LruKernelIdeal.τ).loc Cert.LruKernelIdeal.main_arg3)
          ∧ r.2.mem ((c.tc : Thread Cert.LruKernelIdeal.nD Cert.LruKernelIdeal.τ).loc Cert.LruKernelIdeal.main_arg4) = m ((c.tc : Thread Cert.LruKernelIdeal.nD Cert.LruKernelIdeal.τ).loc Cert.LruKernelIdeal.main_arg4)
          ∧ r.2.mem ((c.tc : Thread Cert.LruKernelIdeal.nD Cert.LruKernelIdeal.τ).loc Cert.LruKernelIdeal.main_arg5) = m ((c.tc : Thread Cert.LruKernelIdeal.nD Cert.LruKernelIdeal.τ).loc Cert.LruKernelIdeal.main_arg5)
          ∧ r.2.mem ((c.tc : Thread Cert.LruKernelIdeal.nD Cert.LruKernelIdeal.τ).loc Cert.LruKernelIdeal.main_arg6) = m ((c.tc : Thread Cert.LruKernelIdeal.nD Cert.LruKernelIdeal.τ).loc Cert.LruKernelIdeal.main_arg6)
          ∧ r.2.mem ((c.tc : Thread Cert.LruKernelIdeal.nD Cert.LruKernelIdeal.τ).loc Cert.LruKernelIdeal.main_arg7) = m ((c.tc : Thread Cert.LruKernelIdeal.nD Cert.LruKernelIdeal.τ).loc Cert.LruKernelIdeal.main_arg7))
      ∧ θ_run (Cert.LruReferenceIdeal.defs (F := Ideal)) (onTc (τ := Cert.LruReferenceIdeal.τ) (Cert.LruReferenceIdeal.main (F := Ideal))) ⟨m', fun _ => 0, g'⟩ (fun r => ∀ c : Dev Cert.LruReferenceIdeal.nD,
          r.2.mem ((c.tc : Thread Cert.LruReferenceIdeal.nD Cert.LruReferenceIdeal.τ).loc Cert.LruReferenceIdeal.main_v93) = v0 c
          ∧ r.2.mem ((c.tc : Thread Cert.LruReferenceIdeal.nD Cert.LruReferenceIdeal.τ).loc Cert.LruReferenceIdeal.main_arg0) = m' ((c.tc : Thread Cert.LruReferenceIdeal.nD Cert.LruReferenceIdeal.τ).loc Cert.LruReferenceIdeal.main_arg0)
          ∧ r.2.mem ((c.tc : Thread Cert.LruReferenceIdeal.nD Cert.LruReferenceIdeal.τ).loc Cert.LruReferenceIdeal.main_arg1) = m' ((c.tc : Thread Cert.LruReferenceIdeal.nD Cert.LruReferenceIdeal.τ).loc Cert.LruReferenceIdeal.main_arg1)
          ∧ r.2.mem ((c.tc : Thread Cert.LruReferenceIdeal.nD Cert.LruReferenceIdeal.τ).loc Cert.LruReferenceIdeal.main_arg2) = m' ((c.tc : Thread Cert.LruReferenceIdeal.nD Cert.LruReferenceIdeal.τ).loc Cert.LruReferenceIdeal.main_arg2)
          ∧ r.2.mem ((c.tc : Thread Cert.LruReferenceIdeal.nD Cert.LruReferenceIdeal.τ).loc Cert.LruReferenceIdeal.main_arg3) = m' ((c.tc : Thread Cert.LruReferenceIdeal.nD Cert.LruReferenceIdeal.τ).loc Cert.LruReferenceIdeal.main_arg3)
          ∧ r.2.mem ((c.tc : Thread Cert.LruReferenceIdeal.nD Cert.LruReferenceIdeal.τ).loc Cert.LruReferenceIdeal.main_arg4) = m' ((c.tc : Thread Cert.LruReferenceIdeal.nD Cert.LruReferenceIdeal.τ).loc Cert.LruReferenceIdeal.main_arg4)
          ∧ r.2.mem ((c.tc : Thread Cert.LruReferenceIdeal.nD Cert.LruReferenceIdeal.τ).loc Cert.LruReferenceIdeal.main_arg5) = m' ((c.tc : Thread Cert.LruReferenceIdeal.nD Cert.LruReferenceIdeal.τ).loc Cert.LruReferenceIdeal.main_arg5)
          ∧ r.2.mem ((c.tc : Thread Cert.LruReferenceIdeal.nD Cert.LruReferenceIdeal.τ).loc Cert.LruReferenceIdeal.main_arg6) = m' ((c.tc : Thread Cert.LruReferenceIdeal.nD Cert.LruReferenceIdeal.τ).loc Cert.LruReferenceIdeal.main_arg6)
          ∧ r.2.mem ((c.tc : Thread Cert.LruReferenceIdeal.nD Cert.LruReferenceIdeal.τ).loc Cert.LruReferenceIdeal.main_arg7) = m' ((c.tc : Thread Cert.LruReferenceIdeal.nD Cert.LruReferenceIdeal.τ).loc Cert.LruReferenceIdeal.main_arg7))

def preserves_DupZeroKernel_DupZeroKernelIdeal : Prop :=
  True

def algebraic_DupZeroKernelIdeal_DupReferenceIdeal [hDupZeroKernelIdeal : Cert.DupZeroKernelIdeal.Facts] [hDupReferenceIdeal : Cert.DupReferenceIdeal.Facts] : Prop :=
  ∀ (m : (ℓ : Loc Cert.DupZeroKernelIdeal.nD Cert.DupZeroKernelIdeal.τ Cert.DupZeroKernelIdeal.sig) → Buf (Elt Ideal) ℓ) (g : Dev Cert.DupZeroKernelIdeal.nD → PrngReg)
    (m' : (ℓ : Loc Cert.DupReferenceIdeal.nD Cert.DupReferenceIdeal.τ Cert.DupReferenceIdeal.sig) → Buf (Elt Ideal) ℓ) (g' : Dev Cert.DupReferenceIdeal.nD → PrngReg), Pre_DupZeroKernelIdeal m →
    (∀ c : Dev Cert.DupZeroKernelIdeal.nD,
      m' ((c.tc : Thread Cert.DupReferenceIdeal.nD Cert.DupReferenceIdeal.τ).loc Cert.DupReferenceIdeal.main_arg0) = m ((c.tc : Thread Cert.DupZeroKernelIdeal.nD Cert.DupZeroKernelIdeal.τ).loc Cert.DupZeroKernelIdeal.main_arg0)
      ∧ m' ((c.tc : Thread Cert.DupReferenceIdeal.nD Cert.DupReferenceIdeal.τ).loc Cert.DupReferenceIdeal.main_arg1) = m ((c.tc : Thread Cert.DupZeroKernelIdeal.nD Cert.DupZeroKernelIdeal.τ).loc Cert.DupZeroKernelIdeal.main_arg1)
      ∧ m' ((c.tc : Thread Cert.DupReferenceIdeal.nD Cert.DupReferenceIdeal.τ).loc Cert.DupReferenceIdeal.main_arg2) = m ((c.tc : Thread Cert.DupZeroKernelIdeal.nD Cert.DupZeroKernelIdeal.τ).loc Cert.DupZeroKernelIdeal.main_arg2)) →
    ∃ (v0 : (c : Dev Cert.DupZeroKernelIdeal.nD) → Buf (Elt Ideal) ((c.tc : Thread Cert.DupZeroKernelIdeal.nD Cert.DupZeroKernelIdeal.τ).loc Cert.DupZeroKernelIdeal.main_v0)),
      θ_run (Cert.DupZeroKernelIdeal.defs (F := Ideal)) (onTc (τ := Cert.DupZeroKernelIdeal.τ) (Cert.DupZeroKernelIdeal.main (F := Ideal))) ⟨m, fun _ => 0, g⟩ (fun r => ∀ c : Dev Cert.DupZeroKernelIdeal.nD,
          r.2.mem ((c.tc : Thread Cert.DupZeroKernelIdeal.nD Cert.DupZeroKernelIdeal.τ).loc Cert.DupZeroKernelIdeal.main_v0) = v0 c
          ∧ r.2.mem ((c.tc : Thread Cert.DupZeroKernelIdeal.nD Cert.DupZeroKernelIdeal.τ).loc Cert.DupZeroKernelIdeal.main_arg0) = m ((c.tc : Thread Cert.DupZeroKernelIdeal.nD Cert.DupZeroKernelIdeal.τ).loc Cert.DupZeroKernelIdeal.main_arg0)
          ∧ r.2.mem ((c.tc : Thread Cert.DupZeroKernelIdeal.nD Cert.DupZeroKernelIdeal.τ).loc Cert.DupZeroKernelIdeal.main_arg1) = m ((c.tc : Thread Cert.DupZeroKernelIdeal.nD Cert.DupZeroKernelIdeal.τ).loc Cert.DupZeroKernelIdeal.main_arg1)
          ∧ r.2.mem ((c.tc : Thread Cert.DupZeroKernelIdeal.nD Cert.DupZeroKernelIdeal.τ).loc Cert.DupZeroKernelIdeal.main_arg2) = m ((c.tc : Thread Cert.DupZeroKernelIdeal.nD Cert.DupZeroKernelIdeal.τ).loc Cert.DupZeroKernelIdeal.main_arg2))
      ∧ θ_run (Cert.DupReferenceIdeal.defs (F := Ideal)) (onTc (τ := Cert.DupReferenceIdeal.τ) (Cert.DupReferenceIdeal.main (F := Ideal))) ⟨m', fun _ => 0, g'⟩ (fun r => ∀ c : Dev Cert.DupReferenceIdeal.nD,
          r.2.mem ((c.tc : Thread Cert.DupReferenceIdeal.nD Cert.DupReferenceIdeal.τ).loc Cert.DupReferenceIdeal.main_v15) = v0 c
          ∧ r.2.mem ((c.tc : Thread Cert.DupReferenceIdeal.nD Cert.DupReferenceIdeal.τ).loc Cert.DupReferenceIdeal.main_arg0) = m' ((c.tc : Thread Cert.DupReferenceIdeal.nD Cert.DupReferenceIdeal.τ).loc Cert.DupReferenceIdeal.main_arg0)
          ∧ r.2.mem ((c.tc : Thread Cert.DupReferenceIdeal.nD Cert.DupReferenceIdeal.τ).loc Cert.DupReferenceIdeal.main_arg1) = m' ((c.tc : Thread Cert.DupReferenceIdeal.nD Cert.DupReferenceIdeal.τ).loc Cert.DupReferenceIdeal.main_arg1)
          ∧ r.2.mem ((c.tc : Thread Cert.DupReferenceIdeal.nD Cert.DupReferenceIdeal.τ).loc Cert.DupReferenceIdeal.main_arg2) = m' ((c.tc : Thread Cert.DupReferenceIdeal.nD Cert.DupReferenceIdeal.τ).loc Cert.DupReferenceIdeal.main_arg2))

def preserves_GdownZeroKernel_GdownZeroKernelIdeal : Prop :=
  True

def algebraic_GdownZeroKernelIdeal_GdownReferenceIdeal [hGdownZeroKernelIdeal : Cert.GdownZeroKernelIdeal.Facts] [hGdownReferenceIdeal : Cert.GdownReferenceIdeal.Facts] : Prop :=
  ∀ (m : (ℓ : Loc Cert.GdownZeroKernelIdeal.nD Cert.GdownZeroKernelIdeal.τ Cert.GdownZeroKernelIdeal.sig) → Buf (Elt Ideal) ℓ) (g : Dev Cert.GdownZeroKernelIdeal.nD → PrngReg)
    (m' : (ℓ : Loc Cert.GdownReferenceIdeal.nD Cert.GdownReferenceIdeal.τ Cert.GdownReferenceIdeal.sig) → Buf (Elt Ideal) ℓ) (g' : Dev Cert.GdownReferenceIdeal.nD → PrngReg), Pre_GdownZeroKernelIdeal m →
    (∀ c : Dev Cert.GdownZeroKernelIdeal.nD,
      m' ((c.tc : Thread Cert.GdownReferenceIdeal.nD Cert.GdownReferenceIdeal.τ).loc Cert.GdownReferenceIdeal.main_arg0) = m ((c.tc : Thread Cert.GdownZeroKernelIdeal.nD Cert.GdownZeroKernelIdeal.τ).loc Cert.GdownZeroKernelIdeal.main_arg0)
      ∧ m' ((c.tc : Thread Cert.GdownReferenceIdeal.nD Cert.GdownReferenceIdeal.τ).loc Cert.GdownReferenceIdeal.main_arg1) = m ((c.tc : Thread Cert.GdownZeroKernelIdeal.nD Cert.GdownZeroKernelIdeal.τ).loc Cert.GdownZeroKernelIdeal.main_arg1)) →
    ∃ (v0 : (c : Dev Cert.GdownZeroKernelIdeal.nD) → Buf (Elt Ideal) ((c.tc : Thread Cert.GdownZeroKernelIdeal.nD Cert.GdownZeroKernelIdeal.τ).loc Cert.GdownZeroKernelIdeal.main_v0)),
      θ_run (Cert.GdownZeroKernelIdeal.defs (F := Ideal)) (onTc (τ := Cert.GdownZeroKernelIdeal.τ) (Cert.GdownZeroKernelIdeal.main (F := Ideal))) ⟨m, fun _ => 0, g⟩ (fun r => ∀ c : Dev Cert.GdownZeroKernelIdeal.nD,
          r.2.mem ((c.tc : Thread Cert.GdownZeroKernelIdeal.nD Cert.GdownZeroKernelIdeal.τ).loc Cert.GdownZeroKernelIdeal.main_v0) = v0 c
          ∧ r.2.mem ((c.tc : Thread Cert.GdownZeroKernelIdeal.nD Cert.GdownZeroKernelIdeal.τ).loc Cert.GdownZeroKernelIdeal.main_arg0) = m ((c.tc : Thread Cert.GdownZeroKernelIdeal.nD Cert.GdownZeroKernelIdeal.τ).loc Cert.GdownZeroKernelIdeal.main_arg0)
          ∧ r.2.mem ((c.tc : Thread Cert.GdownZeroKernelIdeal.nD Cert.GdownZeroKernelIdeal.τ).loc Cert.GdownZeroKernelIdeal.main_arg1) = m ((c.tc : Thread Cert.GdownZeroKernelIdeal.nD Cert.GdownZeroKernelIdeal.τ).loc Cert.GdownZeroKernelIdeal.main_arg1))
      ∧ θ_run (Cert.GdownReferenceIdeal.defs (F := Ideal)) (onTc (τ := Cert.GdownReferenceIdeal.τ) (Cert.GdownReferenceIdeal.main (F := Ideal))) ⟨m', fun _ => 0, g'⟩ (fun r => ∀ c : Dev Cert.GdownReferenceIdeal.nD,
          r.2.mem ((c.tc : Thread Cert.GdownReferenceIdeal.nD Cert.GdownReferenceIdeal.τ).loc Cert.GdownReferenceIdeal.main_v6) = v0 c
          ∧ r.2.mem ((c.tc : Thread Cert.GdownReferenceIdeal.nD Cert.GdownReferenceIdeal.τ).loc Cert.GdownReferenceIdeal.main_arg0) = m' ((c.tc : Thread Cert.GdownReferenceIdeal.nD Cert.GdownReferenceIdeal.τ).loc Cert.GdownReferenceIdeal.main_arg0)
          ∧ r.2.mem ((c.tc : Thread Cert.GdownReferenceIdeal.nD Cert.GdownReferenceIdeal.τ).loc Cert.GdownReferenceIdeal.main_arg1) = m' ((c.tc : Thread Cert.GdownReferenceIdeal.nD Cert.GdownReferenceIdeal.τ).loc Cert.GdownReferenceIdeal.main_arg1))

def preserves_DhTwoZeroKernel_DhTwoZeroKernelIdeal : Prop :=
  True

def algebraic_DhTwoZeroKernelIdeal_DhTwoReferenceIdeal [hDhTwoZeroKernelIdeal : Cert.DhTwoZeroKernelIdeal.Facts] [hDhTwoReferenceIdeal : Cert.DhTwoReferenceIdeal.Facts] : Prop :=
  ∀ (m : (ℓ : Loc Cert.DhTwoZeroKernelIdeal.nD Cert.DhTwoZeroKernelIdeal.τ Cert.DhTwoZeroKernelIdeal.sig) → Buf (Elt Ideal) ℓ) (g : Dev Cert.DhTwoZeroKernelIdeal.nD → PrngReg)
    (m' : (ℓ : Loc Cert.DhTwoReferenceIdeal.nD Cert.DhTwoReferenceIdeal.τ Cert.DhTwoReferenceIdeal.sig) → Buf (Elt Ideal) ℓ) (g' : Dev Cert.DhTwoReferenceIdeal.nD → PrngReg), Pre_DhTwoZeroKernelIdeal m →
    (∀ c : Dev Cert.DhTwoZeroKernelIdeal.nD,
      m' ((c.tc : Thread Cert.DhTwoReferenceIdeal.nD Cert.DhTwoReferenceIdeal.τ).loc Cert.DhTwoReferenceIdeal.main_arg0) = m ((c.tc : Thread Cert.DhTwoZeroKernelIdeal.nD Cert.DhTwoZeroKernelIdeal.τ).loc Cert.DhTwoZeroKernelIdeal.main_arg0)
      ∧ m' ((c.tc : Thread Cert.DhTwoReferenceIdeal.nD Cert.DhTwoReferenceIdeal.τ).loc Cert.DhTwoReferenceIdeal.main_arg1) = m ((c.tc : Thread Cert.DhTwoZeroKernelIdeal.nD Cert.DhTwoZeroKernelIdeal.τ).loc Cert.DhTwoZeroKernelIdeal.main_arg1)) →
    ∃ (v0 : (c : Dev Cert.DhTwoZeroKernelIdeal.nD) → Buf (Elt Ideal) ((c.tc : Thread Cert.DhTwoZeroKernelIdeal.nD Cert.DhTwoZeroKernelIdeal.τ).loc Cert.DhTwoZeroKernelIdeal.main_v0)),
      θ_run (Cert.DhTwoZeroKernelIdeal.defs (F := Ideal)) (onTc (τ := Cert.DhTwoZeroKernelIdeal.τ) (Cert.DhTwoZeroKernelIdeal.main (F := Ideal))) ⟨m, fun _ => 0, g⟩ (fun r => ∀ c : Dev Cert.DhTwoZeroKernelIdeal.nD,
          r.2.mem ((c.tc : Thread Cert.DhTwoZeroKernelIdeal.nD Cert.DhTwoZeroKernelIdeal.τ).loc Cert.DhTwoZeroKernelIdeal.main_v0) = v0 c
          ∧ r.2.mem ((c.tc : Thread Cert.DhTwoZeroKernelIdeal.nD Cert.DhTwoZeroKernelIdeal.τ).loc Cert.DhTwoZeroKernelIdeal.main_arg0) = m ((c.tc : Thread Cert.DhTwoZeroKernelIdeal.nD Cert.DhTwoZeroKernelIdeal.τ).loc Cert.DhTwoZeroKernelIdeal.main_arg0)
          ∧ r.2.mem ((c.tc : Thread Cert.DhTwoZeroKernelIdeal.nD Cert.DhTwoZeroKernelIdeal.τ).loc Cert.DhTwoZeroKernelIdeal.main_arg1) = m ((c.tc : Thread Cert.DhTwoZeroKernelIdeal.nD Cert.DhTwoZeroKernelIdeal.τ).loc Cert.DhTwoZeroKernelIdeal.main_arg1))
      ∧ θ_run (Cert.DhTwoReferenceIdeal.defs (F := Ideal)) (onTc (τ := Cert.DhTwoReferenceIdeal.τ) (Cert.DhTwoReferenceIdeal.main (F := Ideal))) ⟨m', fun _ => 0, g'⟩ (fun r => ∀ c : Dev Cert.DhTwoReferenceIdeal.nD,
          r.2.mem ((c.tc : Thread Cert.DhTwoReferenceIdeal.nD Cert.DhTwoReferenceIdeal.τ).loc Cert.DhTwoReferenceIdeal.main_v4) = v0 c
          ∧ r.2.mem ((c.tc : Thread Cert.DhTwoReferenceIdeal.nD Cert.DhTwoReferenceIdeal.τ).loc Cert.DhTwoReferenceIdeal.main_arg0) = m' ((c.tc : Thread Cert.DhTwoReferenceIdeal.nD Cert.DhTwoReferenceIdeal.τ).loc Cert.DhTwoReferenceIdeal.main_arg0)
          ∧ r.2.mem ((c.tc : Thread Cert.DhTwoReferenceIdeal.nD Cert.DhTwoReferenceIdeal.τ).loc Cert.DhTwoReferenceIdeal.main_arg1) = m' ((c.tc : Thread Cert.DhTwoReferenceIdeal.nD Cert.DhTwoReferenceIdeal.τ).loc Cert.DhTwoReferenceIdeal.main_arg1))

def preserves_GupZeroKernel_GupZeroKernelIdeal : Prop :=
  True

def algebraic_GupZeroKernelIdeal_GupReferenceIdeal [hGupZeroKernelIdeal : Cert.GupZeroKernelIdeal.Facts] [hGupReferenceIdeal : Cert.GupReferenceIdeal.Facts] : Prop :=
  ∀ (m : (ℓ : Loc Cert.GupZeroKernelIdeal.nD Cert.GupZeroKernelIdeal.τ Cert.GupZeroKernelIdeal.sig) → Buf (Elt Ideal) ℓ) (g : Dev Cert.GupZeroKernelIdeal.nD → PrngReg)
    (m' : (ℓ : Loc Cert.GupReferenceIdeal.nD Cert.GupReferenceIdeal.τ Cert.GupReferenceIdeal.sig) → Buf (Elt Ideal) ℓ) (g' : Dev Cert.GupReferenceIdeal.nD → PrngReg), Pre_GupZeroKernelIdeal m →
    (∀ c : Dev Cert.GupZeroKernelIdeal.nD,
      m' ((c.tc : Thread Cert.GupReferenceIdeal.nD Cert.GupReferenceIdeal.τ).loc Cert.GupReferenceIdeal.main_arg0) = m ((c.tc : Thread Cert.GupZeroKernelIdeal.nD Cert.GupZeroKernelIdeal.τ).loc Cert.GupZeroKernelIdeal.main_arg0)
      ∧ m' ((c.tc : Thread Cert.GupReferenceIdeal.nD Cert.GupReferenceIdeal.τ).loc Cert.GupReferenceIdeal.main_arg1) = m ((c.tc : Thread Cert.GupZeroKernelIdeal.nD Cert.GupZeroKernelIdeal.τ).loc Cert.GupZeroKernelIdeal.main_arg1)) →
    ∃ (v0 : (c : Dev Cert.GupZeroKernelIdeal.nD) → Buf (Elt Ideal) ((c.tc : Thread Cert.GupZeroKernelIdeal.nD Cert.GupZeroKernelIdeal.τ).loc Cert.GupZeroKernelIdeal.main_v0)),
      θ_run (Cert.GupZeroKernelIdeal.defs (F := Ideal)) (onTc (τ := Cert.GupZeroKernelIdeal.τ) (Cert.GupZeroKernelIdeal.main (F := Ideal))) ⟨m, fun _ => 0, g⟩ (fun r => ∀ c : Dev Cert.GupZeroKernelIdeal.nD,
          r.2.mem ((c.tc : Thread Cert.GupZeroKernelIdeal.nD Cert.GupZeroKernelIdeal.τ).loc Cert.GupZeroKernelIdeal.main_v0) = v0 c
          ∧ r.2.mem ((c.tc : Thread Cert.GupZeroKernelIdeal.nD Cert.GupZeroKernelIdeal.τ).loc Cert.GupZeroKernelIdeal.main_arg0) = m ((c.tc : Thread Cert.GupZeroKernelIdeal.nD Cert.GupZeroKernelIdeal.τ).loc Cert.GupZeroKernelIdeal.main_arg0)
          ∧ r.2.mem ((c.tc : Thread Cert.GupZeroKernelIdeal.nD Cert.GupZeroKernelIdeal.τ).loc Cert.GupZeroKernelIdeal.main_arg1) = m ((c.tc : Thread Cert.GupZeroKernelIdeal.nD Cert.GupZeroKernelIdeal.τ).loc Cert.GupZeroKernelIdeal.main_arg1))
      ∧ θ_run (Cert.GupReferenceIdeal.defs (F := Ideal)) (onTc (τ := Cert.GupReferenceIdeal.τ) (Cert.GupReferenceIdeal.main (F := Ideal))) ⟨m', fun _ => 0, g'⟩ (fun r => ∀ c : Dev Cert.GupReferenceIdeal.nD,
          r.2.mem ((c.tc : Thread Cert.GupReferenceIdeal.nD Cert.GupReferenceIdeal.τ).loc Cert.GupReferenceIdeal.main_v6) = v0 c
          ∧ r.2.mem ((c.tc : Thread Cert.GupReferenceIdeal.nD Cert.GupReferenceIdeal.τ).loc Cert.GupReferenceIdeal.main_arg0) = m' ((c.tc : Thread Cert.GupReferenceIdeal.nD Cert.GupReferenceIdeal.τ).loc Cert.GupReferenceIdeal.main_arg0)
          ∧ r.2.mem ((c.tc : Thread Cert.GupReferenceIdeal.nD Cert.GupReferenceIdeal.τ).loc Cert.GupReferenceIdeal.main_arg1) = m' ((c.tc : Thread Cert.GupReferenceIdeal.nD Cert.GupReferenceIdeal.τ).loc Cert.GupReferenceIdeal.main_arg1))

def preserves_DmergedZeroKernel_DmergedZeroKernelIdeal : Prop :=
  True

def algebraic_DmergedZeroKernelIdeal_DmergedReferenceIdeal [hDmergedZeroKernelIdeal : Cert.DmergedZeroKernelIdeal.Facts] [hDmergedReferenceIdeal : Cert.DmergedReferenceIdeal.Facts] : Prop :=
  ∀ (m : (ℓ : Loc Cert.DmergedZeroKernelIdeal.nD Cert.DmergedZeroKernelIdeal.τ Cert.DmergedZeroKernelIdeal.sig) → Buf (Elt Ideal) ℓ) (g : Dev Cert.DmergedZeroKernelIdeal.nD → PrngReg)
    (m' : (ℓ : Loc Cert.DmergedReferenceIdeal.nD Cert.DmergedReferenceIdeal.τ Cert.DmergedReferenceIdeal.sig) → Buf (Elt Ideal) ℓ) (g' : Dev Cert.DmergedReferenceIdeal.nD → PrngReg), Pre_DmergedZeroKernelIdeal m →
    (∀ c : Dev Cert.DmergedZeroKernelIdeal.nD,
      m' ((c.tc : Thread Cert.DmergedReferenceIdeal.nD Cert.DmergedReferenceIdeal.τ).loc Cert.DmergedReferenceIdeal.main_arg0) = m ((c.tc : Thread Cert.DmergedZeroKernelIdeal.nD Cert.DmergedZeroKernelIdeal.τ).loc Cert.DmergedZeroKernelIdeal.main_arg0)
      ∧ m' ((c.tc : Thread Cert.DmergedReferenceIdeal.nD Cert.DmergedReferenceIdeal.τ).loc Cert.DmergedReferenceIdeal.main_arg1) = m ((c.tc : Thread Cert.DmergedZeroKernelIdeal.nD Cert.DmergedZeroKernelIdeal.τ).loc Cert.DmergedZeroKernelIdeal.main_arg1)) →
    ∃ (v0 : (c : Dev Cert.DmergedZeroKernelIdeal.nD) → Buf (Elt Ideal) ((c.tc : Thread Cert.DmergedZeroKernelIdeal.nD Cert.DmergedZeroKernelIdeal.τ).loc Cert.DmergedZeroKernelIdeal.main_v0)),
      θ_run (Cert.DmergedZeroKernelIdeal.defs (F := Ideal)) (onTc (τ := Cert.DmergedZeroKernelIdeal.τ) (Cert.DmergedZeroKernelIdeal.main (F := Ideal))) ⟨m, fun _ => 0, g⟩ (fun r => ∀ c : Dev Cert.DmergedZeroKernelIdeal.nD,
          r.2.mem ((c.tc : Thread Cert.DmergedZeroKernelIdeal.nD Cert.DmergedZeroKernelIdeal.τ).loc Cert.DmergedZeroKernelIdeal.main_v0) = v0 c
          ∧ r.2.mem ((c.tc : Thread Cert.DmergedZeroKernelIdeal.nD Cert.DmergedZeroKernelIdeal.τ).loc Cert.DmergedZeroKernelIdeal.main_arg0) = m ((c.tc : Thread Cert.DmergedZeroKernelIdeal.nD Cert.DmergedZeroKernelIdeal.τ).loc Cert.DmergedZeroKernelIdeal.main_arg0)
          ∧ r.2.mem ((c.tc : Thread Cert.DmergedZeroKernelIdeal.nD Cert.DmergedZeroKernelIdeal.τ).loc Cert.DmergedZeroKernelIdeal.main_arg1) = m ((c.tc : Thread Cert.DmergedZeroKernelIdeal.nD Cert.DmergedZeroKernelIdeal.τ).loc Cert.DmergedZeroKernelIdeal.main_arg1))
      ∧ θ_run (Cert.DmergedReferenceIdeal.defs (F := Ideal)) (onTc (τ := Cert.DmergedReferenceIdeal.τ) (Cert.DmergedReferenceIdeal.main (F := Ideal))) ⟨m', fun _ => 0, g'⟩ (fun r => ∀ c : Dev Cert.DmergedReferenceIdeal.nD,
          r.2.mem ((c.tc : Thread Cert.DmergedReferenceIdeal.nD Cert.DmergedReferenceIdeal.τ).loc Cert.DmergedReferenceIdeal.main_v4) = v0 c
          ∧ r.2.mem ((c.tc : Thread Cert.DmergedReferenceIdeal.nD Cert.DmergedReferenceIdeal.τ).loc Cert.DmergedReferenceIdeal.main_arg0) = m' ((c.tc : Thread Cert.DmergedReferenceIdeal.nD Cert.DmergedReferenceIdeal.τ).loc Cert.DmergedReferenceIdeal.main_arg0)
          ∧ r.2.mem ((c.tc : Thread Cert.DmergedReferenceIdeal.nD Cert.DmergedReferenceIdeal.τ).loc Cert.DmergedReferenceIdeal.main_arg1) = m' ((c.tc : Thread Cert.DmergedReferenceIdeal.nD Cert.DmergedReferenceIdeal.τ).loc Cert.DmergedReferenceIdeal.main_arg1))

def preserves_GoutZeroKernel_GoutZeroKernelIdeal : Prop :=
  True

def algebraic_GoutZeroKernelIdeal_GoutReferenceIdeal [hGoutZeroKernelIdeal : Cert.GoutZeroKernelIdeal.Facts] [hGoutReferenceIdeal : Cert.GoutReferenceIdeal.Facts] : Prop :=
  ∀ (m : (ℓ : Loc Cert.GoutZeroKernelIdeal.nD Cert.GoutZeroKernelIdeal.τ Cert.GoutZeroKernelIdeal.sig) → Buf (Elt Ideal) ℓ) (g : Dev Cert.GoutZeroKernelIdeal.nD → PrngReg)
    (m' : (ℓ : Loc Cert.GoutReferenceIdeal.nD Cert.GoutReferenceIdeal.τ Cert.GoutReferenceIdeal.sig) → Buf (Elt Ideal) ℓ) (g' : Dev Cert.GoutReferenceIdeal.nD → PrngReg), Pre_GoutZeroKernelIdeal m →
    (∀ c : Dev Cert.GoutZeroKernelIdeal.nD,
      m' ((c.tc : Thread Cert.GoutReferenceIdeal.nD Cert.GoutReferenceIdeal.τ).loc Cert.GoutReferenceIdeal.main_arg0) = m ((c.tc : Thread Cert.GoutZeroKernelIdeal.nD Cert.GoutZeroKernelIdeal.τ).loc Cert.GoutZeroKernelIdeal.main_arg0)
      ∧ m' ((c.tc : Thread Cert.GoutReferenceIdeal.nD Cert.GoutReferenceIdeal.τ).loc Cert.GoutReferenceIdeal.main_arg1) = m ((c.tc : Thread Cert.GoutZeroKernelIdeal.nD Cert.GoutZeroKernelIdeal.τ).loc Cert.GoutZeroKernelIdeal.main_arg1)) →
    ∃ (v0 : (c : Dev Cert.GoutZeroKernelIdeal.nD) → Buf (Elt Ideal) ((c.tc : Thread Cert.GoutZeroKernelIdeal.nD Cert.GoutZeroKernelIdeal.τ).loc Cert.GoutZeroKernelIdeal.main_v0)),
      θ_run (Cert.GoutZeroKernelIdeal.defs (F := Ideal)) (onTc (τ := Cert.GoutZeroKernelIdeal.τ) (Cert.GoutZeroKernelIdeal.main (F := Ideal))) ⟨m, fun _ => 0, g⟩ (fun r => ∀ c : Dev Cert.GoutZeroKernelIdeal.nD,
          r.2.mem ((c.tc : Thread Cert.GoutZeroKernelIdeal.nD Cert.GoutZeroKernelIdeal.τ).loc Cert.GoutZeroKernelIdeal.main_v0) = v0 c
          ∧ r.2.mem ((c.tc : Thread Cert.GoutZeroKernelIdeal.nD Cert.GoutZeroKernelIdeal.τ).loc Cert.GoutZeroKernelIdeal.main_arg0) = m ((c.tc : Thread Cert.GoutZeroKernelIdeal.nD Cert.GoutZeroKernelIdeal.τ).loc Cert.GoutZeroKernelIdeal.main_arg0)
          ∧ r.2.mem ((c.tc : Thread Cert.GoutZeroKernelIdeal.nD Cert.GoutZeroKernelIdeal.τ).loc Cert.GoutZeroKernelIdeal.main_arg1) = m ((c.tc : Thread Cert.GoutZeroKernelIdeal.nD Cert.GoutZeroKernelIdeal.τ).loc Cert.GoutZeroKernelIdeal.main_arg1))
      ∧ θ_run (Cert.GoutReferenceIdeal.defs (F := Ideal)) (onTc (τ := Cert.GoutReferenceIdeal.τ) (Cert.GoutReferenceIdeal.main (F := Ideal))) ⟨m', fun _ => 0, g'⟩ (fun r => ∀ c : Dev Cert.GoutReferenceIdeal.nD,
          r.2.mem ((c.tc : Thread Cert.GoutReferenceIdeal.nD Cert.GoutReferenceIdeal.τ).loc Cert.GoutReferenceIdeal.main_v6) = v0 c
          ∧ r.2.mem ((c.tc : Thread Cert.GoutReferenceIdeal.nD Cert.GoutReferenceIdeal.τ).loc Cert.GoutReferenceIdeal.main_arg0) = m' ((c.tc : Thread Cert.GoutReferenceIdeal.nD Cert.GoutReferenceIdeal.τ).loc Cert.GoutReferenceIdeal.main_arg0)
          ∧ r.2.mem ((c.tc : Thread Cert.GoutReferenceIdeal.nD Cert.GoutReferenceIdeal.τ).loc Cert.GoutReferenceIdeal.main_arg1) = m' ((c.tc : Thread Cert.GoutReferenceIdeal.nD Cert.GoutReferenceIdeal.τ).loc Cert.GoutReferenceIdeal.main_arg1))

def preserves_DyZeroKernel_DyZeroKernelIdeal : Prop :=
  True

def algebraic_DyZeroKernelIdeal_DyReferenceIdeal [hDyZeroKernelIdeal : Cert.DyZeroKernelIdeal.Facts] [hDyReferenceIdeal : Cert.DyReferenceIdeal.Facts] : Prop :=
  ∀ (m : (ℓ : Loc Cert.DyZeroKernelIdeal.nD Cert.DyZeroKernelIdeal.τ Cert.DyZeroKernelIdeal.sig) → Buf (Elt Ideal) ℓ) (g : Dev Cert.DyZeroKernelIdeal.nD → PrngReg)
    (m' : (ℓ : Loc Cert.DyReferenceIdeal.nD Cert.DyReferenceIdeal.τ Cert.DyReferenceIdeal.sig) → Buf (Elt Ideal) ℓ) (g' : Dev Cert.DyReferenceIdeal.nD → PrngReg), Pre_DyZeroKernelIdeal m →
    (∀ c : Dev Cert.DyZeroKernelIdeal.nD,
      m' ((c.tc : Thread Cert.DyReferenceIdeal.nD Cert.DyReferenceIdeal.τ).loc Cert.DyReferenceIdeal.main_arg0) = m ((c.tc : Thread Cert.DyZeroKernelIdeal.nD Cert.DyZeroKernelIdeal.τ).loc Cert.DyZeroKernelIdeal.main_arg0)
      ∧ m' ((c.tc : Thread Cert.DyReferenceIdeal.nD Cert.DyReferenceIdeal.τ).loc Cert.DyReferenceIdeal.main_arg1) = m ((c.tc : Thread Cert.DyZeroKernelIdeal.nD Cert.DyZeroKernelIdeal.τ).loc Cert.DyZeroKernelIdeal.main_arg1)) →
    ∃ (v0 : (c : Dev Cert.DyZeroKernelIdeal.nD) → Buf (Elt Ideal) ((c.tc : Thread Cert.DyZeroKernelIdeal.nD Cert.DyZeroKernelIdeal.τ).loc Cert.DyZeroKernelIdeal.main_v0)),
      θ_run (Cert.DyZeroKernelIdeal.defs (F := Ideal)) (onTc (τ := Cert.DyZeroKernelIdeal.τ) (Cert.DyZeroKernelIdeal.main (F := Ideal))) ⟨m, fun _ => 0, g⟩ (fun r => ∀ c : Dev Cert.DyZeroKernelIdeal.nD,
          r.2.mem ((c.tc : Thread Cert.DyZeroKernelIdeal.nD Cert.DyZeroKernelIdeal.τ).loc Cert.DyZeroKernelIdeal.main_v0) = v0 c
          ∧ r.2.mem ((c.tc : Thread Cert.DyZeroKernelIdeal.nD Cert.DyZeroKernelIdeal.τ).loc Cert.DyZeroKernelIdeal.main_arg0) = m ((c.tc : Thread Cert.DyZeroKernelIdeal.nD Cert.DyZeroKernelIdeal.τ).loc Cert.DyZeroKernelIdeal.main_arg0)
          ∧ r.2.mem ((c.tc : Thread Cert.DyZeroKernelIdeal.nD Cert.DyZeroKernelIdeal.τ).loc Cert.DyZeroKernelIdeal.main_arg1) = m ((c.tc : Thread Cert.DyZeroKernelIdeal.nD Cert.DyZeroKernelIdeal.τ).loc Cert.DyZeroKernelIdeal.main_arg1))
      ∧ θ_run (Cert.DyReferenceIdeal.defs (F := Ideal)) (onTc (τ := Cert.DyReferenceIdeal.τ) (Cert.DyReferenceIdeal.main (F := Ideal))) ⟨m', fun _ => 0, g'⟩ (fun r => ∀ c : Dev Cert.DyReferenceIdeal.nD,
          r.2.mem ((c.tc : Thread Cert.DyReferenceIdeal.nD Cert.DyReferenceIdeal.τ).loc Cert.DyReferenceIdeal.main_v4) = v0 c
          ∧ r.2.mem ((c.tc : Thread Cert.DyReferenceIdeal.nD Cert.DyReferenceIdeal.τ).loc Cert.DyReferenceIdeal.main_arg0) = m' ((c.tc : Thread Cert.DyReferenceIdeal.nD Cert.DyReferenceIdeal.τ).loc Cert.DyReferenceIdeal.main_arg0)
          ∧ r.2.mem ((c.tc : Thread Cert.DyReferenceIdeal.nD Cert.DyReferenceIdeal.τ).loc Cert.DyReferenceIdeal.main_arg1) = m' ((c.tc : Thread Cert.DyReferenceIdeal.nD Cert.DyReferenceIdeal.τ).loc Cert.DyReferenceIdeal.main_arg1))

def preserves_GbranchZeroKernel_GbranchZeroKernelIdeal : Prop :=
  True

def algebraic_GbranchZeroKernelIdeal_GbranchReferenceIdeal [hGbranchZeroKernelIdeal : Cert.GbranchZeroKernelIdeal.Facts] [hGbranchReferenceIdeal : Cert.GbranchReferenceIdeal.Facts] : Prop :=
  ∀ (m : (ℓ : Loc Cert.GbranchZeroKernelIdeal.nD Cert.GbranchZeroKernelIdeal.τ Cert.GbranchZeroKernelIdeal.sig) → Buf (Elt Ideal) ℓ) (g : Dev Cert.GbranchZeroKernelIdeal.nD → PrngReg)
    (m' : (ℓ : Loc Cert.GbranchReferenceIdeal.nD Cert.GbranchReferenceIdeal.τ Cert.GbranchReferenceIdeal.sig) → Buf (Elt Ideal) ℓ) (g' : Dev Cert.GbranchReferenceIdeal.nD → PrngReg), Pre_GbranchZeroKernelIdeal m →
    (∀ c : Dev Cert.GbranchZeroKernelIdeal.nD,
      m' ((c.tc : Thread Cert.GbranchReferenceIdeal.nD Cert.GbranchReferenceIdeal.τ).loc Cert.GbranchReferenceIdeal.main_arg0) = m ((c.tc : Thread Cert.GbranchZeroKernelIdeal.nD Cert.GbranchZeroKernelIdeal.τ).loc Cert.GbranchZeroKernelIdeal.main_arg0)
      ∧ m' ((c.tc : Thread Cert.GbranchReferenceIdeal.nD Cert.GbranchReferenceIdeal.τ).loc Cert.GbranchReferenceIdeal.main_arg1) = m ((c.tc : Thread Cert.GbranchZeroKernelIdeal.nD Cert.GbranchZeroKernelIdeal.τ).loc Cert.GbranchZeroKernelIdeal.main_arg1)) →
    ∃ (v0 : (c : Dev Cert.GbranchZeroKernelIdeal.nD) → Buf (Elt Ideal) ((c.tc : Thread Cert.GbranchZeroKernelIdeal.nD Cert.GbranchZeroKernelIdeal.τ).loc Cert.GbranchZeroKernelIdeal.main_v0)),
      θ_run (Cert.GbranchZeroKernelIdeal.defs (F := Ideal)) (onTc (τ := Cert.GbranchZeroKernelIdeal.τ) (Cert.GbranchZeroKernelIdeal.main (F := Ideal))) ⟨m, fun _ => 0, g⟩ (fun r => ∀ c : Dev Cert.GbranchZeroKernelIdeal.nD,
          r.2.mem ((c.tc : Thread Cert.GbranchZeroKernelIdeal.nD Cert.GbranchZeroKernelIdeal.τ).loc Cert.GbranchZeroKernelIdeal.main_v0) = v0 c
          ∧ r.2.mem ((c.tc : Thread Cert.GbranchZeroKernelIdeal.nD Cert.GbranchZeroKernelIdeal.τ).loc Cert.GbranchZeroKernelIdeal.main_arg0) = m ((c.tc : Thread Cert.GbranchZeroKernelIdeal.nD Cert.GbranchZeroKernelIdeal.τ).loc Cert.GbranchZeroKernelIdeal.main_arg0)
          ∧ r.2.mem ((c.tc : Thread Cert.GbranchZeroKernelIdeal.nD Cert.GbranchZeroKernelIdeal.τ).loc Cert.GbranchZeroKernelIdeal.main_arg1) = m ((c.tc : Thread Cert.GbranchZeroKernelIdeal.nD Cert.GbranchZeroKernelIdeal.τ).loc Cert.GbranchZeroKernelIdeal.main_arg1))
      ∧ θ_run (Cert.GbranchReferenceIdeal.defs (F := Ideal)) (onTc (τ := Cert.GbranchReferenceIdeal.τ) (Cert.GbranchReferenceIdeal.main (F := Ideal))) ⟨m', fun _ => 0, g'⟩ (fun r => ∀ c : Dev Cert.GbranchReferenceIdeal.nD,
          r.2.mem ((c.tc : Thread Cert.GbranchReferenceIdeal.nD Cert.GbranchReferenceIdeal.τ).loc Cert.GbranchReferenceIdeal.main_v6) = v0 c
          ∧ r.2.mem ((c.tc : Thread Cert.GbranchReferenceIdeal.nD Cert.GbranchReferenceIdeal.τ).loc Cert.GbranchReferenceIdeal.main_arg0) = m' ((c.tc : Thread Cert.GbranchReferenceIdeal.nD Cert.GbranchReferenceIdeal.τ).loc Cert.GbranchReferenceIdeal.main_arg0)
          ∧ r.2.mem ((c.tc : Thread Cert.GbranchReferenceIdeal.nD Cert.GbranchReferenceIdeal.τ).loc Cert.GbranchReferenceIdeal.main_arg1) = m' ((c.tc : Thread Cert.GbranchReferenceIdeal.nD Cert.GbranchReferenceIdeal.τ).loc Cert.GbranchReferenceIdeal.main_arg1))

def preserves_GinZeroKernel_GinZeroKernelIdeal : Prop :=
  True

def algebraic_GinZeroKernelIdeal_GinReferenceIdeal [hGinZeroKernelIdeal : Cert.GinZeroKernelIdeal.Facts] [hGinReferenceIdeal : Cert.GinReferenceIdeal.Facts] : Prop :=
  ∀ (m : (ℓ : Loc Cert.GinZeroKernelIdeal.nD Cert.GinZeroKernelIdeal.τ Cert.GinZeroKernelIdeal.sig) → Buf (Elt Ideal) ℓ) (g : Dev Cert.GinZeroKernelIdeal.nD → PrngReg)
    (m' : (ℓ : Loc Cert.GinReferenceIdeal.nD Cert.GinReferenceIdeal.τ Cert.GinReferenceIdeal.sig) → Buf (Elt Ideal) ℓ) (g' : Dev Cert.GinReferenceIdeal.nD → PrngReg), Pre_GinZeroKernelIdeal m →
    (∀ c : Dev Cert.GinZeroKernelIdeal.nD,
      m' ((c.tc : Thread Cert.GinReferenceIdeal.nD Cert.GinReferenceIdeal.τ).loc Cert.GinReferenceIdeal.main_arg0) = m ((c.tc : Thread Cert.GinZeroKernelIdeal.nD Cert.GinZeroKernelIdeal.τ).loc Cert.GinZeroKernelIdeal.main_arg0)
      ∧ m' ((c.tc : Thread Cert.GinReferenceIdeal.nD Cert.GinReferenceIdeal.τ).loc Cert.GinReferenceIdeal.main_arg1) = m ((c.tc : Thread Cert.GinZeroKernelIdeal.nD Cert.GinZeroKernelIdeal.τ).loc Cert.GinZeroKernelIdeal.main_arg1)) →
    ∃ (v0 : (c : Dev Cert.GinZeroKernelIdeal.nD) → Buf (Elt Ideal) ((c.tc : Thread Cert.GinZeroKernelIdeal.nD Cert.GinZeroKernelIdeal.τ).loc Cert.GinZeroKernelIdeal.main_v0)),
      θ_run (Cert.GinZeroKernelIdeal.defs (F := Ideal)) (onTc (τ := Cert.GinZeroKernelIdeal.τ) (Cert.GinZeroKernelIdeal.main (F := Ideal))) ⟨m, fun _ => 0, g⟩ (fun r => ∀ c : Dev Cert.GinZeroKernelIdeal.nD,
          r.2.mem ((c.tc : Thread Cert.GinZeroKernelIdeal.nD Cert.GinZeroKernelIdeal.τ).loc Cert.GinZeroKernelIdeal.main_v0) = v0 c
          ∧ r.2.mem ((c.tc : Thread Cert.GinZeroKernelIdeal.nD Cert.GinZeroKernelIdeal.τ).loc Cert.GinZeroKernelIdeal.main_arg0) = m ((c.tc : Thread Cert.GinZeroKernelIdeal.nD Cert.GinZeroKernelIdeal.τ).loc Cert.GinZeroKernelIdeal.main_arg0)
          ∧ r.2.mem ((c.tc : Thread Cert.GinZeroKernelIdeal.nD Cert.GinZeroKernelIdeal.τ).loc Cert.GinZeroKernelIdeal.main_arg1) = m ((c.tc : Thread Cert.GinZeroKernelIdeal.nD Cert.GinZeroKernelIdeal.τ).loc Cert.GinZeroKernelIdeal.main_arg1))
      ∧ θ_run (Cert.GinReferenceIdeal.defs (F := Ideal)) (onTc (τ := Cert.GinReferenceIdeal.τ) (Cert.GinReferenceIdeal.main (F := Ideal))) ⟨m', fun _ => 0, g'⟩ (fun r => ∀ c : Dev Cert.GinReferenceIdeal.nD,
          r.2.mem ((c.tc : Thread Cert.GinReferenceIdeal.nD Cert.GinReferenceIdeal.τ).loc Cert.GinReferenceIdeal.main_v6) = v0 c
          ∧ r.2.mem ((c.tc : Thread Cert.GinReferenceIdeal.nD Cert.GinReferenceIdeal.τ).loc Cert.GinReferenceIdeal.main_arg0) = m' ((c.tc : Thread Cert.GinReferenceIdeal.nD Cert.GinReferenceIdeal.τ).loc Cert.GinReferenceIdeal.main_arg0)
          ∧ r.2.mem ((c.tc : Thread Cert.GinReferenceIdeal.nD Cert.GinReferenceIdeal.τ).loc Cert.GinReferenceIdeal.main_arg1) = m' ((c.tc : Thread Cert.GinReferenceIdeal.nD Cert.GinReferenceIdeal.τ).loc Cert.GinReferenceIdeal.main_arg1))

def preserves_BranchZeroKernel_BranchZeroKernelIdeal : Prop :=
  True

def algebraic_BranchZeroKernelIdeal_BranchReferenceIdeal [hBranchZeroKernelIdeal : Cert.BranchZeroKernelIdeal.Facts] [hBranchReferenceIdeal : Cert.BranchReferenceIdeal.Facts] : Prop :=
  ∀ (m : (ℓ : Loc Cert.BranchZeroKernelIdeal.nD Cert.BranchZeroKernelIdeal.τ Cert.BranchZeroKernelIdeal.sig) → Buf (Elt Ideal) ℓ) (g : Dev Cert.BranchZeroKernelIdeal.nD → PrngReg)
    (m' : (ℓ : Loc Cert.BranchReferenceIdeal.nD Cert.BranchReferenceIdeal.τ Cert.BranchReferenceIdeal.sig) → Buf (Elt Ideal) ℓ) (g' : Dev Cert.BranchReferenceIdeal.nD → PrngReg), Pre_BranchZeroKernelIdeal m →
    (∀ c : Dev Cert.BranchZeroKernelIdeal.nD,
      m' ((c.tc : Thread Cert.BranchReferenceIdeal.nD Cert.BranchReferenceIdeal.τ).loc Cert.BranchReferenceIdeal.main_arg0) = m ((c.tc : Thread Cert.BranchZeroKernelIdeal.nD Cert.BranchZeroKernelIdeal.τ).loc Cert.BranchZeroKernelIdeal.main_arg0)
      ∧ m' ((c.tc : Thread Cert.BranchReferenceIdeal.nD Cert.BranchReferenceIdeal.τ).loc Cert.BranchReferenceIdeal.main_arg1) = m ((c.tc : Thread Cert.BranchZeroKernelIdeal.nD Cert.BranchZeroKernelIdeal.τ).loc Cert.BranchZeroKernelIdeal.main_arg1)) →
    ∃ (v0 : (c : Dev Cert.BranchZeroKernelIdeal.nD) → Buf (Elt Ideal) ((c.tc : Thread Cert.BranchZeroKernelIdeal.nD Cert.BranchZeroKernelIdeal.τ).loc Cert.BranchZeroKernelIdeal.main_v0)),
      θ_run (Cert.BranchZeroKernelIdeal.defs (F := Ideal)) (onTc (τ := Cert.BranchZeroKernelIdeal.τ) (Cert.BranchZeroKernelIdeal.main (F := Ideal))) ⟨m, fun _ => 0, g⟩ (fun r => ∀ c : Dev Cert.BranchZeroKernelIdeal.nD,
          r.2.mem ((c.tc : Thread Cert.BranchZeroKernelIdeal.nD Cert.BranchZeroKernelIdeal.τ).loc Cert.BranchZeroKernelIdeal.main_v0) = v0 c
          ∧ r.2.mem ((c.tc : Thread Cert.BranchZeroKernelIdeal.nD Cert.BranchZeroKernelIdeal.τ).loc Cert.BranchZeroKernelIdeal.main_arg0) = m ((c.tc : Thread Cert.BranchZeroKernelIdeal.nD Cert.BranchZeroKernelIdeal.τ).loc Cert.BranchZeroKernelIdeal.main_arg0)
          ∧ r.2.mem ((c.tc : Thread Cert.BranchZeroKernelIdeal.nD Cert.BranchZeroKernelIdeal.τ).loc Cert.BranchZeroKernelIdeal.main_arg1) = m ((c.tc : Thread Cert.BranchZeroKernelIdeal.nD Cert.BranchZeroKernelIdeal.τ).loc Cert.BranchZeroKernelIdeal.main_arg1))
      ∧ θ_run (Cert.BranchReferenceIdeal.defs (F := Ideal)) (onTc (τ := Cert.BranchReferenceIdeal.τ) (Cert.BranchReferenceIdeal.main (F := Ideal))) ⟨m', fun _ => 0, g'⟩ (fun r => ∀ c : Dev Cert.BranchReferenceIdeal.nD,
          r.2.mem ((c.tc : Thread Cert.BranchReferenceIdeal.nD Cert.BranchReferenceIdeal.τ).loc Cert.BranchReferenceIdeal.main_v3) = v0 c
          ∧ r.2.mem ((c.tc : Thread Cert.BranchReferenceIdeal.nD Cert.BranchReferenceIdeal.τ).loc Cert.BranchReferenceIdeal.main_arg0) = m' ((c.tc : Thread Cert.BranchReferenceIdeal.nD Cert.BranchReferenceIdeal.τ).loc Cert.BranchReferenceIdeal.main_arg0)
          ∧ r.2.mem ((c.tc : Thread Cert.BranchReferenceIdeal.nD Cert.BranchReferenceIdeal.τ).loc Cert.BranchReferenceIdeal.main_arg1) = m' ((c.tc : Thread Cert.BranchReferenceIdeal.nD Cert.BranchReferenceIdeal.τ).loc Cert.BranchReferenceIdeal.main_arg1))

def preserves_OutZeroKernel_OutZeroKernelIdeal : Prop :=
  True

def algebraic_OutZeroKernelIdeal_OutReferenceIdeal [hOutZeroKernelIdeal : Cert.OutZeroKernelIdeal.Facts] [hOutReferenceIdeal : Cert.OutReferenceIdeal.Facts] : Prop :=
  ∀ (m : (ℓ : Loc Cert.OutZeroKernelIdeal.nD Cert.OutZeroKernelIdeal.τ Cert.OutZeroKernelIdeal.sig) → Buf (Elt Ideal) ℓ) (g : Dev Cert.OutZeroKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutZeroKernelIdeal m →
    (∀ c : Dev Cert.OutZeroKernelIdeal.nD,
      m' ((c.tc : Thread Cert.OutReferenceIdeal.nD Cert.OutReferenceIdeal.τ).loc Cert.OutReferenceIdeal.main_arg0) = m ((c.tc : Thread Cert.OutZeroKernelIdeal.nD Cert.OutZeroKernelIdeal.τ).loc Cert.OutZeroKernelIdeal.main_arg0)
      ∧ m' ((c.tc : Thread Cert.OutReferenceIdeal.nD Cert.OutReferenceIdeal.τ).loc Cert.OutReferenceIdeal.main_arg1) = m ((c.tc : Thread Cert.OutZeroKernelIdeal.nD Cert.OutZeroKernelIdeal.τ).loc Cert.OutZeroKernelIdeal.main_arg1)) →
    ∃ (v0 : (c : Dev Cert.OutZeroKernelIdeal.nD) → Buf (Elt Ideal) ((c.tc : Thread Cert.OutZeroKernelIdeal.nD Cert.OutZeroKernelIdeal.τ).loc Cert.OutZeroKernelIdeal.main_v0)),
      θ_run (Cert.OutZeroKernelIdeal.defs (F := Ideal)) (onTc (τ := Cert.OutZeroKernelIdeal.τ) (Cert.OutZeroKernelIdeal.main (F := Ideal))) ⟨m, fun _ => 0, g⟩ (fun r => ∀ c : Dev Cert.OutZeroKernelIdeal.nD,
          r.2.mem ((c.tc : Thread Cert.OutZeroKernelIdeal.nD Cert.OutZeroKernelIdeal.τ).loc Cert.OutZeroKernelIdeal.main_v0) = v0 c
          ∧ r.2.mem ((c.tc : Thread Cert.OutZeroKernelIdeal.nD Cert.OutZeroKernelIdeal.τ).loc Cert.OutZeroKernelIdeal.main_arg0) = m ((c.tc : Thread Cert.OutZeroKernelIdeal.nD Cert.OutZeroKernelIdeal.τ).loc Cert.OutZeroKernelIdeal.main_arg0)
          ∧ r.2.mem ((c.tc : Thread Cert.OutZeroKernelIdeal.nD Cert.OutZeroKernelIdeal.τ).loc Cert.OutZeroKernelIdeal.main_arg1) = m ((c.tc : Thread Cert.OutZeroKernelIdeal.nD Cert.OutZeroKernelIdeal.τ).loc Cert.OutZeroKernelIdeal.main_arg1))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v2) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1))

def preserves_DownZeroKernel_DownZeroKernelIdeal : Prop :=
  True

def algebraic_DownZeroKernelIdeal_DownReferenceIdeal [hDownZeroKernelIdeal : Cert.DownZeroKernelIdeal.Facts] [hDownReferenceIdeal : Cert.DownReferenceIdeal.Facts] : Prop :=
  ∀ (m : (ℓ : Loc Cert.DownZeroKernelIdeal.nD Cert.DownZeroKernelIdeal.τ Cert.DownZeroKernelIdeal.sig) → Buf (Elt Ideal) ℓ) (g : Dev Cert.DownZeroKernelIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownZeroKernelIdeal m →
    (∀ c : Dev Cert.DownZeroKernelIdeal.nD,
      m' ((c.tc : Thread Cert.DownReferenceIdeal.nD Cert.DownReferenceIdeal.τ).loc Cert.DownReferenceIdeal.main_arg0) = m ((c.tc : Thread Cert.DownZeroKernelIdeal.nD Cert.DownZeroKernelIdeal.τ).loc Cert.DownZeroKernelIdeal.main_arg0)
      ∧ m' ((c.tc : Thread Cert.DownReferenceIdeal.nD Cert.DownReferenceIdeal.τ).loc Cert.DownReferenceIdeal.main_arg1) = m ((c.tc : Thread Cert.DownZeroKernelIdeal.nD Cert.DownZeroKernelIdeal.τ).loc Cert.DownZeroKernelIdeal.main_arg1)) →
    ∃ (v0 : (c : Dev Cert.DownZeroKernelIdeal.nD) → Buf (Elt Ideal) ((c.tc : Thread Cert.DownZeroKernelIdeal.nD Cert.DownZeroKernelIdeal.τ).loc Cert.DownZeroKernelIdeal.main_v0)),
      θ_run (Cert.DownZeroKernelIdeal.defs (F := Ideal)) (onTc (τ := Cert.DownZeroKernelIdeal.τ) (Cert.DownZeroKernelIdeal.main (F := Ideal))) ⟨m, fun _ => 0, g⟩ (fun r => ∀ c : Dev Cert.DownZeroKernelIdeal.nD,
          r.2.mem ((c.tc : Thread Cert.DownZeroKernelIdeal.nD Cert.DownZeroKernelIdeal.τ).loc Cert.DownZeroKernelIdeal.main_v0) = v0 c
          ∧ r.2.mem ((c.tc : Thread Cert.DownZeroKernelIdeal.nD Cert.DownZeroKernelIdeal.τ).loc Cert.DownZeroKernelIdeal.main_arg0) = m ((c.tc : Thread Cert.DownZeroKernelIdeal.nD Cert.DownZeroKernelIdeal.τ).loc Cert.DownZeroKernelIdeal.main_arg0)
          ∧ r.2.mem ((c.tc : Thread Cert.DownZeroKernelIdeal.nD Cert.DownZeroKernelIdeal.τ).loc Cert.DownZeroKernelIdeal.main_arg1) = m ((c.tc : Thread Cert.DownZeroKernelIdeal.nD Cert.DownZeroKernelIdeal.τ).loc Cert.DownZeroKernelIdeal.main_arg1))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v2) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1))

def preserves_UpZeroKernel_UpZeroKernelIdeal : Prop :=
  True

def algebraic_UpZeroKernelIdeal_UpReferenceIdeal [hUpZeroKernelIdeal : Cert.UpZeroKernelIdeal.Facts] [hUpReferenceIdeal : Cert.UpReferenceIdeal.Facts] : Prop :=
  ∀ (m : (ℓ : Loc Cert.UpZeroKernelIdeal.nD Cert.UpZeroKernelIdeal.τ Cert.UpZeroKernelIdeal.sig) → Buf (Elt Ideal) ℓ) (g : Dev Cert.UpZeroKernelIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpZeroKernelIdeal m →
    (∀ c : Dev Cert.UpZeroKernelIdeal.nD,
      m' ((c.tc : Thread Cert.UpReferenceIdeal.nD Cert.UpReferenceIdeal.τ).loc Cert.UpReferenceIdeal.main_arg0) = m ((c.tc : Thread Cert.UpZeroKernelIdeal.nD Cert.UpZeroKernelIdeal.τ).loc Cert.UpZeroKernelIdeal.main_arg0)
      ∧ m' ((c.tc : Thread Cert.UpReferenceIdeal.nD Cert.UpReferenceIdeal.τ).loc Cert.UpReferenceIdeal.main_arg1) = m ((c.tc : Thread Cert.UpZeroKernelIdeal.nD Cert.UpZeroKernelIdeal.τ).loc Cert.UpZeroKernelIdeal.main_arg1)) →
    ∃ (v0 : (c : Dev Cert.UpZeroKernelIdeal.nD) → Buf (Elt Ideal) ((c.tc : Thread Cert.UpZeroKernelIdeal.nD Cert.UpZeroKernelIdeal.τ).loc Cert.UpZeroKernelIdeal.main_v0_0)) (v1 : (c : Dev Cert.UpZeroKernelIdeal.nD) → Buf (Elt Ideal) ((c.tc : Thread Cert.UpZeroKernelIdeal.nD Cert.UpZeroKernelIdeal.τ).loc Cert.UpZeroKernelIdeal.main_v0_1)),
      θ_run (Cert.UpZeroKernelIdeal.defs (F := Ideal)) (onTc (τ := Cert.UpZeroKernelIdeal.τ) (Cert.UpZeroKernelIdeal.main (F := Ideal))) ⟨m, fun _ => 0, g⟩ (fun r => ∀ c : Dev Cert.UpZeroKernelIdeal.nD,
          r.2.mem ((c.tc : Thread Cert.UpZeroKernelIdeal.nD Cert.UpZeroKernelIdeal.τ).loc Cert.UpZeroKernelIdeal.main_v0_0) = v0 c
          ∧ r.2.mem ((c.tc : Thread Cert.UpZeroKernelIdeal.nD Cert.UpZeroKernelIdeal.τ).loc Cert.UpZeroKernelIdeal.main_v0_1) = v1 c
          ∧ r.2.mem ((c.tc : Thread Cert.UpZeroKernelIdeal.nD Cert.UpZeroKernelIdeal.τ).loc Cert.UpZeroKernelIdeal.main_arg0) = m ((c.tc : Thread Cert.UpZeroKernelIdeal.nD Cert.UpZeroKernelIdeal.τ).loc Cert.UpZeroKernelIdeal.main_arg0)
          ∧ r.2.mem ((c.tc : Thread Cert.UpZeroKernelIdeal.nD Cert.UpZeroKernelIdeal.τ).loc Cert.UpZeroKernelIdeal.main_arg1) = m ((c.tc : Thread Cert.UpZeroKernelIdeal.nD Cert.UpZeroKernelIdeal.τ).loc Cert.UpZeroKernelIdeal.main_arg1))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v3) = v0 c
          ∧ r.2.mem ((c.tc : Thread Cert.UpReferenceIdeal.nD Cert.UpReferenceIdeal.τ).loc Cert.UpReferenceIdeal.main_v6) = v1 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1))

def preserves_PreBKernel_PreBKernelIdeal : Prop :=
  True

def algebraic_PreBKernelIdeal_PreBReferenceIdeal [hPreBKernelIdeal : Cert.PreBKernelIdeal.Facts] [hPreBReferenceIdeal : Cert.PreBReferenceIdeal.Facts] : Prop :=
  ∀ (m : (ℓ : Loc Cert.PreBKernelIdeal.nD Cert.PreBKernelIdeal.τ Cert.PreBKernelIdeal.sig) → Buf (Elt Ideal) ℓ) (g : Dev Cert.PreBKernelIdeal.nD → PrngReg)
    (m' : (ℓ : Loc Cert.PreBReferenceIdeal.nD Cert.PreBReferenceIdeal.τ Cert.PreBReferenceIdeal.sig) → Buf (Elt Ideal) ℓ) (g' : Dev Cert.PreBReferenceIdeal.nD → PrngReg), Pre_PreBKernelIdeal m →
    (∀ c : Dev Cert.PreBKernelIdeal.nD,
      m' ((c.tc : Thread Cert.PreBReferenceIdeal.nD Cert.PreBReferenceIdeal.τ).loc Cert.PreBReferenceIdeal.main_arg0) = m ((c.tc : Thread Cert.PreBKernelIdeal.nD Cert.PreBKernelIdeal.τ).loc Cert.PreBKernelIdeal.main_arg0)
      ∧ m' ((c.tc : Thread Cert.PreBReferenceIdeal.nD Cert.PreBReferenceIdeal.τ).loc Cert.PreBReferenceIdeal.main_arg1) = m ((c.tc : Thread Cert.PreBKernelIdeal.nD Cert.PreBKernelIdeal.τ).loc Cert.PreBKernelIdeal.main_arg1)
      ∧ m' ((c.tc : Thread Cert.PreBReferenceIdeal.nD Cert.PreBReferenceIdeal.τ).loc Cert.PreBReferenceIdeal.main_arg2) = m ((c.tc : Thread Cert.PreBKernelIdeal.nD Cert.PreBKernelIdeal.τ).loc Cert.PreBKernelIdeal.main_arg2)
      ∧ m' ((c.tc : Thread Cert.PreBReferenceIdeal.nD Cert.PreBReferenceIdeal.τ).loc Cert.PreBReferenceIdeal.main_arg3) = m ((c.tc : Thread Cert.PreBKernelIdeal.nD Cert.PreBKernelIdeal.τ).loc Cert.PreBKernelIdeal.main_arg3)
      ∧ m' ((c.tc : Thread Cert.PreBReferenceIdeal.nD Cert.PreBReferenceIdeal.τ).loc Cert.PreBReferenceIdeal.main_arg4) = m ((c.tc : Thread Cert.PreBKernelIdeal.nD Cert.PreBKernelIdeal.τ).loc Cert.PreBKernelIdeal.main_arg4)
      ∧ m' ((c.tc : Thread Cert.PreBReferenceIdeal.nD Cert.PreBReferenceIdeal.τ).loc Cert.PreBReferenceIdeal.main_arg5) = m ((c.tc : Thread Cert.PreBKernelIdeal.nD Cert.PreBKernelIdeal.τ).loc Cert.PreBKernelIdeal.main_arg5)) →
    ∃ (v0 : (c : Dev Cert.PreBKernelIdeal.nD) → Buf (Elt Ideal) ((c.tc : Thread Cert.PreBKernelIdeal.nD Cert.PreBKernelIdeal.τ).loc Cert.PreBKernelIdeal.main_v0_0)) (v1 : (c : Dev Cert.PreBKernelIdeal.nD) → Buf (Elt Ideal) ((c.tc : Thread Cert.PreBKernelIdeal.nD Cert.PreBKernelIdeal.τ).loc Cert.PreBKernelIdeal.main_v0_1)) (v2 : (c : Dev Cert.PreBKernelIdeal.nD) → Buf (Elt Ideal) ((c.tc : Thread Cert.PreBKernelIdeal.nD Cert.PreBKernelIdeal.τ).loc Cert.PreBKernelIdeal.main_v0_2)) (v3 : (c : Dev Cert.PreBKernelIdeal.nD) → Buf (Elt Ideal) ((c.tc : Thread Cert.PreBKernelIdeal.nD Cert.PreBKernelIdeal.τ).loc Cert.PreBKernelIdeal.main_v0_3)),
      θ_run (Cert.PreBKernelIdeal.defs (F := Ideal)) (onTc (τ := Cert.PreBKernelIdeal.τ) (Cert.PreBKernelIdeal.main (F := Ideal))) ⟨m, fun _ => 0, g⟩ (fun r => ∀ c : Dev Cert.PreBKernelIdeal.nD,
          r.2.mem ((c.tc : Thread Cert.PreBKernelIdeal.nD Cert.PreBKernelIdeal.τ).loc Cert.PreBKernelIdeal.main_v0_0) = v0 c
          ∧ r.2.mem ((c.tc : Thread Cert.PreBKernelIdeal.nD Cert.PreBKernelIdeal.τ).loc Cert.PreBKernelIdeal.main_v0_1) = v1 c
          ∧ r.2.mem ((c.tc : Thread Cert.PreBKernelIdeal.nD Cert.PreBKernelIdeal.τ).loc Cert.PreBKernelIdeal.main_v0_2) = v2 c
          ∧ r.2.mem ((c.tc : Thread Cert.PreBKernelIdeal.nD Cert.PreBKernelIdeal.τ).loc Cert.PreBKernelIdeal.main_v0_3) = v3 c
          ∧ r.2.mem ((c.tc : Thread Cert.PreBKernelIdeal.nD Cert.PreBKernelIdeal.τ).loc Cert.PreBKernelIdeal.main_arg0) = m ((c.tc : Thread Cert.PreBKernelIdeal.nD Cert.PreBKernelIdeal.τ).loc Cert.PreBKernelIdeal.main_arg0)
          ∧ r.2.mem ((c.tc : Thread Cert.PreBKernelIdeal.nD Cert.PreBKernelIdeal.τ).loc Cert.PreBKernelIdeal.main_arg1) = m ((c.tc : Thread Cert.PreBKernelIdeal.nD Cert.PreBKernelIdeal.τ).loc Cert.PreBKernelIdeal.main_arg1)
          ∧ r.2.mem ((c.tc : Thread Cert.PreBKernelIdeal.nD Cert.PreBKernelIdeal.τ).loc Cert.PreBKernelIdeal.main_arg2) = m ((c.tc : Thread Cert.PreBKernelIdeal.nD Cert.PreBKernelIdeal.τ).loc Cert.PreBKernelIdeal.main_arg2)
          ∧ r.2.mem ((c.tc : Thread Cert.PreBKernelIdeal.nD Cert.PreBKernelIdeal.τ).loc Cert.PreBKernelIdeal.main_arg3) = m ((c.tc : Thread Cert.PreBKernelIdeal.nD Cert.PreBKernelIdeal.τ).loc Cert.PreBKernelIdeal.main_arg3)
          ∧ r.2.mem ((c.tc : Thread Cert.PreBKernelIdeal.nD Cert.PreBKernelIdeal.τ).loc Cert.PreBKernelIdeal.main_arg4) = m ((c.tc : Thread Cert.PreBKernelIdeal.nD Cert.PreBKernelIdeal.τ).loc Cert.PreBKernelIdeal.main_arg4)
          ∧ r.2.mem ((c.tc : Thread Cert.PreBKernelIdeal.nD Cert.PreBKernelIdeal.τ).loc Cert.PreBKernelIdeal.main_arg5) = m ((c.tc : Thread Cert.PreBKernelIdeal.nD Cert.PreBKernelIdeal.τ).loc Cert.PreBKernelIdeal.main_arg5))
      ∧ θ_run (Cert.PreBReferenceIdeal.defs (F := Ideal)) (onTc (τ := Cert.PreBReferenceIdeal.τ) (Cert.PreBReferenceIdeal.main (F := Ideal))) ⟨m', fun _ => 0, g'⟩ (fun r => ∀ c : Dev Cert.PreBReferenceIdeal.nD,
          r.2.mem ((c.tc : Thread Cert.PreBReferenceIdeal.nD Cert.PreBReferenceIdeal.τ).loc Cert.PreBReferenceIdeal.main_v48) = v0 c
          ∧ r.2.mem ((c.tc : Thread Cert.PreBReferenceIdeal.nD Cert.PreBReferenceIdeal.τ).loc Cert.PreBReferenceIdeal.main_v31) = v1 c
          ∧ r.2.mem ((c.tc : Thread Cert.PreBReferenceIdeal.nD Cert.PreBReferenceIdeal.τ).loc Cert.PreBReferenceIdeal.main_v26) = v2 c
          ∧ r.2.mem ((c.tc : Thread Cert.PreBReferenceIdeal.nD Cert.PreBReferenceIdeal.τ).loc Cert.PreBReferenceIdeal.main_v23) = v3 c
          ∧ r.2.mem ((c.tc : Thread Cert.PreBReferenceIdeal.nD Cert.PreBReferenceIdeal.τ).loc Cert.PreBReferenceIdeal.main_arg0) = m' ((c.tc : Thread Cert.PreBReferenceIdeal.nD Cert.PreBReferenceIdeal.τ).loc Cert.PreBReferenceIdeal.main_arg0)
          ∧ r.2.mem ((c.tc : Thread Cert.PreBReferenceIdeal.nD Cert.PreBReferenceIdeal.τ).loc Cert.PreBReferenceIdeal.main_arg1) = m' ((c.tc : Thread Cert.PreBReferenceIdeal.nD Cert.PreBReferenceIdeal.τ).loc Cert.PreBReferenceIdeal.main_arg1)
          ∧ r.2.mem ((c.tc : Thread Cert.PreBReferenceIdeal.nD Cert.PreBReferenceIdeal.τ).loc Cert.PreBReferenceIdeal.main_arg2) = m' ((c.tc : Thread Cert.PreBReferenceIdeal.nD Cert.PreBReferenceIdeal.τ).loc Cert.PreBReferenceIdeal.main_arg2)
          ∧ r.2.mem ((c.tc : Thread Cert.PreBReferenceIdeal.nD Cert.PreBReferenceIdeal.τ).loc Cert.PreBReferenceIdeal.main_arg3) = m' ((c.tc : Thread Cert.PreBReferenceIdeal.nD Cert.PreBReferenceIdeal.τ).loc Cert.PreBReferenceIdeal.main_arg3)
          ∧ r.2.mem ((c.tc : Thread Cert.PreBReferenceIdeal.nD Cert.PreBReferenceIdeal.τ).loc Cert.PreBReferenceIdeal.main_arg4) = m' ((c.tc : Thread Cert.PreBReferenceIdeal.nD Cert.PreBReferenceIdeal.τ).loc Cert.PreBReferenceIdeal.main_arg4)
          ∧ r.2.mem ((c.tc : Thread Cert.PreBReferenceIdeal.nD Cert.PreBReferenceIdeal.τ).loc Cert.PreBReferenceIdeal.main_arg5) = m' ((c.tc : Thread Cert.PreBReferenceIdeal.nD Cert.PreBReferenceIdeal.τ).loc Cert.PreBReferenceIdeal.main_arg5))

def preserves_PostBKernel_PostBKernelIdeal : Prop :=
  True

def algebraic_PostBKernelIdeal_PostBReferenceIdeal [hPostBKernelIdeal : Cert.PostBKernelIdeal.Facts] [hPostBReferenceIdeal : Cert.PostBReferenceIdeal.Facts] : Prop :=
  ∀ (m : (ℓ : Loc Cert.PostBKernelIdeal.nD Cert.PostBKernelIdeal.τ Cert.PostBKernelIdeal.sig) → Buf (Elt Ideal) ℓ) (g : Dev Cert.PostBKernelIdeal.nD → PrngReg)
    (m' : (ℓ : Loc Cert.PostBReferenceIdeal.nD Cert.PostBReferenceIdeal.τ Cert.PostBReferenceIdeal.sig) → Buf (Elt Ideal) ℓ) (g' : Dev Cert.PostBReferenceIdeal.nD → PrngReg), Pre_PostBKernelIdeal m →
    (∀ c : Dev Cert.PostBKernelIdeal.nD,
      m' ((c.tc : Thread Cert.PostBReferenceIdeal.nD Cert.PostBReferenceIdeal.τ).loc Cert.PostBReferenceIdeal.main_arg0) = m ((c.tc : Thread Cert.PostBKernelIdeal.nD Cert.PostBKernelIdeal.τ).loc Cert.PostBKernelIdeal.main_arg0)
      ∧ m' ((c.tc : Thread Cert.PostBReferenceIdeal.nD Cert.PostBReferenceIdeal.τ).loc Cert.PostBReferenceIdeal.main_arg1) = m ((c.tc : Thread Cert.PostBKernelIdeal.nD Cert.PostBKernelIdeal.τ).loc Cert.PostBKernelIdeal.main_arg1)
      ∧ m' ((c.tc : Thread Cert.PostBReferenceIdeal.nD Cert.PostBReferenceIdeal.τ).loc Cert.PostBReferenceIdeal.main_arg2) = m ((c.tc : Thread Cert.PostBKernelIdeal.nD Cert.PostBKernelIdeal.τ).loc Cert.PostBKernelIdeal.main_arg2)
      ∧ m' ((c.tc : Thread Cert.PostBReferenceIdeal.nD Cert.PostBReferenceIdeal.τ).loc Cert.PostBReferenceIdeal.main_arg3) = m ((c.tc : Thread Cert.PostBKernelIdeal.nD Cert.PostBKernelIdeal.τ).loc Cert.PostBKernelIdeal.main_arg3)
      ∧ m' ((c.tc : Thread Cert.PostBReferenceIdeal.nD Cert.PostBReferenceIdeal.τ).loc Cert.PostBReferenceIdeal.main_arg4) = m ((c.tc : Thread Cert.PostBKernelIdeal.nD Cert.PostBKernelIdeal.τ).loc Cert.PostBKernelIdeal.main_arg4)
      ∧ m' ((c.tc : Thread Cert.PostBReferenceIdeal.nD Cert.PostBReferenceIdeal.τ).loc Cert.PostBReferenceIdeal.main_arg5) = m ((c.tc : Thread Cert.PostBKernelIdeal.nD Cert.PostBKernelIdeal.τ).loc Cert.PostBKernelIdeal.main_arg5)
      ∧ m' ((c.tc : Thread Cert.PostBReferenceIdeal.nD Cert.PostBReferenceIdeal.τ).loc Cert.PostBReferenceIdeal.main_arg6) = m ((c.tc : Thread Cert.PostBKernelIdeal.nD Cert.PostBKernelIdeal.τ).loc Cert.PostBKernelIdeal.main_arg6)
      ∧ m' ((c.tc : Thread Cert.PostBReferenceIdeal.nD Cert.PostBReferenceIdeal.τ).loc Cert.PostBReferenceIdeal.main_arg7) = m ((c.tc : Thread Cert.PostBKernelIdeal.nD Cert.PostBKernelIdeal.τ).loc Cert.PostBKernelIdeal.main_arg7)) →
    ∃ (v0 : (c : Dev Cert.PostBKernelIdeal.nD) → Buf (Elt Ideal) ((c.tc : Thread Cert.PostBKernelIdeal.nD Cert.PostBKernelIdeal.τ).loc Cert.PostBKernelIdeal.main_v0_0)) (v1 : (c : Dev Cert.PostBKernelIdeal.nD) → Buf (Elt Ideal) ((c.tc : Thread Cert.PostBKernelIdeal.nD Cert.PostBKernelIdeal.τ).loc Cert.PostBKernelIdeal.main_v0_1)) (v2 : (c : Dev Cert.PostBKernelIdeal.nD) → Buf (Elt Ideal) ((c.tc : Thread Cert.PostBKernelIdeal.nD Cert.PostBKernelIdeal.τ).loc Cert.PostBKernelIdeal.main_v0_2)) (v3 : (c : Dev Cert.PostBKernelIdeal.nD) → Buf (Elt Ideal) ((c.tc : Thread Cert.PostBKernelIdeal.nD Cert.PostBKernelIdeal.τ).loc Cert.PostBKernelIdeal.main_v0_3)) (v4 : (c : Dev Cert.PostBKernelIdeal.nD) → Buf (Elt Ideal) ((c.tc : Thread Cert.PostBKernelIdeal.nD Cert.PostBKernelIdeal.τ).loc Cert.PostBKernelIdeal.main_v0_4)) (v5 : (c : Dev Cert.PostBKernelIdeal.nD) → Buf (Elt Ideal) ((c.tc : Thread Cert.PostBKernelIdeal.nD Cert.PostBKernelIdeal.τ).loc Cert.PostBKernelIdeal.main_v0_5)),
      θ_run (Cert.PostBKernelIdeal.defs (F := Ideal)) (onTc (τ := Cert.PostBKernelIdeal.τ) (Cert.PostBKernelIdeal.main (F := Ideal))) ⟨m, fun _ => 0, g⟩ (fun r => ∀ c : Dev Cert.PostBKernelIdeal.nD,
          r.2.mem ((c.tc : Thread Cert.PostBKernelIdeal.nD Cert.PostBKernelIdeal.τ).loc Cert.PostBKernelIdeal.main_v0_0) = v0 c
          ∧ r.2.mem ((c.tc : Thread Cert.PostBKernelIdeal.nD Cert.PostBKernelIdeal.τ).loc Cert.PostBKernelIdeal.main_v0_1) = v1 c
          ∧ r.2.mem ((c.tc : Thread Cert.PostBKernelIdeal.nD Cert.PostBKernelIdeal.τ).loc Cert.PostBKernelIdeal.main_v0_2) = v2 c
          ∧ r.2.mem ((c.tc : Thread Cert.PostBKernelIdeal.nD Cert.PostBKernelIdeal.τ).loc Cert.PostBKernelIdeal.main_v0_3) = v3 c
          ∧ r.2.mem ((c.tc : Thread Cert.PostBKernelIdeal.nD Cert.PostBKernelIdeal.τ).loc Cert.PostBKernelIdeal.main_v0_4) = v4 c
          ∧ r.2.mem ((c.tc : Thread Cert.PostBKernelIdeal.nD Cert.PostBKernelIdeal.τ).loc Cert.PostBKernelIdeal.main_v0_5) = v5 c
          ∧ r.2.mem ((c.tc : Thread Cert.PostBKernelIdeal.nD Cert.PostBKernelIdeal.τ).loc Cert.PostBKernelIdeal.main_arg0) = m ((c.tc : Thread Cert.PostBKernelIdeal.nD Cert.PostBKernelIdeal.τ).loc Cert.PostBKernelIdeal.main_arg0)
          ∧ r.2.mem ((c.tc : Thread Cert.PostBKernelIdeal.nD Cert.PostBKernelIdeal.τ).loc Cert.PostBKernelIdeal.main_arg1) = m ((c.tc : Thread Cert.PostBKernelIdeal.nD Cert.PostBKernelIdeal.τ).loc Cert.PostBKernelIdeal.main_arg1)
          ∧ r.2.mem ((c.tc : Thread Cert.PostBKernelIdeal.nD Cert.PostBKernelIdeal.τ).loc Cert.PostBKernelIdeal.main_arg2) = m ((c.tc : Thread Cert.PostBKernelIdeal.nD Cert.PostBKernelIdeal.τ).loc Cert.PostBKernelIdeal.main_arg2)
          ∧ r.2.mem ((c.tc : Thread Cert.PostBKernelIdeal.nD Cert.PostBKernelIdeal.τ).loc Cert.PostBKernelIdeal.main_arg3) = m ((c.tc : Thread Cert.PostBKernelIdeal.nD Cert.PostBKernelIdeal.τ).loc Cert.PostBKernelIdeal.main_arg3)
          ∧ r.2.mem ((c.tc : Thread Cert.PostBKernelIdeal.nD Cert.PostBKernelIdeal.τ).loc Cert.PostBKernelIdeal.main_arg4) = m ((c.tc : Thread Cert.PostBKernelIdeal.nD Cert.PostBKernelIdeal.τ).loc Cert.PostBKernelIdeal.main_arg4)
          ∧ r.2.mem ((c.tc : Thread Cert.PostBKernelIdeal.nD Cert.PostBKernelIdeal.τ).loc Cert.PostBKernelIdeal.main_arg5) = m ((c.tc : Thread Cert.PostBKernelIdeal.nD Cert.PostBKernelIdeal.τ).loc Cert.PostBKernelIdeal.main_arg5)
          ∧ r.2.mem ((c.tc : Thread Cert.PostBKernelIdeal.nD Cert.PostBKernelIdeal.τ).loc Cert.PostBKernelIdeal.main_arg6) = m ((c.tc : Thread Cert.PostBKernelIdeal.nD Cert.PostBKernelIdeal.τ).loc Cert.PostBKernelIdeal.main_arg6)
          ∧ r.2.mem ((c.tc : Thread Cert.PostBKernelIdeal.nD Cert.PostBKernelIdeal.τ).loc Cert.PostBKernelIdeal.main_arg7) = m ((c.tc : Thread Cert.PostBKernelIdeal.nD Cert.PostBKernelIdeal.τ).loc Cert.PostBKernelIdeal.main_arg7))
      ∧ θ_run (Cert.PostBReferenceIdeal.defs (F := Ideal)) (onTc (τ := Cert.PostBReferenceIdeal.τ) (Cert.PostBReferenceIdeal.main (F := Ideal))) ⟨m', fun _ => 0, g'⟩ (fun r => ∀ c : Dev Cert.PostBReferenceIdeal.nD,
          r.2.mem ((c.tc : Thread Cert.PostBReferenceIdeal.nD Cert.PostBReferenceIdeal.τ).loc Cert.PostBReferenceIdeal.main_v51) = v0 c
          ∧ r.2.mem ((c.tc : Thread Cert.PostBReferenceIdeal.nD Cert.PostBReferenceIdeal.τ).loc Cert.PostBReferenceIdeal.main_v58) = v1 c
          ∧ r.2.mem ((c.tc : Thread Cert.PostBReferenceIdeal.nD Cert.PostBReferenceIdeal.τ).loc Cert.PostBReferenceIdeal.main_v57) = v2 c
          ∧ r.2.mem ((c.tc : Thread Cert.PostBReferenceIdeal.nD Cert.PostBReferenceIdeal.τ).loc Cert.PostBReferenceIdeal.main_v34) = v3 c
          ∧ r.2.mem ((c.tc : Thread Cert.PostBReferenceIdeal.nD Cert.PostBReferenceIdeal.τ).loc Cert.PostBReferenceIdeal.main_v29) = v4 c
          ∧ r.2.mem ((c.tc : Thread Cert.PostBReferenceIdeal.nD Cert.PostBReferenceIdeal.τ).loc Cert.PostBReferenceIdeal.main_v26) = v5 c
          ∧ r.2.mem ((c.tc : Thread Cert.PostBReferenceIdeal.nD Cert.PostBReferenceIdeal.τ).loc Cert.PostBReferenceIdeal.main_arg0) = m' ((c.tc : Thread Cert.PostBReferenceIdeal.nD Cert.PostBReferenceIdeal.τ).loc Cert.PostBReferenceIdeal.main_arg0)
          ∧ r.2.mem ((c.tc : Thread Cert.PostBReferenceIdeal.nD Cert.PostBReferenceIdeal.τ).loc Cert.PostBReferenceIdeal.main_arg1) = m' ((c.tc : Thread Cert.PostBReferenceIdeal.nD Cert.PostBReferenceIdeal.τ).loc Cert.PostBReferenceIdeal.main_arg1)
          ∧ r.2.mem ((c.tc : Thread Cert.PostBReferenceIdeal.nD Cert.PostBReferenceIdeal.τ).loc Cert.PostBReferenceIdeal.main_arg2) = m' ((c.tc : Thread Cert.PostBReferenceIdeal.nD Cert.PostBReferenceIdeal.τ).loc Cert.PostBReferenceIdeal.main_arg2)
          ∧ r.2.mem ((c.tc : Thread Cert.PostBReferenceIdeal.nD Cert.PostBReferenceIdeal.τ).loc Cert.PostBReferenceIdeal.main_arg3) = m' ((c.tc : Thread Cert.PostBReferenceIdeal.nD Cert.PostBReferenceIdeal.τ).loc Cert.PostBReferenceIdeal.main_arg3)
          ∧ r.2.mem ((c.tc : Thread Cert.PostBReferenceIdeal.nD Cert.PostBReferenceIdeal.τ).loc Cert.PostBReferenceIdeal.main_arg4) = m' ((c.tc : Thread Cert.PostBReferenceIdeal.nD Cert.PostBReferenceIdeal.τ).loc Cert.PostBReferenceIdeal.main_arg4)
          ∧ r.2.mem ((c.tc : Thread Cert.PostBReferenceIdeal.nD Cert.PostBReferenceIdeal.τ).loc Cert.PostBReferenceIdeal.main_arg5) = m' ((c.tc : Thread Cert.PostBReferenceIdeal.nD Cert.PostBReferenceIdeal.τ).loc Cert.PostBReferenceIdeal.main_arg5)
          ∧ r.2.mem ((c.tc : Thread Cert.PostBReferenceIdeal.nD Cert.PostBReferenceIdeal.τ).loc Cert.PostBReferenceIdeal.main_arg6) = m' ((c.tc : Thread Cert.PostBReferenceIdeal.nD Cert.PostBReferenceIdeal.τ).loc Cert.PostBReferenceIdeal.main_arg6)
          ∧ r.2.mem ((c.tc : Thread Cert.PostBReferenceIdeal.nD Cert.PostBReferenceIdeal.τ).loc Cert.PostBReferenceIdeal.main_arg7) = m' ((c.tc : Thread Cert.PostBReferenceIdeal.nD Cert.PostBReferenceIdeal.τ).loc Cert.PostBReferenceIdeal.main_arg7))

def preserves_PostBZeroKernel_PostBZeroKernelIdeal : Prop :=
  True

def algebraic_PostBZeroKernelIdeal_PostBReferenceIdeal [hPostBZeroKernelIdeal : Cert.PostBZeroKernelIdeal.Facts] [hPostBReferenceIdeal : Cert.PostBReferenceIdeal.Facts] : Prop :=
  ∀ (m : (ℓ : Loc Cert.PostBZeroKernelIdeal.nD Cert.PostBZeroKernelIdeal.τ Cert.PostBZeroKernelIdeal.sig) → Buf (Elt Ideal) ℓ) (g : Dev Cert.PostBZeroKernelIdeal.nD → PrngReg)
    (m' : (ℓ : Loc Cert.PostBReferenceIdeal.nD Cert.PostBReferenceIdeal.τ Cert.PostBReferenceIdeal.sig) → Buf (Elt Ideal) ℓ) (g' : Dev Cert.PostBReferenceIdeal.nD → PrngReg), Pre_PostBZeroKernelIdeal m →
    (∀ c : Dev Cert.PostBZeroKernelIdeal.nD,
      m' ((c.tc : Thread Cert.PostBReferenceIdeal.nD Cert.PostBReferenceIdeal.τ).loc Cert.PostBReferenceIdeal.main_arg0) = m ((c.tc : Thread Cert.PostBZeroKernelIdeal.nD Cert.PostBZeroKernelIdeal.τ).loc Cert.PostBZeroKernelIdeal.main_arg0)
      ∧ m' ((c.tc : Thread Cert.PostBReferenceIdeal.nD Cert.PostBReferenceIdeal.τ).loc Cert.PostBReferenceIdeal.main_arg1) = m ((c.tc : Thread Cert.PostBZeroKernelIdeal.nD Cert.PostBZeroKernelIdeal.τ).loc Cert.PostBZeroKernelIdeal.main_arg1)
      ∧ m' ((c.tc : Thread Cert.PostBReferenceIdeal.nD Cert.PostBReferenceIdeal.τ).loc Cert.PostBReferenceIdeal.main_arg2) = m ((c.tc : Thread Cert.PostBZeroKernelIdeal.nD Cert.PostBZeroKernelIdeal.τ).loc Cert.PostBZeroKernelIdeal.main_arg2)
      ∧ m' ((c.tc : Thread Cert.PostBReferenceIdeal.nD Cert.PostBReferenceIdeal.τ).loc Cert.PostBReferenceIdeal.main_arg3) = m ((c.tc : Thread Cert.PostBZeroKernelIdeal.nD Cert.PostBZeroKernelIdeal.τ).loc Cert.PostBZeroKernelIdeal.main_arg3)
      ∧ m' ((c.tc : Thread Cert.PostBReferenceIdeal.nD Cert.PostBReferenceIdeal.τ).loc Cert.PostBReferenceIdeal.main_arg4) = m ((c.tc : Thread Cert.PostBZeroKernelIdeal.nD Cert.PostBZeroKernelIdeal.τ).loc Cert.PostBZeroKernelIdeal.main_arg4)
      ∧ m' ((c.tc : Thread Cert.PostBReferenceIdeal.nD Cert.PostBReferenceIdeal.τ).loc Cert.PostBReferenceIdeal.main_arg5) = m ((c.tc : Thread Cert.PostBZeroKernelIdeal.nD Cert.PostBZeroKernelIdeal.τ).loc Cert.PostBZeroKernelIdeal.main_arg5)
      ∧ m' ((c.tc : Thread Cert.PostBReferenceIdeal.nD Cert.PostBReferenceIdeal.τ).loc Cert.PostBReferenceIdeal.main_arg6) = m ((c.tc : Thread Cert.PostBZeroKernelIdeal.nD Cert.PostBZeroKernelIdeal.τ).loc Cert.PostBZeroKernelIdeal.main_arg6)
      ∧ m' ((c.tc : Thread Cert.PostBReferenceIdeal.nD Cert.PostBReferenceIdeal.τ).loc Cert.PostBReferenceIdeal.main_arg7) = m ((c.tc : Thread Cert.PostBZeroKernelIdeal.nD Cert.PostBZeroKernelIdeal.τ).loc Cert.PostBZeroKernelIdeal.main_arg7)) →
    ∃ (v0 : (c : Dev Cert.PostBZeroKernelIdeal.nD) → Buf (Elt Ideal) ((c.tc : Thread Cert.PostBZeroKernelIdeal.nD Cert.PostBZeroKernelIdeal.τ).loc Cert.PostBZeroKernelIdeal.main_v0_0)) (v1 : (c : Dev Cert.PostBZeroKernelIdeal.nD) → Buf (Elt Ideal) ((c.tc : Thread Cert.PostBZeroKernelIdeal.nD Cert.PostBZeroKernelIdeal.τ).loc Cert.PostBZeroKernelIdeal.main_v0_1)) (v2 : (c : Dev Cert.PostBZeroKernelIdeal.nD) → Buf (Elt Ideal) ((c.tc : Thread Cert.PostBZeroKernelIdeal.nD Cert.PostBZeroKernelIdeal.τ).loc Cert.PostBZeroKernelIdeal.main_v0_2)) (v3 : (c : Dev Cert.PostBZeroKernelIdeal.nD) → Buf (Elt Ideal) ((c.tc : Thread Cert.PostBZeroKernelIdeal.nD Cert.PostBZeroKernelIdeal.τ).loc Cert.PostBZeroKernelIdeal.main_v0_3)) (v4 : (c : Dev Cert.PostBZeroKernelIdeal.nD) → Buf (Elt Ideal) ((c.tc : Thread Cert.PostBZeroKernelIdeal.nD Cert.PostBZeroKernelIdeal.τ).loc Cert.PostBZeroKernelIdeal.main_v0_4)) (v5 : (c : Dev Cert.PostBZeroKernelIdeal.nD) → Buf (Elt Ideal) ((c.tc : Thread Cert.PostBZeroKernelIdeal.nD Cert.PostBZeroKernelIdeal.τ).loc Cert.PostBZeroKernelIdeal.main_v0_5)),
      θ_run (Cert.PostBZeroKernelIdeal.defs (F := Ideal)) (onTc (τ := Cert.PostBZeroKernelIdeal.τ) (Cert.PostBZeroKernelIdeal.main (F := Ideal))) ⟨m, fun _ => 0, g⟩ (fun r => ∀ c : Dev Cert.PostBZeroKernelIdeal.nD,
          r.2.mem ((c.tc : Thread Cert.PostBZeroKernelIdeal.nD Cert.PostBZeroKernelIdeal.τ).loc Cert.PostBZeroKernelIdeal.main_v0_0) = v0 c
          ∧ r.2.mem ((c.tc : Thread Cert.PostBZeroKernelIdeal.nD Cert.PostBZeroKernelIdeal.τ).loc Cert.PostBZeroKernelIdeal.main_v0_1) = v1 c
          ∧ r.2.mem ((c.tc : Thread Cert.PostBZeroKernelIdeal.nD Cert.PostBZeroKernelIdeal.τ).loc Cert.PostBZeroKernelIdeal.main_v0_2) = v2 c
          ∧ r.2.mem ((c.tc : Thread Cert.PostBZeroKernelIdeal.nD Cert.PostBZeroKernelIdeal.τ).loc Cert.PostBZeroKernelIdeal.main_v0_3) = v3 c
          ∧ r.2.mem ((c.tc : Thread Cert.PostBZeroKernelIdeal.nD Cert.PostBZeroKernelIdeal.τ).loc Cert.PostBZeroKernelIdeal.main_v0_4) = v4 c
          ∧ r.2.mem ((c.tc : Thread Cert.PostBZeroKernelIdeal.nD Cert.PostBZeroKernelIdeal.τ).loc Cert.PostBZeroKernelIdeal.main_v0_5) = v5 c
          ∧ r.2.mem ((c.tc : Thread Cert.PostBZeroKernelIdeal.nD Cert.PostBZeroKernelIdeal.τ).loc Cert.PostBZeroKernelIdeal.main_arg0) = m ((c.tc : Thread Cert.PostBZeroKernelIdeal.nD Cert.PostBZeroKernelIdeal.τ).loc Cert.PostBZeroKernelIdeal.main_arg0)
          ∧ r.2.mem ((c.tc : Thread Cert.PostBZeroKernelIdeal.nD Cert.PostBZeroKernelIdeal.τ).loc Cert.PostBZeroKernelIdeal.main_arg1) = m ((c.tc : Thread Cert.PostBZeroKernelIdeal.nD Cert.PostBZeroKernelIdeal.τ).loc Cert.PostBZeroKernelIdeal.main_arg1)
          ∧ r.2.mem ((c.tc : Thread Cert.PostBZeroKernelIdeal.nD Cert.PostBZeroKernelIdeal.τ).loc Cert.PostBZeroKernelIdeal.main_arg2) = m ((c.tc : Thread Cert.PostBZeroKernelIdeal.nD Cert.PostBZeroKernelIdeal.τ).loc Cert.PostBZeroKernelIdeal.main_arg2)
          ∧ r.2.mem ((c.tc : Thread Cert.PostBZeroKernelIdeal.nD Cert.PostBZeroKernelIdeal.τ).loc Cert.PostBZeroKernelIdeal.main_arg3) = m ((c.tc : Thread Cert.PostBZeroKernelIdeal.nD Cert.PostBZeroKernelIdeal.τ).loc Cert.PostBZeroKernelIdeal.main_arg3)
          ∧ r.2.mem ((c.tc : Thread Cert.PostBZeroKernelIdeal.nD Cert.PostBZeroKernelIdeal.τ).loc Cert.PostBZeroKernelIdeal.main_arg4) = m ((c.tc : Thread Cert.PostBZeroKernelIdeal.nD Cert.PostBZeroKernelIdeal.τ).loc Cert.PostBZeroKernelIdeal.main_arg4)
          ∧ r.2.mem ((c.tc : Thread Cert.PostBZeroKernelIdeal.nD Cert.PostBZeroKernelIdeal.τ).loc Cert.PostBZeroKernelIdeal.main_arg5) = m ((c.tc : Thread Cert.PostBZeroKernelIdeal.nD Cert.PostBZeroKernelIdeal.τ).loc Cert.PostBZeroKernelIdeal.main_arg5)
          ∧ r.2.mem ((c.tc : Thread Cert.PostBZeroKernelIdeal.nD Cert.PostBZeroKernelIdeal.τ).loc Cert.PostBZeroKernelIdeal.main_arg6) = m ((c.tc : Thread Cert.PostBZeroKernelIdeal.nD Cert.PostBZeroKernelIdeal.τ).loc Cert.PostBZeroKernelIdeal.main_arg6)
          ∧ r.2.mem ((c.tc : Thread Cert.PostBZeroKernelIdeal.nD Cert.PostBZeroKernelIdeal.τ).loc Cert.PostBZeroKernelIdeal.main_arg7) = m ((c.tc : Thread Cert.PostBZeroKernelIdeal.nD Cert.PostBZeroKernelIdeal.τ).loc Cert.PostBZeroKernelIdeal.main_arg7))
      ∧ θ_run (Cert.PostBReferenceIdeal.defs (F := Ideal)) (onTc (τ := Cert.PostBReferenceIdeal.τ) (Cert.PostBReferenceIdeal.main (F := Ideal))) ⟨m', fun _ => 0, g'⟩ (fun r => ∀ c : Dev Cert.PostBReferenceIdeal.nD,
          r.2.mem ((c.tc : Thread Cert.PostBReferenceIdeal.nD Cert.PostBReferenceIdeal.τ).loc Cert.PostBReferenceIdeal.main_v51) = v0 c
          ∧ r.2.mem ((c.tc : Thread Cert.PostBReferenceIdeal.nD Cert.PostBReferenceIdeal.τ).loc Cert.PostBReferenceIdeal.main_v58) = v1 c
          ∧ r.2.mem ((c.tc : Thread Cert.PostBReferenceIdeal.nD Cert.PostBReferenceIdeal.τ).loc Cert.PostBReferenceIdeal.main_v57) = v2 c
          ∧ r.2.mem ((c.tc : Thread Cert.PostBReferenceIdeal.nD Cert.PostBReferenceIdeal.τ).loc Cert.PostBReferenceIdeal.main_v34) = v3 c
          ∧ r.2.mem ((c.tc : Thread Cert.PostBReferenceIdeal.nD Cert.PostBReferenceIdeal.τ).loc Cert.PostBReferenceIdeal.main_v29) = v4 c
          ∧ r.2.mem ((c.tc : Thread Cert.PostBReferenceIdeal.nD Cert.PostBReferenceIdeal.τ).loc Cert.PostBReferenceIdeal.main_v26) = v5 c
          ∧ r.2.mem ((c.tc : Thread Cert.PostBReferenceIdeal.nD Cert.PostBReferenceIdeal.τ).loc Cert.PostBReferenceIdeal.main_arg0) = m' ((c.tc : Thread Cert.PostBReferenceIdeal.nD Cert.PostBReferenceIdeal.τ).loc Cert.PostBReferenceIdeal.main_arg0)
          ∧ r.2.mem ((c.tc : Thread Cert.PostBReferenceIdeal.nD Cert.PostBReferenceIdeal.τ).loc Cert.PostBReferenceIdeal.main_arg1) = m' ((c.tc : Thread Cert.PostBReferenceIdeal.nD Cert.PostBReferenceIdeal.τ).loc Cert.PostBReferenceIdeal.main_arg1)
          ∧ r.2.mem ((c.tc : Thread Cert.PostBReferenceIdeal.nD Cert.PostBReferenceIdeal.τ).loc Cert.PostBReferenceIdeal.main_arg2) = m' ((c.tc : Thread Cert.PostBReferenceIdeal.nD Cert.PostBReferenceIdeal.τ).loc Cert.PostBReferenceIdeal.main_arg2)
          ∧ r.2.mem ((c.tc : Thread Cert.PostBReferenceIdeal.nD Cert.PostBReferenceIdeal.τ).loc Cert.PostBReferenceIdeal.main_arg3) = m' ((c.tc : Thread Cert.PostBReferenceIdeal.nD Cert.PostBReferenceIdeal.τ).loc Cert.PostBReferenceIdeal.main_arg3)
          ∧ r.2.mem ((c.tc : Thread Cert.PostBReferenceIdeal.nD Cert.PostBReferenceIdeal.τ).loc Cert.PostBReferenceIdeal.main_arg4) = m' ((c.tc : Thread Cert.PostBReferenceIdeal.nD Cert.PostBReferenceIdeal.τ).loc Cert.PostBReferenceIdeal.main_arg4)
          ∧ r.2.mem ((c.tc : Thread Cert.PostBReferenceIdeal.nD Cert.PostBReferenceIdeal.τ).loc Cert.PostBReferenceIdeal.main_arg5) = m' ((c.tc : Thread Cert.PostBReferenceIdeal.nD Cert.PostBReferenceIdeal.τ).loc Cert.PostBReferenceIdeal.main_arg5)
          ∧ r.2.mem ((c.tc : Thread Cert.PostBReferenceIdeal.nD Cert.PostBReferenceIdeal.τ).loc Cert.PostBReferenceIdeal.main_arg6) = m' ((c.tc : Thread Cert.PostBReferenceIdeal.nD Cert.PostBReferenceIdeal.τ).loc Cert.PostBReferenceIdeal.main_arg6)
          ∧ r.2.mem ((c.tc : Thread Cert.PostBReferenceIdeal.nD Cert.PostBReferenceIdeal.τ).loc Cert.PostBReferenceIdeal.main_arg7) = m' ((c.tc : Thread Cert.PostBReferenceIdeal.nD Cert.PostBReferenceIdeal.τ).loc Cert.PostBReferenceIdeal.main_arg7))

def preserves_ResPreBZeroKernel_ResPreBZeroKernelIdeal : Prop :=
  True

def algebraic_ResPreBZeroKernelIdeal_PostBReferenceIdeal [hResPreBZeroKernelIdeal : Cert.ResPreBZeroKernelIdeal.Facts] [hPostBReferenceIdeal : Cert.PostBReferenceIdeal.Facts] : Prop :=
  ∀ (m : (ℓ : Loc Cert.ResPreBZeroKernelIdeal.nD Cert.ResPreBZeroKernelIdeal.τ Cert.ResPreBZeroKernelIdeal.sig) → Buf (Elt Ideal) ℓ) (g : Dev Cert.ResPreBZeroKernelIdeal.nD → PrngReg)
    (m' : (ℓ : Loc Cert.PostBReferenceIdeal.nD Cert.PostBReferenceIdeal.τ Cert.PostBReferenceIdeal.sig) → Buf (Elt Ideal) ℓ) (g' : Dev Cert.PostBReferenceIdeal.nD → PrngReg), Pre_ResPreBZeroKernelIdeal m →
    (∀ c : Dev Cert.ResPreBZeroKernelIdeal.nD,
      m' ((c.tc : Thread Cert.PostBReferenceIdeal.nD Cert.PostBReferenceIdeal.τ).loc Cert.PostBReferenceIdeal.main_arg0) = m ((c.tc : Thread Cert.ResPreBZeroKernelIdeal.nD Cert.ResPreBZeroKernelIdeal.τ).loc Cert.ResPreBZeroKernelIdeal.main_arg0)
      ∧ m' ((c.tc : Thread Cert.PostBReferenceIdeal.nD Cert.PostBReferenceIdeal.τ).loc Cert.PostBReferenceIdeal.main_arg1) = m ((c.tc : Thread Cert.ResPreBZeroKernelIdeal.nD Cert.ResPreBZeroKernelIdeal.τ).loc Cert.ResPreBZeroKernelIdeal.main_arg1)
      ∧ m' ((c.tc : Thread Cert.PostBReferenceIdeal.nD Cert.PostBReferenceIdeal.τ).loc Cert.PostBReferenceIdeal.main_arg2) = m ((c.tc : Thread Cert.ResPreBZeroKernelIdeal.nD Cert.ResPreBZeroKernelIdeal.τ).loc Cert.ResPreBZeroKernelIdeal.main_arg2)
      ∧ m' ((c.tc : Thread Cert.PostBReferenceIdeal.nD Cert.PostBReferenceIdeal.τ).loc Cert.PostBReferenceIdeal.main_arg3) = m ((c.tc : Thread Cert.ResPreBZeroKernelIdeal.nD Cert.ResPreBZeroKernelIdeal.τ).loc Cert.ResPreBZeroKernelIdeal.main_arg3)
      ∧ m' ((c.tc : Thread Cert.PostBReferenceIdeal.nD Cert.PostBReferenceIdeal.τ).loc Cert.PostBReferenceIdeal.main_arg4) = m ((c.tc : Thread Cert.ResPreBZeroKernelIdeal.nD Cert.ResPreBZeroKernelIdeal.τ).loc Cert.ResPreBZeroKernelIdeal.main_arg4)
      ∧ m' ((c.tc : Thread Cert.PostBReferenceIdeal.nD Cert.PostBReferenceIdeal.τ).loc Cert.PostBReferenceIdeal.main_arg5) = m ((c.tc : Thread Cert.ResPreBZeroKernelIdeal.nD Cert.ResPreBZeroKernelIdeal.τ).loc Cert.ResPreBZeroKernelIdeal.main_arg5)
      ∧ m' ((c.tc : Thread Cert.PostBReferenceIdeal.nD Cert.PostBReferenceIdeal.τ).loc Cert.PostBReferenceIdeal.main_arg6) = m ((c.tc : Thread Cert.ResPreBZeroKernelIdeal.nD Cert.ResPreBZeroKernelIdeal.τ).loc Cert.ResPreBZeroKernelIdeal.main_arg6)
      ∧ m' ((c.tc : Thread Cert.PostBReferenceIdeal.nD Cert.PostBReferenceIdeal.τ).loc Cert.PostBReferenceIdeal.main_arg7) = m ((c.tc : Thread Cert.ResPreBZeroKernelIdeal.nD Cert.ResPreBZeroKernelIdeal.τ).loc Cert.ResPreBZeroKernelIdeal.main_arg7)) →
    ∃ (v0 : (c : Dev Cert.ResPreBZeroKernelIdeal.nD) → Buf (Elt Ideal) ((c.tc : Thread Cert.ResPreBZeroKernelIdeal.nD Cert.ResPreBZeroKernelIdeal.τ).loc Cert.ResPreBZeroKernelIdeal.main_v0_0)) (v1 : (c : Dev Cert.ResPreBZeroKernelIdeal.nD) → Buf (Elt Ideal) ((c.tc : Thread Cert.ResPreBZeroKernelIdeal.nD Cert.ResPreBZeroKernelIdeal.τ).loc Cert.ResPreBZeroKernelIdeal.main_v0_1)) (v2 : (c : Dev Cert.ResPreBZeroKernelIdeal.nD) → Buf (Elt Ideal) ((c.tc : Thread Cert.ResPreBZeroKernelIdeal.nD Cert.ResPreBZeroKernelIdeal.τ).loc Cert.ResPreBZeroKernelIdeal.main_v0_2)) (v3 : (c : Dev Cert.ResPreBZeroKernelIdeal.nD) → Buf (Elt Ideal) ((c.tc : Thread Cert.ResPreBZeroKernelIdeal.nD Cert.ResPreBZeroKernelIdeal.τ).loc Cert.ResPreBZeroKernelIdeal.main_v0_3)) (v4 : (c : Dev Cert.ResPreBZeroKernelIdeal.nD) → Buf (Elt Ideal) ((c.tc : Thread Cert.ResPreBZeroKernelIdeal.nD Cert.ResPreBZeroKernelIdeal.τ).loc Cert.ResPreBZeroKernelIdeal.main_v0_4)) (v5 : (c : Dev Cert.ResPreBZeroKernelIdeal.nD) → Buf (Elt Ideal) ((c.tc : Thread Cert.ResPreBZeroKernelIdeal.nD Cert.ResPreBZeroKernelIdeal.τ).loc Cert.ResPreBZeroKernelIdeal.main_v0_5)),
      θ_run (Cert.ResPreBZeroKernelIdeal.defs (F := Ideal)) (onTc (τ := Cert.ResPreBZeroKernelIdeal.τ) (Cert.ResPreBZeroKernelIdeal.main (F := Ideal))) ⟨m, fun _ => 0, g⟩ (fun r => ∀ c : Dev Cert.ResPreBZeroKernelIdeal.nD,
          r.2.mem ((c.tc : Thread Cert.ResPreBZeroKernelIdeal.nD Cert.ResPreBZeroKernelIdeal.τ).loc Cert.ResPreBZeroKernelIdeal.main_v0_0) = v0 c
          ∧ r.2.mem ((c.tc : Thread Cert.ResPreBZeroKernelIdeal.nD Cert.ResPreBZeroKernelIdeal.τ).loc Cert.ResPreBZeroKernelIdeal.main_v0_1) = v1 c
          ∧ r.2.mem ((c.tc : Thread Cert.ResPreBZeroKernelIdeal.nD Cert.ResPreBZeroKernelIdeal.τ).loc Cert.ResPreBZeroKernelIdeal.main_v0_2) = v2 c
          ∧ r.2.mem ((c.tc : Thread Cert.ResPreBZeroKernelIdeal.nD Cert.ResPreBZeroKernelIdeal.τ).loc Cert.ResPreBZeroKernelIdeal.main_v0_3) = v3 c
          ∧ r.2.mem ((c.tc : Thread Cert.ResPreBZeroKernelIdeal.nD Cert.ResPreBZeroKernelIdeal.τ).loc Cert.ResPreBZeroKernelIdeal.main_v0_4) = v4 c
          ∧ r.2.mem ((c.tc : Thread Cert.ResPreBZeroKernelIdeal.nD Cert.ResPreBZeroKernelIdeal.τ).loc Cert.ResPreBZeroKernelIdeal.main_v0_5) = v5 c
          ∧ r.2.mem ((c.tc : Thread Cert.ResPreBZeroKernelIdeal.nD Cert.ResPreBZeroKernelIdeal.τ).loc Cert.ResPreBZeroKernelIdeal.main_arg0) = m ((c.tc : Thread Cert.ResPreBZeroKernelIdeal.nD Cert.ResPreBZeroKernelIdeal.τ).loc Cert.ResPreBZeroKernelIdeal.main_arg0)
          ∧ r.2.mem ((c.tc : Thread Cert.ResPreBZeroKernelIdeal.nD Cert.ResPreBZeroKernelIdeal.τ).loc Cert.ResPreBZeroKernelIdeal.main_arg1) = m ((c.tc : Thread Cert.ResPreBZeroKernelIdeal.nD Cert.ResPreBZeroKernelIdeal.τ).loc Cert.ResPreBZeroKernelIdeal.main_arg1)
          ∧ r.2.mem ((c.tc : Thread Cert.ResPreBZeroKernelIdeal.nD Cert.ResPreBZeroKernelIdeal.τ).loc Cert.ResPreBZeroKernelIdeal.main_arg2) = m ((c.tc : Thread Cert.ResPreBZeroKernelIdeal.nD Cert.ResPreBZeroKernelIdeal.τ).loc Cert.ResPreBZeroKernelIdeal.main_arg2)
          ∧ r.2.mem ((c.tc : Thread Cert.ResPreBZeroKernelIdeal.nD Cert.ResPreBZeroKernelIdeal.τ).loc Cert.ResPreBZeroKernelIdeal.main_arg3) = m ((c.tc : Thread Cert.ResPreBZeroKernelIdeal.nD Cert.ResPreBZeroKernelIdeal.τ).loc Cert.ResPreBZeroKernelIdeal.main_arg3)
          ∧ r.2.mem ((c.tc : Thread Cert.ResPreBZeroKernelIdeal.nD Cert.ResPreBZeroKernelIdeal.τ).loc Cert.ResPreBZeroKernelIdeal.main_arg4) = m ((c.tc : Thread Cert.ResPreBZeroKernelIdeal.nD Cert.ResPreBZeroKernelIdeal.τ).loc Cert.ResPreBZeroKernelIdeal.main_arg4)
          ∧ r.2.mem ((c.tc : Thread Cert.ResPreBZeroKernelIdeal.nD Cert.ResPreBZeroKernelIdeal.τ).loc Cert.ResPreBZeroKernelIdeal.main_arg5) = m ((c.tc : Thread Cert.ResPreBZeroKernelIdeal.nD Cert.ResPreBZeroKernelIdeal.τ).loc Cert.ResPreBZeroKernelIdeal.main_arg5)
          ∧ r.2.mem ((c.tc : Thread Cert.ResPreBZeroKernelIdeal.nD Cert.ResPreBZeroKernelIdeal.τ).loc Cert.ResPreBZeroKernelIdeal.main_arg6) = m ((c.tc : Thread Cert.ResPreBZeroKernelIdeal.nD Cert.ResPreBZeroKernelIdeal.τ).loc Cert.ResPreBZeroKernelIdeal.main_arg6)
          ∧ r.2.mem ((c.tc : Thread Cert.ResPreBZeroKernelIdeal.nD Cert.ResPreBZeroKernelIdeal.τ).loc Cert.ResPreBZeroKernelIdeal.main_arg7) = m ((c.tc : Thread Cert.ResPreBZeroKernelIdeal.nD Cert.ResPreBZeroKernelIdeal.τ).loc Cert.ResPreBZeroKernelIdeal.main_arg7))
      ∧ θ_run (Cert.PostBReferenceIdeal.defs (F := Ideal)) (onTc (τ := Cert.PostBReferenceIdeal.τ) (Cert.PostBReferenceIdeal.main (F := Ideal))) ⟨m', fun _ => 0, g'⟩ (fun r => ∀ c : Dev Cert.PostBReferenceIdeal.nD,
          r.2.mem ((c.tc : Thread Cert.PostBReferenceIdeal.nD Cert.PostBReferenceIdeal.τ).loc Cert.PostBReferenceIdeal.main_v51) = v0 c
          ∧ r.2.mem ((c.tc : Thread Cert.PostBReferenceIdeal.nD Cert.PostBReferenceIdeal.τ).loc Cert.PostBReferenceIdeal.main_v58) = v1 c
          ∧ r.2.mem ((c.tc : Thread Cert.PostBReferenceIdeal.nD Cert.PostBReferenceIdeal.τ).loc Cert.PostBReferenceIdeal.main_v57) = v2 c
          ∧ r.2.mem ((c.tc : Thread Cert.PostBReferenceIdeal.nD Cert.PostBReferenceIdeal.τ).loc Cert.PostBReferenceIdeal.main_v34) = v3 c
          ∧ r.2.mem ((c.tc : Thread Cert.PostBReferenceIdeal.nD Cert.PostBReferenceIdeal.τ).loc Cert.PostBReferenceIdeal.main_v29) = v4 c
          ∧ r.2.mem ((c.tc : Thread Cert.PostBReferenceIdeal.nD Cert.PostBReferenceIdeal.τ).loc Cert.PostBReferenceIdeal.main_v26) = v5 c
          ∧ r.2.mem ((c.tc : Thread Cert.PostBReferenceIdeal.nD Cert.PostBReferenceIdeal.τ).loc Cert.PostBReferenceIdeal.main_arg0) = m' ((c.tc : Thread Cert.PostBReferenceIdeal.nD Cert.PostBReferenceIdeal.τ).loc Cert.PostBReferenceIdeal.main_arg0)
          ∧ r.2.mem ((c.tc : Thread Cert.PostBReferenceIdeal.nD Cert.PostBReferenceIdeal.τ).loc Cert.PostBReferenceIdeal.main_arg1) = m' ((c.tc : Thread Cert.PostBReferenceIdeal.nD Cert.PostBReferenceIdeal.τ).loc Cert.PostBReferenceIdeal.main_arg1)
          ∧ r.2.mem ((c.tc : Thread Cert.PostBReferenceIdeal.nD Cert.PostBReferenceIdeal.τ).loc Cert.PostBReferenceIdeal.main_arg2) = m' ((c.tc : Thread Cert.PostBReferenceIdeal.nD Cert.PostBReferenceIdeal.τ).loc Cert.PostBReferenceIdeal.main_arg2)
          ∧ r.2.mem ((c.tc : Thread Cert.PostBReferenceIdeal.nD Cert.PostBReferenceIdeal.τ).loc Cert.PostBReferenceIdeal.main_arg3) = m' ((c.tc : Thread Cert.PostBReferenceIdeal.nD Cert.PostBReferenceIdeal.τ).loc Cert.PostBReferenceIdeal.main_arg3)
          ∧ r.2.mem ((c.tc : Thread Cert.PostBReferenceIdeal.nD Cert.PostBReferenceIdeal.τ).loc Cert.PostBReferenceIdeal.main_arg4) = m' ((c.tc : Thread Cert.PostBReferenceIdeal.nD Cert.PostBReferenceIdeal.τ).loc Cert.PostBReferenceIdeal.main_arg4)
          ∧ r.2.mem ((c.tc : Thread Cert.PostBReferenceIdeal.nD Cert.PostBReferenceIdeal.τ).loc Cert.PostBReferenceIdeal.main_arg5) = m' ((c.tc : Thread Cert.PostBReferenceIdeal.nD Cert.PostBReferenceIdeal.τ).loc Cert.PostBReferenceIdeal.main_arg5)
          ∧ r.2.mem ((c.tc : Thread Cert.PostBReferenceIdeal.nD Cert.PostBReferenceIdeal.τ).loc Cert.PostBReferenceIdeal.main_arg6) = m' ((c.tc : Thread Cert.PostBReferenceIdeal.nD Cert.PostBReferenceIdeal.τ).loc Cert.PostBReferenceIdeal.main_arg6)
          ∧ r.2.mem ((c.tc : Thread Cert.PostBReferenceIdeal.nD Cert.PostBReferenceIdeal.τ).loc Cert.PostBReferenceIdeal.main_arg7) = m' ((c.tc : Thread Cert.PostBReferenceIdeal.nD Cert.PostBReferenceIdeal.τ).loc Cert.PostBReferenceIdeal.main_arg7))

def preserves_ResBKernel_ResBKernelIdeal : Prop :=
  True

def algebraic_ResBKernelIdeal_ResBReferenceIdeal [hResBKernelIdeal : Cert.ResBKernelIdeal.Facts] [hResBReferenceIdeal : Cert.ResBReferenceIdeal.Facts] : Prop :=
  ∀ (m : (ℓ : Loc Cert.ResBKernelIdeal.nD Cert.ResBKernelIdeal.τ Cert.ResBKernelIdeal.sig) → Buf (Elt Ideal) ℓ) (g : Dev Cert.ResBKernelIdeal.nD → PrngReg)
    (m' : (ℓ : Loc Cert.ResBReferenceIdeal.nD Cert.ResBReferenceIdeal.τ Cert.ResBReferenceIdeal.sig) → Buf (Elt Ideal) ℓ) (g' : Dev Cert.ResBReferenceIdeal.nD → PrngReg), Pre_ResBKernelIdeal m →
    (∀ c : Dev Cert.ResBKernelIdeal.nD,
      m' ((c.tc : Thread Cert.ResBReferenceIdeal.nD Cert.ResBReferenceIdeal.τ).loc Cert.ResBReferenceIdeal.main_arg0) = m ((c.tc : Thread Cert.ResBKernelIdeal.nD Cert.ResBKernelIdeal.τ).loc Cert.ResBKernelIdeal.main_arg0)
      ∧ m' ((c.tc : Thread Cert.ResBReferenceIdeal.nD Cert.ResBReferenceIdeal.τ).loc Cert.ResBReferenceIdeal.main_arg1) = m ((c.tc : Thread Cert.ResBKernelIdeal.nD Cert.ResBKernelIdeal.τ).loc Cert.ResBKernelIdeal.main_arg1)
      ∧ m' ((c.tc : Thread Cert.ResBReferenceIdeal.nD Cert.ResBReferenceIdeal.τ).loc Cert.ResBReferenceIdeal.main_arg2) = m ((c.tc : Thread Cert.ResBKernelIdeal.nD Cert.ResBKernelIdeal.τ).loc Cert.ResBKernelIdeal.main_arg2)
      ∧ m' ((c.tc : Thread Cert.ResBReferenceIdeal.nD Cert.ResBReferenceIdeal.τ).loc Cert.ResBReferenceIdeal.main_arg3) = m ((c.tc : Thread Cert.ResBKernelIdeal.nD Cert.ResBKernelIdeal.τ).loc Cert.ResBKernelIdeal.main_arg3)) →
    ∃ (v0 : (c : Dev Cert.ResBKernelIdeal.nD) → Buf (Elt Ideal) ((c.tc : Thread Cert.ResBKernelIdeal.nD Cert.ResBKernelIdeal.τ).loc Cert.ResBKernelIdeal.main_v0_0)) (v1 : (c : Dev Cert.ResBKernelIdeal.nD) → Buf (Elt Ideal) ((c.tc : Thread Cert.ResBKernelIdeal.nD Cert.ResBKernelIdeal.τ).loc Cert.ResBKernelIdeal.main_v0_1)) (v2 : (c : Dev Cert.ResBKernelIdeal.nD) → Buf (Elt Ideal) ((c.tc : Thread Cert.ResBKernelIdeal.nD Cert.ResBKernelIdeal.τ).loc Cert.ResBKernelIdeal.main_v0_2)),
      θ_run (Cert.ResBKernelIdeal.defs (F := Ideal)) (onTc (τ := Cert.ResBKernelIdeal.τ) (Cert.ResBKernelIdeal.main (F := Ideal))) ⟨m, fun _ => 0, g⟩ (fun r => ∀ c : Dev Cert.ResBKernelIdeal.nD,
          r.2.mem ((c.tc : Thread Cert.ResBKernelIdeal.nD Cert.ResBKernelIdeal.τ).loc Cert.ResBKernelIdeal.main_v0_0) = v0 c
          ∧ r.2.mem ((c.tc : Thread Cert.ResBKernelIdeal.nD Cert.ResBKernelIdeal.τ).loc Cert.ResBKernelIdeal.main_v0_1) = v1 c
          ∧ r.2.mem ((c.tc : Thread Cert.ResBKernelIdeal.nD Cert.ResBKernelIdeal.τ).loc Cert.ResBKernelIdeal.main_v0_2) = v2 c
          ∧ r.2.mem ((c.tc : Thread Cert.ResBKernelIdeal.nD Cert.ResBKernelIdeal.τ).loc Cert.ResBKernelIdeal.main_arg0) = m ((c.tc : Thread Cert.ResBKernelIdeal.nD Cert.ResBKernelIdeal.τ).loc Cert.ResBKernelIdeal.main_arg0)
          ∧ r.2.mem ((c.tc : Thread Cert.ResBKernelIdeal.nD Cert.ResBKernelIdeal.τ).loc Cert.ResBKernelIdeal.main_arg1) = m ((c.tc : Thread Cert.ResBKernelIdeal.nD Cert.ResBKernelIdeal.τ).loc Cert.ResBKernelIdeal.main_arg1)
          ∧ r.2.mem ((c.tc : Thread Cert.ResBKernelIdeal.nD Cert.ResBKernelIdeal.τ).loc Cert.ResBKernelIdeal.main_arg2) = m ((c.tc : Thread Cert.ResBKernelIdeal.nD Cert.ResBKernelIdeal.τ).loc Cert.ResBKernelIdeal.main_arg2)
          ∧ r.2.mem ((c.tc : Thread Cert.ResBKernelIdeal.nD Cert.ResBKernelIdeal.τ).loc Cert.ResBKernelIdeal.main_arg3) = m ((c.tc : Thread Cert.ResBKernelIdeal.nD Cert.ResBKernelIdeal.τ).loc Cert.ResBKernelIdeal.main_arg3))
      ∧ θ_run (Cert.ResBReferenceIdeal.defs (F := Ideal)) (onTc (τ := Cert.ResBReferenceIdeal.τ) (Cert.ResBReferenceIdeal.main (F := Ideal))) ⟨m', fun _ => 0, g'⟩ (fun r => ∀ c : Dev Cert.ResBReferenceIdeal.nD,
          r.2.mem ((c.tc : Thread Cert.ResBReferenceIdeal.nD Cert.ResBReferenceIdeal.τ).loc Cert.ResBReferenceIdeal.main_arg3) = v0 c
          ∧ r.2.mem ((c.tc : Thread Cert.ResBReferenceIdeal.nD Cert.ResBReferenceIdeal.τ).loc Cert.ResBReferenceIdeal.main_v9) = v1 c
          ∧ r.2.mem ((c.tc : Thread Cert.ResBReferenceIdeal.nD Cert.ResBReferenceIdeal.τ).loc Cert.ResBReferenceIdeal.main_v8) = v2 c
          ∧ r.2.mem ((c.tc : Thread Cert.ResBReferenceIdeal.nD Cert.ResBReferenceIdeal.τ).loc Cert.ResBReferenceIdeal.main_arg0) = m' ((c.tc : Thread Cert.ResBReferenceIdeal.nD Cert.ResBReferenceIdeal.τ).loc Cert.ResBReferenceIdeal.main_arg0)
          ∧ r.2.mem ((c.tc : Thread Cert.ResBReferenceIdeal.nD Cert.ResBReferenceIdeal.τ).loc Cert.ResBReferenceIdeal.main_arg1) = m' ((c.tc : Thread Cert.ResBReferenceIdeal.nD Cert.ResBReferenceIdeal.τ).loc Cert.ResBReferenceIdeal.main_arg1)
          ∧ r.2.mem ((c.tc : Thread Cert.ResBReferenceIdeal.nD Cert.ResBReferenceIdeal.τ).loc Cert.ResBReferenceIdeal.main_arg2) = m' ((c.tc : Thread Cert.ResBReferenceIdeal.nD Cert.ResBReferenceIdeal.τ).loc Cert.ResBReferenceIdeal.main_arg2)
          ∧ r.2.mem ((c.tc : Thread Cert.ResBReferenceIdeal.nD Cert.ResBReferenceIdeal.τ).loc Cert.ResBReferenceIdeal.main_arg3) = m' ((c.tc : Thread Cert.ResBReferenceIdeal.nD Cert.ResBReferenceIdeal.τ).loc Cert.ResBReferenceIdeal.main_arg3))

def preserves_PostKernel_PostKernelIdeal : Prop :=
  True

def algebraic_PostKernelIdeal_PostReferenceIdeal [hPostKernelIdeal : Cert.PostKernelIdeal.Facts] [hPostReferenceIdeal : Cert.PostReferenceIdeal.Facts] : Prop :=
  ∀ (m : (ℓ : Loc Cert.PostKernelIdeal.nD Cert.PostKernelIdeal.τ Cert.PostKernelIdeal.sig) → Buf (Elt Ideal) ℓ) (g : Dev Cert.PostKernelIdeal.nD → PrngReg)
    (m' : (ℓ : Loc Cert.PostReferenceIdeal.nD Cert.PostReferenceIdeal.τ Cert.PostReferenceIdeal.sig) → Buf (Elt Ideal) ℓ) (g' : Dev Cert.PostReferenceIdeal.nD → PrngReg), Pre_PostKernelIdeal m →
    (∀ c : Dev Cert.PostKernelIdeal.nD,
      m' ((c.tc : Thread Cert.PostReferenceIdeal.nD Cert.PostReferenceIdeal.τ).loc Cert.PostReferenceIdeal.main_arg0) = m ((c.tc : Thread Cert.PostKernelIdeal.nD Cert.PostKernelIdeal.τ).loc Cert.PostKernelIdeal.main_arg0)
      ∧ m' ((c.tc : Thread Cert.PostReferenceIdeal.nD Cert.PostReferenceIdeal.τ).loc Cert.PostReferenceIdeal.main_arg1) = m ((c.tc : Thread Cert.PostKernelIdeal.nD Cert.PostKernelIdeal.τ).loc Cert.PostKernelIdeal.main_arg1)
      ∧ m' ((c.tc : Thread Cert.PostReferenceIdeal.nD Cert.PostReferenceIdeal.τ).loc Cert.PostReferenceIdeal.main_arg2) = m ((c.tc : Thread Cert.PostKernelIdeal.nD Cert.PostKernelIdeal.τ).loc Cert.PostKernelIdeal.main_arg2)
      ∧ m' ((c.tc : Thread Cert.PostReferenceIdeal.nD Cert.PostReferenceIdeal.τ).loc Cert.PostReferenceIdeal.main_arg3) = m ((c.tc : Thread Cert.PostKernelIdeal.nD Cert.PostKernelIdeal.τ).loc Cert.PostKernelIdeal.main_arg3)
      ∧ m' ((c.tc : Thread Cert.PostReferenceIdeal.nD Cert.PostReferenceIdeal.τ).loc Cert.PostReferenceIdeal.main_arg4) = m ((c.tc : Thread Cert.PostKernelIdeal.nD Cert.PostKernelIdeal.τ).loc Cert.PostKernelIdeal.main_arg4)
      ∧ m' ((c.tc : Thread Cert.PostReferenceIdeal.nD Cert.PostReferenceIdeal.τ).loc Cert.PostReferenceIdeal.main_arg5) = m ((c.tc : Thread Cert.PostKernelIdeal.nD Cert.PostKernelIdeal.τ).loc Cert.PostKernelIdeal.main_arg5)) →
    ∃ (v0 : (c : Dev Cert.PostKernelIdeal.nD) → Buf (Elt Ideal) ((c.tc : Thread Cert.PostKernelIdeal.nD Cert.PostKernelIdeal.τ).loc Cert.PostKernelIdeal.main_v0_0)) (v1 : (c : Dev Cert.PostKernelIdeal.nD) → Buf (Elt Ideal) ((c.tc : Thread Cert.PostKernelIdeal.nD Cert.PostKernelIdeal.τ).loc Cert.PostKernelIdeal.main_v0_1)),
      θ_run (Cert.PostKernelIdeal.defs (F := Ideal)) (onTc (τ := Cert.PostKernelIdeal.τ) (Cert.PostKernelIdeal.main (F := Ideal))) ⟨m, fun _ => 0, g⟩ (fun r => ∀ c : Dev Cert.PostKernelIdeal.nD,
          r.2.mem ((c.tc : Thread Cert.PostKernelIdeal.nD Cert.PostKernelIdeal.τ).loc Cert.PostKernelIdeal.main_v0_0) = v0 c
          ∧ r.2.mem ((c.tc : Thread Cert.PostKernelIdeal.nD Cert.PostKernelIdeal.τ).loc Cert.PostKernelIdeal.main_v0_1) = v1 c
          ∧ r.2.mem ((c.tc : Thread Cert.PostKernelIdeal.nD Cert.PostKernelIdeal.τ).loc Cert.PostKernelIdeal.main_arg0) = m ((c.tc : Thread Cert.PostKernelIdeal.nD Cert.PostKernelIdeal.τ).loc Cert.PostKernelIdeal.main_arg0)
          ∧ r.2.mem ((c.tc : Thread Cert.PostKernelIdeal.nD Cert.PostKernelIdeal.τ).loc Cert.PostKernelIdeal.main_arg1) = m ((c.tc : Thread Cert.PostKernelIdeal.nD Cert.PostKernelIdeal.τ).loc Cert.PostKernelIdeal.main_arg1)
          ∧ r.2.mem ((c.tc : Thread Cert.PostKernelIdeal.nD Cert.PostKernelIdeal.τ).loc Cert.PostKernelIdeal.main_arg2) = m ((c.tc : Thread Cert.PostKernelIdeal.nD Cert.PostKernelIdeal.τ).loc Cert.PostKernelIdeal.main_arg2)
          ∧ r.2.mem ((c.tc : Thread Cert.PostKernelIdeal.nD Cert.PostKernelIdeal.τ).loc Cert.PostKernelIdeal.main_arg3) = m ((c.tc : Thread Cert.PostKernelIdeal.nD Cert.PostKernelIdeal.τ).loc Cert.PostKernelIdeal.main_arg3)
          ∧ r.2.mem ((c.tc : Thread Cert.PostKernelIdeal.nD Cert.PostKernelIdeal.τ).loc Cert.PostKernelIdeal.main_arg4) = m ((c.tc : Thread Cert.PostKernelIdeal.nD Cert.PostKernelIdeal.τ).loc Cert.PostKernelIdeal.main_arg4)
          ∧ r.2.mem ((c.tc : Thread Cert.PostKernelIdeal.nD Cert.PostKernelIdeal.τ).loc Cert.PostKernelIdeal.main_arg5) = m ((c.tc : Thread Cert.PostKernelIdeal.nD Cert.PostKernelIdeal.τ).loc Cert.PostKernelIdeal.main_arg5))
      ∧ θ_run (Cert.PostReferenceIdeal.defs (F := Ideal)) (onTc (τ := Cert.PostReferenceIdeal.τ) (Cert.PostReferenceIdeal.main (F := Ideal))) ⟨m', fun _ => 0, g'⟩ (fun r => ∀ c : Dev Cert.PostReferenceIdeal.nD,
          r.2.mem ((c.tc : Thread Cert.PostReferenceIdeal.nD Cert.PostReferenceIdeal.τ).loc Cert.PostReferenceIdeal.main_v2) = v0 c
          ∧ r.2.mem ((c.tc : Thread Cert.PostReferenceIdeal.nD Cert.PostReferenceIdeal.τ).loc Cert.PostReferenceIdeal.main_v21) = v1 c
          ∧ r.2.mem ((c.tc : Thread Cert.PostReferenceIdeal.nD Cert.PostReferenceIdeal.τ).loc Cert.PostReferenceIdeal.main_arg0) = m' ((c.tc : Thread Cert.PostReferenceIdeal.nD Cert.PostReferenceIdeal.τ).loc Cert.PostReferenceIdeal.main_arg0)
          ∧ r.2.mem ((c.tc : Thread Cert.PostReferenceIdeal.nD Cert.PostReferenceIdeal.τ).loc Cert.PostReferenceIdeal.main_arg1) = m' ((c.tc : Thread Cert.PostReferenceIdeal.nD Cert.PostReferenceIdeal.τ).loc Cert.PostReferenceIdeal.main_arg1)
          ∧ r.2.mem ((c.tc : Thread Cert.PostReferenceIdeal.nD Cert.PostReferenceIdeal.τ).loc Cert.PostReferenceIdeal.main_arg2) = m' ((c.tc : Thread Cert.PostReferenceIdeal.nD Cert.PostReferenceIdeal.τ).loc Cert.PostReferenceIdeal.main_arg2)
          ∧ r.2.mem ((c.tc : Thread Cert.PostReferenceIdeal.nD Cert.PostReferenceIdeal.τ).loc Cert.PostReferenceIdeal.main_arg3) = m' ((c.tc : Thread Cert.PostReferenceIdeal.nD Cert.PostReferenceIdeal.τ).loc Cert.PostReferenceIdeal.main_arg3)
          ∧ r.2.mem ((c.tc : Thread Cert.PostReferenceIdeal.nD Cert.PostReferenceIdeal.τ).loc Cert.PostReferenceIdeal.main_arg4) = m' ((c.tc : Thread Cert.PostReferenceIdeal.nD Cert.PostReferenceIdeal.τ).loc Cert.PostReferenceIdeal.main_arg4)
          ∧ r.2.mem ((c.tc : Thread Cert.PostReferenceIdeal.nD Cert.PostReferenceIdeal.τ).loc Cert.PostReferenceIdeal.main_arg5) = m' ((c.tc : Thread Cert.PostReferenceIdeal.nD Cert.PostReferenceIdeal.τ).loc Cert.PostReferenceIdeal.main_arg5))

def preserves_ResKernel_ResKernelIdeal : Prop :=
  True

def algebraic_ResKernelIdeal_ResReferenceIdeal [hResKernelIdeal : Cert.ResKernelIdeal.Facts] [hResReferenceIdeal : Cert.ResReferenceIdeal.Facts] : Prop :=
  ∀ (m : (ℓ : Loc Cert.ResKernelIdeal.nD Cert.ResKernelIdeal.τ Cert.ResKernelIdeal.sig) → Buf (Elt Ideal) ℓ) (g : Dev Cert.ResKernelIdeal.nD → PrngReg)
    (m' : (ℓ : Loc Cert.ResReferenceIdeal.nD Cert.ResReferenceIdeal.τ Cert.ResReferenceIdeal.sig) → Buf (Elt Ideal) ℓ) (g' : Dev Cert.ResReferenceIdeal.nD → PrngReg), Pre_ResKernelIdeal m →
    (∀ c : Dev Cert.ResKernelIdeal.nD,
      m' ((c.tc : Thread Cert.ResReferenceIdeal.nD Cert.ResReferenceIdeal.τ).loc Cert.ResReferenceIdeal.main_arg0) = m ((c.tc : Thread Cert.ResKernelIdeal.nD Cert.ResKernelIdeal.τ).loc Cert.ResKernelIdeal.main_arg0)
      ∧ m' ((c.tc : Thread Cert.ResReferenceIdeal.nD Cert.ResReferenceIdeal.τ).loc Cert.ResReferenceIdeal.main_arg1) = m ((c.tc : Thread Cert.ResKernelIdeal.nD Cert.ResKernelIdeal.τ).loc Cert.ResKernelIdeal.main_arg1)
      ∧ m' ((c.tc : Thread Cert.ResReferenceIdeal.nD Cert.ResReferenceIdeal.τ).loc Cert.ResReferenceIdeal.main_arg2) = m ((c.tc : Thread Cert.ResKernelIdeal.nD Cert.ResKernelIdeal.τ).loc Cert.ResKernelIdeal.main_arg2)) →
    ∃ (v0 : (c : Dev Cert.ResKernelIdeal.nD) → Buf (Elt Ideal) ((c.tc : Thread Cert.ResKernelIdeal.nD Cert.ResKernelIdeal.τ).loc Cert.ResKernelIdeal.main_v0)),
      θ_run (Cert.ResKernelIdeal.defs (F := Ideal)) (onTc (τ := Cert.ResKernelIdeal.τ) (Cert.ResKernelIdeal.main (F := Ideal))) ⟨m, fun _ => 0, g⟩ (fun r => ∀ c : Dev Cert.ResKernelIdeal.nD,
          r.2.mem ((c.tc : Thread Cert.ResKernelIdeal.nD Cert.ResKernelIdeal.τ).loc Cert.ResKernelIdeal.main_v0) = v0 c
          ∧ r.2.mem ((c.tc : Thread Cert.ResKernelIdeal.nD Cert.ResKernelIdeal.τ).loc Cert.ResKernelIdeal.main_arg0) = m ((c.tc : Thread Cert.ResKernelIdeal.nD Cert.ResKernelIdeal.τ).loc Cert.ResKernelIdeal.main_arg0)
          ∧ r.2.mem ((c.tc : Thread Cert.ResKernelIdeal.nD Cert.ResKernelIdeal.τ).loc Cert.ResKernelIdeal.main_arg1) = m ((c.tc : Thread Cert.ResKernelIdeal.nD Cert.ResKernelIdeal.τ).loc Cert.ResKernelIdeal.main_arg1)
          ∧ r.2.mem ((c.tc : Thread Cert.ResKernelIdeal.nD Cert.ResKernelIdeal.τ).loc Cert.ResKernelIdeal.main_arg2) = m ((c.tc : Thread Cert.ResKernelIdeal.nD Cert.ResKernelIdeal.τ).loc Cert.ResKernelIdeal.main_arg2))
      ∧ θ_run (Cert.ResReferenceIdeal.defs (F := Ideal)) (onTc (τ := Cert.ResReferenceIdeal.τ) (Cert.ResReferenceIdeal.main (F := Ideal))) ⟨m', fun _ => 0, g'⟩ (fun r => ∀ c : Dev Cert.ResReferenceIdeal.nD,
          r.2.mem ((c.tc : Thread Cert.ResReferenceIdeal.nD Cert.ResReferenceIdeal.τ).loc Cert.ResReferenceIdeal.main_v2) = v0 c
          ∧ r.2.mem ((c.tc : Thread Cert.ResReferenceIdeal.nD Cert.ResReferenceIdeal.τ).loc Cert.ResReferenceIdeal.main_arg0) = m' ((c.tc : Thread Cert.ResReferenceIdeal.nD Cert.ResReferenceIdeal.τ).loc Cert.ResReferenceIdeal.main_arg0)
          ∧ r.2.mem ((c.tc : Thread Cert.ResReferenceIdeal.nD Cert.ResReferenceIdeal.τ).loc Cert.ResReferenceIdeal.main_arg1) = m' ((c.tc : Thread Cert.ResReferenceIdeal.nD Cert.ResReferenceIdeal.τ).loc Cert.ResReferenceIdeal.main_arg1)
          ∧ r.2.mem ((c.tc : Thread Cert.ResReferenceIdeal.nD Cert.ResReferenceIdeal.τ).loc Cert.ResReferenceIdeal.main_arg2) = m' ((c.tc : Thread Cert.ResReferenceIdeal.nD Cert.ResReferenceIdeal.τ).loc Cert.ResReferenceIdeal.main_arg2))

def preserves_AdamAdaKernel_AdamAdaKernelIdeal : Prop :=
  True

def algebraic_AdamAdaKernelIdeal_AdamAdaReferenceIdeal [hAdamAdaKernelIdeal : Cert.AdamAdaKernelIdeal.Facts] [hAdamAdaReferenceIdeal : Cert.AdamAdaReferenceIdeal.Facts] : Prop :=
  ∀ (m : (ℓ : Loc Cert.AdamAdaKernelIdeal.nD Cert.AdamAdaKernelIdeal.τ Cert.AdamAdaKernelIdeal.sig) → Buf (Elt Ideal) ℓ) (g : Dev Cert.AdamAdaKernelIdeal.nD → PrngReg)
    (m' : (ℓ : Loc Cert.AdamAdaReferenceIdeal.nD Cert.AdamAdaReferenceIdeal.τ Cert.AdamAdaReferenceIdeal.sig) → Buf (Elt Ideal) ℓ) (g' : Dev Cert.AdamAdaReferenceIdeal.nD → PrngReg), Pre_AdamAdaKernelIdeal m →
    (∀ c : Dev Cert.AdamAdaKernelIdeal.nD,
      m' ((c.tc : Thread Cert.AdamAdaReferenceIdeal.nD Cert.AdamAdaReferenceIdeal.τ).loc Cert.AdamAdaReferenceIdeal.main_arg0) = m ((c.tc : Thread Cert.AdamAdaKernelIdeal.nD Cert.AdamAdaKernelIdeal.τ).loc Cert.AdamAdaKernelIdeal.main_arg0)
      ∧ m' ((c.tc : Thread Cert.AdamAdaReferenceIdeal.nD Cert.AdamAdaReferenceIdeal.τ).loc Cert.AdamAdaReferenceIdeal.main_arg1) = m ((c.tc : Thread Cert.AdamAdaKernelIdeal.nD Cert.AdamAdaKernelIdeal.τ).loc Cert.AdamAdaKernelIdeal.main_arg1)
      ∧ m' ((c.tc : Thread Cert.AdamAdaReferenceIdeal.nD Cert.AdamAdaReferenceIdeal.τ).loc Cert.AdamAdaReferenceIdeal.main_arg2) = m ((c.tc : Thread Cert.AdamAdaKernelIdeal.nD Cert.AdamAdaKernelIdeal.τ).loc Cert.AdamAdaKernelIdeal.main_arg2)
      ∧ m' ((c.tc : Thread Cert.AdamAdaReferenceIdeal.nD Cert.AdamAdaReferenceIdeal.τ).loc Cert.AdamAdaReferenceIdeal.main_arg3) = m ((c.tc : Thread Cert.AdamAdaKernelIdeal.nD Cert.AdamAdaKernelIdeal.τ).loc Cert.AdamAdaKernelIdeal.main_arg3)) →
    ∃ (v0 : (c : Dev Cert.AdamAdaKernelIdeal.nD) → Buf (Elt Ideal) ((c.tc : Thread Cert.AdamAdaKernelIdeal.nD Cert.AdamAdaKernelIdeal.τ).loc Cert.AdamAdaKernelIdeal.main_v0_0)) (v1 : (c : Dev Cert.AdamAdaKernelIdeal.nD) → Buf (Elt Ideal) ((c.tc : Thread Cert.AdamAdaKernelIdeal.nD Cert.AdamAdaKernelIdeal.τ).loc Cert.AdamAdaKernelIdeal.main_v0_1)) (v2 : (c : Dev Cert.AdamAdaKernelIdeal.nD) → Buf (Elt Ideal) ((c.tc : Thread Cert.AdamAdaKernelIdeal.nD Cert.AdamAdaKernelIdeal.τ).loc Cert.AdamAdaKernelIdeal.main_v0_2)) (v3 : (c : Dev Cert.AdamAdaKernelIdeal.nD) → Buf (Elt Ideal) ((c.tc : Thread Cert.AdamAdaKernelIdeal.nD Cert.AdamAdaKernelIdeal.τ).loc Cert.AdamAdaKernelIdeal.main_v0_3)),
      θ_run (Cert.AdamAdaKernelIdeal.defs (F := Ideal)) (onTc (τ := Cert.AdamAdaKernelIdeal.τ) (Cert.AdamAdaKernelIdeal.main (F := Ideal))) ⟨m, fun _ => 0, g⟩ (fun r => ∀ c : Dev Cert.AdamAdaKernelIdeal.nD,
          r.2.mem ((c.tc : Thread Cert.AdamAdaKernelIdeal.nD Cert.AdamAdaKernelIdeal.τ).loc Cert.AdamAdaKernelIdeal.main_v0_0) = v0 c
          ∧ r.2.mem ((c.tc : Thread Cert.AdamAdaKernelIdeal.nD Cert.AdamAdaKernelIdeal.τ).loc Cert.AdamAdaKernelIdeal.main_v0_1) = v1 c
          ∧ r.2.mem ((c.tc : Thread Cert.AdamAdaKernelIdeal.nD Cert.AdamAdaKernelIdeal.τ).loc Cert.AdamAdaKernelIdeal.main_v0_2) = v2 c
          ∧ r.2.mem ((c.tc : Thread Cert.AdamAdaKernelIdeal.nD Cert.AdamAdaKernelIdeal.τ).loc Cert.AdamAdaKernelIdeal.main_v0_3) = v3 c
          ∧ r.2.mem ((c.tc : Thread Cert.AdamAdaKernelIdeal.nD Cert.AdamAdaKernelIdeal.τ).loc Cert.AdamAdaKernelIdeal.main_arg0) = m ((c.tc : Thread Cert.AdamAdaKernelIdeal.nD Cert.AdamAdaKernelIdeal.τ).loc Cert.AdamAdaKernelIdeal.main_arg0)
          ∧ r.2.mem ((c.tc : Thread Cert.AdamAdaKernelIdeal.nD Cert.AdamAdaKernelIdeal.τ).loc Cert.AdamAdaKernelIdeal.main_arg1) = m ((c.tc : Thread Cert.AdamAdaKernelIdeal.nD Cert.AdamAdaKernelIdeal.τ).loc Cert.AdamAdaKernelIdeal.main_arg1)
          ∧ r.2.mem ((c.tc : Thread Cert.AdamAdaKernelIdeal.nD Cert.AdamAdaKernelIdeal.τ).loc Cert.AdamAdaKernelIdeal.main_arg2) = m ((c.tc : Thread Cert.AdamAdaKernelIdeal.nD Cert.AdamAdaKernelIdeal.τ).loc Cert.AdamAdaKernelIdeal.main_arg2)
          ∧ r.2.mem ((c.tc : Thread Cert.AdamAdaKernelIdeal.nD Cert.AdamAdaKernelIdeal.τ).loc Cert.AdamAdaKernelIdeal.main_arg3) = m ((c.tc : Thread Cert.AdamAdaKernelIdeal.nD Cert.AdamAdaKernelIdeal.τ).loc Cert.AdamAdaKernelIdeal.main_arg3))
      ∧ θ_run (Cert.AdamAdaReferenceIdeal.defs (F := Ideal)) (onTc (τ := Cert.AdamAdaReferenceIdeal.τ) (Cert.AdamAdaReferenceIdeal.main (F := Ideal))) ⟨m', fun _ => 0, g'⟩ (fun r => ∀ c : Dev Cert.AdamAdaReferenceIdeal.nD,
          r.2.mem ((c.tc : Thread Cert.AdamAdaReferenceIdeal.nD Cert.AdamAdaReferenceIdeal.τ).loc Cert.AdamAdaReferenceIdeal.main_v0) = v0 c
          ∧ r.2.mem ((c.tc : Thread Cert.AdamAdaReferenceIdeal.nD Cert.AdamAdaReferenceIdeal.τ).loc Cert.AdamAdaReferenceIdeal.main_v24) = v1 c
          ∧ r.2.mem ((c.tc : Thread Cert.AdamAdaReferenceIdeal.nD Cert.AdamAdaReferenceIdeal.τ).loc Cert.AdamAdaReferenceIdeal.main_v5) = v2 c
          ∧ r.2.mem ((c.tc : Thread Cert.AdamAdaReferenceIdeal.nD Cert.AdamAdaReferenceIdeal.τ).loc Cert.AdamAdaReferenceIdeal.main_v11) = v3 c
          ∧ r.2.mem ((c.tc : Thread Cert.AdamAdaReferenceIdeal.nD Cert.AdamAdaReferenceIdeal.τ).loc Cert.AdamAdaReferenceIdeal.main_arg0) = m' ((c.tc : Thread Cert.AdamAdaReferenceIdeal.nD Cert.AdamAdaReferenceIdeal.τ).loc Cert.AdamAdaReferenceIdeal.main_arg0)
          ∧ r.2.mem ((c.tc : Thread Cert.AdamAdaReferenceIdeal.nD Cert.AdamAdaReferenceIdeal.τ).loc Cert.AdamAdaReferenceIdeal.main_arg1) = m' ((c.tc : Thread Cert.AdamAdaReferenceIdeal.nD Cert.AdamAdaReferenceIdeal.τ).loc Cert.AdamAdaReferenceIdeal.main_arg1)
          ∧ r.2.mem ((c.tc : Thread Cert.AdamAdaReferenceIdeal.nD Cert.AdamAdaReferenceIdeal.τ).loc Cert.AdamAdaReferenceIdeal.main_arg2) = m' ((c.tc : Thread Cert.AdamAdaReferenceIdeal.nD Cert.AdamAdaReferenceIdeal.τ).loc Cert.AdamAdaReferenceIdeal.main_arg2)
          ∧ r.2.mem ((c.tc : Thread Cert.AdamAdaReferenceIdeal.nD Cert.AdamAdaReferenceIdeal.τ).loc Cert.AdamAdaReferenceIdeal.main_arg3) = m' ((c.tc : Thread Cert.AdamAdaReferenceIdeal.nD Cert.AdamAdaReferenceIdeal.τ).loc Cert.AdamAdaReferenceIdeal.main_arg3))

def preserves_AdamUpKernel_AdamUpKernelIdeal : Prop :=
  True

def algebraic_AdamUpKernelIdeal_AdamUpReferenceIdeal [hAdamUpKernelIdeal : Cert.AdamUpKernelIdeal.Facts] [hAdamUpReferenceIdeal : Cert.AdamUpReferenceIdeal.Facts] : Prop :=
  ∀ (m : (ℓ : Loc Cert.AdamUpKernelIdeal.nD Cert.AdamUpKernelIdeal.τ Cert.AdamUpKernelIdeal.sig) → Buf (Elt Ideal) ℓ) (g : Dev Cert.AdamUpKernelIdeal.nD → PrngReg)
    (m' : (ℓ : Loc Cert.AdamUpReferenceIdeal.nD Cert.AdamUpReferenceIdeal.τ Cert.AdamUpReferenceIdeal.sig) → Buf (Elt Ideal) ℓ) (g' : Dev Cert.AdamUpReferenceIdeal.nD → PrngReg), Pre_AdamUpKernelIdeal m →
    (∀ c : Dev Cert.AdamUpKernelIdeal.nD,
      m' ((c.tc : Thread Cert.AdamUpReferenceIdeal.nD Cert.AdamUpReferenceIdeal.τ).loc Cert.AdamUpReferenceIdeal.main_arg0) = m ((c.tc : Thread Cert.AdamUpKernelIdeal.nD Cert.AdamUpKernelIdeal.τ).loc Cert.AdamUpKernelIdeal.main_arg0)
      ∧ m' ((c.tc : Thread Cert.AdamUpReferenceIdeal.nD Cert.AdamUpReferenceIdeal.τ).loc Cert.AdamUpReferenceIdeal.main_arg1) = m ((c.tc : Thread Cert.AdamUpKernelIdeal.nD Cert.AdamUpKernelIdeal.τ).loc Cert.AdamUpKernelIdeal.main_arg1)
      ∧ m' ((c.tc : Thread Cert.AdamUpReferenceIdeal.nD Cert.AdamUpReferenceIdeal.τ).loc Cert.AdamUpReferenceIdeal.main_arg2) = m ((c.tc : Thread Cert.AdamUpKernelIdeal.nD Cert.AdamUpKernelIdeal.τ).loc Cert.AdamUpKernelIdeal.main_arg2)
      ∧ m' ((c.tc : Thread Cert.AdamUpReferenceIdeal.nD Cert.AdamUpReferenceIdeal.τ).loc Cert.AdamUpReferenceIdeal.main_arg3) = m ((c.tc : Thread Cert.AdamUpKernelIdeal.nD Cert.AdamUpKernelIdeal.τ).loc Cert.AdamUpKernelIdeal.main_arg3)
      ∧ m' ((c.tc : Thread Cert.AdamUpReferenceIdeal.nD Cert.AdamUpReferenceIdeal.τ).loc Cert.AdamUpReferenceIdeal.main_arg4) = m ((c.tc : Thread Cert.AdamUpKernelIdeal.nD Cert.AdamUpKernelIdeal.τ).loc Cert.AdamUpKernelIdeal.main_arg4)) →
    ∃ (v0 : (c : Dev Cert.AdamUpKernelIdeal.nD) → Buf (Elt Ideal) ((c.tc : Thread Cert.AdamUpKernelIdeal.nD Cert.AdamUpKernelIdeal.τ).loc Cert.AdamUpKernelIdeal.main_v0_0)) (v1 : (c : Dev Cert.AdamUpKernelIdeal.nD) → Buf (Elt Ideal) ((c.tc : Thread Cert.AdamUpKernelIdeal.nD Cert.AdamUpKernelIdeal.τ).loc Cert.AdamUpKernelIdeal.main_v0_1)) (v2 : (c : Dev Cert.AdamUpKernelIdeal.nD) → Buf (Elt Ideal) ((c.tc : Thread Cert.AdamUpKernelIdeal.nD Cert.AdamUpKernelIdeal.τ).loc Cert.AdamUpKernelIdeal.main_v0_2)) (v3 : (c : Dev Cert.AdamUpKernelIdeal.nD) → Buf (Elt Ideal) ((c.tc : Thread Cert.AdamUpKernelIdeal.nD Cert.AdamUpKernelIdeal.τ).loc Cert.AdamUpKernelIdeal.main_v0_3)),
      θ_run (Cert.AdamUpKernelIdeal.defs (F := Ideal)) (onTc (τ := Cert.AdamUpKernelIdeal.τ) (Cert.AdamUpKernelIdeal.main (F := Ideal))) ⟨m, fun _ => 0, g⟩ (fun r => ∀ c : Dev Cert.AdamUpKernelIdeal.nD,
          r.2.mem ((c.tc : Thread Cert.AdamUpKernelIdeal.nD Cert.AdamUpKernelIdeal.τ).loc Cert.AdamUpKernelIdeal.main_v0_0) = v0 c
          ∧ r.2.mem ((c.tc : Thread Cert.AdamUpKernelIdeal.nD Cert.AdamUpKernelIdeal.τ).loc Cert.AdamUpKernelIdeal.main_v0_1) = v1 c
          ∧ r.2.mem ((c.tc : Thread Cert.AdamUpKernelIdeal.nD Cert.AdamUpKernelIdeal.τ).loc Cert.AdamUpKernelIdeal.main_v0_2) = v2 c
          ∧ r.2.mem ((c.tc : Thread Cert.AdamUpKernelIdeal.nD Cert.AdamUpKernelIdeal.τ).loc Cert.AdamUpKernelIdeal.main_v0_3) = v3 c
          ∧ r.2.mem ((c.tc : Thread Cert.AdamUpKernelIdeal.nD Cert.AdamUpKernelIdeal.τ).loc Cert.AdamUpKernelIdeal.main_arg0) = m ((c.tc : Thread Cert.AdamUpKernelIdeal.nD Cert.AdamUpKernelIdeal.τ).loc Cert.AdamUpKernelIdeal.main_arg0)
          ∧ r.2.mem ((c.tc : Thread Cert.AdamUpKernelIdeal.nD Cert.AdamUpKernelIdeal.τ).loc Cert.AdamUpKernelIdeal.main_arg1) = m ((c.tc : Thread Cert.AdamUpKernelIdeal.nD Cert.AdamUpKernelIdeal.τ).loc Cert.AdamUpKernelIdeal.main_arg1)
          ∧ r.2.mem ((c.tc : Thread Cert.AdamUpKernelIdeal.nD Cert.AdamUpKernelIdeal.τ).loc Cert.AdamUpKernelIdeal.main_arg2) = m ((c.tc : Thread Cert.AdamUpKernelIdeal.nD Cert.AdamUpKernelIdeal.τ).loc Cert.AdamUpKernelIdeal.main_arg2)
          ∧ r.2.mem ((c.tc : Thread Cert.AdamUpKernelIdeal.nD Cert.AdamUpKernelIdeal.τ).loc Cert.AdamUpKernelIdeal.main_arg3) = m ((c.tc : Thread Cert.AdamUpKernelIdeal.nD Cert.AdamUpKernelIdeal.τ).loc Cert.AdamUpKernelIdeal.main_arg3)
          ∧ r.2.mem ((c.tc : Thread Cert.AdamUpKernelIdeal.nD Cert.AdamUpKernelIdeal.τ).loc Cert.AdamUpKernelIdeal.main_arg4) = m ((c.tc : Thread Cert.AdamUpKernelIdeal.nD Cert.AdamUpKernelIdeal.τ).loc Cert.AdamUpKernelIdeal.main_arg4))
      ∧ θ_run (Cert.AdamUpReferenceIdeal.defs (F := Ideal)) (onTc (τ := Cert.AdamUpReferenceIdeal.τ) (Cert.AdamUpReferenceIdeal.main (F := Ideal))) ⟨m', fun _ => 0, g'⟩ (fun r => ∀ c : Dev Cert.AdamUpReferenceIdeal.nD,
          r.2.mem ((c.tc : Thread Cert.AdamUpReferenceIdeal.nD Cert.AdamUpReferenceIdeal.τ).loc Cert.AdamUpReferenceIdeal.main_v6) = v0 c
          ∧ r.2.mem ((c.tc : Thread Cert.AdamUpReferenceIdeal.nD Cert.AdamUpReferenceIdeal.τ).loc Cert.AdamUpReferenceIdeal.main_v30) = v1 c
          ∧ r.2.mem ((c.tc : Thread Cert.AdamUpReferenceIdeal.nD Cert.AdamUpReferenceIdeal.τ).loc Cert.AdamUpReferenceIdeal.main_v11) = v2 c
          ∧ r.2.mem ((c.tc : Thread Cert.AdamUpReferenceIdeal.nD Cert.AdamUpReferenceIdeal.τ).loc Cert.AdamUpReferenceIdeal.main_v17) = v3 c
          ∧ r.2.mem ((c.tc : Thread Cert.AdamUpReferenceIdeal.nD Cert.AdamUpReferenceIdeal.τ).loc Cert.AdamUpReferenceIdeal.main_arg0) = m' ((c.tc : Thread Cert.AdamUpReferenceIdeal.nD Cert.AdamUpReferenceIdeal.τ).loc Cert.AdamUpReferenceIdeal.main_arg0)
          ∧ r.2.mem ((c.tc : Thread Cert.AdamUpReferenceIdeal.nD Cert.AdamUpReferenceIdeal.τ).loc Cert.AdamUpReferenceIdeal.main_arg1) = m' ((c.tc : Thread Cert.AdamUpReferenceIdeal.nD Cert.AdamUpReferenceIdeal.τ).loc Cert.AdamUpReferenceIdeal.main_arg1)
          ∧ r.2.mem ((c.tc : Thread Cert.AdamUpReferenceIdeal.nD Cert.AdamUpReferenceIdeal.τ).loc Cert.AdamUpReferenceIdeal.main_arg2) = m' ((c.tc : Thread Cert.AdamUpReferenceIdeal.nD Cert.AdamUpReferenceIdeal.τ).loc Cert.AdamUpReferenceIdeal.main_arg2)
          ∧ r.2.mem ((c.tc : Thread Cert.AdamUpReferenceIdeal.nD Cert.AdamUpReferenceIdeal.τ).loc Cert.AdamUpReferenceIdeal.main_arg3) = m' ((c.tc : Thread Cert.AdamUpReferenceIdeal.nD Cert.AdamUpReferenceIdeal.τ).loc Cert.AdamUpReferenceIdeal.main_arg3)
          ∧ r.2.mem ((c.tc : Thread Cert.AdamUpReferenceIdeal.nD Cert.AdamUpReferenceIdeal.τ).loc Cert.AdamUpReferenceIdeal.main_arg4) = m' ((c.tc : Thread Cert.AdamUpReferenceIdeal.nD Cert.AdamUpReferenceIdeal.τ).loc Cert.AdamUpReferenceIdeal.main_arg4))

def preserves_AdamDownKernel_AdamDownKernelIdeal : Prop :=
  True

def algebraic_AdamDownKernelIdeal_AdamDownReferenceIdeal [hAdamDownKernelIdeal : Cert.AdamDownKernelIdeal.Facts] [hAdamDownReferenceIdeal : Cert.AdamDownReferenceIdeal.Facts] : Prop :=
  ∀ (m : (ℓ : Loc Cert.AdamDownKernelIdeal.nD Cert.AdamDownKernelIdeal.τ Cert.AdamDownKernelIdeal.sig) → Buf (Elt Ideal) ℓ) (g : Dev Cert.AdamDownKernelIdeal.nD → PrngReg)
    (m' : (ℓ : Loc Cert.AdamDownReferenceIdeal.nD Cert.AdamDownReferenceIdeal.τ Cert.AdamDownReferenceIdeal.sig) → Buf (Elt Ideal) ℓ) (g' : Dev Cert.AdamDownReferenceIdeal.nD → PrngReg), Pre_AdamDownKernelIdeal m →
    (∀ c : Dev Cert.AdamDownKernelIdeal.nD,
      m' ((c.tc : Thread Cert.AdamDownReferenceIdeal.nD Cert.AdamDownReferenceIdeal.τ).loc Cert.AdamDownReferenceIdeal.main_arg0) = m ((c.tc : Thread Cert.AdamDownKernelIdeal.nD Cert.AdamDownKernelIdeal.τ).loc Cert.AdamDownKernelIdeal.main_arg0)
      ∧ m' ((c.tc : Thread Cert.AdamDownReferenceIdeal.nD Cert.AdamDownReferenceIdeal.τ).loc Cert.AdamDownReferenceIdeal.main_arg1) = m ((c.tc : Thread Cert.AdamDownKernelIdeal.nD Cert.AdamDownKernelIdeal.τ).loc Cert.AdamDownKernelIdeal.main_arg1)
      ∧ m' ((c.tc : Thread Cert.AdamDownReferenceIdeal.nD Cert.AdamDownReferenceIdeal.τ).loc Cert.AdamDownReferenceIdeal.main_arg2) = m ((c.tc : Thread Cert.AdamDownKernelIdeal.nD Cert.AdamDownKernelIdeal.τ).loc Cert.AdamDownKernelIdeal.main_arg2)
      ∧ m' ((c.tc : Thread Cert.AdamDownReferenceIdeal.nD Cert.AdamDownReferenceIdeal.τ).loc Cert.AdamDownReferenceIdeal.main_arg3) = m ((c.tc : Thread Cert.AdamDownKernelIdeal.nD Cert.AdamDownKernelIdeal.τ).loc Cert.AdamDownKernelIdeal.main_arg3)
      ∧ m' ((c.tc : Thread Cert.AdamDownReferenceIdeal.nD Cert.AdamDownReferenceIdeal.τ).loc Cert.AdamDownReferenceIdeal.main_arg4) = m ((c.tc : Thread Cert.AdamDownKernelIdeal.nD Cert.AdamDownKernelIdeal.τ).loc Cert.AdamDownKernelIdeal.main_arg4)) →
    ∃ (v0 : (c : Dev Cert.AdamDownKernelIdeal.nD) → Buf (Elt Ideal) ((c.tc : Thread Cert.AdamDownKernelIdeal.nD Cert.AdamDownKernelIdeal.τ).loc Cert.AdamDownKernelIdeal.main_v0_0)) (v1 : (c : Dev Cert.AdamDownKernelIdeal.nD) → Buf (Elt Ideal) ((c.tc : Thread Cert.AdamDownKernelIdeal.nD Cert.AdamDownKernelIdeal.τ).loc Cert.AdamDownKernelIdeal.main_v0_1)) (v2 : (c : Dev Cert.AdamDownKernelIdeal.nD) → Buf (Elt Ideal) ((c.tc : Thread Cert.AdamDownKernelIdeal.nD Cert.AdamDownKernelIdeal.τ).loc Cert.AdamDownKernelIdeal.main_v0_2)) (v3 : (c : Dev Cert.AdamDownKernelIdeal.nD) → Buf (Elt Ideal) ((c.tc : Thread Cert.AdamDownKernelIdeal.nD Cert.AdamDownKernelIdeal.τ).loc Cert.AdamDownKernelIdeal.main_v0_3)),
      θ_run (Cert.AdamDownKernelIdeal.defs (F := Ideal)) (onTc (τ := Cert.AdamDownKernelIdeal.τ) (Cert.AdamDownKernelIdeal.main (F := Ideal))) ⟨m, fun _ => 0, g⟩ (fun r => ∀ c : Dev Cert.AdamDownKernelIdeal.nD,
          r.2.mem ((c.tc : Thread Cert.AdamDownKernelIdeal.nD Cert.AdamDownKernelIdeal.τ).loc Cert.AdamDownKernelIdeal.main_v0_0) = v0 c
          ∧ r.2.mem ((c.tc : Thread Cert.AdamDownKernelIdeal.nD Cert.AdamDownKernelIdeal.τ).loc Cert.AdamDownKernelIdeal.main_v0_1) = v1 c
          ∧ r.2.mem ((c.tc : Thread Cert.AdamDownKernelIdeal.nD Cert.AdamDownKernelIdeal.τ).loc Cert.AdamDownKernelIdeal.main_v0_2) = v2 c
          ∧ r.2.mem ((c.tc : Thread Cert.AdamDownKernelIdeal.nD Cert.AdamDownKernelIdeal.τ).loc Cert.AdamDownKernelIdeal.main_v0_3) = v3 c
          ∧ r.2.mem ((c.tc : Thread Cert.AdamDownKernelIdeal.nD Cert.AdamDownKernelIdeal.τ).loc Cert.AdamDownKernelIdeal.main_arg0) = m ((c.tc : Thread Cert.AdamDownKernelIdeal.nD Cert.AdamDownKernelIdeal.τ).loc Cert.AdamDownKernelIdeal.main_arg0)
          ∧ r.2.mem ((c.tc : Thread Cert.AdamDownKernelIdeal.nD Cert.AdamDownKernelIdeal.τ).loc Cert.AdamDownKernelIdeal.main_arg1) = m ((c.tc : Thread Cert.AdamDownKernelIdeal.nD Cert.AdamDownKernelIdeal.τ).loc Cert.AdamDownKernelIdeal.main_arg1)
          ∧ r.2.mem ((c.tc : Thread Cert.AdamDownKernelIdeal.nD Cert.AdamDownKernelIdeal.τ).loc Cert.AdamDownKernelIdeal.main_arg2) = m ((c.tc : Thread Cert.AdamDownKernelIdeal.nD Cert.AdamDownKernelIdeal.τ).loc Cert.AdamDownKernelIdeal.main_arg2)
          ∧ r.2.mem ((c.tc : Thread Cert.AdamDownKernelIdeal.nD Cert.AdamDownKernelIdeal.τ).loc Cert.AdamDownKernelIdeal.main_arg3) = m ((c.tc : Thread Cert.AdamDownKernelIdeal.nD Cert.AdamDownKernelIdeal.τ).loc Cert.AdamDownKernelIdeal.main_arg3)
          ∧ r.2.mem ((c.tc : Thread Cert.AdamDownKernelIdeal.nD Cert.AdamDownKernelIdeal.τ).loc Cert.AdamDownKernelIdeal.main_arg4) = m ((c.tc : Thread Cert.AdamDownKernelIdeal.nD Cert.AdamDownKernelIdeal.τ).loc Cert.AdamDownKernelIdeal.main_arg4))
      ∧ θ_run (Cert.AdamDownReferenceIdeal.defs (F := Ideal)) (onTc (τ := Cert.AdamDownReferenceIdeal.τ) (Cert.AdamDownReferenceIdeal.main (F := Ideal))) ⟨m', fun _ => 0, g'⟩ (fun r => ∀ c : Dev Cert.AdamDownReferenceIdeal.nD,
          r.2.mem ((c.tc : Thread Cert.AdamDownReferenceIdeal.nD Cert.AdamDownReferenceIdeal.τ).loc Cert.AdamDownReferenceIdeal.main_v6) = v0 c
          ∧ r.2.mem ((c.tc : Thread Cert.AdamDownReferenceIdeal.nD Cert.AdamDownReferenceIdeal.τ).loc Cert.AdamDownReferenceIdeal.main_v30) = v1 c
          ∧ r.2.mem ((c.tc : Thread Cert.AdamDownReferenceIdeal.nD Cert.AdamDownReferenceIdeal.τ).loc Cert.AdamDownReferenceIdeal.main_v11) = v2 c
          ∧ r.2.mem ((c.tc : Thread Cert.AdamDownReferenceIdeal.nD Cert.AdamDownReferenceIdeal.τ).loc Cert.AdamDownReferenceIdeal.main_v17) = v3 c
          ∧ r.2.mem ((c.tc : Thread Cert.AdamDownReferenceIdeal.nD Cert.AdamDownReferenceIdeal.τ).loc Cert.AdamDownReferenceIdeal.main_arg0) = m' ((c.tc : Thread Cert.AdamDownReferenceIdeal.nD Cert.AdamDownReferenceIdeal.τ).loc Cert.AdamDownReferenceIdeal.main_arg0)
          ∧ r.2.mem ((c.tc : Thread Cert.AdamDownReferenceIdeal.nD Cert.AdamDownReferenceIdeal.τ).loc Cert.AdamDownReferenceIdeal.main_arg1) = m' ((c.tc : Thread Cert.AdamDownReferenceIdeal.nD Cert.AdamDownReferenceIdeal.τ).loc Cert.AdamDownReferenceIdeal.main_arg1)
          ∧ r.2.mem ((c.tc : Thread Cert.AdamDownReferenceIdeal.nD Cert.AdamDownReferenceIdeal.τ).loc Cert.AdamDownReferenceIdeal.main_arg2) = m' ((c.tc : Thread Cert.AdamDownReferenceIdeal.nD Cert.AdamDownReferenceIdeal.τ).loc Cert.AdamDownReferenceIdeal.main_arg2)
          ∧ r.2.mem ((c.tc : Thread Cert.AdamDownReferenceIdeal.nD Cert.AdamDownReferenceIdeal.τ).loc Cert.AdamDownReferenceIdeal.main_arg3) = m' ((c.tc : Thread Cert.AdamDownReferenceIdeal.nD Cert.AdamDownReferenceIdeal.τ).loc Cert.AdamDownReferenceIdeal.main_arg3)
          ∧ r.2.mem ((c.tc : Thread Cert.AdamDownReferenceIdeal.nD Cert.AdamDownReferenceIdeal.τ).loc Cert.AdamDownReferenceIdeal.main_arg4) = m' ((c.tc : Thread Cert.AdamDownReferenceIdeal.nD Cert.AdamDownReferenceIdeal.τ).loc Cert.AdamDownReferenceIdeal.main_arg4))

def preserves_AdamInKernel_AdamInKernelIdeal : Prop :=
  True

def algebraic_AdamInKernelIdeal_AdamInReferenceIdeal [hAdamInKernelIdeal : Cert.AdamInKernelIdeal.Facts] [hAdamInReferenceIdeal : Cert.AdamInReferenceIdeal.Facts] : Prop :=
  ∀ (m : (ℓ : Loc Cert.AdamInKernelIdeal.nD Cert.AdamInKernelIdeal.τ Cert.AdamInKernelIdeal.sig) → Buf (Elt Ideal) ℓ) (g : Dev Cert.AdamInKernelIdeal.nD → PrngReg)
    (m' : (ℓ : Loc Cert.AdamInReferenceIdeal.nD Cert.AdamInReferenceIdeal.τ Cert.AdamInReferenceIdeal.sig) → Buf (Elt Ideal) ℓ) (g' : Dev Cert.AdamInReferenceIdeal.nD → PrngReg), Pre_AdamInKernelIdeal m →
    (∀ c : Dev Cert.AdamInKernelIdeal.nD,
      m' ((c.tc : Thread Cert.AdamInReferenceIdeal.nD Cert.AdamInReferenceIdeal.τ).loc Cert.AdamInReferenceIdeal.main_arg0) = m ((c.tc : Thread Cert.AdamInKernelIdeal.nD Cert.AdamInKernelIdeal.τ).loc Cert.AdamInKernelIdeal.main_arg0)
      ∧ m' ((c.tc : Thread Cert.AdamInReferenceIdeal.nD Cert.AdamInReferenceIdeal.τ).loc Cert.AdamInReferenceIdeal.main_arg1) = m ((c.tc : Thread Cert.AdamInKernelIdeal.nD Cert.AdamInKernelIdeal.τ).loc Cert.AdamInKernelIdeal.main_arg1)
      ∧ m' ((c.tc : Thread Cert.AdamInReferenceIdeal.nD Cert.AdamInReferenceIdeal.τ).loc Cert.AdamInReferenceIdeal.main_arg2) = m ((c.tc : Thread Cert.AdamInKernelIdeal.nD Cert.AdamInKernelIdeal.τ).loc Cert.AdamInKernelIdeal.main_arg2)
      ∧ m' ((c.tc : Thread Cert.AdamInReferenceIdeal.nD Cert.AdamInReferenceIdeal.τ).loc Cert.AdamInReferenceIdeal.main_arg3) = m ((c.tc : Thread Cert.AdamInKernelIdeal.nD Cert.AdamInKernelIdeal.τ).loc Cert.AdamInKernelIdeal.main_arg3)
      ∧ m' ((c.tc : Thread Cert.AdamInReferenceIdeal.nD Cert.AdamInReferenceIdeal.τ).loc Cert.AdamInReferenceIdeal.main_arg4) = m ((c.tc : Thread Cert.AdamInKernelIdeal.nD Cert.AdamInKernelIdeal.τ).loc Cert.AdamInKernelIdeal.main_arg4)) →
    ∃ (v0 : (c : Dev Cert.AdamInKernelIdeal.nD) → Buf (Elt Ideal) ((c.tc : Thread Cert.AdamInKernelIdeal.nD Cert.AdamInKernelIdeal.τ).loc Cert.AdamInKernelIdeal.main_v0_0)) (v1 : (c : Dev Cert.AdamInKernelIdeal.nD) → Buf (Elt Ideal) ((c.tc : Thread Cert.AdamInKernelIdeal.nD Cert.AdamInKernelIdeal.τ).loc Cert.AdamInKernelIdeal.main_v0_1)) (v2 : (c : Dev Cert.AdamInKernelIdeal.nD) → Buf (Elt Ideal) ((c.tc : Thread Cert.AdamInKernelIdeal.nD Cert.AdamInKernelIdeal.τ).loc Cert.AdamInKernelIdeal.main_v0_2)) (v3 : (c : Dev Cert.AdamInKernelIdeal.nD) → Buf (Elt Ideal) ((c.tc : Thread Cert.AdamInKernelIdeal.nD Cert.AdamInKernelIdeal.τ).loc Cert.AdamInKernelIdeal.main_v0_3)),
      θ_run (Cert.AdamInKernelIdeal.defs (F := Ideal)) (onTc (τ := Cert.AdamInKernelIdeal.τ) (Cert.AdamInKernelIdeal.main (F := Ideal))) ⟨m, fun _ => 0, g⟩ (fun r => ∀ c : Dev Cert.AdamInKernelIdeal.nD,
          r.2.mem ((c.tc : Thread Cert.AdamInKernelIdeal.nD Cert.AdamInKernelIdeal.τ).loc Cert.AdamInKernelIdeal.main_v0_0) = v0 c
          ∧ r.2.mem ((c.tc : Thread Cert.AdamInKernelIdeal.nD Cert.AdamInKernelIdeal.τ).loc Cert.AdamInKernelIdeal.main_v0_1) = v1 c
          ∧ r.2.mem ((c.tc : Thread Cert.AdamInKernelIdeal.nD Cert.AdamInKernelIdeal.τ).loc Cert.AdamInKernelIdeal.main_v0_2) = v2 c
          ∧ r.2.mem ((c.tc : Thread Cert.AdamInKernelIdeal.nD Cert.AdamInKernelIdeal.τ).loc Cert.AdamInKernelIdeal.main_v0_3) = v3 c
          ∧ r.2.mem ((c.tc : Thread Cert.AdamInKernelIdeal.nD Cert.AdamInKernelIdeal.τ).loc Cert.AdamInKernelIdeal.main_arg0) = m ((c.tc : Thread Cert.AdamInKernelIdeal.nD Cert.AdamInKernelIdeal.τ).loc Cert.AdamInKernelIdeal.main_arg0)
          ∧ r.2.mem ((c.tc : Thread Cert.AdamInKernelIdeal.nD Cert.AdamInKernelIdeal.τ).loc Cert.AdamInKernelIdeal.main_arg1) = m ((c.tc : Thread Cert.AdamInKernelIdeal.nD Cert.AdamInKernelIdeal.τ).loc Cert.AdamInKernelIdeal.main_arg1)
          ∧ r.2.mem ((c.tc : Thread Cert.AdamInKernelIdeal.nD Cert.AdamInKernelIdeal.τ).loc Cert.AdamInKernelIdeal.main_arg2) = m ((c.tc : Thread Cert.AdamInKernelIdeal.nD Cert.AdamInKernelIdeal.τ).loc Cert.AdamInKernelIdeal.main_arg2)
          ∧ r.2.mem ((c.tc : Thread Cert.AdamInKernelIdeal.nD Cert.AdamInKernelIdeal.τ).loc Cert.AdamInKernelIdeal.main_arg3) = m ((c.tc : Thread Cert.AdamInKernelIdeal.nD Cert.AdamInKernelIdeal.τ).loc Cert.AdamInKernelIdeal.main_arg3)
          ∧ r.2.mem ((c.tc : Thread Cert.AdamInKernelIdeal.nD Cert.AdamInKernelIdeal.τ).loc Cert.AdamInKernelIdeal.main_arg4) = m ((c.tc : Thread Cert.AdamInKernelIdeal.nD Cert.AdamInKernelIdeal.τ).loc Cert.AdamInKernelIdeal.main_arg4))
      ∧ θ_run (Cert.AdamInReferenceIdeal.defs (F := Ideal)) (onTc (τ := Cert.AdamInReferenceIdeal.τ) (Cert.AdamInReferenceIdeal.main (F := Ideal))) ⟨m', fun _ => 0, g'⟩ (fun r => ∀ c : Dev Cert.AdamInReferenceIdeal.nD,
          r.2.mem ((c.tc : Thread Cert.AdamInReferenceIdeal.nD Cert.AdamInReferenceIdeal.τ).loc Cert.AdamInReferenceIdeal.main_v6) = v0 c
          ∧ r.2.mem ((c.tc : Thread Cert.AdamInReferenceIdeal.nD Cert.AdamInReferenceIdeal.τ).loc Cert.AdamInReferenceIdeal.main_v30) = v1 c
          ∧ r.2.mem ((c.tc : Thread Cert.AdamInReferenceIdeal.nD Cert.AdamInReferenceIdeal.τ).loc Cert.AdamInReferenceIdeal.main_v11) = v2 c
          ∧ r.2.mem ((c.tc : Thread Cert.AdamInReferenceIdeal.nD Cert.AdamInReferenceIdeal.τ).loc Cert.AdamInReferenceIdeal.main_v17) = v3 c
          ∧ r.2.mem ((c.tc : Thread Cert.AdamInReferenceIdeal.nD Cert.AdamInReferenceIdeal.τ).loc Cert.AdamInReferenceIdeal.main_arg0) = m' ((c.tc : Thread Cert.AdamInReferenceIdeal.nD Cert.AdamInReferenceIdeal.τ).loc Cert.AdamInReferenceIdeal.main_arg0)
          ∧ r.2.mem ((c.tc : Thread Cert.AdamInReferenceIdeal.nD Cert.AdamInReferenceIdeal.τ).loc Cert.AdamInReferenceIdeal.main_arg1) = m' ((c.tc : Thread Cert.AdamInReferenceIdeal.nD Cert.AdamInReferenceIdeal.τ).loc Cert.AdamInReferenceIdeal.main_arg1)
          ∧ r.2.mem ((c.tc : Thread Cert.AdamInReferenceIdeal.nD Cert.AdamInReferenceIdeal.τ).loc Cert.AdamInReferenceIdeal.main_arg2) = m' ((c.tc : Thread Cert.AdamInReferenceIdeal.nD Cert.AdamInReferenceIdeal.τ).loc Cert.AdamInReferenceIdeal.main_arg2)
          ∧ r.2.mem ((c.tc : Thread Cert.AdamInReferenceIdeal.nD Cert.AdamInReferenceIdeal.τ).loc Cert.AdamInReferenceIdeal.main_arg3) = m' ((c.tc : Thread Cert.AdamInReferenceIdeal.nD Cert.AdamInReferenceIdeal.τ).loc Cert.AdamInReferenceIdeal.main_arg3)
          ∧ r.2.mem ((c.tc : Thread Cert.AdamInReferenceIdeal.nD Cert.AdamInReferenceIdeal.τ).loc Cert.AdamInReferenceIdeal.main_arg4) = m' ((c.tc : Thread Cert.AdamInReferenceIdeal.nD Cert.AdamInReferenceIdeal.τ).loc Cert.AdamInReferenceIdeal.main_arg4))

def preserves_AdamBranchKernel_AdamBranchKernelIdeal : Prop :=
  True

def algebraic_AdamBranchKernelIdeal_AdamBranchReferenceIdeal [hAdamBranchKernelIdeal : Cert.AdamBranchKernelIdeal.Facts] [hAdamBranchReferenceIdeal : Cert.AdamBranchReferenceIdeal.Facts] : Prop :=
  ∀ (m : (ℓ : Loc Cert.AdamBranchKernelIdeal.nD Cert.AdamBranchKernelIdeal.τ Cert.AdamBranchKernelIdeal.sig) → Buf (Elt Ideal) ℓ) (g : Dev Cert.AdamBranchKernelIdeal.nD → PrngReg)
    (m' : (ℓ : Loc Cert.AdamBranchReferenceIdeal.nD Cert.AdamBranchReferenceIdeal.τ Cert.AdamBranchReferenceIdeal.sig) → Buf (Elt Ideal) ℓ) (g' : Dev Cert.AdamBranchReferenceIdeal.nD → PrngReg), Pre_AdamBranchKernelIdeal m →
    (∀ c : Dev Cert.AdamBranchKernelIdeal.nD,
      m' ((c.tc : Thread Cert.AdamBranchReferenceIdeal.nD Cert.AdamBranchReferenceIdeal.τ).loc Cert.AdamBranchReferenceIdeal.main_arg0) = m ((c.tc : Thread Cert.AdamBranchKernelIdeal.nD Cert.AdamBranchKernelIdeal.τ).loc Cert.AdamBranchKernelIdeal.main_arg0)
      ∧ m' ((c.tc : Thread Cert.AdamBranchReferenceIdeal.nD Cert.AdamBranchReferenceIdeal.τ).loc Cert.AdamBranchReferenceIdeal.main_arg1) = m ((c.tc : Thread Cert.AdamBranchKernelIdeal.nD Cert.AdamBranchKernelIdeal.τ).loc Cert.AdamBranchKernelIdeal.main_arg1)
      ∧ m' ((c.tc : Thread Cert.AdamBranchReferenceIdeal.nD Cert.AdamBranchReferenceIdeal.τ).loc Cert.AdamBranchReferenceIdeal.main_arg2) = m ((c.tc : Thread Cert.AdamBranchKernelIdeal.nD Cert.AdamBranchKernelIdeal.τ).loc Cert.AdamBranchKernelIdeal.main_arg2)
      ∧ m' ((c.tc : Thread Cert.AdamBranchReferenceIdeal.nD Cert.AdamBranchReferenceIdeal.τ).loc Cert.AdamBranchReferenceIdeal.main_arg3) = m ((c.tc : Thread Cert.AdamBranchKernelIdeal.nD Cert.AdamBranchKernelIdeal.τ).loc Cert.AdamBranchKernelIdeal.main_arg3)
      ∧ m' ((c.tc : Thread Cert.AdamBranchReferenceIdeal.nD Cert.AdamBranchReferenceIdeal.τ).loc Cert.AdamBranchReferenceIdeal.main_arg4) = m ((c.tc : Thread Cert.AdamBranchKernelIdeal.nD Cert.AdamBranchKernelIdeal.τ).loc Cert.AdamBranchKernelIdeal.main_arg4)) →
    ∃ (v0 : (c : Dev Cert.AdamBranchKernelIdeal.nD) → Buf (Elt Ideal) ((c.tc : Thread Cert.AdamBranchKernelIdeal.nD Cert.AdamBranchKernelIdeal.τ).loc Cert.AdamBranchKernelIdeal.main_v0_0)) (v1 : (c : Dev Cert.AdamBranchKernelIdeal.nD) → Buf (Elt Ideal) ((c.tc : Thread Cert.AdamBranchKernelIdeal.nD Cert.AdamBranchKernelIdeal.τ).loc Cert.AdamBranchKernelIdeal.main_v0_1)) (v2 : (c : Dev Cert.AdamBranchKernelIdeal.nD) → Buf (Elt Ideal) ((c.tc : Thread Cert.AdamBranchKernelIdeal.nD Cert.AdamBranchKernelIdeal.τ).loc Cert.AdamBranchKernelIdeal.main_v0_2)) (v3 : (c : Dev Cert.AdamBranchKernelIdeal.nD) → Buf (Elt Ideal) ((c.tc : Thread Cert.AdamBranchKernelIdeal.nD Cert.AdamBranchKernelIdeal.τ).loc Cert.AdamBranchKernelIdeal.main_v0_3)),
      θ_run (Cert.AdamBranchKernelIdeal.defs (F := Ideal)) (onTc (τ := Cert.AdamBranchKernelIdeal.τ) (Cert.AdamBranchKernelIdeal.main (F := Ideal))) ⟨m, fun _ => 0, g⟩ (fun r => ∀ c : Dev Cert.AdamBranchKernelIdeal.nD,
          r.2.mem ((c.tc : Thread Cert.AdamBranchKernelIdeal.nD Cert.AdamBranchKernelIdeal.τ).loc Cert.AdamBranchKernelIdeal.main_v0_0) = v0 c
          ∧ r.2.mem ((c.tc : Thread Cert.AdamBranchKernelIdeal.nD Cert.AdamBranchKernelIdeal.τ).loc Cert.AdamBranchKernelIdeal.main_v0_1) = v1 c
          ∧ r.2.mem ((c.tc : Thread Cert.AdamBranchKernelIdeal.nD Cert.AdamBranchKernelIdeal.τ).loc Cert.AdamBranchKernelIdeal.main_v0_2) = v2 c
          ∧ r.2.mem ((c.tc : Thread Cert.AdamBranchKernelIdeal.nD Cert.AdamBranchKernelIdeal.τ).loc Cert.AdamBranchKernelIdeal.main_v0_3) = v3 c
          ∧ r.2.mem ((c.tc : Thread Cert.AdamBranchKernelIdeal.nD Cert.AdamBranchKernelIdeal.τ).loc Cert.AdamBranchKernelIdeal.main_arg0) = m ((c.tc : Thread Cert.AdamBranchKernelIdeal.nD Cert.AdamBranchKernelIdeal.τ).loc Cert.AdamBranchKernelIdeal.main_arg0)
          ∧ r.2.mem ((c.tc : Thread Cert.AdamBranchKernelIdeal.nD Cert.AdamBranchKernelIdeal.τ).loc Cert.AdamBranchKernelIdeal.main_arg1) = m ((c.tc : Thread Cert.AdamBranchKernelIdeal.nD Cert.AdamBranchKernelIdeal.τ).loc Cert.AdamBranchKernelIdeal.main_arg1)
          ∧ r.2.mem ((c.tc : Thread Cert.AdamBranchKernelIdeal.nD Cert.AdamBranchKernelIdeal.τ).loc Cert.AdamBranchKernelIdeal.main_arg2) = m ((c.tc : Thread Cert.AdamBranchKernelIdeal.nD Cert.AdamBranchKernelIdeal.τ).loc Cert.AdamBranchKernelIdeal.main_arg2)
          ∧ r.2.mem ((c.tc : Thread Cert.AdamBranchKernelIdeal.nD Cert.AdamBranchKernelIdeal.τ).loc Cert.AdamBranchKernelIdeal.main_arg3) = m ((c.tc : Thread Cert.AdamBranchKernelIdeal.nD Cert.AdamBranchKernelIdeal.τ).loc Cert.AdamBranchKernelIdeal.main_arg3)
          ∧ r.2.mem ((c.tc : Thread Cert.AdamBranchKernelIdeal.nD Cert.AdamBranchKernelIdeal.τ).loc Cert.AdamBranchKernelIdeal.main_arg4) = m ((c.tc : Thread Cert.AdamBranchKernelIdeal.nD Cert.AdamBranchKernelIdeal.τ).loc Cert.AdamBranchKernelIdeal.main_arg4))
      ∧ θ_run (Cert.AdamBranchReferenceIdeal.defs (F := Ideal)) (onTc (τ := Cert.AdamBranchReferenceIdeal.τ) (Cert.AdamBranchReferenceIdeal.main (F := Ideal))) ⟨m', fun _ => 0, g'⟩ (fun r => ∀ c : Dev Cert.AdamBranchReferenceIdeal.nD,
          r.2.mem ((c.tc : Thread Cert.AdamBranchReferenceIdeal.nD Cert.AdamBranchReferenceIdeal.τ).loc Cert.AdamBranchReferenceIdeal.main_v6) = v0 c
          ∧ r.2.mem ((c.tc : Thread Cert.AdamBranchReferenceIdeal.nD Cert.AdamBranchReferenceIdeal.τ).loc Cert.AdamBranchReferenceIdeal.main_v30) = v1 c
          ∧ r.2.mem ((c.tc : Thread Cert.AdamBranchReferenceIdeal.nD Cert.AdamBranchReferenceIdeal.τ).loc Cert.AdamBranchReferenceIdeal.main_v11) = v2 c
          ∧ r.2.mem ((c.tc : Thread Cert.AdamBranchReferenceIdeal.nD Cert.AdamBranchReferenceIdeal.τ).loc Cert.AdamBranchReferenceIdeal.main_v17) = v3 c
          ∧ r.2.mem ((c.tc : Thread Cert.AdamBranchReferenceIdeal.nD Cert.AdamBranchReferenceIdeal.τ).loc Cert.AdamBranchReferenceIdeal.main_arg0) = m' ((c.tc : Thread Cert.AdamBranchReferenceIdeal.nD Cert.AdamBranchReferenceIdeal.τ).loc Cert.AdamBranchReferenceIdeal.main_arg0)
          ∧ r.2.mem ((c.tc : Thread Cert.AdamBranchReferenceIdeal.nD Cert.AdamBranchReferenceIdeal.τ).loc Cert.AdamBranchReferenceIdeal.main_arg1) = m' ((c.tc : Thread Cert.AdamBranchReferenceIdeal.nD Cert.AdamBranchReferenceIdeal.τ).loc Cert.AdamBranchReferenceIdeal.main_arg1)
          ∧ r.2.mem ((c.tc : Thread Cert.AdamBranchReferenceIdeal.nD Cert.AdamBranchReferenceIdeal.τ).loc Cert.AdamBranchReferenceIdeal.main_arg2) = m' ((c.tc : Thread Cert.AdamBranchReferenceIdeal.nD Cert.AdamBranchReferenceIdeal.τ).loc Cert.AdamBranchReferenceIdeal.main_arg2)
          ∧ r.2.mem ((c.tc : Thread Cert.AdamBranchReferenceIdeal.nD Cert.AdamBranchReferenceIdeal.τ).loc Cert.AdamBranchReferenceIdeal.main_arg3) = m' ((c.tc : Thread Cert.AdamBranchReferenceIdeal.nD Cert.AdamBranchReferenceIdeal.τ).loc Cert.AdamBranchReferenceIdeal.main_arg3)
          ∧ r.2.mem ((c.tc : Thread Cert.AdamBranchReferenceIdeal.nD Cert.AdamBranchReferenceIdeal.τ).loc Cert.AdamBranchReferenceIdeal.main_arg4) = m' ((c.tc : Thread Cert.AdamBranchReferenceIdeal.nD Cert.AdamBranchReferenceIdeal.τ).loc Cert.AdamBranchReferenceIdeal.main_arg4))

def preserves_AdamOutKernel_AdamOutKernelIdeal : Prop :=
  True

def algebraic_AdamOutKernelIdeal_AdamOutReferenceIdeal [hAdamOutKernelIdeal : Cert.AdamOutKernelIdeal.Facts] [hAdamOutReferenceIdeal : Cert.AdamOutReferenceIdeal.Facts] : Prop :=
  ∀ (m : (ℓ : Loc Cert.AdamOutKernelIdeal.nD Cert.AdamOutKernelIdeal.τ Cert.AdamOutKernelIdeal.sig) → Buf (Elt Ideal) ℓ) (g : Dev Cert.AdamOutKernelIdeal.nD → PrngReg)
    (m' : (ℓ : Loc Cert.AdamOutReferenceIdeal.nD Cert.AdamOutReferenceIdeal.τ Cert.AdamOutReferenceIdeal.sig) → Buf (Elt Ideal) ℓ) (g' : Dev Cert.AdamOutReferenceIdeal.nD → PrngReg), Pre_AdamOutKernelIdeal m →
    (∀ c : Dev Cert.AdamOutKernelIdeal.nD,
      m' ((c.tc : Thread Cert.AdamOutReferenceIdeal.nD Cert.AdamOutReferenceIdeal.τ).loc Cert.AdamOutReferenceIdeal.main_arg0) = m ((c.tc : Thread Cert.AdamOutKernelIdeal.nD Cert.AdamOutKernelIdeal.τ).loc Cert.AdamOutKernelIdeal.main_arg0)
      ∧ m' ((c.tc : Thread Cert.AdamOutReferenceIdeal.nD Cert.AdamOutReferenceIdeal.τ).loc Cert.AdamOutReferenceIdeal.main_arg1) = m ((c.tc : Thread Cert.AdamOutKernelIdeal.nD Cert.AdamOutKernelIdeal.τ).loc Cert.AdamOutKernelIdeal.main_arg1)
      ∧ m' ((c.tc : Thread Cert.AdamOutReferenceIdeal.nD Cert.AdamOutReferenceIdeal.τ).loc Cert.AdamOutReferenceIdeal.main_arg2) = m ((c.tc : Thread Cert.AdamOutKernelIdeal.nD Cert.AdamOutKernelIdeal.τ).loc Cert.AdamOutKernelIdeal.main_arg2)
      ∧ m' ((c.tc : Thread Cert.AdamOutReferenceIdeal.nD Cert.AdamOutReferenceIdeal.τ).loc Cert.AdamOutReferenceIdeal.main_arg3) = m ((c.tc : Thread Cert.AdamOutKernelIdeal.nD Cert.AdamOutKernelIdeal.τ).loc Cert.AdamOutKernelIdeal.main_arg3)
      ∧ m' ((c.tc : Thread Cert.AdamOutReferenceIdeal.nD Cert.AdamOutReferenceIdeal.τ).loc Cert.AdamOutReferenceIdeal.main_arg4) = m ((c.tc : Thread Cert.AdamOutKernelIdeal.nD Cert.AdamOutKernelIdeal.τ).loc Cert.AdamOutKernelIdeal.main_arg4)) →
    ∃ (v0 : (c : Dev Cert.AdamOutKernelIdeal.nD) → Buf (Elt Ideal) ((c.tc : Thread Cert.AdamOutKernelIdeal.nD Cert.AdamOutKernelIdeal.τ).loc Cert.AdamOutKernelIdeal.main_v0_0)) (v1 : (c : Dev Cert.AdamOutKernelIdeal.nD) → Buf (Elt Ideal) ((c.tc : Thread Cert.AdamOutKernelIdeal.nD Cert.AdamOutKernelIdeal.τ).loc Cert.AdamOutKernelIdeal.main_v0_1)) (v2 : (c : Dev Cert.AdamOutKernelIdeal.nD) → Buf (Elt Ideal) ((c.tc : Thread Cert.AdamOutKernelIdeal.nD Cert.AdamOutKernelIdeal.τ).loc Cert.AdamOutKernelIdeal.main_v0_2)) (v3 : (c : Dev Cert.AdamOutKernelIdeal.nD) → Buf (Elt Ideal) ((c.tc : Thread Cert.AdamOutKernelIdeal.nD Cert.AdamOutKernelIdeal.τ).loc Cert.AdamOutKernelIdeal.main_v0_3)),
      θ_run (Cert.AdamOutKernelIdeal.defs (F := Ideal)) (onTc (τ := Cert.AdamOutKernelIdeal.τ) (Cert.AdamOutKernelIdeal.main (F := Ideal))) ⟨m, fun _ => 0, g⟩ (fun r => ∀ c : Dev Cert.AdamOutKernelIdeal.nD,
          r.2.mem ((c.tc : Thread Cert.AdamOutKernelIdeal.nD Cert.AdamOutKernelIdeal.τ).loc Cert.AdamOutKernelIdeal.main_v0_0) = v0 c
          ∧ r.2.mem ((c.tc : Thread Cert.AdamOutKernelIdeal.nD Cert.AdamOutKernelIdeal.τ).loc Cert.AdamOutKernelIdeal.main_v0_1) = v1 c
          ∧ r.2.mem ((c.tc : Thread Cert.AdamOutKernelIdeal.nD Cert.AdamOutKernelIdeal.τ).loc Cert.AdamOutKernelIdeal.main_v0_2) = v2 c
          ∧ r.2.mem ((c.tc : Thread Cert.AdamOutKernelIdeal.nD Cert.AdamOutKernelIdeal.τ).loc Cert.AdamOutKernelIdeal.main_v0_3) = v3 c
          ∧ r.2.mem ((c.tc : Thread Cert.AdamOutKernelIdeal.nD Cert.AdamOutKernelIdeal.τ).loc Cert.AdamOutKernelIdeal.main_arg0) = m ((c.tc : Thread Cert.AdamOutKernelIdeal.nD Cert.AdamOutKernelIdeal.τ).loc Cert.AdamOutKernelIdeal.main_arg0)
          ∧ r.2.mem ((c.tc : Thread Cert.AdamOutKernelIdeal.nD Cert.AdamOutKernelIdeal.τ).loc Cert.AdamOutKernelIdeal.main_arg1) = m ((c.tc : Thread Cert.AdamOutKernelIdeal.nD Cert.AdamOutKernelIdeal.τ).loc Cert.AdamOutKernelIdeal.main_arg1)
          ∧ r.2.mem ((c.tc : Thread Cert.AdamOutKernelIdeal.nD Cert.AdamOutKernelIdeal.τ).loc Cert.AdamOutKernelIdeal.main_arg2) = m ((c.tc : Thread Cert.AdamOutKernelIdeal.nD Cert.AdamOutKernelIdeal.τ).loc Cert.AdamOutKernelIdeal.main_arg2)
          ∧ r.2.mem ((c.tc : Thread Cert.AdamOutKernelIdeal.nD Cert.AdamOutKernelIdeal.τ).loc Cert.AdamOutKernelIdeal.main_arg3) = m ((c.tc : Thread Cert.AdamOutKernelIdeal.nD Cert.AdamOutKernelIdeal.τ).loc Cert.AdamOutKernelIdeal.main_arg3)
          ∧ r.2.mem ((c.tc : Thread Cert.AdamOutKernelIdeal.nD Cert.AdamOutKernelIdeal.τ).loc Cert.AdamOutKernelIdeal.main_arg4) = m ((c.tc : Thread Cert.AdamOutKernelIdeal.nD Cert.AdamOutKernelIdeal.τ).loc Cert.AdamOutKernelIdeal.main_arg4))
      ∧ θ_run (Cert.AdamOutReferenceIdeal.defs (F := Ideal)) (onTc (τ := Cert.AdamOutReferenceIdeal.τ) (Cert.AdamOutReferenceIdeal.main (F := Ideal))) ⟨m', fun _ => 0, g'⟩ (fun r => ∀ c : Dev Cert.AdamOutReferenceIdeal.nD,
          r.2.mem ((c.tc : Thread Cert.AdamOutReferenceIdeal.nD Cert.AdamOutReferenceIdeal.τ).loc Cert.AdamOutReferenceIdeal.main_v6) = v0 c
          ∧ r.2.mem ((c.tc : Thread Cert.AdamOutReferenceIdeal.nD Cert.AdamOutReferenceIdeal.τ).loc Cert.AdamOutReferenceIdeal.main_v30) = v1 c
          ∧ r.2.mem ((c.tc : Thread Cert.AdamOutReferenceIdeal.nD Cert.AdamOutReferenceIdeal.τ).loc Cert.AdamOutReferenceIdeal.main_v11) = v2 c
          ∧ r.2.mem ((c.tc : Thread Cert.AdamOutReferenceIdeal.nD Cert.AdamOutReferenceIdeal.τ).loc Cert.AdamOutReferenceIdeal.main_v17) = v3 c
          ∧ r.2.mem ((c.tc : Thread Cert.AdamOutReferenceIdeal.nD Cert.AdamOutReferenceIdeal.τ).loc Cert.AdamOutReferenceIdeal.main_arg0) = m' ((c.tc : Thread Cert.AdamOutReferenceIdeal.nD Cert.AdamOutReferenceIdeal.τ).loc Cert.AdamOutReferenceIdeal.main_arg0)
          ∧ r.2.mem ((c.tc : Thread Cert.AdamOutReferenceIdeal.nD Cert.AdamOutReferenceIdeal.τ).loc Cert.AdamOutReferenceIdeal.main_arg1) = m' ((c.tc : Thread Cert.AdamOutReferenceIdeal.nD Cert.AdamOutReferenceIdeal.τ).loc Cert.AdamOutReferenceIdeal.main_arg1)
          ∧ r.2.mem ((c.tc : Thread Cert.AdamOutReferenceIdeal.nD Cert.AdamOutReferenceIdeal.τ).loc Cert.AdamOutReferenceIdeal.main_arg2) = m' ((c.tc : Thread Cert.AdamOutReferenceIdeal.nD Cert.AdamOutReferenceIdeal.τ).loc Cert.AdamOutReferenceIdeal.main_arg2)
          ∧ r.2.mem ((c.tc : Thread Cert.AdamOutReferenceIdeal.nD Cert.AdamOutReferenceIdeal.τ).loc Cert.AdamOutReferenceIdeal.main_arg3) = m' ((c.tc : Thread Cert.AdamOutReferenceIdeal.nD Cert.AdamOutReferenceIdeal.τ).loc Cert.AdamOutReferenceIdeal.main_arg3)
          ∧ r.2.mem ((c.tc : Thread Cert.AdamOutReferenceIdeal.nD Cert.AdamOutReferenceIdeal.τ).loc Cert.AdamOutReferenceIdeal.main_arg4) = m' ((c.tc : Thread Cert.AdamOutReferenceIdeal.nD Cert.AdamOutReferenceIdeal.τ).loc Cert.AdamOutReferenceIdeal.main_arg4))

def preserves_MergeFKernel_MergeFKernelIdeal : Prop :=
  True

def algebraic_MergeFKernelIdeal_MergeFReferenceIdeal [hMergeFKernelIdeal : Cert.MergeFKernelIdeal.Facts] [hMergeFReferenceIdeal : Cert.MergeFReferenceIdeal.Facts] : Prop :=
  ∀ (m : (ℓ : Loc Cert.MergeFKernelIdeal.nD Cert.MergeFKernelIdeal.τ Cert.MergeFKernelIdeal.sig) → Buf (Elt Ideal) ℓ) (g : Dev Cert.MergeFKernelIdeal.nD → PrngReg)
    (m' : (ℓ : Loc Cert.MergeFReferenceIdeal.nD Cert.MergeFReferenceIdeal.τ Cert.MergeFReferenceIdeal.sig) → Buf (Elt Ideal) ℓ) (g' : Dev Cert.MergeFReferenceIdeal.nD → PrngReg), Pre_MergeFKernelIdeal m →
    (∀ c : Dev Cert.MergeFKernelIdeal.nD,
      m' ((c.tc : Thread Cert.MergeFReferenceIdeal.nD Cert.MergeFReferenceIdeal.τ).loc Cert.MergeFReferenceIdeal.main_arg0) = m ((c.tc : Thread Cert.MergeFKernelIdeal.nD Cert.MergeFKernelIdeal.τ).loc Cert.MergeFKernelIdeal.main_arg0)
      ∧ m' ((c.tc : Thread Cert.MergeFReferenceIdeal.nD Cert.MergeFReferenceIdeal.τ).loc Cert.MergeFReferenceIdeal.main_arg1) = m ((c.tc : Thread Cert.MergeFKernelIdeal.nD Cert.MergeFKernelIdeal.τ).loc Cert.MergeFKernelIdeal.main_arg1)
      ∧ m' ((c.tc : Thread Cert.MergeFReferenceIdeal.nD Cert.MergeFReferenceIdeal.τ).loc Cert.MergeFReferenceIdeal.main_arg2) = m ((c.tc : Thread Cert.MergeFKernelIdeal.nD Cert.MergeFKernelIdeal.τ).loc Cert.MergeFKernelIdeal.main_arg2)
      ∧ m' ((c.tc : Thread Cert.MergeFReferenceIdeal.nD Cert.MergeFReferenceIdeal.τ).loc Cert.MergeFReferenceIdeal.main_arg3) = m ((c.tc : Thread Cert.MergeFKernelIdeal.nD Cert.MergeFKernelIdeal.τ).loc Cert.MergeFKernelIdeal.main_arg3)) →
    ∃ (v0 : (c : Dev Cert.MergeFKernelIdeal.nD) → Buf (Elt Ideal) ((c.tc : Thread Cert.MergeFKernelIdeal.nD Cert.MergeFKernelIdeal.τ).loc Cert.MergeFKernelIdeal.main_v0)),
      θ_run (Cert.MergeFKernelIdeal.defs (F := Ideal)) (onTc (τ := Cert.MergeFKernelIdeal.τ) (Cert.MergeFKernelIdeal.main (F := Ideal))) ⟨m, fun _ => 0, g⟩ (fun r => ∀ c : Dev Cert.MergeFKernelIdeal.nD,
          r.2.mem ((c.tc : Thread Cert.MergeFKernelIdeal.nD Cert.MergeFKernelIdeal.τ).loc Cert.MergeFKernelIdeal.main_v0) = v0 c
          ∧ r.2.mem ((c.tc : Thread Cert.MergeFKernelIdeal.nD Cert.MergeFKernelIdeal.τ).loc Cert.MergeFKernelIdeal.main_arg0) = m ((c.tc : Thread Cert.MergeFKernelIdeal.nD Cert.MergeFKernelIdeal.τ).loc Cert.MergeFKernelIdeal.main_arg0)
          ∧ r.2.mem ((c.tc : Thread Cert.MergeFKernelIdeal.nD Cert.MergeFKernelIdeal.τ).loc Cert.MergeFKernelIdeal.main_arg1) = m ((c.tc : Thread Cert.MergeFKernelIdeal.nD Cert.MergeFKernelIdeal.τ).loc Cert.MergeFKernelIdeal.main_arg1)
          ∧ r.2.mem ((c.tc : Thread Cert.MergeFKernelIdeal.nD Cert.MergeFKernelIdeal.τ).loc Cert.MergeFKernelIdeal.main_arg2) = m ((c.tc : Thread Cert.MergeFKernelIdeal.nD Cert.MergeFKernelIdeal.τ).loc Cert.MergeFKernelIdeal.main_arg2)
          ∧ r.2.mem ((c.tc : Thread Cert.MergeFKernelIdeal.nD Cert.MergeFKernelIdeal.τ).loc Cert.MergeFKernelIdeal.main_arg3) = m ((c.tc : Thread Cert.MergeFKernelIdeal.nD Cert.MergeFKernelIdeal.τ).loc Cert.MergeFKernelIdeal.main_arg3))
      ∧ θ_run (Cert.MergeFReferenceIdeal.defs (F := Ideal)) (onTc (τ := Cert.MergeFReferenceIdeal.τ) (Cert.MergeFReferenceIdeal.main (F := Ideal))) ⟨m', fun _ => 0, g'⟩ (fun r => ∀ c : Dev Cert.MergeFReferenceIdeal.nD,
          r.2.mem ((c.tc : Thread Cert.MergeFReferenceIdeal.nD Cert.MergeFReferenceIdeal.τ).loc Cert.MergeFReferenceIdeal.main_v24) = v0 c
          ∧ r.2.mem ((c.tc : Thread Cert.MergeFReferenceIdeal.nD Cert.MergeFReferenceIdeal.τ).loc Cert.MergeFReferenceIdeal.main_arg0) = m' ((c.tc : Thread Cert.MergeFReferenceIdeal.nD Cert.MergeFReferenceIdeal.τ).loc Cert.MergeFReferenceIdeal.main_arg0)
          ∧ r.2.mem ((c.tc : Thread Cert.MergeFReferenceIdeal.nD Cert.MergeFReferenceIdeal.τ).loc Cert.MergeFReferenceIdeal.main_arg1) = m' ((c.tc : Thread Cert.MergeFReferenceIdeal.nD Cert.MergeFReferenceIdeal.τ).loc Cert.MergeFReferenceIdeal.main_arg1)
          ∧ r.2.mem ((c.tc : Thread Cert.MergeFReferenceIdeal.nD Cert.MergeFReferenceIdeal.τ).loc Cert.MergeFReferenceIdeal.main_arg2) = m' ((c.tc : Thread Cert.MergeFReferenceIdeal.nD Cert.MergeFReferenceIdeal.τ).loc Cert.MergeFReferenceIdeal.main_arg2)
          ∧ r.2.mem ((c.tc : Thread Cert.MergeFReferenceIdeal.nD Cert.MergeFReferenceIdeal.τ).loc Cert.MergeFReferenceIdeal.main_arg3) = m' ((c.tc : Thread Cert.MergeFReferenceIdeal.nD Cert.MergeFReferenceIdeal.τ).loc Cert.MergeFReferenceIdeal.main_arg3))

def preserves_LossHeadKernel_LossHeadKernelIdeal : Prop :=
  True

def algebraic_LossHeadKernelIdeal_LossHeadReferenceIdeal [hLossHeadKernelIdeal : Cert.LossHeadKernelIdeal.Facts] [hLossHeadReferenceIdeal : Cert.LossHeadReferenceIdeal.Facts] : Prop :=
  ∀ (m : (ℓ : Loc Cert.LossHeadKernelIdeal.nD Cert.LossHeadKernelIdeal.τ Cert.LossHeadKernelIdeal.sig) → Buf (Elt Ideal) ℓ) (g : Dev Cert.LossHeadKernelIdeal.nD → PrngReg)
    (m' : (ℓ : Loc Cert.LossHeadReferenceIdeal.nD Cert.LossHeadReferenceIdeal.τ Cert.LossHeadReferenceIdeal.sig) → Buf (Elt Ideal) ℓ) (g' : Dev Cert.LossHeadReferenceIdeal.nD → PrngReg), Pre_LossHeadKernelIdeal m →
    (∀ c : Dev Cert.LossHeadKernelIdeal.nD,
      m' ((c.tc : Thread Cert.LossHeadReferenceIdeal.nD Cert.LossHeadReferenceIdeal.τ).loc Cert.LossHeadReferenceIdeal.main_arg0) = m ((c.tc : Thread Cert.LossHeadKernelIdeal.nD Cert.LossHeadKernelIdeal.τ).loc Cert.LossHeadKernelIdeal.main_arg0)
      ∧ m' ((c.tc : Thread Cert.LossHeadReferenceIdeal.nD Cert.LossHeadReferenceIdeal.τ).loc Cert.LossHeadReferenceIdeal.main_arg1) = m ((c.tc : Thread Cert.LossHeadKernelIdeal.nD Cert.LossHeadKernelIdeal.τ).loc Cert.LossHeadKernelIdeal.main_arg1)
      ∧ m' ((c.tc : Thread Cert.LossHeadReferenceIdeal.nD Cert.LossHeadReferenceIdeal.τ).loc Cert.LossHeadReferenceIdeal.main_arg2) = m ((c.tc : Thread Cert.LossHeadKernelIdeal.nD Cert.LossHeadKernelIdeal.τ).loc Cert.LossHeadKernelIdeal.main_arg2)) →
    ∃ (v0 : (c : Dev Cert.LossHeadKernelIdeal.nD) → Buf (Elt Ideal) ((c.tc : Thread Cert.LossHeadKernelIdeal.nD Cert.LossHeadKernelIdeal.τ).loc Cert.LossHeadKernelIdeal.main_v0_0)) (v1 : (c : Dev Cert.LossHeadKernelIdeal.nD) → Buf (Elt Ideal) ((c.tc : Thread Cert.LossHeadKernelIdeal.nD Cert.LossHeadKernelIdeal.τ).loc Cert.LossHeadKernelIdeal.main_v0_1)) (v2 : (c : Dev Cert.LossHeadKernelIdeal.nD) → Buf (Elt Ideal) ((c.tc : Thread Cert.LossHeadKernelIdeal.nD Cert.LossHeadKernelIdeal.τ).loc Cert.LossHeadKernelIdeal.main_v0_2)),
      θ_run (Cert.LossHeadKernelIdeal.defs (F := Ideal)) (onTc (τ := Cert.LossHeadKernelIdeal.τ) (Cert.LossHeadKernelIdeal.main (F := Ideal))) ⟨m, fun _ => 0, g⟩ (fun r => ∀ c : Dev Cert.LossHeadKernelIdeal.nD,
          r.2.mem ((c.tc : Thread Cert.LossHeadKernelIdeal.nD Cert.LossHeadKernelIdeal.τ).loc Cert.LossHeadKernelIdeal.main_v0_0) = v0 c
          ∧ r.2.mem ((c.tc : Thread Cert.LossHeadKernelIdeal.nD Cert.LossHeadKernelIdeal.τ).loc Cert.LossHeadKernelIdeal.main_v0_1) = v1 c
          ∧ r.2.mem ((c.tc : Thread Cert.LossHeadKernelIdeal.nD Cert.LossHeadKernelIdeal.τ).loc Cert.LossHeadKernelIdeal.main_v0_2) = v2 c
          ∧ r.2.mem ((c.tc : Thread Cert.LossHeadKernelIdeal.nD Cert.LossHeadKernelIdeal.τ).loc Cert.LossHeadKernelIdeal.main_arg0) = m ((c.tc : Thread Cert.LossHeadKernelIdeal.nD Cert.LossHeadKernelIdeal.τ).loc Cert.LossHeadKernelIdeal.main_arg0)
          ∧ r.2.mem ((c.tc : Thread Cert.LossHeadKernelIdeal.nD Cert.LossHeadKernelIdeal.τ).loc Cert.LossHeadKernelIdeal.main_arg1) = m ((c.tc : Thread Cert.LossHeadKernelIdeal.nD Cert.LossHeadKernelIdeal.τ).loc Cert.LossHeadKernelIdeal.main_arg1)
          ∧ r.2.mem ((c.tc : Thread Cert.LossHeadKernelIdeal.nD Cert.LossHeadKernelIdeal.τ).loc Cert.LossHeadKernelIdeal.main_arg2) = m ((c.tc : Thread Cert.LossHeadKernelIdeal.nD Cert.LossHeadKernelIdeal.τ).loc Cert.LossHeadKernelIdeal.main_arg2))
      ∧ θ_run (Cert.LossHeadReferenceIdeal.defs (F := Ideal)) (onTc (τ := Cert.LossHeadReferenceIdeal.τ) (Cert.LossHeadReferenceIdeal.main (F := Ideal))) ⟨m', fun _ => 0, g'⟩ (fun r => ∀ c : Dev Cert.LossHeadReferenceIdeal.nD,
          r.2.mem ((c.tc : Thread Cert.LossHeadReferenceIdeal.nD Cert.LossHeadReferenceIdeal.τ).loc Cert.LossHeadReferenceIdeal.main_v49) = v0 c
          ∧ r.2.mem ((c.tc : Thread Cert.LossHeadReferenceIdeal.nD Cert.LossHeadReferenceIdeal.τ).loc Cert.LossHeadReferenceIdeal.main_v48) = v1 c
          ∧ r.2.mem ((c.tc : Thread Cert.LossHeadReferenceIdeal.nD Cert.LossHeadReferenceIdeal.τ).loc Cert.LossHeadReferenceIdeal.main_v32) = v2 c
          ∧ r.2.mem ((c.tc : Thread Cert.LossHeadReferenceIdeal.nD Cert.LossHeadReferenceIdeal.τ).loc Cert.LossHeadReferenceIdeal.main_arg0) = m' ((c.tc : Thread Cert.LossHeadReferenceIdeal.nD Cert.LossHeadReferenceIdeal.τ).loc Cert.LossHeadReferenceIdeal.main_arg0)
          ∧ r.2.mem ((c.tc : Thread Cert.LossHeadReferenceIdeal.nD Cert.LossHeadReferenceIdeal.τ).loc Cert.LossHeadReferenceIdeal.main_arg1) = m' ((c.tc : Thread Cert.LossHeadReferenceIdeal.nD Cert.LossHeadReferenceIdeal.τ).loc Cert.LossHeadReferenceIdeal.main_arg1)
          ∧ r.2.mem ((c.tc : Thread Cert.LossHeadReferenceIdeal.nD Cert.LossHeadReferenceIdeal.τ).loc Cert.LossHeadReferenceIdeal.main_arg2) = m' ((c.tc : Thread Cert.LossHeadReferenceIdeal.nD Cert.LossHeadReferenceIdeal.τ).loc Cert.LossHeadReferenceIdeal.main_arg2))

def preserves_AdamSmallKernel_AdamSmallKernelIdeal : Prop :=
  True

def algebraic_AdamSmallKernelIdeal_AdamSmallReferenceIdeal [hAdamSmallKernelIdeal : Cert.AdamSmallKernelIdeal.Facts] [hAdamSmallReferenceIdeal : Cert.AdamSmallReferenceIdeal.Facts] : Prop :=
  ∀ (m : (ℓ : Loc Cert.AdamSmallKernelIdeal.nD Cert.AdamSmallKernelIdeal.τ Cert.AdamSmallKernelIdeal.sig) → Buf (Elt Ideal) ℓ) (g : Dev Cert.AdamSmallKernelIdeal.nD → PrngReg)
    (m' : (ℓ : Loc Cert.AdamSmallReferenceIdeal.nD Cert.AdamSmallReferenceIdeal.τ Cert.AdamSmallReferenceIdeal.sig) → Buf (Elt Ideal) ℓ) (g' : Dev Cert.AdamSmallReferenceIdeal.nD → PrngReg), Pre_AdamSmallKernelIdeal m →
    (∀ c : Dev Cert.AdamSmallKernelIdeal.nD,
      m' ((c.tc : Thread Cert.AdamSmallReferenceIdeal.nD Cert.AdamSmallReferenceIdeal.τ).loc Cert.AdamSmallReferenceIdeal.main_arg0) = m ((c.tc : Thread Cert.AdamSmallKernelIdeal.nD Cert.AdamSmallKernelIdeal.τ).loc Cert.AdamSmallKernelIdeal.main_arg0)
      ∧ m' ((c.tc : Thread Cert.AdamSmallReferenceIdeal.nD Cert.AdamSmallReferenceIdeal.τ).loc Cert.AdamSmallReferenceIdeal.main_arg1) = m ((c.tc : Thread Cert.AdamSmallKernelIdeal.nD Cert.AdamSmallKernelIdeal.τ).loc Cert.AdamSmallKernelIdeal.main_arg1)
      ∧ m' ((c.tc : Thread Cert.AdamSmallReferenceIdeal.nD Cert.AdamSmallReferenceIdeal.τ).loc Cert.AdamSmallReferenceIdeal.main_arg2) = m ((c.tc : Thread Cert.AdamSmallKernelIdeal.nD Cert.AdamSmallKernelIdeal.τ).loc Cert.AdamSmallKernelIdeal.main_arg2)
      ∧ m' ((c.tc : Thread Cert.AdamSmallReferenceIdeal.nD Cert.AdamSmallReferenceIdeal.τ).loc Cert.AdamSmallReferenceIdeal.main_arg3) = m ((c.tc : Thread Cert.AdamSmallKernelIdeal.nD Cert.AdamSmallKernelIdeal.τ).loc Cert.AdamSmallKernelIdeal.main_arg3)) →
    ∃ (v0 : (c : Dev Cert.AdamSmallKernelIdeal.nD) → Buf (Elt Ideal) ((c.tc : Thread Cert.AdamSmallKernelIdeal.nD Cert.AdamSmallKernelIdeal.τ).loc Cert.AdamSmallKernelIdeal.main_v0_0)) (v1 : (c : Dev Cert.AdamSmallKernelIdeal.nD) → Buf (Elt Ideal) ((c.tc : Thread Cert.AdamSmallKernelIdeal.nD Cert.AdamSmallKernelIdeal.τ).loc Cert.AdamSmallKernelIdeal.main_v0_1)) (v2 : (c : Dev Cert.AdamSmallKernelIdeal.nD) → Buf (Elt Ideal) ((c.tc : Thread Cert.AdamSmallKernelIdeal.nD Cert.AdamSmallKernelIdeal.τ).loc Cert.AdamSmallKernelIdeal.main_v0_2)) (v3 : (c : Dev Cert.AdamSmallKernelIdeal.nD) → Buf (Elt Ideal) ((c.tc : Thread Cert.AdamSmallKernelIdeal.nD Cert.AdamSmallKernelIdeal.τ).loc Cert.AdamSmallKernelIdeal.main_v0_3)),
      θ_run (Cert.AdamSmallKernelIdeal.defs (F := Ideal)) (onTc (τ := Cert.AdamSmallKernelIdeal.τ) (Cert.AdamSmallKernelIdeal.main (F := Ideal))) ⟨m, fun _ => 0, g⟩ (fun r => ∀ c : Dev Cert.AdamSmallKernelIdeal.nD,
          r.2.mem ((c.tc : Thread Cert.AdamSmallKernelIdeal.nD Cert.AdamSmallKernelIdeal.τ).loc Cert.AdamSmallKernelIdeal.main_v0_0) = v0 c
          ∧ r.2.mem ((c.tc : Thread Cert.AdamSmallKernelIdeal.nD Cert.AdamSmallKernelIdeal.τ).loc Cert.AdamSmallKernelIdeal.main_v0_1) = v1 c
          ∧ r.2.mem ((c.tc : Thread Cert.AdamSmallKernelIdeal.nD Cert.AdamSmallKernelIdeal.τ).loc Cert.AdamSmallKernelIdeal.main_v0_2) = v2 c
          ∧ r.2.mem ((c.tc : Thread Cert.AdamSmallKernelIdeal.nD Cert.AdamSmallKernelIdeal.τ).loc Cert.AdamSmallKernelIdeal.main_v0_3) = v3 c
          ∧ r.2.mem ((c.tc : Thread Cert.AdamSmallKernelIdeal.nD Cert.AdamSmallKernelIdeal.τ).loc Cert.AdamSmallKernelIdeal.main_arg0) = m ((c.tc : Thread Cert.AdamSmallKernelIdeal.nD Cert.AdamSmallKernelIdeal.τ).loc Cert.AdamSmallKernelIdeal.main_arg0)
          ∧ r.2.mem ((c.tc : Thread Cert.AdamSmallKernelIdeal.nD Cert.AdamSmallKernelIdeal.τ).loc Cert.AdamSmallKernelIdeal.main_arg1) = m ((c.tc : Thread Cert.AdamSmallKernelIdeal.nD Cert.AdamSmallKernelIdeal.τ).loc Cert.AdamSmallKernelIdeal.main_arg1)
          ∧ r.2.mem ((c.tc : Thread Cert.AdamSmallKernelIdeal.nD Cert.AdamSmallKernelIdeal.τ).loc Cert.AdamSmallKernelIdeal.main_arg2) = m ((c.tc : Thread Cert.AdamSmallKernelIdeal.nD Cert.AdamSmallKernelIdeal.τ).loc Cert.AdamSmallKernelIdeal.main_arg2)
          ∧ r.2.mem ((c.tc : Thread Cert.AdamSmallKernelIdeal.nD Cert.AdamSmallKernelIdeal.τ).loc Cert.AdamSmallKernelIdeal.main_arg3) = m ((c.tc : Thread Cert.AdamSmallKernelIdeal.nD Cert.AdamSmallKernelIdeal.τ).loc Cert.AdamSmallKernelIdeal.main_arg3))
      ∧ θ_run (Cert.AdamSmallReferenceIdeal.defs (F := Ideal)) (onTc (τ := Cert.AdamSmallReferenceIdeal.τ) (Cert.AdamSmallReferenceIdeal.main (F := Ideal))) ⟨m', fun _ => 0, g'⟩ (fun r => ∀ c : Dev Cert.AdamSmallReferenceIdeal.nD,
          r.2.mem ((c.tc : Thread Cert.AdamSmallReferenceIdeal.nD Cert.AdamSmallReferenceIdeal.τ).loc Cert.AdamSmallReferenceIdeal.main_v0) = v0 c
          ∧ r.2.mem ((c.tc : Thread Cert.AdamSmallReferenceIdeal.nD Cert.AdamSmallReferenceIdeal.τ).loc Cert.AdamSmallReferenceIdeal.main_v24) = v1 c
          ∧ r.2.mem ((c.tc : Thread Cert.AdamSmallReferenceIdeal.nD Cert.AdamSmallReferenceIdeal.τ).loc Cert.AdamSmallReferenceIdeal.main_v5) = v2 c
          ∧ r.2.mem ((c.tc : Thread Cert.AdamSmallReferenceIdeal.nD Cert.AdamSmallReferenceIdeal.τ).loc Cert.AdamSmallReferenceIdeal.main_v11) = v3 c
          ∧ r.2.mem ((c.tc : Thread Cert.AdamSmallReferenceIdeal.nD Cert.AdamSmallReferenceIdeal.τ).loc Cert.AdamSmallReferenceIdeal.main_arg0) = m' ((c.tc : Thread Cert.AdamSmallReferenceIdeal.nD Cert.AdamSmallReferenceIdeal.τ).loc Cert.AdamSmallReferenceIdeal.main_arg0)
          ∧ r.2.mem ((c.tc : Thread Cert.AdamSmallReferenceIdeal.nD Cert.AdamSmallReferenceIdeal.τ).loc Cert.AdamSmallReferenceIdeal.main_arg1) = m' ((c.tc : Thread Cert.AdamSmallReferenceIdeal.nD Cert.AdamSmallReferenceIdeal.τ).loc Cert.AdamSmallReferenceIdeal.main_arg1)
          ∧ r.2.mem ((c.tc : Thread Cert.AdamSmallReferenceIdeal.nD Cert.AdamSmallReferenceIdeal.τ).loc Cert.AdamSmallReferenceIdeal.main_arg2) = m' ((c.tc : Thread Cert.AdamSmallReferenceIdeal.nD Cert.AdamSmallReferenceIdeal.τ).loc Cert.AdamSmallReferenceIdeal.main_arg2)
          ∧ r.2.mem ((c.tc : Thread Cert.AdamSmallReferenceIdeal.nD Cert.AdamSmallReferenceIdeal.τ).loc Cert.AdamSmallReferenceIdeal.main_arg3) = m' ((c.tc : Thread Cert.AdamSmallReferenceIdeal.nD Cert.AdamSmallReferenceIdeal.τ).loc Cert.AdamSmallReferenceIdeal.main_arg3))

def preserves_MergeZeroKernel_MergeZeroKernelIdeal : Prop :=
  True

def algebraic_MergeZeroKernelIdeal_MergeReferenceIdeal [hMergeZeroKernelIdeal : Cert.MergeZeroKernelIdeal.Facts] [hMergeReferenceIdeal : Cert.MergeReferenceIdeal.Facts] : Prop :=
  ∀ (m : (ℓ : Loc Cert.MergeZeroKernelIdeal.nD Cert.MergeZeroKernelIdeal.τ Cert.MergeZeroKernelIdeal.sig) → Buf (Elt Ideal) ℓ) (g : Dev Cert.MergeZeroKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeZeroKernelIdeal m →
    (∀ c : Dev Cert.MergeZeroKernelIdeal.nD,
      m' ((c.tc : Thread Cert.MergeReferenceIdeal.nD Cert.MergeReferenceIdeal.τ).loc Cert.MergeReferenceIdeal.main_arg0) = m ((c.tc : Thread Cert.MergeZeroKernelIdeal.nD Cert.MergeZeroKernelIdeal.τ).loc Cert.MergeZeroKernelIdeal.main_arg0)
      ∧ m' ((c.tc : Thread Cert.MergeReferenceIdeal.nD Cert.MergeReferenceIdeal.τ).loc Cert.MergeReferenceIdeal.main_arg1) = m ((c.tc : Thread Cert.MergeZeroKernelIdeal.nD Cert.MergeZeroKernelIdeal.τ).loc Cert.MergeZeroKernelIdeal.main_arg1)
      ∧ m' ((c.tc : Thread Cert.MergeReferenceIdeal.nD Cert.MergeReferenceIdeal.τ).loc Cert.MergeReferenceIdeal.main_arg2) = m ((c.tc : Thread Cert.MergeZeroKernelIdeal.nD Cert.MergeZeroKernelIdeal.τ).loc Cert.MergeZeroKernelIdeal.main_arg2)
      ∧ m' ((c.tc : Thread Cert.MergeReferenceIdeal.nD Cert.MergeReferenceIdeal.τ).loc Cert.MergeReferenceIdeal.main_arg3) = m ((c.tc : Thread Cert.MergeZeroKernelIdeal.nD Cert.MergeZeroKernelIdeal.τ).loc Cert.MergeZeroKernelIdeal.main_arg3)
      ∧ m' ((c.tc : Thread Cert.MergeReferenceIdeal.nD Cert.MergeReferenceIdeal.τ).loc Cert.MergeReferenceIdeal.main_arg4) = m ((c.tc : Thread Cert.MergeZeroKernelIdeal.nD Cert.MergeZeroKernelIdeal.τ).loc Cert.MergeZeroKernelIdeal.main_arg4)) →
    ∃ (v0 : (c : Dev Cert.MergeZeroKernelIdeal.nD) → Buf (Elt Ideal) ((c.tc : Thread Cert.MergeZeroKernelIdeal.nD Cert.MergeZeroKernelIdeal.τ).loc Cert.MergeZeroKernelIdeal.main_v0_0)) (v1 : (c : Dev Cert.MergeZeroKernelIdeal.nD) → Buf (Elt Ideal) ((c.tc : Thread Cert.MergeZeroKernelIdeal.nD Cert.MergeZeroKernelIdeal.τ).loc Cert.MergeZeroKernelIdeal.main_v0_1)) (v2 : (c : Dev Cert.MergeZeroKernelIdeal.nD) → Buf (Elt Ideal) ((c.tc : Thread Cert.MergeZeroKernelIdeal.nD Cert.MergeZeroKernelIdeal.τ).loc Cert.MergeZeroKernelIdeal.main_v0_2)) (v3 : (c : Dev Cert.MergeZeroKernelIdeal.nD) → Buf (Elt Ideal) ((c.tc : Thread Cert.MergeZeroKernelIdeal.nD Cert.MergeZeroKernelIdeal.τ).loc Cert.MergeZeroKernelIdeal.main_v0_3)) (v4 : (c : Dev Cert.MergeZeroKernelIdeal.nD) → Buf (Elt Ideal) ((c.tc : Thread Cert.MergeZeroKernelIdeal.nD Cert.MergeZeroKernelIdeal.τ).loc Cert.MergeZeroKernelIdeal.main_v0_4)) (v5 : (c : Dev Cert.MergeZeroKernelIdeal.nD) → Buf (Elt Ideal) ((c.tc : Thread Cert.MergeZeroKernelIdeal.nD Cert.MergeZeroKernelIdeal.τ).loc Cert.MergeZeroKernelIdeal.main_v0_5)),
      θ_run (Cert.MergeZeroKernelIdeal.defs (F := Ideal)) (onTc (τ := Cert.MergeZeroKernelIdeal.τ) (Cert.MergeZeroKernelIdeal.main (F := Ideal))) ⟨m, fun _ => 0, g⟩ (fun r => ∀ c : Dev Cert.MergeZeroKernelIdeal.nD,
          r.2.mem ((c.tc : Thread Cert.MergeZeroKernelIdeal.nD Cert.MergeZeroKernelIdeal.τ).loc Cert.MergeZeroKernelIdeal.main_v0_0) = v0 c
          ∧ r.2.mem ((c.tc : Thread Cert.MergeZeroKernelIdeal.nD Cert.MergeZeroKernelIdeal.τ).loc Cert.MergeZeroKernelIdeal.main_v0_1) = v1 c
          ∧ r.2.mem ((c.tc : Thread Cert.MergeZeroKernelIdeal.nD Cert.MergeZeroKernelIdeal.τ).loc Cert.MergeZeroKernelIdeal.main_v0_2) = v2 c
          ∧ r.2.mem ((c.tc : Thread Cert.MergeZeroKernelIdeal.nD Cert.MergeZeroKernelIdeal.τ).loc Cert.MergeZeroKernelIdeal.main_v0_3) = v3 c
          ∧ r.2.mem ((c.tc : Thread Cert.MergeZeroKernelIdeal.nD Cert.MergeZeroKernelIdeal.τ).loc Cert.MergeZeroKernelIdeal.main_v0_4) = v4 c
          ∧ r.2.mem ((c.tc : Thread Cert.MergeZeroKernelIdeal.nD Cert.MergeZeroKernelIdeal.τ).loc Cert.MergeZeroKernelIdeal.main_v0_5) = v5 c
          ∧ r.2.mem ((c.tc : Thread Cert.MergeZeroKernelIdeal.nD Cert.MergeZeroKernelIdeal.τ).loc Cert.MergeZeroKernelIdeal.main_arg0) = m ((c.tc : Thread Cert.MergeZeroKernelIdeal.nD Cert.MergeZeroKernelIdeal.τ).loc Cert.MergeZeroKernelIdeal.main_arg0)
          ∧ r.2.mem ((c.tc : Thread Cert.MergeZeroKernelIdeal.nD Cert.MergeZeroKernelIdeal.τ).loc Cert.MergeZeroKernelIdeal.main_arg1) = m ((c.tc : Thread Cert.MergeZeroKernelIdeal.nD Cert.MergeZeroKernelIdeal.τ).loc Cert.MergeZeroKernelIdeal.main_arg1)
          ∧ r.2.mem ((c.tc : Thread Cert.MergeZeroKernelIdeal.nD Cert.MergeZeroKernelIdeal.τ).loc Cert.MergeZeroKernelIdeal.main_arg2) = m ((c.tc : Thread Cert.MergeZeroKernelIdeal.nD Cert.MergeZeroKernelIdeal.τ).loc Cert.MergeZeroKernelIdeal.main_arg2)
          ∧ r.2.mem ((c.tc : Thread Cert.MergeZeroKernelIdeal.nD Cert.MergeZeroKernelIdeal.τ).loc Cert.MergeZeroKernelIdeal.main_arg3) = m ((c.tc : Thread Cert.MergeZeroKernelIdeal.nD Cert.MergeZeroKernelIdeal.τ).loc Cert.MergeZeroKernelIdeal.main_arg3)
          ∧ r.2.mem ((c.tc : Thread Cert.MergeZeroKernelIdeal.nD Cert.MergeZeroKernelIdeal.τ).loc Cert.MergeZeroKernelIdeal.main_arg4) = m ((c.tc : Thread Cert.MergeZeroKernelIdeal.nD Cert.MergeZeroKernelIdeal.τ).loc Cert.MergeZeroKernelIdeal.main_arg4))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v48) = v0 c
          ∧ r.2.mem ((c.tc : Thread Cert.MergeReferenceIdeal.nD Cert.MergeReferenceIdeal.τ).loc Cert.MergeReferenceIdeal.main_v49) = v1 c
          ∧ r.2.mem ((c.tc : Thread Cert.MergeReferenceIdeal.nD Cert.MergeReferenceIdeal.τ).loc Cert.MergeReferenceIdeal.main_v50) = v2 c
          ∧ r.2.mem ((c.tc : Thread Cert.MergeReferenceIdeal.nD Cert.MergeReferenceIdeal.τ).loc Cert.MergeReferenceIdeal.main_v51) = v3 c
          ∧ r.2.mem ((c.tc : Thread Cert.MergeReferenceIdeal.nD Cert.MergeReferenceIdeal.τ).loc Cert.MergeReferenceIdeal.main_v52) = v4 c
          ∧ r.2.mem ((c.tc : Thread Cert.MergeReferenceIdeal.nD Cert.MergeReferenceIdeal.τ).loc Cert.MergeReferenceIdeal.main_v53) = v5 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4))

def preserves_PostZeroKernel_PostZeroKernelIdeal : Prop :=
  True

def algebraic_PostZeroKernelIdeal_PostReferenceIdeal [hPostZeroKernelIdeal : Cert.PostZeroKernelIdeal.Facts] [hPostReferenceIdeal : Cert.PostReferenceIdeal.Facts] : Prop :=
  ∀ (m : (ℓ : Loc Cert.PostZeroKernelIdeal.nD Cert.PostZeroKernelIdeal.τ Cert.PostZeroKernelIdeal.sig) → Buf (Elt Ideal) ℓ) (g : Dev Cert.PostZeroKernelIdeal.nD → PrngReg)
    (m' : (ℓ : Loc Cert.PostReferenceIdeal.nD Cert.PostReferenceIdeal.τ Cert.PostReferenceIdeal.sig) → Buf (Elt Ideal) ℓ) (g' : Dev Cert.PostReferenceIdeal.nD → PrngReg), Pre_PostZeroKernelIdeal m →
    (∀ c : Dev Cert.PostZeroKernelIdeal.nD,
      m' ((c.tc : Thread Cert.PostReferenceIdeal.nD Cert.PostReferenceIdeal.τ).loc Cert.PostReferenceIdeal.main_arg0) = m ((c.tc : Thread Cert.PostZeroKernelIdeal.nD Cert.PostZeroKernelIdeal.τ).loc Cert.PostZeroKernelIdeal.main_arg0)
      ∧ m' ((c.tc : Thread Cert.PostReferenceIdeal.nD Cert.PostReferenceIdeal.τ).loc Cert.PostReferenceIdeal.main_arg1) = m ((c.tc : Thread Cert.PostZeroKernelIdeal.nD Cert.PostZeroKernelIdeal.τ).loc Cert.PostZeroKernelIdeal.main_arg1)
      ∧ m' ((c.tc : Thread Cert.PostReferenceIdeal.nD Cert.PostReferenceIdeal.τ).loc Cert.PostReferenceIdeal.main_arg2) = m ((c.tc : Thread Cert.PostZeroKernelIdeal.nD Cert.PostZeroKernelIdeal.τ).loc Cert.PostZeroKernelIdeal.main_arg2)
      ∧ m' ((c.tc : Thread Cert.PostReferenceIdeal.nD Cert.PostReferenceIdeal.τ).loc Cert.PostReferenceIdeal.main_arg3) = m ((c.tc : Thread Cert.PostZeroKernelIdeal.nD Cert.PostZeroKernelIdeal.τ).loc Cert.PostZeroKernelIdeal.main_arg3)
      ∧ m' ((c.tc : Thread Cert.PostReferenceIdeal.nD Cert.PostReferenceIdeal.τ).loc Cert.PostReferenceIdeal.main_arg4) = m ((c.tc : Thread Cert.PostZeroKernelIdeal.nD Cert.PostZeroKernelIdeal.τ).loc Cert.PostZeroKernelIdeal.main_arg4)
      ∧ m' ((c.tc : Thread Cert.PostReferenceIdeal.nD Cert.PostReferenceIdeal.τ).loc Cert.PostReferenceIdeal.main_arg5) = m ((c.tc : Thread Cert.PostZeroKernelIdeal.nD Cert.PostZeroKernelIdeal.τ).loc Cert.PostZeroKernelIdeal.main_arg5)) →
    ∃ (v0 : (c : Dev Cert.PostZeroKernelIdeal.nD) → Buf (Elt Ideal) ((c.tc : Thread Cert.PostZeroKernelIdeal.nD Cert.PostZeroKernelIdeal.τ).loc Cert.PostZeroKernelIdeal.main_v0_0)) (v1 : (c : Dev Cert.PostZeroKernelIdeal.nD) → Buf (Elt Ideal) ((c.tc : Thread Cert.PostZeroKernelIdeal.nD Cert.PostZeroKernelIdeal.τ).loc Cert.PostZeroKernelIdeal.main_v0_1)),
      θ_run (Cert.PostZeroKernelIdeal.defs (F := Ideal)) (onTc (τ := Cert.PostZeroKernelIdeal.τ) (Cert.PostZeroKernelIdeal.main (F := Ideal))) ⟨m, fun _ => 0, g⟩ (fun r => ∀ c : Dev Cert.PostZeroKernelIdeal.nD,
          r.2.mem ((c.tc : Thread Cert.PostZeroKernelIdeal.nD Cert.PostZeroKernelIdeal.τ).loc Cert.PostZeroKernelIdeal.main_v0_0) = v0 c
          ∧ r.2.mem ((c.tc : Thread Cert.PostZeroKernelIdeal.nD Cert.PostZeroKernelIdeal.τ).loc Cert.PostZeroKernelIdeal.main_v0_1) = v1 c
          ∧ r.2.mem ((c.tc : Thread Cert.PostZeroKernelIdeal.nD Cert.PostZeroKernelIdeal.τ).loc Cert.PostZeroKernelIdeal.main_arg0) = m ((c.tc : Thread Cert.PostZeroKernelIdeal.nD Cert.PostZeroKernelIdeal.τ).loc Cert.PostZeroKernelIdeal.main_arg0)
          ∧ r.2.mem ((c.tc : Thread Cert.PostZeroKernelIdeal.nD Cert.PostZeroKernelIdeal.τ).loc Cert.PostZeroKernelIdeal.main_arg1) = m ((c.tc : Thread Cert.PostZeroKernelIdeal.nD Cert.PostZeroKernelIdeal.τ).loc Cert.PostZeroKernelIdeal.main_arg1)
          ∧ r.2.mem ((c.tc : Thread Cert.PostZeroKernelIdeal.nD Cert.PostZeroKernelIdeal.τ).loc Cert.PostZeroKernelIdeal.main_arg2) = m ((c.tc : Thread Cert.PostZeroKernelIdeal.nD Cert.PostZeroKernelIdeal.τ).loc Cert.PostZeroKernelIdeal.main_arg2)
          ∧ r.2.mem ((c.tc : Thread Cert.PostZeroKernelIdeal.nD Cert.PostZeroKernelIdeal.τ).loc Cert.PostZeroKernelIdeal.main_arg3) = m ((c.tc : Thread Cert.PostZeroKernelIdeal.nD Cert.PostZeroKernelIdeal.τ).loc Cert.PostZeroKernelIdeal.main_arg3)
          ∧ r.2.mem ((c.tc : Thread Cert.PostZeroKernelIdeal.nD Cert.PostZeroKernelIdeal.τ).loc Cert.PostZeroKernelIdeal.main_arg4) = m ((c.tc : Thread Cert.PostZeroKernelIdeal.nD Cert.PostZeroKernelIdeal.τ).loc Cert.PostZeroKernelIdeal.main_arg4)
          ∧ r.2.mem ((c.tc : Thread Cert.PostZeroKernelIdeal.nD Cert.PostZeroKernelIdeal.τ).loc Cert.PostZeroKernelIdeal.main_arg5) = m ((c.tc : Thread Cert.PostZeroKernelIdeal.nD Cert.PostZeroKernelIdeal.τ).loc Cert.PostZeroKernelIdeal.main_arg5))
      ∧ θ_run (Cert.PostReferenceIdeal.defs (F := Ideal)) (onTc (τ := Cert.PostReferenceIdeal.τ) (Cert.PostReferenceIdeal.main (F := Ideal))) ⟨m', fun _ => 0, g'⟩ (fun r => ∀ c : Dev Cert.PostReferenceIdeal.nD,
          r.2.mem ((c.tc : Thread Cert.PostReferenceIdeal.nD Cert.PostReferenceIdeal.τ).loc Cert.PostReferenceIdeal.main_v2) = v0 c
          ∧ r.2.mem ((c.tc : Thread Cert.PostReferenceIdeal.nD Cert.PostReferenceIdeal.τ).loc Cert.PostReferenceIdeal.main_v21) = v1 c
          ∧ r.2.mem ((c.tc : Thread Cert.PostReferenceIdeal.nD Cert.PostReferenceIdeal.τ).loc Cert.PostReferenceIdeal.main_arg0) = m' ((c.tc : Thread Cert.PostReferenceIdeal.nD Cert.PostReferenceIdeal.τ).loc Cert.PostReferenceIdeal.main_arg0)
          ∧ r.2.mem ((c.tc : Thread Cert.PostReferenceIdeal.nD Cert.PostReferenceIdeal.τ).loc Cert.PostReferenceIdeal.main_arg1) = m' ((c.tc : Thread Cert.PostReferenceIdeal.nD Cert.PostReferenceIdeal.τ).loc Cert.PostReferenceIdeal.main_arg1)
          ∧ r.2.mem ((c.tc : Thread Cert.PostReferenceIdeal.nD Cert.PostReferenceIdeal.τ).loc Cert.PostReferenceIdeal.main_arg2) = m' ((c.tc : Thread Cert.PostReferenceIdeal.nD Cert.PostReferenceIdeal.τ).loc Cert.PostReferenceIdeal.main_arg2)
          ∧ r.2.mem ((c.tc : Thread Cert.PostReferenceIdeal.nD Cert.PostReferenceIdeal.τ).loc Cert.PostReferenceIdeal.main_arg3) = m' ((c.tc : Thread Cert.PostReferenceIdeal.nD Cert.PostReferenceIdeal.τ).loc Cert.PostReferenceIdeal.main_arg3)
          ∧ r.2.mem ((c.tc : Thread Cert.PostReferenceIdeal.nD Cert.PostReferenceIdeal.τ).loc Cert.PostReferenceIdeal.main_arg4) = m' ((c.tc : Thread Cert.PostReferenceIdeal.nD Cert.PostReferenceIdeal.τ).loc Cert.PostReferenceIdeal.main_arg4)
          ∧ r.2.mem ((c.tc : Thread Cert.PostReferenceIdeal.nD Cert.PostReferenceIdeal.τ).loc Cert.PostReferenceIdeal.main_arg5) = m' ((c.tc : Thread Cert.PostReferenceIdeal.nD Cert.PostReferenceIdeal.τ).loc Cert.PostReferenceIdeal.main_arg5))

def preserves_ResPreZeroKernel_ResPreZeroKernelIdeal : Prop :=
  True

def algebraic_ResPreZeroKernelIdeal_PostReferenceIdeal [hResPreZeroKernelIdeal : Cert.ResPreZeroKernelIdeal.Facts] [hPostReferenceIdeal : Cert.PostReferenceIdeal.Facts] : Prop :=
  ∀ (m : (ℓ : Loc Cert.ResPreZeroKernelIdeal.nD Cert.ResPreZeroKernelIdeal.τ Cert.ResPreZeroKernelIdeal.sig) → Buf (Elt Ideal) ℓ) (g : Dev Cert.ResPreZeroKernelIdeal.nD → PrngReg)
    (m' : (ℓ : Loc Cert.PostReferenceIdeal.nD Cert.PostReferenceIdeal.τ Cert.PostReferenceIdeal.sig) → Buf (Elt Ideal) ℓ) (g' : Dev Cert.PostReferenceIdeal.nD → PrngReg), Pre_ResPreZeroKernelIdeal m →
    (∀ c : Dev Cert.ResPreZeroKernelIdeal.nD,
      m' ((c.tc : Thread Cert.PostReferenceIdeal.nD Cert.PostReferenceIdeal.τ).loc Cert.PostReferenceIdeal.main_arg0) = m ((c.tc : Thread Cert.ResPreZeroKernelIdeal.nD Cert.ResPreZeroKernelIdeal.τ).loc Cert.ResPreZeroKernelIdeal.main_arg0)
      ∧ m' ((c.tc : Thread Cert.PostReferenceIdeal.nD Cert.PostReferenceIdeal.τ).loc Cert.PostReferenceIdeal.main_arg1) = m ((c.tc : Thread Cert.ResPreZeroKernelIdeal.nD Cert.ResPreZeroKernelIdeal.τ).loc Cert.ResPreZeroKernelIdeal.main_arg1)
      ∧ m' ((c.tc : Thread Cert.PostReferenceIdeal.nD Cert.PostReferenceIdeal.τ).loc Cert.PostReferenceIdeal.main_arg2) = m ((c.tc : Thread Cert.ResPreZeroKernelIdeal.nD Cert.ResPreZeroKernelIdeal.τ).loc Cert.ResPreZeroKernelIdeal.main_arg2)
      ∧ m' ((c.tc : Thread Cert.PostReferenceIdeal.nD Cert.PostReferenceIdeal.τ).loc Cert.PostReferenceIdeal.main_arg3) = m ((c.tc : Thread Cert.ResPreZeroKernelIdeal.nD Cert.ResPreZeroKernelIdeal.τ).loc Cert.ResPreZeroKernelIdeal.main_arg3)
      ∧ m' ((c.tc : Thread Cert.PostReferenceIdeal.nD Cert.PostReferenceIdeal.τ).loc Cert.PostReferenceIdeal.main_arg4) = m ((c.tc : Thread Cert.ResPreZeroKernelIdeal.nD Cert.ResPreZeroKernelIdeal.τ).loc Cert.ResPreZeroKernelIdeal.main_arg4)
      ∧ m' ((c.tc : Thread Cert.PostReferenceIdeal.nD Cert.PostReferenceIdeal.τ).loc Cert.PostReferenceIdeal.main_arg5) = m ((c.tc : Thread Cert.ResPreZeroKernelIdeal.nD Cert.ResPreZeroKernelIdeal.τ).loc Cert.ResPreZeroKernelIdeal.main_arg5)) →
    ∃ (v0 : (c : Dev Cert.ResPreZeroKernelIdeal.nD) → Buf (Elt Ideal) ((c.tc : Thread Cert.ResPreZeroKernelIdeal.nD Cert.ResPreZeroKernelIdeal.τ).loc Cert.ResPreZeroKernelIdeal.main_v0_0)) (v1 : (c : Dev Cert.ResPreZeroKernelIdeal.nD) → Buf (Elt Ideal) ((c.tc : Thread Cert.ResPreZeroKernelIdeal.nD Cert.ResPreZeroKernelIdeal.τ).loc Cert.ResPreZeroKernelIdeal.main_v0_1)),
      θ_run (Cert.ResPreZeroKernelIdeal.defs (F := Ideal)) (onTc (τ := Cert.ResPreZeroKernelIdeal.τ) (Cert.ResPreZeroKernelIdeal.main (F := Ideal))) ⟨m, fun _ => 0, g⟩ (fun r => ∀ c : Dev Cert.ResPreZeroKernelIdeal.nD,
          r.2.mem ((c.tc : Thread Cert.ResPreZeroKernelIdeal.nD Cert.ResPreZeroKernelIdeal.τ).loc Cert.ResPreZeroKernelIdeal.main_v0_0) = v0 c
          ∧ r.2.mem ((c.tc : Thread Cert.ResPreZeroKernelIdeal.nD Cert.ResPreZeroKernelIdeal.τ).loc Cert.ResPreZeroKernelIdeal.main_v0_1) = v1 c
          ∧ r.2.mem ((c.tc : Thread Cert.ResPreZeroKernelIdeal.nD Cert.ResPreZeroKernelIdeal.τ).loc Cert.ResPreZeroKernelIdeal.main_arg0) = m ((c.tc : Thread Cert.ResPreZeroKernelIdeal.nD Cert.ResPreZeroKernelIdeal.τ).loc Cert.ResPreZeroKernelIdeal.main_arg0)
          ∧ r.2.mem ((c.tc : Thread Cert.ResPreZeroKernelIdeal.nD Cert.ResPreZeroKernelIdeal.τ).loc Cert.ResPreZeroKernelIdeal.main_arg1) = m ((c.tc : Thread Cert.ResPreZeroKernelIdeal.nD Cert.ResPreZeroKernelIdeal.τ).loc Cert.ResPreZeroKernelIdeal.main_arg1)
          ∧ r.2.mem ((c.tc : Thread Cert.ResPreZeroKernelIdeal.nD Cert.ResPreZeroKernelIdeal.τ).loc Cert.ResPreZeroKernelIdeal.main_arg2) = m ((c.tc : Thread Cert.ResPreZeroKernelIdeal.nD Cert.ResPreZeroKernelIdeal.τ).loc Cert.ResPreZeroKernelIdeal.main_arg2)
          ∧ r.2.mem ((c.tc : Thread Cert.ResPreZeroKernelIdeal.nD Cert.ResPreZeroKernelIdeal.τ).loc Cert.ResPreZeroKernelIdeal.main_arg3) = m ((c.tc : Thread Cert.ResPreZeroKernelIdeal.nD Cert.ResPreZeroKernelIdeal.τ).loc Cert.ResPreZeroKernelIdeal.main_arg3)
          ∧ r.2.mem ((c.tc : Thread Cert.ResPreZeroKernelIdeal.nD Cert.ResPreZeroKernelIdeal.τ).loc Cert.ResPreZeroKernelIdeal.main_arg4) = m ((c.tc : Thread Cert.ResPreZeroKernelIdeal.nD Cert.ResPreZeroKernelIdeal.τ).loc Cert.ResPreZeroKernelIdeal.main_arg4)
          ∧ r.2.mem ((c.tc : Thread Cert.ResPreZeroKernelIdeal.nD Cert.ResPreZeroKernelIdeal.τ).loc Cert.ResPreZeroKernelIdeal.main_arg5) = m ((c.tc : Thread Cert.ResPreZeroKernelIdeal.nD Cert.ResPreZeroKernelIdeal.τ).loc Cert.ResPreZeroKernelIdeal.main_arg5))
      ∧ θ_run (Cert.PostReferenceIdeal.defs (F := Ideal)) (onTc (τ := Cert.PostReferenceIdeal.τ) (Cert.PostReferenceIdeal.main (F := Ideal))) ⟨m', fun _ => 0, g'⟩ (fun r => ∀ c : Dev Cert.PostReferenceIdeal.nD,
          r.2.mem ((c.tc : Thread Cert.PostReferenceIdeal.nD Cert.PostReferenceIdeal.τ).loc Cert.PostReferenceIdeal.main_v2) = v0 c
          ∧ r.2.mem ((c.tc : Thread Cert.PostReferenceIdeal.nD Cert.PostReferenceIdeal.τ).loc Cert.PostReferenceIdeal.main_v21) = v1 c
          ∧ r.2.mem ((c.tc : Thread Cert.PostReferenceIdeal.nD Cert.PostReferenceIdeal.τ).loc Cert.PostReferenceIdeal.main_arg0) = m' ((c.tc : Thread Cert.PostReferenceIdeal.nD Cert.PostReferenceIdeal.τ).loc Cert.PostReferenceIdeal.main_arg0)
          ∧ r.2.mem ((c.tc : Thread Cert.PostReferenceIdeal.nD Cert.PostReferenceIdeal.τ).loc Cert.PostReferenceIdeal.main_arg1) = m' ((c.tc : Thread Cert.PostReferenceIdeal.nD Cert.PostReferenceIdeal.τ).loc Cert.PostReferenceIdeal.main_arg1)
          ∧ r.2.mem ((c.tc : Thread Cert.PostReferenceIdeal.nD Cert.PostReferenceIdeal.τ).loc Cert.PostReferenceIdeal.main_arg2) = m' ((c.tc : Thread Cert.PostReferenceIdeal.nD Cert.PostReferenceIdeal.τ).loc Cert.PostReferenceIdeal.main_arg2)
          ∧ r.2.mem ((c.tc : Thread Cert.PostReferenceIdeal.nD Cert.PostReferenceIdeal.τ).loc Cert.PostReferenceIdeal.main_arg3) = m' ((c.tc : Thread Cert.PostReferenceIdeal.nD Cert.PostReferenceIdeal.τ).loc Cert.PostReferenceIdeal.main_arg3)
          ∧ r.2.mem ((c.tc : Thread Cert.PostReferenceIdeal.nD Cert.PostReferenceIdeal.τ).loc Cert.PostReferenceIdeal.main_arg4) = m' ((c.tc : Thread Cert.PostReferenceIdeal.nD Cert.PostReferenceIdeal.τ).loc Cert.PostReferenceIdeal.main_arg4)
          ∧ r.2.mem ((c.tc : Thread Cert.PostReferenceIdeal.nD Cert.PostReferenceIdeal.τ).loc Cert.PostReferenceIdeal.main_arg5) = m' ((c.tc : Thread Cert.PostReferenceIdeal.nD Cert.PostReferenceIdeal.τ).loc Cert.PostReferenceIdeal.main_arg5))

def Claim : Prop :=
  ∃ (hMergeKernel : Cert.MergeKernel.Facts) (hMergeKernelIdeal : Cert.MergeKernelIdeal.Facts) (hMergeReferenceIdeal : Cert.MergeReferenceIdeal.Facts) (hDupKernel : Cert.DupKernel.Facts) (hDupKernelIdeal : Cert.DupKernelIdeal.Facts) (hDupReferenceIdeal : Cert.DupReferenceIdeal.Facts) (hGdownKernel : Cert.GdownKernel.Facts) (hGdownKernelIdeal : Cert.GdownKernelIdeal.Facts) (hGdownReferenceIdeal : Cert.GdownReferenceIdeal.Facts) (hDhTwoKernel : Cert.DhTwoKernel.Facts) (hDhTwoKernelIdeal : Cert.DhTwoKernelIdeal.Facts) (hDhTwoReferenceIdeal : Cert.DhTwoReferenceIdeal.Facts) (hGupKernel : Cert.GupKernel.Facts) (hGupKernelIdeal : Cert.GupKernelIdeal.Facts) (hGupReferenceIdeal : Cert.GupReferenceIdeal.Facts) (hDmergedKernel : Cert.DmergedKernel.Facts) (hDmergedKernelIdeal : Cert.DmergedKernelIdeal.Facts) (hDmergedReferenceIdeal : Cert.DmergedReferenceIdeal.Facts) (hGoutKernel : Cert.GoutKernel.Facts) (hGoutKernelIdeal : Cert.GoutKernelIdeal.Facts) (hGoutReferenceIdeal : Cert.GoutReferenceIdeal.Facts) (hDyKernel : Cert.DyKernel.Facts) (hDyKernelIdeal : Cert.DyKernelIdeal.Facts) (hDyReferenceIdeal : Cert.DyReferenceIdeal.Facts) (hGbranchKernel : Cert.GbranchKernel.Facts) (hGbranchKernelIdeal : Cert.GbranchKernelIdeal.Facts) (hGbranchReferenceIdeal : Cert.GbranchReferenceIdeal.Facts) (hGinKernel : Cert.GinKernel.Facts) (hGinKernelIdeal : Cert.GinKernelIdeal.Facts) (hGinReferenceIdeal : Cert.GinReferenceIdeal.Facts) (hDhKernel : Cert.DhKernel.Facts) (hDhKernelIdeal : Cert.DhKernelIdeal.Facts) (hDhReferenceIdeal : Cert.DhReferenceIdeal.Facts) (hProjKernel : Cert.ProjKernel.Facts) (hProjKernelIdeal : Cert.ProjKernelIdeal.Facts) (hProjReferenceIdeal : Cert.ProjReferenceIdeal.Facts) (hBranchKernel : Cert.BranchKernel.Facts) (hBranchKernelIdeal : Cert.BranchKernelIdeal.Facts) (hBranchReferenceIdeal : Cert.BranchReferenceIdeal.Facts) (hOutKernel : Cert.OutKernel.Facts) (hOutKernelIdeal : Cert.OutKernelIdeal.Facts) (hOutReferenceIdeal : Cert.OutReferenceIdeal.Facts) (hDownKernel : Cert.DownKernel.Facts) (hDownKernelIdeal : Cert.DownKernelIdeal.Facts) (hDownReferenceIdeal : Cert.DownReferenceIdeal.Facts) (hUpKernel : Cert.UpKernel.Facts) (hUpKernelIdeal : Cert.UpKernelIdeal.Facts) (hUpReferenceIdeal : Cert.UpReferenceIdeal.Facts) (hLruKernel : Cert.LruKernel.Facts) (hLruKernelIdeal : Cert.LruKernelIdeal.Facts) (hLruReferenceIdeal : Cert.LruReferenceIdeal.Facts) (hDupZeroKernel : Cert.DupZeroKernel.Facts) (hDupZeroKernelIdeal : Cert.DupZeroKernelIdeal.Facts) (hGdownZeroKernel : Cert.GdownZeroKernel.Facts) (hGdownZeroKernelIdeal : Cert.GdownZeroKernelIdeal.Facts) (hDhTwoZeroKernel : Cert.DhTwoZeroKernel.Facts) (hDhTwoZeroKernelIdeal : Cert.DhTwoZeroKernelIdeal.Facts) (hGupZeroKernel : Cert.GupZeroKernel.Facts) (hGupZeroKernelIdeal : Cert.GupZeroKernelIdeal.Facts) (hDmergedZeroKernel : Cert.DmergedZeroKernel.Facts) (hDmergedZeroKernelIdeal : Cert.DmergedZeroKernelIdeal.Facts) (hGoutZeroKernel : Cert.GoutZeroKernel.Facts) (hGoutZeroKernelIdeal : Cert.GoutZeroKernelIdeal.Facts) (hDyZeroKernel : Cert.DyZeroKernel.Facts) (hDyZeroKernelIdeal : Cert.DyZeroKernelIdeal.Facts) (hGbranchZeroKernel : Cert.GbranchZeroKernel.Facts) (hGbranchZeroKernelIdeal : Cert.GbranchZeroKernelIdeal.Facts) (hGinZeroKernel : Cert.GinZeroKernel.Facts) (hGinZeroKernelIdeal : Cert.GinZeroKernelIdeal.Facts) (hBranchZeroKernel : Cert.BranchZeroKernel.Facts) (hBranchZeroKernelIdeal : Cert.BranchZeroKernelIdeal.Facts) (hOutZeroKernel : Cert.OutZeroKernel.Facts) (hOutZeroKernelIdeal : Cert.OutZeroKernelIdeal.Facts) (hDownZeroKernel : Cert.DownZeroKernel.Facts) (hDownZeroKernelIdeal : Cert.DownZeroKernelIdeal.Facts) (hUpZeroKernel : Cert.UpZeroKernel.Facts) (hUpZeroKernelIdeal : Cert.UpZeroKernelIdeal.Facts) (hPreBKernel : Cert.PreBKernel.Facts) (hPreBKernelIdeal : Cert.PreBKernelIdeal.Facts) (hPreBReferenceIdeal : Cert.PreBReferenceIdeal.Facts) (hPostBKernel : Cert.PostBKernel.Facts) (hPostBKernelIdeal : Cert.PostBKernelIdeal.Facts) (hPostBReferenceIdeal : Cert.PostBReferenceIdeal.Facts) (hPostBZeroKernel : Cert.PostBZeroKernel.Facts) (hPostBZeroKernelIdeal : Cert.PostBZeroKernelIdeal.Facts) (hResPreBZeroKernel : Cert.ResPreBZeroKernel.Facts) (hResPreBZeroKernelIdeal : Cert.ResPreBZeroKernelIdeal.Facts) (hResBKernel : Cert.ResBKernel.Facts) (hResBKernelIdeal : Cert.ResBKernelIdeal.Facts) (hResBReferenceIdeal : Cert.ResBReferenceIdeal.Facts) (hPostKernel : Cert.PostKernel.Facts) (hPostKernelIdeal : Cert.PostKernelIdeal.Facts) (hPostReferenceIdeal : Cert.PostReferenceIdeal.Facts) (hResKernel : Cert.ResKernel.Facts) (hResKernelIdeal : Cert.ResKernelIdeal.Facts) (hResReferenceIdeal : Cert.ResReferenceIdeal.Facts) (hAdamAdaKernel : Cert.AdamAdaKernel.Facts) (hAdamAdaKernelIdeal : Cert.AdamAdaKernelIdeal.Facts) (hAdamAdaReferenceIdeal : Cert.AdamAdaReferenceIdeal.Facts) (hAdamUpKernel : Cert.AdamUpKernel.Facts) (hAdamUpKernelIdeal : Cert.AdamUpKernelIdeal.Facts) (hAdamUpReferenceIdeal : Cert.AdamUpReferenceIdeal.Facts) (hAdamDownKernel : Cert.AdamDownKernel.Facts) (hAdamDownKernelIdeal : Cert.AdamDownKernelIdeal.Facts) (hAdamDownReferenceIdeal : Cert.AdamDownReferenceIdeal.Facts) (hAdamInKernel : Cert.AdamInKernel.Facts) (hAdamInKernelIdeal : Cert.AdamInKernelIdeal.Facts) (hAdamInReferenceIdeal : Cert.AdamInReferenceIdeal.Facts) (hAdamBranchKernel : Cert.AdamBranchKernel.Facts) (hAdamBranchKernelIdeal : Cert.AdamBranchKernelIdeal.Facts) (hAdamBranchReferenceIdeal : Cert.AdamBranchReferenceIdeal.Facts) (hAdamOutKernel : Cert.AdamOutKernel.Facts) (hAdamOutKernelIdeal : Cert.AdamOutKernelIdeal.Facts) (hAdamOutReferenceIdeal : Cert.AdamOutReferenceIdeal.Facts) (hMergeFKernel : Cert.MergeFKernel.Facts) (hMergeFKernelIdeal : Cert.MergeFKernelIdeal.Facts) (hMergeFReferenceIdeal : Cert.MergeFReferenceIdeal.Facts) (hLossHeadKernel : Cert.LossHeadKernel.Facts) (hLossHeadKernelIdeal : Cert.LossHeadKernelIdeal.Facts) (hLossHeadReferenceIdeal : Cert.LossHeadReferenceIdeal.Facts) (hAdamSmallKernel : Cert.AdamSmallKernel.Facts) (hAdamSmallKernelIdeal : Cert.AdamSmallKernelIdeal.Facts) (hAdamSmallReferenceIdeal : Cert.AdamSmallReferenceIdeal.Facts) (hMergeZeroKernel : Cert.MergeZeroKernel.Facts) (hMergeZeroKernelIdeal : Cert.MergeZeroKernelIdeal.Facts) (hPostZeroKernel : Cert.PostZeroKernel.Facts) (hPostZeroKernelIdeal : Cert.PostZeroKernelIdeal.Facts) (hResPreZeroKernel : Cert.ResPreZeroKernel.Facts) (hResPreZeroKernelIdeal : Cert.ResPreZeroKernelIdeal.Facts),
    quiescent_MergeKernel (hMergeKernel := hMergeKernel)
    ∧ quiescent_MergeKernelIdeal (hMergeKernelIdeal := hMergeKernelIdeal)
    ∧ quiescent_MergeReferenceIdeal (hMergeReferenceIdeal := hMergeReferenceIdeal)
    ∧ quiescent_DupKernel (hDupKernel := hDupKernel)
    ∧ quiescent_DupKernelIdeal (hDupKernelIdeal := hDupKernelIdeal)
    ∧ quiescent_DupReferenceIdeal (hDupReferenceIdeal := hDupReferenceIdeal)
    ∧ quiescent_GdownKernel (hGdownKernel := hGdownKernel)
    ∧ quiescent_GdownKernelIdeal (hGdownKernelIdeal := hGdownKernelIdeal)
    ∧ quiescent_GdownReferenceIdeal (hGdownReferenceIdeal := hGdownReferenceIdeal)
    ∧ quiescent_DhTwoKernel (hDhTwoKernel := hDhTwoKernel)
    ∧ quiescent_DhTwoKernelIdeal (hDhTwoKernelIdeal := hDhTwoKernelIdeal)
    ∧ quiescent_DhTwoReferenceIdeal (hDhTwoReferenceIdeal := hDhTwoReferenceIdeal)
    ∧ quiescent_GupKernel (hGupKernel := hGupKernel)
    ∧ quiescent_GupKernelIdeal (hGupKernelIdeal := hGupKernelIdeal)
    ∧ quiescent_GupReferenceIdeal (hGupReferenceIdeal := hGupReferenceIdeal)
    ∧ quiescent_DmergedKernel (hDmergedKernel := hDmergedKernel)
    ∧ quiescent_DmergedKernelIdeal (hDmergedKernelIdeal := hDmergedKernelIdeal)
    ∧ quiescent_DmergedReferenceIdeal (hDmergedReferenceIdeal := hDmergedReferenceIdeal)
    ∧ quiescent_GoutKernel (hGoutKernel := hGoutKernel)
    ∧ quiescent_GoutKernelIdeal (hGoutKernelIdeal := hGoutKernelIdeal)
    ∧ quiescent_GoutReferenceIdeal (hGoutReferenceIdeal := hGoutReferenceIdeal)
    ∧ quiescent_DyKernel (hDyKernel := hDyKernel)
    ∧ quiescent_DyKernelIdeal (hDyKernelIdeal := hDyKernelIdeal)
    ∧ quiescent_DyReferenceIdeal (hDyReferenceIdeal := hDyReferenceIdeal)
    ∧ quiescent_GbranchKernel (hGbranchKernel := hGbranchKernel)
    ∧ quiescent_GbranchKernelIdeal (hGbranchKernelIdeal := hGbranchKernelIdeal)
    ∧ quiescent_GbranchReferenceIdeal (hGbranchReferenceIdeal := hGbranchReferenceIdeal)
    ∧ quiescent_GinKernel (hGinKernel := hGinKernel)
    ∧ quiescent_GinKernelIdeal (hGinKernelIdeal := hGinKernelIdeal)
    ∧ quiescent_GinReferenceIdeal (hGinReferenceIdeal := hGinReferenceIdeal)
    ∧ quiescent_DhKernel (hDhKernel := hDhKernel)
    ∧ quiescent_DhKernelIdeal (hDhKernelIdeal := hDhKernelIdeal)
    ∧ quiescent_DhReferenceIdeal (hDhReferenceIdeal := hDhReferenceIdeal)
    ∧ quiescent_ProjKernel (hProjKernel := hProjKernel)
    ∧ quiescent_ProjKernelIdeal (hProjKernelIdeal := hProjKernelIdeal)
    ∧ quiescent_ProjReferenceIdeal (hProjReferenceIdeal := hProjReferenceIdeal)
    ∧ quiescent_BranchKernel (hBranchKernel := hBranchKernel)
    ∧ quiescent_BranchKernelIdeal (hBranchKernelIdeal := hBranchKernelIdeal)
    ∧ quiescent_BranchReferenceIdeal (hBranchReferenceIdeal := hBranchReferenceIdeal)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_DownKernel (hDownKernel := hDownKernel)
    ∧ quiescent_DownKernelIdeal (hDownKernelIdeal := hDownKernelIdeal)
    ∧ quiescent_DownReferenceIdeal (hDownReferenceIdeal := hDownReferenceIdeal)
    ∧ quiescent_UpKernel (hUpKernel := hUpKernel)
    ∧ quiescent_UpKernelIdeal (hUpKernelIdeal := hUpKernelIdeal)
    ∧ quiescent_UpReferenceIdeal (hUpReferenceIdeal := hUpReferenceIdeal)
    ∧ quiescent_LruKernel (hLruKernel := hLruKernel)
    ∧ quiescent_LruKernelIdeal (hLruKernelIdeal := hLruKernelIdeal)
    ∧ quiescent_LruReferenceIdeal (hLruReferenceIdeal := hLruReferenceIdeal)
    ∧ quiescent_DupZeroKernel (hDupZeroKernel := hDupZeroKernel)
    ∧ quiescent_DupZeroKernelIdeal (hDupZeroKernelIdeal := hDupZeroKernelIdeal)
    ∧ quiescent_GdownZeroKernel (hGdownZeroKernel := hGdownZeroKernel)
    ∧ quiescent_GdownZeroKernelIdeal (hGdownZeroKernelIdeal := hGdownZeroKernelIdeal)
    ∧ quiescent_DhTwoZeroKernel (hDhTwoZeroKernel := hDhTwoZeroKernel)
    ∧ quiescent_DhTwoZeroKernelIdeal (hDhTwoZeroKernelIdeal := hDhTwoZeroKernelIdeal)
    ∧ quiescent_GupZeroKernel (hGupZeroKernel := hGupZeroKernel)
    ∧ quiescent_GupZeroKernelIdeal (hGupZeroKernelIdeal := hGupZeroKernelIdeal)
    ∧ quiescent_DmergedZeroKernel (hDmergedZeroKernel := hDmergedZeroKernel)
    ∧ quiescent_DmergedZeroKernelIdeal (hDmergedZeroKernelIdeal := hDmergedZeroKernelIdeal)
    ∧ quiescent_GoutZeroKernel (hGoutZeroKernel := hGoutZeroKernel)
    ∧ quiescent_GoutZeroKernelIdeal (hGoutZeroKernelIdeal := hGoutZeroKernelIdeal)
    ∧ quiescent_DyZeroKernel (hDyZeroKernel := hDyZeroKernel)
    ∧ quiescent_DyZeroKernelIdeal (hDyZeroKernelIdeal := hDyZeroKernelIdeal)
    ∧ quiescent_GbranchZeroKernel (hGbranchZeroKernel := hGbranchZeroKernel)
    ∧ quiescent_GbranchZeroKernelIdeal (hGbranchZeroKernelIdeal := hGbranchZeroKernelIdeal)
    ∧ quiescent_GinZeroKernel (hGinZeroKernel := hGinZeroKernel)
    ∧ quiescent_GinZeroKernelIdeal (hGinZeroKernelIdeal := hGinZeroKernelIdeal)
    ∧ quiescent_BranchZeroKernel (hBranchZeroKernel := hBranchZeroKernel)
    ∧ quiescent_BranchZeroKernelIdeal (hBranchZeroKernelIdeal := hBranchZeroKernelIdeal)
    ∧ quiescent_OutZeroKernel (hOutZeroKernel := hOutZeroKernel)
    ∧ quiescent_OutZeroKernelIdeal (hOutZeroKernelIdeal := hOutZeroKernelIdeal)
    ∧ quiescent_DownZeroKernel (hDownZeroKernel := hDownZeroKernel)
    ∧ quiescent_DownZeroKernelIdeal (hDownZeroKernelIdeal := hDownZeroKernelIdeal)
    ∧ quiescent_UpZeroKernel (hUpZeroKernel := hUpZeroKernel)
    ∧ quiescent_UpZeroKernelIdeal (hUpZeroKernelIdeal := hUpZeroKernelIdeal)
    ∧ quiescent_PreBKernel (hPreBKernel := hPreBKernel)
    ∧ quiescent_PreBKernelIdeal (hPreBKernelIdeal := hPreBKernelIdeal)
    ∧ quiescent_PreBReferenceIdeal (hPreBReferenceIdeal := hPreBReferenceIdeal)
    ∧ quiescent_PostBKernel (hPostBKernel := hPostBKernel)
    ∧ quiescent_PostBKernelIdeal (hPostBKernelIdeal := hPostBKernelIdeal)
    ∧ quiescent_PostBReferenceIdeal (hPostBReferenceIdeal := hPostBReferenceIdeal)
    ∧ quiescent_PostBZeroKernel (hPostBZeroKernel := hPostBZeroKernel)
    ∧ quiescent_PostBZeroKernelIdeal (hPostBZeroKernelIdeal := hPostBZeroKernelIdeal)
    ∧ quiescent_ResPreBZeroKernel (hResPreBZeroKernel := hResPreBZeroKernel)
    ∧ quiescent_ResPreBZeroKernelIdeal (hResPreBZeroKernelIdeal := hResPreBZeroKernelIdeal)
    ∧ quiescent_ResBKernel (hResBKernel := hResBKernel)
    ∧ quiescent_ResBKernelIdeal (hResBKernelIdeal := hResBKernelIdeal)
    ∧ quiescent_ResBReferenceIdeal (hResBReferenceIdeal := hResBReferenceIdeal)
    ∧ quiescent_PostKernel (hPostKernel := hPostKernel)
    ∧ quiescent_PostKernelIdeal (hPostKernelIdeal := hPostKernelIdeal)
    ∧ quiescent_PostReferenceIdeal (hPostReferenceIdeal := hPostReferenceIdeal)
    ∧ quiescent_ResKernel (hResKernel := hResKernel)
    ∧ quiescent_ResKernelIdeal (hResKernelIdeal := hResKernelIdeal)
    ∧ quiescent_ResReferenceIdeal (hResReferenceIdeal := hResReferenceIdeal)
    ∧ quiescent_AdamAdaKernel (hAdamAdaKernel := hAdamAdaKernel)
    ∧ quiescent_AdamAdaKernelIdeal (hAdamAdaKernelIdeal := hAdamAdaKernelIdeal)
    ∧ quiescent_AdamAdaReferenceIdeal (hAdamAdaReferenceIdeal := hAdamAdaReferenceIdeal)
    ∧ quiescent_AdamUpKernel (hAdamUpKernel := hAdamUpKernel)
    ∧ quiescent_AdamUpKernelIdeal (hAdamUpKernelIdeal := hAdamUpKernelIdeal)
    ∧ quiescent_AdamUpReferenceIdeal (hAdamUpReferenceIdeal := hAdamUpReferenceIdeal)
    ∧ quiescent_AdamDownKernel (hAdamDownKernel := hAdamDownKernel)
    ∧ quiescent_AdamDownKernelIdeal (hAdamDownKernelIdeal := hAdamDownKernelIdeal)
    ∧ quiescent_AdamDownReferenceIdeal (hAdamDownReferenceIdeal := hAdamDownReferenceIdeal)
    ∧ quiescent_AdamInKernel (hAdamInKernel := hAdamInKernel)
    ∧ quiescent_AdamInKernelIdeal (hAdamInKernelIdeal := hAdamInKernelIdeal)
    ∧ quiescent_AdamInReferenceIdeal (hAdamInReferenceIdeal := hAdamInReferenceIdeal)
    ∧ quiescent_AdamBranchKernel (hAdamBranchKernel := hAdamBranchKernel)
    ∧ quiescent_AdamBranchKernelIdeal (hAdamBranchKernelIdeal := hAdamBranchKernelIdeal)
    ∧ quiescent_AdamBranchReferenceIdeal (hAdamBranchReferenceIdeal := hAdamBranchReferenceIdeal)
    ∧ quiescent_AdamOutKernel (hAdamOutKernel := hAdamOutKernel)
    ∧ quiescent_AdamOutKernelIdeal (hAdamOutKernelIdeal := hAdamOutKernelIdeal)
    ∧ quiescent_AdamOutReferenceIdeal (hAdamOutReferenceIdeal := hAdamOutReferenceIdeal)
    ∧ quiescent_MergeFKernel (hMergeFKernel := hMergeFKernel)
    ∧ quiescent_MergeFKernelIdeal (hMergeFKernelIdeal := hMergeFKernelIdeal)
    ∧ quiescent_MergeFReferenceIdeal (hMergeFReferenceIdeal := hMergeFReferenceIdeal)
    ∧ quiescent_LossHeadKernel (hLossHeadKernel := hLossHeadKernel)
    ∧ quiescent_LossHeadKernelIdeal (hLossHeadKernelIdeal := hLossHeadKernelIdeal)
    ∧ quiescent_LossHeadReferenceIdeal (hLossHeadReferenceIdeal := hLossHeadReferenceIdeal)
    ∧ quiescent_AdamSmallKernel (hAdamSmallKernel := hAdamSmallKernel)
    ∧ quiescent_AdamSmallKernelIdeal (hAdamSmallKernelIdeal := hAdamSmallKernelIdeal)
    ∧ quiescent_AdamSmallReferenceIdeal (hAdamSmallReferenceIdeal := hAdamSmallReferenceIdeal)
    ∧ quiescent_MergeZeroKernel (hMergeZeroKernel := hMergeZeroKernel)
    ∧ quiescent_MergeZeroKernelIdeal (hMergeZeroKernelIdeal := hMergeZeroKernelIdeal)
    ∧ quiescent_PostZeroKernel (hPostZeroKernel := hPostZeroKernel)
    ∧ quiescent_PostZeroKernelIdeal (hPostZeroKernelIdeal := hPostZeroKernelIdeal)
    ∧ quiescent_ResPreZeroKernel (hResPreZeroKernel := hResPreZeroKernel)
    ∧ quiescent_ResPreZeroKernelIdeal (hResPreZeroKernelIdeal := hResPreZeroKernelIdeal)
    ∧ preserves_MergeKernel_MergeKernelIdeal
    ∧ algebraic_MergeKernelIdeal_MergeReferenceIdeal (hMergeKernelIdeal := hMergeKernelIdeal) (hMergeReferenceIdeal := hMergeReferenceIdeal)
    ∧ preserves_DupKernel_DupKernelIdeal
    ∧ algebraic_DupKernelIdeal_DupReferenceIdeal (hDupKernelIdeal := hDupKernelIdeal) (hDupReferenceIdeal := hDupReferenceIdeal)
    ∧ preserves_GdownKernel_GdownKernelIdeal
    ∧ algebraic_GdownKernelIdeal_GdownReferenceIdeal (hGdownKernelIdeal := hGdownKernelIdeal) (hGdownReferenceIdeal := hGdownReferenceIdeal)
    ∧ preserves_DhTwoKernel_DhTwoKernelIdeal
    ∧ algebraic_DhTwoKernelIdeal_DhTwoReferenceIdeal (hDhTwoKernelIdeal := hDhTwoKernelIdeal) (hDhTwoReferenceIdeal := hDhTwoReferenceIdeal)
    ∧ preserves_GupKernel_GupKernelIdeal
    ∧ algebraic_GupKernelIdeal_GupReferenceIdeal (hGupKernelIdeal := hGupKernelIdeal) (hGupReferenceIdeal := hGupReferenceIdeal)
    ∧ preserves_DmergedKernel_DmergedKernelIdeal
    ∧ algebraic_DmergedKernelIdeal_DmergedReferenceIdeal (hDmergedKernelIdeal := hDmergedKernelIdeal) (hDmergedReferenceIdeal := hDmergedReferenceIdeal)
    ∧ preserves_GoutKernel_GoutKernelIdeal
    ∧ algebraic_GoutKernelIdeal_GoutReferenceIdeal (hGoutKernelIdeal := hGoutKernelIdeal) (hGoutReferenceIdeal := hGoutReferenceIdeal)
    ∧ preserves_DyKernel_DyKernelIdeal
    ∧ algebraic_DyKernelIdeal_DyReferenceIdeal (hDyKernelIdeal := hDyKernelIdeal) (hDyReferenceIdeal := hDyReferenceIdeal)
    ∧ preserves_GbranchKernel_GbranchKernelIdeal
    ∧ algebraic_GbranchKernelIdeal_GbranchReferenceIdeal (hGbranchKernelIdeal := hGbranchKernelIdeal) (hGbranchReferenceIdeal := hGbranchReferenceIdeal)
    ∧ preserves_GinKernel_GinKernelIdeal
    ∧ algebraic_GinKernelIdeal_GinReferenceIdeal (hGinKernelIdeal := hGinKernelIdeal) (hGinReferenceIdeal := hGinReferenceIdeal)
    ∧ preserves_DhKernel_DhKernelIdeal
    ∧ algebraic_DhKernelIdeal_DhReferenceIdeal (hDhKernelIdeal := hDhKernelIdeal) (hDhReferenceIdeal := hDhReferenceIdeal)
    ∧ preserves_ProjKernel_ProjKernelIdeal
    ∧ algebraic_ProjKernelIdeal_ProjReferenceIdeal (hProjKernelIdeal := hProjKernelIdeal) (hProjReferenceIdeal := hProjReferenceIdeal)
    ∧ preserves_BranchKernel_BranchKernelIdeal
    ∧ algebraic_BranchKernelIdeal_BranchReferenceIdeal (hBranchKernelIdeal := hBranchKernelIdeal) (hBranchReferenceIdeal := hBranchReferenceIdeal)
    ∧ preserves_OutKernel_OutKernelIdeal
    ∧ algebraic_OutKernelIdeal_OutReferenceIdeal (hOutKernelIdeal := hOutKernelIdeal) (hOutReferenceIdeal := hOutReferenceIdeal)
    ∧ preserves_DownKernel_DownKernelIdeal
    ∧ algebraic_DownKernelIdeal_DownReferenceIdeal (hDownKernelIdeal := hDownKernelIdeal) (hDownReferenceIdeal := hDownReferenceIdeal)
    ∧ preserves_UpKernel_UpKernelIdeal
    ∧ algebraic_UpKernelIdeal_UpReferenceIdeal (hUpKernelIdeal := hUpKernelIdeal) (hUpReferenceIdeal := hUpReferenceIdeal)
    ∧ preserves_LruKernel_LruKernelIdeal
    ∧ algebraic_LruKernelIdeal_LruReferenceIdeal (hLruKernelIdeal := hLruKernelIdeal) (hLruReferenceIdeal := hLruReferenceIdeal)
    ∧ preserves_DupZeroKernel_DupZeroKernelIdeal
    ∧ algebraic_DupZeroKernelIdeal_DupReferenceIdeal (hDupZeroKernelIdeal := hDupZeroKernelIdeal) (hDupReferenceIdeal := hDupReferenceIdeal)
    ∧ preserves_GdownZeroKernel_GdownZeroKernelIdeal
    ∧ algebraic_GdownZeroKernelIdeal_GdownReferenceIdeal (hGdownZeroKernelIdeal := hGdownZeroKernelIdeal) (hGdownReferenceIdeal := hGdownReferenceIdeal)
    ∧ preserves_DhTwoZeroKernel_DhTwoZeroKernelIdeal
    ∧ algebraic_DhTwoZeroKernelIdeal_DhTwoReferenceIdeal (hDhTwoZeroKernelIdeal := hDhTwoZeroKernelIdeal) (hDhTwoReferenceIdeal := hDhTwoReferenceIdeal)
    ∧ preserves_GupZeroKernel_GupZeroKernelIdeal
    ∧ algebraic_GupZeroKernelIdeal_GupReferenceIdeal (hGupZeroKernelIdeal := hGupZeroKernelIdeal) (hGupReferenceIdeal := hGupReferenceIdeal)
    ∧ preserves_DmergedZeroKernel_DmergedZeroKernelIdeal
    ∧ algebraic_DmergedZeroKernelIdeal_DmergedReferenceIdeal (hDmergedZeroKernelIdeal := hDmergedZeroKernelIdeal) (hDmergedReferenceIdeal := hDmergedReferenceIdeal)
    ∧ preserves_GoutZeroKernel_GoutZeroKernelIdeal
    ∧ algebraic_GoutZeroKernelIdeal_GoutReferenceIdeal (hGoutZeroKernelIdeal := hGoutZeroKernelIdeal) (hGoutReferenceIdeal := hGoutReferenceIdeal)
    ∧ preserves_DyZeroKernel_DyZeroKernelIdeal
    ∧ algebraic_DyZeroKernelIdeal_DyReferenceIdeal (hDyZeroKernelIdeal := hDyZeroKernelIdeal) (hDyReferenceIdeal := hDyReferenceIdeal)
    ∧ preserves_GbranchZeroKernel_GbranchZeroKernelIdeal
    ∧ algebraic_GbranchZeroKernelIdeal_GbranchReferenceIdeal (hGbranchZeroKernelIdeal := hGbranchZeroKernelIdeal) (hGbranchReferenceIdeal := hGbranchReferenceIdeal)
    ∧ preserves_GinZeroKernel_GinZeroKernelIdeal
    ∧ algebraic_GinZeroKernelIdeal_GinReferenceIdeal (hGinZeroKernelIdeal := hGinZeroKernelIdeal) (hGinReferenceIdeal := hGinReferenceIdeal)
    ∧ preserves_BranchZeroKernel_BranchZeroKernelIdeal
    ∧ algebraic_BranchZeroKernelIdeal_BranchReferenceIdeal (hBranchZeroKernelIdeal := hBranchZeroKernelIdeal) (hBranchReferenceIdeal := hBranchReferenceIdeal)
    ∧ preserves_OutZeroKernel_OutZeroKernelIdeal
    ∧ algebraic_OutZeroKernelIdeal_OutReferenceIdeal (hOutZeroKernelIdeal := hOutZeroKernelIdeal) (hOutReferenceIdeal := hOutReferenceIdeal)
    ∧ preserves_DownZeroKernel_DownZeroKernelIdeal
    ∧ algebraic_DownZeroKernelIdeal_DownReferenceIdeal (hDownZeroKernelIdeal := hDownZeroKernelIdeal) (hDownReferenceIdeal := hDownReferenceIdeal)
    ∧ preserves_UpZeroKernel_UpZeroKernelIdeal
    ∧ algebraic_UpZeroKernelIdeal_UpReferenceIdeal (hUpZeroKernelIdeal := hUpZeroKernelIdeal) (hUpReferenceIdeal := hUpReferenceIdeal)
    ∧ preserves_PreBKernel_PreBKernelIdeal
    ∧ algebraic_PreBKernelIdeal_PreBReferenceIdeal (hPreBKernelIdeal := hPreBKernelIdeal) (hPreBReferenceIdeal := hPreBReferenceIdeal)
    ∧ preserves_PostBKernel_PostBKernelIdeal
    ∧ algebraic_PostBKernelIdeal_PostBReferenceIdeal (hPostBKernelIdeal := hPostBKernelIdeal) (hPostBReferenceIdeal := hPostBReferenceIdeal)
    ∧ preserves_PostBZeroKernel_PostBZeroKernelIdeal
    ∧ algebraic_PostBZeroKernelIdeal_PostBReferenceIdeal (hPostBZeroKernelIdeal := hPostBZeroKernelIdeal) (hPostBReferenceIdeal := hPostBReferenceIdeal)
    ∧ preserves_ResPreBZeroKernel_ResPreBZeroKernelIdeal
    ∧ algebraic_ResPreBZeroKernelIdeal_PostBReferenceIdeal (hResPreBZeroKernelIdeal := hResPreBZeroKernelIdeal) (hPostBReferenceIdeal := hPostBReferenceIdeal)
    ∧ preserves_ResBKernel_ResBKernelIdeal
    ∧ algebraic_ResBKernelIdeal_ResBReferenceIdeal (hResBKernelIdeal := hResBKernelIdeal) (hResBReferenceIdeal := hResBReferenceIdeal)
    ∧ preserves_PostKernel_PostKernelIdeal
    ∧ algebraic_PostKernelIdeal_PostReferenceIdeal (hPostKernelIdeal := hPostKernelIdeal) (hPostReferenceIdeal := hPostReferenceIdeal)
    ∧ preserves_ResKernel_ResKernelIdeal
    ∧ algebraic_ResKernelIdeal_ResReferenceIdeal (hResKernelIdeal := hResKernelIdeal) (hResReferenceIdeal := hResReferenceIdeal)
    ∧ preserves_AdamAdaKernel_AdamAdaKernelIdeal
    ∧ algebraic_AdamAdaKernelIdeal_AdamAdaReferenceIdeal (hAdamAdaKernelIdeal := hAdamAdaKernelIdeal) (hAdamAdaReferenceIdeal := hAdamAdaReferenceIdeal)
    ∧ preserves_AdamUpKernel_AdamUpKernelIdeal
    ∧ algebraic_AdamUpKernelIdeal_AdamUpReferenceIdeal (hAdamUpKernelIdeal := hAdamUpKernelIdeal) (hAdamUpReferenceIdeal := hAdamUpReferenceIdeal)
    ∧ preserves_AdamDownKernel_AdamDownKernelIdeal
    ∧ algebraic_AdamDownKernelIdeal_AdamDownReferenceIdeal (hAdamDownKernelIdeal := hAdamDownKernelIdeal) (hAdamDownReferenceIdeal := hAdamDownReferenceIdeal)
    ∧ preserves_AdamInKernel_AdamInKernelIdeal
    ∧ algebraic_AdamInKernelIdeal_AdamInReferenceIdeal (hAdamInKernelIdeal := hAdamInKernelIdeal) (hAdamInReferenceIdeal := hAdamInReferenceIdeal)
    ∧ preserves_AdamBranchKernel_AdamBranchKernelIdeal
    ∧ algebraic_AdamBranchKernelIdeal_AdamBranchReferenceIdeal (hAdamBranchKernelIdeal := hAdamBranchKernelIdeal) (hAdamBranchReferenceIdeal := hAdamBranchReferenceIdeal)
    ∧ preserves_AdamOutKernel_AdamOutKernelIdeal
    ∧ algebraic_AdamOutKernelIdeal_AdamOutReferenceIdeal (hAdamOutKernelIdeal := hAdamOutKernelIdeal) (hAdamOutReferenceIdeal := hAdamOutReferenceIdeal)
    ∧ preserves_MergeFKernel_MergeFKernelIdeal
    ∧ algebraic_MergeFKernelIdeal_MergeFReferenceIdeal (hMergeFKernelIdeal := hMergeFKernelIdeal) (hMergeFReferenceIdeal := hMergeFReferenceIdeal)
    ∧ preserves_LossHeadKernel_LossHeadKernelIdeal
    ∧ algebraic_LossHeadKernelIdeal_LossHeadReferenceIdeal (hLossHeadKernelIdeal := hLossHeadKernelIdeal) (hLossHeadReferenceIdeal := hLossHeadReferenceIdeal)
    ∧ preserves_AdamSmallKernel_AdamSmallKernelIdeal
    ∧ algebraic_AdamSmallKernelIdeal_AdamSmallReferenceIdeal (hAdamSmallKernelIdeal := hAdamSmallKernelIdeal) (hAdamSmallReferenceIdeal := hAdamSmallReferenceIdeal)
    ∧ preserves_MergeZeroKernel_MergeZeroKernelIdeal
    ∧ algebraic_MergeZeroKernelIdeal_MergeReferenceIdeal (hMergeZeroKernelIdeal := hMergeZeroKernelIdeal) (hMergeReferenceIdeal := hMergeReferenceIdeal)
    ∧ preserves_PostZeroKernel_PostZeroKernelIdeal
    ∧ algebraic_PostZeroKernelIdeal_PostReferenceIdeal (hPostZeroKernelIdeal := hPostZeroKernelIdeal) (hPostReferenceIdeal := hPostReferenceIdeal)
    ∧ preserves_ResPreZeroKernel_ResPreZeroKernelIdeal
    ∧ algebraic_ResPreZeroKernelIdeal_PostReferenceIdeal (hResPreZeroKernelIdeal := hResPreZeroKernelIdeal) (hPostReferenceIdeal := hPostReferenceIdeal)
-- ==== MergeKernel.lean ====
abbrev S8192x8192 : Shape := ⟨2, ![8192, 8192]⟩
abbrev S8192x1024 : Shape := ⟨2, ![8192, 1024]⟩
abbrev S256x1024 : Shape := ⟨2, ![256, 1024]⟩

abbrev nBuf : Space → Nat
  | .hbm => 11
  | .vmem => 26
  | .smem => 0
  | _ => 0

abbrev bufTy : (tb : Table) → Fin (tcTables nBuf tb) → BufTy
  | .hbm, ⟨0, _⟩ => ⟨S8192x8192, .f32⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .f32⟩
  | .hbm, ⟨5, _⟩ => ⟨S8192x1024, .bf16⟩
  | .hbm, ⟨6, _⟩ => ⟨S8192x1024, .bf16⟩
  | .hbm, ⟨7, _⟩ => ⟨S8192x1024, .bf16⟩
  | .hbm, ⟨8, _⟩ => ⟨S8192x1024, .bf16⟩
  | .hbm, ⟨9, _⟩ => ⟨S8192x1024, .bf16⟩
  | .hbm, ⟨10, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c2_i32 : BitVec 32 := 2#32
  let c0_i32 : BitVec 32 := 0#32
  ![v0.toNat, c2_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MergeReferenceIdeal.lean ====
abbrev S8192x8192 : Shape := ⟨2, ![8192, 8192]⟩
abbrev S8192x1024 : Shape := ⟨2, ![8192, 1024]⟩
abbrev S8192x3072 : Shape := ⟨2, ![8192, 3072]⟩
abbrev S8192x3x1024 : Shape := ⟨3, ![8192, 3, 1024]⟩
abbrev S_ : Shape := ⟨0, ![]⟩
abbrev S8192x1x1024 : Shape := ⟨3, ![8192, 1, 1024]⟩

abbrev nBuf : Space → Nat
  | .hbm => 66
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .f32⟩
  | .hbm, ⟨5, _⟩ => ⟨S8192x3072, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x3x1024, .f32⟩
  | .hbm, ⟨10, _⟩ => ⟨S8192x3x1024, .f32⟩
  | .hbm, ⟨11, _⟩ => ⟨S8192x3x1024, .f32⟩
  | .hbm, ⟨12, _⟩ => ⟨S_, .f32⟩
  | .hbm, ⟨13, _⟩ => ⟨S8192x3x1024, .f32⟩
  | .hbm, ⟨14, _⟩ => ⟨S8192x3x1024, .f32⟩
  | .hbm, ⟨15, _⟩ => ⟨S_, .f32⟩
  | .hbm, ⟨16, _⟩ => ⟨S8192x3x1024, .f32⟩
  | .hbm, ⟨17, _⟩ => ⟨S8192x3x1024, .f32⟩
  | .hbm, ⟨18, _⟩ => ⟨S_, .f32⟩
  | .hbm, ⟨19, _⟩ => ⟨S8192x3x1024, .f32⟩
  | .hbm, ⟨20, _⟩ => ⟨S8192x3x1024, .f32⟩
  | .hbm, ⟨21, _⟩ => ⟨S8192x3x1024, .f32⟩
  | .hbm, ⟨22, _⟩ => ⟨S8192x1x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S8192x1x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1x1024, .f32⟩
  | .hbm, ⟨41, _⟩ => ⟨S_, .f32⟩
  | .hbm, ⟨42, _⟩ => ⟨S8192x3x1024, .f32⟩
  | .hbm, ⟨43, _⟩ => ⟨S8192x1024, .f32⟩
  | .hbm, ⟨44, _⟩ => ⟨S8192x1024, .f32⟩
  | .hbm, ⟨45, _⟩ => ⟨S8192x1x1024, .f32⟩
  | .hbm, ⟨46, _⟩ => ⟨S_, .f32⟩
  | .hbm, ⟨47, _⟩ => ⟨S8192x3x1024, .f32⟩
  | .hbm, ⟨48, _⟩ => ⟨S8192x3x1024, .f32⟩
  | .hbm, ⟨49, _⟩ => ⟨S8192x1024, .f32⟩
  | .hbm, ⟨50, _⟩ => ⟨S8192x1024, .f32⟩
  | .hbm, ⟨51, _⟩ => ⟨S8192x1x1024, .f32⟩
  | .hbm, ⟨52, _⟩ => ⟨S_, .f32⟩
  | .hbm, ⟨53, _⟩ => ⟨S8192x3x1024, .f32⟩
  | .hbm, ⟨54, _⟩ => ⟨S8192x3x1024, .f32⟩
  | .hbm, ⟨55, _⟩ => ⟨S8192x3x1024, .f32⟩
  | .hbm, ⟨56, _⟩ => ⟨S8192x3072, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .bf16⟩
  | .hbm, ⟨61, _⟩ => ⟨S8192x1024, .bf16⟩
  | .hbm, ⟨62, _⟩ => ⟨S8192x1024, .bf16⟩
  | .hbm, ⟨63, _⟩ => ⟨S8192x1024, .bf16⟩
  | .hbm, ⟨64, _⟩ => ⟨S8192x1024, .bf16⟩
  | .hbm, ⟨65, _⟩ => ⟨S8192x1024, .bf16⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_5 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩

abbrev nD : Nat := 1
abbrev τ : Topo := Topo.v7x

variable {F : FTy → Type} [FloatOps F]
-- ==== DupKernel.lean ====
abbrev S8192x1024 : Shape := ⟨2, ![8192, 1024]⟩
abbrev S4096x1024 : Shape := ⟨2, ![4096, 1024]⟩
abbrev S8192x4096 : Shape := ⟨2, ![8192, 4096]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S4096x1024, .bf16⟩
  | .hbm, ⟨2, _⟩ => ⟨S8192x4096, .bf16⟩
  | .hbm, ⟨3, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DupReferenceIdeal.lean ====
abbrev S8192x1024 : Shape := ⟨2, ![8192, 1024]⟩
abbrev S4096x1024 : Shape := ⟨2, ![4096, 1024]⟩
abbrev S8192x4096 : Shape := ⟨2, ![8192, 4096]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4096x1024, .bf16⟩
  | .hbm, ⟨2, _⟩ => ⟨S8192x4096, .bf16⟩
  | .hbm, ⟨3, _⟩ => ⟨S4096x1024, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .i1⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .f32⟩
  | .hbm, ⟨17, _⟩ => ⟨S8192x1024, .f32⟩
  | .hbm, ⟨18, _⟩ => ⟨S8192x1024, .f32⟩
  | .hbm, ⟨19, _⟩ => ⟨S8192x4096, .f32⟩
  | .hbm, ⟨20, _⟩ => ⟨S8192x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== GdownKernel.lean ====
abbrev S8192x4096 : Shape := ⟨2, ![8192, 4096]⟩
abbrev S8192x1024 : Shape := ⟨2, ![8192, 1024]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GdownReferenceIdeal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S8192x4096, .f32⟩
  | .hbm, ⟨3, _⟩ => ⟨S_, .f32⟩
  | .hbm, ⟨4, _⟩ => ⟨S4096x1024, .f32⟩
  | .hbm, ⟨5, _⟩ => ⟨S8192x1024, .f32⟩
  | .hbm, ⟨6, _⟩ => ⟨S8192x1024, .f32⟩
  | .hbm, ⟨7, _⟩ => ⟨S1024x4096, .f32⟩
  | .hbm, ⟨8, _⟩ => ⟨S4096x1024, .f32⟩
  | .hbm, ⟨9, _⟩ => ⟨S4096x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DhTwoKernel.lean ====
abbrev S8192x4096 : Shape := ⟨2, ![8192, 4096]⟩
abbrev S1024x4096 : Shape := ⟨2, ![1024, 4096]⟩
abbrev S8192x1024 : Shape := ⟨2, ![8192, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DhTwoReferenceIdeal.lean ====
abbrev S8192x4096 : Shape := ⟨2, ![8192, 4096]⟩
abbrev S1024x4096 : Shape := ⟨2, ![1024, 4096]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S_, .f32⟩
  | .hbm, ⟨3, _⟩ => ⟨S8192x1024, .f32⟩
  | .hbm, ⟨4, _⟩ => ⟨S1024x4096, .f32⟩
  | .hbm, ⟨5, _⟩ => ⟨S8192x4096, .f32⟩
  | .hbm, ⟨6, _⟩ => ⟨S8192x4096, .f32⟩
  | .hbm, ⟨7, _⟩ => ⟨S8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GupKernel.lean ====
abbrev S8192x1024 : Shape := ⟨2, ![8192, 1024]⟩
abbrev S8192x4096 : Shape := ⟨2, ![8192, 4096]⟩
abbrev S1024x4096 : Shape := ⟨2, ![1024, 4096]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S1024x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GupReferenceIdeal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S_, .f32⟩
  | .hbm, ⟨3, _⟩ => ⟨S1024x4096, .f32⟩
  | .hbm, ⟨4, _⟩ => ⟨S8192x1024, .f32⟩
  | .hbm, ⟨5, _⟩ => ⟨S8192x4096, .f32⟩
  | .hbm, ⟨6, _⟩ => ⟨S8192x4096, .f32⟩
  | .hbm, ⟨7, _⟩ => ⟨S4096x1024, .f32⟩
  | .hbm, ⟨8, _⟩ => ⟨S1024x4096, .f32⟩
  | .hbm, ⟨9, _⟩ => ⟨S1024x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DmergedKernel.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DmergedReferenceIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GoutKernel.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GoutReferenceIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DyKernel.lean ====
abbrev S8192x1024 : Shape := ⟨2, ![8192, 1024]⟩
abbrev S512x1024 : Shape := ⟨2, ![512, 1024]⟩
abbrev S8192x512 : Shape := ⟨2, ![8192, 512]⟩
abbrev S1024x1024 : Shape := ⟨2, ![1024, 1024]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S512x1024, .bf16⟩
  | .hbm, ⟨2, _⟩ => ⟨S8192x512, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .f32⟩
  | .local _ .vmem, ⟨4, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DyReferenceIdeal.lean ====
abbrev S8192x1024 : Shape := ⟨2, ![8192, 1024]⟩
abbrev S512x1024 : Shape := ⟨2, ![512, 1024]⟩
abbrev S_ : Shape := ⟨0, ![]⟩
abbrev S8192x512 : Shape := ⟨2, ![8192, 512]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S512x1024, .bf16⟩
  | .hbm, ⟨2, _⟩ => ⟨S_, .f32⟩
  | .hbm, ⟨3, _⟩ => ⟨S8192x512, .f32⟩
  | .hbm, ⟨4, _⟩ => ⟨S512x1024, .f32⟩
  | .hbm, ⟨5, _⟩ => ⟨S8192x1024, .f32⟩
  | .hbm, ⟨6, _⟩ => ⟨S8192x1024, .f32⟩
  | .hbm, ⟨7, _⟩ => ⟨S8192x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GbranchKernel.lean ====
abbrev S8192x512 : Shape := ⟨2, ![8192, 512]⟩
abbrev S8192x1024 : Shape := ⟨2, ![8192, 1024]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S512x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GbranchReferenceIdeal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S_, .f32⟩
  | .hbm, ⟨3, _⟩ => ⟨S512x1024, .f32⟩
  | .hbm, ⟨4, _⟩ => ⟨S8192x512, .f32⟩
  | .hbm, ⟨5, _⟩ => ⟨S8192x1024, .f32⟩
  | .hbm, ⟨6, _⟩ => ⟨S8192x1024, .f32⟩
  | .hbm, ⟨7, _⟩ => ⟨S1024x512, .f32⟩
  | .hbm, ⟨8, _⟩ => ⟨S512x1024, .f32⟩
  | .hbm, ⟨9, _⟩ => ⟨S512x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GinKernel.lean ====
abbrev S8192x1024 : Shape := ⟨2, ![8192, 1024]⟩
abbrev S8192x8192 : Shape := ⟨2, ![8192, 8192]⟩
abbrev S1024x8192 : Shape := ⟨2, ![1024, 8192]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x8192, .bf16⟩
  | .hbm, ⟨2, _⟩ => ⟨S1024x8192, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GinReferenceIdeal.lean ====
abbrev S8192x1024 : Shape := ⟨2, ![8192, 1024]⟩
abbrev S8192x8192 : Shape := ⟨2, ![8192, 8192]⟩
abbrev S_ : Shape := ⟨0, ![]⟩
abbrev S1024x8192 : Shape := ⟨2, ![1024, 8192]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x8192, .bf16⟩
  | .hbm, ⟨2, _⟩ => ⟨S_, .f32⟩
  | .hbm, ⟨3, _⟩ => ⟨S1024x8192, .f32⟩
  | .hbm, ⟨4, _⟩ => ⟨S8192x1024, .f32⟩
  | .hbm, ⟨5, _⟩ => ⟨S8192x8192, .f32⟩
  | .hbm, ⟨6, _⟩ => ⟨S8192x8192, .f32⟩
  | .hbm, ⟨7, _⟩ => ⟨S8192x1024, .f32⟩
  | .hbm, ⟨8, _⟩ => ⟨S1024x8192, .f32⟩
  | .hbm, ⟨9, _⟩ => ⟨S1024x8192, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DhKernel.lean ====
abbrev S8192x8192 : Shape := ⟨2, ![8192, 8192]⟩
abbrev S1024x8192 : Shape := ⟨2, ![1024, 8192]⟩
abbrev S8192x1024 : Shape := ⟨2, ![8192, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x8192, .bf16⟩
  | .hbm, ⟨1, _⟩ => ⟨S1024x8192, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DhReferenceIdeal.lean ====
abbrev S8192x8192 : Shape := ⟨2, ![8192, 8192]⟩
abbrev S1024x8192 : Shape := ⟨2, ![1024, 8192]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S1024x8192, .bf16⟩
  | .hbm, ⟨2, _⟩ => ⟨S_, .f32⟩
  | .hbm, ⟨3, _⟩ => ⟨S8192x1024, .f32⟩
  | .hbm, ⟨4, _⟩ => ⟨S1024x8192, .f32⟩
  | .hbm, ⟨5, _⟩ => ⟨S8192x8192, .f32⟩
  | .hbm, ⟨6, _⟩ => ⟨S8192x8192, .f32⟩
  | .hbm, ⟨7, _⟩ => ⟨S8192x1024, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== ProjKernel.lean ====
abbrev S8192x1024 : Shape := ⟨2, ![8192, 1024]⟩
abbrev S1024x8192 : Shape := ⟨2, ![1024, 8192]⟩
abbrev S8192x8192 : Shape := ⟨2, ![8192, 8192]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x8192, .bf16⟩
  | .hbm, ⟨2, _⟩ => ⟨S8192x8192, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjReferenceIdeal.lean ====
abbrev S8192x1024 : Shape := ⟨2, ![8192, 1024]⟩
abbrev S1024x8192 : Shape := ⟨2, ![1024, 8192]⟩
abbrev S8192x8192 : Shape := ⟨2, ![8192, 8192]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x8192, .bf16⟩
  | .hbm, ⟨2, _⟩ => ⟨S8192x1024, .f32⟩
  | .hbm, ⟨3, _⟩ => ⟨S1024x8192, .f32⟩
  | .hbm, ⟨4, _⟩ => ⟨S8192x8192, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== BranchKernel.lean ====
abbrev S8192x512 : Shape := ⟨2, ![8192, 512]⟩
abbrev S512x1024 : Shape := ⟨2, ![512, 1024]⟩
abbrev S8192x1024 : Shape := ⟨2, ![8192, 1024]⟩
abbrev S1024x512 : Shape := ⟨2, ![1024, 512]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S8192x1024, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x1024, .bf16⟩
  | .local _ .vmem, ⟨4, _⟩ => ⟨S1024x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchReferenceIdeal.lean ====
abbrev S8192x512 : Shape := ⟨2, ![8192, 512]⟩
abbrev S512x1024 : Shape := ⟨2, ![512, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S8192x512, .f32⟩
  | .hbm, ⟨3, _⟩ => ⟨S512x1024, .f32⟩
  | .hbm, ⟨4, _⟩ => ⟨S8192x1024, .f32⟩
  | .hbm, ⟨5, _⟩ => ⟨S8192x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OutKernel.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutReferenceIdeal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DownKernel.lean ====
abbrev S8192x4096 : Shape := ⟨2, ![8192, 4096]⟩
abbrev S4096x1024 : Shape := ⟨2, ![4096, 1024]⟩
abbrev S8192x1024 : Shape := ⟨2, ![8192, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownReferenceIdeal.lean ====
abbrev S8192x4096 : Shape := ⟨2, ![8192, 4096]⟩
abbrev S4096x1024 : Shape := ⟨2, ![4096, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x4096, .f32⟩
  | .hbm, ⟨3, _⟩ => ⟨S4096x1024, .f32⟩
  | .hbm, ⟨4, _⟩ => ⟨S8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== UpKernel.lean ====
abbrev S8192x1024 : Shape := ⟨2, ![8192, 1024]⟩
abbrev S1024x4096 : Shape := ⟨2, ![1024, 4096]⟩
abbrev S8192x4096 : Shape := ⟨2, ![8192, 4096]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x4096, .bf16⟩
  | .hbm, ⟨3, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpReferenceIdeal.lean ====
abbrev S8192x1024 : Shape := ⟨2, ![8192, 1024]⟩
abbrev S1024x4096 : Shape := ⟨2, ![1024, 4096]⟩
abbrev S8192x4096 : Shape := ⟨2, ![8192, 4096]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x1024, .f32⟩
  | .hbm, ⟨3, _⟩ => ⟨S1024x4096, .f32⟩
  | .hbm, ⟨4, _⟩ => ⟨S8192x4096, .f32⟩
  | .hbm, ⟨5, _⟩ => ⟨S8192x4096, .bf16⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_cst : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== LruKernel.lean ====
abbrev S8192x8192 : Shape := ⟨2, ![8192, 8192]⟩
abbrev S4x512 : Shape := ⟨2, ![4, 512]⟩
abbrev S512 : Shape := ⟨1, ![512]⟩
abbrev S8x64x64 : Shape := ⟨3, ![8, 64, 64]⟩
abbrev S1x512 : Shape := ⟨2, ![1, 512]⟩
abbrev S8x8 : Shape := ⟨2, ![8, 8]⟩
abbrev S_ : Shape := ⟨0, ![]⟩
abbrev S8x1x8x1 : Shape := ⟨4, ![8, 1, 8, 1]⟩
abbrev S8x64x1x64 : Shape := ⟨4, ![8, 64, 1, 64]⟩
abbrev S8x64x8x64 : Shape := ⟨4, ![8, 64, 8, 64]⟩
abbrev S512x512 : Shape := ⟨2, ![512, 512]⟩
abbrev S8192x512 : Shape := ⟨2, ![8192, 512]⟩
abbrev S32x1x512 : Shape := ⟨3, ![32, 1, 512]⟩
abbrev S32x8x512 : Shape := ⟨3, ![32, 8, 512]⟩
abbrev S256x512 : Shape := ⟨2, ![256, 512]⟩
abbrev S1x1x512 : Shape := ⟨3, ![1, 1, 512]⟩
abbrev S1x8x512 : Shape := ⟨3, ![1, 8, 512]⟩
abbrev S8x512 : Shape := ⟨2, ![8, 512]⟩
abbrev S264x512 : Shape := ⟨2, ![264, 512]⟩

abbrev nBuf : Space → Nat
  | .hbm => 45
  | .vmem => 22
  | .smem => 0
  | _ => 0

abbrev bufTy : (tb : Table) → Fin (tcTables nBuf tb) → BufTy
  | .hbm, ⟨0, _⟩ => ⟨S8192x8192, .f32⟩
  | .hbm, ⟨1, _⟩ => ⟨S4x512, .f32⟩
  | .hbm, ⟨2, _⟩ => ⟨S512, .f32⟩
  | .hbm, ⟨3, _⟩ => ⟨S8x64x64, .f32⟩
  | .hbm, ⟨4, _⟩ => ⟨S512, .f32⟩
  | .hbm, ⟨5, _⟩ => ⟨S8x64x64, .f32⟩
  | .hbm, ⟨6, _⟩ => ⟨S512, .f32⟩
  | .hbm, ⟨7, _⟩ => ⟨S512, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S1x512, .f32⟩
  | .hbm, ⟨12, _⟩ => ⟨S1x512, .f32⟩
  | .hbm, ⟨13, _⟩ => ⟨S8x8, .i32⟩
  | .hbm, ⟨14, _⟩ => ⟨S8x8, .i32⟩
  | .hbm, ⟨15, _⟩ => ⟨S_, .i32⟩
  | .hbm, ⟨16, _⟩ => ⟨S8x8, .i32⟩
  | .hbm, ⟨17, _⟩ => ⟨S8x8, .i32⟩
  | .hbm, ⟨18, _⟩ => ⟨S8x8, .i1⟩
  | .hbm, ⟨19, _⟩ => ⟨S8x8, .f32⟩
  | .hbm, ⟨20, _⟩ => ⟨S8x1x8x1, .f32⟩
  | .hbm, ⟨21, _⟩ => ⟨S8x64x1x64, .f32⟩
  | .hbm, ⟨22, _⟩ => ⟨S8x64x8x64, .f32⟩
  | .hbm, ⟨23, _⟩ => ⟨S8x64x8x64, .f32⟩
  | .hbm, ⟨24, _⟩ => ⟨S8x64x8x64, .f32⟩
  | .hbm, ⟨25, _⟩ => ⟨S512x512, .f32⟩
  | .hbm, ⟨26, _⟩ => ⟨S1x512, .f32⟩
  | .hbm, ⟨27, _⟩ => ⟨S8x8, .i32⟩
  | .hbm, ⟨28, _⟩ => ⟨S8x8, .i32⟩
  | .hbm, ⟨29, _⟩ => ⟨S_, .i32⟩
  | .hbm, ⟨30, _⟩ => ⟨S8x8, .i32⟩
  | .hbm, ⟨31, _⟩ => ⟨S8x8, .i32⟩
  | .hbm, ⟨32, _⟩ => ⟨S8x8, .i1⟩
  | .hbm, ⟨33, _⟩ => ⟨S8x8, .f32⟩
  | .hbm, ⟨34, _⟩ => ⟨S8x1x8x1, .f32⟩
  | .hbm, ⟨35, _⟩ => ⟨S8x64x1x64, .f32⟩
  | .hbm, ⟨36, _⟩ => ⟨S8x64x8x64, .f32⟩
  | .hbm, ⟨37, _⟩ => ⟨S8x64x8x64, .f32⟩
  | .hbm, ⟨38, _⟩ => ⟨S8x64x8x64, .f32⟩
  | .hbm, ⟨39, _⟩ => ⟨S512x512, .f32⟩
  | .hbm, ⟨40, _⟩ => ⟨S1x512, .f32⟩
  | .hbm, ⟨41, _⟩ => ⟨S1x512, .f32⟩
  | .hbm, ⟨42, _⟩ => ⟨S8192x512, .bf16⟩
  | .hbm, ⟨43, _⟩ => ⟨S32x1x512, .f32⟩
  | .hbm, ⟨44, _⟩ => ⟨S32x8x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S512x512, .f32⟩
  | .local _ .vmem, ⟨10, _⟩ => ⟨S1x512, .f32⟩
  | .local _ .vmem, ⟨11, _⟩ => ⟨S512x512, .f32⟩
  | .local _ .vmem, ⟨12, _⟩ => ⟨S1x512, .f32⟩
  | .local _ .vmem, ⟨13, _⟩ => ⟨S1x512, .f32⟩
  | .local _ .vmem, ⟨14, _⟩ => ⟨S256x512, .bf16⟩
  | .local _ .vmem, ⟨15, _⟩ => ⟨S256x512, .bf16⟩
  | .local _ .vmem, ⟨16, _⟩ => ⟨S1x1x512, .f32⟩
  | .local _ .vmem, ⟨17, _⟩ => ⟨S1x1x512, .f32⟩
  | .local _ .vmem, ⟨18, _⟩ => ⟨S1x8x512, .f32⟩
  | .local _ .vmem, ⟨19, _⟩ => ⟨S1x8x512, .f32⟩
  | .local _ .vmem, ⟨20, _⟩ => ⟨S1x512, .f32⟩
  | .local _ .vmem, ⟨21, _⟩ => ⟨S8x512, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32_0 : Ref sig .tc := ⟨.hbm, 42, rfl⟩
abbrev main_v32_1 : Ref sig .tc := ⟨.hbm, 43, rfl⟩
abbrev main_v32_2 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_1 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x8x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== LruReferenceIdeal.lean ====
abbrev S8192x8192 : Shape := ⟨2, ![8192, 8192]⟩
abbrev S4x512 : Shape := ⟨2, ![4, 512]⟩
abbrev S512 : Shape := ⟨1, ![512]⟩
abbrev S8x64x64 : Shape := ⟨3, ![8, 64, 64]⟩
abbrev S8192x512 : Shape := ⟨2, ![8192, 512]⟩
abbrev S_ : Shape := ⟨0, ![]⟩
abbrev S3x512 : Shape := ⟨2, ![3, 512]⟩
abbrev S8195x512 : Shape := ⟨2, ![8195, 512]⟩
abbrev S1x512 : Shape := ⟨2, ![1, 512]⟩
abbrev S8192x8x64 : Shape := ⟨3, ![8192, 8, 64]⟩
abbrev S8x64x8192 : Shape := ⟨3, ![8, 64, 8192]⟩

abbrev nBuf : Space → Nat
  | .hbm => 149
  | .vmem => 0
  | .smem => 0
  | _ => 0

abbrev hbmTy0_0 (i : Nat) : BufTy := match i % 128 with
  | 0 => ⟨S8192x8192, .f32⟩
  | 1 => ⟨S4x512, .f32⟩
  | 2 => ⟨S512, .f32⟩
  | 3 => ⟨S8x64x64, .f32⟩
  | 4 => ⟨S512, .f32⟩
  | 5 => ⟨S8x64x64, .f32⟩
  | 6 => ⟨S512, .f32⟩
  | 7 => ⟨S512, .f32⟩
  | 8 => ⟨S8192x512, .f32⟩
  | 9 => ⟨S_, .f32⟩
  | 10 => ⟨S3x512, .f32⟩
  | 11 => ⟨S8195x512, .f32⟩
  | 12 => ⟨S8192x512, .f32⟩
  | 13 => ⟨S1x512, .f32⟩
  | 14 => ⟨S512, .f32⟩
  | 15 => ⟨S1x512, .f32⟩
  | 16 => ⟨S8192x512, .f32⟩
  | 17 => ⟨S8192x512, .f32⟩
  | 18 => ⟨S_, .f32⟩
  | 19 => ⟨S8192x512, .f32⟩
  | 20 => ⟨S8192x512, .f32⟩
  | 21 => ⟨S8192x512, .f32⟩
  | 22 => ⟨S1x512, .f32⟩
  | 23 => ⟨S512, .f32⟩
  | 24 => ⟨S1x512, .f32⟩
  | 25 => ⟨S8192x512, .f32⟩
  | 26 => ⟨S8192x512, .f32⟩
  | 27 => ⟨S8192x512, .f32⟩
  | 28 => ⟨S8192x512, .f32⟩
  | 29 => ⟨S1x512, .f32⟩
  | 30 => ⟨S512, .f32⟩
  | 31 => ⟨S1x512, .f32⟩
  | 32 => ⟨S8192x512, .f32⟩
  | 33 => ⟨S8192x512, .f32⟩
  | 34 => ⟨S8192x512, .f32⟩
  | 35 => ⟨S8192x512, .f32⟩
  | 36 => ⟨S1x512, .f32⟩
  | 37 => ⟨S512, .f32⟩
  | 38 => ⟨S1x512, .f32⟩
  | 39 => ⟨S8192x512, .f32⟩
  | 40 => ⟨S8192x512, .f32⟩
  | 41 => ⟨S8192x512, .f32⟩
  | 42 => ⟨S1x512, .f32⟩
  | 43 => ⟨S8192x512, .f32⟩
  | 44 => ⟨S8192x512, .f32⟩
  | 45 => ⟨S8192x8x64, .f32⟩
  | 46 => ⟨S8x64x8192, .f32⟩
  | 47 => ⟨S8192x8x64, .f32⟩
  | 48 => ⟨S8192x512, .f32⟩
  | 49 => ⟨S1x512, .f32⟩
  | 50 => ⟨S8192x512, .f32⟩
  | 51 => ⟨S8192x512, .f32⟩
  | 52 => ⟨S8192x512, .f32⟩
  | 53 => ⟨S8192x512, .f32⟩
  | 54 => ⟨S_, .f32⟩
  | 55 => ⟨S8192x512, .f32⟩
  | 56 => ⟨S8192x512, .f32⟩
  | 57 => ⟨S_, .f32⟩
  | 58 => ⟨S8192x512, .f32⟩
  | 59 => ⟨S8192x512, .f32⟩
  | 60 => ⟨S8x64x8192, .f32⟩
  | 61 => ⟨S8192x8x64, .f32⟩
  | 62 => ⟨S8192x512, .f32⟩
  | 63 => ⟨S1x512, .f32⟩
  | 64 => ⟨S8192x512, .f32⟩
  | 65 => ⟨S8192x512, .f32⟩
  | 66 => ⟨S8192x512, .f32⟩
  | 67 => ⟨S8192x512, .f32⟩
  | 68 => ⟨S_, .f32⟩
  | 69 => ⟨S8192x512, .f32⟩
  | 70 => ⟨S8192x512, .f32⟩
  | 71 => ⟨S_, .f32⟩
  | 72 => ⟨S8192x512, .f32⟩
  | 73 => ⟨S8192x512, .f32⟩
  | 74 => ⟨S_, .f32⟩
  | 75 => ⟨S8192x512, .f32⟩
  | 76 => ⟨S8192x512, .f32⟩
  | 77 => ⟨S512, .f32⟩
  | 78 => ⟨S_, .f32⟩
  | 79 => ⟨S512, .f32⟩
  | 80 => ⟨S512, .f32⟩
  | 81 => ⟨S512, .f32⟩
  | 82 => ⟨S512, .f32⟩
  | 83 => ⟨S512, .i1⟩
  | 84 => ⟨S512, .f32⟩
  | 85 => ⟨S512, .f32⟩
  | 86 => ⟨S512, .f32⟩
  | 87 => ⟨S512, .f32⟩
  | 88 => ⟨S512, .f32⟩
  | 89 => ⟨S512, .f32⟩
  | 90 => ⟨S512, .f32⟩
  | 91 => ⟨S512, .f32⟩
  | 92 => ⟨S1x512, .f32⟩
  | 93 => ⟨S8192x512, .f32⟩
  | 94 => ⟨S8192x512, .f32⟩
  | 95 => ⟨S8192x512, .f32⟩
  | 96 => ⟨S_, .f32⟩
  | 97 => ⟨S8192x512, .f32⟩
  | 98 => ⟨S8192x512, .f32⟩
  | 99 => ⟨S8192x512, .f32⟩
  | 100 => ⟨S8192x512, .f32⟩
  | 101 => ⟨S8192x512, .f32⟩
  | 102 => ⟨S8192x512, .f32⟩
  | 103 => ⟨S8192x512, .f32⟩
  | 104 => ⟨S_, .f32⟩
  | 105 => ⟨S512, .f32⟩
  | 106 => ⟨S_, .f32⟩
  | 107 => ⟨S8192x512, .f32⟩
  | 108 => ⟨S_, .i32⟩
  | 109 => ⟨S8192x512, .f32⟩
  | 110 => ⟨S8192x512, .f32⟩
  | 111 => ⟨S_, .i32⟩
  | 112 => ⟨S512, .f32⟩
  | 113 => ⟨S8192x512, .f32⟩
  | 114 => ⟨S_, .i32⟩
  | 115 => ⟨S_, .i1⟩
  | 116 => ⟨S_, .i32⟩
  | 117 => ⟨S1x512, .f32⟩
  | 118 => ⟨S512, .f32⟩
  | 119 => ⟨S_, .i32⟩
  | 120 => ⟨S1x512, .f32⟩
  | 121 => ⟨S512, .f32⟩
  | 122 => ⟨S512, .f32⟩
  | 123 => ⟨S512, .f32⟩
  | 124 => ⟨S1x512, .f32⟩
  | 125 => ⟨S_, .i32⟩
  | 126 => ⟨S8192x512, .f32⟩
  | 127 => ⟨S_, .i32⟩
  | _ => ⟨S8192x8192, .f32⟩

abbrev hbmTy0_1 (i : Nat) : BufTy := match i % 128 with
  | 0 => ⟨S_, .i32⟩
  | 1 => ⟨S8192x512, .f32⟩
  | 2 => ⟨S8192x512, .f32⟩
  | 3 => ⟨S8192x512, .f32⟩
  | 4 => ⟨S_, .f32⟩
  | 5 => ⟨S8192x512, .f32⟩
  | 6 => ⟨S8192x512, .f32⟩
  | 7 => ⟨S8192x512, .f32⟩
  | 8 => ⟨S_, .f32⟩
  | 9 => ⟨S8192x512, .f32⟩
  | 10 => ⟨S8192x512, .f32⟩
  | 11 => ⟨S8192x512, .f32⟩
  | 12 => ⟨S_, .f32⟩
  | 13 => ⟨S8192x512, .f32⟩
  | 14 => ⟨S8192x512, .f32⟩
  | 15 => ⟨S_, .f32⟩
  | 16 => ⟨S8192x512, .f32⟩
  | 17 => ⟨S8192x512, .f32⟩
  | 18 => ⟨S8192x512, .f32⟩
  | 19 => ⟨S8192x512, .f32⟩
  | 20 => ⟨S8192x512, .bf16⟩
  | _ => ⟨S8192x8192, .f32⟩

abbrev hbmTy (i : Nat) : BufTy := match i / 128 with
  | 0 => hbmTy0_0 i
  | 1 => hbmTy0_1 i
  | _ => ⟨S8192x8192, .f32⟩

abbrev bufTy : (tb : Table) → Fin (tcTables nBuf tb) → BufTy
  | .hbm, ⟨i, _⟩ => hbmTy i
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_1 : Ref sig .tc := ⟨.hbm, 54, rfl⟩
abbrev main_v44 : Ref sig .tc := ⟨.hbm, 55, rfl⟩
abbrev main_v45 : Ref sig .tc := ⟨.hbm, 56, rfl⟩
abbrev main_cst_2 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_cst_3 : Ref sig .tc := ⟨.hbm, 68, rfl⟩
abbrev main_v56 : Ref sig .tc := ⟨.hbm, 69, rfl⟩
abbrev main_v57 : Ref sig .tc := ⟨.hbm, 70, rfl⟩
abbrev main_cst_4 : Ref sig .tc := ⟨.hbm, 71, rfl⟩
abbrev main_v58 : Ref sig .tc := ⟨.hbm, 72, rfl⟩
abbrev main_v59 : Ref sig .tc := ⟨.hbm, 73, rfl⟩
abbrev main_cst_5 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_call0_cst : Ref sig .tc := ⟨.hbm, 78, rfl⟩
abbrev main_call0_v0 : Ref sig .tc := ⟨.hbm, 79, rfl⟩
abbrev main_call0_v1 : Ref sig .tc := ⟨.hbm, 80, rfl⟩
abbrev main_call0_v2 : Ref sig .tc := ⟨.hbm, 81, rfl⟩
abbrev main_call0_v3 : Ref sig .tc := ⟨.hbm, 82, rfl⟩
abbrev main_call0_v4 : Ref sig .tc := ⟨.hbm, 83, rfl⟩
abbrev main_call0_v5 : Ref sig .tc := ⟨.hbm, 84, rfl⟩
abbrev main_call0_v6 : Ref sig .tc := ⟨.hbm, 85, rfl⟩
abbrev main_call0_v7 : Ref sig .tc := ⟨.hbm, 86, rfl⟩
abbrev main_call0_v8 : Ref sig .tc := ⟨.hbm, 87, rfl⟩
abbrev main_call0_v9 : Ref sig .tc := ⟨.hbm, 88, rfl⟩
abbrev main_call0_v10 : Ref sig .tc := ⟨.hbm, 89, rfl⟩
abbrev main_call0_v11 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_6 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_7 : Ref sig .tc := ⟨.hbm, 104, rfl⟩
abbrev main_v75 : Ref sig .tc := ⟨.hbm, 105, rfl⟩
abbrev main_cst_8 : Ref sig .tc := ⟨.hbm, 106, rfl⟩
abbrev main_v76 : Ref sig .tc := ⟨.hbm, 107, rfl⟩
abbrev main_c : Ref sig .tc := ⟨.hbm, 108, rfl⟩
abbrev main_v77_0 : Ref sig .tc := ⟨.hbm, 109, rfl⟩
abbrev main_v77_1 : Ref sig .tc := ⟨.hbm, 110, rfl⟩
abbrev main_v77_2 : Ref sig .tc := ⟨.hbm, 111, rfl⟩
abbrev main_v77_3 : Ref sig .tc := ⟨.hbm, 112, rfl⟩
abbrev main_v77_4 : Ref sig .tc := ⟨.hbm, 113, rfl⟩
abbrev main_while0c_c_17 : Ref sig .tc := ⟨.hbm, 114, rfl⟩
abbrev main_while0c_v94 : Ref sig .tc := ⟨.hbm, 115, rfl⟩
abbrev main_while0b_call1_c : Ref sig .tc := ⟨.hbm, 116, rfl⟩
abbrev main_while0b_call1_v0 : Ref sig .tc := ⟨.hbm, 117, rfl⟩
abbrev main_while0b_v94 : Ref sig .tc := ⟨.hbm, 118, rfl⟩
abbrev main_while0b_call2_c : Ref sig .tc := ⟨.hbm, 119, rfl⟩
abbrev main_while0b_call2_v0 : Ref sig .tc := ⟨.hbm, 120, rfl⟩
abbrev main_while0b_v95 : Ref sig .tc := ⟨.hbm, 121, rfl⟩
abbrev main_while0b_v96 : Ref sig .tc := ⟨.hbm, 122, rfl⟩
abbrev main_while0b_v97 : Ref sig .tc := ⟨.hbm, 123, rfl⟩
abbrev main_while0b_call3_v0 : Ref sig .tc := ⟨.hbm, 124, rfl⟩
abbrev main_while0b_call3_c : Ref sig .tc := ⟨.hbm, 125, rfl⟩
abbrev main_while0b_v98 : Ref sig .tc := ⟨.hbm, 126, rfl⟩
abbrev main_while0b_c_17 : Ref sig .tc := ⟨.hbm, 127, rfl⟩
abbrev main_while0b_v99 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_cst_9 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_cst_10 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_cst_11 : Ref sig .tc := ⟨.hbm, 140, rfl⟩
abbrev main_v87 : Ref sig .tc := ⟨.hbm, 141, rfl⟩
abbrev main_v88 : Ref sig .tc := ⟨.hbm, 142, rfl⟩
abbrev main_cst_12 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩

abbrev nD : Nat := 1
abbrev τ : Topo := Topo.v7x

variable {F : FTy → Type} [FloatOps F]

abbrev main_while0_count : Scf.Loop 32 := ⟨0#32, 8192#32, 1#32⟩
-- ==== DupZeroKernel.lean ====
abbrev S8192x1024 : Shape := ⟨2, ![8192, 1024]⟩
abbrev S4096x1024 : Shape := ⟨2, ![4096, 1024]⟩
abbrev S8192x4096 : Shape := ⟨2, ![8192, 4096]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S4096x1024, .bf16⟩
  | .hbm, ⟨2, _⟩ => ⟨S8192x4096, .bf16⟩
  | .hbm, ⟨3, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GdownZeroKernel.lean ====
abbrev S8192x4096 : Shape := ⟨2, ![8192, 4096]⟩
abbrev S8192x1024 : Shape := ⟨2, ![8192, 1024]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DhTwoZeroKernel.lean ====
abbrev S8192x4096 : Shape := ⟨2, ![8192, 4096]⟩
abbrev S1024x4096 : Shape := ⟨2, ![1024, 4096]⟩
abbrev S8192x1024 : Shape := ⟨2, ![8192, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GupZeroKernel.lean ====
abbrev S8192x1024 : Shape := ⟨2, ![8192, 1024]⟩
abbrev S8192x4096 : Shape := ⟨2, ![8192, 4096]⟩
abbrev S1024x4096 : Shape := ⟨2, ![1024, 4096]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S1024x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DmergedZeroKernel.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GoutZeroKernel.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DyZeroKernel.lean ====
abbrev S8192x1024 : Shape := ⟨2, ![8192, 1024]⟩
abbrev S512x1024 : Shape := ⟨2, ![512, 1024]⟩
abbrev S8192x512 : Shape := ⟨2, ![8192, 512]⟩
abbrev S1024x1024 : Shape := ⟨2, ![1024, 1024]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S512x1024, .bf16⟩
  | .hbm, ⟨2, _⟩ => ⟨S8192x512, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .f32⟩
  | .local _ .vmem, ⟨4, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GbranchZeroKernel.lean ====
abbrev S8192x512 : Shape := ⟨2, ![8192, 512]⟩
abbrev S8192x1024 : Shape := ⟨2, ![8192, 1024]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S512x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GinZeroKernel.lean ====
abbrev S8192x1024 : Shape := ⟨2, ![8192, 1024]⟩
abbrev S8192x8192 : Shape := ⟨2, ![8192, 8192]⟩
abbrev S1024x8192 : Shape := ⟨2, ![1024, 8192]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x8192, .bf16⟩
  | .hbm, ⟨2, _⟩ => ⟨S1024x8192, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchZeroKernel.lean ====
abbrev S8192x512 : Shape := ⟨2, ![8192, 512]⟩
abbrev S512x1024 : Shape := ⟨2, ![512, 1024]⟩
abbrev S8192x1024 : Shape := ⟨2, ![8192, 1024]⟩
abbrev S1024x512 : Shape := ⟨2, ![1024, 512]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S8192x1024, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x1024, .bf16⟩
  | .local _ .vmem, ⟨4, _⟩ => ⟨S1024x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutZeroKernel.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownZeroKernel.lean ====
abbrev S8192x4096 : Shape := ⟨2, ![8192, 4096]⟩
abbrev S4096x1024 : Shape := ⟨2, ![4096, 1024]⟩
abbrev S8192x1024 : Shape := ⟨2, ![8192, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpZeroKernel.lean ====
abbrev S8192x1024 : Shape := ⟨2, ![8192, 1024]⟩
abbrev S1024x4096 : Shape := ⟨2, ![1024, 4096]⟩
abbrev S8192x4096 : Shape := ⟨2, ![8192, 4096]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x4096, .bf16⟩
  | .hbm, ⟨3, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== PreBKernel.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1x1024, .f32⟩
  | .hbm, ⟨8, _⟩ => ⟨S1x1024, .f32⟩
  | .hbm, ⟨9, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== PreBReferenceIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 66
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S1x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192, .f32⟩
  | .hbm, ⟨51, _⟩ => ⟨S8192x1, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S_, .f32⟩
  | .hbm, ⟨60, _⟩ => ⟨S8192, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩

abbrev nD : Nat := 1
abbrev τ : Topo := Topo.v7x

variable {F : FTy → Type} [FloatOps F]
-- ==== PostBKernel.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 14
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .bf16⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== PostBReferenceIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 79
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S8192x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192, .f32⟩
  | .hbm, ⟨56, _⟩ => ⟨S8192x1, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S_, .f32⟩
  | .hbm, ⟨76, _⟩ => ⟨S1024, .f32⟩
  | .hbm, ⟨77, _⟩ => ⟨S1x1024, .f32⟩
  | .hbm, ⟨78, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_10 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩

abbrev nD : Nat := 1
abbrev τ : Topo := Topo.v7x

variable {F : FTy → Type} [FloatOps F]
-- ==== PostBZeroKernel.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 14
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .bf16⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ResPreBZeroKernel.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 14
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .bf16⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ResBKernel.lean ====
abbrev S8192x1024 : Shape := ⟨2, ![8192, 1024]⟩
abbrev S1x1024 : Shape := ⟨2, ![1, 1024]⟩
abbrev S512x1024 : Shape := ⟨2, ![512, 1024]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S8192x1024, .bf16⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ResBReferenceIdeal.lean ====
abbrev S8192x1024 : Shape := ⟨2, ![8192, 1024]⟩
abbrev S1x1024 : Shape := ⟨2, ![1, 1024]⟩
abbrev S_ : Shape := ⟨0, ![]⟩
abbrev S1024 : Shape := ⟨1, ![1024]⟩

abbrev nBuf : Space → Nat
  | .hbm => 15
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S1024, .f32⟩
  | .hbm, ⟨13, _⟩ => ⟨S1x1024, .f32⟩
  | .hbm, ⟨14, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== PostKernel.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== PostReferenceIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 32
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== ResKernel.lean ====
abbrev S8192x1024 : Shape := ⟨2, ![8192, 1024]⟩
abbrev S1x1024 : Shape := ⟨2, ![1, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ResReferenceIdeal.lean ====
abbrev S8192x1024 : Shape := ⟨2, ![8192, 1024]⟩
abbrev S1x1024 : Shape := ⟨2, ![1, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== AdamAdaKernel.lean ====
abbrev S2048x768 : Shape := ⟨2, ![2048, 768]⟩
abbrev S1x2048x768 : Shape := ⟨3, ![1, 2048, 768]⟩
abbrev S256x768 : Shape := ⟨2, ![256, 768]⟩
abbrev S1x256x768 : Shape := ⟨3, ![1, 256, 768]⟩

abbrev nBuf : Space → Nat
  | .hbm => 8
  | .vmem => 16
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S1x2048x768, .f32⟩
  | .hbm, ⟨4, _⟩ => ⟨S2048x768, .f32⟩
  | .hbm, ⟨5, _⟩ => ⟨S2048x768, .f32⟩
  | .hbm, ⟨6, _⟩ => ⟨S2048x768, .f32⟩
  | .hbm, ⟨7, _⟩ => ⟨S2048x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S1x256x768, .f32⟩
  | .local _ .vmem, ⟨7, _⟩ => ⟨S1x256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamAdaReferenceIdeal.lean ====
abbrev S2048x768 : Shape := ⟨2, ![2048, 768]⟩
abbrev S1x2048x768 : Shape := ⟨3, ![1, 2048, 768]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S1x2048x768, .f32⟩
  | .hbm, ⟨4, _⟩ => ⟨S_, .f32⟩
  | .hbm, ⟨5, _⟩ => ⟨S2048x768, .f32⟩
  | .hbm, ⟨6, _⟩ => ⟨S_, .f32⟩
  | .hbm, ⟨7, _⟩ => ⟨S2048x768, .f32⟩
  | .hbm, ⟨8, _⟩ => ⟨S2048x768, .f32⟩
  | .hbm, ⟨9, _⟩ => ⟨S_, .f32⟩
  | .hbm, ⟨10, _⟩ => ⟨S2048x768, .f32⟩
  | .hbm, ⟨11, _⟩ => ⟨S2048x768, .f32⟩
  | .hbm, ⟨12, _⟩ => ⟨S2048x768, .f32⟩
  | .hbm, ⟨13, _⟩ => ⟨S_, .f32⟩
  | .hbm, ⟨14, _⟩ => ⟨S2048x768, .f32⟩
  | .hbm, ⟨15, _⟩ => ⟨S2048x768, .f32⟩
  | .hbm, ⟨16, _⟩ => ⟨S2048x768, .f32⟩
  | .hbm, ⟨17, _⟩ => ⟨S_, .f32⟩
  | .hbm, ⟨18, _⟩ => ⟨S2048x768, .f32⟩
  | .hbm, ⟨19, _⟩ => ⟨S2048x768, .f32⟩
  | .hbm, ⟨20, _⟩ => ⟨S2048x768, .f32⟩
  | .hbm, ⟨21, _⟩ => ⟨S_, .f32⟩
  | .hbm, ⟨22, _⟩ => ⟨S2048x768, .f32⟩
  | .hbm, ⟨23, _⟩ => ⟨S2048x768, .f32⟩
  | .hbm, ⟨24, _⟩ => ⟨S_, .f32⟩
  | .hbm, ⟨25, _⟩ => ⟨S2048x768, .f32⟩
  | .hbm, ⟨26, _⟩ => ⟨S2048x768, .f32⟩
  | .hbm, ⟨27, _⟩ => ⟨S2048x768, .f32⟩
  | .hbm, ⟨28, _⟩ => ⟨S_, .f32⟩
  | .hbm, ⟨29, _⟩ => ⟨S2048x768, .f32⟩
  | .hbm, ⟨30, _⟩ => ⟨S2048x768, .f32⟩
  | .hbm, ⟨31, _⟩ => ⟨S2048x768, .f32⟩
  | .hbm, ⟨32, _⟩ => ⟨S_, .f32⟩
  | .hbm, ⟨33, _⟩ => ⟨S2048x768, .f32⟩
  | .hbm, ⟨34, _⟩ => ⟨S2048x768, .f32⟩
  | .hbm, ⟨35, _⟩ => ⟨S2048x768, .f32⟩
  | .hbm, ⟨36, _⟩ => ⟨S_, .f32⟩
  | .hbm, ⟨37, _⟩ => ⟨S2048x768, .f32⟩
  | .hbm, ⟨38, _⟩ => ⟨S2048x768, .f32⟩
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamUpKernel.lean ====
abbrev S2x1024x512 : Shape := ⟨3, ![2, 1024, 512]⟩
abbrev S8x1024x512 : Shape := ⟨3, ![8, 1024, 512]⟩
abbrev S1x256x512 : Shape := ⟨3, ![1, 256, 512]⟩
abbrev S8x256x512 : Shape := ⟨3, ![8, 256, 512]⟩
abbrev S256x512 : Shape := ⟨2, ![256, 512]⟩

abbrev nBuf : Space → Nat
  | .hbm => 9
  | .vmem => 18
  | .smem => 0
  | _ => 0

abbrev bufTy : (tb : Table) → Fin (tcTables nBuf tb) → BufTy
  | .hbm, ⟨0, _⟩ => ⟨S2x1024x512, .f32⟩
  | .hbm, ⟨1, _⟩ => ⟨S2x1024x512, .f32⟩
  | .hbm, ⟨2, _⟩ => ⟨S2x1024x512, .f32⟩
  | .hbm, ⟨3, _⟩ => ⟨S8x1024x512, .bf16⟩
  | .hbm, ⟨4, _⟩ => ⟨S8x1024x512, .bf16⟩
  | .hbm, ⟨5, _⟩ => ⟨S2x1024x512, .f32⟩
  | .hbm, ⟨6, _⟩ => ⟨S2x1024x512, .f32⟩
  | .hbm, ⟨7, _⟩ => ⟨S2x1024x512, .f32⟩
  | .hbm, ⟨8, _⟩ => ⟨S2x1024x512, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S8x256x512, .bf16⟩
  | .local _ .vmem, ⟨7, _⟩ => ⟨S8x256x512, .bf16⟩
  | .local _ .vmem, ⟨8, _⟩ => ⟨S8x256x512, .bf16⟩
  | .local _ .vmem, ⟨9, _⟩ => ⟨S8x256x512, .bf16⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | .local _ .vmem, ⟨16, _⟩ => ⟨S1x256x512, .f32⟩
  | .local _ .vmem, ⟨17, _⟩ => ⟨S1x256x512, .f32⟩
  | _, _ => ⟨S2x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamUpReferenceIdeal.lean ====
abbrev S2x1024x512 : Shape := ⟨3, ![2, 1024, 512]⟩
abbrev S8x1024x512 : Shape := ⟨3, ![8, 1024, 512]⟩
abbrev S_ : Shape := ⟨0, ![]⟩
abbrev S1024x512 : Shape := ⟨2, ![1024, 512]⟩
abbrev S1x1024x512 : Shape := ⟨3, ![1, 1024, 512]⟩

abbrev nBuf : Space → Nat
  | .hbm => 47
  | .vmem => 0
  | .smem => 0
  | _ => 0

abbrev bufTy : (tb : Table) → Fin (tcTables nBuf tb) → BufTy
  | .hbm, ⟨0, _⟩ => ⟨S2x1024x512, .f32⟩
  | .hbm, ⟨1, _⟩ => ⟨S2x1024x512, .f32⟩
  | .hbm, ⟨2, _⟩ => ⟨S2x1024x512, .f32⟩
  | .hbm, ⟨3, _⟩ => ⟨S8x1024x512, .bf16⟩
  | .hbm, ⟨4, _⟩ => ⟨S8x1024x512, .bf16⟩
  | .hbm, ⟨5, _⟩ => ⟨S8x1024x512, .f32⟩
  | .hbm, ⟨6, _⟩ => ⟨S_, .f32⟩
  | .hbm, ⟨7, _⟩ => ⟨S1024x512, .f32⟩
  | .hbm, ⟨8, _⟩ => ⟨S8x1024x512, .f32⟩
  | .hbm, ⟨9, _⟩ => ⟨S_, .f32⟩
  | .hbm, ⟨10, _⟩ => ⟨S1024x512, .f32⟩
  | .hbm, ⟨11, _⟩ => ⟨S1x1024x512, .f32⟩
  | .hbm, ⟨12, _⟩ => ⟨S1x1024x512, .f32⟩
  | .hbm, ⟨13, _⟩ => ⟨S2x1024x512, .f32⟩
  | .hbm, ⟨14, _⟩ => ⟨S_, .f32⟩
  | .hbm, ⟨15, _⟩ => ⟨S2x1024x512, .f32⟩
  | .hbm, ⟨16, _⟩ => ⟨S2x1024x512, .f32⟩
  | .hbm, ⟨17, _⟩ => ⟨S_, .f32⟩
  | .hbm, ⟨18, _⟩ => ⟨S2x1024x512, .f32⟩
  | .hbm, ⟨19, _⟩ => ⟨S2x1024x512, .f32⟩
  | .hbm, ⟨20, _⟩ => ⟨S2x1024x512, .f32⟩
  | .hbm, ⟨21, _⟩ => ⟨S_, .f32⟩
  | .hbm, ⟨22, _⟩ => ⟨S2x1024x512, .f32⟩
  | .hbm, ⟨23, _⟩ => ⟨S2x1024x512, .f32⟩
  | .hbm, ⟨24, _⟩ => ⟨S2x1024x512, .f32⟩
  | .hbm, ⟨25, _⟩ => ⟨S_, .f32⟩
  | .hbm, ⟨26, _⟩ => ⟨S2x1024x512, .f32⟩
  | .hbm, ⟨27, _⟩ => ⟨S2x1024x512, .f32⟩
  | .hbm, ⟨28, _⟩ => ⟨S2x1024x512, .f32⟩
  | .hbm, ⟨29, _⟩ => ⟨S_, .f32⟩
  | .hbm, ⟨30, _⟩ => ⟨S2x1024x512, .f32⟩
  | .hbm, ⟨31, _⟩ => ⟨S2x1024x512, .f32⟩
  | .hbm, ⟨32, _⟩ => ⟨S_, .f32⟩
  | .hbm, ⟨33, _⟩ => ⟨S2x1024x512, .f32⟩
  | .hbm, ⟨34, _⟩ => ⟨S2x1024x512, .f32⟩
  | .hbm, ⟨35, _⟩ => ⟨S2x1024x512, .f32⟩
  | .hbm, ⟨36, _⟩ => ⟨S_, .f32⟩
  | .hbm, ⟨37, _⟩ => ⟨S2x1024x512, .f32⟩
  | .hbm, ⟨38, _⟩ => ⟨S2x1024x512, .f32⟩
  | .hbm, ⟨39, _⟩ => ⟨S2x1024x512, .f32⟩
  | .hbm, ⟨40, _⟩ => ⟨S_, .f32⟩
  | .hbm, ⟨41, _⟩ => ⟨S2x1024x512, .f32⟩
  | .hbm, ⟨42, _⟩ => ⟨S2x1024x512, .f32⟩
  | .hbm, ⟨43, _⟩ => ⟨S2x1024x512, .f32⟩
  | .hbm, ⟨44, _⟩ => ⟨S_, .f32⟩
  | .hbm, ⟨45, _⟩ => ⟨S2x1024x512, .f32⟩
  | .hbm, ⟨46, _⟩ => ⟨S2x1024x512, .f32⟩
  | _, _ => ⟨S2x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== AdamDownKernel.lean ====
abbrev S2x512x1024 : Shape := ⟨3, ![2, 512, 1024]⟩
abbrev S8x512x1024 : Shape := ⟨3, ![8, 512, 1024]⟩
abbrev S1x256x1024 : Shape := ⟨3, ![1, 256, 1024]⟩
abbrev S8x256x1024 : Shape := ⟨3, ![8, 256, 1024]⟩
abbrev S256x1024 : Shape := ⟨2, ![256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x512x1024, .f32⟩
  | .hbm, ⟨1, _⟩ => ⟨S2x512x1024, .f32⟩
  | .hbm, ⟨2, _⟩ => ⟨S2x512x1024, .f32⟩
  | .hbm, ⟨3, _⟩ => ⟨S8x512x1024, .bf16⟩
  | .hbm, ⟨4, _⟩ => ⟨S8x512x1024, .bf16⟩
  | .hbm, ⟨5, _⟩ => ⟨S2x512x1024, .f32⟩
  | .hbm, ⟨6, _⟩ => ⟨S2x512x1024, .f32⟩
  | .hbm, ⟨7, _⟩ => ⟨S2x512x1024, .f32⟩
  | .hbm, ⟨8, _⟩ => ⟨S2x512x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S8x256x1024, .bf16⟩
  | .local _ .vmem, ⟨7, _⟩ => ⟨S8x256x1024, .bf16⟩
  | .local _ .vmem, ⟨8, _⟩ => ⟨S8x256x1024, .bf16⟩
  | .local _ .vmem, ⟨9, _⟩ => ⟨S8x256x1024, .bf16⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | _, _ => ⟨S2x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamDownReferenceIdeal.lean ====
abbrev S2x512x1024 : Shape := ⟨3, ![2, 512, 1024]⟩
abbrev S8x512x1024 : Shape := ⟨3, ![8, 512, 1024]⟩
abbrev S_ : Shape := ⟨0, ![]⟩
abbrev S512x1024 : Shape := ⟨2, ![512, 1024]⟩
abbrev S1x512x1024 : Shape := ⟨3, ![1, 512, 1024]⟩

abbrev nBuf : Space → Nat
  | .hbm => 47
  | .vmem => 0
  | .smem => 0
  | _ => 0

abbrev bufTy : (tb : Table) → Fin (tcTables nBuf tb) → BufTy
  | .hbm, ⟨0, _⟩ => ⟨S2x512x1024, .f32⟩
  | .hbm, ⟨1, _⟩ => ⟨S2x512x1024, .f32⟩
  | .hbm, ⟨2, _⟩ => ⟨S2x512x1024, .f32⟩
  | .hbm, ⟨3, _⟩ => ⟨S8x512x1024, .bf16⟩
  | .hbm, ⟨4, _⟩ => ⟨S8x512x1024, .bf16⟩
  | .hbm, ⟨5, _⟩ => ⟨S8x512x1024, .f32⟩
  | .hbm, ⟨6, _⟩ => ⟨S_, .f32⟩
  | .hbm, ⟨7, _⟩ => ⟨S512x1024, .f32⟩
  | .hbm, ⟨8, _⟩ => ⟨S8x512x1024, .f32⟩
  | .hbm, ⟨9, _⟩ => ⟨S_, .f32⟩
  | .hbm, ⟨10, _⟩ => ⟨S512x1024, .f32⟩
  | .hbm, ⟨11, _⟩ => ⟨S1x512x1024, .f32⟩
  | .hbm, ⟨12, _⟩ => ⟨S1x512x1024, .f32⟩
  | .hbm, ⟨13, _⟩ => ⟨S2x512x1024, .f32⟩
  | .hbm, ⟨14, _⟩ => ⟨S_, .f32⟩
  | .hbm, ⟨15, _⟩ => ⟨S2x512x1024, .f32⟩
  | .hbm, ⟨16, _⟩ => ⟨S2x512x1024, .f32⟩
  | .hbm, ⟨17, _⟩ => ⟨S_, .f32⟩
  | .hbm, ⟨18, _⟩ => ⟨S2x512x1024, .f32⟩
  | .hbm, ⟨19, _⟩ => ⟨S2x512x1024, .f32⟩
  | .hbm, ⟨20, _⟩ => ⟨S2x512x1024, .f32⟩
  | .hbm, ⟨21, _⟩ => ⟨S_, .f32⟩
  | .hbm, ⟨22, _⟩ => ⟨S2x512x1024, .f32⟩
  | .hbm, ⟨23, _⟩ => ⟨S2x512x1024, .f32⟩
  | .hbm, ⟨24, _⟩ => ⟨S2x512x1024, .f32⟩
  | .hbm, ⟨25, _⟩ => ⟨S_, .f32⟩
  | .hbm, ⟨26, _⟩ => ⟨S2x512x1024, .f32⟩
  | .hbm, ⟨27, _⟩ => ⟨S2x512x1024, .f32⟩
  | .hbm, ⟨28, _⟩ => ⟨S2x512x1024, .f32⟩
  | .hbm, ⟨29, _⟩ => ⟨S_, .f32⟩
  | .hbm, ⟨30, _⟩ => ⟨S2x512x1024, .f32⟩
  | .hbm, ⟨31, _⟩ => ⟨S2x512x1024, .f32⟩
  | .hbm, ⟨32, _⟩ => ⟨S_, .f32⟩
  | .hbm, ⟨33, _⟩ => ⟨S2x512x1024, .f32⟩
  | .hbm, ⟨34, _⟩ => ⟨S2x512x1024, .f32⟩
  | .hbm, ⟨35, _⟩ => ⟨S2x512x1024, .f32⟩
  | .hbm, ⟨36, _⟩ => ⟨S_, .f32⟩
  | .hbm, ⟨37, _⟩ => ⟨S2x512x1024, .f32⟩
  | .hbm, ⟨38, _⟩ => ⟨S2x512x1024, .f32⟩
  | .hbm, ⟨39, _⟩ => ⟨S2x512x1024, .f32⟩
  | .hbm, ⟨40, _⟩ => ⟨S_, .f32⟩
  | .hbm, ⟨41, _⟩ => ⟨S2x512x1024, .f32⟩
  | .hbm, ⟨42, _⟩ => ⟨S2x512x1024, .f32⟩
  | .hbm, ⟨43, _⟩ => ⟨S2x512x1024, .f32⟩
  | .hbm, ⟨44, _⟩ => ⟨S_, .f32⟩
  | .hbm, ⟨45, _⟩ => ⟨S2x512x1024, .f32⟩
  | .hbm, ⟨46, _⟩ => ⟨S2x512x1024, .f32⟩
  | _, _ => ⟨S2x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== AdamInKernel.lean ====
abbrev S2x1024x962 : Shape := ⟨3, ![2, 1024, 962]⟩
abbrev S8x1024x962 : Shape := ⟨3, ![8, 1024, 962]⟩
abbrev S1x256x962 : Shape := ⟨3, ![1, 256, 962]⟩
abbrev S8x256x962 : Shape := ⟨3, ![8, 256, 962]⟩
abbrev S256x962 : Shape := ⟨2, ![256, 962]⟩

abbrev nBuf : Space → Nat
  | .hbm => 9
  | .vmem => 18
  | .smem => 0
  | _ => 0

abbrev bufTy : (tb : Table) → Fin (tcTables nBuf tb) → BufTy
  | .hbm, ⟨0, _⟩ => ⟨S2x1024x962, .f32⟩
  | .hbm, ⟨1, _⟩ => ⟨S2x1024x962, .f32⟩
  | .hbm, ⟨2, _⟩ => ⟨S2x1024x962, .f32⟩
  | .hbm, ⟨3, _⟩ => ⟨S8x1024x962, .bf16⟩
  | .hbm, ⟨4, _⟩ => ⟨S8x1024x962, .bf16⟩
  | .hbm, ⟨5, _⟩ => ⟨S2x1024x962, .f32⟩
  | .hbm, ⟨6, _⟩ => ⟨S2x1024x962, .f32⟩
  | .hbm, ⟨7, _⟩ => ⟨S2x1024x962, .f32⟩
  | .hbm, ⟨8, _⟩ => ⟨S2x1024x962, .f32⟩
  | .local _ .vmem, ⟨0, _⟩ => ⟨S1x256x962, .f32⟩
  | .local _ .vmem, ⟨1, _⟩ => ⟨S1x256x962, .f32⟩
  | .local _ .vmem, ⟨2, _⟩ => ⟨S1x256x962, .f32⟩
  | .local _ .vmem, ⟨3, _⟩ => ⟨S1x256x962, .f32⟩
  | .local _ .vmem, ⟨4, _⟩ => ⟨S1x256x962, .f32⟩
  | .local _ .vmem, ⟨5, _⟩ => ⟨S1x256x962, .f32⟩
  | .local _ .vmem, ⟨6, _⟩ => ⟨S8x256x962, .bf16⟩
  | .local _ .vmem, ⟨7, _⟩ => ⟨S8x256x962, .bf16⟩
  | .local _ .vmem, ⟨8, _⟩ => ⟨S8x256x962, .bf16⟩
  | .local _ .vmem, ⟨9, _⟩ => ⟨S8x256x962, .bf16⟩
  | .local _ .vmem, ⟨10, _⟩ => ⟨S1x256x962, .f32⟩
  | .local _ .vmem, ⟨11, _⟩ => ⟨S1x256x962, .f32⟩
  | .local _ .vmem, ⟨12, _⟩ => ⟨S1x256x962, .f32⟩
  | .local _ .vmem, ⟨13, _⟩ => ⟨S1x256x962, .f32⟩
  | .local _ .vmem, ⟨14, _⟩ => ⟨S1x256x962, .f32⟩
  | .local _ .vmem, ⟨15, _⟩ => ⟨S1x256x962, .f32⟩
  | .local _ .vmem, ⟨16, _⟩ => ⟨S1x256x962, .f32⟩
  | .local _ .vmem, ⟨17, _⟩ => ⟨S1x256x962, .f32⟩
  | _, _ => ⟨S2x1024x962, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x962 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x962 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x962 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256x962 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x256x962 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x962 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x962 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x962 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x962 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamInReferenceIdeal.lean ====
abbrev S2x1024x962 : Shape := ⟨3, ![2, 1024, 962]⟩
abbrev S8x1024x962 : Shape := ⟨3, ![8, 1024, 962]⟩
abbrev S_ : Shape := ⟨0, ![]⟩
abbrev S1024x962 : Shape := ⟨2, ![1024, 962]⟩
abbrev S1x1024x962 : Shape := ⟨3, ![1, 1024, 962]⟩

abbrev nBuf : Space → Nat
  | .hbm => 47
  | .vmem => 0
  | .smem => 0
  | _ => 0

abbrev bufTy : (tb : Table) → Fin (tcTables nBuf tb) → BufTy
  | .hbm, ⟨0, _⟩ => ⟨S2x1024x962, .f32⟩
  | .hbm, ⟨1, _⟩ => ⟨S2x1024x962, .f32⟩
  | .hbm, ⟨2, _⟩ => ⟨S2x1024x962, .f32⟩
  | .hbm, ⟨3, _⟩ => ⟨S8x1024x962, .bf16⟩
  | .hbm, ⟨4, _⟩ => ⟨S8x1024x962, .bf16⟩
  | .hbm, ⟨5, _⟩ => ⟨S8x1024x962, .f32⟩
  | .hbm, ⟨6, _⟩ => ⟨S_, .f32⟩
  | .hbm, ⟨7, _⟩ => ⟨S1024x962, .f32⟩
  | .hbm, ⟨8, _⟩ => ⟨S8x1024x962, .f32⟩
  | .hbm, ⟨9, _⟩ => ⟨S_, .f32⟩
  | .hbm, ⟨10, _⟩ => ⟨S1024x962, .f32⟩
  | .hbm, ⟨11, _⟩ => ⟨S1x1024x962, .f32⟩
  | .hbm, ⟨12, _⟩ => ⟨S1x1024x962, .f32⟩
  | .hbm, ⟨13, _⟩ => ⟨S2x1024x962, .f32⟩
  | .hbm, ⟨14, _⟩ => ⟨S_, .f32⟩
  | .hbm, ⟨15, _⟩ => ⟨S2x1024x962, .f32⟩
  | .hbm, ⟨16, _⟩ => ⟨S2x1024x962, .f32⟩
  | .hbm, ⟨17, _⟩ => ⟨S_, .f32⟩
  | .hbm, ⟨18, _⟩ => ⟨S2x1024x962, .f32⟩
  | .hbm, ⟨19, _⟩ => ⟨S2x1024x962, .f32⟩
  | .hbm, ⟨20, _⟩ => ⟨S2x1024x962, .f32⟩
  | .hbm, ⟨21, _⟩ => ⟨S_, .f32⟩
  | .hbm, ⟨22, _⟩ => ⟨S2x1024x962, .f32⟩
  | .hbm, ⟨23, _⟩ => ⟨S2x1024x962, .f32⟩
  | .hbm, ⟨24, _⟩ => ⟨S2x1024x962, .f32⟩
  | .hbm, ⟨25, _⟩ => ⟨S_, .f32⟩
  | .hbm, ⟨26, _⟩ => ⟨S2x1024x962, .f32⟩
  | .hbm, ⟨27, _⟩ => ⟨S2x1024x962, .f32⟩
  | .hbm, ⟨28, _⟩ => ⟨S2x1024x962, .f32⟩
  | .hbm, ⟨29, _⟩ => ⟨S_, .f32⟩
  | .hbm, ⟨30, _⟩ => ⟨S2x1024x962, .f32⟩
  | .hbm, ⟨31, _⟩ => ⟨S2x1024x962, .f32⟩
  | .hbm, ⟨32, _⟩ => ⟨S_, .f32⟩
  | .hbm, ⟨33, _⟩ => ⟨S2x1024x962, .f32⟩
  | .hbm, ⟨34, _⟩ => ⟨S2x1024x962, .f32⟩
  | .hbm, ⟨35, _⟩ => ⟨S2x1024x962, .f32⟩
  | .hbm, ⟨36, _⟩ => ⟨S_, .f32⟩
  | .hbm, ⟨37, _⟩ => ⟨S2x1024x962, .f32⟩
  | .hbm, ⟨38, _⟩ => ⟨S2x1024x962, .f32⟩
  | .hbm, ⟨39, _⟩ => ⟨S2x1024x962, .f32⟩
  | .hbm, ⟨40, _⟩ => ⟨S_, .f32⟩
  | .hbm, ⟨41, _⟩ => ⟨S2x1024x962, .f32⟩
  | .hbm, ⟨42, _⟩ => ⟨S2x1024x962, .f32⟩
  | .hbm, ⟨43, _⟩ => ⟨S2x1024x962, .f32⟩
  | .hbm, ⟨44, _⟩ => ⟨S_, .f32⟩
  | .hbm, ⟨45, _⟩ => ⟨S2x1024x962, .f32⟩
  | .hbm, ⟨46, _⟩ => ⟨S2x1024x962, .f32⟩
  | _, _ => ⟨S2x1024x962, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== AdamBranchKernel.lean ====
abbrev S2x1536x128 : Shape := ⟨3, ![2, 1536, 128]⟩
abbrev S8x1536x128 : Shape := ⟨3, ![8, 1536, 128]⟩
abbrev S1x256x128 : Shape := ⟨3, ![1, 256, 128]⟩
abbrev S8x256x128 : Shape := ⟨3, ![8, 256, 128]⟩
abbrev S256x128 : Shape := ⟨2, ![256, 128]⟩

abbrev nBuf : Space → Nat
  | .hbm => 9
  | .vmem => 18
  | .smem => 0
  | _ => 0

abbrev bufTy : (tb : Table) → Fin (tcTables nBuf tb) → BufTy
  | .hbm, ⟨0, _⟩ => ⟨S2x1536x128, .f32⟩
  | .hbm, ⟨1, _⟩ => ⟨S2x1536x128, .f32⟩
  | .hbm, ⟨2, _⟩ => ⟨S2x1536x128, .f32⟩
  | .hbm, ⟨3, _⟩ => ⟨S8x1536x128, .bf16⟩
  | .hbm, ⟨4, _⟩ => ⟨S8x1536x128, .bf16⟩
  | .hbm, ⟨5, _⟩ => ⟨S2x1536x128, .f32⟩
  | .hbm, ⟨6, _⟩ => ⟨S2x1536x128, .f32⟩
  | .hbm, ⟨7, _⟩ => ⟨S2x1536x128, .f32⟩
  | .hbm, ⟨8, _⟩ => ⟨S2x1536x128, .f32⟩
  | .local _ .vmem, ⟨0, _⟩ => ⟨S1x256x128, .f32⟩
  | .local _ .vmem, ⟨1, _⟩ => ⟨S1x256x128, .f32⟩
  | .local _ .vmem, ⟨2, _⟩ => ⟨S1x256x128, .f32⟩
  | .local _ .vmem, ⟨3, _⟩ => ⟨S1x256x128, .f32⟩
  | .local _ .vmem, ⟨4, _⟩ => ⟨S1x256x128, .f32⟩
  | .local _ .vmem, ⟨5, _⟩ => ⟨S1x256x128, .f32⟩
  | .local _ .vmem, ⟨6, _⟩ => ⟨S8x256x128, .bf16⟩
  | .local _ .vmem, ⟨7, _⟩ => ⟨S8x256x128, .bf16⟩
  | .local _ .vmem, ⟨8, _⟩ => ⟨S8x256x128, .bf16⟩
  | .local _ .vmem, ⟨9, _⟩ => ⟨S8x256x128, .bf16⟩
  | .local _ .vmem, ⟨10, _⟩ => ⟨S1x256x128, .f32⟩
  | .local _ .vmem, ⟨11, _⟩ => ⟨S1x256x128, .f32⟩
  | .local _ .vmem, ⟨12, _⟩ => ⟨S1x256x128, .f32⟩
  | .local _ .vmem, ⟨13, _⟩ => ⟨S1x256x128, .f32⟩
  | .local _ .vmem, ⟨14, _⟩ => ⟨S1x256x128, .f32⟩
  | .local _ .vmem, ⟨15, _⟩ => ⟨S1x256x128, .f32⟩
  | .local _ .vmem, ⟨16, _⟩ => ⟨S1x256x128, .f32⟩
  | .local _ .vmem, ⟨17, _⟩ => ⟨S1x256x128, .f32⟩
  | _, _ => ⟨S2x1536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 6], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamBranchReferenceIdeal.lean ====
abbrev S2x1536x128 : Shape := ⟨3, ![2, 1536, 128]⟩
abbrev S8x1536x128 : Shape := ⟨3, ![8, 1536, 128]⟩
abbrev S_ : Shape := ⟨0, ![]⟩
abbrev S1536x128 : Shape := ⟨2, ![1536, 128]⟩
abbrev S1x1536x128 : Shape := ⟨3, ![1, 1536, 128]⟩

abbrev nBuf : Space → Nat
  | .hbm => 47
  | .vmem => 0
  | .smem => 0
  | _ => 0

abbrev bufTy : (tb : Table) → Fin (tcTables nBuf tb) → BufTy
  | .hbm, ⟨0, _⟩ => ⟨S2x1536x128, .f32⟩
  | .hbm, ⟨1, _⟩ => ⟨S2x1536x128, .f32⟩
  | .hbm, ⟨2, _⟩ => ⟨S2x1536x128, .f32⟩
  | .hbm, ⟨3, _⟩ => ⟨S8x1536x128, .bf16⟩
  | .hbm, ⟨4, _⟩ => ⟨S8x1536x128, .bf16⟩
  | .hbm, ⟨5, _⟩ => ⟨S8x1536x128, .f32⟩
  | .hbm, ⟨6, _⟩ => ⟨S_, .f32⟩
  | .hbm, ⟨7, _⟩ => ⟨S1536x128, .f32⟩
  | .hbm, ⟨8, _⟩ => ⟨S8x1536x128, .f32⟩
  | .hbm, ⟨9, _⟩ => ⟨S_, .f32⟩
  | .hbm, ⟨10, _⟩ => ⟨S1536x128, .f32⟩
  | .hbm, ⟨11, _⟩ => ⟨S1x1536x128, .f32⟩
  | .hbm, ⟨12, _⟩ => ⟨S1x1536x128, .f32⟩
  | .hbm, ⟨13, _⟩ => ⟨S2x1536x128, .f32⟩
  | .hbm, ⟨14, _⟩ => ⟨S_, .f32⟩
  | .hbm, ⟨15, _⟩ => ⟨S2x1536x128, .f32⟩
  | .hbm, ⟨16, _⟩ => ⟨S2x1536x128, .f32⟩
  | .hbm, ⟨17, _⟩ => ⟨S_, .f32⟩
  | .hbm, ⟨18, _⟩ => ⟨S2x1536x128, .f32⟩
  | .hbm, ⟨19, _⟩ => ⟨S2x1536x128, .f32⟩
  | .hbm, ⟨20, _⟩ => ⟨S2x1536x128, .f32⟩
  | .hbm, ⟨21, _⟩ => ⟨S_, .f32⟩
  | .hbm, ⟨22, _⟩ => ⟨S2x1536x128, .f32⟩
  | .hbm, ⟨23, _⟩ => ⟨S2x1536x128, .f32⟩
  | .hbm, ⟨24, _⟩ => ⟨S2x1536x128, .f32⟩
  | .hbm, ⟨25, _⟩ => ⟨S_, .f32⟩
  | .hbm, ⟨26, _⟩ => ⟨S2x1536x128, .f32⟩
  | .hbm, ⟨27, _⟩ => ⟨S2x1536x128, .f32⟩
  | .hbm, ⟨28, _⟩ => ⟨S2x1536x128, .f32⟩
  | .hbm, ⟨29, _⟩ => ⟨S_, .f32⟩
  | .hbm, ⟨30, _⟩ => ⟨S2x1536x128, .f32⟩
  | .hbm, ⟨31, _⟩ => ⟨S2x1536x128, .f32⟩
  | .hbm, ⟨32, _⟩ => ⟨S_, .f32⟩
  | .hbm, ⟨33, _⟩ => ⟨S2x1536x128, .f32⟩
  | .hbm, ⟨34, _⟩ => ⟨S2x1536x128, .f32⟩
  | .hbm, ⟨35, _⟩ => ⟨S2x1536x128, .f32⟩
  | .hbm, ⟨36, _⟩ => ⟨S_, .f32⟩
  | .hbm, ⟨37, _⟩ => ⟨S2x1536x128, .f32⟩
  | .hbm, ⟨38, _⟩ => ⟨S2x1536x128, .f32⟩
  | .hbm, ⟨39, _⟩ => ⟨S2x1536x128, .f32⟩
  | .hbm, ⟨40, _⟩ => ⟨S_, .f32⟩
  | .hbm, ⟨41, _⟩ => ⟨S2x1536x128, .f32⟩
  | .hbm, ⟨42, _⟩ => ⟨S2x1536x128, .f32⟩
  | .hbm, ⟨43, _⟩ => ⟨S2x1536x128, .f32⟩
  | .hbm, ⟨44, _⟩ => ⟨S_, .f32⟩
  | .hbm, ⟨45, _⟩ => ⟨S2x1536x128, .f32⟩
  | .hbm, ⟨46, _⟩ => ⟨S2x1536x128, .f32⟩
  | _, _ => ⟨S2x1536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== AdamOutKernel.lean ====
abbrev S2x128x1024 : Shape := ⟨3, ![2, 128, 1024]⟩
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x128x1024, .f32⟩
  | .hbm, ⟨1, _⟩ => ⟨S2x128x1024, .f32⟩
  | .hbm, ⟨2, _⟩ => ⟨S2x128x1024, .f32⟩
  | .hbm, ⟨3, _⟩ => ⟨S8x128x1024, .bf16⟩
  | .hbm, ⟨4, _⟩ => ⟨S8x128x1024, .bf16⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S8x128x1024, .bf16⟩
  | .local _ .vmem, ⟨7, _⟩ => ⟨S8x128x1024, .bf16⟩
  | .local _ .vmem, ⟨8, _⟩ => ⟨S8x128x1024, .bf16⟩
  | .local _ .vmem, ⟨9, _⟩ => ⟨S8x128x1024, .bf16⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | _, _ => ⟨S2x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamOutReferenceIdeal.lean ====
abbrev S2x128x1024 : Shape := ⟨3, ![2, 128, 1024]⟩
abbrev S8x128x1024 : Shape := ⟨3, ![8, 128, 1024]⟩
abbrev S_ : Shape := ⟨0, ![]⟩
abbrev S128x1024 : Shape := ⟨2, ![128, 1024]⟩
abbrev S1x128x1024 : Shape := ⟨3, ![1, 128, 1024]⟩

abbrev nBuf : Space → Nat
  | .hbm => 47
  | .vmem => 0
  | .smem => 0
  | _ => 0

abbrev bufTy : (tb : Table) → Fin (tcTables nBuf tb) → BufTy
  | .hbm, ⟨0, _⟩ => ⟨S2x128x1024, .f32⟩
  | .hbm, ⟨1, _⟩ => ⟨S2x128x1024, .f32⟩
  | .hbm, ⟨2, _⟩ => ⟨S2x128x1024, .f32⟩
  | .hbm, ⟨3, _⟩ => ⟨S8x128x1024, .bf16⟩
  | .hbm, ⟨4, _⟩ => ⟨S8x128x1024, .bf16⟩
  | .hbm, ⟨5, _⟩ => ⟨S8x128x1024, .f32⟩
  | .hbm, ⟨6, _⟩ => ⟨S_, .f32⟩
  | .hbm, ⟨7, _⟩ => ⟨S128x1024, .f32⟩
  | .hbm, ⟨8, _⟩ => ⟨S8x128x1024, .f32⟩
  | .hbm, ⟨9, _⟩ => ⟨S_, .f32⟩
  | .hbm, ⟨10, _⟩ => ⟨S128x1024, .f32⟩
  | .hbm, ⟨11, _⟩ => ⟨S1x128x1024, .f32⟩
  | .hbm, ⟨12, _⟩ => ⟨S1x128x1024, .f32⟩
  | .hbm, ⟨13, _⟩ => ⟨S2x128x1024, .f32⟩
  | .hbm, ⟨14, _⟩ => ⟨S_, .f32⟩
  | .hbm, ⟨15, _⟩ => ⟨S2x128x1024, .f32⟩
  | .hbm, ⟨16, _⟩ => ⟨S2x128x1024, .f32⟩
  | .hbm, ⟨17, _⟩ => ⟨S_, .f32⟩
  | .hbm, ⟨18, _⟩ => ⟨S2x128x1024, .f32⟩
  | .hbm, ⟨19, _⟩ => ⟨S2x128x1024, .f32⟩
  | .hbm, ⟨20, _⟩ => ⟨S2x128x1024, .f32⟩
  | .hbm, ⟨21, _⟩ => ⟨S_, .f32⟩
  | .hbm, ⟨22, _⟩ => ⟨S2x128x1024, .f32⟩
  | .hbm, ⟨23, _⟩ => ⟨S2x128x1024, .f32⟩
  | .hbm, ⟨24, _⟩ => ⟨S2x128x1024, .f32⟩
  | .hbm, ⟨25, _⟩ => ⟨S_, .f32⟩
  | .hbm, ⟨26, _⟩ => ⟨S2x128x1024, .f32⟩
  | .hbm, ⟨27, _⟩ => ⟨S2x128x1024, .f32⟩
  | .hbm, ⟨28, _⟩ => ⟨S2x128x1024, .f32⟩
  | .hbm, ⟨29, _⟩ => ⟨S_, .f32⟩
  | .hbm, ⟨30, _⟩ => ⟨S2x128x1024, .f32⟩
  | .hbm, ⟨31, _⟩ => ⟨S2x128x1024, .f32⟩
  | .hbm, ⟨32, _⟩ => ⟨S_, .f32⟩
  | .hbm, ⟨33, _⟩ => ⟨S2x128x1024, .f32⟩
  | .hbm, ⟨34, _⟩ => ⟨S2x128x1024, .f32⟩
  | .hbm, ⟨35, _⟩ => ⟨S2x128x1024, .f32⟩
  | .hbm, ⟨36, _⟩ => ⟨S_, .f32⟩
  | .hbm, ⟨37, _⟩ => ⟨S2x128x1024, .f32⟩
  | .hbm, ⟨38, _⟩ => ⟨S2x128x1024, .f32⟩
  | .hbm, ⟨39, _⟩ => ⟨S2x128x1024, .f32⟩
  | .hbm, ⟨40, _⟩ => ⟨S_, .f32⟩
  | .hbm, ⟨41, _⟩ => ⟨S2x128x1024, .f32⟩
  | .hbm, ⟨42, _⟩ => ⟨S2x128x1024, .f32⟩
  | .hbm, ⟨43, _⟩ => ⟨S2x128x1024, .f32⟩
  | .hbm, ⟨44, _⟩ => ⟨S_, .f32⟩
  | .hbm, ⟨45, _⟩ => ⟨S2x128x1024, .f32⟩
  | .hbm, ⟨46, _⟩ => ⟨S2x128x1024, .f32⟩
  | _, _ => ⟨S2x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== MergeFKernel.lean ====
abbrev S8192x8192 : Shape := ⟨2, ![8192, 8192]⟩
abbrev S8192x1024 : Shape := ⟨2, ![8192, 1024]⟩
abbrev S256x1024 : Shape := ⟨2, ![256, 1024]⟩

abbrev nBuf : Space → Nat
  | .hbm => 5
  | .vmem => 14
  | .smem => 0
  | _ => 0

abbrev bufTy : (tb : Table) → Fin (tcTables nBuf tb) → BufTy
  | .hbm, ⟨0, _⟩ => ⟨S8192x8192, .f32⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MergeFReferenceIdeal.lean ====
abbrev S8192x8192 : Shape := ⟨2, ![8192, 8192]⟩
abbrev S8192x1024 : Shape := ⟨2, ![8192, 1024]⟩
abbrev S8192x3072 : Shape := ⟨2, ![8192, 3072]⟩
abbrev S8192x3x1024 : Shape := ⟨3, ![8192, 3, 1024]⟩
abbrev S_ : Shape := ⟨0, ![]⟩
abbrev S8192x1x1024 : Shape := ⟨3, ![8192, 1, 1024]⟩

abbrev nBuf : Space → Nat
  | .hbm => 32
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x3072, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x3x1024, .f32⟩
  | .hbm, ⟨9, _⟩ => ⟨S8192x3x1024, .f32⟩
  | .hbm, ⟨10, _⟩ => ⟨S8192x3x1024, .f32⟩
  | .hbm, ⟨11, _⟩ => ⟨S_, .f32⟩
  | .hbm, ⟨12, _⟩ => ⟨S8192x3x1024, .f32⟩
  | .hbm, ⟨13, _⟩ => ⟨S8192x3x1024, .f32⟩
  | .hbm, ⟨14, _⟩ => ⟨S_, .f32⟩
  | .hbm, ⟨15, _⟩ => ⟨S8192x3x1024, .f32⟩
  | .hbm, ⟨16, _⟩ => ⟨S8192x3x1024, .f32⟩
  | .hbm, ⟨17, _⟩ => ⟨S8192x1x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S8192x1x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .bf16⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== LossHeadKernel.lean ====
abbrev S8192x1024 : Shape := ⟨2, ![8192, 1024]⟩
abbrev S1x1024 : Shape := ⟨2, ![1, 1024]⟩
abbrev S1x128 : Shape := ⟨2, ![1, 128]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1x1x1 : Shape := ⟨3, ![1, 1, 1]⟩
abbrev S1024 : Shape := ⟨1, ![1024]⟩

abbrev nBuf : Space → Nat
  | .hbm => 6
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x128, .f32⟩
  | .hbm, ⟨4, _⟩ => ⟨S8192x1024, .f32⟩
  | .hbm, ⟨5, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x128, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossHeadReferenceIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1x128 : Shape := ⟨2, ![1, 128]⟩

abbrev nBuf : Space → Nat
  | .hbm => 69
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S8192, .f32⟩
  | .hbm, ⟨40, _⟩ => ⟨S_, .f32⟩
  | .hbm, ⟨41, _⟩ => ⟨S8192, .f32⟩
  | .hbm, ⟨42, _⟩ => ⟨S8192, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S8192x1024, .f32⟩
  | .hbm, ⟨56, _⟩ => ⟨S8192x1024, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S_, .f32⟩
  | .hbm, ⟨62, _⟩ => ⟨S8192, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S1x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== AdamSmallKernel.lean ====
abbrev S296x1024 : Shape := ⟨2, ![296, 1024]⟩
abbrev S8x296x1024 : Shape := ⟨3, ![8, 296, 1024]⟩
abbrev S8x1024 : Shape := ⟨2, ![8, 1024]⟩
abbrev S8x8x1024 : Shape := ⟨3, ![8, 8, 1024]⟩
abbrev S1x8x1024 : Shape := ⟨3, ![1, 8, 1024]⟩

abbrev nBuf : Space → Nat
  | .hbm => 8
  | .vmem => 16
  | .smem => 0
  | _ => 0

abbrev bufTy : (tb : Table) → Fin (tcTables nBuf tb) → BufTy
  | .hbm, ⟨0, _⟩ => ⟨S296x1024, .f32⟩
  | .hbm, ⟨1, _⟩ => ⟨S296x1024, .f32⟩
  | .hbm, ⟨2, _⟩ => ⟨S296x1024, .f32⟩
  | .hbm, ⟨3, _⟩ => ⟨S8x296x1024, .f32⟩
  | .hbm, ⟨4, _⟩ => ⟨S296x1024, .f32⟩
  | .hbm, ⟨5, _⟩ => ⟨S296x1024, .f32⟩
  | .hbm, ⟨6, _⟩ => ⟨S296x1024, .f32⟩
  | .hbm, ⟨7, _⟩ => ⟨S296x1024, .f32⟩
  | .local _ .vmem, ⟨0, _⟩ => ⟨S8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x8x1024, .f32⟩
  | .local _ .vmem, ⟨7, _⟩ => ⟨S8x8x1024, .f32⟩
  | .local _ .vmem, ⟨8, _⟩ => ⟨S8x1024, .f32⟩
  | .local _ .vmem, ⟨9, _⟩ => ⟨S8x1024, .f32⟩
  | .local _ .vmem, ⟨10, _⟩ => ⟨S8x1024, .f32⟩
  | .local _ .vmem, ⟨11, _⟩ => ⟨S8x1024, .f32⟩
  | .local _ .vmem, ⟨12, _⟩ => ⟨S8x1024, .f32⟩
  | .local _ .vmem, ⟨13, _⟩ => ⟨S8x1024, .f32⟩
  | .local _ .vmem, ⟨14, _⟩ => ⟨S8x1024, .f32⟩
  | .local _ .vmem, ⟨15, _⟩ => ⟨S8x1024, .f32⟩
  | _, _ => ⟨S296x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![37], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamSmallReferenceIdeal.lean ====
abbrev S296x1024 : Shape := ⟨2, ![296, 1024]⟩
abbrev S8x296x1024 : Shape := ⟨3, ![8, 296, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S296x1024, .f32⟩
  | .hbm, ⟨1, _⟩ => ⟨S296x1024, .f32⟩
  | .hbm, ⟨2, _⟩ => ⟨S296x1024, .f32⟩
  | .hbm, ⟨3, _⟩ => ⟨S8x296x1024, .f32⟩
  | .hbm, ⟨4, _⟩ => ⟨S_, .f32⟩
  | .hbm, ⟨5, _⟩ => ⟨S296x1024, .f32⟩
  | .hbm, ⟨6, _⟩ => ⟨S_, .f32⟩
  | .hbm, ⟨7, _⟩ => ⟨S296x1024, .f32⟩
  | .hbm, ⟨8, _⟩ => ⟨S296x1024, .f32⟩
  | .hbm, ⟨9, _⟩ => ⟨S_, .f32⟩
  | .hbm, ⟨10, _⟩ => ⟨S296x1024, .f32⟩
  | .hbm, ⟨11, _⟩ => ⟨S296x1024, .f32⟩
  | .hbm, ⟨12, _⟩ => ⟨S296x1024, .f32⟩
  | .hbm, ⟨13, _⟩ => ⟨S_, .f32⟩
  | .hbm, ⟨14, _⟩ => ⟨S296x1024, .f32⟩
  | .hbm, ⟨15, _⟩ => ⟨S296x1024, .f32⟩
  | .hbm, ⟨16, _⟩ => ⟨S296x1024, .f32⟩
  | .hbm, ⟨17, _⟩ => ⟨S_, .f32⟩
  | .hbm, ⟨18, _⟩ => ⟨S296x1024, .f32⟩
  | .hbm, ⟨19, _⟩ => ⟨S296x1024, .f32⟩
  | .hbm, ⟨20, _⟩ => ⟨S296x1024, .f32⟩
  | .hbm, ⟨21, _⟩ => ⟨S_, .f32⟩
  | .hbm, ⟨22, _⟩ => ⟨S296x1024, .f32⟩
  | .hbm, ⟨23, _⟩ => ⟨S296x1024, .f32⟩
  | .hbm, ⟨24, _⟩ => ⟨S_, .f32⟩
  | .hbm, ⟨25, _⟩ => ⟨S296x1024, .f32⟩
  | .hbm, ⟨26, _⟩ => ⟨S296x1024, .f32⟩
  | .hbm, ⟨27, _⟩ => ⟨S296x1024, .f32⟩
  | .hbm, ⟨28, _⟩ => ⟨S_, .f32⟩
  | .hbm, ⟨29, _⟩ => ⟨S296x1024, .f32⟩
  | .hbm, ⟨30, _⟩ => ⟨S296x1024, .f32⟩
  | .hbm, ⟨31, _⟩ => ⟨S296x1024, .f32⟩
  | .hbm, ⟨32, _⟩ => ⟨S_, .f32⟩
  | .hbm, ⟨33, _⟩ => ⟨S296x1024, .f32⟩
  | .hbm, ⟨34, _⟩ => ⟨S296x1024, .f32⟩
  | .hbm, ⟨35, _⟩ => ⟨S296x1024, .f32⟩
  | .hbm, ⟨36, _⟩ => ⟨S_, .f32⟩
  | .hbm, ⟨37, _⟩ => ⟨S296x1024, .f32⟩
  | .hbm, ⟨38, _⟩ => ⟨S296x1024, .f32⟩
  | _, _ => ⟨S296x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== MergeZeroKernel.lean ====
abbrev S8192x8192 : Shape := ⟨2, ![8192, 8192]⟩
abbrev S8192x1024 : Shape := ⟨2, ![8192, 1024]⟩
abbrev S256x1024 : Shape := ⟨2, ![256, 1024]⟩

abbrev nBuf : Space → Nat
  | .hbm => 11
  | .vmem => 26
  | .smem => 0
  | _ => 0

abbrev bufTy : (tb : Table) → Fin (tcTables nBuf tb) → BufTy
  | .hbm, ⟨0, _⟩ => ⟨S8192x8192, .f32⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .f32⟩
  | .hbm, ⟨5, _⟩ => ⟨S8192x1024, .bf16⟩
  | .hbm, ⟨6, _⟩ => ⟨S8192x1024, .bf16⟩
  | .hbm, ⟨7, _⟩ => ⟨S8192x1024, .bf16⟩
  | .hbm, ⟨8, _⟩ => ⟨S8192x1024, .bf16⟩
  | .hbm, ⟨9, _⟩ => ⟨S8192x1024, .bf16⟩
  | .hbm, ⟨10, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c2_i32 : BitVec 32 := 2#32
  let c0_i32 : BitVec 32 := 0#32
  ![v0.toNat, c2_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== PostZeroKernel.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ResPreZeroKernel.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Proof.Common.lean ====
/-
  What the certificates of this directory share: arrays read at natural-number coordinates, a contraction's sum as a sum
  over a range of naturals, and the sum over a range split into the blocks a grid visits one after another.
-/
module

public import Idealize.ShloMosaic.PureOps.Ideal
public import Idealize.ShloMosaic.PureOps.Ideal.Laws
public import Idealize.ShloMosaic.Lib.Pipeline.Value

@[expose] public section

noncomputable section

namespace Cert.Common

open Idealize.ShloMosaic

/-- The offsets of a store or load that starts at the corner of its buffer. -/
theorem hz : (![0, 0] : Fin 2 → Nat) = fun _ => 0 := funext fun a => by fin_cases a <;> rfl

/-- The word of two, at either width, is the number two. -/
theorem two_bf16 : Ideal.ofBits .bf16 0x4000#16 = ((2 : ℝ) : EReal) := by
  simp [Ideal.ofBits, Ideal.ieee]
  rw [← EReal.coe_mul]
  norm_num

/-- … in the wide format. -/
theorem two_f32 : Ideal.ofBits .f32 0x40000000#32 = ((2 : ℝ) : EReal) := by
  simp [Ideal.ofBits, Ideal.ieee]
  rw [← EReal.coe_mul]
  norm_num

/-- The word of one is the number one. -/
theorem one_f32 : Ideal.ofBits .f32 0x3F800000#32 = 1 := by
  simp [Ideal.ofBits, Ideal.ieee]
  rw [← EReal.coe_mul]
  norm_num

/-- A matrix read at two natural numbers: its element where they are coordinates of it, zero elsewhere. -/
def at2 {a b : ℕ} (x : (⟨2, ![a, b]⟩ : Shape).Idx → EReal) (i j : ℕ) : EReal :=
  if h : i < a ∧ j < b then x (fun k => match k with | ⟨0, _⟩ => ⟨i, h.1⟩ | ⟨1, _⟩ => ⟨j, h.2⟩) else 0

/-- An element of a matrix is the matrix read at that element's coordinates. -/
theorem eq_at2 {a b : ℕ} (x : (⟨2, ![a, b]⟩ : Shape).Idx → EReal) (i : (⟨2, ![a, b]⟩ : Shape).Idx) (p q : ℕ)
    (hp : (i 0).val = p) (hq : (i 1).val = q) : x i = at2 x p q := by
  subst hp hq
  have h : (i 0).val < a ∧ (i 1).val < b := ⟨(i 0).isLt, (i 1).isLt⟩
  unfold at2
  rw [dif_pos h]
  exact congrArg x (funext fun k => match k with | ⟨0, _⟩ => rfl | ⟨1, _⟩ => rfl)

/-- A block of a matrix that starts at `(r, s)`, read at two natural numbers inside the block. -/
theorem at2_block {a b p q : ℕ} {x : (⟨2, ![a, b]⟩ : Shape).Idx → EReal} {B : (⟨2, ![p, q]⟩ : Shape).Idx → EReal} {r s : ℕ}
    (h : ∀ y, B y = at2 x (r + (y 0).val) (s + (y 1).val)) {i j : ℕ} (hi : i < p) (hj : j < q) :
    at2 B i j = at2 x (r + i) (s + j) := by
  exact (dif_pos ⟨hi, hj⟩).trans (h _)

/-- A sum over the indices of a shape of one axis is the sum over the naturals below the axis's length. -/
theorem sum_axis {s : Shape} (hr : s.rank = 1) (n : ℕ) (hn : s.size ⟨0, by omega⟩ = n) (f : s.Idx → EReal) (g : ℕ → EReal)
    (h : ∀ k : s.Idx, f k = g (k ⟨0, by omega⟩).val) : ∑ k : s.Idx, f k = ∑ k ∈ Finset.range n, g k := by
  obtain ⟨r, sz⟩ := s
  obtain rfl : r = 1 := hr
  dsimp only at hn
  subst hn
  rw [← Fin.sum_univ_eq_sum_range]
  refine Fintype.sum_bijective (fun k : (⟨1, sz⟩ : Shape).Idx => k 0) ⟨?_, ?_⟩ _ _ fun k => h k
  · intro k k' e
    funext a
    obtain rfl : a = 0 := Subsingleton.elim _ _
    exact e
  · intro v
    exact ⟨fun a => (Subsingleton.elim 0 a) ▸ v, rfl⟩

/-- A contraction over one axis of length `n`, its factors read at the axis's coordinate. -/
theorem sum_axis_mul {s : Shape} (hr : s.rank = 1) (n : ℕ) (hn : s.size ⟨0, by omega⟩ = n) (L R : s.Idx → EReal) (l r : ℕ → EReal)
    (hl : ∀ k : s.Idx, L k = l (k ⟨0, by omega⟩).val) (hR : ∀ k : s.Idx, R k = r (k ⟨0, by omega⟩).val) :
    ∑ k : s.Idx, L k * R k = ∑ k ∈ Finset.range n, l k * r k :=
  sum_axis hr n hn _ (fun k => l k * r k) fun k => by rw [hl k, hR k]

/-- Adding the next block's sum to the sum of the blocks before it gives the sum of one block more. -/
theorem sum_block (g : ℕ → EReal) (b n : ℕ) :
    ∑ k ∈ Finset.range (b * n), g k + ∑ k ∈ Finset.range b, g (b * n + k) = ∑ k ∈ Finset.range (b * (n + 1)), g k := by
  rw [Nat.mul_succ, Finset.sum_range_add]

end Cert.Common

end
-- ==== Proof.Merge.lean ====
/-
  The gradient of the gated merge: each gate's logit and each branch's value take the merged gradient times a factor of the
  gate; the kernel computes them block of rows by block of rows, the reference as whole arrays.
-/
module

public import proofs.«01_k».proof.Defs
public import proofs.«01_k».proof.Proof.Common
public import proofs.«01_k».proof.Proof.Gen.MergeKernel.Frame
public import proofs.«01_k».proof.Proof.Gen.MergeKernelIdeal.Value
public import proofs.«01_k».proof.Proof.Gen.MergeReferenceIdeal.Run
public import Idealize.ShloMosaic.Lib.KernelVsHost
public import Idealize.ShloMosaic.Lib.Quiescent

@[expose] public section

noncomputable section

namespace Cert.Merge

open Idealize.ShloMosaic Idealize.ShloMosaic.TcCoe Idealize.SL.Sem Cert.Common

/-- The gradient of gate `r`'s logit at row `p` and column `q`. -/
def dgate (r : ℕ) (g : (⟨2, ![8192, 8192]⟩ : Shape).Idx → EReal) (b d : (⟨2, ![8192, 1024]⟩ : Shape).Idx → EReal) (p q : ℕ) : EReal :=
  at2 d p q * at2 b p q * (Ideal.logistic (at2 g p (1024 * r + q)) * (1 - Ideal.logistic (at2 g p (1024 * r + q))))

/-- The gradient of branch `r`'s value at row `p` and column `q`. -/
def dbranch (r : ℕ) (g : (⟨2, ![8192, 8192]⟩ : Shape).Idx → EReal) (d : (⟨2, ![8192, 1024]⟩ : Shape).Idx → EReal) (p q : ℕ) : EReal :=
  Ideal.logistic (at2 g p (1024 * r + q)) * at2 d p q

section kernel

open Cert.MergeKernelIdeal Cert.MergeKernelIdeal.Gen

variable (m : (ℓ : Loc nD τ sig) → Buf (Elt Ideal) ℓ) (ρ : Dev nD → PrngReg)

/-- The block indices of the windows at a grid point, read off the point's number. -/
theorem idx_facts : ∀ t : Fin grid0.N,
    (win0_0.index t 0 = 31 - t.val ∧ win0_0.index t 1 = 0) ∧ (win0_1.index t 0 = 31 - t.val ∧ win0_1.index t 1 = 1)
    ∧ (win0_2.index t 0 = 31 - t.val ∧ win0_2.index t 1 = 2) ∧ (win0_3.index t 0 = 31 - t.val ∧ win0_3.index t 1 = 0)
    ∧ (win0_4.index t 0 = 31 - t.val ∧ win0_4.index t 1 = 0) ∧ (win0_5.index t 0 = 31 - t.val ∧ win0_5.index t 1 = 0)
    ∧ (win0_6.index t 0 = 31 - t.val ∧ win0_6.index t 1 = 0) ∧ (win0_7.index t 0 = 31 - t.val ∧ win0_7.index t 1 = 0)
    ∧ (win0_8.index t 0 = 31 - t.val ∧ win0_8.index t 1 = 0) ∧ (win0_9.index t 0 = 31 - t.val ∧ win0_9.index t 1 = 0)
    ∧ (win0_10.index t 0 = 31 - t.val ∧ win0_10.index t 1 = 0) ∧ (win0_11.index t 0 = 31 - t.val ∧ win0_11.index t 1 = 0)
    ∧ (win0_12.index t 0 = 31 - t.val ∧ win0_12.index t 1 = 0) := by
  decide +kernel

/-- What one block of a gate's gradient holds, element by element. -/
theorem pay_gate (d : FVec Ideal S256x1024 .f32) (b : FVec Ideal S256x1024 .bf16) (g : FVec Ideal S256x1024 .f32) (y : S256x1024.Idx) :
    (k0_pay14 (F := Ideal) g b d y : EReal) = d y * b y * (Ideal.logistic (g y) * (1 - Ideal.logistic (g y))) := by
  unfold k0_pay14 k0_pay5 k0_pay8
  rw [shapeCast_self]
  show d y * b y * (Ideal.logistic (g y) * (Ideal.ofBits .f32 0x3F800000#32 - Ideal.logistic (g y))) = _
  rw [one_f32]

/-- The three gates' payloads are one function, -/
theorem pay_gate1 (d : FVec Ideal S256x1024 .f32) (b : FVec Ideal S256x1024 .bf16) (g : FVec Ideal S256x1024 .f32) :
    k0_pay15 (F := Ideal) g b d = k0_pay14 g b d := rfl

/-- whatever the kernel names them. -/
theorem pay_gate2 (d : FVec Ideal S256x1024 .f32) (b : FVec Ideal S256x1024 .bf16) (g : FVec Ideal S256x1024 .f32) :
    k0_pay1 (F := Ideal) (k0_pay11 g b d) = k0_pay14 g b d := rfl

/-- What one block of a branch's gradient holds, element by element. -/
theorem pay_branch (d g : FVec Ideal S256x1024 .f32) (y : S256x1024.Idx) :
    (k0_pay2 (F := Ideal) (k0_pay13 g d) y : EReal) = Ideal.logistic (g y) * d y := by
  unfold k0_pay2 k0_pay13 k0_pay5 k0_pay8
  rw [shapeCast_self]
  rfl

/-- The three branches' payloads are one function, -/
theorem pay_branch1 (d g : FVec Ideal S256x1024 .f32) : k0_pay3 (F := Ideal) (k0_pay12 g d) = k0_pay2 (k0_pay13 g d) := rfl

/-- whatever the kernel names them. -/
theorem pay_branch2 (d g : FVec Ideal S256x1024 .f32) : k0_pay4 (F := Ideal) (k0_pay10 g d) = k0_pay2 (k0_pay13 g d) := rfl

/-- The block of gate 0's logits a grid point loads. -/
theorem blk0 (c : Dev nD) (t : Fin cfg0.N) (y : S256x1024.Idx) : (iblk m c 0 t : Vec Ideal S256x1024 .f32) y
    = at2 (m ((c : Thread nD τ).loc main_arg0)) (256 * (31 - t.val) + (y 0).val) (y 1).val := by
  obtain ⟨⟨e0, e1⟩, -, -, -, -, -, -, -, -, -, -, -, -⟩ := idx_facts t
  exact eq_at2 (m ((c : Thread nD τ).loc main_arg0)) _ _ _
    (show win0_0.index t 0 * 256 + 1 * (y 0).val = _ by rw [e0]; omega)
    (show win0_0.index t 1 * 1024 + 1 * (y 1).val = _ by rw [e1]; omega)

/-- The block of gate 1's logits a grid point loads. -/
theorem blk1 (c : Dev nD) (t : Fin cfg0.N) (y : S256x1024.Idx) : (iblk m c 1 t : Vec Ideal S256x1024 .f32) y
    = at2 (m ((c : Thread nD τ).loc main_arg0)) (256 * (31 - t.val) + (y 0).val) (1024 + (y 1).val) := by
  obtain ⟨-, ⟨e0, e1⟩, -, -, -, -, -, -, -, -, -, -, -⟩ := idx_facts t
  exact eq_at2 (m ((c : Thread nD τ).loc main_arg0)) _ _ _
    (show win0_1.index t 0 * 256 + 1 * (y 0).val = _ by rw [e0]; omega)
    (show win0_1.index t 1 * 1024 + 1 * (y 1).val = _ by rw [e1]; omega)

/-- The block of gate 2's logits a grid point loads. -/
theorem blk2 (c : Dev nD) (t : Fin cfg0.N) (y : S256x1024.Idx) : (iblk m c 2 t : Vec Ideal S256x1024 .f32) y
    = at2 (m ((c : Thread nD τ).loc main_arg0)) (256 * (31 - t.val) + (y 0).val) (2048 + (y 1).val) := by
  obtain ⟨-, -, ⟨e0, e1⟩, -, -, -, -, -, -, -, -, -, -⟩ := idx_facts t
  exact eq_at2 (m ((c : Thread nD τ).loc main_arg0)) _ _ _
    (show win0_2.index t 0 * 256 + 1 * (y 0).val = _ by rw [e0]; omega)
    (show win0_2.index t 1 * 1024 + 1 * (y 1).val = _ by rw [e1]; omega)

/-- The block of branch 0 a grid point loads. -/
theorem blk3 (c : Dev nD) (t : Fin cfg0.N) (y : S256x1024.Idx) : (iblk m c 3 t : Vec Ideal S256x1024 .bf16) y
    = at2 (m ((c : Thread nD τ).loc main_arg1)) (256 * (31 - t.val) + (y 0).val) (y 1).val := by
  obtain ⟨-, -, -, ⟨e0, e1⟩, -, -, -, -, -, -, -, -, -⟩ := idx_facts t
  exact eq_at2 (m ((c : Thread nD τ).loc main_arg1)) _ _ _
    (show win0_3.index t 0 * 256 + 1 * (y 0).val = _ by rw [e0]; omega)
    (show win0_3.index t 1 * 1024 + 1 * (y 1).val = _ by rw [e1]; omega)

/-- The block of branch 1 a grid point loads. -/
theorem blk4 (c : Dev nD) (t : Fin cfg0.N) (y : S256x1024.Idx) : (iblk m c 4 t : Vec Ideal S256x1024 .bf16) y
    = at2 (m ((c : Thread nD τ).loc main_arg2)) (256 * (31 - t.val) + (y 0).val) (y 1).val := by
  obtain ⟨-, -, -, -, ⟨e0, e1⟩, -, -, -, -, -, -, -, -⟩ := idx_facts t
  exact eq_at2 (m ((c : Thread nD τ).loc main_arg2)) _ _ _
    (show win0_4.index t 0 * 256 + 1 * (y 0).val = _ by rw [e0]; omega)
    (show win0_4.index t 1 * 1024 + 1 * (y 1).val = _ by rw [e1]; omega)

/-- The block of branch 2 a grid point loads. -/
theorem blk5 (c : Dev nD) (t : Fin cfg0.N) (y : S256x1024.Idx) : (iblk m c 5 t : Vec Ideal S256x1024 .bf16) y
    = at2 (m ((c : Thread nD τ).loc main_arg3)) (256 * (31 - t.val) + (y 0).val) (y 1).val := by
  obtain ⟨-, -, -, -, -, ⟨e0, e1⟩, -, -, -, -, -, -, -⟩ := idx_facts t
  exact eq_at2 (m ((c : Thread nD τ).loc main_arg3)) _ _ _
    (show win0_5.index t 0 * 256 + 1 * (y 0).val = _ by rw [e0]; omega)
    (show win0_5.index t 1 * 1024 + 1 * (y 1).val = _ by rw [e1]; omega)

/-- The block of the merged gradient a grid point loads. -/
theorem blk6 (c : Dev nD) (t : Fin cfg0.N) (y : S256x1024.Idx) : (iblk m c 6 t : Vec Ideal S256x1024 .f32) y
    = at2 (m ((c : Thread nD τ).loc main_arg4)) (256 * (31 - t.val) + (y 0).val) (y 1).val := by
  obtain ⟨-, -, -, -, -, -, ⟨e0, e1⟩, -, -, -, -, -, -⟩ := idx_facts t
  exact eq_at2 (m ((c : Thread nD τ).loc main_arg4)) _ _ _
    (show win0_6.index t 0 * 256 + 1 * (y 0).val = _ by rw [e0]; omega)
    (show win0_6.index t 1 * 1024 + 1 * (y 1).val = _ by rw [e1]; omega)

/-- The gradient of gate 0's logits as an array. -/
def G7 (c : Dev nD) : Buf (Elt Ideal) ((c : Thread nD τ).loc main_v0_0) := fun i : S8192x1024.Idx =>
  dgate 0 (m ((c : Thread nD τ).loc main_arg0)) (m ((c : Thread nD τ).loc main_arg1)) (m ((c : Thread nD τ).loc main_arg4)) (i 0).val (i 1).val

/-- A grid point writes its block of that array. -/
theorem flushed7 (c : Dev nD) (t : Fin cfg0.N) : (dats m 0 c).flushed 7 t = ((cfg0.win 7).blk t).view.read (Elt Ideal) (G7 m c) := by
  obtain ⟨-, -, -, -, -, -, -, ⟨e0, e1⟩, -, -, -, -, -⟩ := idx_facts t
  rw [Value.flushed7]
  funext y
  show out0_7 (iblk m c 0 t) (iblk m c 1 t) (iblk m c 2 t) (iblk m c 3 t) (iblk m c 4 t) (iblk m c 5 t) (iblk m c 6 t) (y : S256x1024.Idx)
    = dgate 0 _ _ _ (win0_7.index t 0 * 256 + 1 * (y 0).val) (win0_7.index t 1 * 1024 + 1 * (y 1).val)
  unfold out0_7
  rw [View.canon_unit_zero hz, View.ld_unit_zero hz, View.ld_unit_zero hz, View.ld_unit_zero hz, pay_gate, blk0, blk3, blk6]
  unfold dgate
  rw [e0, e1, one_mul, one_mul, zero_mul, zero_add, mul_comm (31 - t.val) 256]
  simp only [Nat.mul_zero, zero_add]

/-- The blocks fill it. -/
theorem cover7 (i : S8192x1024.Idx) : ∃ t : Fin cfg0.N, (cfg0.win 7).flush t = true ∧ i ∈ ((cfg0.win 7).blk t).view.set := by
  have h0 : (i 0).val < 8192 := (i 0).isLt
  have h1 : (i 1).val < 1024 := (i 1).isLt
  have hN : cfg0.N = 32 := N_0
  have ht : 31 - (i 0).val / 256 < cfg0.N := by rw [hN]; omega
  refine ⟨⟨_, ht⟩, flush0_7 _, ?_⟩
  obtain ⟨-, -, -, -, -, -, -, ⟨e0, e1⟩, -, -, -, -, -⟩ := idx_facts ⟨_, ht⟩
  dsimp only at e0 e1
  show i ∈ ((View.whole main_v0_0).slice (win0_7.rect ⟨_, ht⟩)).set
  rw [View.set_slice_whole, Rect.mem_set_unit]
  intro a
  match a with
  | ⟨0, _⟩ =>
    show win0_7.index _ 0 * 256 ≤ (i 0).val ∧ (i 0).val < win0_7.index _ 0 * 256 + 256
    rw [e0]; omega
  | ⟨1, _⟩ =>
    show win0_7.index _ 1 * 1024 ≤ (i 1).val ∧ (i 1).val < win0_7.index _ 1 * 1024 + 1024
    rw [e1]; omega

/-- The gradient of gate 1's logits as an array. -/
def G8 (c : Dev nD) : Buf (Elt Ideal) ((c : Thread nD τ).loc main_v0_1) := fun i : S8192x1024.Idx =>
  dgate 1 (m ((c : Thread nD τ).loc main_arg0)) (m ((c : Thread nD τ).loc main_arg2)) (m ((c : Thread nD τ).loc main_arg4)) (i 0).val (i 1).val

/-- A grid point writes its block of that array. -/
theorem flushed8 (c : Dev nD) (t : Fin cfg0.N) : (dats m 0 c).flushed 8 t = ((cfg0.win 8).blk t).view.read (Elt Ideal) (G8 m c) := by
  obtain ⟨-, -, -, -, -, -, -, -, ⟨e0, e1⟩, -, -, -, -⟩ := idx_facts t
  rw [Value.flushed8]
  funext y
  show out0_8 (iblk m c 0 t) (iblk m c 1 t) (iblk m c 2 t) (iblk m c 3 t) (iblk m c 4 t) (iblk m c 5 t) (iblk m c 6 t) (y : S256x1024.Idx)
    = dgate 1 _ _ _ (win0_8.index t 0 * 256 + 1 * (y 0).val) (win0_8.index t 1 * 1024 + 1 * (y 1).val)
  unfold out0_8
  rw [View.canon_unit_zero hz, View.ld_unit_zero hz, View.ld_unit_zero hz, View.ld_unit_zero hz, pay_gate1, pay_gate, blk1, blk4, blk6]
  unfold dgate
  rw [e0, e1, one_mul, one_mul, zero_mul, zero_add, mul_comm (31 - t.val) 256]

/-- The blocks fill it. -/
theorem cover8 (i : S8192x1024.Idx) : ∃ t : Fin cfg0.N, (cfg0.win 8).flush t = true ∧ i ∈ ((cfg0.win 8).blk t).view.set := by
  have h0 : (i 0).val < 8192 := (i 0).isLt
  have h1 : (i 1).val < 1024 := (i 1).isLt
  have hN : cfg0.N = 32 := N_0
  have ht : 31 - (i 0).val / 256 < cfg0.N := by rw [hN]; omega
  refine ⟨⟨_, ht⟩, flush0_8 _, ?_⟩
  obtain ⟨-, -, -, -, -, -, -, -, ⟨e0, e1⟩, -, -, -, -⟩ := idx_facts ⟨_, ht⟩
  dsimp only at e0 e1
  show i ∈ ((View.whole main_v0_1).slice (win0_8.rect ⟨_, ht⟩)).set
  rw [View.set_slice_whole, Rect.mem_set_unit]
  intro a
  match a with
  | ⟨0, _⟩ =>
    show win0_8.index _ 0 * 256 ≤ (i 0).val ∧ (i 0).val < win0_8.index _ 0 * 256 + 256
    rw [e0]; omega
  | ⟨1, _⟩ =>
    show win0_8.index _ 1 * 1024 ≤ (i 1).val ∧ (i 1).val < win0_8.index _ 1 * 1024 + 1024
    rw [e1]; omega

/-- The gradient of gate 2's logits as an array. -/
def G9 (c : Dev nD) : Buf (Elt Ideal) ((c : Thread nD τ).loc main_v0_2) := fun i : S8192x1024.Idx =>
  dgate 2 (m ((c : Thread nD τ).loc main_arg0)) (m ((c : Thread nD τ).loc main_arg3)) (m ((c : Thread nD τ).loc main_arg4)) (i 0).val (i 1).val

/-- A grid point writes its block of that array. -/
theorem flushed9 (c : Dev nD) (t : Fin cfg0.N) : (dats m 0 c).flushed 9 t = ((cfg0.win 9).blk t).view.read (Elt Ideal) (G9 m c) := by
  obtain ⟨-, -, -, -, -, -, -, -, -, ⟨e0, e1⟩, -, -, -⟩ := idx_facts t
  rw [Value.flushed9]
  funext y
  show out0_9 (iblk m c 0 t) (iblk m c 1 t) (iblk m c 2 t) (iblk m c 3 t) (iblk m c 4 t) (iblk m c 5 t) (iblk m c 6 t) (y : S256x1024.Idx)
    = dgate 2 _ _ _ (win0_9.index t 0 * 256 + 1 * (y 0).val) (win0_9.index t 1 * 1024 + 1 * (y 1).val)
  unfold out0_9
  rw [View.canon_unit_zero hz, View.ld_unit_zero hz, View.ld_unit_zero hz, View.ld_unit_zero hz, pay_gate2, pay_gate, blk2, blk5, blk6]
  unfold dgate
  rw [e0, e1, one_mul, one_mul, zero_mul, zero_add, mul_comm (31 - t.val) 256]

/-- The blocks fill it. -/
theorem cover9 (i : S8192x1024.Idx) : ∃ t : Fin cfg0.N, (cfg0.win 9).flush t = true ∧ i ∈ ((cfg0.win 9).blk t).view.set := by
  have h0 : (i 0).val < 8192 := (i 0).isLt
  have h1 : (i 1).val < 1024 := (i 1).isLt
  have hN : cfg0.N = 32 := N_0
  have ht : 31 - (i 0).val / 256 < cfg0.N := by rw [hN]; omega
  refine ⟨⟨_, ht⟩, flush0_9 _, ?_⟩
  obtain ⟨-, -, -, -, -, -, -, -, -, ⟨e0, e1⟩, -, -, -⟩ := idx_facts ⟨_, ht⟩
  dsimp only at e0 e1
  show i ∈ ((View.whole main_v0_2).slice (win0_9.rect ⟨_, ht⟩)).set
  rw [View.set_slice_whole, Rect.mem_set_unit]
  intro a
  match a with
  | ⟨0, _⟩ =>
    show win0_9.index _ 0 * 256 ≤ (i 0).val ∧ (i 0).val < win0_9.index _ 0 * 256 + 256
    rw [e0]; omega
  | ⟨1, _⟩ =>
    show win0_9.index _ 1 * 1024 ≤ (i 1).val ∧ (i 1).val < win0_9.index _ 1 * 1024 + 1024
    rw [e1]; omega

/-- The gradient of branch 0 as an array. -/
def G10 (c : Dev nD) : Buf (Elt Ideal) ((c : Thread nD τ).loc main_v0_3) := fun i : S8192x1024.Idx =>
  dbranch 0 (m ((c : Thread nD τ).loc main_arg0)) (m ((c : Thread nD τ).loc main_arg4)) (i 0).val (i 1).val

/-- A grid point writes its block of that array. -/
theorem flushed10 (c : Dev nD) (t : Fin cfg0.N) : (dats m 0 c).flushed 10 t = ((cfg0.win 10).blk t).view.read (Elt Ideal) (G10 m c) := by
  obtain ⟨-, -, -, -, -, -, -, -, -, -, ⟨e0, e1⟩, -, -⟩ := idx_facts t
  rw [Value.flushed10]
  funext y
  show out0_10 (iblk m c 0 t) (iblk m c 1 t) (iblk m c 2 t) (iblk m c 3 t) (iblk m c 4 t) (iblk m c 5 t) (iblk m c 6 t) (y : S256x1024.Idx)
    = dbranch 0 _ _ (win0_10.index t 0 * 256 + 1 * (y 0).val) (win0_10.index t 1 * 1024 + 1 * (y 1).val)
  unfold out0_10
  rw [View.canon_unit_zero hz, View.ld_unit_zero hz, View.ld_unit_zero hz, pay_branch, blk0, blk6]
  unfold dbranch
  rw [e0, e1, one_mul, one_mul, zero_mul, zero_add, mul_comm (31 - t.val) 256]
  simp only [Nat.mul_zero, zero_add]

/-- The blocks fill it. -/
theorem cover10 (i : S8192x1024.Idx) : ∃ t : Fin cfg0.N, (cfg0.win 10).flush t = true ∧ i ∈ ((cfg0.win 10).blk t).view.set := by
  have h0 : (i 0).val < 8192 := (i 0).isLt
  have h1 : (i 1).val < 1024 := (i 1).isLt
  have hN : cfg0.N = 32 := N_0
  have ht : 31 - (i 0).val / 256 < cfg0.N := by rw [hN]; omega
  refine ⟨⟨_, ht⟩, flush0_10 _, ?_⟩
  obtain ⟨-, -, -, -, -, -, -, -, -, -, ⟨e0, e1⟩, -, -⟩ := idx_facts ⟨_, ht⟩
  dsimp only at e0 e1
  show i ∈ ((View.whole main_v0_3).slice (win0_10.rect ⟨_, ht⟩)).set
  rw [View.set_slice_whole, Rect.mem_set_unit]
  intro a
  match a with
  | ⟨0, _⟩ =>
    show win0_10.index _ 0 * 256 ≤ (i 0).val ∧ (i 0).val < win0_10.index _ 0 * 256 + 256
    rw [e0]; omega
  | ⟨1, _⟩ =>
    show win0_10.index _ 1 * 1024 ≤ (i 1).val ∧ (i 1).val < win0_10.index _ 1 * 1024 + 1024
    rw [e1]; omega

/-- The gradient of branch 1 as an array. -/
def G11 (c : Dev nD) : Buf (Elt Ideal) ((c : Thread nD τ).loc main_v0_4) := fun i : S8192x1024.Idx =>
  dbranch 1 (m ((c : Thread nD τ).loc main_arg0)) (m ((c : Thread nD τ).loc main_arg4)) (i 0).val (i 1).val

/-- A grid point writes its block of that array. -/
theorem flushed11 (c : Dev nD) (t : Fin cfg0.N) : (dats m 0 c).flushed 11 t = ((cfg0.win 11).blk t).view.read (Elt Ideal) (G11 m c) := by
  obtain ⟨-, -, -, -, -, -, -, -, -, -, -, ⟨e0, e1⟩, -⟩ := idx_facts t
  rw [Value.flushed11]
  funext y
  show out0_11 (iblk m c 0 t) (iblk m c 1 t) (iblk m c 2 t) (iblk m c 3 t) (iblk m c 4 t) (iblk m c 5 t) (iblk m c 6 t) (y : S256x1024.Idx)
    = dbranch 1 _ _ (win0_11.index t 0 * 256 + 1 * (y 0).val) (win0_11.index t 1 * 1024 + 1 * (y 1).val)
  unfold out0_11
  rw [View.canon_unit_zero hz, View.ld_unit_zero hz, View.ld_unit_zero hz, pay_branch1, pay_branch, blk1, blk6]
  unfold dbranch
  rw [e0, e1, one_mul, one_mul, zero_mul, zero_add, mul_comm (31 - t.val) 256]

/-- The blocks fill it. -/
theorem cover11 (i : S8192x1024.Idx) : ∃ t : Fin cfg0.N, (cfg0.win 11).flush t = true ∧ i ∈ ((cfg0.win 11).blk t).view.set := by
  have h0 : (i 0).val < 8192 := (i 0).isLt
  have h1 : (i 1).val < 1024 := (i 1).isLt
  have hN : cfg0.N = 32 := N_0
  have ht : 31 - (i 0).val / 256 < cfg0.N := by rw [hN]; omega
  refine ⟨⟨_, ht⟩, flush0_11 _, ?_⟩
  obtain ⟨-, -, -, -, -, -, -, -, -, -, -, ⟨e0, e1⟩, -⟩ := idx_facts ⟨_, ht⟩
  dsimp only at e0 e1
  show i ∈ ((View.whole main_v0_4).slice (win0_11.rect ⟨_, ht⟩)).set
  rw [View.set_slice_whole, Rect.mem_set_unit]
  intro a
  match a with
  | ⟨0, _⟩ =>
    show win0_11.index _ 0 * 256 ≤ (i 0).val ∧ (i 0).val < win0_11.index _ 0 * 256 + 256
    rw [e0]; omega
  | ⟨1, _⟩ =>
    show win0_11.index _ 1 * 1024 ≤ (i 1).val ∧ (i 1).val < win0_11.index _ 1 * 1024 + 1024
    rw [e1]; omega

/-- The gradient of branch 2 as an array. -/
def G12 (c : Dev nD) : Buf (Elt Ideal) ((c : Thread nD τ).loc main_v0_5) := fun i : S8192x1024.Idx =>
  dbranch 2 (m ((c : Thread nD τ).loc main_arg0)) (m ((c : Thread nD τ).loc main_arg4)) (i 0).val (i 1).val

/-- A grid point writes its block of that array. -/
theorem flushed12 (c : Dev nD) (t : Fin cfg0.N) : (dats m 0 c).flushed 12 t = ((cfg0.win 12).blk t).view.read (Elt Ideal) (G12 m c) := by
  obtain ⟨-, -, -, -, -, -, -, -, -, -, -, -, ⟨e0, e1⟩⟩ := idx_facts t
  rw [Value.flushed12]
  funext y
  show out0_12 (iblk m c 0 t) (iblk m c 1 t) (iblk m c 2 t) (iblk m c 3 t) (iblk m c 4 t) (iblk m c 5 t) (iblk m c 6 t) (y : S256x1024.Idx)
    = dbranch 2 _ _ (win0_12.index t 0 * 256 + 1 * (y 0).val) (win0_12.index t 1 * 1024 + 1 * (y 1).val)
  unfold out0_12
  rw [View.canon_unit_zero hz, View.ld_unit_zero hz, View.ld_unit_zero hz, pay_branch2, pay_branch, blk2, blk6]
  unfold dbranch
  rw [e0, e1, one_mul, one_mul, zero_mul, zero_add, mul_comm (31 - t.val) 256]

/-- The blocks fill it. -/
theorem cover12 (i : S8192x1024.Idx) : ∃ t : Fin cfg0.N, (cfg0.win 12).flush t = true ∧ i ∈ ((cfg0.win 12).blk t).view.set := by
  have h0 : (i 0).val < 8192 := (i 0).isLt
  have h1 : (i 1).val < 1024 := (i 1).isLt
  have hN : cfg0.N = 32 := N_0
  have ht : 31 - (i 0).val / 256 < cfg0.N := by rw [hN]; omega
  refine ⟨⟨_, ht⟩, flush0_12 _, ?_⟩
  obtain ⟨-, -, -, -, -, -, -, -, -, -, -, -, ⟨e0, e1⟩⟩ := idx_facts ⟨_, ht⟩
  dsimp only at e0 e1
  show i ∈ ((View.whole main_v0_5).slice (win0_12.rect ⟨_, ht⟩)).set
  rw [View.set_slice_whole, Rect.mem_set_unit]
  intro a
  match a with
  | ⟨0, _⟩ =>
    show win0_12.index _ 0 * 256 ≤ (i 0).val ∧ (i 0).val < win0_12.index _ 0 * 256 + 256
    rw [e0]; omega
  | ⟨1, _⟩ =>
    show win0_12.index _ 1 * 1024 ≤ (i 1).val ∧ (i 1).val < win0_12.index _ 1 * 1024 + 1024
    rw [e1]; omega

end kernel

section reference

open Cert.MergeReferenceIdeal Cert.MergeReferenceIdeal.Gen

/-- The one array of ones the reference uses. -/
abbrev ones : FVec Ideal S8192x3x1024 .f32 := broadcastInDim S8192x3x1024 ![] bcast_S_S8192x3x1024 (constant S_ .f32 0x3F800000#32)

/-- The reference's gates, as it computes them. -/
abbrev gates (g : FVec Ideal S8192x8192 .f32) : FVec Ideal S8192x3x1024 .f32 :=
  Host.divf ones (addf ones (Host.exp (Host.negf (shapeCast S8192x3x1024
    (extractStridedSlice S8192x3072 ![0, 0] g slices_S8192x8192_S8192x3072_0_0) shapeCasts_S8192x3072_S8192x3x1024))))

/-- Each gate is the logistic function of its logit. -/
theorem gates_apply (g : FVec Ideal S8192x8192 .f32) (j : S8192x3x1024.Idx) :
    (gates g j : EReal) = Ideal.logistic (at2 g (j 0).val (1024 * (j 1).val + (j 2).val)) := by
  have h0 : (j 0).val < 8192 := (j 0).isLt
  have h1 : (j 1).val < 3 := (j 1).isLt
  have h2 : (j 2).val < 1024 := (j 2).isLt
  show Ideal.div (Ideal.ofBits .f32 0x3F800000#32) (Ideal.ofBits .f32 0x3F800000#32 + Ideal.exp (-(shapeCast S8192x3x1024
    (extractStridedSlice S8192x3072 ![0, 0] g slices_S8192x8192_S8192x3072_0_0) shapeCasts_S8192x3072_S8192x3x1024 j))) = _
  rw [one_f32]
  unfold Ideal.logistic
  refine congrArg (fun x : EReal => Ideal.div 1 (1 + Ideal.exp (-x))) ?_
  refine (shapeCast_apply _ _ j (fun a => match a with
    | ⟨0, _⟩ => ⟨(j 0).val, h0⟩ | ⟨1, _⟩ => ⟨1024 * (j 1).val + (j 2).val, by show _ < 3072; omega⟩) ?_).trans ?_
  · rw [Shape.rowMajor_val_two, Shape.rowMajor_val_three]
    show (j 0).val * 3072 + (1024 * (j 1).val + (j 2).val) = ((j 0).val * 3 + (j 1).val) * 1024 + (j 2).val
    omega
  · exact eq_at2 g _ _ _ (Nat.zero_add _) (Nat.zero_add _)

/-- A branch's contribution to the gates' gradient, laid along the gates' axis, -/
abbrev lay (d : FVec Ideal S8192x1024 .f32) (b : FVec Ideal S8192x1024 .bf16) : FVec Ideal S8192x1x1024 .f32 :=
  broadcastInDim S8192x1x1024 ![0, 2] bcast_S8192x1024_S8192x1x1024_0_2
    (mulf (shapeCast S8192x1024 d shapeCasts_S8192x1024_S8192x1024) (extf .f32 b bitsLt_bf16_f32))

/-- is the product of the two. -/
theorem lay_apply (d : FVec Ideal S8192x1024 .f32) (b : FVec Ideal S8192x1024 .bf16) (k : S8192x1x1024.Idx) :
    (lay d b k : EReal) = at2 d (k 0).val (k 2).val * at2 b (k 0).val (k 2).val := by
  unfold lay
  rw [shapeCast_self]
  exact congrArg₂ (fun x y : EReal => x * y) (eq_at2 d _ _ _ rfl rfl) (eq_at2 b _ _ _ rfl rfl)

/-- Branch 0's contribution padded to all the gates, -/
abbrev lay0 (d : FVec Ideal S8192x1024 .f32) (b : FVec Ideal S8192x1024 .bf16) : FVec Ideal S8192x3x1024 .f32 :=
  pad S8192x3x1024 ![0, 0, 0] ![0, 2, 0] ![0, 0, 0] (lay d b) (constant S_ .f32 0x00000000#32) pads_S8192x1x1024_S8192x3x1024_000_020_000 h_S_

/-- is there at gate 0 and zero at the others. -/
theorem lay0_apply (d : FVec Ideal S8192x1024 .f32) (b : FVec Ideal S8192x1024 .bf16) (j : S8192x3x1024.Idx) :
    (lay0 d b j : EReal) = if (j 1).val = 0 then at2 d (j 0).val (j 2).val * at2 b (j 0).val (j 2).val else 0 := by
  have h1 : (j 1).val < 3 := (j 1).isLt
  split
  · next h =>
    let k : S8192x1x1024.Idx := fun a => match a with | ⟨0, _⟩ => ⟨(j 0).val, (j 0).isLt⟩ | ⟨1, _⟩ => ⟨0, Nat.one_pos⟩ | ⟨2, _⟩ => ⟨(j 2).val, (j 2).isLt⟩
    refine (pad_apply_of_inside _ _ _ _ _ _ _ j k fun a => ?_).trans (lay_apply d b k)
    match a with
    | ⟨0, _⟩ => show (j 0).val = 0 + (j 0).val * 1; omega
    | ⟨1, _⟩ => show (j 1).val = 0 + 0 * 1; omega
    | ⟨2, _⟩ => show (j 2).val = 0 + (j 2).val * 1; omega
  · next h =>
    refine (pad_apply_of_not_inside _ _ _ _ _ _ _ j 1 ?_).trans Ideal.ofBits_zero_f32
    show ¬(0 ≤ (j 1).val ∧ ((j 1).val - 0) % (0 + 1) = 0 ∧ ((j 1).val - 0) / (0 + 1) < 1)
    omega

/-- Branch 1's contribution padded to all the gates, -/
abbrev lay1 (d : FVec Ideal S8192x1024 .f32) (b : FVec Ideal S8192x1024 .bf16) : FVec Ideal S8192x3x1024 .f32 :=
  pad S8192x3x1024 ![0, 1, 0] ![0, 1, 0] ![0, 0, 0] (lay d b) (constant S_ .f32 0x00000000#32) pads_S8192x1x1024_S8192x3x1024_000_110_000 h_S_

/-- is there at gate 1 and zero at the others. -/
theorem lay1_apply (d : FVec Ideal S8192x1024 .f32) (b : FVec Ideal S8192x1024 .bf16) (j : S8192x3x1024.Idx) :
    (lay1 d b j : EReal) = if (j 1).val = 1 then at2 d (j 0).val (j 2).val * at2 b (j 0).val (j 2).val else 0 := by
  have h1 : (j 1).val < 3 := (j 1).isLt
  split
  · next h =>
    let k : S8192x1x1024.Idx := fun a => match a with | ⟨0, _⟩ => ⟨(j 0).val, (j 0).isLt⟩ | ⟨1, _⟩ => ⟨0, Nat.one_pos⟩ | ⟨2, _⟩ => ⟨(j 2).val, (j 2).isLt⟩
    refine (pad_apply_of_inside _ _ _ _ _ _ _ j k fun a => ?_).trans (lay_apply d b k)
    match a with
    | ⟨0, _⟩ => show (j 0).val = 0 + (j 0).val * 1; omega
    | ⟨1, _⟩ => show (j 1).val = 1 + 0 * 1; omega
    | ⟨2, _⟩ => show (j 2).val = 0 + (j 2).val * 1; omega
  · next h =>
    refine (pad_apply_of_not_inside _ _ _ _ _ _ _ j 1 ?_).trans Ideal.ofBits_zero_f32
    show ¬(1 ≤ (j 1).val ∧ ((j 1).val - 1) % (0 + 1) = 0 ∧ ((j 1).val - 1) / (0 + 1) < 1)
    omega

/-- Branch 2's contribution padded to all the gates, -/
abbrev lay2 (d : FVec Ideal S8192x1024 .f32) (b : FVec Ideal S8192x1024 .bf16) : FVec Ideal S8192x3x1024 .f32 :=
  pad S8192x3x1024 ![0, 2, 0] ![0, 0, 0] ![0, 0, 0] (lay d b) (constant S_ .f32 0x00000000#32) pads_S8192x1x1024_S8192x3x1024_000_200_000 h_S_

/-- is there at gate 2 and zero at the others. -/
theorem lay2_apply (d : FVec Ideal S8192x1024 .f32) (b : FVec Ideal S8192x1024 .bf16) (j : S8192x3x1024.Idx) :
    (lay2 d b j : EReal) = if (j 1).val = 2 then at2 d (j 0).val (j 2).val * at2 b (j 0).val (j 2).val else 0 := by
  have h1 : (j 1).val < 3 := (j 1).isLt
  split
  · next h =>
    let k : S8192x1x1024.Idx := fun a => match a with | ⟨0, _⟩ => ⟨(j 0).val, (j 0).isLt⟩ | ⟨1, _⟩ => ⟨0, Nat.one_pos⟩ | ⟨2, _⟩ => ⟨(j 2).val, (j 2).isLt⟩
    refine (pad_apply_of_inside _ _ _ _ _ _ _ j k fun a => ?_).trans (lay_apply d b k)
    match a with
    | ⟨0, _⟩ => show (j 0).val = 0 + (j 0).val * 1; omega
    | ⟨1, _⟩ => show (j 1).val = 2 + 0 * 1; omega
    | ⟨2, _⟩ => show (j 2).val = 0 + (j 2).val * 1; omega
  · next h =>
    refine (pad_apply_of_not_inside _ _ _ _ _ _ _ j 1 ?_).trans Ideal.ofBits_zero_f32
    show ¬(2 ≤ (j 1).val ∧ ((j 1).val - 2) % (0 + 1) = 0 ∧ ((j 1).val - 2) / (0 + 1) < 1)
    omega

/-- All the gates' gradients as the reference computes them, -/
abbrev dgates (g : FVec Ideal S8192x8192 .f32) (b0 b1 b2 : FVec Ideal S8192x1024 .bf16) (d : FVec Ideal S8192x1024 .f32) : FVec Ideal S8192x3072 .f32 :=
  shapeCast S8192x3072 (mulf (addf (addf (lay2 d b2) (lay1 d b1)) (lay0 d b0)) (mulf (gates g) (subf ones (gates g)))) shapeCasts_S8192x3x1024_S8192x3072

/-- and cut to gate 0. -/
theorem ref_gate0 (g : FVec Ideal S8192x8192 .f32) (b0 b1 b2 : FVec Ideal S8192x1024 .bf16) (d : FVec Ideal S8192x1024 .f32) (i : S8192x1024.Idx) :
    ((truncf .bf16 (extractStridedSlice S8192x1024 ![0, 0] (dgates g b0 b1 b2 d) slices_S8192x3072_S8192x1024_0_0) bitsLt_bf16_f32 : FVec Ideal S8192x1024 .bf16) i : EReal)
      = dgate 0 g b0 d (i 0).val (i 1).val := by
  have h0 : (i 0).val < 8192 := (i 0).isLt
  have h1 : (i 1).val < 1024 := (i 1).isLt
  let j : S8192x3x1024.Idx := fun a => match a with | ⟨0, _⟩ => ⟨(i 0).val, h0⟩ | ⟨1, _⟩ => ⟨0, by show 0 < 3; omega⟩ | ⟨2, _⟩ => ⟨(i 1).val, h1⟩
  let k : S8192x3072.Idx := fun a => match a with | ⟨0, _⟩ => ⟨(i 0).val, h0⟩ | ⟨1, _⟩ => ⟨0 + (i 1).val, by show _ < 3072; omega⟩
  have h : (j 1).val = 0 := rfl
  show (extractStridedSlice S8192x1024 ![0, 0] (dgates g b0 b1 b2 d) slices_S8192x3072_S8192x1024_0_0 i : EReal) = _
  refine (extractStridedSlice_apply _ _ _ i k fun a => ?_).trans ((shapeCast_apply _ _ k j ?_).trans ?_)
  · match a with
    | ⟨0, _⟩ => exact (Nat.zero_add _).symm
    | ⟨1, _⟩ => rfl
  · rw [Shape.rowMajor_val_two, Shape.rowMajor_val_three]
    show ((i 0).val * 3 + 0) * 1024 + (i 1).val = (i 0).val * 3072 + (0 + (i 1).val)
    omega
  show (lay2 d b2 j + lay1 d b1 j + lay0 d b0 j : EReal) * (gates g j * (Ideal.ofBits .f32 0x3F800000#32 - gates g j)) = _
  rw [one_f32, gates_apply, lay0_apply, lay1_apply, lay2_apply]
  rw [if_neg (by omega), if_neg (by omega), if_pos h, zero_add, zero_add]
  rfl

/-- The reference's gradient of branch 0. -/
theorem ref_branch0 (g : FVec Ideal S8192x8192 .f32) (d : FVec Ideal S8192x1024 .f32) (i : S8192x1024.Idx) :
    ((truncf .bf16 (mulf (shapeCast S8192x1024 (extractStridedSlice S8192x1x1024 ![0, 0, 0] (gates g) slices_S8192x3x1024_S8192x1x1024_0_0_0) shapeCasts_S8192x1x1024_S8192x1024)
      (shapeCast S8192x1024 d shapeCasts_S8192x1024_S8192x1024)) bitsLt_bf16_f32 : FVec Ideal S8192x1024 .bf16) i : EReal)
      = dbranch 0 g d (i 0).val (i 1).val := by
  have h0 : (i 0).val < 8192 := (i 0).isLt
  have h1 : (i 1).val < 1024 := (i 1).isLt
  let j : S8192x3x1024.Idx := fun a => match a with | ⟨0, _⟩ => ⟨(i 0).val, h0⟩ | ⟨1, _⟩ => ⟨0, by show 0 < 3; omega⟩ | ⟨2, _⟩ => ⟨(i 1).val, h1⟩
  let k : S8192x1x1024.Idx := fun a => match a with | ⟨0, _⟩ => ⟨(i 0).val, h0⟩ | ⟨1, _⟩ => ⟨0, Nat.one_pos⟩ | ⟨2, _⟩ => ⟨(i 1).val, h1⟩
  rw [shapeCast_self d]
  refine congrArg₂ (fun x y : EReal => x * y) ?_ (eq_at2 d i _ _ rfl rfl)
  refine (shapeCast_apply _ _ i k ?_).trans ((extractStridedSlice_apply _ _ _ k j fun a => ?_).trans (gates_apply g j))
  · rw [Shape.rowMajor_val_two, Shape.rowMajor_val_three]
    show ((i 0).val * 1 + 0) * 1024 + (i 1).val = (i 0).val * 1024 + (i 1).val
    omega
  · match a with
    | ⟨0, _⟩ => exact (Nat.zero_add _).symm
    | ⟨1, _⟩ => rfl
    | ⟨2, _⟩ => exact (Nat.zero_add _).symm

/-- and cut to gate 1. -/
theorem ref_gate1 (g : FVec Ideal S8192x8192 .f32) (b0 b1 b2 : FVec Ideal S8192x1024 .bf16) (d : FVec Ideal S8192x1024 .f32) (i : S8192x1024.Idx) :
    ((truncf .bf16 (extractStridedSlice S8192x1024 ![0, 1024] (dgates g b0 b1 b2 d) slices_S8192x3072_S8192x1024_0_1024) bitsLt_bf16_f32 : FVec Ideal S8192x1024 .bf16) i : EReal)
      = dgate 1 g b1 d (i 0).val (i 1).val := by
  have h0 : (i 0).val < 8192 := (i 0).isLt
  have h1 : (i 1).val < 1024 := (i 1).isLt
  let j : S8192x3x1024.Idx := fun a => match a with | ⟨0, _⟩ => ⟨(i 0).val, h0⟩ | ⟨1, _⟩ => ⟨1, by show 1 < 3; omega⟩ | ⟨2, _⟩ => ⟨(i 1).val, h1⟩
  let k : S8192x3072.Idx := fun a => match a with | ⟨0, _⟩ => ⟨(i 0).val, h0⟩ | ⟨1, _⟩ => ⟨1024 + (i 1).val, by show _ < 3072; omega⟩
  have h : (j 1).val = 1 := rfl
  show (extractStridedSlice S8192x1024 ![0, 1024] (dgates g b0 b1 b2 d) slices_S8192x3072_S8192x1024_0_1024 i : EReal) = _
  refine (extractStridedSlice_apply _ _ _ i k fun a => ?_).trans ((shapeCast_apply _ _ k j ?_).trans ?_)
  · match a with
    | ⟨0, _⟩ => exact (Nat.zero_add _).symm
    | ⟨1, _⟩ => rfl
  · rw [Shape.rowMajor_val_two, Shape.rowMajor_val_three]
    show ((i 0).val * 3 + 1) * 1024 + (i 1).val = (i 0).val * 3072 + (1024 + (i 1).val)
    omega
  show (lay2 d b2 j + lay1 d b1 j + lay0 d b0 j : EReal) * (gates g j * (Ideal.ofBits .f32 0x3F800000#32 - gates g j)) = _
  rw [one_f32, gates_apply, lay0_apply, lay1_apply, lay2_apply]
  rw [if_neg (by omega), if_pos h, if_neg (by omega), zero_add, add_zero]
  rfl

/-- The reference's gradient of branch 1. -/
theorem ref_branch1 (g : FVec Ideal S8192x8192 .f32) (d : FVec Ideal S8192x1024 .f32) (i : S8192x1024.Idx) :
    ((truncf .bf16 (mulf (shapeCast S8192x1024 (extractStridedSlice S8192x1x1024 ![0, 1, 0] (gates g) slices_S8192x3x1024_S8192x1x1024_0_1_0) shapeCasts_S8192x1x1024_S8192x1024)
      (shapeCast S8192x1024 d shapeCasts_S8192x1024_S8192x1024)) bitsLt_bf16_f32 : FVec Ideal S8192x1024 .bf16) i : EReal)
      = dbranch 1 g d (i 0).val (i 1).val := by
  have h0 : (i 0).val < 8192 := (i 0).isLt
  have h1 : (i 1).val < 1024 := (i 1).isLt
  let j : S8192x3x1024.Idx := fun a => match a with | ⟨0, _⟩ => ⟨(i 0).val, h0⟩ | ⟨1, _⟩ => ⟨1, by show 1 < 3; omega⟩ | ⟨2, _⟩ => ⟨(i 1).val, h1⟩
  let k : S8192x1x1024.Idx := fun a => match a with | ⟨0, _⟩ => ⟨(i 0).val, h0⟩ | ⟨1, _⟩ => ⟨0, Nat.one_pos⟩ | ⟨2, _⟩ => ⟨(i 1).val, h1⟩
  rw [shapeCast_self d]
  refine congrArg₂ (fun x y : EReal => x * y) ?_ (eq_at2 d i _ _ rfl rfl)
  refine (shapeCast_apply _ _ i k ?_).trans ((extractStridedSlice_apply _ _ _ k j fun a => ?_).trans (gates_apply g j))
  · rw [Shape.rowMajor_val_two, Shape.rowMajor_val_three]
    show ((i 0).val * 1 + 0) * 1024 + (i 1).val = (i 0).val * 1024 + (i 1).val
    omega
  · match a with
    | ⟨0, _⟩ => exact (Nat.zero_add _).symm
    | ⟨1, _⟩ => rfl
    | ⟨2, _⟩ => exact (Nat.zero_add _).symm

/-- and cut to gate 2. -/
theorem ref_gate2 (g : FVec Ideal S8192x8192 .f32) (b0 b1 b2 : FVec Ideal S8192x1024 .bf16) (d : FVec Ideal S8192x1024 .f32) (i : S8192x1024.Idx) :
    ((truncf .bf16 (extractStridedSlice S8192x1024 ![0, 2048] (dgates g b0 b1 b2 d) slices_S8192x3072_S8192x1024_0_2048) bitsLt_bf16_f32 : FVec Ideal S8192x1024 .bf16) i : EReal)
      = dgate 2 g b2 d (i 0).val (i 1).val := by
  have h0 : (i 0).val < 8192 := (i 0).isLt
  have h1 : (i 1).val < 1024 := (i 1).isLt
  let j : S8192x3x1024.Idx := fun a => match a with | ⟨0, _⟩ => ⟨(i 0).val, h0⟩ | ⟨1, _⟩ => ⟨2, by show 2 < 3; omega⟩ | ⟨2, _⟩ => ⟨(i 1).val, h1⟩
  let k : S8192x3072.Idx := fun a => match a with | ⟨0, _⟩ => ⟨(i 0).val, h0⟩ | ⟨1, _⟩ => ⟨2048 + (i 1).val, by show _ < 3072; omega⟩
  have h : (j 1).val = 2 := rfl
  show (extractStridedSlice S8192x1024 ![0, 2048] (dgates g b0 b1 b2 d) slices_S8192x3072_S8192x1024_0_2048 i : EReal) = _
  refine (extractStridedSlice_apply _ _ _ i k fun a => ?_).trans ((shapeCast_apply _ _ k j ?_).trans ?_)
  · match a with
    | ⟨0, _⟩ => exact (Nat.zero_add _).symm
    | ⟨1, _⟩ => rfl
  · rw [Shape.rowMajor_val_two, Shape.rowMajor_val_three]
    show ((i 0).val * 3 + 2) * 1024 + (i 1).val = (i 0).val * 3072 + (2048 + (i 1).val)
    omega
  show (lay2 d b2 j + lay1 d b1 j + lay0 d b0 j : EReal) * (gates g j * (Ideal.ofBits .f32 0x3F800000#32 - gates g j)) = _
  rw [one_f32, gates_apply, lay0_apply, lay1_apply, lay2_apply]
  rw [if_pos h, if_neg (by omega), if_neg (by omega), add_zero, add_zero]
  rfl

/-- The reference's gradient of branch 2. -/
theorem ref_branch2 (g : FVec Ideal S8192x8192 .f32) (d : FVec Ideal S8192x1024 .f32) (i : S8192x1024.Idx) :
    ((truncf .bf16 (mulf (shapeCast S8192x1024 (extractStridedSlice S8192x1x1024 ![0, 2, 0] (gates g) slices_S8192x3x1024_S8192x1x1024_0_2_0) shapeCasts_S8192x1x1024_S8192x1024)
      (shapeCast S8192x1024 d shapeCasts_S8192x1024_S8192x1024)) bitsLt_bf16_f32 : FVec Ideal S8192x1024 .bf16) i : EReal)
      = dbranch 2 g d (i 0).val (i 1).val := by
  have h0 : (i 0).val < 8192 := (i 0).isLt
  have h1 : (i 1).val < 1024 := (i 1).isLt
  let j : S8192x3x1024.Idx := fun a => match a with | ⟨0, _⟩ => ⟨(i 0).val, h0⟩ | ⟨1, _⟩ => ⟨2, by show 2 < 3; omega⟩ | ⟨2, _⟩ => ⟨(i 1).val, h1⟩
  let k : S8192x1x1024.Idx := fun a => match a with | ⟨0, _⟩ => ⟨(i 0).val, h0⟩ | ⟨1, _⟩ => ⟨0, Nat.one_pos⟩ | ⟨2, _⟩ => ⟨(i 1).val, h1⟩
  rw [shapeCast_self d]
  refine congrArg₂ (fun x y : EReal => x * y) ?_ (eq_at2 d i _ _ rfl rfl)
  refine (shapeCast_apply _ _ i k ?_).trans ((extractStridedSlice_apply _ _ _ k j fun a => ?_).trans (gates_apply g j))
  · rw [Shape.rowMajor_val_two, Shape.rowMajor_val_three]
    show ((i 0).val * 1 + 0) * 1024 + (i 1).val = (i 0).val * 1024 + (i 1).val
    omega
  · match a with
    | ⟨0, _⟩ => exact (Nat.zero_add _).symm
    | ⟨1, _⟩ => rfl
    | ⟨2, _⟩ => exact (Nat.zero_add _).symm

end reference

/-- The frames: the generated runs. -/
theorem frame_k : Cert.quiescent_MergeKernel := fun m ρ _ => Cert.MergeKernel.Gen.frame m ρ
/-- … of the idealized kernel, -/
theorem frame_ki : Cert.quiescent_MergeKernelIdeal := fun m ρ _ => Cert.MergeKernelIdeal.Gen.frame m ρ
/-- … and of the reference, which has no semaphore. -/
theorem frame_r : Cert.quiescent_MergeReferenceIdeal := fun m ρ _ =>
  (θ_run Cert.MergeReferenceIdeal.defs _ _).mono
    (fun r h => ⟨fun c => (h c).2.2.2.2.2.2, Idealize.ShloMosaic.sem_eq_zero_of_no_sems (by decide) r.2⟩)
    (Cert.MergeReferenceIdeal.Value.run (F := Ideal) m ρ)

open Cert.MergeKernelIdeal Cert.MergeKernelIdeal.Gen in
/-- The kernel's six results and the reference's are the same arrays. -/
theorem algebraic : Cert.algebraic_MergeKernelIdeal_MergeReferenceIdeal := by
  intro m ρ m' ρ' _ hagree
  refine ⟨fun c => G7 m c, fun c => G8 m c, fun c => G9 m c, fun c => G10 m c, fun c => G11 m c, fun c => G12 m c, ?_, ?_⟩
  · refine (θ_run defs _ _).mono (fun _ h c => ?_) (Value.run_blocks (F := Ideal) m ρ)
    obtain ⟨h7, h8, h9, h10, h11, h12, hk⟩ := h c
    exact ⟨h7.trans ((dats m 0 c).arrAt_eq_of_cover 7 (G7 m c) (fun t _ => flushed7 m c t) cover7), h8.trans ((dats m 0 c).arrAt_eq_of_cover 8 (G8 m c) (fun t _ => flushed8 m c t) cover8), h9.trans ((dats m 0 c).arrAt_eq_of_cover 9 (G9 m c) (fun t _ => flushed9 m c t) cover9), h10.trans ((dats m 0 c).arrAt_eq_of_cover 10 (G10 m c) (fun t _ => flushed10 m c t) cover10), h11.trans ((dats m 0 c).arrAt_eq_of_cover 11 (G11 m c) (fun t _ => flushed11 m c t) cover11), h12.trans ((dats m 0 c).arrAt_eq_of_cover 12 (G12 m c) (fun t _ => flushed12 m c t) cover12), hk⟩
  refine (θ_run Cert.MergeReferenceIdeal.defs _ _).mono (fun _ h c => ?_) (Cert.MergeReferenceIdeal.Value.run (F := Ideal) m' ρ')
  obtain ⟨h0, h1, h2, h3, h4, h5, hk⟩ := h c
  obtain ⟨a0, a1, a2, a3, a4⟩ := hagree c
  rw [a0, a1, a2, a3, a4] at h0 h1 h2
  rw [a0, a4] at h3 h4 h5
  have e0 := ref_gate0 (m ((c : Thread nD τ).loc main_arg0)) (m ((c : Thread nD τ).loc main_arg1)) (m ((c : Thread nD τ).loc main_arg2)) (m ((c : Thread nD τ).loc main_arg3)) (m ((c : Thread nD τ).loc main_arg4))
  have e1 := ref_gate1 (m ((c : Thread nD τ).loc main_arg0)) (m ((c : Thread nD τ).loc main_arg1)) (m ((c : Thread nD τ).loc main_arg2)) (m ((c : Thread nD τ).loc main_arg3)) (m ((c : Thread nD τ).loc main_arg4))
  have e2 := ref_gate2 (m ((c : Thread nD τ).loc main_arg0)) (m ((c : Thread nD τ).loc main_arg1)) (m ((c : Thread nD τ).loc main_arg2)) (m ((c : Thread nD τ).loc main_arg3)) (m ((c : Thread nD τ).loc main_arg4))
  have e3 := ref_branch0 (m ((c : Thread nD τ).loc main_arg0)) (m ((c : Thread nD τ).loc main_arg4))
  have e4 := ref_branch1 (m ((c : Thread nD τ).loc main_arg0)) (m ((c : Thread nD τ).loc main_arg4))
  have e5 := ref_branch2 (m ((c : Thread nD τ).loc main_arg0)) (m ((c : Thread nD τ).loc main_arg4))
  exact ⟨h0.trans (funext e0), h1.trans (funext e1), h2.trans (funext e2), h3.trans (funext e3), h4.trans (funext e4), h5.trans (funext e5), hk⟩

end Cert.Merge

end
-- ==== Proof.Dup.lean ====
/-
  The gradient through the squared rectifier of the second feed-forward product: the kernel's blocks of
  `d_down · w_downᵀ`, each multiplied by `2 · max(up, 0)`, are the blocks of the array the reference computes.
-/
module

public import proofs.«01_k».proof.Defs
public import proofs.«01_k».proof.Proof.Common
public import proofs.«01_k».proof.Proof.Gen.DupKernel.Frame
public import proofs.«01_k».proof.Proof.Gen.DupKernelIdeal.Value
public import proofs.«01_k».proof.Proof.Gen.DupReferenceIdeal.Run
public import Idealize.ShloMosaic.Lib.Quiescent

@[expose] public section

noncomputable section

namespace Cert.Dup

open Idealize.ShloMosaic Idealize.ShloMosaic.TcCoe Idealize.SL.Sem Cert.Common

/-- The gradient at row `p` and column `q`: the product's row-by-row sum times twice the rectified value. -/
def spec (d : (⟨2, ![8192, 1024]⟩ : Shape).Idx → EReal) (w : (⟨2, ![4096, 1024]⟩ : Shape).Idx → EReal) (u : (⟨2, ![8192, 4096]⟩ : Shape).Idx → EReal) (p q : ℕ) : EReal :=
  (∑ k ∈ Finset.range 1024, at2 d p k * at2 w q k) * (Ideal.ofBits .bf16 0x4000#16 * max (at2 u p q) 0)

section kernel

open Cert.DupKernelIdeal Cert.DupKernelIdeal.Gen

variable (m : (ℓ : Loc nD τ sig) → Buf (Elt Ideal) ℓ) (ρ : Dev nD → PrngReg)

/-- The block indices of the four windows at a grid point, read off the point's number. -/
theorem idx_facts : ∀ t : Fin grid0.N,
    (win0_0.index t 0 = t.val / 4 ∧ win0_0.index t 1 = 0) ∧ (win0_1.index t 0 = t.val % 4 ∧ win0_1.index t 1 = 0)
    ∧ (win0_2.index t 0 = t.val / 4 ∧ win0_2.index t 1 = t.val % 4) ∧ (win0_3.index t 0 = t.val / 4 ∧ win0_3.index t 1 = t.val % 4) := by
  decide +kernel

/-- The body's stored block, element by element, over the three blocks it loads. -/
theorem pay_apply (a w u : FVec Ideal S1024x1024 .bf16) (y : S1024x1024.Idx) :
    (k0_pay1 (F := Ideal) a w u y : EReal) = (∑ k ∈ Finset.range 1024, at2 a (y 0).val k * at2 w (y 1).val k) * (Ideal.ofBits .bf16 0x4000#16 * max (u y) 0) := by
  unfold k0_pay1
  show (FloatOps.matmul (F := Ideal) dot_S1024x1024_S1024x1024_S1024x1024_1_1_0_0_n_n none a w (constant S1024x1024 .f32 0x00000000#32) y : EReal)
    * (Ideal.ofBits .bf16 0x4000#16 * max (u y) (Ideal.ofBits .bf16 0x0000#16)) = _
  rw [Ideal.matmul_constant_zero_apply, show Ideal.ofBits .bf16 0x0000#16 = 0 by simp [Ideal.ofBits, Ideal.ieee]]
  congr 1
  exact sum_axis_mul rfl 1024 rfl _ _ _ _ (fun k => eq_at2 a _ _ _ rfl rfl) (fun k => eq_at2 w _ _ _ rfl rfl)

/-- The block of `d_down` a grid point loads. -/
theorem blk0 (c : Dev nD) (t : Fin cfg0.N) (y : S1024x1024.Idx) : (iblk m c 0 t : Vec Ideal S1024x1024 .bf16) y
    = at2 (m ((c : Thread nD τ).loc main_arg0)) (t.val / 4 * 1024 + (y 0).val) (0 + (y 1).val) := by
  obtain ⟨⟨e0, e1⟩, -, -, -⟩ := idx_facts t
  exact eq_at2 (m ((c : Thread nD τ).loc main_arg0)) _ _ _
    (show win0_0.index t 0 * 1024 + 1 * (y 0).val = _ by rw [e0]; omega)
    (show win0_0.index t 1 * 1024 + 1 * (y 1).val = _ by rw [e1]; omega)

/-- The block of `w_down` a grid point loads. -/
theorem blk1 (c : Dev nD) (t : Fin cfg0.N) (y : S1024x1024.Idx) : (iblk m c 1 t : Vec Ideal S1024x1024 .bf16) y
    = at2 (m ((c : Thread nD τ).loc main_arg1)) (t.val % 4 * 1024 + (y 0).val) (0 + (y 1).val) := by
  obtain ⟨-, ⟨e0, e1⟩, -, -⟩ := idx_facts t
  exact eq_at2 (m ((c : Thread nD τ).loc main_arg1)) _ _ _
    (show win0_1.index t 0 * 1024 + 1 * (y 0).val = _ by rw [e0]; omega)
    (show win0_1.index t 1 * 1024 + 1 * (y 1).val = _ by rw [e1]; omega)

/-- The block of `up` a grid point loads. -/
theorem blk2 (c : Dev nD) (t : Fin cfg0.N) (y : S1024x1024.Idx) : (iblk m c 2 t : Vec Ideal S1024x1024 .bf16) y
    = at2 (m ((c : Thread nD τ).loc main_arg2)) (t.val / 4 * 1024 + (y 0).val) (t.val % 4 * 1024 + (y 1).val) := by
  obtain ⟨-, -, ⟨e0, e1⟩, -⟩ := idx_facts t
  exact eq_at2 (m ((c : Thread nD τ).loc main_arg2)) _ _ _
    (show win0_2.index t 0 * 1024 + 1 * (y 0).val = _ by rw [e0]; omega)
    (show win0_2.index t 1 * 1024 + 1 * (y 1).val = _ by rw [e1]; omega)

/-- The gradient as an array: what the kernel's result is shown to hold. -/
def G (c : Dev nD) : Buf (Elt Ideal) ((c : Thread nD τ).loc main_v0) := fun i : S8192x4096.Idx =>
  spec (m ((c : Thread nD τ).loc main_arg0)) (m ((c : Thread nD τ).loc main_arg1)) (m ((c : Thread nD τ).loc main_arg2)) (i 0).val (i 1).val

/-- What a grid point writes back is its block of the gradient. -/
theorem flushed_eq (c : Dev nD) (t : Fin cfg0.N) :
    (dats m 0 c).flushed 3 t = ((cfg0.win 3).blk t).view.read (Elt Ideal) (G m c) := by
  obtain ⟨-, -, -, ⟨e0, e1⟩⟩ := idx_facts t
  rw [Value.flushed3]
  funext y
  show out0_3 (iblk m c 0 t) (iblk m c 1 t) (iblk m c 2 t) (y : S1024x1024.Idx)
    = spec _ _ _ (win0_3.index t 0 * 1024 + 1 * (y 0).val) (win0_3.index t 1 * 1024 + 1 * (y 1).val)
  unfold out0_3
  rw [View.canon_unit_zero hz, View.ld_unit_zero hz, View.ld_unit_zero hz, View.ld_unit_zero hz, pay_apply]
  unfold spec
  have hy0 : (y 0).val < 1024 := (y 0).isLt
  have hy1 : (y 1).val < 1024 := (y 1).isLt
  rw [e0, e1, one_mul, one_mul]
  refine congrArg₂ _ (Finset.sum_congr rfl fun k hk => ?_) ?_
  · have hk := Finset.mem_range.1 hk
    rw [at2_block (blk0 m c t) hy0 hk, at2_block (blk1 m c t) hy1 hk, zero_add]
  · rw [blk2]

/-- Every element of the result is in some point's block. -/
theorem cover (i : S8192x4096.Idx) : ∃ t : Fin cfg0.N, (cfg0.win 3).flush t = true ∧ i ∈ ((cfg0.win 3).blk t).view.set := by
  have h0 : (i 0).val < 8192 := (i 0).isLt
  have h1 : (i 1).val < 4096 := (i 1).isLt
  have hN : cfg0.N = 32 := N_0
  have ht : 4 * ((i 0).val / 1024) + (i 1).val / 1024 < cfg0.N := by rw [hN]; omega
  refine ⟨⟨_, ht⟩, flush0_3 _, ?_⟩
  obtain ⟨-, -, -, ⟨e0, e1⟩⟩ := idx_facts ⟨_, ht⟩
  dsimp only at e0 e1
  show i ∈ ((View.whole main_v0).slice (win0_3.rect ⟨_, ht⟩)).set
  rw [View.set_slice_whole, Rect.mem_set_unit]
  intro a
  match a with
  | ⟨0, _⟩ =>
    show win0_3.index _ 0 * 1024 ≤ (i 0).val ∧ (i 0).val < win0_3.index _ 0 * 1024 + 1024
    rw [e0]; omega
  | ⟨1, _⟩ =>
    show win0_3.index _ 1 * 1024 ≤ (i 1).val ∧ (i 1).val < win0_3.index _ 1 * 1024 + 1024
    rw [e1]; omega

/-- The kernel's result array ends holding the gradient. -/
theorem final (c : Dev nD) : (dats m 0 c).arrAt 3 cfg0.N = G m c :=
  (dats m 0 c).arrAt_eq_of_cover 3 (G m c) (fun t _ => flushed_eq m c t) cover

end kernel

/-- The reference's select is the kernel's product with the rectified value: where `u` is not positive both are zero. -/
theorem select_eq (s z u : EReal) (hz : z = 0) :
    Scalar.select (Ideal.cmp .ogt u z) (s * (Ideal.ofBits .f32 0x40000000#32 * max u z)) z = s * (Ideal.ofBits .bf16 0x4000#16 * max u 0) := by
  subst hz
  rw [two_f32, two_bf16]
  by_cases h : 0 < u
  · simp [Scalar.select, Ideal.cmp, h]
  · rw [max_eq_right (not_lt.1 h)]; simp [Scalar.select, Ideal.cmp, h]

section reference

open Cert.DupReferenceIdeal Cert.DupReferenceIdeal.Gen

/-- The reference's array, element by element. -/
theorem ref_apply (d : FVec Ideal S8192x1024 .bf16) (w : FVec Ideal S4096x1024 .bf16) (u : FVec Ideal S8192x4096 .bf16) (i : S8192x4096.Idx) :
    (truncf .bf16 (select (cmpf .ogt (extf .f32 u bitsLt_bf16_f32) (broadcastInDim S8192x4096 ![] bcast_S_S8192x4096 (constant S_ .f32 0x00000000#32)))
      (mulf (Host.dotGeneral dot_S8192x1024_S4096x1024_S8192x4096_1_1_0_0_n_n none (extf .f32 d bitsLt_bf16_f32) (extf .f32 w bitsLt_bf16_f32))
        (mulf (broadcastInDim S8192x4096 ![] bcast_S_S8192x4096 (constant S_ .f32 0x40000000#32))
          (maximumf (extf .f32 u bitsLt_bf16_f32) (broadcastInDim S8192x4096 ![] bcast_S_S8192x4096 (constant S_ .f32 0x00000000#32)))))
      (broadcastInDim S8192x4096 ![] bcast_S_S8192x4096 (constant S_ .f32 0x00000000#32))) bitsLt_bf16_f32 : FVec Ideal S8192x4096 .bf16) i
    = spec d w u (i 0).val (i 1).val := by
  unfold spec
  rw [← eq_at2 u i _ _ rfl rfl]
  refine (select_eq (Host.dotGeneral dot_S8192x1024_S4096x1024_S8192x4096_1_1_0_0_n_n none (extf .f32 d bitsLt_bf16_f32) (extf .f32 w bitsLt_bf16_f32) i)
    (Ideal.ofBits .f32 0x00000000#32) (u i) (by simp)).trans ?_
  refine congrArg (fun s : EReal => s * _) ?_
  refine (Ideal.dotGeneral_apply _ _ _ _ _ _).trans ?_
  exact sum_axis_mul rfl 1024 rfl _ _ _ _ (fun k => eq_at2 d _ _ _ rfl rfl) (fun k => eq_at2 w _ _ _ rfl rfl)

end reference

/-- The frames: the generated runs. -/
theorem frame_k : Cert.quiescent_DupKernel := fun m ρ _ => Cert.DupKernel.Gen.frame m ρ
/-- … of the idealized kernel, -/
theorem frame_ki : Cert.quiescent_DupKernelIdeal := fun m ρ _ => Cert.DupKernelIdeal.Gen.frame m ρ
/-- … and of the reference, which has no semaphore. -/
theorem frame_r : Cert.quiescent_DupReferenceIdeal := fun m ρ _ =>
  (θ_run Cert.DupReferenceIdeal.defs _ _).mono (fun r h => ⟨fun c => (h c).2, Idealize.ShloMosaic.sem_eq_zero_of_no_sems (by decide) r.2⟩)
    (Cert.DupReferenceIdeal.Value.run (F := Ideal) m ρ)

open Cert.DupKernelIdeal Cert.DupKernelIdeal.Gen in
/-- The kernel's result and the reference's are the same array. -/
theorem algebraic : Cert.algebraic_DupKernelIdeal_DupReferenceIdeal := by
  intro m ρ m' ρ' _ hagree
  refine ⟨fun c => G m c, ?_, ?_⟩
  · exact (θ_run defs _ _).mono (fun _ h c => ⟨(h c).1.trans (final m c), (h c).2⟩) (Value.run_blocks (F := Ideal) m ρ)
  refine (θ_run Cert.DupReferenceIdeal.defs _ _).mono (fun _ h c => ⟨(h c).1.trans ?_, (h c).2⟩)
    (Cert.DupReferenceIdeal.Value.run (F := Ideal) m' ρ')
  rw [(hagree c).1, (hagree c).2.1, (hagree c).2.2]
  have e := ref_apply (m ((c : Thread nD τ).loc main_arg0)) (m ((c : Thread nD τ).loc main_arg1)) (m ((c : Thread nD τ).loc main_arg2))
  exact funext e

end Cert.Dup

end
-- ==== Proof.Gdown.lean ====
/-
  The gradient of the second feed-forward weight, `actᵀ · d_down`: the kernel adds one product of 1024-row blocks per grid
  point into a block of the result, eight to a block, and the reference contracts all 8192 rows at once.
-/
module

public import proofs.«01_k».proof.Defs
public import proofs.«01_k».proof.Proof.Common
public import proofs.«01_k».proof.Proof.Gen.GdownKernel.Frame
public import proofs.«01_k».proof.Proof.Gen.GdownKernelIdeal.Value
public import proofs.«01_k».proof.Proof.Gen.GdownReferenceIdeal.Run
public import Idealize.ShloMosaic.Lib.Quiescent
public import Idealize.ShloMosaic.Lib.Tactic

@[expose] public section

noncomputable section

namespace Cert.Gdown

open Idealize.ShloMosaic Idealize.ShloMosaic.TcCoe Idealize.SL.Sem Cert.Common

/-- The gradient at row `p` and column `q`, over the first `n` rows of the operands. -/
def spec (n : ℕ) (a : (⟨2, ![8192, 4096]⟩ : Shape).Idx → EReal) (d : (⟨2, ![8192, 1024]⟩ : Shape).Idx → EReal) (p q : ℕ) : EReal :=
  ∑ k ∈ Finset.range n, at2 a k p * at2 d k q

section kernel

open Cert.GdownKernelIdeal Cert.GdownKernelIdeal.Gen

variable (m : (ℓ : Loc nD τ sig) → Buf (Elt Ideal) ℓ) (ρ : Dev nD → PrngReg)

/-- The block indices of the windows at a grid point, read off the point's number. -/
theorem idx_facts : ∀ t : Fin grid0.N,
    (win0_0.index t 0 = t.val % 8 ∧ win0_0.index t 1 = t.val / 8) ∧ (win0_1.index t 0 = t.val % 8 ∧ win0_1.index t 1 = 0) := by
  decide +kernel

/-- The accumulating store, element by element. -/
theorem pay_apply (acc : FVec Ideal S1024x1024 .f32) (a w : FVec Ideal S1024x1024 .bf16) (y : S1024x1024.Idx) :
    (k0_pay2 (F := Ideal) acc a w y : EReal) = acc y + ∑ k ∈ Finset.range 1024, at2 a k (y 0).val * at2 w k (y 1).val := by
  unfold k0_pay2
  rw [shapeCast_self]
  show acc y + (FloatOps.matmul (F := Ideal) dot_S1024x1024_S1024x1024_S1024x1024_0_0_1_1_n_n none a w (constant S1024x1024 .f32 0x00000000#32) y : EReal) = _
  rw [Ideal.matmul_constant_zero_apply]
  refine congrArg (fun s : EReal => acc y + s) ?_
  exact sum_axis_mul rfl 1024 rfl _ _ _ _ (fun k => eq_at2 a _ _ _ rfl rfl) (fun k => eq_at2 w _ _ _ rfl rfl)

section point

variable (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .bf16) (h5 : a5.IsWhole) (a6 : Memref sig .tc .vmem S1024x1024 .f32) (h6 : a6.IsWhole)
  (x0 x1 : Vec Ideal S1024x1024 .bf16) (acc : Vec Ideal S1024x1024 .f32)

/-- The first point of a block's eight leaves the product added to zero. -/
theorem sout_A (hc0 : cond0_0 i) (hc1 : ¬cond0_1 i) :
    sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

/-- A later point adds its product to what the point before left, -/
theorem sout_B (hc0 : ¬cond0_0 i) (hc1 : ¬cond0_1 i) :
    sout0_B_0 c i a3 h3 a4 h4 a5 h5 a6 h6 hc0 hc1 x0 x1 acc = k0_pay2 acc x0 x1 := by
  unfold sout0_B_0
  rw [View.read_writes_eq_canon _ _ _ (scover0_B_0 c i a3 h3 a4 h4 a5 h5 a6 h6 hc0 hc1 x0 x1 acc)]
  unfold kernelRun0_B
  dsimp only
  rw [View.canon_unit_zero hz]
  simp only [View.readAt_eq_ld, h3.read_unread, h4.read_unread, h6.read_unread, View.ld_unit_zero (S := S1024x1024) hz]

/-- and so does the last one, -/
theorem sout_C (hc0 : ¬cond0_0 i) (hc1 : cond0_1 i) :
    sout0_C_0 c i a3 h3 a4 h4 a5 h5 a6 h6 hc0 hc1 x0 x1 acc = k0_pay2 acc x0 x1 := by
  unfold sout0_C_0
  rw [View.read_writes_eq_canon _ _ _ (scover0_C_0 c i a3 h3 a4 h4 a5 h5 a6 h6 hc0 hc1 x0 x1 acc)]
  unfold kernelRun0_C
  dsimp only
  sl_unfold_words
  rw [View.canon_unit_zero hz]
  simp only [View.readAt_eq_ld, h3.read_unread, h4.read_unread, h6.read_unread, View.ld_unit_zero (S := S1024x1024) hz]

/-- which then writes the sum out. -/
theorem out_C (hc0 : ¬cond0_0 i) (hc1 : cond0_1 i) :
    out0_C_2 c i a3 h3 a4 h4 a5 h5 a6 h6 hc0 hc1 x0 x1 acc = k0_pay3 (k0_pay2 acc x0 x1) := by
  unfold out0_C_2
  rw [View.read_writes_eq_canon _ _ _ (cover0_C_2 c i a3 h3 a4 h4 a5 h5 a6 h6 hc0 hc1 x0 x1 acc)]
  unfold kernelRun0_C
  dsimp only
  sl_unfold_words
  rw [View.canon_unit_zero hz, View.readCov_unit_zero (S := S1024x1024) _ hz]
  simp only [View.readAt_eq_ld, h3.read_unread, h4.read_unread, h6.read_unread, View.ld_unit_zero (S := S1024x1024) hz]

end point

/-- The block of `act` a grid point loads. -/
theorem blk0 (c : Dev nD) (t : Fin cfg0.N) (y : S1024x1024.Idx) : (iblk m c 0 t : Vec Ideal S1024x1024 .bf16) y
    = at2 (m ((c : Thread nD τ).loc main_arg0)) (1024 * (t.val % 8) + (y 0).val) (t.val / 8 * 1024 + (y 1).val) := by
  obtain ⟨⟨e0, e1⟩, -⟩ := idx_facts t
  exact eq_at2 (m ((c : Thread nD τ).loc main_arg0)) _ _ _
    (show win0_0.index t 0 * 1024 + 1 * (y 0).val = _ by rw [e0]; omega)
    (show win0_0.index t 1 * 1024 + 1 * (y 1).val = _ by rw [e1]; omega)

/-- The block of `d_down` a grid point loads. -/
theorem blk1 (c : Dev nD) (t : Fin cfg0.N) (y : S1024x1024.Idx) : (iblk m c 1 t : Vec Ideal S1024x1024 .bf16) y
    = at2 (m ((c : Thread nD τ).loc main_arg1)) (1024 * (t.val % 8) + (y 0).val) (0 + (y 1).val) := by
  obtain ⟨-, ⟨e0, e1⟩⟩ := idx_facts t
  exact eq_at2 (m ((c : Thread nD τ).loc main_arg1)) _ _ _
    (show win0_1.index t 0 * 1024 + 1 * (y 0).val = _ by rw [e0]; omega)
    (show win0_1.index t 1 * 1024 + 1 * (y 1).val = _ by rw [e1]; omega)

/-- One accumulating step extends the sum by the point's rows. -/
theorem step (c : Dev nD) (t : Fin cfg0.N) (acc : FVec Ideal S1024x1024 .f32) (y : S1024x1024.Idx)
    (h : acc y = spec (1024 * (t.val % 8)) (m ((c : Thread nD τ).loc main_arg0)) (m ((c : Thread nD τ).loc main_arg1)) (t.val / 8 * 1024 + (y 0).val) (y 1).val) :
    (k0_pay2 (F := Ideal) acc (iblk m c 0 t) (iblk m c 1 t) y : EReal)
      = spec (1024 * (t.val % 8 + 1)) (m ((c : Thread nD τ).loc main_arg0)) (m ((c : Thread nD τ).loc main_arg1)) (t.val / 8 * 1024 + (y 0).val) (y 1).val := by
  rw [pay_apply, h]
  unfold spec
  rw [← sum_block]
  refine congrArg (fun s : EReal => _ + s) (Finset.sum_congr rfl fun k hk => ?_)
  have hk := Finset.mem_range.1 hk
  rw [at2_block (blk0 m c t) hk (y 0).isLt, at2_block (blk1 m c t) hk (y 1).isLt, zero_add]

/-- What the accumulator holds after each point: the sum over the rows its block's points have visited. -/
theorem acc_eq (c : Dev nD) : ∀ (n : ℕ) (h : n < cfg0.N) (y : S1024x1024.Idx), ((outsAt0 m c n h).2 y : EReal)
    = spec (1024 * (n % 8 + 1)) (m ((c : Thread nD τ).loc main_arg0)) (m ((c : Thread nD τ).loc main_arg1)) (n / 8 * 1024 + (y 0).val) (y 1).val := by
  intro n
  induction n using Nat.strong_induction_on with
  | _ n ih =>
    intro h y
    by_cases h0 : n % 8 = 0
    · rw [outsAt0_A m c ⟨n, h⟩ h0 (by dsimp only; omega)]
      dsimp only
      rw [sout_A]
      refine step m c ⟨n, h⟩ _ y ?_
      dsimp only
      rw [h0]
      unfold k0_pay1 spec
      rw [shapeCast_self]
      exact Ideal.ofBits_zero_f32
    · have hp : n - 1 < cfg0.N := by omega
      have e := ih (n - 1) (by omega) hp y
      rw [show (n - 1) % 8 + 1 = n % 8 by omega, show (n - 1) / 8 = n / 8 by omega] at e
      by_cases h1 : n % 8 = 7
      · rw [outsAt0_C m c ⟨n, h⟩ h0 h1]
        dsimp only
        rw [sout_C]
        exact step m c ⟨n, h⟩ _ y e
      · rw [outsAt0_B m c ⟨n, h⟩ h0 h1]
        dsimp only
        rw [sout_B]
        exact step m c ⟨n, h⟩ _ y e

/-- What a block's last point writes out is the sum over all rows. -/
theorem out_eq (c : Dev nD) (t : Fin cfg0.N) (ht : t.val % 8 = 7) (y : S1024x1024.Idx) : ((outsAt0 m c t.val t.isLt).1 y : EReal)
    = spec 8192 (m ((c : Thread nD τ).loc main_arg0)) (m ((c : Thread nD τ).loc main_arg1)) (t.val / 8 * 1024 + (y 0).val) (y 1).val := by
  have e := acc_eq m c t.val t.isLt y
  rw [outsAt0_C m c t (by omega) ht] at e ⊢
  dsimp only at e ⊢
  rw [sout_C] at e
  rw [out_C]
  rw [ht] at e
  exact e

/-- The gradient as an array: what the kernel's result is shown to hold. -/
def G (c : Dev nD) : Buf (Elt Ideal) ((c : Thread nD τ).loc main_v0) := fun i : S4096x1024.Idx =>
  spec 8192 (m ((c : Thread nD τ).loc main_arg0)) (m ((c : Thread nD τ).loc main_arg1)) (i 0).val (i 1).val

/-- The kernel's result array ends holding the gradient. -/
theorem final (c : Dev nD) : Value.G2 m c = G m c := by
  funext i
  have h0 : (i 0).val < 4096 := (i 0).isLt
  have h1 : (i 1).val < 1024 := (i 1).isLt
  have hN : cfg0.N = 32 := N_0
  have hr : Value.run2Of i = (i 0).val / 1024 := by unfold Value.run2Of; omega
  have hp : Value.pt2Of i < cfg0.N := by unfold Value.pt2Of; rw [hr, hN]; omega
  unfold Value.G2
  rw [dif_pos hp, ← Value.outsAt0_sweep m c _ hp]
  refine (out_eq m c ⟨_, hp⟩ (by show (8 * _ + 7) % 8 = 7; omega) (Value.loc2Of i)).trans ?_
  unfold G
  refine congrArg₂ (spec 8192 _ _) ?_ ?_
  · show (8 * Value.run2Of i + 7) / 8 * 1024 + (i 0).val % 1024 = _
    rw [hr]; omega
  · show (i 1).val % 1024 = _
    omega

end kernel

section reference

open Cert.GdownReferenceIdeal Cert.GdownReferenceIdeal.Gen

/-- The reference's array, element by element. -/
theorem ref_apply (a : FVec Ideal S8192x4096 .bf16) (d : FVec Ideal S8192x1024 .bf16) (i : S4096x1024.Idx) :
    (truncf .bf16 (transpose S4096x1024 [1, 0] (Host.dotGeneral dot_S8192x1024_S8192x4096_S1024x4096_0_0_1_1_n_n none (extf .f32 d bitsLt_bf16_f32)
      (extf .f32 a bitsLt_bf16_f32)) transposes_S1024x4096_S4096x1024_1_0) bitsLt_bf16_f32 : FVec Ideal S4096x1024 .bf16) i
    = spec 8192 a d (i 0).val (i 1).val := by
  show (Host.dotGeneral dot_S8192x1024_S8192x4096_S1024x4096_0_0_1_1_n_n none (extf .f32 d bitsLt_bf16_f32) (extf .f32 a bitsLt_bf16_f32)
    (transposes_S1024x4096_S4096x1024_1_0.src i) : EReal) = _
  refine (Ideal.dotGeneral_apply _ _ _ _ _ _).trans ?_
  unfold spec
  simp only [mul_comm (at2 a _ _)]
  exact sum_axis_mul rfl 8192 rfl _ _ _ _ (fun k => eq_at2 d _ _ _ rfl rfl) (fun k => eq_at2 a _ _ _ rfl rfl)

end reference

/-- The frames: the generated runs. -/
theorem frame_k : Cert.quiescent_GdownKernel := fun m ρ _ => Cert.GdownKernel.Gen.frame m ρ
/-- … of the idealized kernel, -/
theorem frame_ki : Cert.quiescent_GdownKernelIdeal := fun m ρ _ => Cert.GdownKernelIdeal.Gen.frame m ρ
/-- … and of the reference, which has no semaphore. -/
theorem frame_r : Cert.quiescent_GdownReferenceIdeal := fun m ρ _ =>
  (θ_run Cert.GdownReferenceIdeal.defs _ _).mono (fun r h => ⟨fun c => (h c).2, Idealize.ShloMosaic.sem_eq_zero_of_no_sems (by decide) r.2⟩)
    (Cert.GdownReferenceIdeal.Value.run (F := Ideal) m ρ)

open Cert.GdownKernelIdeal Cert.GdownKernelIdeal.Gen in
/-- The kernel's result and the reference's are the same array. -/
theorem algebraic : Cert.algebraic_GdownKernelIdeal_GdownReferenceIdeal := by
  intro m ρ m' ρ' _ hagree
  refine ⟨fun c => G m c, ?_, ?_⟩
  · exact (θ_run defs _ _).mono (fun _ h c => ⟨(h c).1.trans (final m c), (h c).2⟩) (Value.run (F := Ideal) m ρ)
  refine (θ_run Cert.GdownReferenceIdeal.defs _ _).mono (fun _ h c => ⟨(h c).1.trans ?_, (h c).2⟩)
    (Cert.GdownReferenceIdeal.Value.run (F := Ideal) m' ρ')
  rw [(hagree c).1, (hagree c).2]
  have e := ref_apply (m ((c : Thread nD τ).loc main_arg0)) (m ((c : Thread nD τ).loc main_arg1))
  exact funext e

end Cert.Gdown

end
-- ==== Proof.DhTwo.lean ====
/-
  The gradient of the feed-forward part's input, `d_up · w_upᵀ`: the kernel adds one product of blocks per grid
  point into a block of the result, 4 to a block, and the reference contracts the whole axis at once.
-/
module

public import proofs.«01_k».proof.Defs
public import proofs.«01_k».proof.Proof.Common
public import proofs.«01_k».proof.Proof.Gen.DhTwoKernel.Frame
public import proofs.«01_k».proof.Proof.Gen.DhTwoKernelIdeal.Value
public import proofs.«01_k».proof.Proof.Gen.DhTwoReferenceIdeal.Run
public import Idealize.ShloMosaic.Lib.Quiescent
public import Idealize.ShloMosaic.Lib.Tactic
@[expose] public section

noncomputable section

namespace Cert.DhTwo

open Idealize.ShloMosaic Idealize.ShloMosaic.TcCoe Idealize.SL.Sem Cert.Common

/-- The product at row `p` and column `q`, over the first `n` terms. -/
def spec (n : ℕ) (a : (⟨2, ![8192, 4096]⟩ : Shape).Idx → EReal) (b : (⟨2, ![1024, 4096]⟩ : Shape).Idx → EReal) (p q : ℕ) : EReal :=
  ∑ k ∈ Finset.range n, at2 a p k * at2 b q k

section kernel

open Cert.DhTwoKernelIdeal Cert.DhTwoKernelIdeal.Gen

variable (m : (ℓ : Loc nD τ sig) → Buf (Elt Ideal) ℓ) (ρ : Dev nD → PrngReg)

/-- The block indices of the windows at a grid point, read off the point's number. -/
theorem idx_facts : ∀ t : Fin grid0.N,
    (win0_0.index t 0 = t.val / 4 ∧ win0_0.index t 1 = t.val % 4) ∧ (win0_1.index t 0 = 0 ∧ win0_1.index t 1 = t.val % 4) := by
  decide +kernel

/-- The accumulating store, element by element. -/
theorem pay_apply (acc : FVec Ideal S1024x1024 .f32) (a : FVec Ideal S1024x1024 .bf16) (w : FVec Ideal S1024x1024 .bf16) (y : S1024x1024.Idx) :
    (k0_pay2 (F := Ideal) acc a w y : EReal) = acc y + ∑ k ∈ Finset.range 1024, at2 a (y 0).val k * at2 w (y 1).val k := by
  unfold k0_pay2
  rw [shapeCast_self]
  show acc y + (FloatOps.matmul (F := Ideal) dot_S1024x1024_S1024x1024_S1024x1024_1_1_0_0_n_n none a w (constant S1024x1024 .f32 0x00000000#32) y : EReal) = _
  rw [Ideal.matmul_constant_zero_apply]
  refine congrArg (fun s : EReal => acc y + s) ?_
  exact sum_axis_mul rfl 1024 rfl _ _ _ _ (fun k => eq_at2 a _ _ _ rfl rfl) (fun k => eq_at2 w _ _ _ rfl rfl)

section point

variable (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .f32) (h5 : a5.IsWhole) (a6 : Memref sig .tc .vmem S1024x1024 .f32) (h6 : a6.IsWhole)
  (x0 : Vec Ideal S1024x1024 .bf16) (x1 : Vec Ideal S1024x1024 .bf16) (acc : Vec Ideal S1024x1024 .f32)

/-- The first point of a block's 4 leaves the product added to zero. -/
theorem sout_A (hc0 : cond0_0 i) (hc1 : ¬cond0_1 i) :
    sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

/-- A later point adds its product to what the point before left, -/
theorem sout_B (hc0 : ¬cond0_0 i) (hc1 : ¬cond0_1 i) :
    sout0_B_0 c i a3 h3 a4 h4 a5 h5 a6 h6 hc0 hc1 x0 x1 acc = k0_pay2 acc x0 x1 := by
  unfold sout0_B_0
  rw [View.read_writes_eq_canon _ _ _ (scover0_B_0 c i a3 h3 a4 h4 a5 h5 a6 h6 hc0 hc1 x0 x1 acc)]
  unfold kernelRun0_B
  dsimp only
  rw [View.canon_unit_zero hz]
  simp only [View.readAt_eq_ld, h3.read_unread, h4.read_unread, h6.read_unread, View.ld_unit_zero (S := S1024x1024) hz]

/-- and so does the last one, -/
theorem sout_C (hc0 : ¬cond0_0 i) (hc1 : cond0_1 i) :
    sout0_C_0 c i a3 h3 a4 h4 a5 h5 a6 h6 hc0 hc1 x0 x1 acc = k0_pay2 acc x0 x1 := by
  unfold sout0_C_0
  rw [View.read_writes_eq_canon _ _ _ (scover0_C_0 c i a3 h3 a4 h4 a5 h5 a6 h6 hc0 hc1 x0 x1 acc)]
  unfold kernelRun0_C
  dsimp only
  sl_unfold_words
  rw [View.canon_unit_zero hz]
  simp only [View.readAt_eq_ld, h3.read_unread, h4.read_unread, h6.read_unread, View.ld_unit_zero (S := S1024x1024) hz]

/-- which then writes the sum out. -/
theorem out_C (hc0 : ¬cond0_0 i) (hc1 : cond0_1 i) :
    out0_C_2 c i a3 h3 a4 h4 a5 h5 a6 h6 hc0 hc1 x0 x1 acc = k0_pay2 acc x0 x1 := by
  unfold out0_C_2
  rw [View.read_writes_eq_canon _ _ _ (cover0_C_2 c i a3 h3 a4 h4 a5 h5 a6 h6 hc0 hc1 x0 x1 acc)]
  unfold kernelRun0_C
  dsimp only
  sl_unfold_words
  rw [View.canon_unit_zero hz, View.readCov_unit_zero (S := S1024x1024) _ hz]
  simp only [View.readAt_eq_ld, h3.read_unread, h4.read_unread, h6.read_unread, View.ld_unit_zero (S := S1024x1024) hz]

end point

/-- The block of `d_up` a grid point loads. -/
theorem blk0 (c : Dev nD) (t : Fin cfg0.N) (y : S1024x1024.Idx) : (iblk m c 0 t : Vec Ideal S1024x1024 .bf16) y
    = at2 (m ((c : Thread nD τ).loc main_arg0)) (t.val / 4 * 1024 + (y 0).val) (1024 * (t.val % 4) + (y 1).val) := by
  obtain ⟨⟨e0, e1⟩, -⟩ := idx_facts t
  exact eq_at2 (m ((c : Thread nD τ).loc main_arg0)) _ _ _
    (show win0_0.index t 0 * 1024 + 1 * (y 0).val = _ by rw [e0]; omega)
    (show win0_0.index t 1 * 1024 + 1 * (y 1).val = _ by rw [e1]; omega)

/-- The block of `w_up` a grid point loads. -/
theorem blk1 (c : Dev nD) (t : Fin cfg0.N) (y : S1024x1024.Idx) : (iblk m c 1 t : Vec Ideal S1024x1024 .bf16) y
    = at2 (m ((c : Thread nD τ).loc main_arg1)) (0 * 1024 + (y 0).val) (1024 * (t.val % 4) + (y 1).val) := by
  obtain ⟨-, ⟨e0, e1⟩⟩ := idx_facts t
  exact eq_at2 (m ((c : Thread nD τ).loc main_arg1)) _ _ _
    (show win0_1.index t 0 * 1024 + 1 * (y 0).val = _ by rw [e0]; omega)
    (show win0_1.index t 1 * 1024 + 1 * (y 1).val = _ by rw [e1]; omega)

/-- One accumulating step extends the sum by the point's terms. -/
theorem step (c : Dev nD) (t : Fin cfg0.N) (acc : FVec Ideal S1024x1024 .f32) (y : S1024x1024.Idx)
    (h : acc y = spec (1024 * (t.val % 4)) (m ((c : Thread nD τ).loc main_arg0)) (m ((c : Thread nD τ).loc main_arg1)) (t.val / 4 * 1024 + (y 0).val) (0 * 1024 + (y 1).val)) :
    (k0_pay2 (F := Ideal) acc (iblk m c 0 t) (iblk m c 1 t) y : EReal)
      = spec (1024 * (t.val % 4 + 1)) (m ((c : Thread nD τ).loc main_arg0)) (m ((c : Thread nD τ).loc main_arg1)) (t.val / 4 * 1024 + (y 0).val) (0 * 1024 + (y 1).val) := by
  rw [pay_apply, h]
  unfold spec
  rw [← sum_block]
  refine congrArg (fun s : EReal => _ + s) (Finset.sum_congr rfl fun k hk => ?_)
  have hk := Finset.mem_range.1 hk
  rw [at2_block (blk0 m c t) (y 0).isLt hk, at2_block (blk1 m c t) (y 1).isLt hk]

/-- What the accumulator holds after each point: the sum over the terms its block's points have visited. -/
theorem acc_eq (c : Dev nD) : ∀ (n : ℕ) (h : n < cfg0.N) (y : S1024x1024.Idx), ((outsAt0 m c n h).2 y : EReal)
    = spec (1024 * (n % 4 + 1)) (m ((c : Thread nD τ).loc main_arg0)) (m ((c : Thread nD τ).loc main_arg1)) (n / 4 * 1024 + (y 0).val) (0 * 1024 + (y 1).val) := by
  intro n
  induction n using Nat.strong_induction_on with
  | _ n ih =>
    intro h y
    by_cases h0 : n % 4 = 0
    · rw [outsAt0_A m c ⟨n, h⟩ h0 (by dsimp only; omega)]
      dsimp only
      rw [sout_A]
      refine step m c ⟨n, h⟩ _ y ?_
      dsimp only
      rw [h0]
      unfold k0_pay1 spec
      rw [shapeCast_self]
      exact Ideal.ofBits_zero_f32
    · have hp : n - 1 < cfg0.N := by omega
      have e := ih (n - 1) (by omega) hp y
      rw [show (n - 1) % 4 + 1 = n % 4 by omega, show (n - 1) / 4 = n / 4 by omega] at e
      by_cases h1 : n % 4 = 3
      · rw [outsAt0_C m c ⟨n, h⟩ h0 h1]
        dsimp only
        rw [sout_C]
        exact step m c ⟨n, h⟩ _ y e
      · rw [outsAt0_B m c ⟨n, h⟩ h0 h1]
        dsimp only
        rw [sout_B]
        exact step m c ⟨n, h⟩ _ y e

/-- What a block's last point writes out is the sum over all terms. -/
theorem out_eq (c : Dev nD) (t : Fin cfg0.N) (ht : t.val % 4 = 3) (y : S1024x1024.Idx) : ((outsAt0 m c t.val t.isLt).1 y : EReal)
    = spec 4096 (m ((c : Thread nD τ).loc main_arg0)) (m ((c : Thread nD τ).loc main_arg1)) (t.val / 4 * 1024 + (y 0).val) (0 * 1024 + (y 1).val) := by
  have e := acc_eq m c t.val t.isLt y
  rw [outsAt0_C m c t (by omega) ht] at e ⊢
  dsimp only at e ⊢
  rw [sout_C] at e
  rw [out_C]
  rw [ht] at e
  exact e

/-- The product as an array: what the kernel's result is shown to hold. -/
def G (c : Dev nD) : Buf (Elt Ideal) ((c : Thread nD τ).loc main_v0) := fun i : S8192x1024.Idx =>
  spec 4096 (m ((c : Thread nD τ).loc main_arg0)) (m ((c : Thread nD τ).loc main_arg1)) (i 0).val (i 1).val

/-- The kernel's result array ends holding the product. -/
theorem final (c : Dev nD) : Value.G2 m c = G m c := by
  funext i
  have h0 : (i 0).val < 8192 := (i 0).isLt
  have h1 : (i 1).val < 1024 := (i 1).isLt
  have hN : cfg0.N = 32 := N_0
  have hr : Value.run2Of i = (i 0).val / 1024 := by unfold Value.run2Of; omega
  have hp : Value.pt2Of i < cfg0.N := by unfold Value.pt2Of; rw [hr, hN]; omega
  unfold Value.G2
  rw [dif_pos hp, ← Value.outsAt0_sweep m c _ hp]
  refine (out_eq m c ⟨_, hp⟩ (by show (4 * _ + 3) % 4 = 3; omega) (Value.loc2Of i)).trans ?_
  unfold G
  refine congrArg₂ (spec 4096 _ _) ?_ ?_
  · show (4 * Value.run2Of i + 3) / 4 * 1024 + (i 0).val % 1024 = _
    rw [hr]; omega
  · show 0 * 1024 + (i 1).val % 1024 = _
    omega

end kernel

section reference

open Cert.DhTwoReferenceIdeal Cert.DhTwoReferenceIdeal.Gen

/-- The reference's array, element by element. -/
theorem ref_apply (a : FVec Ideal S8192x4096 .bf16) (b : FVec Ideal S1024x4096 .bf16) (i : S8192x1024.Idx) :
    (Host.dotGeneral dot_S8192x4096_S1024x4096_S8192x1024_1_1_0_0_n_n none (extf .f32 a bitsLt_bf16_f32) (extf .f32 b bitsLt_bf16_f32) : FVec Ideal S8192x1024 .f32) i
    = spec 4096 a b (i 0).val (i 1).val := by
  show (Host.dotGeneral dot_S8192x4096_S1024x4096_S8192x1024_1_1_0_0_n_n none (extf .f32 a bitsLt_bf16_f32) (extf .f32 b bitsLt_bf16_f32) i : EReal) = _
  refine (Ideal.dotGeneral_apply _ _ _ _ _ _).trans ?_
  unfold spec
  exact sum_axis_mul rfl 4096 rfl _ _ _ _ (fun k => eq_at2 a _ _ _ rfl rfl) (fun k => eq_at2 b _ _ _ rfl rfl)

end reference

/-- The frames: the generated runs. -/
theorem frame_k : Cert.quiescent_DhTwoKernel := fun m ρ _ => Cert.DhTwoKernel.Gen.frame m ρ
/-- … of the idealized kernel, -/
theorem frame_ki : Cert.quiescent_DhTwoKernelIdeal := fun m ρ _ => Cert.DhTwoKernelIdeal.Gen.frame m ρ
/-- … and of the reference, which has no semaphore. -/
theorem frame_r : Cert.quiescent_DhTwoReferenceIdeal := fun m ρ _ =>
  (θ_run Cert.DhTwoReferenceIdeal.defs _ _).mono (fun r h => ⟨fun c => (h c).2, Idealize.ShloMosaic.sem_eq_zero_of_no_sems (by decide) r.2⟩)
    (Cert.DhTwoReferenceIdeal.Value.run (F := Ideal) m ρ)

open Cert.DhTwoKernelIdeal Cert.DhTwoKernelIdeal.Gen in
/-- The kernel's result and the reference's are the same array. -/
theorem algebraic : Cert.algebraic_DhTwoKernelIdeal_DhTwoReferenceIdeal := by
  intro m ρ m' ρ' _ hagree
  refine ⟨fun c => G m c, ?_, ?_⟩
  · exact (θ_run defs _ _).mono (fun _ h c => ⟨(h c).1.trans (final m c), (h c).2⟩) (Value.run (F := Ideal) m ρ)
  refine (θ_run Cert.DhTwoReferenceIdeal.defs _ _).mono (fun _ h c => ⟨(h c).1.trans ?_, (h c).2⟩)
    (Cert.DhTwoReferenceIdeal.Value.run (F := Ideal) m' ρ')
  rw [(hagree c).1, (hagree c).2]
  have e := ref_apply (m ((c : Thread nD τ).loc main_arg0)) (m ((c : Thread nD τ).loc main_arg1))
  exact funext e

end Cert.DhTwo

end
-- ==== Proof.Gup.lean ====
/-
  The gradient of the first feed-forward weight, `h2ᵀ · d_up`: the kernel adds one product of blocks per grid
  point into a block of the result, 8 to a block, and the reference contracts the whole axis at once.
-/
module

public import proofs.«01_k».proof.Defs
public import proofs.«01_k».proof.Proof.Common
public import proofs.«01_k».proof.Proof.Gen.GupKernel.Frame
public import proofs.«01_k».proof.Proof.Gen.GupKernelIdeal.Value
public import proofs.«01_k».proof.Proof.Gen.GupReferenceIdeal.Run
public import Idealize.ShloMosaic.Lib.Quiescent
public import Idealize.ShloMosaic.Lib.Tactic
@[expose] public section

noncomputable section

namespace Cert.Gup

open Idealize.ShloMosaic Idealize.ShloMosaic.TcCoe Idealize.SL.Sem Cert.Common

/-- The product at row `p` and column `q`, over the first `n` terms. -/
def spec (n : ℕ) (a : (⟨2, ![8192, 1024]⟩ : Shape).Idx → EReal) (b : (⟨2, ![8192, 4096]⟩ : Shape).Idx → EReal) (p q : ℕ) : EReal :=
  ∑ k ∈ Finset.range n, at2 a k p * at2 b k q

section kernel

open Cert.GupKernelIdeal Cert.GupKernelIdeal.Gen

variable (m : (ℓ : Loc nD τ sig) → Buf (Elt Ideal) ℓ) (ρ : Dev nD → PrngReg)

/-- The block indices of the windows at a grid point, read off the point's number. -/
theorem idx_facts : ∀ t : Fin grid0.N,
    (win0_0.index t 0 = t.val % 8 ∧ win0_0.index t 1 = 0) ∧ (win0_1.index t 0 = t.val % 8 ∧ win0_1.index t 1 = t.val / 8) := by
  decide +kernel

/-- The accumulating store, element by element. -/
theorem pay_apply (acc : FVec Ideal S1024x1024 .f32) (a : FVec Ideal S1024x1024 .bf16) (w : FVec Ideal S1024x1024 .bf16) (y : S1024x1024.Idx) :
    (k0_pay2 (F := Ideal) acc a w y : EReal) = acc y + ∑ k ∈ Finset.range 1024, at2 a k (y 0).val * at2 w k (y 1).val := by
  unfold k0_pay2
  rw [shapeCast_self]
  show acc y + (FloatOps.matmul (F := Ideal) dot_S1024x1024_S1024x1024_S1024x1024_0_0_1_1_n_n none a w (constant S1024x1024 .f32 0x00000000#32) y : EReal) = _
  rw [Ideal.matmul_constant_zero_apply]
  refine congrArg (fun s : EReal => acc y + s) ?_
  exact sum_axis_mul rfl 1024 rfl _ _ _ _ (fun k => eq_at2 a _ _ _ rfl rfl) (fun k => eq_at2 w _ _ _ rfl rfl)

section point

variable (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .bf16) (h5 : a5.IsWhole) (a6 : Memref sig .tc .vmem S1024x1024 .f32) (h6 : a6.IsWhole)
  (x0 : Vec Ideal S1024x1024 .bf16) (x1 : Vec Ideal S1024x1024 .bf16) (acc : Vec Ideal S1024x1024 .f32)

/-- The first point of a block's 8 leaves the product added to zero. -/
theorem sout_A (hc0 : cond0_0 i) (hc1 : ¬cond0_1 i) :
    sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

/-- A later point adds its product to what the point before left, -/
theorem sout_B (hc0 : ¬cond0_0 i) (hc1 : ¬cond0_1 i) :
    sout0_B_0 c i a3 h3 a4 h4 a5 h5 a6 h6 hc0 hc1 x0 x1 acc = k0_pay2 acc x0 x1 := by
  unfold sout0_B_0
  rw [View.read_writes_eq_canon _ _ _ (scover0_B_0 c i a3 h3 a4 h4 a5 h5 a6 h6 hc0 hc1 x0 x1 acc)]
  unfold kernelRun0_B
  dsimp only
  rw [View.canon_unit_zero hz]
  simp only [View.readAt_eq_ld, h3.read_unread, h4.read_unread, h6.read_unread, View.ld_unit_zero (S := S1024x1024) hz]

/-- and so does the last one, -/
theorem sout_C (hc0 : ¬cond0_0 i) (hc1 : cond0_1 i) :
    sout0_C_0 c i a3 h3 a4 h4 a5 h5 a6 h6 hc0 hc1 x0 x1 acc = k0_pay2 acc x0 x1 := by
  unfold sout0_C_0
  rw [View.read_writes_eq_canon _ _ _ (scover0_C_0 c i a3 h3 a4 h4 a5 h5 a6 h6 hc0 hc1 x0 x1 acc)]
  unfold kernelRun0_C
  dsimp only
  sl_unfold_words
  rw [View.canon_unit_zero hz]
  simp only [View.readAt_eq_ld, h3.read_unread, h4.read_unread, h6.read_unread, View.ld_unit_zero (S := S1024x1024) hz]

/-- which then writes the sum out. -/
theorem out_C (hc0 : ¬cond0_0 i) (hc1 : cond0_1 i) :
    out0_C_2 c i a3 h3 a4 h4 a5 h5 a6 h6 hc0 hc1 x0 x1 acc = k0_pay3 (k0_pay2 acc x0 x1) := by
  unfold out0_C_2
  rw [View.read_writes_eq_canon _ _ _ (cover0_C_2 c i a3 h3 a4 h4 a5 h5 a6 h6 hc0 hc1 x0 x1 acc)]
  unfold kernelRun0_C
  dsimp only
  sl_unfold_words
  rw [View.canon_unit_zero hz, View.readCov_unit_zero (S := S1024x1024) _ hz]
  simp only [View.readAt_eq_ld, h3.read_unread, h4.read_unread, h6.read_unread, View.ld_unit_zero (S := S1024x1024) hz]

end point

/-- The block of `h2` a grid point loads. -/
theorem blk0 (c : Dev nD) (t : Fin cfg0.N) (y : S1024x1024.Idx) : (iblk m c 0 t : Vec Ideal S1024x1024 .bf16) y
    = at2 (m ((c : Thread nD τ).loc main_arg0)) (1024 * (t.val % 8) + (y 0).val) (0 * 1024 + (y 1).val) := by
  obtain ⟨⟨e0, e1⟩, -⟩ := idx_facts t
  exact eq_at2 (m ((c : Thread nD τ).loc main_arg0)) _ _ _
    (show win0_0.index t 0 * 1024 + 1 * (y 0).val = _ by rw [e0]; omega)
    (show win0_0.index t 1 * 1024 + 1 * (y 1).val = _ by rw [e1]; omega)

/-- The block of `d_up` a grid point loads. -/
theorem blk1 (c : Dev nD) (t : Fin cfg0.N) (y : S1024x1024.Idx) : (iblk m c 1 t : Vec Ideal S1024x1024 .bf16) y
    = at2 (m ((c : Thread nD τ).loc main_arg1)) (1024 * (t.val % 8) + (y 0).val) (t.val / 8 * 1024 + (y 1).val) := by
  obtain ⟨-, ⟨e0, e1⟩⟩ := idx_facts t
  exact eq_at2 (m ((c : Thread nD τ).loc main_arg1)) _ _ _
    (show win0_1.index t 0 * 1024 + 1 * (y 0).val = _ by rw [e0]; omega)
    (show win0_1.index t 1 * 1024 + 1 * (y 1).val = _ by rw [e1]; omega)

/-- One accumulating step extends the sum by the point's terms. -/
theorem step (c : Dev nD) (t : Fin cfg0.N) (acc : FVec Ideal S1024x1024 .f32) (y : S1024x1024.Idx)
    (h : acc y = spec (1024 * (t.val % 8)) (m ((c : Thread nD τ).loc main_arg0)) (m ((c : Thread nD τ).loc main_arg1)) (0 * 1024 + (y 0).val) (t.val / 8 * 1024 + (y 1).val)) :
    (k0_pay2 (F := Ideal) acc (iblk m c 0 t) (iblk m c 1 t) y : EReal)
      = spec (1024 * (t.val % 8 + 1)) (m ((c : Thread nD τ).loc main_arg0)) (m ((c : Thread nD τ).loc main_arg1)) (0 * 1024 + (y 0).val) (t.val / 8 * 1024 + (y 1).val) := by
  rw [pay_apply, h]
  unfold spec
  rw [← sum_block]
  refine congrArg (fun s : EReal => _ + s) (Finset.sum_congr rfl fun k hk => ?_)
  have hk := Finset.mem_range.1 hk
  rw [at2_block (blk0 m c t) hk (y 0).isLt, at2_block (blk1 m c t) hk (y 1).isLt]

/-- What the accumulator holds after each point: the sum over the terms its block's points have visited. -/
theorem acc_eq (c : Dev nD) : ∀ (n : ℕ) (h : n < cfg0.N) (y : S1024x1024.Idx), ((outsAt0 m c n h).2 y : EReal)
    = spec (1024 * (n % 8 + 1)) (m ((c : Thread nD τ).loc main_arg0)) (m ((c : Thread nD τ).loc main_arg1)) (0 * 1024 + (y 0).val) (n / 8 * 1024 + (y 1).val) := by
  intro n
  induction n using Nat.strong_induction_on with
  | _ n ih =>
    intro h y
    by_cases h0 : n % 8 = 0
    · rw [outsAt0_A m c ⟨n, h⟩ h0 (by dsimp only; omega)]
      dsimp only
      rw [sout_A]
      refine step m c ⟨n, h⟩ _ y ?_
      dsimp only
      rw [h0]
      unfold k0_pay1 spec
      rw [shapeCast_self]
      exact Ideal.ofBits_zero_f32
    · have hp : n - 1 < cfg0.N := by omega
      have e := ih (n - 1) (by omega) hp y
      rw [show (n - 1) % 8 + 1 = n % 8 by omega, show (n - 1) / 8 = n / 8 by omega] at e
      by_cases h1 : n % 8 = 7
      · rw [outsAt0_C m c ⟨n, h⟩ h0 h1]
        dsimp only
        rw [sout_C]
        exact step m c ⟨n, h⟩ _ y e
      · rw [outsAt0_B m c ⟨n, h⟩ h0 h1]
        dsimp only
        rw [sout_B]
        exact step m c ⟨n, h⟩ _ y e

/-- What a block's last point writes out is the sum over all terms. -/
theorem out_eq (c : Dev nD) (t : Fin cfg0.N) (ht : t.val % 8 = 7) (y : S1024x1024.Idx) : ((outsAt0 m c t.val t.isLt).1 y : EReal)
    = spec 8192 (m ((c : Thread nD τ).loc main_arg0)) (m ((c : Thread nD τ).loc main_arg1)) (0 * 1024 + (y 0).val) (t.val / 8 * 1024 + (y 1).val) := by
  have e := acc_eq m c t.val t.isLt y
  rw [outsAt0_C m c t (by omega) ht] at e ⊢
  dsimp only at e ⊢
  rw [sout_C] at e
  rw [out_C]
  rw [ht] at e
  exact e

/-- The product as an array: what the kernel's result is shown to hold. -/
def G (c : Dev nD) : Buf (Elt Ideal) ((c : Thread nD τ).loc main_v0) := fun i : S1024x4096.Idx =>
  spec 8192 (m ((c : Thread nD τ).loc main_arg0)) (m ((c : Thread nD τ).loc main_arg1)) (i 0).val (i 1).val

/-- The kernel's result array ends holding the product. -/
theorem final (c : Dev nD) : Value.G2 m c = G m c := by
  funext i
  have h0 : (i 0).val < 1024 := (i 0).isLt
  have h1 : (i 1).val < 4096 := (i 1).isLt
  have hN : cfg0.N = 32 := N_0
  have hr : Value.run2Of i = (i 1).val / 1024 := by unfold Value.run2Of; omega
  have hp : Value.pt2Of i < cfg0.N := by unfold Value.pt2Of; rw [hr, hN]; omega
  unfold Value.G2
  rw [dif_pos hp, ← Value.outsAt0_sweep m c _ hp]
  refine (out_eq m c ⟨_, hp⟩ (by show (8 * _ + 7) % 8 = 7; omega) (Value.loc2Of i)).trans ?_
  unfold G
  refine congrArg₂ (spec 8192 _ _) ?_ ?_
  · show 0 * 1024 + (i 0).val % 1024 = _
    omega
  · show (8 * Value.run2Of i + 7) / 8 * 1024 + (i 1).val % 1024 = _
    rw [hr]; omega

end kernel

section reference

open Cert.GupReferenceIdeal Cert.GupReferenceIdeal.Gen

/-- The reference's array, element by element. -/
theorem ref_apply (a : FVec Ideal S8192x1024 .bf16) (b : FVec Ideal S8192x4096 .bf16) (i : S1024x4096.Idx) :
    (truncf .bf16 (transpose S1024x4096 [1, 0] (Host.dotGeneral dot_S8192x4096_S8192x1024_S4096x1024_0_0_1_1_n_n none (extf .f32 b bitsLt_bf16_f32) (extf .f32 a bitsLt_bf16_f32)) transposes_S4096x1024_S1024x4096_1_0) bitsLt_bf16_f32 : FVec Ideal S1024x4096 .bf16) i
    = spec 8192 a b (i 0).val (i 1).val := by
  show (Host.dotGeneral dot_S8192x4096_S8192x1024_S4096x1024_0_0_1_1_n_n none (extf .f32 b bitsLt_bf16_f32) (extf .f32 a bitsLt_bf16_f32) (transposes_S4096x1024_S1024x4096_1_0.src i) : EReal) = _
  refine (Ideal.dotGeneral_apply _ _ _ _ _ _).trans ?_
  unfold spec
  simp only [mul_comm (at2 a _ _)]
  exact sum_axis_mul rfl 8192 rfl _ _ _ _ (fun k => eq_at2 b _ _ _ rfl rfl) (fun k => eq_at2 a _ _ _ rfl rfl)

end reference

/-- The frames: the generated runs. -/
theorem frame_k : Cert.quiescent_GupKernel := fun m ρ _ => Cert.GupKernel.Gen.frame m ρ
/-- … of the idealized kernel, -/
theorem frame_ki : Cert.quiescent_GupKernelIdeal := fun m ρ _ => Cert.GupKernelIdeal.Gen.frame m ρ
/-- … and of the reference, which has no semaphore. -/
theorem frame_r : Cert.quiescent_GupReferenceIdeal := fun m ρ _ =>
  (θ_run Cert.GupReferenceIdeal.defs _ _).mono (fun r h => ⟨fun c => (h c).2, Idealize.ShloMosaic.sem_eq_zero_of_no_sems (by decide) r.2⟩)
    (Cert.GupReferenceIdeal.Value.run (F := Ideal) m ρ)

open Cert.GupKernelIdeal Cert.GupKernelIdeal.Gen in
/-- The kernel's result and the reference's are the same array. -/
theorem algebraic : Cert.algebraic_GupKernelIdeal_GupReferenceIdeal := by
  intro m ρ m' ρ' _ hagree
  refine ⟨fun c => G m c, ?_, ?_⟩
  · exact (θ_run defs _ _).mono (fun _ h c => ⟨(h c).1.trans (final m c), (h c).2⟩) (Value.run (F := Ideal) m ρ)
  refine (θ_run Cert.GupReferenceIdeal.defs _ _).mono (fun _ h c => ⟨(h c).1.trans ?_, (h c).2⟩)
    (Cert.GupReferenceIdeal.Value.run (F := Ideal) m' ρ')
  rw [(hagree c).1, (hagree c).2]
  have e := ref_apply (m ((c : Thread nD τ).loc main_arg0)) (m ((c : Thread nD τ).loc main_arg1))
  exact funext e

end Cert.Gup

end
-- ==== Proof.Dmerged.lean ====
/-
  The gradient of the merged branches, `d_mix · w_outᵀ`: the kernel computes a block of the result per grid
  point, and the blocks are those of the array the reference computes.
-/
module

public import proofs.«01_k».proof.Defs
public import proofs.«01_k».proof.Proof.Common
public import proofs.«01_k».proof.Proof.Gen.DmergedKernel.Frame
public import proofs.«01_k».proof.Proof.Gen.DmergedKernelIdeal.Value
public import proofs.«01_k».proof.Proof.Gen.DmergedReferenceIdeal.Run
public import Idealize.ShloMosaic.Lib.Quiescent

@[expose] public section

noncomputable section

namespace Cert.Dmerged

open Idealize.ShloMosaic Idealize.ShloMosaic.TcCoe Idealize.SL.Sem Cert.Common

/-- The product at row `p` and column `q`. -/
def spec (a : (⟨2, ![8192, 1024]⟩ : Shape).Idx → EReal) (b : (⟨2, ![1024, 1024]⟩ : Shape).Idx → EReal) (p q : ℕ) : EReal :=
  ∑ k ∈ Finset.range 1024, at2 a p k * at2 b q k

section kernel

open Cert.DmergedKernelIdeal Cert.DmergedKernelIdeal.Gen

variable (m : (ℓ : Loc nD τ sig) → Buf (Elt Ideal) ℓ) (ρ : Dev nD → PrngReg)

/-- The block indices of the windows at a grid point, read off the point's number. -/
theorem idx_facts : ∀ t : Fin grid0.N,
    (win0_0.index t 0 = t.val ∧ win0_0.index t 1 = 0) ∧ (win0_1.index t 0 = 0 ∧ win0_1.index t 1 = 0)
    ∧ (win0_2.index t 0 = t.val ∧ win0_2.index t 1 = 0) := by
  decide +kernel

/-- The body's stored block, element by element, over the two blocks it loads. -/
theorem pay_apply (a : FVec Ideal S1024x1024 .bf16) (w : FVec Ideal S1024x1024 .bf16) (y : S1024x1024.Idx) :
    (k0_pay1 (F := Ideal) a w y : EReal) = ∑ k ∈ Finset.range 1024, at2 a (y 0).val k * at2 w (y 1).val k := by
  unfold k0_pay1
  show (FloatOps.matmul (F := Ideal) dot_S1024x1024_S1024x1024_S1024x1024_1_1_0_0_n_n none a w (constant S1024x1024 .f32 0x00000000#32) y : EReal) = _
  rw [Ideal.matmul_constant_zero_apply]
  exact sum_axis_mul rfl 1024 rfl _ _ _ _ (fun k => eq_at2 a _ _ _ rfl rfl) (fun k => eq_at2 w _ _ _ rfl rfl)

/-- The block of `d_mix` a grid point loads. -/
theorem blk0 (c : Dev nD) (t : Fin cfg0.N) (y : S1024x1024.Idx) : (iblk m c 0 t : Vec Ideal S1024x1024 .bf16) y
    = at2 (m ((c : Thread nD τ).loc main_arg0)) (t.val * 1024 + (y 0).val) (0 + (y 1).val) := by
  obtain ⟨⟨e0, e1⟩, -⟩ := idx_facts t
  exact eq_at2 (m ((c : Thread nD τ).loc main_arg0)) _ _ _
    (show win0_0.index t 0 * 1024 + 1 * (y 0).val = _ by rw [e0]; omega)
    (show win0_0.index t 1 * 1024 + 1 * (y 1).val = _ by rw [e1]; omega)

/-- The block of `w_out` a grid point loads. -/
theorem blk1 (c : Dev nD) (t : Fin cfg0.N) (y : S1024x1024.Idx) : (iblk m c 1 t : Vec Ideal S1024x1024 .bf16) y
    = at2 (m ((c : Thread nD τ).loc main_arg1)) (0 * 1024 + (y 0).val) (0 + (y 1).val) := by
  obtain ⟨-, ⟨e0, e1⟩, -⟩ := idx_facts t
  exact eq_at2 (m ((c : Thread nD τ).loc main_arg1)) _ _ _
    (show win0_1.index t 0 * 1024 + 1 * (y 0).val = _ by rw [e0]; omega)
    (show win0_1.index t 1 * 1024 + 1 * (y 1).val = _ by rw [e1]; omega)

/-- The product as an array: what the kernel's result is shown to hold. -/
def G (c : Dev nD) : Buf (Elt Ideal) ((c : Thread nD τ).loc main_v0) := fun i : S8192x1024.Idx =>
  spec (m ((c : Thread nD τ).loc main_arg0)) (m ((c : Thread nD τ).loc main_arg1)) (i 0).val (i 1).val

/-- What a grid point writes back is its block of that array. -/
theorem flushed_eq (c : Dev nD) (t : Fin cfg0.N) :
    (dats m 0 c).flushed 2 t = ((cfg0.win 2).blk t).view.read (Elt Ideal) (G m c) := by
  obtain ⟨-, -, ⟨e0, e1⟩⟩ := idx_facts t
  rw [Value.flushed2]
  funext y
  show out0_2 (iblk m c 0 t) (iblk m c 1 t) (y : S1024x1024.Idx)
    = spec (m ((c : Thread nD τ).loc main_arg0)) (m ((c : Thread nD τ).loc main_arg1)) (win0_2.index t 0 * 1024 + 1 * (y 0).val) (win0_2.index t 1 * 1024 + 1 * (y 1).val)
  unfold out0_2
  rw [View.canon_unit_zero hz, View.ld_unit_zero hz, View.ld_unit_zero hz, pay_apply]
  unfold spec
  have hy0 : (y 0).val < 1024 := (y 0).isLt
  have hy1 : (y 1).val < 1024 := (y 1).isLt
  rw [e0, e1, one_mul, one_mul]
  refine Finset.sum_congr rfl fun k hk => ?_
  have hk := Finset.mem_range.1 hk
  rw [at2_block (blk0 m c t) hy0 hk, at2_block (blk1 m c t) hy1 hk, zero_add]

/-- Every element of the result is in some point's block. -/
theorem cover (i : S8192x1024.Idx) : ∃ t : Fin cfg0.N, (cfg0.win 2).flush t = true ∧ i ∈ ((cfg0.win 2).blk t).view.set := by
  have h0 : (i 0).val < 8192 := (i 0).isLt
  have h1 : (i 1).val < 1024 := (i 1).isLt
  have hN : cfg0.N = 8 := N_0
  have ht : (i 0).val / 1024 < cfg0.N := by rw [hN]; omega
  refine ⟨⟨_, ht⟩, flush0_2 _, ?_⟩
  obtain ⟨-, -, ⟨e0, e1⟩⟩ := idx_facts ⟨_, ht⟩
  dsimp only at e0 e1
  show i ∈ ((View.whole main_v0).slice (win0_2.rect ⟨_, ht⟩)).set
  rw [View.set_slice_whole, Rect.mem_set_unit]
  intro a
  match a with
  | ⟨0, _⟩ =>
    show win0_2.index _ 0 * 1024 ≤ (i 0).val ∧ (i 0).val < win0_2.index _ 0 * 1024 + 1024
    rw [e0]; omega
  | ⟨1, _⟩ =>
    show win0_2.index _ 1 * 1024 ≤ (i 1).val ∧ (i 1).val < win0_2.index _ 1 * 1024 + 1024
    rw [e1]; omega

/-- The kernel's result array ends holding it. -/
theorem final (c : Dev nD) : (dats m 0 c).arrAt 2 cfg0.N = G m c :=
  (dats m 0 c).arrAt_eq_of_cover 2 (G m c) (fun t _ => flushed_eq m c t) cover

end kernel

section reference

open Cert.DmergedReferenceIdeal Cert.DmergedReferenceIdeal.Gen

/-- The reference's array, element by element. -/
theorem ref_apply (a : FVec Ideal S8192x1024 .bf16) (b : FVec Ideal S1024x1024 .bf16) (i : S8192x1024.Idx) :
    (Host.dotGeneral dot_S8192x1024_S1024x1024_S8192x1024_1_1_0_0_n_n none (extf .f32 a bitsLt_bf16_f32) (extf .f32 b bitsLt_bf16_f32) : FVec Ideal S8192x1024 .f32) i
    = spec a b (i 0).val (i 1).val := by
  show (Host.dotGeneral dot_S8192x1024_S1024x1024_S8192x1024_1_1_0_0_n_n none (extf .f32 a bitsLt_bf16_f32) (extf .f32 b bitsLt_bf16_f32) i : EReal) = _
  refine (Ideal.dotGeneral_apply _ _ _ _ _ _).trans ?_
  unfold spec
  exact sum_axis_mul rfl 1024 rfl _ _ _ _ (fun k => eq_at2 a _ _ _ rfl rfl) (fun k => eq_at2 b _ _ _ rfl rfl)

end reference

/-- The frames: the generated runs. -/
theorem frame_k : Cert.quiescent_DmergedKernel := fun m ρ _ => Cert.DmergedKernel.Gen.frame m ρ
/-- … of the idealized kernel, -/
theorem frame_ki : Cert.quiescent_DmergedKernelIdeal := fun m ρ _ => Cert.DmergedKernelIdeal.Gen.frame m ρ
/-- … and of the reference, which has no semaphore. -/
theorem frame_r : Cert.quiescent_DmergedReferenceIdeal := fun m ρ _ =>
  (θ_run Cert.DmergedReferenceIdeal.defs _ _).mono (fun r h => ⟨fun c => (h c).2, Idealize.ShloMosaic.sem_eq_zero_of_no_sems (by decide) r.2⟩)
    (Cert.DmergedReferenceIdeal.Value.run (F := Ideal) m ρ)

open Cert.DmergedKernelIdeal Cert.DmergedKernelIdeal.Gen in
/-- The kernel's result and the reference's are the same array. -/
theorem algebraic : Cert.algebraic_DmergedKernelIdeal_DmergedReferenceIdeal := by
  intro m ρ m' ρ' _ hagree
  refine ⟨fun c => G m c, ?_, ?_⟩
  · exact (θ_run defs _ _).mono (fun _ h c => ⟨(h c).1.trans (final m c), (h c).2⟩) (Value.run_blocks (F := Ideal) m ρ)
  refine (θ_run Cert.DmergedReferenceIdeal.defs _ _).mono (fun _ h c => ⟨(h c).1.trans ?_, (h c).2⟩)
    (Cert.DmergedReferenceIdeal.Value.run (F := Ideal) m' ρ')
  rw [(hagree c).1, (hagree c).2]
  have e := ref_apply (m ((c : Thread nD τ).loc main_arg0)) (m ((c : Thread nD τ).loc main_arg1))
  exact funext e

end Cert.Dmerged

end
-- ==== Proof.Gout.lean ====
/-
  The gradient of the output projection's weight, `mergedᵀ · d_mix`: the kernel adds one product of blocks per grid
  point into a block of the result, 8 to a block, and the reference contracts the whole axis at once.
-/
module

public import proofs.«01_k».proof.Defs
public import proofs.«01_k».proof.Proof.Common
public import proofs.«01_k».proof.Proof.Gen.GoutKernel.Frame
public import proofs.«01_k».proof.Proof.Gen.GoutKernelIdeal.Value
public import proofs.«01_k».proof.Proof.Gen.GoutReferenceIdeal.Run
public import Idealize.ShloMosaic.Lib.Quiescent
public import Idealize.ShloMosaic.Lib.Tactic
@[expose] public section

noncomputable section

namespace Cert.Gout

open Idealize.ShloMosaic Idealize.ShloMosaic.TcCoe Idealize.SL.Sem Cert.Common

/-- The product at row `p` and column `q`, over the first `n` terms. -/
def spec (n : ℕ) (a : (⟨2, ![8192, 1024]⟩ : Shape).Idx → EReal) (b : (⟨2, ![8192, 1024]⟩ : Shape).Idx → EReal) (p q : ℕ) : EReal :=
  ∑ k ∈ Finset.range n, at2 a k p * at2 b k q

section kernel

open Cert.GoutKernelIdeal Cert.GoutKernelIdeal.Gen

variable (m : (ℓ : Loc nD τ sig) → Buf (Elt Ideal) ℓ) (ρ : Dev nD → PrngReg)

/-- The block indices of the windows at a grid point, read off the point's number. -/
theorem idx_facts : ∀ t : Fin grid0.N,
    (win0_0.index t 0 = t.val % 8 ∧ win0_0.index t 1 = 0) ∧ (win0_1.index t 0 = t.val % 8 ∧ win0_1.index t 1 = 0) := by
  decide +kernel

/-- The accumulating store, element by element. -/
theorem pay_apply (acc : FVec Ideal S1024x1024 .f32) (a : FVec Ideal S1024x1024 .bf16) (w : FVec Ideal S1024x1024 .bf16) (y : S1024x1024.Idx) :
    (k0_pay2 (F := Ideal) acc a w y : EReal) = acc y + ∑ k ∈ Finset.range 1024, at2 a k (y 0).val * at2 w k (y 1).val := by
  unfold k0_pay2
  rw [shapeCast_self]
  show acc y + (FloatOps.matmul (F := Ideal) dot_S1024x1024_S1024x1024_S1024x1024_0_0_1_1_n_n none a w (constant S1024x1024 .f32 0x00000000#32) y : EReal) = _
  rw [Ideal.matmul_constant_zero_apply]
  refine congrArg (fun s : EReal => acc y + s) ?_
  exact sum_axis_mul rfl 1024 rfl _ _ _ _ (fun k => eq_at2 a _ _ _ rfl rfl) (fun k => eq_at2 w _ _ _ rfl rfl)

section point

variable (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .bf16) (h5 : a5.IsWhole) (a6 : Memref sig .tc .vmem S1024x1024 .f32) (h6 : a6.IsWhole)
  (x0 : Vec Ideal S1024x1024 .bf16) (x1 : Vec Ideal S1024x1024 .bf16) (acc : Vec Ideal S1024x1024 .f32)

/-- The first point of a block's 8 leaves the product added to zero. -/
theorem sout_A (hc0 : cond0_0 i) (hc1 : ¬cond0_1 i) :
    sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

/-- A later point adds its product to what the point before left, -/
theorem sout_B (hc0 : ¬cond0_0 i) (hc1 : ¬cond0_1 i) :
    sout0_B_0 c i a3 h3 a4 h4 a5 h5 a6 h6 hc0 hc1 x0 x1 acc = k0_pay2 acc x0 x1 := by
  unfold sout0_B_0
  rw [View.read_writes_eq_canon _ _ _ (scover0_B_0 c i a3 h3 a4 h4 a5 h5 a6 h6 hc0 hc1 x0 x1 acc)]
  unfold kernelRun0_B
  dsimp only
  rw [View.canon_unit_zero hz]
  simp only [View.readAt_eq_ld, h3.read_unread, h4.read_unread, h6.read_unread, View.ld_unit_zero (S := S1024x1024) hz]

/-- and so does the last one, -/
theorem sout_C (hc0 : ¬cond0_0 i) (hc1 : cond0_1 i) :
    sout0_C_0 c i a3 h3 a4 h4 a5 h5 a6 h6 hc0 hc1 x0 x1 acc = k0_pay2 acc x0 x1 := by
  unfold sout0_C_0
  rw [View.read_writes_eq_canon _ _ _ (scover0_C_0 c i a3 h3 a4 h4 a5 h5 a6 h6 hc0 hc1 x0 x1 acc)]
  unfold kernelRun0_C
  dsimp only
  sl_unfold_words
  rw [View.canon_unit_zero hz]
  simp only [View.readAt_eq_ld, h3.read_unread, h4.read_unread, h6.read_unread, View.ld_unit_zero (S := S1024x1024) hz]

/-- which then writes the sum out. -/
theorem out_C (hc0 : ¬cond0_0 i) (hc1 : cond0_1 i) :
    out0_C_2 c i a3 h3 a4 h4 a5 h5 a6 h6 hc0 hc1 x0 x1 acc = k0_pay3 (k0_pay2 acc x0 x1) := by
  unfold out0_C_2
  rw [View.read_writes_eq_canon _ _ _ (cover0_C_2 c i a3 h3 a4 h4 a5 h5 a6 h6 hc0 hc1 x0 x1 acc)]
  unfold kernelRun0_C
  dsimp only
  sl_unfold_words
  rw [View.canon_unit_zero hz, View.readCov_unit_zero (S := S1024x1024) _ hz]
  simp only [View.readAt_eq_ld, h3.read_unread, h4.read_unread, h6.read_unread, View.ld_unit_zero (S := S1024x1024) hz]

end point

/-- The block of `merged` a grid point loads. -/
theorem blk0 (c : Dev nD) (t : Fin cfg0.N) (y : S1024x1024.Idx) : (iblk m c 0 t : Vec Ideal S1024x1024 .bf16) y
    = at2 (m ((c : Thread nD τ).loc main_arg0)) (1024 * (t.val % 8) + (y 0).val) (0 * 1024 + (y 1).val) := by
  obtain ⟨⟨e0, e1⟩, -⟩ := idx_facts t
  exact eq_at2 (m ((c : Thread nD τ).loc main_arg0)) _ _ _
    (show win0_0.index t 0 * 1024 + 1 * (y 0).val = _ by rw [e0]; omega)
    (show win0_0.index t 1 * 1024 + 1 * (y 1).val = _ by rw [e1]; omega)

/-- The block of `d_mix` a grid point loads. -/
theorem blk1 (c : Dev nD) (t : Fin cfg0.N) (y : S1024x1024.Idx) : (iblk m c 1 t : Vec Ideal S1024x1024 .bf16) y
    = at2 (m ((c : Thread nD τ).loc main_arg1)) (1024 * (t.val % 8) + (y 0).val) (0 * 1024 + (y 1).val) := by
  obtain ⟨-, ⟨e0, e1⟩⟩ := idx_facts t
  exact eq_at2 (m ((c : Thread nD τ).loc main_arg1)) _ _ _
    (show win0_1.index t 0 * 1024 + 1 * (y 0).val = _ by rw [e0]; omega)
    (show win0_1.index t 1 * 1024 + 1 * (y 1).val = _ by rw [e1]; omega)

/-- One accumulating step extends the sum by the point's terms. -/
theorem step (c : Dev nD) (t : Fin cfg0.N) (acc : FVec Ideal S1024x1024 .f32) (y : S1024x1024.Idx)
    (h : acc y = spec (1024 * (t.val % 8)) (m ((c : Thread nD τ).loc main_arg0)) (m ((c : Thread nD τ).loc main_arg1)) (0 * 1024 + (y 0).val) (0 * 1024 + (y 1).val)) :
    (k0_pay2 (F := Ideal) acc (iblk m c 0 t) (iblk m c 1 t) y : EReal)
      = spec (1024 * (t.val % 8 + 1)) (m ((c : Thread nD τ).loc main_arg0)) (m ((c : Thread nD τ).loc main_arg1)) (0 * 1024 + (y 0).val) (0 * 1024 + (y 1).val) := by
  rw [pay_apply, h]
  unfold spec
  rw [← sum_block]
  refine congrArg (fun s : EReal => _ + s) (Finset.sum_congr rfl fun k hk => ?_)
  have hk := Finset.mem_range.1 hk
  rw [at2_block (blk0 m c t) hk (y 0).isLt, at2_block (blk1 m c t) hk (y 1).isLt]

/-- What the accumulator holds after each point: the sum over the terms its block's points have visited. -/
theorem acc_eq (c : Dev nD) : ∀ (n : ℕ) (h : n < cfg0.N) (y : S1024x1024.Idx), ((outsAt0 m c n h).2 y : EReal)
    = spec (1024 * (n % 8 + 1)) (m ((c : Thread nD τ).loc main_arg0)) (m ((c : Thread nD τ).loc main_arg1)) (0 * 1024 + (y 0).val) (0 * 1024 + (y 1).val) := by
  intro n
  induction n using Nat.strong_induction_on with
  | _ n ih =>
    intro h y
    by_cases h0 : n % 8 = 0
    · rw [outsAt0_A m c ⟨n, h⟩ h0 (by dsimp only; omega)]
      dsimp only
      rw [sout_A]
      refine step m c ⟨n, h⟩ _ y ?_
      dsimp only
      rw [h0]
      unfold k0_pay1 spec
      rw [shapeCast_self]
      exact Ideal.ofBits_zero_f32
    · have hp : n - 1 < cfg0.N := by omega
      have e := ih (n - 1) (by omega) hp y
      rw [show (n - 1) % 8 + 1 = n % 8 by omega] at e
      by_cases h1 : n % 8 = 7
      · rw [outsAt0_C m c ⟨n, h⟩ h0 h1]
        dsimp only
        rw [sout_C]
        exact step m c ⟨n, h⟩ _ y e
      · rw [outsAt0_B m c ⟨n, h⟩ h0 h1]
        dsimp only
        rw [sout_B]
        exact step m c ⟨n, h⟩ _ y e

/-- What a block's last point writes out is the sum over all terms. -/
theorem out_eq (c : Dev nD) (t : Fin cfg0.N) (ht : t.val % 8 = 7) (y : S1024x1024.Idx) : ((outsAt0 m c t.val t.isLt).1 y : EReal)
    = spec 8192 (m ((c : Thread nD τ).loc main_arg0)) (m ((c : Thread nD τ).loc main_arg1)) (0 * 1024 + (y 0).val) (0 * 1024 + (y 1).val) := by
  have e := acc_eq m c t.val t.isLt y
  rw [outsAt0_C m c t (by omega) ht] at e ⊢
  dsimp only at e ⊢
  rw [sout_C] at e
  rw [out_C]
  rw [ht] at e
  exact e

/-- The product as an array: what the kernel's result is shown to hold. -/
def G (c : Dev nD) : Buf (Elt Ideal) ((c : Thread nD τ).loc main_v0) := fun i : S1024x1024.Idx =>
  spec 8192 (m ((c : Thread nD τ).loc main_arg0)) (m ((c : Thread nD τ).loc main_arg1)) (i 0).val (i 1).val

/-- The kernel's result array ends holding the product. -/
theorem final (c : Dev nD) : Value.G2 m c = G m c := by
  funext i
  have h0 : (i 0).val < 1024 := (i 0).isLt
  have h1 : (i 1).val < 1024 := (i 1).isLt
  have hN : cfg0.N = 8 := N_0
  have hr : Value.run2Of i = 0 := by unfold Value.run2Of; omega
  have hp : Value.pt2Of i < cfg0.N := by unfold Value.pt2Of; rw [hr, hN]; omega
  unfold Value.G2
  rw [dif_pos hp, ← Value.outsAt0_sweep m c _ hp]
  refine (out_eq m c ⟨_, hp⟩ (by show (8 * _ + 7) % 8 = 7; omega) (Value.loc2Of i)).trans ?_
  unfold G
  refine congrArg₂ (spec 8192 _ _) ?_ ?_
  · show 0 * 1024 + (i 0).val % 1024 = _
    omega
  · show 0 * 1024 + (i 1).val % 1024 = _
    omega

end kernel

section reference

open Cert.GoutReferenceIdeal Cert.GoutReferenceIdeal.Gen

/-- The reference's array, element by element. -/
theorem ref_apply (a : FVec Ideal S8192x1024 .bf16) (b : FVec Ideal S8192x1024 .bf16) (i : S1024x1024.Idx) :
    (truncf .bf16 (transpose S1024x1024 [1, 0] (Host.dotGeneral dot_S8192x1024_S8192x1024_S1024x1024_0_0_1_1_n_n none (extf .f32 b bitsLt_bf16_f32) (extf .f32 a bitsLt_bf16_f32)) transposes_S1024x1024_S1024x1024_1_0) bitsLt_bf16_f32 : FVec Ideal S1024x1024 .bf16) i
    = spec 8192 a b (i 0).val (i 1).val := by
  show (Host.dotGeneral dot_S8192x1024_S8192x1024_S1024x1024_0_0_1_1_n_n none (extf .f32 b bitsLt_bf16_f32) (extf .f32 a bitsLt_bf16_f32) (transposes_S1024x1024_S1024x1024_1_0.src i) : EReal) = _
  refine (Ideal.dotGeneral_apply _ _ _ _ _ _).trans ?_
  unfold spec
  simp only [mul_comm (at2 a _ _)]
  exact sum_axis_mul rfl 8192 rfl _ _ _ _ (fun k => eq_at2 b _ _ _ rfl rfl) (fun k => eq_at2 a _ _ _ rfl rfl)

end reference

/-- The frames: the generated runs. -/
theorem frame_k : Cert.quiescent_GoutKernel := fun m ρ _ => Cert.GoutKernel.Gen.frame m ρ
/-- … of the idealized kernel, -/
theorem frame_ki : Cert.quiescent_GoutKernelIdeal := fun m ρ _ => Cert.GoutKernelIdeal.Gen.frame m ρ
/-- … and of the reference, which has no semaphore. -/
theorem frame_r : Cert.quiescent_GoutReferenceIdeal := fun m ρ _ =>
  (θ_run Cert.GoutReferenceIdeal.defs _ _).mono (fun r h => ⟨fun c => (h c).2, Idealize.ShloMosaic.sem_eq_zero_of_no_sems (by decide) r.2⟩)
    (Cert.GoutReferenceIdeal.Value.run (F := Ideal) m ρ)

open Cert.GoutKernelIdeal Cert.GoutKernelIdeal.Gen in
/-- The kernel's result and the reference's are the same array. -/
theorem algebraic : Cert.algebraic_GoutKernelIdeal_GoutReferenceIdeal := by
  intro m ρ m' ρ' _ hagree
  refine ⟨fun c => G m c, ?_, ?_⟩
  · exact (θ_run defs _ _).mono (fun _ h c => ⟨(h c).1.trans (final m c), (h c).2⟩) (Value.run (F := Ideal) m ρ)
  refine (θ_run Cert.GoutReferenceIdeal.defs _ _).mono (fun _ h c => ⟨(h c).1.trans ?_, (h c).2⟩)
    (Cert.GoutReferenceIdeal.Value.run (F := Ideal) m' ρ')
  rw [(hagree c).1, (hagree c).2]
  have e := ref_apply (m ((c : Thread nD τ).loc main_arg0)) (m ((c : Thread nD τ).loc main_arg1))
  exact funext e

end Cert.Gout

end
-- ==== Proof.Dy.lean ====
/-
  The gradient of a branch's input, `d_p · w_branchᵀ`: the kernel computes a block of the result per grid
  point, and the blocks are those of the array the reference computes.
-/
module

public import proofs.«01_k».proof.Defs
public import proofs.«01_k».proof.Proof.Common
public import proofs.«01_k».proof.Proof.Gen.DyKernel.Frame
public import proofs.«01_k».proof.Proof.Gen.DyKernelIdeal.Value
public import proofs.«01_k».proof.Proof.Gen.DyReferenceIdeal.Run
public import Idealize.ShloMosaic.Lib.Quiescent

@[expose] public section

noncomputable section

namespace Cert.Dy

open Idealize.ShloMosaic Idealize.ShloMosaic.TcCoe Idealize.SL.Sem Cert.Common

/-- The product at row `p` and column `q`. -/
def spec (a : (⟨2, ![8192, 1024]⟩ : Shape).Idx → EReal) (b : (⟨2, ![512, 1024]⟩ : Shape).Idx → EReal) (p q : ℕ) : EReal :=
  ∑ k ∈ Finset.range 1024, at2 a p k * at2 b q k

section kernel

open Cert.DyKernelIdeal Cert.DyKernelIdeal.Gen

variable (m : (ℓ : Loc nD τ sig) → Buf (Elt Ideal) ℓ) (ρ : Dev nD → PrngReg)

/-- The block indices of the windows at a grid point, read off the point's number. -/
theorem idx_facts : ∀ t : Fin grid0.N,
    (win0_0.index t 0 = t.val ∧ win0_0.index t 1 = 0) ∧ (win0_1.index t 0 = 0 ∧ win0_1.index t 1 = 0)
    ∧ (win0_2.index t 0 = t.val ∧ win0_2.index t 1 = 0) := by
  decide +kernel

/-- The body's stored block, element by element, over the two blocks it loads. -/
theorem pay_apply (a : FVec Ideal S1024x1024 .bf16) (w : FVec Ideal S512x1024 .bf16) (y : S1024x512.Idx) :
    (k0_pay1 (F := Ideal) a w y : EReal) = ∑ k ∈ Finset.range 1024, at2 a (y 0).val k * at2 w (y 1).val k := by
  unfold k0_pay1
  show (FloatOps.matmul (F := Ideal) dot_S1024x1024_S512x1024_S1024x512_1_1_0_0_n_n none a w (constant S1024x512 .f32 0x00000000#32) y : EReal) = _
  rw [Ideal.matmul_constant_zero_apply]
  exact sum_axis_mul rfl 1024 rfl _ _ _ _ (fun k => eq_at2 a _ _ _ rfl rfl) (fun k => eq_at2 w _ _ _ rfl rfl)

/-- The block of `d_p` a grid point loads. -/
theorem blk0 (c : Dev nD) (t : Fin cfg0.N) (y : S1024x1024.Idx) : (iblk m c 0 t : Vec Ideal S1024x1024 .bf16) y
    = at2 (m ((c : Thread nD τ).loc main_arg0)) (t.val * 1024 + (y 0).val) (0 + (y 1).val) := by
  obtain ⟨⟨e0, e1⟩, -⟩ := idx_facts t
  exact eq_at2 (m ((c : Thread nD τ).loc main_arg0)) _ _ _
    (show win0_0.index t 0 * 1024 + 1 * (y 0).val = _ by rw [e0]; omega)
    (show win0_0.index t 1 * 1024 + 1 * (y 1).val = _ by rw [e1]; omega)

/-- The block of `w_branch` a grid point loads. -/
theorem blk1 (c : Dev nD) (t : Fin cfg0.N) (y : S512x1024.Idx) : (iblk m c 1 t : Vec Ideal S512x1024 .bf16) y
    = at2 (m ((c : Thread nD τ).loc main_arg1)) (0 * 512 + (y 0).val) (0 + (y 1).val) := by
  obtain ⟨-, ⟨e0, e1⟩, -⟩ := idx_facts t
  exact eq_at2 (m ((c : Thread nD τ).loc main_arg1)) _ _ _
    (show win0_1.index t 0 * 512 + 1 * (y 0).val = _ by rw [e0]; omega)
    (show win0_1.index t 1 * 1024 + 1 * (y 1).val = _ by rw [e1]; omega)

/-- The product as an array: what the kernel's result is shown to hold. -/
def G (c : Dev nD) : Buf (Elt Ideal) ((c : Thread nD τ).loc main_v0) := fun i : S8192x512.Idx =>
  spec (m ((c : Thread nD τ).loc main_arg0)) (m ((c : Thread nD τ).loc main_arg1)) (i 0).val (i 1).val

/-- What a grid point writes back is its block of that array. -/
theorem flushed_eq (c : Dev nD) (t : Fin cfg0.N) :
    (dats m 0 c).flushed 2 t = ((cfg0.win 2).blk t).view.read (Elt Ideal) (G m c) := by
  obtain ⟨-, -, ⟨e0, e1⟩⟩ := idx_facts t
  rw [Value.flushed2]
  funext y
  show out0_2 (iblk m c 0 t) (iblk m c 1 t) (y : S1024x512.Idx)
    = spec (m ((c : Thread nD τ).loc main_arg0)) (m ((c : Thread nD τ).loc main_arg1)) (win0_2.index t 0 * 1024 + 1 * (y 0).val) (win0_2.index t 1 * 512 + 1 * (y 1).val)
  unfold out0_2
  rw [View.canon_unit_zero hz, View.ld_unit_zero hz, View.ld_unit_zero hz, pay_apply]
  unfold spec
  have hy0 : (y 0).val < 1024 := (y 0).isLt
  have hy1 : (y 1).val < 512 := (y 1).isLt
  rw [e0, e1, one_mul, one_mul]
  refine Finset.sum_congr rfl fun k hk => ?_
  have hk := Finset.mem_range.1 hk
  rw [at2_block (blk0 m c t) hy0 hk, at2_block (blk1 m c t) hy1 hk, zero_add]

/-- Every element of the result is in some point's block. -/
theorem cover (i : S8192x512.Idx) : ∃ t : Fin cfg0.N, (cfg0.win 2).flush t = true ∧ i ∈ ((cfg0.win 2).blk t).view.set := by
  have h0 : (i 0).val < 8192 := (i 0).isLt
  have h1 : (i 1).val < 512 := (i 1).isLt
  have hN : cfg0.N = 8 := N_0
  have ht : (i 0).val / 1024 < cfg0.N := by rw [hN]; omega
  refine ⟨⟨_, ht⟩, flush0_2 _, ?_⟩
  obtain ⟨-, -, ⟨e0, e1⟩⟩ := idx_facts ⟨_, ht⟩
  dsimp only at e0 e1
  show i ∈ ((View.whole main_v0).slice (win0_2.rect ⟨_, ht⟩)).set
  rw [View.set_slice_whole, Rect.mem_set_unit]
  intro a
  match a with
  | ⟨0, _⟩ =>
    show win0_2.index _ 0 * 1024 ≤ (i 0).val ∧ (i 0).val < win0_2.index _ 0 * 1024 + 1024
    rw [e0]; omega
  | ⟨1, _⟩ =>
    show win0_2.index _ 1 * 512 ≤ (i 1).val ∧ (i 1).val < win0_2.index _ 1 * 512 + 512
    rw [e1]; omega

/-- The kernel's result array ends holding it. -/
theorem final (c : Dev nD) : (dats m 0 c).arrAt 2 cfg0.N = G m c :=
  (dats m 0 c).arrAt_eq_of_cover 2 (G m c) (fun t _ => flushed_eq m c t) cover

end kernel

section reference

open Cert.DyReferenceIdeal Cert.DyReferenceIdeal.Gen

/-- The reference's array, element by element. -/
theorem ref_apply (a : FVec Ideal S8192x1024 .bf16) (b : FVec Ideal S512x1024 .bf16) (i : S8192x512.Idx) :
    (Host.dotGeneral dot_S8192x1024_S512x1024_S8192x512_1_1_0_0_n_n none (extf .f32 a bitsLt_bf16_f32) (extf .f32 b bitsLt_bf16_f32) : FVec Ideal S8192x512 .f32) i
    = spec a b (i 0).val (i 1).val := by
  show (Host.dotGeneral dot_S8192x1024_S512x1024_S8192x512_1_1_0_0_n_n none (extf .f32 a bitsLt_bf16_f32) (extf .f32 b bitsLt_bf16_f32) i : EReal) = _
  refine (Ideal.dotGeneral_apply _ _ _ _ _ _).trans ?_
  unfold spec
  exact sum_axis_mul rfl 1024 rfl _ _ _ _ (fun k => eq_at2 a _ _ _ rfl rfl) (fun k => eq_at2 b _ _ _ rfl rfl)

end reference

/-- The frames: the generated runs. -/
theorem frame_k : Cert.quiescent_DyKernel := fun m ρ _ => Cert.DyKernel.Gen.frame m ρ
/-- … of the idealized kernel, -/
theorem frame_ki : Cert.quiescent_DyKernelIdeal := fun m ρ _ => Cert.DyKernelIdeal.Gen.frame m ρ
/-- … and of the reference, which has no semaphore. -/
theorem frame_r : Cert.quiescent_DyReferenceIdeal := fun m ρ _ =>
  (θ_run Cert.DyReferenceIdeal.defs _ _).mono (fun r h => ⟨fun c => (h c).2, Idealize.ShloMosaic.sem_eq_zero_of_no_sems (by decide) r.2⟩)
    (Cert.DyReferenceIdeal.Value.run (F := Ideal) m ρ)

open Cert.DyKernelIdeal Cert.DyKernelIdeal.Gen in
/-- The kernel's result and the reference's are the same array. -/
theorem algebraic : Cert.algebraic_DyKernelIdeal_DyReferenceIdeal := by
  intro m ρ m' ρ' _ hagree
  refine ⟨fun c => G m c, ?_, ?_⟩
  · exact (θ_run defs _ _).mono (fun _ h c => ⟨(h c).1.trans (final m c), (h c).2⟩) (Value.run_blocks (F := Ideal) m ρ)
  refine (θ_run Cert.DyReferenceIdeal.defs _ _).mono (fun _ h c => ⟨(h c).1.trans ?_, (h c).2⟩)
    (Cert.DyReferenceIdeal.Value.run (F := Ideal) m' ρ')
  rw [(hagree c).1, (hagree c).2]
  have e := ref_apply (m ((c : Thread nD τ).loc main_arg0)) (m ((c : Thread nD τ).loc main_arg1))
  exact funext e

end Cert.Dy

end
-- ==== Proof.Gbranch.lean ====
/-
  The gradient of a branch's weight, `yᵀ · d_p`: the kernel adds one product of blocks per grid
  point into a block of the result, 8 to a block, and the reference contracts the whole axis at once.
-/
module

public import proofs.«01_k».proof.Defs
public import proofs.«01_k».proof.Proof.Common
public import proofs.«01_k».proof.Proof.Gen.GbranchKernel.Frame
public import proofs.«01_k».proof.Proof.Gen.GbranchKernelIdeal.Value
public import proofs.«01_k».proof.Proof.Gen.GbranchReferenceIdeal.Run
public import Idealize.ShloMosaic.Lib.Quiescent
public import Idealize.ShloMosaic.Lib.Tactic
@[expose] public section

noncomputable section

namespace Cert.Gbranch

open Idealize.ShloMosaic Idealize.ShloMosaic.TcCoe Idealize.SL.Sem Cert.Common

/-- The product at row `p` and column `q`, over the first `n` terms. -/
def spec (n : ℕ) (a : (⟨2, ![8192, 512]⟩ : Shape).Idx → EReal) (b : (⟨2, ![8192, 1024]⟩ : Shape).Idx → EReal) (p q : ℕ) : EReal :=
  ∑ k ∈ Finset.range n, at2 a k p * at2 b k q

section kernel

open Cert.GbranchKernelIdeal Cert.GbranchKernelIdeal.Gen

variable (m : (ℓ : Loc nD τ sig) → Buf (Elt Ideal) ℓ) (ρ : Dev nD → PrngReg)

/-- The block indices of the windows at a grid point, read off the point's number. -/
theorem idx_facts : ∀ t : Fin grid0.N,
    (win0_0.index t 0 = t.val % 8 ∧ win0_0.index t 1 = 0) ∧ (win0_1.index t 0 = t.val % 8 ∧ win0_1.index t 1 = 0) := by
  decide +kernel

/-- The accumulating store, element by element. -/
theorem pay_apply (acc : FVec Ideal S512x1024 .f32) (a : FVec Ideal S1024x512 .bf16) (w : FVec Ideal S1024x1024 .bf16) (y : S512x1024.Idx) :
    (k0_pay2 (F := Ideal) acc a w y : EReal) = acc y + ∑ k ∈ Finset.range 1024, at2 a k (y 0).val * at2 w k (y 1).val := by
  unfold k0_pay2
  rw [shapeCast_self]
  show acc y + (FloatOps.matmul (F := Ideal) dot_S1024x512_S1024x1024_S512x1024_0_0_1_1_n_n none a w (constant S512x1024 .f32 0x00000000#32) y : EReal) = _
  rw [Ideal.matmul_constant_zero_apply]
  refine congrArg (fun s : EReal => acc y + s) ?_
  exact sum_axis_mul rfl 1024 rfl _ _ _ _ (fun k => eq_at2 a _ _ _ rfl rfl) (fun k => eq_at2 w _ _ _ rfl rfl)

section point

variable (c : Dev nD) (i : grid0.Coords) (a3 : Memref sig .tc .vmem S1024x512 .bf16) (h3 : a3.IsWhole) (a4 : Memref sig .tc .vmem S1024x1024 .bf16) (h4 : a4.IsWhole) (a5 : Memref sig .tc .vmem S512x1024 .bf16) (h5 : a5.IsWhole) (a6 : Memref sig .tc .vmem S512x1024 .f32) (h6 : a6.IsWhole)
  (x0 : Vec Ideal S1024x512 .bf16) (x1 : Vec Ideal S1024x1024 .bf16) (acc : Vec Ideal S512x1024 .f32)

/-- The first point of a block's 8 leaves the product added to zero. -/
theorem sout_A (hc0 : cond0_0 i) (hc1 : ¬cond0_1 i) :
    sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S512x1024) hz, View.readCov_unit_zero (S := S512x1024) _ hz]
  simp only [View.readAt_eq_ld, h3.read_unread, h4.read_unread, View.ld_unit_zero (S := S1024x512) hz, View.ld_unit_zero (S := S1024x1024) hz]

/-- A later point adds its product to what the point before left, -/
theorem sout_B (hc0 : ¬cond0_0 i) (hc1 : ¬cond0_1 i) :
    sout0_B_0 c i a3 h3 a4 h4 a5 h5 a6 h6 hc0 hc1 x0 x1 acc = k0_pay2 acc x0 x1 := by
  unfold sout0_B_0
  rw [View.read_writes_eq_canon _ _ _ (scover0_B_0 c i a3 h3 a4 h4 a5 h5 a6 h6 hc0 hc1 x0 x1 acc)]
  unfold kernelRun0_B
  dsimp only
  rw [View.canon_unit_zero hz]
  simp only [View.readAt_eq_ld, h3.read_unread, h4.read_unread, h6.read_unread, View.ld_unit_zero (S := S1024x512) hz, View.ld_unit_zero (S := S1024x1024) hz, View.ld_unit_zero (S := S512x1024) hz]

/-- and so does the last one, -/
theorem sout_C (hc0 : ¬cond0_0 i) (hc1 : cond0_1 i) :
    sout0_C_0 c i a3 h3 a4 h4 a5 h5 a6 h6 hc0 hc1 x0 x1 acc = k0_pay2 acc x0 x1 := by
  unfold sout0_C_0
  rw [View.read_writes_eq_canon _ _ _ (scover0_C_0 c i a3 h3 a4 h4 a5 h5 a6 h6 hc0 hc1 x0 x1 acc)]
  unfold kernelRun0_C
  dsimp only
  sl_unfold_words
  rw [View.canon_unit_zero hz]
  simp only [View.readAt_eq_ld, h3.read_unread, h4.read_unread, h6.read_unread, View.ld_unit_zero (S := S1024x512) hz, View.ld_unit_zero (S := S1024x1024) hz, View.ld_unit_zero (S := S512x1024) hz]

/-- which then writes the sum out. -/
theorem out_C (hc0 : ¬cond0_0 i) (hc1 : cond0_1 i) :
    out0_C_2 c i a3 h3 a4 h4 a5 h5 a6 h6 hc0 hc1 x0 x1 acc = k0_pay3 (k0_pay2 acc x0 x1) := by
  unfold out0_C_2
  rw [View.read_writes_eq_canon _ _ _ (cover0_C_2 c i a3 h3 a4 h4 a5 h5 a6 h6 hc0 hc1 x0 x1 acc)]
  unfold kernelRun0_C
  dsimp only
  sl_unfold_words
  rw [View.canon_unit_zero hz, View.readCov_unit_zero (S := S512x1024) _ hz]
  simp only [View.readAt_eq_ld, h3.read_unread, h4.read_unread, h6.read_unread, View.ld_unit_zero (S := S1024x512) hz, View.ld_unit_zero (S := S1024x1024) hz, View.ld_unit_zero (S := S512x1024) hz]

end point

/-- The block of `y` a grid point loads. -/
theorem blk0 (c : Dev nD) (t : Fin cfg0.N) (y : S1024x512.Idx) : (iblk m c 0 t : Vec Ideal S1024x512 .bf16) y
    = at2 (m ((c : Thread nD τ).loc main_arg0)) (1024 * (t.val % 8) + (y 0).val) (0 * 512 + (y 1).val) := by
  obtain ⟨⟨e0, e1⟩, -⟩ := idx_facts t
  exact eq_at2 (m ((c : Thread nD τ).loc main_arg0)) _ _ _
    (show win0_0.index t 0 * 1024 + 1 * (y 0).val = _ by rw [e0]; omega)
    (show win0_0.index t 1 * 512 + 1 * (y 1).val = _ by rw [e1]; omega)

/-- The block of `d_p` a grid point loads. -/
theorem blk1 (c : Dev nD) (t : Fin cfg0.N) (y : S1024x1024.Idx) : (iblk m c 1 t : Vec Ideal S1024x1024 .bf16) y
    = at2 (m ((c : Thread nD τ).loc main_arg1)) (1024 * (t.val % 8) + (y 0).val) (0 * 1024 + (y 1).val) := by
  obtain ⟨-, ⟨e0, e1⟩⟩ := idx_facts t
  exact eq_at2 (m ((c : Thread nD τ).loc main_arg1)) _ _ _
    (show win0_1.index t 0 * 1024 + 1 * (y 0).val = _ by rw [e0]; omega)
    (show win0_1.index t 1 * 1024 + 1 * (y 1).val = _ by rw [e1]; omega)

/-- One accumulating step extends the sum by the point's terms. -/
theorem step (c : Dev nD) (t : Fin cfg0.N) (acc : FVec Ideal S512x1024 .f32) (y : S512x1024.Idx)
    (h : acc y = spec (1024 * (t.val % 8)) (m ((c : Thread nD τ).loc main_arg0)) (m ((c : Thread nD τ).loc main_arg1)) (0 * 512 + (y 0).val) (0 * 1024 + (y 1).val)) :
    (k0_pay2 (F := Ideal) acc (iblk m c 0 t) (iblk m c 1 t) y : EReal)
      = spec (1024 * (t.val % 8 + 1)) (m ((c : Thread nD τ).loc main_arg0)) (m ((c : Thread nD τ).loc main_arg1)) (0 * 512 + (y 0).val) (0 * 1024 + (y 1).val) := by
  rw [pay_apply, h]
  unfold spec
  rw [← sum_block]
  refine congrArg (fun s : EReal => _ + s) (Finset.sum_congr rfl fun k hk => ?_)
  have hk := Finset.mem_range.1 hk
  rw [at2_block (blk0 m c t) hk (y 0).isLt, at2_block (blk1 m c t) hk (y 1).isLt]

/-- What the accumulator holds after each point: the sum over the terms its block's points have visited. -/
theorem acc_eq (c : Dev nD) : ∀ (n : ℕ) (h : n < cfg0.N) (y : S512x1024.Idx), ((outsAt0 m c n h).2 y : EReal)
    = spec (1024 * (n % 8 + 1)) (m ((c : Thread nD τ).loc main_arg0)) (m ((c : Thread nD τ).loc main_arg1)) (0 * 512 + (y 0).val) (0 * 1024 + (y 1).val) := by
  intro n
  induction n using Nat.strong_induction_on with
  | _ n ih =>
    intro h y
    by_cases h0 : n % 8 = 0
    · rw [outsAt0_A m c ⟨n, h⟩ h0 (by dsimp only; omega)]
      dsimp only
      rw [sout_A]
      refine step m c ⟨n, h⟩ _ y ?_
      dsimp only
      rw [h0]
      unfold k0_pay1 spec
      rw [shapeCast_self]
      exact Ideal.ofBits_zero_f32
    · have hp : n - 1 < cfg0.N := by omega
      have e := ih (n - 1) (by omega) hp y
      rw [show (n - 1) % 8 + 1 = n % 8 by omega] at e
      by_cases h1 : n % 8 = 7
      · rw [outsAt0_C m c ⟨n, h⟩ h0 h1]
        dsimp only
        rw [sout_C]
        exact step m c ⟨n, h⟩ _ y e
      · rw [outsAt0_B m c ⟨n, h⟩ h0 h1]
        dsimp only
        rw [sout_B]
        exact step m c ⟨n, h⟩ _ y e

/-- What a block's last point writes out is the sum over all terms. -/
theorem out_eq (c : Dev nD) (t : Fin cfg0.N) (ht : t.val % 8 = 7) (y : S512x1024.Idx) : ((outsAt0 m c t.val t.isLt).1 y : EReal)
    = spec 8192 (m ((c : Thread nD τ).loc main_arg0)) (m ((c : Thread nD τ).loc main_arg1)) (0 * 512 + (y 0).val) (0 * 1024 + (y 1).val) := by
  have e := acc_eq m c t.val t.isLt y
  rw [outsAt0_C m c t (by omega) ht] at e ⊢
  dsimp only at e ⊢
  rw [sout_C] at e
  rw [out_C]
  rw [ht] at e
  exact e

/-- The product as an array: what the kernel's result is shown to hold. -/
def G (c : Dev nD) : Buf (Elt Ideal) ((c : Thread nD τ).loc main_v0) := fun i : S512x1024.Idx =>
  spec 8192 (m ((c : Thread nD τ).loc main_arg0)) (m ((c : Thread nD τ).loc main_arg1)) (i 0).val (i 1).val

/-- The kernel's result array ends holding the product. -/
theorem final (c : Dev nD) : Value.G2 m c = G m c := by
  funext i
  have h0 : (i 0).val < 512 := (i 0).isLt
  have h1 : (i 1).val < 1024 := (i 1).isLt
  have hN : cfg0.N = 8 := N_0
  have hr : Value.run2Of i = 0 := by unfold Value.run2Of; omega
  have hp : Value.pt2Of i < cfg0.N := by unfold Value.pt2Of; rw [hr, hN]; omega
  unfold Value.G2
  rw [dif_pos hp, ← Value.outsAt0_sweep m c _ hp]
  refine (out_eq m c ⟨_, hp⟩ (by show (8 * _ + 7) % 8 = 7; omega) (Value.loc2Of i)).trans ?_
  unfold G
  refine congrArg₂ (spec 8192 _ _) ?_ ?_
  · show 0 * 512 + (i 0).val % 512 = _
    omega
  · show 0 * 1024 + (i 1).val % 1024 = _
    omega

end kernel

section reference

open Cert.GbranchReferenceIdeal Cert.GbranchReferenceIdeal.Gen

/-- The reference's array, element by element. -/
theorem ref_apply (a : FVec Ideal S8192x512 .bf16) (b : FVec Ideal S8192x1024 .bf16) (i : S512x1024.Idx) :
    (truncf .bf16 (transpose S512x1024 [1, 0] (Host.dotGeneral dot_S8192x1024_S8192x512_S1024x512_0_0_1_1_n_n none (extf .f32 b bitsLt_bf16_f32) (extf .f32 a bitsLt_bf16_f32)) transposes_S1024x512_S512x1024_1_0) bitsLt_bf16_f32 : FVec Ideal S512x1024 .bf16) i
    = spec 8192 a b (i 0).val (i 1).val := by
  show (Host.dotGeneral dot_S8192x1024_S8192x512_S1024x512_0_0_1_1_n_n none (extf .f32 b bitsLt_bf16_f32) (extf .f32 a bitsLt_bf16_f32) (transposes_S1024x512_S512x1024_1_0.src i) : EReal) = _
  refine (Ideal.dotGeneral_apply _ _ _ _ _ _).trans ?_
  unfold spec
  simp only [mul_comm (at2 a _ _)]
  exact sum_axis_mul rfl 8192 rfl _ _ _ _ (fun k => eq_at2 b _ _ _ rfl rfl) (fun k => eq_at2 a _ _ _ rfl rfl)

end reference

/-- The frames: the generated runs. -/
theorem frame_k : Cert.quiescent_GbranchKernel := fun m ρ _ => Cert.GbranchKernel.Gen.frame m ρ
/-- … of the idealized kernel, -/
theorem frame_ki : Cert.quiescent_GbranchKernelIdeal := fun m ρ _ => Cert.GbranchKernelIdeal.Gen.frame m ρ
/-- … and of the reference, which has no semaphore. -/
theorem frame_r : Cert.quiescent_GbranchReferenceIdeal := fun m ρ _ =>
  (θ_run Cert.GbranchReferenceIdeal.defs _ _).mono (fun r h => ⟨fun c => (h c).2, Idealize.ShloMosaic.sem_eq_zero_of_no_sems (by decide) r.2⟩)
    (Cert.GbranchReferenceIdeal.Value.run (F := Ideal) m ρ)

open Cert.GbranchKernelIdeal Cert.GbranchKernelIdeal.Gen in
/-- The kernel's result and the reference's are the same array. -/
theorem algebraic : Cert.algebraic_GbranchKernelIdeal_GbranchReferenceIdeal := by
  intro m ρ m' ρ' _ hagree
  refine ⟨fun c => G m c, ?_, ?_⟩
  · exact (θ_run defs _ _).mono (fun _ h c => ⟨(h c).1.trans (final m c), (h c).2⟩) (Value.run (F := Ideal) m ρ)
  refine (θ_run Cert.GbranchReferenceIdeal.defs _ _).mono (fun _ h c => ⟨(h c).1.trans ?_, (h c).2⟩)
    (Cert.GbranchReferenceIdeal.Value.run (F := Ideal) m' ρ')
  rw [(hagree c).1, (hagree c).2]
  have e := ref_apply (m ((c : Thread nD τ).loc main_arg0)) (m ((c : Thread nD τ).loc main_arg1))
  exact funext e

end Cert.Gbranch

end
-- ==== Proof.Gin.lean ====
/-
  The gradient of the input projection's weight, `hᵀ · dproj`: the kernel adds one product of blocks per grid
  point into a block of the result, 8 to a block, and the reference contracts the whole axis at once.
-/
module

public import proofs.«01_k».proof.Defs
public import proofs.«01_k».proof.Proof.Common
public import proofs.«01_k».proof.Proof.Gen.GinKernel.Frame
public import proofs.«01_k».proof.Proof.Gen.GinKernelIdeal.Value
public import proofs.«01_k».proof.Proof.Gen.GinReferenceIdeal.Run
public import Idealize.ShloMosaic.Lib.Quiescent
public import Idealize.ShloMosaic.Lib.Tactic
@[expose] public section

noncomputable section

namespace Cert.Gin

open Idealize.ShloMosaic Idealize.ShloMosaic.TcCoe Idealize.SL.Sem Cert.Common

/-- The product at row `p` and column `q`, over the first `n` terms. -/
def spec (n : ℕ) (a : (⟨2, ![8192, 1024]⟩ : Shape).Idx → EReal) (b : (⟨2, ![8192, 8192]⟩ : Shape).Idx → EReal) (p q : ℕ) : EReal :=
  ∑ k ∈ Finset.range n, at2 a k p * at2 b k q

section kernel

open Cert.GinKernelIdeal Cert.GinKernelIdeal.Gen

variable (m : (ℓ : Loc nD τ sig) → Buf (Elt Ideal) ℓ) (ρ : Dev nD → PrngReg)

/-- The block indices of the windows at a grid point, read off the point's number. -/
theorem idx_facts : ∀ t : Fin grid0.N,
    (win0_0.index t 0 = t.val % 8 ∧ win0_0.index t 1 = 0) ∧ (win0_1.index t 0 = t.val % 8 ∧ win0_1.index t 1 = t.val / 8) := by
  decide +kernel

/-- The accumulating store, element by element. -/
theorem pay_apply (acc : FVec Ideal S1024x1024 .f32) (a : FVec Ideal S1024x1024 .bf16) (w : FVec Ideal S1024x1024 .bf16) (y : S1024x1024.Idx) :
    (k0_pay2 (F := Ideal) acc a w y : EReal) = acc y + ∑ k ∈ Finset.range 1024, at2 a k (y 0).val * at2 w k (y 1).val := by
  unfold k0_pay2
  rw [shapeCast_self]
  show acc y + (FloatOps.matmul (F := Ideal) dot_S1024x1024_S1024x1024_S1024x1024_0_0_1_1_n_n none a w (constant S1024x1024 .f32 0x00000000#32) y : EReal) = _
  rw [Ideal.matmul_constant_zero_apply]
  refine congrArg (fun s : EReal => acc y + s) ?_
  exact sum_axis_mul rfl 1024 rfl _ _ _ _ (fun k => eq_at2 a _ _ _ rfl rfl) (fun k => eq_at2 w _ _ _ rfl rfl)

section point

variable (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .bf16) (h5 : a5.IsWhole) (a6 : Memref sig .tc .vmem S1024x1024 .f32) (h6 : a6.IsWhole)
  (x0 : Vec Ideal S1024x1024 .bf16) (x1 : Vec Ideal S1024x1024 .bf16) (acc : Vec Ideal S1024x1024 .f32)

/-- The first point of a block's 8 leaves the product added to zero. -/
theorem sout_A (hc0 : cond0_0 i) (hc1 : ¬cond0_1 i) :
    sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

/-- A later point adds its product to what the point before left, -/
theorem sout_B (hc0 : ¬cond0_0 i) (hc1 : ¬cond0_1 i) :
    sout0_B_0 c i a3 h3 a4 h4 a5 h5 a6 h6 hc0 hc1 x0 x1 acc = k0_pay2 acc x0 x1 := by
  unfold sout0_B_0
  rw [View.read_writes_eq_canon _ _ _ (scover0_B_0 c i a3 h3 a4 h4 a5 h5 a6 h6 hc0 hc1 x0 x1 acc)]
  unfold kernelRun0_B
  dsimp only
  rw [View.canon_unit_zero hz]
  simp only [View.readAt_eq_ld, h3.read_unread, h4.read_unread, h6.read_unread, View.ld_unit_zero (S := S1024x1024) hz]

/-- and so does the last one, -/
theorem sout_C (hc0 : ¬cond0_0 i) (hc1 : cond0_1 i) :
    sout0_C_0 c i a3 h3 a4 h4 a5 h5 a6 h6 hc0 hc1 x0 x1 acc = k0_pay2 acc x0 x1 := by
  unfold sout0_C_0
  rw [View.read_writes_eq_canon _ _ _ (scover0_C_0 c i a3 h3 a4 h4 a5 h5 a6 h6 hc0 hc1 x0 x1 acc)]
  unfold kernelRun0_C
  dsimp only
  sl_unfold_words
  rw [View.canon_unit_zero hz]
  simp only [View.readAt_eq_ld, h3.read_unread, h4.read_unread, h6.read_unread, View.ld_unit_zero (S := S1024x1024) hz]

/-- which then writes the sum out. -/
theorem out_C (hc0 : ¬cond0_0 i) (hc1 : cond0_1 i) :
    out0_C_2 c i a3 h3 a4 h4 a5 h5 a6 h6 hc0 hc1 x0 x1 acc = k0_pay3 (k0_pay2 acc x0 x1) := by
  unfold out0_C_2
  rw [View.read_writes_eq_canon _ _ _ (cover0_C_2 c i a3 h3 a4 h4 a5 h5 a6 h6 hc0 hc1 x0 x1 acc)]
  unfold kernelRun0_C
  dsimp only
  sl_unfold_words
  rw [View.canon_unit_zero hz, View.readCov_unit_zero (S := S1024x1024) _ hz]
  simp only [View.readAt_eq_ld, h3.read_unread, h4.read_unread, h6.read_unread, View.ld_unit_zero (S := S1024x1024) hz]

end point

/-- The block of `h` a grid point loads. -/
theorem blk0 (c : Dev nD) (t : Fin cfg0.N) (y : S1024x1024.Idx) : (iblk m c 0 t : Vec Ideal S1024x1024 .bf16) y
    = at2 (m ((c : Thread nD τ).loc main_arg0)) (1024 * (t.val % 8) + (y 0).val) (0 * 1024 + (y 1).val) := by
  obtain ⟨⟨e0, e1⟩, -⟩ := idx_facts t
  exact eq_at2 (m ((c : Thread nD τ).loc main_arg0)) _ _ _
    (show win0_0.index t 0 * 1024 + 1 * (y 0).val = _ by rw [e0]; omega)
    (show win0_0.index t 1 * 1024 + 1 * (y 1).val = _ by rw [e1]; omega)

/-- The block of `dproj` a grid point loads. -/
theorem blk1 (c : Dev nD) (t : Fin cfg0.N) (y : S1024x1024.Idx) : (iblk m c 1 t : Vec Ideal S1024x1024 .bf16) y
    = at2 (m ((c : Thread nD τ).loc main_arg1)) (1024 * (t.val % 8) + (y 0).val) (t.val / 8 * 1024 + (y 1).val) := by
  obtain ⟨-, ⟨e0, e1⟩⟩ := idx_facts t
  exact eq_at2 (m ((c : Thread nD τ).loc main_arg1)) _ _ _
    (show win0_1.index t 0 * 1024 + 1 * (y 0).val = _ by rw [e0]; omega)
    (show win0_1.index t 1 * 1024 + 1 * (y 1).val = _ by rw [e1]; omega)

/-- One accumulating step extends the sum by the point's terms. -/
theorem step (c : Dev nD) (t : Fin cfg0.N) (acc : FVec Ideal S1024x1024 .f32) (y : S1024x1024.Idx)
    (h : acc y = spec (1024 * (t.val % 8)) (m ((c : Thread nD τ).loc main_arg0)) (m ((c : Thread nD τ).loc main_arg1)) (0 * 1024 + (y 0).val) (t.val / 8 * 1024 + (y 1).val)) :
    (k0_pay2 (F := Ideal) acc (iblk m c 0 t) (iblk m c 1 t) y : EReal)
      = spec (1024 * (t.val % 8 + 1)) (m ((c : Thread nD τ).loc main_arg0)) (m ((c : Thread nD τ).loc main_arg1)) (0 * 1024 + (y 0).val) (t.val / 8 * 1024 + (y 1).val) := by
  rw [pay_apply, h]
  unfold spec
  rw [← sum_block]
  refine congrArg (fun s : EReal => _ + s) (Finset.sum_congr rfl fun k hk => ?_)
  have hk := Finset.mem_range.1 hk
  rw [at2_block (blk0 m c t) hk (y 0).isLt, at2_block (blk1 m c t) hk (y 1).isLt]

/-- What the accumulator holds after each point: the sum over the terms its block's points have visited. -/
theorem acc_eq (c : Dev nD) : ∀ (n : ℕ) (h : n < cfg0.N) (y : S1024x1024.Idx), ((outsAt0 m c n h).2 y : EReal)
    = spec (1024 * (n % 8 + 1)) (m ((c : Thread nD τ).loc main_arg0)) (m ((c : Thread nD τ).loc main_arg1)) (0 * 1024 + (y 0).val) (n / 8 * 1024 + (y 1).val) := by
  intro n
  induction n using Nat.strong_induction_on with
  | _ n ih =>
    intro h y
    by_cases h0 : n % 8 = 0
    · rw [outsAt0_A m c ⟨n, h⟩ h0 (by dsimp only; omega)]
      dsimp only
      rw [sout_A]
      refine step m c ⟨n, h⟩ _ y ?_
      dsimp only
      rw [h0]
      unfold k0_pay1 spec
      rw [shapeCast_self]
      exact Ideal.ofBits_zero_f32
    · have hp : n - 1 < cfg0.N := by omega
      have e := ih (n - 1) (by omega) hp y
      rw [show (n - 1) % 8 + 1 = n % 8 by omega, show (n - 1) / 8 = n / 8 by omega] at e
      by_cases h1 : n % 8 = 7
      · rw [outsAt0_C m c ⟨n, h⟩ h0 h1]
        dsimp only
        rw [sout_C]
        exact step m c ⟨n, h⟩ _ y e
      · rw [outsAt0_B m c ⟨n, h⟩ h0 h1]
        dsimp only
        rw [sout_B]
        exact step m c ⟨n, h⟩ _ y e

/-- What a block's last point writes out is the sum over all terms. -/
theorem out_eq (c : Dev nD) (t : Fin cfg0.N) (ht : t.val % 8 = 7) (y : S1024x1024.Idx) : ((outsAt0 m c t.val t.isLt).1 y : EReal)
    = spec 8192 (m ((c : Thread nD τ).loc main_arg0)) (m ((c : Thread nD τ).loc main_arg1)) (0 * 1024 + (y 0).val) (t.val / 8 * 1024 + (y 1).val) := by
  have e := acc_eq m c t.val t.isLt y
  rw [outsAt0_C m c t (by omega) ht] at e ⊢
  dsimp only at e ⊢
  rw [sout_C] at e
  rw [out_C]
  rw [ht] at e
  exact e

/-- The product as an array: what the kernel's result is shown to hold. -/
def G (c : Dev nD) : Buf (Elt Ideal) ((c : Thread nD τ).loc main_v0) := fun i : S1024x8192.Idx =>
  spec 8192 (m ((c : Thread nD τ).loc main_arg0)) (m ((c : Thread nD τ).loc main_arg1)) (i 0).val (i 1).val

/-- The kernel's result array ends holding the product. -/
theorem final (c : Dev nD) : Value.G2 m c = G m c := by
  funext i
  have h0 : (i 0).val < 1024 := (i 0).isLt
  have h1 : (i 1).val < 8192 := (i 1).isLt
  have hN : cfg0.N = 64 := N_0
  have hr : Value.run2Of i = (i 1).val / 1024 := by unfold Value.run2Of; omega
  have hp : Value.pt2Of i < cfg0.N := by unfold Value.pt2Of; rw [hr, hN]; omega
  unfold Value.G2
  rw [dif_pos hp, ← Value.outsAt0_sweep m c _ hp]
  refine (out_eq m c ⟨_, hp⟩ (by show (8 * _ + 7) % 8 = 7; omega) (Value.loc2Of i)).trans ?_
  unfold G
  refine congrArg₂ (spec 8192 _ _) ?_ ?_
  · show 0 * 1024 + (i 0).val % 1024 = _
    omega
  · show (8 * Value.run2Of i + 7) / 8 * 1024 + (i 1).val % 1024 = _
    rw [hr]; omega

end kernel

section reference

open Cert.GinReferenceIdeal Cert.GinReferenceIdeal.Gen

/-- The reference's array, element by element. -/
theorem ref_apply (a : FVec Ideal S8192x1024 .bf16) (b : FVec Ideal S8192x8192 .bf16) (i : S1024x8192.Idx) :
    (truncf .bf16 (transpose S1024x8192 [1, 0] (Host.dotGeneral dot_S8192x8192_S8192x1024_S8192x1024_0_0_1_1_n_n none (extf .f32 b bitsLt_bf16_f32) (extf .f32 a bitsLt_bf16_f32)) transposes_S8192x1024_S1024x8192_1_0) bitsLt_bf16_f32 : FVec Ideal S1024x8192 .bf16) i
    = spec 8192 a b (i 0).val (i 1).val := by
  show (Host.dotGeneral dot_S8192x8192_S8192x1024_S8192x1024_0_0_1_1_n_n none (extf .f32 b bitsLt_bf16_f32) (extf .f32 a bitsLt_bf16_f32) (transposes_S8192x1024_S1024x8192_1_0.src i) : EReal) = _
  refine (Ideal.dotGeneral_apply _ _ _ _ _ _).trans ?_
  unfold spec
  simp only [mul_comm (at2 a _ _)]
  exact sum_axis_mul rfl 8192 rfl _ _ _ _ (fun k => eq_at2 b _ _ _ rfl rfl) (fun k => eq_at2 a _ _ _ rfl rfl)

end reference

/-- The frames: the generated runs. -/
theorem frame_k : Cert.quiescent_GinKernel := fun m ρ _ => Cert.GinKernel.Gen.frame m ρ
/-- … of the idealized kernel, -/
theorem frame_ki : Cert.quiescent_GinKernelIdeal := fun m ρ _ => Cert.GinKernelIdeal.Gen.frame m ρ
/-- … and of the reference, which has no semaphore. -/
theorem frame_r : Cert.quiescent_GinReferenceIdeal := fun m ρ _ =>
  (θ_run Cert.GinReferenceIdeal.defs _ _).mono (fun r h => ⟨fun c => (h c).2, Idealize.ShloMosaic.sem_eq_zero_of_no_sems (by decide) r.2⟩)
    (Cert.GinReferenceIdeal.Value.run (F := Ideal) m ρ)

open Cert.GinKernelIdeal Cert.GinKernelIdeal.Gen in
/-- The kernel's result and the reference's are the same array. -/
theorem algebraic : Cert.algebraic_GinKernelIdeal_GinReferenceIdeal := by
  intro m ρ m' ρ' _ hagree
  refine ⟨fun c => G m c, ?_, ?_⟩
  · exact (θ_run defs _ _).mono (fun _ h c => ⟨(h c).1.trans (final m c), (h c).2⟩) (Value.run (F := Ideal) m ρ)
  refine (θ_run Cert.GinReferenceIdeal.defs _ _).mono (fun _ h c => ⟨(h c).1.trans ?_, (h c).2⟩)
    (Cert.GinReferenceIdeal.Value.run (F := Ideal) m' ρ')
  rw [(hagree c).1, (hagree c).2]
  have e := ref_apply (m ((c : Thread nD τ).loc main_arg0)) (m ((c : Thread nD τ).loc main_arg1))
  exact funext e

end Cert.Gin

end
-- ==== Proof.Dh.lean ====
/-
  The gradient of the input projection's input, `dproj · w_inᵀ`: the kernel adds one product of blocks per grid
  point into a block of the result, 8 to a block, and the reference contracts the whole axis at once.
-/
module

public import proofs.«01_k».proof.Defs
public import proofs.«01_k».proof.Proof.Common
public import proofs.«01_k».proof.Proof.Gen.DhKernel.Frame
public import proofs.«01_k».proof.Proof.Gen.DhKernelIdeal.Value
public import proofs.«01_k».proof.Proof.Gen.DhReferenceIdeal.Run
public import Idealize.ShloMosaic.Lib.Quiescent
public import Idealize.ShloMosaic.Lib.Tactic
@[expose] public section

noncomputable section

namespace Cert.Dh

open Idealize.ShloMosaic Idealize.ShloMosaic.TcCoe Idealize.SL.Sem Cert.Common

/-- The product at row `p` and column `q`, over the first `n` terms. -/
def spec (n : ℕ) (a : (⟨2, ![8192, 8192]⟩ : Shape).Idx → EReal) (b : (⟨2, ![1024, 8192]⟩ : Shape).Idx → EReal) (p q : ℕ) : EReal :=
  ∑ k ∈ Finset.range n, at2 a p k * at2 b q k

section kernel

open Cert.DhKernelIdeal Cert.DhKernelIdeal.Gen

variable (m : (ℓ : Loc nD τ sig) → Buf (Elt Ideal) ℓ) (ρ : Dev nD → PrngReg)

/-- The block indices of the windows at a grid point, read off the point's number. -/
theorem idx_facts : ∀ t : Fin grid0.N,
    (win0_0.index t 0 = t.val / 8 ∧ win0_0.index t 1 = t.val % 8) ∧ (win0_1.index t 0 = 0 ∧ win0_1.index t 1 = t.val % 8) := by
  decide +kernel

/-- The accumulating store, element by element. -/
theorem pay_apply (acc : FVec Ideal S1024x1024 .f32) (a : FVec Ideal S1024x1024 .bf16) (w : FVec Ideal S1024x1024 .bf16) (y : S1024x1024.Idx) :
    (k0_pay2 (F := Ideal) acc a w y : EReal) = acc y + ∑ k ∈ Finset.range 1024, at2 a (y 0).val k * at2 w (y 1).val k := by
  unfold k0_pay2
  rw [shapeCast_self]
  show acc y + (FloatOps.matmul (F := Ideal) dot_S1024x1024_S1024x1024_S1024x1024_1_1_0_0_n_n none a w (constant S1024x1024 .f32 0x00000000#32) y : EReal) = _
  rw [Ideal.matmul_constant_zero_apply]
  refine congrArg (fun s : EReal => acc y + s) ?_
  exact sum_axis_mul rfl 1024 rfl _ _ _ _ (fun k => eq_at2 a _ _ _ rfl rfl) (fun k => eq_at2 w _ _ _ rfl rfl)

section point

variable (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .f32) (h5 : a5.IsWhole) (a6 : Memref sig .tc .vmem S1024x1024 .f32) (h6 : a6.IsWhole)
  (x0 : Vec Ideal S1024x1024 .bf16) (x1 : Vec Ideal S1024x1024 .bf16) (acc : Vec Ideal S1024x1024 .f32)

/-- The first point of a block's 8 leaves the product added to zero. -/
theorem sout_A (hc0 : cond0_0 i) (hc1 : ¬cond0_1 i) :
    sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

/-- A later point adds its product to what the point before left, -/
theorem sout_B (hc0 : ¬cond0_0 i) (hc1 : ¬cond0_1 i) :
    sout0_B_0 c i a3 h3 a4 h4 a5 h5 a6 h6 hc0 hc1 x0 x1 acc = k0_pay2 acc x0 x1 := by
  unfold sout0_B_0
  rw [View.read_writes_eq_canon _ _ _ (scover0_B_0 c i a3 h3 a4 h4 a5 h5 a6 h6 hc0 hc1 x0 x1 acc)]
  unfold kernelRun0_B
  dsimp only
  rw [View.canon_unit_zero hz]
  simp only [View.readAt_eq_ld, h3.read_unread, h4.read_unread, h6.read_unread, View.ld_unit_zero (S := S1024x1024) hz]

/-- and so does the last one, -/
theorem sout_C (hc0 : ¬cond0_0 i) (hc1 : cond0_1 i) :
    sout0_C_0 c i a3 h3 a4 h4 a5 h5 a6 h6 hc0 hc1 x0 x1 acc = k0_pay2 acc x0 x1 := by
  unfold sout0_C_0
  rw [View.read_writes_eq_canon _ _ _ (scover0_C_0 c i a3 h3 a4 h4 a5 h5 a6 h6 hc0 hc1 x0 x1 acc)]
  unfold kernelRun0_C
  dsimp only
  sl_unfold_words
  rw [View.canon_unit_zero hz]
  simp only [View.readAt_eq_ld, h3.read_unread, h4.read_unread, h6.read_unread, View.ld_unit_zero (S := S1024x1024) hz]

/-- which then writes the sum out. -/
theorem out_C (hc0 : ¬cond0_0 i) (hc1 : cond0_1 i) :
    out0_C_2 c i a3 h3 a4 h4 a5 h5 a6 h6 hc0 hc1 x0 x1 acc = k0_pay2 acc x0 x1 := by
  unfold out0_C_2
  rw [View.read_writes_eq_canon _ _ _ (cover0_C_2 c i a3 h3 a4 h4 a5 h5 a6 h6 hc0 hc1 x0 x1 acc)]
  unfold kernelRun0_C
  dsimp only
  sl_unfold_words
  rw [View.canon_unit_zero hz, View.readCov_unit_zero (S := S1024x1024) _ hz]
  simp only [View.readAt_eq_ld, h3.read_unread, h4.read_unread, h6.read_unread, View.ld_unit_zero (S := S1024x1024) hz]

end point

/-- The block of `dproj` a grid point loads. -/
theorem blk0 (c : Dev nD) (t : Fin cfg0.N) (y : S1024x1024.Idx) : (iblk m c 0 t : Vec Ideal S1024x1024 .bf16) y
    = at2 (m ((c : Thread nD τ).loc main_arg0)) (t.val / 8 * 1024 + (y 0).val) (1024 * (t.val % 8) + (y 1).val) := by
  obtain ⟨⟨e0, e1⟩, -⟩ := idx_facts t
  exact eq_at2 (m ((c : Thread nD τ).loc main_arg0)) _ _ _
    (show win0_0.index t 0 * 1024 + 1 * (y 0).val = _ by rw [e0]; omega)
    (show win0_0.index t 1 * 1024 + 1 * (y 1).val = _ by rw [e1]; omega)

/-- The block of `w_in` a grid point loads. -/
theorem blk1 (c : Dev nD) (t : Fin cfg0.N) (y : S1024x1024.Idx) : (iblk m c 1 t : Vec Ideal S1024x1024 .bf16) y
    = at2 (m ((c : Thread nD τ).loc main_arg1)) (0 * 1024 + (y 0).val) (1024 * (t.val % 8) + (y 1).val) := by
  obtain ⟨-, ⟨e0, e1⟩⟩ := idx_facts t
  exact eq_at2 (m ((c : Thread nD τ).loc main_arg1)) _ _ _
    (show win0_1.index t 0 * 1024 + 1 * (y 0).val = _ by rw [e0]; omega)
    (show win0_1.index t 1 * 1024 + 1 * (y 1).val = _ by rw [e1]; omega)

/-- One accumulating step extends the sum by the point's terms. -/
theorem step (c : Dev nD) (t : Fin cfg0.N) (acc : FVec Ideal S1024x1024 .f32) (y : S1024x1024.Idx)
    (h : acc y = spec (1024 * (t.val % 8)) (m ((c : Thread nD τ).loc main_arg0)) (m ((c : Thread nD τ).loc main_arg1)) (t.val / 8 * 1024 + (y 0).val) (0 * 1024 + (y 1).val)) :
    (k0_pay2 (F := Ideal) acc (iblk m c 0 t) (iblk m c 1 t) y : EReal)
      = spec (1024 * (t.val % 8 + 1)) (m ((c : Thread nD τ).loc main_arg0)) (m ((c : Thread nD τ).loc main_arg1)) (t.val / 8 * 1024 + (y 0).val) (0 * 1024 + (y 1).val) := by
  rw [pay_apply, h]
  unfold spec
  rw [← sum_block]
  refine congrArg (fun s : EReal => _ + s) (Finset.sum_congr rfl fun k hk => ?_)
  have hk := Finset.mem_range.1 hk
  rw [at2_block (blk0 m c t) (y 0).isLt hk, at2_block (blk1 m c t) (y 1).isLt hk]

/-- What the accumulator holds after each point: the sum over the terms its block's points have visited. -/
theorem acc_eq (c : Dev nD) : ∀ (n : ℕ) (h : n < cfg0.N) (y : S1024x1024.Idx), ((outsAt0 m c n h).2 y : EReal)
    = spec (1024 * (n % 8 + 1)) (m ((c : Thread nD τ).loc main_arg0)) (m ((c : Thread nD τ).loc main_arg1)) (n / 8 * 1024 + (y 0).val) (0 * 1024 + (y 1).val) := by
  intro n
  induction n using Nat.strong_induction_on with
  | _ n ih =>
    intro h y
    by_cases h0 : n % 8 = 0
    · rw [outsAt0_A m c ⟨n, h⟩ h0 (by dsimp only; omega)]
      dsimp only
      rw [sout_A]
      refine step m c ⟨n, h⟩ _ y ?_
      dsimp only
      rw [h0]
      unfold k0_pay1 spec
      rw [shapeCast_self]
      exact Ideal.ofBits_zero_f32
    · have hp : n - 1 < cfg0.N := by omega
      have e := ih (n - 1) (by omega) hp y
      rw [show (n - 1) % 8 + 1 = n % 8 by omega, show (n - 1) / 8 = n / 8 by omega] at e
      by_cases h1 : n % 8 = 7
      · rw [outsAt0_C m c ⟨n, h⟩ h0 h1]
        dsimp only
        rw [sout_C]
        exact step m c ⟨n, h⟩ _ y e
      · rw [outsAt0_B m c ⟨n, h⟩ h0 h1]
        dsimp only
        rw [sout_B]
        exact step m c ⟨n, h⟩ _ y e

/-- What a block's last point writes out is the sum over all terms. -/
theorem out_eq (c : Dev nD) (t : Fin cfg0.N) (ht : t.val % 8 = 7) (y : S1024x1024.Idx) : ((outsAt0 m c t.val t.isLt).1 y : EReal)
    = spec 8192 (m ((c : Thread nD τ).loc main_arg0)) (m ((c : Thread nD τ).loc main_arg1)) (t.val / 8 * 1024 + (y 0).val) (0 * 1024 + (y 1).val) := by
  have e := acc_eq m c t.val t.isLt y
  rw [outsAt0_C m c t (by omega) ht] at e ⊢
  dsimp only at e ⊢
  rw [sout_C] at e
  rw [out_C]
  rw [ht] at e
  exact e

/-- The product as an array: what the kernel's result is shown to hold. -/
def G (c : Dev nD) : Buf (Elt Ideal) ((c : Thread nD τ).loc main_v0) := fun i : S8192x1024.Idx =>
  spec 8192 (m ((c : Thread nD τ).loc main_arg0)) (m ((c : Thread nD τ).loc main_arg1)) (i 0).val (i 1).val

/-- The kernel's result array ends holding the product. -/
theorem final (c : Dev nD) : Value.G2 m c = G m c := by
  funext i
  have h0 : (i 0).val < 8192 := (i 0).isLt
  have h1 : (i 1).val < 1024 := (i 1).isLt
  have hN : cfg0.N = 64 := N_0
  have hr : Value.run2Of i = (i 0).val / 1024 := by unfold Value.run2Of; omega
  have hp : Value.pt2Of i < cfg0.N := by unfold Value.pt2Of; rw [hr, hN]; omega
  unfold Value.G2
  rw [dif_pos hp, ← Value.outsAt0_sweep m c _ hp]
  refine (out_eq m c ⟨_, hp⟩ (by show (8 * _ + 7) % 8 = 7; omega) (Value.loc2Of i)).trans ?_
  unfold G
  refine congrArg₂ (spec 8192 _ _) ?_ ?_
  · show (8 * Value.run2Of i + 7) / 8 * 1024 + (i 0).val % 1024 = _
    rw [hr]; omega
  · show 0 * 1024 + (i 1).val % 1024 = _
    omega

end kernel

section reference

open Cert.DhReferenceIdeal Cert.DhReferenceIdeal.Gen

/-- The reference's array, element by element. -/
theorem ref_apply (a : FVec Ideal S8192x8192 .bf16) (b : FVec Ideal S1024x8192 .bf16) (i : S8192x1024.Idx) :
    (Host.dotGeneral dot_S8192x8192_S1024x8192_S8192x1024_1_1_0_0_n_n none (extf .f32 a bitsLt_bf16_f32) (extf .f32 b bitsLt_bf16_f32) : FVec Ideal S8192x1024 .f32) i
    = spec 8192 a b (i 0).val (i 1).val := by
  show (Host.dotGeneral dot_S8192x8192_S1024x8192_S8192x1024_1_1_0_0_n_n none (extf .f32 a bitsLt_bf16_f32) (extf .f32 b bitsLt_bf16_f32) i : EReal) = _
  refine (Ideal.dotGeneral_apply _ _ _ _ _ _).trans ?_
  unfold spec
  exact sum_axis_mul rfl 8192 rfl _ _ _ _ (fun k => eq_at2 a _ _ _ rfl rfl) (fun k => eq_at2 b _ _ _ rfl rfl)

end reference

/-- The frames: the generated runs. -/
theorem frame_k : Cert.quiescent_DhKernel := fun m ρ _ => Cert.DhKernel.Gen.frame m ρ
/-- … of the idealized kernel, -/
theorem frame_ki : Cert.quiescent_DhKernelIdeal := fun m ρ _ => Cert.DhKernelIdeal.Gen.frame m ρ
/-- … and of the reference, which has no semaphore. -/
theorem frame_r : Cert.quiescent_DhReferenceIdeal := fun m ρ _ =>
  (θ_run Cert.DhReferenceIdeal.defs _ _).mono (fun r h => ⟨fun c => (h c).2, Idealize.ShloMosaic.sem_eq_zero_of_no_sems (by decide) r.2⟩)
    (Cert.DhReferenceIdeal.Value.run (F := Ideal) m ρ)

open Cert.DhKernelIdeal Cert.DhKernelIdeal.Gen in
/-- The kernel's result and the reference's are the same array. -/
theorem algebraic : Cert.algebraic_DhKernelIdeal_DhReferenceIdeal := by
  intro m ρ m' ρ' _ hagree
  refine ⟨fun c => G m c, ?_, ?_⟩
  · exact (θ_run defs _ _).mono (fun _ h c => ⟨(h c).1.trans (final m c), (h c).2⟩) (Value.run (F := Ideal) m ρ)
  refine (θ_run Cert.DhReferenceIdeal.defs _ _).mono (fun _ h c => ⟨(h c).1.trans ?_, (h c).2⟩)
    (Cert.DhReferenceIdeal.Value.run (F := Ideal) m' ρ')
  rw [(hagree c).1, (hagree c).2]
  have e := ref_apply (m ((c : Thread nD τ).loc main_arg0)) (m ((c : Thread nD τ).loc main_arg1))
  exact funext e

end Cert.Dh

end
-- ==== Proof.Proj.lean ====
/-
  The input projection, `h · w_in`: the kernel computes a block of the result per grid
  point, and the blocks are those of the array the reference computes.
-/
module

public import proofs.«01_k».proof.Defs
public import proofs.«01_k».proof.Proof.Common
public import proofs.«01_k».proof.Proof.Gen.ProjKernel.Frame
public import proofs.«01_k».proof.Proof.Gen.ProjKernelIdeal.Value
public import proofs.«01_k».proof.Proof.Gen.ProjReferenceIdeal.Run
public import Idealize.ShloMosaic.Lib.Quiescent

@[expose] public section

noncomputable section

namespace Cert.Proj

open Idealize.ShloMosaic Idealize.ShloMosaic.TcCoe Idealize.SL.Sem Cert.Common

/-- The product at row `p` and column `q`. -/
def spec (a : (⟨2, ![8192, 1024]⟩ : Shape).Idx → EReal) (b : (⟨2, ![1024, 8192]⟩ : Shape).Idx → EReal) (p q : ℕ) : EReal :=
  ∑ k ∈ Finset.range 1024, at2 a p k * at2 b k q

section kernel

open Cert.ProjKernelIdeal Cert.ProjKernelIdeal.Gen

variable (m : (ℓ : Loc nD τ sig) → Buf (Elt Ideal) ℓ) (ρ : Dev nD → PrngReg)

/-- The block indices of the windows at a grid point, read off the point's number. -/
theorem idx_facts : ∀ t : Fin grid0.N,
    (win0_0.index t 0 = t.val / 8 ∧ win0_0.index t 1 = 0) ∧ (win0_1.index t 0 = 0 ∧ win0_1.index t 1 = t.val % 8)
    ∧ (win0_2.index t 0 = t.val / 8 ∧ win0_2.index t 1 = t.val % 8) := by
  decide +kernel

/-- The body's stored block, element by element, over the two blocks it loads. -/
theorem pay_apply (a : FVec Ideal S1024x1024 .bf16) (w : FVec Ideal S1024x1024 .bf16) (y : S1024x1024.Idx) :
    (k0_pay1 (F := Ideal) a w y : EReal) = ∑ k ∈ Finset.range 1024, at2 a (y 0).val k * at2 w k (y 1).val := by
  unfold k0_pay1
  show (FloatOps.matmul (F := Ideal) dot_S1024x1024_S1024x1024_S1024x1024_1_0_0_1_n_n none a w (constant S1024x1024 .f32 0x00000000#32) y : EReal) = _
  rw [Ideal.matmul_constant_zero_apply]
  exact sum_axis_mul rfl 1024 rfl _ _ _ _ (fun k => eq_at2 a _ _ _ rfl rfl) (fun k => eq_at2 w _ _ _ rfl rfl)

/-- The block of `h` a grid point loads. -/
theorem blk0 (c : Dev nD) (t : Fin cfg0.N) (y : S1024x1024.Idx) : (iblk m c 0 t : Vec Ideal S1024x1024 .bf16) y
    = at2 (m ((c : Thread nD τ).loc main_arg0)) (t.val / 8 * 1024 + (y 0).val) (0 + (y 1).val) := by
  obtain ⟨⟨e0, e1⟩, -⟩ := idx_facts t
  exact eq_at2 (m ((c : Thread nD τ).loc main_arg0)) _ _ _
    (show win0_0.index t 0 * 1024 + 1 * (y 0).val = _ by rw [e0]; omega)
    (show win0_0.index t 1 * 1024 + 1 * (y 1).val = _ by rw [e1]; omega)

/-- The block of `w_in` a grid point loads. -/
theorem blk1 (c : Dev nD) (t : Fin cfg0.N) (y : S1024x1024.Idx) : (iblk m c 1 t : Vec Ideal S1024x1024 .bf16) y
    = at2 (m ((c : Thread nD τ).loc main_arg1)) (0 + (y 0).val) (t.val % 8 * 1024 + (y 1).val) := by
  obtain ⟨-, ⟨e0, e1⟩, -⟩ := idx_facts t
  exact eq_at2 (m ((c : Thread nD τ).loc main_arg1)) _ _ _
    (show win0_1.index t 0 * 1024 + 1 * (y 0).val = _ by rw [e0]; omega)
    (show win0_1.index t 1 * 1024 + 1 * (y 1).val = _ by rw [e1]; omega)

/-- The product as an array: what the kernel's result is shown to hold. -/
def G (c : Dev nD) : Buf (Elt Ideal) ((c : Thread nD τ).loc main_v0) := fun i : S8192x8192.Idx =>
  spec (m ((c : Thread nD τ).loc main_arg0)) (m ((c : Thread nD τ).loc main_arg1)) (i 0).val (i 1).val

/-- What a grid point writes back is its block of that array. -/
theorem flushed_eq (c : Dev nD) (t : Fin cfg0.N) :
    (dats m 0 c).flushed 2 t = ((cfg0.win 2).blk t).view.read (Elt Ideal) (G m c) := by
  obtain ⟨-, -, ⟨e0, e1⟩⟩ := idx_facts t
  rw [Value.flushed2]
  funext y
  show out0_2 (iblk m c 0 t) (iblk m c 1 t) (y : S1024x1024.Idx)
    = spec (m ((c : Thread nD τ).loc main_arg0)) (m ((c : Thread nD τ).loc main_arg1)) (win0_2.index t 0 * 1024 + 1 * (y 0).val) (win0_2.index t 1 * 1024 + 1 * (y 1).val)
  unfold out0_2
  rw [View.canon_unit_zero hz, View.ld_unit_zero hz, View.ld_unit_zero hz, pay_apply]
  unfold spec
  have hy0 : (y 0).val < 1024 := (y 0).isLt
  have hy1 : (y 1).val < 1024 := (y 1).isLt
  rw [e0, e1, one_mul, one_mul]
  refine Finset.sum_congr rfl fun k hk => ?_
  have hk := Finset.mem_range.1 hk
  rw [at2_block (blk0 m c t) hy0 hk, at2_block (blk1 m c t) hk hy1, zero_add]

/-- Every element of the result is in some point's block. -/
theorem cover (i : S8192x8192.Idx) : ∃ t : Fin cfg0.N, (cfg0.win 2).flush t = true ∧ i ∈ ((cfg0.win 2).blk t).view.set := by
  have h0 : (i 0).val < 8192 := (i 0).isLt
  have h1 : (i 1).val < 8192 := (i 1).isLt
  have hN : cfg0.N = 64 := N_0
  have ht : 8 * ((i 0).val / 1024) + (i 1).val / 1024 < cfg0.N := by rw [hN]; omega
  refine ⟨⟨_, ht⟩, flush0_2 _, ?_⟩
  obtain ⟨-, -, ⟨e0, e1⟩⟩ := idx_facts ⟨_, ht⟩
  dsimp only at e0 e1
  show i ∈ ((View.whole main_v0).slice (win0_2.rect ⟨_, ht⟩)).set
  rw [View.set_slice_whole, Rect.mem_set_unit]
  intro a
  match a with
  | ⟨0, _⟩ =>
    show win0_2.index _ 0 * 1024 ≤ (i 0).val ∧ (i 0).val < win0_2.index _ 0 * 1024 + 1024
    rw [e0]; omega
  | ⟨1, _⟩ =>
    show win0_2.index _ 1 * 1024 ≤ (i 1).val ∧ (i 1).val < win0_2.index _ 1 * 1024 + 1024
    rw [e1]; omega

/-- The kernel's result array ends holding it. -/
theorem final (c : Dev nD) : (dats m 0 c).arrAt 2 cfg0.N = G m c :=
  (dats m 0 c).arrAt_eq_of_cover 2 (G m c) (fun t _ => flushed_eq m c t) cover

end kernel

section reference

open Cert.ProjReferenceIdeal Cert.ProjReferenceIdeal.Gen

/-- The reference's array, element by element. -/
theorem ref_apply (a : FVec Ideal S8192x1024 .bf16) (b : FVec Ideal S1024x8192 .bf16) (i : S8192x8192.Idx) :
    (Host.dotGeneral dot_S8192x1024_S1024x8192_S8192x8192_1_0_0_1_n_n none (extf .f32 a bitsLt_bf16_f32) (extf .f32 b bitsLt_bf16_f32) : FVec Ideal S8192x8192 .f32) i
    = spec a b (i 0).val (i 1).val := by
  show (Host.dotGeneral dot_S8192x1024_S1024x8192_S8192x8192_1_0_0_1_n_n none (extf .f32 a bitsLt_bf16_f32) (extf .f32 b bitsLt_bf16_f32) i : EReal) = _
  refine (Ideal.dotGeneral_apply _ _ _ _ _ _).trans ?_
  unfold spec
  exact sum_axis_mul rfl 1024 rfl _ _ _ _ (fun k => eq_at2 a _ _ _ rfl rfl) (fun k => eq_at2 b _ _ _ rfl rfl)

end reference

/-- The frames: the generated runs. -/
theorem frame_k : Cert.quiescent_ProjKernel := fun m ρ _ => Cert.ProjKernel.Gen.frame m ρ
/-- … of the idealized kernel, -/
theorem frame_ki : Cert.quiescent_ProjKernelIdeal := fun m ρ _ => Cert.ProjKernelIdeal.Gen.frame m ρ
/-- … and of the reference, which has no semaphore. -/
theorem frame_r : Cert.quiescent_ProjReferenceIdeal := fun m ρ _ =>
  (θ_run Cert.ProjReferenceIdeal.defs _ _).mono (fun r h => ⟨fun c => (h c).2, Idealize.ShloMosaic.sem_eq_zero_of_no_sems (by decide) r.2⟩)
    (Cert.ProjReferenceIdeal.Value.run (F := Ideal) m ρ)

open Cert.ProjKernelIdeal Cert.ProjKernelIdeal.Gen in
/-- The kernel's result and the reference's are the same array. -/
theorem algebraic : Cert.algebraic_ProjKernelIdeal_ProjReferenceIdeal := by
  intro m ρ m' ρ' _ hagree
  refine ⟨fun c => G m c, ?_, ?_⟩
  · exact (θ_run defs _ _).mono (fun _ h c => ⟨(h c).1.trans (final m c), (h c).2⟩) (Value.run_blocks (F := Ideal) m ρ)
  refine (θ_run Cert.ProjReferenceIdeal.defs _ _).mono (fun _ h c => ⟨(h c).1.trans ?_, (h c).2⟩)
    (Cert.ProjReferenceIdeal.Value.run (F := Ideal) m' ρ')
  rw [(hagree c).1, (hagree c).2]
  have e := ref_apply (m ((c : Thread nD τ).loc main_arg0)) (m ((c : Thread nD τ).loc main_arg1))
  exact funext e

end Cert.Proj

end
-- ==== Proof.Branch.lean ====
/-
  A branch's projection, `y · w_branch`: the kernel computes a block of the result per grid
  point, and the blocks are those of the array the reference computes.
-/
module

public import proofs.«01_k».proof.Defs
public import proofs.«01_k».proof.Proof.Common
public import proofs.«01_k».proof.Proof.Gen.BranchKernel.Frame
public import proofs.«01_k».proof.Proof.Gen.BranchKernelIdeal.Value
public import proofs.«01_k».proof.Proof.Gen.BranchReferenceIdeal.Run
public import Idealize.ShloMosaic.Lib.Quiescent

@[expose] public section

noncomputable section

namespace Cert.Branch

open Idealize.ShloMosaic Idealize.ShloMosaic.TcCoe Idealize.SL.Sem Cert.Common

/-- The product at row `p` and column `q`. -/
def spec (a : (⟨2, ![8192, 512]⟩ : Shape).Idx → EReal) (b : (⟨2, ![512, 1024]⟩ : Shape).Idx → EReal) (p q : ℕ) : EReal :=
  ∑ k ∈ Finset.range 512, at2 a p k * at2 b k q

section kernel

open Cert.BranchKernelIdeal Cert.BranchKernelIdeal.Gen

variable (m : (ℓ : Loc nD τ sig) → Buf (Elt Ideal) ℓ) (ρ : Dev nD → PrngReg)

/-- The block indices of the windows at a grid point, read off the point's number. -/
theorem idx_facts : ∀ t : Fin grid0.N,
    (win0_0.index t 0 = t.val ∧ win0_0.index t 1 = 0) ∧ (win0_1.index t 0 = 0 ∧ win0_1.index t 1 = 0)
    ∧ (win0_2.index t 0 = t.val ∧ win0_2.index t 1 = 0) := by
  decide +kernel

/-- The body's stored block, element by element, over the two blocks it loads. -/
theorem pay_apply (a : FVec Ideal S1024x512 .bf16) (w : FVec Ideal S512x1024 .bf16) (y : S1024x1024.Idx) :
    (k0_pay1 (F := Ideal) a w y : EReal) = ∑ k ∈ Finset.range 512, at2 a (y 0).val k * at2 w k (y 1).val := by
  unfold k0_pay1
  show (FloatOps.matmul (F := Ideal) dot_S1024x512_S512x1024_S1024x1024_1_0_0_1_n_n none a w (constant S1024x1024 .f32 0x00000000#32) y : EReal) = _
  rw [Ideal.matmul_constant_zero_apply]
  exact sum_axis_mul rfl 512 rfl _ _ _ _ (fun k => eq_at2 a _ _ _ rfl rfl) (fun k => eq_at2 w _ _ _ rfl rfl)

/-- The block of `y` a grid point loads. -/
theorem blk0 (c : Dev nD) (t : Fin cfg0.N) (y : S1024x512.Idx) : (iblk m c 0 t : Vec Ideal S1024x512 .bf16) y
    = at2 (m ((c : Thread nD τ).loc main_arg0)) (t.val * 1024 + (y 0).val) (0 + (y 1).val) := by
  obtain ⟨⟨e0, e1⟩, -⟩ := idx_facts t
  exact eq_at2 (m ((c : Thread nD τ).loc main_arg0)) _ _ _
    (show win0_0.index t 0 * 1024 + 1 * (y 0).val = _ by rw [e0]; omega)
    (show win0_0.index t 1 * 512 + 1 * (y 1).val = _ by rw [e1]; omega)

/-- The block of `w_branch` a grid point loads. -/
theorem blk1 (c : Dev nD) (t : Fin cfg0.N) (y : S512x1024.Idx) : (iblk m c 1 t : Vec Ideal S512x1024 .bf16) y
    = at2 (m ((c : Thread nD τ).loc main_arg1)) (0 + (y 0).val) (0 * 1024 + (y 1).val) := by
  obtain ⟨-, ⟨e0, e1⟩, -⟩ := idx_facts t
  exact eq_at2 (m ((c : Thread nD τ).loc main_arg1)) _ _ _
    (show win0_1.index t 0 * 512 + 1 * (y 0).val = _ by rw [e0]; omega)
    (show win0_1.index t 1 * 1024 + 1 * (y 1).val = _ by rw [e1]; omega)

/-- The product as an array: what the kernel's result is shown to hold. -/
def G (c : Dev nD) : Buf (Elt Ideal) ((c : Thread nD τ).loc main_v0) := fun i : S8192x1024.Idx =>
  spec (m ((c : Thread nD τ).loc main_arg0)) (m ((c : Thread nD τ).loc main_arg1)) (i 0).val (i 1).val

/-- What a grid point writes back is its block of that array. -/
theorem flushed_eq (c : Dev nD) (t : Fin cfg0.N) :
    (dats m 0 c).flushed 2 t = ((cfg0.win 2).blk t).view.read (Elt Ideal) (G m c) := by
  obtain ⟨-, -, ⟨e0, e1⟩⟩ := idx_facts t
  rw [Value.flushed2]
  funext y
  show out0_2 (iblk m c 0 t) (iblk m c 1 t) (y : S1024x1024.Idx)
    = spec (m ((c : Thread nD τ).loc main_arg0)) (m ((c : Thread nD τ).loc main_arg1)) (win0_2.index t 0 * 1024 + 1 * (y 0).val) (win0_2.index t 1 * 1024 + 1 * (y 1).val)
  unfold out0_2
  rw [View.canon_unit_zero hz, View.ld_unit_zero hz, View.ld_unit_zero hz, pay_apply]
  unfold spec
  have hy0 : (y 0).val < 1024 := (y 0).isLt
  have hy1 : (y 1).val < 1024 := (y 1).isLt
  rw [e0, e1, one_mul, one_mul]
  refine Finset.sum_congr rfl fun k hk => ?_
  have hk := Finset.mem_range.1 hk
  rw [at2_block (blk0 m c t) hy0 hk, at2_block (blk1 m c t) hk hy1, zero_add]

/-- Every element of the result is in some point's block. -/
theorem cover (i : S8192x1024.Idx) : ∃ t : Fin cfg0.N, (cfg0.win 2).flush t = true ∧ i ∈ ((cfg0.win 2).blk t).view.set := by
  have h0 : (i 0).val < 8192 := (i 0).isLt
  have h1 : (i 1).val < 1024 := (i 1).isLt
  have hN : cfg0.N = 8 := N_0
  have ht : (i 0).val / 1024 < cfg0.N := by rw [hN]; omega
  refine ⟨⟨_, ht⟩, flush0_2 _, ?_⟩
  obtain ⟨-, -, ⟨e0, e1⟩⟩ := idx_facts ⟨_, ht⟩
  dsimp only at e0 e1
  show i ∈ ((View.whole main_v0).slice (win0_2.rect ⟨_, ht⟩)).set
  rw [View.set_slice_whole, Rect.mem_set_unit]
  intro a
  match a with
  | ⟨0, _⟩ =>
    show win0_2.index _ 0 * 1024 ≤ (i 0).val ∧ (i 0).val < win0_2.index _ 0 * 1024 + 1024
    rw [e0]; omega
  | ⟨1, _⟩ =>
    show win0_2.index _ 1 * 1024 ≤ (i 1).val ∧ (i 1).val < win0_2.index _ 1 * 1024 + 1024
    rw [e1]; omega

/-- The kernel's result array ends holding it. -/
theorem final (c : Dev nD) : (dats m 0 c).arrAt 2 cfg0.N = G m c :=
  (dats m 0 c).arrAt_eq_of_cover 2 (G m c) (fun t _ => flushed_eq m c t) cover

end kernel

section reference

open Cert.BranchReferenceIdeal Cert.BranchReferenceIdeal.Gen

/-- The reference's array, element by element. -/
theorem ref_apply (a : FVec Ideal S8192x512 .bf16) (b : FVec Ideal S512x1024 .bf16) (i : S8192x1024.Idx) :
    (truncf .bf16 (Host.dotGeneral dot_S8192x512_S512x1024_S8192x1024_1_0_0_1_n_n none (extf .f32 a bitsLt_bf16_f32) (extf .f32 b bitsLt_bf16_f32)) bitsLt_bf16_f32 : FVec Ideal S8192x1024 .bf16) i
    = spec a b (i 0).val (i 1).val := by
  show (Host.dotGeneral dot_S8192x512_S512x1024_S8192x1024_1_0_0_1_n_n none (extf .f32 a bitsLt_bf16_f32) (extf .f32 b bitsLt_bf16_f32) i : EReal) = _
  refine (Ideal.dotGeneral_apply _ _ _ _ _ _).trans ?_
  unfold spec
  exact sum_axis_mul rfl 512 rfl _ _ _ _ (fun k => eq_at2 a _ _ _ rfl rfl) (fun k => eq_at2 b _ _ _ rfl rfl)

end reference

/-- The frames: the generated runs. -/
theorem frame_k : Cert.quiescent_BranchKernel := fun m ρ _ => Cert.BranchKernel.Gen.frame m ρ
/-- … of the idealized kernel, -/
theorem frame_ki : Cert.quiescent_BranchKernelIdeal := fun m ρ _ => Cert.BranchKernelIdeal.Gen.frame m ρ
/-- … and of the reference, which has no semaphore. -/
theorem frame_r : Cert.quiescent_BranchReferenceIdeal := fun m ρ _ =>
  (θ_run Cert.BranchReferenceIdeal.defs _ _).mono (fun r h => ⟨fun c => (h c).2, Idealize.ShloMosaic.sem_eq_zero_of_no_sems (by decide) r.2⟩)
    (Cert.BranchReferenceIdeal.Value.run (F := Ideal) m ρ)

open Cert.BranchKernelIdeal Cert.BranchKernelIdeal.Gen in
/-- The kernel's result and the reference's are the same array. -/
theorem algebraic : Cert.algebraic_BranchKernelIdeal_BranchReferenceIdeal := by
  intro m ρ m' ρ' _ hagree
  refine ⟨fun c => G m c, ?_, ?_⟩
  · exact (θ_run defs _ _).mono (fun _ h c => ⟨(h c).1.trans (final m c), (h c).2⟩) (Value.run_blocks (F := Ideal) m ρ)
  refine (θ_run Cert.BranchReferenceIdeal.defs _ _).mono (fun _ h c => ⟨(h c).1.trans ?_, (h c).2⟩)
    (Cert.BranchReferenceIdeal.Value.run (F := Ideal) m' ρ')
  rw [(hagree c).1, (hagree c).2]
  have e := ref_apply (m ((c : Thread nD τ).loc main_arg0)) (m ((c : Thread nD τ).loc main_arg1))
  exact funext e

end Cert.Branch

end
-- ==== Proof.Out.lean ====
/-
  The output projection, `merged · w_out`: the kernel computes a block of the result per grid
  point, and the blocks are those of the array the reference computes.
-/
module

public import proofs.«01_k».proof.Defs
public import proofs.«01_k».proof.Proof.Common
public import proofs.«01_k».proof.Proof.Gen.OutKernel.Frame
public import proofs.«01_k».proof.Proof.Gen.OutKernelIdeal.Value
public import proofs.«01_k».proof.Proof.Gen.OutReferenceIdeal.Run
public import Idealize.ShloMosaic.Lib.Quiescent

@[expose] public section

noncomputable section

namespace Cert.Out

open Idealize.ShloMosaic Idealize.ShloMosaic.TcCoe Idealize.SL.Sem Cert.Common

/-- The product at row `p` and column `q`. -/
def spec (a : (⟨2, ![8192, 1024]⟩ : Shape).Idx → EReal) (b : (⟨2, ![1024, 1024]⟩ : Shape).Idx → EReal) (p q : ℕ) : EReal :=
  ∑ k ∈ Finset.range 1024, at2 a p k * at2 b k q

section kernel

open Cert.OutKernelIdeal Cert.OutKernelIdeal.Gen

variable (m : (ℓ : Loc nD τ sig) → Buf (Elt Ideal) ℓ) (ρ : Dev nD → PrngReg)

/-- The block indices of the windows at a grid point, read off the point's number. -/
theorem idx_facts : ∀ t : Fin grid0.N,
    (win0_0.index t 0 = t.val ∧ win0_0.index t 1 = 0) ∧ (win0_1.index t 0 = 0 ∧ win0_1.index t 1 = 0)
    ∧ (win0_2.index t 0 = t.val ∧ win0_2.index t 1 = 0) := by
  decide +kernel

/-- The body's stored block, element by element, over the two blocks it loads. -/
theorem pay_apply (a : FVec Ideal S1024x1024 .bf16) (w : FVec Ideal S1024x1024 .bf16) (y : S1024x1024.Idx) :
    (k0_pay1 (F := Ideal) a w y : EReal) = ∑ k ∈ Finset.range 1024, at2 a (y 0).val k * at2 w k (y 1).val := by
  unfold k0_pay1
  show (FloatOps.matmul (F := Ideal) dot_S1024x1024_S1024x1024_S1024x1024_1_0_0_1_n_n none a w (constant S1024x1024 .f32 0x00000000#32) y : EReal) = _
  rw [Ideal.matmul_constant_zero_apply]
  exact sum_axis_mul rfl 1024 rfl _ _ _ _ (fun k => eq_at2 a _ _ _ rfl rfl) (fun k => eq_at2 w _ _ _ rfl rfl)

/-- The block of `merged` a grid point loads. -/
theorem blk0 (c : Dev nD) (t : Fin cfg0.N) (y : S1024x1024.Idx) : (iblk m c 0 t : Vec Ideal S1024x1024 .bf16) y
    = at2 (m ((c : Thread nD τ).loc main_arg0)) (t.val * 1024 + (y 0).val) (0 + (y 1).val) := by
  obtain ⟨⟨e0, e1⟩, -⟩ := idx_facts t
  exact eq_at2 (m ((c : Thread nD τ).loc main_arg0)) _ _ _
    (show win0_0.index t 0 * 1024 + 1 * (y 0).val = _ by rw [e0]; omega)
    (show win0_0.index t 1 * 1024 + 1 * (y 1).val = _ by rw [e1]; omega)

/-- The block of `w_out` a grid point loads. -/
theorem blk1 (c : Dev nD) (t : Fin cfg0.N) (y : S1024x1024.Idx) : (iblk m c 1 t : Vec Ideal S1024x1024 .bf16) y
    = at2 (m ((c : Thread nD τ).loc main_arg1)) (0 + (y 0).val) (0 * 1024 + (y 1).val) := by
  obtain ⟨-, ⟨e0, e1⟩, -⟩ := idx_facts t
  exact eq_at2 (m ((c : Thread nD τ).loc main_arg1)) _ _ _
    (show win0_1.index t 0 * 1024 + 1 * (y 0).val = _ by rw [e0]; omega)
    (show win0_1.index t 1 * 1024 + 1 * (y 1).val = _ by rw [e1]; omega)

/-- The product as an array: what the kernel's result is shown to hold. -/
def G (c : Dev nD) : Buf (Elt Ideal) ((c : Thread nD τ).loc main_v0) := fun i : S8192x1024.Idx =>
  spec (m ((c : Thread nD τ).loc main_arg0)) (m ((c : Thread nD τ).loc main_arg1)) (i 0).val (i 1).val

/-- What a grid point writes back is its block of that array. -/
theorem flushed_eq (c : Dev nD) (t : Fin cfg0.N) :
    (dats m 0 c).flushed 2 t = ((cfg0.win 2).blk t).view.read (Elt Ideal) (G m c) := by
  obtain ⟨-, -, ⟨e0, e1⟩⟩ := idx_facts t
  rw [Value.flushed2]
  funext y
  show out0_2 (iblk m c 0 t) (iblk m c 1 t) (y : S1024x1024.Idx)
    = spec (m ((c : Thread nD τ).loc main_arg0)) (m ((c : Thread nD τ).loc main_arg1)) (win0_2.index t 0 * 1024 + 1 * (y 0).val) (win0_2.index t 1 * 1024 + 1 * (y 1).val)
  unfold out0_2
  rw [View.canon_unit_zero hz, View.ld_unit_zero hz, View.ld_unit_zero hz, pay_apply]
  unfold spec
  have hy0 : (y 0).val < 1024 := (y 0).isLt
  have hy1 : (y 1).val < 1024 := (y 1).isLt
  rw [e0, e1, one_mul, one_mul]
  refine Finset.sum_congr rfl fun k hk => ?_
  have hk := Finset.mem_range.1 hk
  rw [at2_block (blk0 m c t) hy0 hk, at2_block (blk1 m c t) hk hy1, zero_add]

/-- Every element of the result is in some point's block. -/
theorem cover (i : S8192x1024.Idx) : ∃ t : Fin cfg0.N, (cfg0.win 2).flush t = true ∧ i ∈ ((cfg0.win 2).blk t).view.set := by
  have h0 : (i 0).val < 8192 := (i 0).isLt
  have h1 : (i 1).val < 1024 := (i 1).isLt
  have hN : cfg0.N = 8 := N_0
  have ht : (i 0).val / 1024 < cfg0.N := by rw [hN]; omega
  refine ⟨⟨_, ht⟩, flush0_2 _, ?_⟩
  obtain ⟨-, -, ⟨e0, e1⟩⟩ := idx_facts ⟨_, ht⟩
  dsimp only at e0 e1
  show i ∈ ((View.whole main_v0).slice (win0_2.rect ⟨_, ht⟩)).set
  rw [View.set_slice_whole, Rect.mem_set_unit]
  intro a
  match a with
  | ⟨0, _⟩ =>
    show win0_2.index _ 0 * 1024 ≤ (i 0).val ∧ (i 0).val < win0_2.index _ 0 * 1024 + 1024
    rw [e0]; omega
  | ⟨1, _⟩ =>
    show win0_2.index _ 1 * 1024 ≤ (i 1).val ∧ (i 1).val < win0_2.index _ 1 * 1024 + 1024
    rw [e1]; omega

/-- The kernel's result array ends holding it. -/
theorem final (c : Dev nD) : (dats m 0 c).arrAt 2 cfg0.N = G m c :=
  (dats m 0 c).arrAt_eq_of_cover 2 (G m c) (fun t _ => flushed_eq m c t) cover

end kernel

section reference

open Cert.OutReferenceIdeal Cert.OutReferenceIdeal.Gen

/-- The reference's array, element by element. -/
theorem ref_apply (a : FVec Ideal S8192x1024 .bf16) (b : FVec Ideal S1024x1024 .bf16) (i : S8192x1024.Idx) :
    (Host.dotGeneral dot_S8192x1024_S1024x1024_S8192x1024_1_0_0_1_n_n none (extf .f32 a bitsLt_bf16_f32) (extf .f32 b bitsLt_bf16_f32) : FVec Ideal S8192x1024 .f32) i
    = spec a b (i 0).val (i 1).val := by
  show (Host.dotGeneral dot_S8192x1024_S1024x1024_S8192x1024_1_0_0_1_n_n none (extf .f32 a bitsLt_bf16_f32) (extf .f32 b bitsLt_bf16_f32) i : EReal) = _
  refine (Ideal.dotGeneral_apply _ _ _ _ _ _).trans ?_
  unfold spec
  exact sum_axis_mul rfl 1024 rfl _ _ _ _ (fun k => eq_at2 a _ _ _ rfl rfl) (fun k => eq_at2 b _ _ _ rfl rfl)

end reference

/-- The frames: the generated runs. -/
theorem frame_k : Cert.quiescent_OutKernel := fun m ρ _ => Cert.OutKernel.Gen.frame m ρ
/-- … of the idealized kernel, -/
theorem frame_ki : Cert.quiescent_OutKernelIdeal := fun m ρ _ => Cert.OutKernelIdeal.Gen.frame m ρ
/-- … and of the reference, which has no semaphore. -/
theorem frame_r : Cert.quiescent_OutReferenceIdeal := fun m ρ _ =>
  (θ_run Cert.OutReferenceIdeal.defs _ _).mono (fun r h => ⟨fun c => (h c).2, Idealize.ShloMosaic.sem_eq_zero_of_no_sems (by decide) r.2⟩)
    (Cert.OutReferenceIdeal.Value.run (F := Ideal) m ρ)

open Cert.OutKernelIdeal Cert.OutKernelIdeal.Gen in
/-- The kernel's result and the reference's are the same array. -/
theorem algebraic : Cert.algebraic_OutKernelIdeal_OutReferenceIdeal := by
  intro m ρ m' ρ' _ hagree
  refine ⟨fun c => G m c, ?_, ?_⟩
  · exact (θ_run defs _ _).mono (fun _ h c => ⟨(h c).1.trans (final m c), (h c).2⟩) (Value.run_blocks (F := Ideal) m ρ)
  refine (θ_run Cert.OutReferenceIdeal.defs _ _).mono (fun _ h c => ⟨(h c).1.trans ?_, (h c).2⟩)
    (Cert.OutReferenceIdeal.Value.run (F := Ideal) m' ρ')
  rw [(hagree c).1, (hagree c).2]
  have e := ref_apply (m ((c : Thread nD τ).loc main_arg0)) (m ((c : Thread nD τ).loc main_arg1))
  exact funext e

end Cert.Out

end
-- ==== Proof.Down.lean ====
/-
  The second feed-forward product, `act · w_down`: the kernel adds one product of blocks per grid
  point into a block of the result, 4 to a block, and the reference contracts the whole axis at once.
-/
module

public import proofs.«01_k».proof.Defs
public import proofs.«01_k».proof.Proof.Common
public import proofs.«01_k».proof.Proof.Gen.DownKernel.Frame
public import proofs.«01_k».proof.Proof.Gen.DownKernelIdeal.Value
public import proofs.«01_k».proof.Proof.Gen.DownReferenceIdeal.Run
public import Idealize.ShloMosaic.Lib.Quiescent
public import Idealize.ShloMosaic.Lib.Tactic
@[expose] public section

noncomputable section

namespace Cert.Down

open Idealize.ShloMosaic Idealize.ShloMosaic.TcCoe Idealize.SL.Sem Cert.Common

/-- The product at row `p` and column `q`, over the first `n` terms. -/
def spec (n : ℕ) (a : (⟨2, ![8192, 4096]⟩ : Shape).Idx → EReal) (b : (⟨2, ![4096, 1024]⟩ : Shape).Idx → EReal) (p q : ℕ) : EReal :=
  ∑ k ∈ Finset.range n, at2 a p k * at2 b k q

section kernel

open Cert.DownKernelIdeal Cert.DownKernelIdeal.Gen

variable (m : (ℓ : Loc nD τ sig) → Buf (Elt Ideal) ℓ) (ρ : Dev nD → PrngReg)

/-- The block indices of the windows at a grid point, read off the point's number. -/
theorem idx_facts : ∀ t : Fin grid0.N,
    (win0_0.index t 0 = t.val / 4 ∧ win0_0.index t 1 = t.val % 4) ∧ (win0_1.index t 0 = t.val % 4 ∧ win0_1.index t 1 = 0) := by
  decide +kernel

/-- The accumulating store, element by element. -/
theorem pay_apply (acc : FVec Ideal S1024x1024 .f32) (a : FVec Ideal S1024x1024 .bf16) (w : FVec Ideal S1024x1024 .bf16) (y : S1024x1024.Idx) :
    (k0_pay2 (F := Ideal) acc a w y : EReal) = acc y + ∑ k ∈ Finset.range 1024, at2 a (y 0).val k * at2 w k (y 1).val := by
  unfold k0_pay2
  rw [shapeCast_self]
  show acc y + (FloatOps.matmul (F := Ideal) dot_S1024x1024_S1024x1024_S1024x1024_1_0_0_1_n_n none a w (constant S1024x1024 .f32 0x00000000#32) y : EReal) = _
  rw [Ideal.matmul_constant_zero_apply]
  refine congrArg (fun s : EReal => acc y + s) ?_
  exact sum_axis_mul rfl 1024 rfl _ _ _ _ (fun k => eq_at2 a _ _ _ rfl rfl) (fun k => eq_at2 w _ _ _ rfl rfl)

section point

variable (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .f32) (h5 : a5.IsWhole) (a6 : Memref sig .tc .vmem S1024x1024 .f32) (h6 : a6.IsWhole)
  (x0 : Vec Ideal S1024x1024 .bf16) (x1 : Vec Ideal S1024x1024 .bf16) (acc : Vec Ideal S1024x1024 .f32)

/-- The first point of a block's 4 leaves the product added to zero. -/
theorem sout_A (hc0 : cond0_0 i) (hc1 : ¬cond0_1 i) :
    sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

/-- A later point adds its product to what the point before left, -/
theorem sout_B (hc0 : ¬cond0_0 i) (hc1 : ¬cond0_1 i) :
    sout0_B_0 c i a3 h3 a4 h4 a5 h5 a6 h6 hc0 hc1 x0 x1 acc = k0_pay2 acc x0 x1 := by
  unfold sout0_B_0
  rw [View.read_writes_eq_canon _ _ _ (scover0_B_0 c i a3 h3 a4 h4 a5 h5 a6 h6 hc0 hc1 x0 x1 acc)]
  unfold kernelRun0_B
  dsimp only
  rw [View.canon_unit_zero hz]
  simp only [View.readAt_eq_ld, h3.read_unread, h4.read_unread, h6.read_unread, View.ld_unit_zero (S := S1024x1024) hz]

/-- and so does the last one, -/
theorem sout_C (hc0 : ¬cond0_0 i) (hc1 : cond0_1 i) :
    sout0_C_0 c i a3 h3 a4 h4 a5 h5 a6 h6 hc0 hc1 x0 x1 acc = k0_pay2 acc x0 x1 := by
  unfold sout0_C_0
  rw [View.read_writes_eq_canon _ _ _ (scover0_C_0 c i a3 h3 a4 h4 a5 h5 a6 h6 hc0 hc1 x0 x1 acc)]
  unfold kernelRun0_C
  dsimp only
  sl_unfold_words
  rw [View.canon_unit_zero hz]
  simp only [View.readAt_eq_ld, h3.read_unread, h4.read_unread, h6.read_unread, View.ld_unit_zero (S := S1024x1024) hz]

/-- which then writes the sum out. -/
theorem out_C (hc0 : ¬cond0_0 i) (hc1 : cond0_1 i) :
    out0_C_2 c i a3 h3 a4 h4 a5 h5 a6 h6 hc0 hc1 x0 x1 acc = k0_pay2 acc x0 x1 := by
  unfold out0_C_2
  rw [View.read_writes_eq_canon _ _ _ (cover0_C_2 c i a3 h3 a4 h4 a5 h5 a6 h6 hc0 hc1 x0 x1 acc)]
  unfold kernelRun0_C
  dsimp only
  sl_unfold_words
  rw [View.canon_unit_zero hz, View.readCov_unit_zero (S := S1024x1024) _ hz]
  simp only [View.readAt_eq_ld, h3.read_unread, h4.read_unread, h6.read_unread, View.ld_unit_zero (S := S1024x1024) hz]

end point

/-- The block of `act` a grid point loads. -/
theorem blk0 (c : Dev nD) (t : Fin cfg0.N) (y : S1024x1024.Idx) : (iblk m c 0 t : Vec Ideal S1024x1024 .bf16) y
    = at2 (m ((c : Thread nD τ).loc main_arg0)) (t.val / 4 * 1024 + (y 0).val) (1024 * (t.val % 4) + (y 1).val) := by
  obtain ⟨⟨e0, e1⟩, -⟩ := idx_facts t
  exact eq_at2 (m ((c : Thread nD τ).loc main_arg0)) _ _ _
    (show win0_0.index t 0 * 1024 + 1 * (y 0).val = _ by rw [e0]; omega)
    (show win0_0.index t 1 * 1024 + 1 * (y 1).val = _ by rw [e1]; omega)

/-- The block of `w_down` a grid point loads. -/
theorem blk1 (c : Dev nD) (t : Fin cfg0.N) (y : S1024x1024.Idx) : (iblk m c 1 t : Vec Ideal S1024x1024 .bf16) y
    = at2 (m ((c : Thread nD τ).loc main_arg1)) (1024 * (t.val % 4) + (y 0).val) (0 * 1024 + (y 1).val) := by
  obtain ⟨-, ⟨e0, e1⟩⟩ := idx_facts t
  exact eq_at2 (m ((c : Thread nD τ).loc main_arg1)) _ _ _
    (show win0_1.index t 0 * 1024 + 1 * (y 0).val = _ by rw [e0]; omega)
    (show win0_1.index t 1 * 1024 + 1 * (y 1).val = _ by rw [e1]; omega)

/-- One accumulating step extends the sum by the point's terms. -/
theorem step (c : Dev nD) (t : Fin cfg0.N) (acc : FVec Ideal S1024x1024 .f32) (y : S1024x1024.Idx)
    (h : acc y = spec (1024 * (t.val % 4)) (m ((c : Thread nD τ).loc main_arg0)) (m ((c : Thread nD τ).loc main_arg1)) (t.val / 4 * 1024 + (y 0).val) (0 * 1024 + (y 1).val)) :
    (k0_pay2 (F := Ideal) acc (iblk m c 0 t) (iblk m c 1 t) y : EReal)
      = spec (1024 * (t.val % 4 + 1)) (m ((c : Thread nD τ).loc main_arg0)) (m ((c : Thread nD τ).loc main_arg1)) (t.val / 4 * 1024 + (y 0).val) (0 * 1024 + (y 1).val) := by
  rw [pay_apply, h]
  unfold spec
  rw [← sum_block]
  refine congrArg (fun s : EReal => _ + s) (Finset.sum_congr rfl fun k hk => ?_)
  have hk := Finset.mem_range.1 hk
  rw [at2_block (blk0 m c t) (y 0).isLt hk, at2_block (blk1 m c t) hk (y 1).isLt]

/-- What the accumulator holds after each point: the sum over the terms its block's points have visited. -/
theorem acc_eq (c : Dev nD) : ∀ (n : ℕ) (h : n < cfg0.N) (y : S1024x1024.Idx), ((outsAt0 m c n h).2 y : EReal)
    = spec (1024 * (n % 4 + 1)) (m ((c : Thread nD τ).loc main_arg0)) (m ((c : Thread nD τ).loc main_arg1)) (n / 4 * 1024 + (y 0).val) (0 * 1024 + (y 1).val) := by
  intro n
  induction n using Nat.strong_induction_on with
  | _ n ih =>
    intro h y
    by_cases h0 : n % 4 = 0
    · rw [outsAt0_A m c ⟨n, h⟩ h0 (by dsimp only; omega)]
      dsimp only
      rw [sout_A]
      refine step m c ⟨n, h⟩ _ y ?_
      dsimp only
      rw [h0]
      unfold k0_pay1 spec
      rw [shapeCast_self]
      exact Ideal.ofBits_zero_f32
    · have hp : n - 1 < cfg0.N := by omega
      have e := ih (n - 1) (by omega) hp y
      rw [show (n - 1) % 4 + 1 = n % 4 by omega, show (n - 1) / 4 = n / 4 by omega] at e
      by_cases h1 : n % 4 = 3
      · rw [outsAt0_C m c ⟨n, h⟩ h0 h1]
        dsimp only
        rw [sout_C]
        exact step m c ⟨n, h⟩ _ y e
      · rw [outsAt0_B m c ⟨n, h⟩ h0 h1]
        dsimp only
        rw [sout_B]
        exact step m c ⟨n, h⟩ _ y e

/-- What a block's last point writes out is the sum over all terms. -/
theorem out_eq (c : Dev nD) (t : Fin cfg0.N) (ht : t.val % 4 = 3) (y : S1024x1024.Idx) : ((outsAt0 m c t.val t.isLt).1 y : EReal)
    = spec 4096 (m ((c : Thread nD τ).loc main_arg0)) (m ((c : Thread nD τ).loc main_arg1)) (t.val / 4 * 1024 + (y 0).val) (0 * 1024 + (y 1).val) := by
  have e := acc_eq m c t.val t.isLt y
  rw [outsAt0_C m c t (by omega) ht] at e ⊢
  dsimp only at e ⊢
  rw [sout_C] at e
  rw [out_C]
  rw [ht] at e
  exact e

/-- The product as an array: what the kernel's result is shown to hold. -/
def G (c : Dev nD) : Buf (Elt Ideal) ((c : Thread nD τ).loc main_v0) := fun i : S8192x1024.Idx =>
  spec 4096 (m ((c : Thread nD τ).loc main_arg0)) (m ((c : Thread nD τ).loc main_arg1)) (i 0).val (i 1).val

/-- The kernel's result array ends holding the product. -/
theorem final (c : Dev nD) : Value.G2 m c = G m c := by
  funext i
  have h0 : (i 0).val < 8192 := (i 0).isLt
  have h1 : (i 1).val < 1024 := (i 1).isLt
  have hN : cfg0.N = 32 := N_0
  have hr : Value.run2Of i = (i 0).val / 1024 := by unfold Value.run2Of; omega
  have hp : Value.pt2Of i < cfg0.N := by unfold Value.pt2Of; rw [hr, hN]; omega
  unfold Value.G2
  rw [dif_pos hp, ← Value.outsAt0_sweep m c _ hp]
  refine (out_eq m c ⟨_, hp⟩ (by show (4 * _ + 3) % 4 = 3; omega) (Value.loc2Of i)).trans ?_
  unfold G
  refine congrArg₂ (spec 4096 _ _) ?_ ?_
  · show (4 * Value.run2Of i + 3) / 4 * 1024 + (i 0).val % 1024 = _
    rw [hr]; omega
  · show 0 * 1024 + (i 1).val % 1024 = _
    omega

end kernel

section reference

open Cert.DownReferenceIdeal Cert.DownReferenceIdeal.Gen

/-- The reference's array, element by element. -/
theorem ref_apply (a : FVec Ideal S8192x4096 .bf16) (b : FVec Ideal S4096x1024 .bf16) (i : S8192x1024.Idx) :
    (Host.dotGeneral dot_S8192x4096_S4096x1024_S8192x1024_1_0_0_1_n_n none (extf .f32 a bitsLt_bf16_f32) (extf .f32 b bitsLt_bf16_f32) : FVec Ideal S8192x1024 .f32) i
    = spec 4096 a b (i 0).val (i 1).val := by
  show (Host.dotGeneral dot_S8192x4096_S4096x1024_S8192x1024_1_0_0_1_n_n none (extf .f32 a bitsLt_bf16_f32) (extf .f32 b bitsLt_bf16_f32) i : EReal) = _
  refine (Ideal.dotGeneral_apply _ _ _ _ _ _).trans ?_
  unfold spec
  exact sum_axis_mul rfl 4096 rfl _ _ _ _ (fun k => eq_at2 a _ _ _ rfl rfl) (fun k => eq_at2 b _ _ _ rfl rfl)

end reference

/-- The frames: the generated runs. -/
theorem frame_k : Cert.quiescent_DownKernel := fun m ρ _ => Cert.DownKernel.Gen.frame m ρ
/-- … of the idealized kernel, -/
theorem frame_ki : Cert.quiescent_DownKernelIdeal := fun m ρ _ => Cert.DownKernelIdeal.Gen.frame m ρ
/-- … and of the reference, which has no semaphore. -/
theorem frame_r : Cert.quiescent_DownReferenceIdeal := fun m ρ _ =>
  (θ_run Cert.DownReferenceIdeal.defs _ _).mono (fun r h => ⟨fun c => (h c).2, Idealize.ShloMosaic.sem_eq_zero_of_no_sems (by decide) r.2⟩)
    (Cert.DownReferenceIdeal.Value.run (F := Ideal) m ρ)

open Cert.DownKernelIdeal Cert.DownKernelIdeal.Gen in
/-- The kernel's result and the reference's are the same array. -/
theorem algebraic : Cert.algebraic_DownKernelIdeal_DownReferenceIdeal := by
  intro m ρ m' ρ' _ hagree
  refine ⟨fun c => G m c, ?_, ?_⟩
  · exact (θ_run defs _ _).mono (fun _ h c => ⟨(h c).1.trans (final m c), (h c).2⟩) (Value.run (F := Ideal) m ρ)
  refine (θ_run Cert.DownReferenceIdeal.defs _ _).mono (fun _ h c => ⟨(h c).1.trans ?_, (h c).2⟩)
    (Cert.DownReferenceIdeal.Value.run (F := Ideal) m' ρ')
  rw [(hagree c).1, (hagree c).2]
  have e := ref_apply (m ((c : Thread nD τ).loc main_arg0)) (m ((c : Thread nD τ).loc main_arg1))
  exact funext e

end Cert.Down

end
-- ==== Proof.Up.lean ====
/-
  The first feed-forward product, `h2 · w_up`, and its squared rectifier: the kernel computes a block of the result per grid
  point, and the blocks are those of the array the reference computes.
-/
module

public import proofs.«01_k».proof.Defs
public import proofs.«01_k».proof.Proof.Common
public import proofs.«01_k».proof.Proof.Gen.UpKernel.Frame
public import proofs.«01_k».proof.Proof.Gen.UpKernelIdeal.Value
public import proofs.«01_k».proof.Proof.Gen.UpReferenceIdeal.Run
public import Idealize.ShloMosaic.Lib.Quiescent

@[expose] public section

noncomputable section

namespace Cert.Up

open Idealize.ShloMosaic Idealize.ShloMosaic.TcCoe Idealize.SL.Sem Cert.Common

/-- The product at row `p` and column `q`. -/
def spec (a : (⟨2, ![8192, 1024]⟩ : Shape).Idx → EReal) (b : (⟨2, ![1024, 4096]⟩ : Shape).Idx → EReal) (p q : ℕ) : EReal :=
  ∑ k ∈ Finset.range 1024, at2 a p k * at2 b k q

section kernel

open Cert.UpKernelIdeal Cert.UpKernelIdeal.Gen

variable (m : (ℓ : Loc nD τ sig) → Buf (Elt Ideal) ℓ) (ρ : Dev nD → PrngReg)

/-- The block indices of the windows at a grid point, read off the point's number. -/
theorem idx_facts : ∀ t : Fin grid0.N,
    (win0_0.index t 0 = t.val / 4 ∧ win0_0.index t 1 = 0) ∧ (win0_1.index t 0 = 0 ∧ win0_1.index t 1 = t.val % 4)
    ∧ (win0_2.index t 0 = t.val / 4 ∧ win0_2.index t 1 = t.val % 4)
    ∧ (win0_3.index t 0 = t.val / 4 ∧ win0_3.index t 1 = t.val % 4) := by
  decide +kernel

/-- The body's stored block, element by element, over the two blocks it loads. -/
theorem pay_apply (a : FVec Ideal S1024x1024 .bf16) (w : FVec Ideal S1024x1024 .bf16) (y : S1024x1024.Idx) :
    (k0_pay2 (F := Ideal) a w y : EReal) = ∑ k ∈ Finset.range 1024, at2 a (y 0).val k * at2 w k (y 1).val := by
  unfold k0_pay2 k0_pay1
  show (FloatOps.matmul (F := Ideal) dot_S1024x1024_S1024x1024_S1024x1024_1_0_0_1_n_n none a w (constant S1024x1024 .f32 0x00000000#32) y : EReal) = _
  rw [Ideal.matmul_constant_zero_apply]
  exact sum_axis_mul rfl 1024 rfl _ _ _ _ (fun k => eq_at2 a _ _ _ rfl rfl) (fun k => eq_at2 w _ _ _ rfl rfl)

/-- The second stored block: the square of the product's positive part. -/
theorem pay2_apply (a : FVec Ideal S1024x1024 .bf16) (w : FVec Ideal S1024x1024 .bf16) (y : S1024x1024.Idx) :
    (k0_pay3 (F := Ideal) a w y : EReal) = max (∑ k ∈ Finset.range 1024, at2 a (y 0).val k * at2 w k (y 1).val) 0 * max (∑ k ∈ Finset.range 1024, at2 a (y 0).val k * at2 w k (y 1).val) 0 := by
  unfold k0_pay3 k0_pay1
  show max (FloatOps.matmul (F := Ideal) dot_S1024x1024_S1024x1024_S1024x1024_1_0_0_1_n_n none a w (constant S1024x1024 .f32 0x00000000#32) y : EReal) (Ideal.ofBits .f32 0x00000000#32) * max (FloatOps.matmul (F := Ideal) dot_S1024x1024_S1024x1024_S1024x1024_1_0_0_1_n_n none a w (constant S1024x1024 .f32 0x00000000#32) y : EReal) (Ideal.ofBits .f32 0x00000000#32) = _
  rw [Ideal.matmul_constant_zero_apply, Ideal.ofBits_zero_f32]
  exact congrArg (fun s : EReal => max s 0 * max s 0) (sum_axis_mul rfl 1024 rfl _ _ _ _ (fun k => eq_at2 a _ _ _ rfl rfl) (fun k => eq_at2 w _ _ _ rfl rfl))

/-- The block of `h2` a grid point loads. -/
theorem blk0 (c : Dev nD) (t : Fin cfg0.N) (y : S1024x1024.Idx) : (iblk m c 0 t : Vec Ideal S1024x1024 .bf16) y
    = at2 (m ((c : Thread nD τ).loc main_arg0)) (t.val / 4 * 1024 + (y 0).val) (0 + (y 1).val) := by
  obtain ⟨⟨e0, e1⟩, -⟩ := idx_facts t
  exact eq_at2 (m ((c : Thread nD τ).loc main_arg0)) _ _ _
    (show win0_0.index t 0 * 1024 + 1 * (y 0).val = _ by rw [e0]; omega)
    (show win0_0.index t 1 * 1024 + 1 * (y 1).val = _ by rw [e1]; omega)

/-- The block of `w_up` a grid point loads. -/
theorem blk1 (c : Dev nD) (t : Fin cfg0.N) (y : S1024x1024.Idx) : (iblk m c 1 t : Vec Ideal S1024x1024 .bf16) y
    = at2 (m ((c : Thread nD τ).loc main_arg1)) (0 + (y 0).val) (t.val % 4 * 1024 + (y 1).val) := by
  obtain ⟨-, ⟨e0, e1⟩, -⟩ := idx_facts t
  exact eq_at2 (m ((c : Thread nD τ).loc main_arg1)) _ _ _
    (show win0_1.index t 0 * 1024 + 1 * (y 0).val = _ by rw [e0]; omega)
    (show win0_1.index t 1 * 1024 + 1 * (y 1).val = _ by rw [e1]; omega)

/-- The product as an array: what the kernel's first result is shown to hold. -/
def G (c : Dev nD) : Buf (Elt Ideal) ((c : Thread nD τ).loc main_v0_0) := fun i : S8192x4096.Idx =>
  spec (m ((c : Thread nD τ).loc main_arg0)) (m ((c : Thread nD τ).loc main_arg1)) (i 0).val (i 1).val

/-- What a grid point writes back is its block of that array. -/
theorem flushed_eq (c : Dev nD) (t : Fin cfg0.N) :
    (dats m 0 c).flushed 2 t = ((cfg0.win 2).blk t).view.read (Elt Ideal) (G m c) := by
  obtain ⟨-, -, ⟨e0, e1⟩, -⟩ := idx_facts t
  rw [Value.flushed2]
  funext y
  show out0_2 (iblk m c 0 t) (iblk m c 1 t) (y : S1024x1024.Idx)
    = spec (m ((c : Thread nD τ).loc main_arg0)) (m ((c : Thread nD τ).loc main_arg1)) (win0_2.index t 0 * 1024 + 1 * (y 0).val) (win0_2.index t 1 * 1024 + 1 * (y 1).val)
  unfold out0_2
  rw [View.canon_unit_zero hz, View.ld_unit_zero hz, View.ld_unit_zero hz, pay_apply]
  unfold spec
  have hy0 : (y 0).val < 1024 := (y 0).isLt
  have hy1 : (y 1).val < 1024 := (y 1).isLt
  rw [e0, e1, one_mul, one_mul]
  refine Finset.sum_congr rfl fun k hk => ?_
  have hk := Finset.mem_range.1 hk
  rw [at2_block (blk0 m c t) hy0 hk, at2_block (blk1 m c t) hk hy1, zero_add]

/-- Every element of the result is in some point's block. -/
theorem cover (i : S8192x4096.Idx) : ∃ t : Fin cfg0.N, (cfg0.win 2).flush t = true ∧ i ∈ ((cfg0.win 2).blk t).view.set := by
  have h0 : (i 0).val < 8192 := (i 0).isLt
  have h1 : (i 1).val < 4096 := (i 1).isLt
  have hN : cfg0.N = 32 := N_0
  have ht : 4 * ((i 0).val / 1024) + (i 1).val / 1024 < cfg0.N := by rw [hN]; omega
  refine ⟨⟨_, ht⟩, flush0_2 _, ?_⟩
  obtain ⟨-, -, ⟨e0, e1⟩, -⟩ := idx_facts ⟨_, ht⟩
  dsimp only at e0 e1
  show i ∈ ((View.whole main_v0_0).slice (win0_2.rect ⟨_, ht⟩)).set
  rw [View.set_slice_whole, Rect.mem_set_unit]
  intro a
  match a with
  | ⟨0, _⟩ =>
    show win0_2.index _ 0 * 1024 ≤ (i 0).val ∧ (i 0).val < win0_2.index _ 0 * 1024 + 1024
    rw [e0]; omega
  | ⟨1, _⟩ =>
    show win0_2.index _ 1 * 1024 ≤ (i 1).val ∧ (i 1).val < win0_2.index _ 1 * 1024 + 1024
    rw [e1]; omega

/-- The kernel's result array ends holding it. -/
theorem final (c : Dev nD) : (dats m 0 c).arrAt 2 cfg0.N = G m c :=
  (dats m 0 c).arrAt_eq_of_cover 2 (G m c) (fun t _ => flushed_eq m c t) cover

/-- The squared rectifier as an array: what the kernel's second result is shown to hold. -/
def G3 (c : Dev nD) : Buf (Elt Ideal) ((c : Thread nD τ).loc main_v0_1) := fun i : S8192x4096.Idx =>
  max (spec (m ((c : Thread nD τ).loc main_arg0)) (m ((c : Thread nD τ).loc main_arg1)) (i 0).val (i 1).val) 0 * max (spec (m ((c : Thread nD τ).loc main_arg0)) (m ((c : Thread nD τ).loc main_arg1)) (i 0).val (i 1).val) 0

/-- What a grid point writes back is its block of that array. -/
theorem flushed_eq3 (c : Dev nD) (t : Fin cfg0.N) :
    (dats m 0 c).flushed 3 t = ((cfg0.win 3).blk t).view.read (Elt Ideal) (G3 m c) := by
  obtain ⟨-, -, -, ⟨e0, e1⟩⟩ := idx_facts t
  rw [Value.flushed3]
  funext y
  show out0_3 (iblk m c 0 t) (iblk m c 1 t) (y : S1024x1024.Idx)
    = max (spec (m ((c : Thread nD τ).loc main_arg0)) (m ((c : Thread nD τ).loc main_arg1)) (win0_3.index t 0 * 1024 + 1 * (y 0).val) (win0_3.index t 1 * 1024 + 1 * (y 1).val)) 0 * max (spec (m ((c : Thread nD τ).loc main_arg0)) (m ((c : Thread nD τ).loc main_arg1)) (win0_3.index t 0 * 1024 + 1 * (y 0).val) (win0_3.index t 1 * 1024 + 1 * (y 1).val)) 0
  unfold out0_3
  rw [View.canon_unit_zero hz, View.ld_unit_zero hz, View.ld_unit_zero hz, pay2_apply]
  unfold spec
  have hy0 : (y 0).val < 1024 := (y 0).isLt
  have hy1 : (y 1).val < 1024 := (y 1).isLt
  rw [e0, e1, one_mul, one_mul]
  refine congrArg (fun s : EReal => max s 0 * max s 0) (Finset.sum_congr rfl fun k hk => ?_)
  have hk := Finset.mem_range.1 hk
  rw [at2_block (blk0 m c t) hy0 hk, at2_block (blk1 m c t) hk hy1, zero_add]

/-- Every element of the result is in some point's block. -/
theorem cover3 (i : S8192x4096.Idx) : ∃ t : Fin cfg0.N, (cfg0.win 3).flush t = true ∧ i ∈ ((cfg0.win 3).blk t).view.set := by
  have h0 : (i 0).val < 8192 := (i 0).isLt
  have h1 : (i 1).val < 4096 := (i 1).isLt
  have hN : cfg0.N = 32 := N_0
  have ht : 4 * ((i 0).val / 1024) + (i 1).val / 1024 < cfg0.N := by rw [hN]; omega
  refine ⟨⟨_, ht⟩, flush0_3 _, ?_⟩
  obtain ⟨-, -, -, ⟨e0, e1⟩⟩ := idx_facts ⟨_, ht⟩
  dsimp only at e0 e1
  show i ∈ ((View.whole main_v0_1).slice (win0_3.rect ⟨_, ht⟩)).set
  rw [View.set_slice_whole, Rect.mem_set_unit]
  intro a
  match a with
  | ⟨0, _⟩ =>
    show win0_3.index _ 0 * 1024 ≤ (i 0).val ∧ (i 0).val < win0_3.index _ 0 * 1024 + 1024
    rw [e0]; omega
  | ⟨1, _⟩ =>
    show win0_3.index _ 1 * 1024 ≤ (i 1).val ∧ (i 1).val < win0_3.index _ 1 * 1024 + 1024
    rw [e1]; omega

/-- The kernel's result array ends holding it. -/
theorem final3 (c : Dev nD) : (dats m 0 c).arrAt 3 cfg0.N = G3 m c :=
  (dats m 0 c).arrAt_eq_of_cover 3 (G3 m c) (fun t _ => flushed_eq3 m c t) cover3

end kernel

section reference

open Cert.UpReferenceIdeal Cert.UpReferenceIdeal.Gen

/-- The reference's array, element by element. -/
theorem ref_apply (a : FVec Ideal S8192x1024 .bf16) (b : FVec Ideal S1024x4096 .bf16) (i : S8192x4096.Idx) :
    (truncf .bf16 (Host.dotGeneral dot_S8192x1024_S1024x4096_S8192x4096_1_0_0_1_n_n none (extf .f32 a bitsLt_bf16_f32) (extf .f32 b bitsLt_bf16_f32)) bitsLt_bf16_f32 : FVec Ideal S8192x4096 .bf16) i
    = spec a b (i 0).val (i 1).val := by
  show (Host.dotGeneral dot_S8192x1024_S1024x4096_S8192x4096_1_0_0_1_n_n none (extf .f32 a bitsLt_bf16_f32) (extf .f32 b bitsLt_bf16_f32) i : EReal) = _
  refine (Ideal.dotGeneral_apply _ _ _ _ _ _).trans ?_
  unfold spec
  exact sum_axis_mul rfl 1024 rfl _ _ _ _ (fun k => eq_at2 a _ _ _ rfl rfl) (fun k => eq_at2 b _ _ _ rfl rfl)

/-- The reference's second array, element by element. -/
theorem ref_apply3 (a : FVec Ideal S8192x1024 .bf16) (b : FVec Ideal S1024x4096 .bf16) (i : S8192x4096.Idx) :
    (truncf .bf16 (mulf (maximumf (Host.dotGeneral dot_S8192x1024_S1024x4096_S8192x4096_1_0_0_1_n_n none (extf .f32 a bitsLt_bf16_f32) (extf .f32 b bitsLt_bf16_f32)) (broadcastInDim S8192x4096 ![] bcast_S_S8192x4096 (constant S_ .f32 0x00000000#32)))
      (maximumf (Host.dotGeneral dot_S8192x1024_S1024x4096_S8192x4096_1_0_0_1_n_n none (extf .f32 a bitsLt_bf16_f32) (extf .f32 b bitsLt_bf16_f32)) (broadcastInDim S8192x4096 ![] bcast_S_S8192x4096 (constant S_ .f32 0x00000000#32)))) bitsLt_bf16_f32 : FVec Ideal S8192x4096 .bf16) i
    = max (spec a b (i 0).val (i 1).val) 0 * max (spec a b (i 0).val (i 1).val) 0 := by
  have e := ref_apply a b i
  show max (Host.dotGeneral dot_S8192x1024_S1024x4096_S8192x4096_1_0_0_1_n_n none (extf .f32 a bitsLt_bf16_f32) (extf .f32 b bitsLt_bf16_f32) i : EReal) (Ideal.ofBits .f32 0x00000000#32) * max (Host.dotGeneral dot_S8192x1024_S1024x4096_S8192x4096_1_0_0_1_n_n none (extf .f32 a bitsLt_bf16_f32) (extf .f32 b bitsLt_bf16_f32) i : EReal) (Ideal.ofBits .f32 0x00000000#32) = _
  rw [Ideal.ofBits_zero_f32]
  exact congrArg (fun s : EReal => max s 0 * max s 0) e

end reference

/-- The frames: the generated runs. -/
theorem frame_k : Cert.quiescent_UpKernel := fun m ρ _ => Cert.UpKernel.Gen.frame m ρ
/-- … of the idealized kernel, -/
theorem frame_ki : Cert.quiescent_UpKernelIdeal := fun m ρ _ => Cert.UpKernelIdeal.Gen.frame m ρ
/-- … and of the reference, which has no semaphore. -/
theorem frame_r : Cert.quiescent_UpReferenceIdeal := fun m ρ _ =>
  (θ_run Cert.UpReferenceIdeal.defs _ _).mono (fun r h => ⟨fun c => (h c).2.2, Idealize.ShloMosaic.sem_eq_zero_of_no_sems (by decide) r.2⟩)
    (Cert.UpReferenceIdeal.Value.run (F := Ideal) m ρ)

open Cert.UpKernelIdeal Cert.UpKernelIdeal.Gen in
/-- The kernel's results and the reference's are the same arrays. -/
theorem algebraic : Cert.algebraic_UpKernelIdeal_UpReferenceIdeal := by
  intro m ρ m' ρ' _ hagree
  refine ⟨fun c => G m c, fun c => G3 m c, ?_, ?_⟩
  · exact (θ_run defs _ _).mono (fun _ h c => ⟨(h c).1.trans (final m c), (h c).2.1.trans (final3 m c), (h c).2.2⟩) (Value.run_blocks (F := Ideal) m ρ)
  refine (θ_run Cert.UpReferenceIdeal.defs _ _).mono (fun _ h c => ⟨(h c).1.trans ?_, (h c).2.1.trans ?_, (h c).2.2⟩)
    (Cert.UpReferenceIdeal.Value.run (F := Ideal) m' ρ')
  · rw [(hagree c).1, (hagree c).2]
    have e := ref_apply (m ((c : Thread nD τ).loc main_arg0)) (m ((c : Thread nD τ).loc main_arg1))
    exact funext e
  · rw [(hagree c).1, (hagree c).2]
    have e := ref_apply3 (m ((c : Thread nD τ).loc main_arg0)) (m ((c : Thread nD τ).loc main_arg1))
    exact funext e

end Cert.Up

end
-- ==== Proof.Scan.lean ====
/-
  The affine recurrence `h n = a n · h (n − 1) + u n` over extended reals whose coefficients are finite and not
  negative, and the doubling scan that computes it: what the composition of the last `k` steps is, how two
  compositions make a longer one, and that the composition of all steps applied to the entering state is the
  recurrence.
-/
module

public import Idealize.ShloMosaic.Lib.Pointwise
public import Idealize.ShloMosaic.Lib.Pipeline.Value

@[expose] public section

noncomputable section

namespace Cert.Scan

open Idealize.ShloMosaic

/-- A finite extended real that is not negative: what it multiplies into a sum it multiplies into the terms. -/
def Coef (x : EReal) : Prop := 0 ≤ x ∧ x ≠ ⊤

theorem Coef.mul_add {x : EReal} (h : Coef x) (y z : EReal) : x * (y + z) = x * y + x * z :=
  EReal.left_distrib_of_nonneg_of_ne_top h.1 h.2 y z

/-- The product of the last `k` coefficients up to step `n`; steps before the first count as one. -/
def wa (a : ℕ → EReal) : ℕ → ℕ → EReal
  | 0, _ => 1
  | k + 1, n => a n * (if 1 ≤ n then wa a k (n - 1) else 1)

/-- What the last `k` steps up to step `n` make of a zero state; steps before the first do nothing. -/
def wu (a u : ℕ → EReal) : ℕ → ℕ → EReal
  | 0, _ => 0
  | k + 1, n => a n * (if 1 ≤ n then wu a u k (n - 1) else 0) + u n

/-- The recurrence from the entering state `h0`. -/
def seq (a u : ℕ → EReal) (h0 : EReal) : ℕ → EReal
  | 0 => a 0 * h0 + u 0
  | n + 1 => a (n + 1) * seq a u h0 n + u (n + 1)

theorem wa_one (a : ℕ → EReal) (n : ℕ) : wa a 1 n = a n := by
  unfold wa
  split <;> simp [wa]

theorem wu_one (a u : ℕ → EReal) (n : ℕ) : wu a u 1 n = u n := by
  unfold wu
  split <;> simp [wu]

/-- The last `j + k` coefficients are the last `j` and the `k` before them. -/
theorem wa_add (a : ℕ → EReal) (k : ℕ) : ∀ j n, wa a (j + k) n = wa a j n * (if j ≤ n then wa a k (n - j) else 1)
  | 0, n => by simp [wa]
  | j + 1, n => by
    rw [show j + 1 + k = (j + k) + 1 by omega, wa, wa]
    by_cases h : 1 ≤ n
    · rw [if_pos h, if_pos h, wa_add a k j (n - 1), mul_assoc]
      by_cases h' : j + 1 ≤ n
      · rw [if_pos h', if_pos (by omega), show n - 1 - j = n - (j + 1) by omega]
      · rw [if_neg h', if_neg (by omega)]
    · rw [if_neg h, if_neg h, if_neg (by omega), mul_one, mul_one]

/-- … and likewise for what they make of a zero state. -/
theorem wu_add (a u : ℕ → EReal) (ha : ∀ n, Coef (a n)) (k : ℕ) :
    ∀ j n, wu a u (j + k) n = wa a j n * (if j ≤ n then wu a u k (n - j) else 0) + wu a u j n
  | 0, n => by simp [wa, wu]
  | j + 1, n => by
    rw [show j + 1 + k = (j + k) + 1 by omega, wu, wu, wa]
    by_cases h : 1 ≤ n
    · rw [if_pos h, if_pos h, if_pos h, wu_add a u ha k j (n - 1), (ha n).mul_add, mul_assoc, add_assoc]
      by_cases h' : j + 1 ≤ n
      · rw [if_pos h', if_pos (by omega), show n - 1 - j = n - (j + 1) by omega]
      · rw [if_neg h', if_neg (by omega)]
    · rw [if_neg h, if_neg h, if_neg h, if_neg (by omega), mul_zero, mul_zero, zero_add, zero_add]

/-- The composition of at least all steps up to `n`, applied to the entering state, is the recurrence. -/
theorem wu_add_wa (a u : ℕ → EReal) (ha : ∀ n, Coef (a n)) (h0 : EReal) :
    ∀ n k, n < k → wu a u k n + wa a k n * h0 = seq a u h0 n
  | n, 0, h => absurd h (by omega)
  | 0, k + 1, _ => by simp [wa, wu, seq, add_comm]
  | n + 1, k + 1, h => by
    rw [wu, wa, seq, if_pos (by omega), if_pos (by omega), ← wu_add_wa a u ha h0 n k (by omega), (ha _).mul_add,
      Nat.add_sub_cancel, mul_assoc, add_right_comm]

/-- The recurrence carried on: the steps after the first `m`, entered with the state after them. -/
theorem seq_shift (a u : ℕ → EReal) (h0 : EReal) (m : ℕ) :
    ∀ n, seq (fun n => a (m + 1 + n)) (fun n => u (m + 1 + n)) (seq a u h0 m) n = seq a u h0 (m + 1 + n)
  | 0 => rfl
  | n + 1 => by rw [seq, seq_shift a u h0 m n]; rfl

end Cert.Scan

end
-- ==== Proof.LruSpec.lean ====
/-
  The real-gated linear recurrence of one layer, element by element: the four-tap convolution of a column, the two
  gates over a block of 64 columns, the decay and the input of the recurrence, the recurrence, and its gated output.
  Rows are naturals, columns are the 512 of the recurrence. The decay lies between zero and one whatever the arguments.
-/
module

public import proofs.«01_k».proof.Proof.Common
public import proofs.«01_k».proof.Proof.Scan

@[expose] public section

noncomputable section

namespace Cert.LruSpec

open Idealize.ShloMosaic Cert.Scan Cert.Common

local notation "A1 " a:max => (Shape.Idx (⟨1, ![a]⟩ : Shape) → EReal)
local notation "A2 " a:max b:max => (Shape.Idx (⟨2, ![a, b]⟩ : Shape) → EReal)
local notation "A3 " a:max b:max c:max => (Shape.Idx (⟨3, ![a, b, c]⟩ : Shape) → EReal)

/-- A row of a matrix by its natural number, zero past the last. -/
def rd {a b : ℕ} (x : A2 a b) (l : Fin b) (n : ℕ) : EReal := if h : n < a then x (ix2 ⟨n, h⟩ l) else 0

theorem rd_of_lt {a b : ℕ} (x : A2 a b) (l : Fin b) {n : ℕ} (h : n < a) : rd x l n = x (ix2 ⟨n, h⟩ l) := dif_pos h

/-- The value `d` steps back, zero before the first. -/
def back (x : ℕ → EReal) (d n : ℕ) : EReal := if d ≤ n then x (n - d) else 0

/-- The arguments of the recurrence: the projected rows and its parameters. -/
structure Args where
  P : A2 8192 8192
  cw : A2 4 512
  cb : A1 512
  wa : A3 8 64 64
  ba : A1 512
  wx : A3 8 64 64
  bx : A1 512
  lam : A1 512

variable (q : Args)

/-- The recurrence's own columns of the projection. -/
def xr (l : Fin 512) : ℕ → EReal := rd q.P ⟨6656 + l.val, by omega⟩

/-- The gate's columns of the projection. -/
def gr (l : Fin 512) : ℕ → EReal := rd q.P ⟨7168 + l.val, by omega⟩

/-- The causal convolution of a column with its four taps. -/
def xc (l : Fin 512) (n : ℕ) : EReal :=
  q.cw (ix2 3 l) * xr q l n + q.cw (ix2 2 l) * back (xr q l) 1 n + q.cw (ix2 1 l) * back (xr q l) 2 n
    + q.cw (ix2 0 l) * back (xr q l) 3 n + q.cb (ix1 l)

/-- Column `k` of the block of 64 columns that holds column `l`. -/
def col (l : Fin 512) (k : Fin 64) : Fin 512 := ⟨64 * (l.val / 64) + k.val, by omega⟩

/-- A gate: the logistic of the block's columns times the block's weight, and a bias. -/
def gate (W : A3 8 64 64) (b : A1 512) (l : Fin 512) (n : ℕ) : EReal :=
  Ideal.logistic (∑ k : Fin 64, xc q (col l k) n * W (ix3 ⟨l.val / 64, by omega⟩ k ⟨l.val % 64, by omega⟩) + b (ix1 l))

/-- The softplus of the negated argument. -/
def sp (x : EReal) : EReal := max (0 - x) 0 + Ideal.log1p (Ideal.exp (0 - max (0 - x) (-(0 - x))))

/-- The logarithm of the decay. -/
def la (l : Fin 512) (n : ℕ) : EReal := Ideal.ofBits .f32 0xC1000000#32 * gate q q.wa q.ba l n * sp (q.lam (ix1 l))

/-- The decay. -/
def aG (l : Fin 512) (n : ℕ) : EReal := Ideal.exp (la q l n)

/-- The input of the recurrence. -/
def uG (l : Fin 512) (n : ℕ) : EReal :=
  Ideal.sqrt (0 - (Ideal.exp (Ideal.ofBits .f32 0x40000000#32 * la q l n) - 1)) * (gate q q.wx q.bx l n * xc q l n)

/-- The recurrence from zero. -/
def hG (l : Fin 512) (n : ℕ) : EReal := seq (aG q l) (uG q l) 0 n

/-- The gate's activation, as its tanh form. -/
def gelu (x : EReal) : EReal :=
  x * (Ideal.ofBits .f32 0x3F000000#32 * (1 + Ideal.tanh (Ideal.ofBits .f32 0x3F4C422A#32 *
    (x + Ideal.ofBits .f32 0x3D372713#32 * (x * (x * x))))))

/-- The gated output. -/
def yG (l : Fin 512) (n : ℕ) : EReal := hG q l n * gelu (gr q l n)

theorem exp_nonneg (x : EReal) : 0 ≤ Ideal.exp x := by
  induction x with
  | bot => exact le_rfl
  | top => exact le_top
  | coe r => exact EReal.coe_nonneg.2 (Real.exp_pos r).le

theorem logistic_nonneg (x : EReal) : 0 ≤ Ideal.logistic x := by
  unfold Ideal.logistic Ideal.div
  split
  · rw [if_pos zero_lt_one]; exact le_top
  · rw [one_mul]
    exact EReal.inv_nonneg_of_nonneg (add_nonneg zero_le_one (exp_nonneg _))

theorem log1p_nonneg {x : EReal} (h : 0 ≤ x) : 0 ≤ Ideal.log1p x := by
  unfold Ideal.log1p
  induction x with
  | bot => exact absurd h (by simp)
  | top => exact le_top
  | coe r =>
    have hr : (0 : ℝ) ≤ r := EReal.coe_nonneg.1 h
    have e : (1 : EReal) + (r : EReal) = ((1 + r : ℝ) : EReal) := by norm_cast
    rw [e]
    show (0 : EReal) ≤ if 1 + r ≤ 0 then ⊥ else ((Real.log (1 + r) : ℝ) : EReal)
    rw [if_neg (by linarith)]
    exact EReal.coe_nonneg.2 (Real.log_nonneg (by linarith))

theorem sp_nonneg (x : EReal) : 0 ≤ sp x := add_nonneg (le_max_right _ _) (log1p_nonneg (exp_nonneg _))

/-- A factor that is not positive times one that is not negative. -/
theorem mul_nonpos {x y : EReal} (hx : x ≤ 0) (hy : 0 ≤ y) : x * y ≤ 0 := by
  have h : 0 ≤ -x * y := mul_nonneg (EReal.neg_nonneg.2 hx) hy
  rw [EReal.neg_mul] at h
  exact EReal.neg_nonneg.1 h

/-- The word of minus eight is not positive. -/
theorem neg_eight : Ideal.ofBits .f32 0xC1000000#32 ≤ 0 := by
  simp [Ideal.ofBits, Ideal.ieee]
  rw [← EReal.coe_mul]
  norm_cast
  norm_num

/-- The logarithm of the decay is not positive. -/
theorem la_nonpos (l : Fin 512) (n : ℕ) : la q l n ≤ 0 := by
  unfold la
  exact mul_nonpos (mul_nonpos neg_eight (logistic_nonneg _)) (sp_nonneg _)

/-- The decay is a coefficient that distributes over every sum. -/
theorem aG_coef (l : Fin 512) (n : ℕ) : Coef (aG q l n) := by
  refine ⟨exp_nonneg _, ?_⟩
  have h := la_nonpos q l n
  unfold aG
  revert h
  generalize la q l n = x
  intro h
  induction x with
  | bot => exact EReal.zero_ne_top
  | top => exact absurd h (by simp)
  | coe r => exact EReal.coe_ne_top _

end Cert.LruSpec

end
-- ==== Proof.LruTile.lean ====
/-
  One tile of the recurrence's kernel, read element by element: the doubling scan over its 256 rows is the recurrence
  entered with the carried state, over the decay and the input the tile computes from its rows.
-/
module

public import proofs.«01_k».proof.Defs
public import proofs.«01_k».proof.Proof.LruSpec
public import proofs.«01_k».proof.Proof.Gen.LruKernelIdeal.Value
public import Idealize.ShloMosaic.Lib.Pointwise
public import Idealize.ShloMosaic.Lib.WordCmp

@[expose] public section

set_option maxRecDepth 16384

noncomputable section

namespace Cert.LruTile

open Idealize.ShloMosaic Idealize.ShloMosaic.WordCmp Cert.Common Cert.Scan Cert.LruSpec
open Cert.LruKernelIdeal Cert.LruKernelIdeal.Gen

/-- A mask that chooses its first operand from row `D` on. -/
def Mask (M : IVec S256x512 1) (D : ℕ) : Prop :=
  ∀ (r : Fin 256) (l : Fin 512) (x y : EReal), Scalar.select (M (ix2 r l)) x y = if D ≤ r.val then x else y

theorem mask (D : ℕ) (hD : D < 256) :
    Mask (cmpi .sge (iota .tc S256x512 32 [0] iota_S256x512_d0_w32) (broadcast S256x512 (BitVec.ofNat 32 D))) D := by
  intro r l x y
  pointwise
  rw [cmpi_sge_ofNat (by have := r.isLt; omega) (by omega)]
  by_cases h : D ≤ r.val <;> simp [h, Scalar.select]

/-- One doubling of the products of coefficients. -/
theorem levA {A : FVec Ideal S256x512 .f32} {a : Fin 512 → ℕ → EReal} {M : IVec S256x512 1} {D : ℕ} (d : BitVec 32)
    (hA : ∀ r l, (A (ix2 r l) : EReal) = wa (a l) D r.val) (hM : Mask M D) (hd : d.toNat = D) (hD : D < 256)
    (r : Fin 256) (l : Fin 512) :
    (mulf A (select M (dynamicRotate 0 d none A rotates_S256x512_d0)
      (broadcast S256x512 (Scalar.ofBits (F := Ideal) .f32 0x3F800000#32))) (ix2 r l) : EReal) = wa (a l) (D + D) r.val := by
  pointwise
  rw [hM, hA, hA, wa_add]
  by_cases h : D ≤ r.val
  · rw [if_pos h, if_pos h]
    have e : (r.val + 256 - d.toNat % 256) % 256 = r.val - D := by have := r.isLt; omega
    exact congrArg (wa (a l) D r.val * wa (a l) D ·) e
  · rw [if_neg h, if_neg h]

/-- One doubling of what the steps make of a zero state. -/
theorem levU {A U : FVec Ideal S256x512 .f32} {a u : Fin 512 → ℕ → EReal} {M : IVec S256x512 1} {D : ℕ} (d : BitVec 32)
    (ha : ∀ l n, Coef (a l n)) (hA : ∀ r l, (A (ix2 r l) : EReal) = wa (a l) D r.val)
    (hU : ∀ r l, (U (ix2 r l) : EReal) = wu (a l) (u l) D r.val) (hM : Mask M D) (hd : d.toNat = D) (hD : D < 256)
    (r : Fin 256) (l : Fin 512) :
    (addf (mulf A (select M (dynamicRotate 0 d none U rotates_S256x512_d0)
      (broadcast S256x512 (Scalar.ofBits (F := Ideal) .f32 0x00000000#32)))) U (ix2 r l) : EReal)
      = wu (a l) (u l) (D + D) r.val := by
  pointwise
  rw [hM, hA, hU, hU, wu_add _ _ (ha l)]
  by_cases h : D ≤ r.val
  · rw [if_pos h, if_pos h]
    have e : (r.val + 256 - d.toNat % 256) % 256 = r.val - D := by have := r.isLt; omega
    exact congrArg (wa (a l) D r.val * wu (a l) (u l) D · + wu (a l) (u l) D r.val) e
  · rw [if_neg h, if_neg h, mul_zero]

/-- The tile's decay. -/
abbrev tA (v67 : FVec Ideal S256x512 .f32) (v69 v71 : FVec Ideal S1x512 .f32) : FVec Ideal S256x512 .f32 :=
  k0_pay20 (F := Ideal) v67 v69 v71

/-- The tile's input of the recurrence. -/
abbrev tU (v53 v65 v67 : FVec Ideal S256x512 .f32) (v69 v71 : FVec Ideal S1x512 .f32) : FVec Ideal S256x512 .f32 :=
  mulf (sqrt (subf (broadcast S256x512 (Scalar.ofBits (F := Ideal) .f32 0x00000000#32))
    (subf (exp (mulf (broadcast S256x512 (Scalar.ofBits (F := Ideal) .f32 0x40000000#32)) (k0_pay19 (F := Ideal) v67 v69 v71)))
      (broadcast S256x512 (Scalar.ofBits (F := Ideal) .f32 0x3F800000#32))))) (mulf v65 v53)

/-- The row numbers of a tile. -/
abbrev rows : IVec S256x512 32 := iota .tc S256x512 32 [0] iota_S256x512_d0_w32

section
variable {a u : Fin 512 → ℕ → EReal} {v112 v113 : FVec Ideal S256x512 .f32}

theorem a8_apply (hA : ∀ r l, (v113 (ix2 r l) : EReal) = wa (a l) 4 r.val) (r : Fin 256) (l : Fin 512) :
    (k0_pay27 (F := Ideal) v113 k0_pay26 4#32 (ix2 r l) : EReal) = wa (a l) 8 r.val :=
  levA 4#32 hA (mask 4 (by decide)) rfl (by decide) r l

theorem a16_apply (hA : ∀ r l, (v113 (ix2 r l) : EReal) = wa (a l) 4 r.val) (r : Fin 256) (l : Fin 512) :
    (k0_pay29 (F := Ideal) rows v113 k0_pay26 4#32 (ix2 r l) : EReal) = wa (a l) 16 r.val :=
  levA 8#32 (a8_apply hA) (mask 8 (by decide)) rfl (by decide) r l

theorem a32_apply (hA : ∀ r l, (v113 (ix2 r l) : EReal) = wa (a l) 4 r.val) (r : Fin 256) (l : Fin 512) :
    (k0_pay31 (F := Ideal) rows v113 k0_pay26 4#32 (ix2 r l) : EReal) = wa (a l) 32 r.val :=
  levA 16#32 (a16_apply hA) (mask 16 (by decide)) rfl (by decide) r l

theorem a64_apply (hA : ∀ r l, (v113 (ix2 r l) : EReal) = wa (a l) 4 r.val) (r : Fin 256) (l : Fin 512) :
    (k0_pay34 (F := Ideal) rows v113 k0_pay26 4#32 (ix2 r l) : EReal) = wa (a l) 64 r.val :=
  levA 32#32 (a32_apply hA) (mask 32 (by decide)) rfl (by decide) r l

/-- The third to the sixth doubling. -/
theorem u64_apply (ha : ∀ l n, Coef (a l n)) (hA : ∀ r l, (v113 (ix2 r l) : EReal) = wa (a l) 4 r.val)
    (hU : ∀ r l, (v112 (ix2 r l) : EReal) = wu (a l) (u l) 4 r.val) (r : Fin 256) (l : Fin 512) :
    (k0_pay33 (F := Ideal) rows v112 v113 k0_pay26 4#32 (ix2 r l) : EReal) = wu (a l) (u l) 64 r.val := by
  unfold k0_pay33
  have u8 := levU 4#32 ha hA hU (mask 4 (by decide)) rfl (by decide)
  have u16 := levU 8#32 ha (a8_apply hA) u8 (mask 8 (by decide)) rfl (by decide)
  have u32 := levU 16#32 ha (a16_apply hA) u16 (mask 16 (by decide)) rfl (by decide)
  exact levU 32#32 ha (a32_apply hA) u32 (mask 32 (by decide)) rfl (by decide) r l

end

/-- The last two doublings and the carried state. -/
theorem last_apply {a u : Fin 512 → ℕ → EReal} {v156 v157 : FVec Ideal S256x512 .f32} (v3 : FVec Ideal S1x512 .f32)
    (ha : ∀ l n, Coef (a l n)) (hA : ∀ r l, (v157 (ix2 r l) : EReal) = wa (a l) 64 r.val)
    (hU : ∀ r l, (v156 (ix2 r l) : EReal) = wu (a l) (u l) 64 r.val) (r : Fin 256) (l : Fin 512) :
    (k0_pay35 (F := Ideal) v3 rows v156 v157 (ix2 r l) : EReal) = seq (a l) (u l) (v3 (ix2 0 l)) r.val := by
  have a128 := levA 64#32 hA (mask 64 (by decide)) rfl (by decide)
  have u128 := levU 64#32 ha hA hU (mask 64 (by decide)) rfl (by decide)
  have a256 := levA 128#32 a128 (mask 128 (by decide)) rfl (by decide) r l
  have u256 := levU 128#32 ha a128 u128 (mask 128 (by decide)) rfl (by decide) r l
  refine Eq.trans ?_ (wu_add_wa (a l) (u l) (ha l) (v3 (ix2 0 l)) r.val 256 r.isLt)
  refine Eq.trans ?_ (congrArg₂ (· + ·) u256 (congrArg (· * v3 (ix2 0 l)) a256))
  have e : broadcastTo S256x512 v3 broadcasts_S1x512_S256x512 (ix2 r l) = v3 (ix2 0 l) := by pointwise
  rw [← e]
  unfold k0_pay35
  rfl

theorem a2_apply {a : Fin 512 → ℕ → EReal} {v67 : FVec Ideal S256x512 .f32} {v69 v71 : FVec Ideal S1x512 .f32}
    (hA : ∀ r l, (tA v67 v69 v71 (ix2 r l) : EReal) = wa (a l) 1 r.val) (r : Fin 256) (l : Fin 512) :
    (k0_pay22 (F := Ideal) v67 v69 v71 (ix2 r l) : EReal) = wa (a l) 2 r.val :=
  levA 1#32 hA (mask 1 (by decide)) rfl (by decide) r l

theorem a4_apply {a : Fin 512 → ℕ → EReal} {v67 : FVec Ideal S256x512 .f32} {v69 v71 : FVec Ideal S1x512 .f32}
    (hA : ∀ r l, (tA v67 v69 v71 (ix2 r l) : EReal) = wa (a l) 1 r.val) (r : Fin 256) (l : Fin 512) :
    (k0_pay25 (F := Ideal) v67 v69 v71 (ix2 r l) : EReal) = wa (a l) 4 r.val :=
  levA 2#32 (a2_apply hA) (mask 2 (by decide)) rfl (by decide) r l

/-- The first two doublings. -/
theorem u4_apply {a u : Fin 512 → ℕ → EReal} {v53 v65 v67 : FVec Ideal S256x512 .f32} {v69 v71 : FVec Ideal S1x512 .f32}
    (ha : ∀ l n, Coef (a l n)) (hA : ∀ r l, (tA v67 v69 v71 (ix2 r l) : EReal) = wa (a l) 1 r.val)
    (hU : ∀ r l, (tU v53 v65 v67 v69 v71 (ix2 r l) : EReal) = wu (a l) (u l) 1 r.val) (r : Fin 256) (l : Fin 512) :
    (k0_pay24 (F := Ideal) v53 v65 v67 v69 v71 (ix2 r l) : EReal) = wu (a l) (u l) 4 r.val := by
  have u2 := levU 1#32 ha hA hU (mask 1 (by decide)) rfl (by decide)
  unfold k0_pay24
  exact levU 2#32 ha (a2_apply hA) u2 (mask 2 (by decide)) rfl (by decide) r l

/-- The tile's states: what the eight doublings and the carried state give is the recurrence over the tile's rows. -/
theorem scan_apply (v3 : FVec Ideal S1x512 .f32) (v53 v65 v67 : FVec Ideal S256x512 .f32) (v69 v71 : FVec Ideal S1x512 .f32)
    (a u : Fin 512 → ℕ → EReal) (ha : ∀ l n, Coef (a l n))
    (hA : ∀ r l, (tA v67 v69 v71 (ix2 r l) : EReal) = a l r.val)
    (hU : ∀ r l, (tU v53 v65 v67 v69 v71 (ix2 r l) : EReal) = u l r.val) (r : Fin 256) (l : Fin 512) :
    (k0_pay35 (F := Ideal) v3 rows (k0_pay33 rows (k0_pay24 v53 v65 v67 v69 v71) (k0_pay25 v67 v69 v71) k0_pay26 4#32)
      (k0_pay34 rows (k0_pay25 v67 v69 v71) k0_pay26 4#32) (ix2 r l) : EReal)
      = seq (a l) (u l) (v3 (ix2 0 l)) r.val := by
  have hA1 : ∀ r l, (tA v67 v69 v71 (ix2 r l) : EReal) = wa (a l) 1 r.val := fun r l => (hA r l).trans (wa_one _ _).symm
  have hU1 : ∀ r l, (tU v53 v65 v67 v69 v71 (ix2 r l) : EReal) = wu (a l) (u l) 1 r.val :=
    fun r l => (hU r l).trans (wu_one _ _ _).symm
  exact last_apply v3 ha (a64_apply (a4_apply hA1)) (u64_apply ha (a4_apply hA1) (u4_apply ha hA1 hU1)) r l

/-- What a tile is given: its rows of the projection from row `T` on, the eight rows before them, the state after
    them, and the parameters, the gates' weights as block-diagonal matrices. -/
structure Given (q : Args) (T : ℕ) (v3 : FVec Ideal S1x512 .f32) (v4 : FVec Ideal S8x512 .f32) (v11 v12 : FVec Ideal S256x512 .f32)
    (w0 w1 w2 w3 cb : FVec Ideal S1x512 .f32) (Wa : FVec Ideal S512x512 .f32) (ba : FVec Ideal S1x512 .f32)
    (Wx : FVec Ideal S512x512 .f32) (bx lam : FVec Ideal S1x512 .f32) : Prop where
  h : ∀ l, (v3 (ix2 0 l) : EReal) = if T = 0 then 0 else hG q l (T - 1)
  prev : ∀ s l, (v4 (ix2 s l) : EReal) = back (xr q l) 8 (T + s.val)
  x : ∀ r l, (v11 (ix2 r l) : EReal) = xr q l (T + r.val)
  g : ∀ r l, (v12 (ix2 r l) : EReal) = gr q l (T + r.val)
  w0 : ∀ l, (w0 (ix2 0 l) : EReal) = q.cw (ix2 0 l)
  w1 : ∀ l, (w1 (ix2 0 l) : EReal) = q.cw (ix2 1 l)
  w2 : ∀ l, (w2 (ix2 0 l) : EReal) = q.cw (ix2 2 l)
  w3 : ∀ l, (w3 (ix2 0 l) : EReal) = q.cw (ix2 3 l)
  cb : ∀ l, (cb (ix2 0 l) : EReal) = q.cb (ix1 l)
  Wa : ∀ k l, (Wa (ix2 k l) : EReal) =
    if k.val / 64 = l.val / 64 then q.wa (ix3 ⟨l.val / 64, by omega⟩ ⟨k.val % 64, by omega⟩ ⟨l.val % 64, by omega⟩) else 0
  ba : ∀ l, (ba (ix2 0 l) : EReal) = q.ba (ix1 l)
  Wx : ∀ k l, (Wx (ix2 k l) : EReal) =
    if k.val / 64 = l.val / 64 then q.wx (ix3 ⟨l.val / 64, by omega⟩ ⟨k.val % 64, by omega⟩ ⟨l.val % 64, by omega⟩) else 0
  bx : ∀ l, (bx (ix2 0 l) : EReal) = q.bx (ix1 l)
  lam : ∀ l, (lam (ix2 0 l) : EReal) = q.lam (ix1 l)

/-- A row of a block-diagonal matrix against a column: the column's block alone. -/
theorem block_sum (f : Fin 512 → EReal) (W : (⟨3, ![8, 64, 64]⟩ : Shape).Idx → EReal) (l : Fin 512) :
    ∑ k : Fin 512, f k * (if k.val / 64 = l.val / 64 then
        W (ix3 ⟨l.val / 64, by omega⟩ ⟨k.val % 64, by omega⟩ ⟨l.val % 64, by omega⟩) else 0)
      = ∑ k : Fin 64, f (col l k) * W (ix3 ⟨l.val / 64, by omega⟩ k ⟨l.val % 64, by omega⟩) := by
  refine (Fintype.sum_of_injective (col l) ?_ _ _ ?_ ?_).symm
  · intro k k' e
    have := congrArg Fin.val e
    simp only [col] at this
    exact Fin.ext (by omega)
  · intro k hk
    rw [if_neg, mul_zero]
    intro e
    exact hk ⟨⟨k.val % 64, by omega⟩, Fin.ext (by simp only [col]; omega)⟩
  · intro k
    have h1 : (col l k).val / 64 = l.val / 64 := by simp only [col]; omega
    have h2 : (col l k).val % 64 = k.val := by simp only [col]; omega
    rw [if_pos h1]
    simp only [h2]

section
variable {q : Args} {T : ℕ} {v3 : FVec Ideal S1x512 .f32} {v4 : FVec Ideal S8x512 .f32} {v11 v12 : FVec Ideal S256x512 .f32}
  {w0 w1 w2 w3 cb : FVec Ideal S1x512 .f32} {Wa : FVec Ideal S512x512 .f32} {ba : FVec Ideal S1x512 .f32}
  {Wx : FVec Ideal S512x512 .f32} {bx lam : FVec Ideal S1x512 .f32}

/-- A row some steps back in the tile, or in the eight rows before it. -/
theorem rot_apply (G : Given q T v3 v4 v11 v12 w0 w1 w2 w3 cb Wa ba Wx bx lam) (d : ℕ) (hd : d < 4) (hd' : 0 < d) (r : Fin 256) (l : Fin 512)
    (p : (8 + r.val + 264 - d) % 264 < 8 → (8 + r.val + 264 - d) % 264 < 8)
    (p' : ¬(8 + r.val + 264 - d) % 264 < 8 → (8 + r.val + 264 - d) % 264 - 8 < 256) : ((if h : (8 + r.val + 264 - d) % 264 < 8 then v4 (ix2 ⟨(8 + r.val + 264 - d) % 264, p h⟩ l)
      else v11 (ix2 ⟨(8 + r.val + 264 - d) % 264 - 8, p' h⟩ l)) : EReal) = back (xr q l) d (T + r.val) := by
  have e : (8 + r.val + 264 - d) % 264 = 8 + r.val - d := by omega
  split
  · rename_i h
    rw [G.prev, back, back]
    dsimp only
    simp only [e]
    rw [e] at h
    by_cases h' : d ≤ T + r.val
    · by_cases h'' : 8 ≤ T + (8 + r.val - d)
      · rw [if_pos h'', if_pos h']; congr 1; omega
      · exact absurd h' (by omega)
    · rw [if_neg (by omega), if_neg h']
  · rename_i h
    rw [G.x, back]
    dsimp only
    simp only [e]
    rw [e] at h
    rw [if_pos (by omega)]; congr 1; omega

/-- The tile's convolution. -/
theorem xc_apply (G : Given q T v3 v4 v11 v12 w0 w1 w2 w3 cb Wa ba Wx bx lam) (r : Fin 256) (l : Fin 512) :
    (k0_pay14 (F := Ideal) v4 v11 w0 w1 w2 w3 cb (ix2 r l) : EReal) = xc q l (T + r.val) := by
  unfold k0_pay14
  pointwise
  rw [rot_apply G 1 (by decide) (by decide), rot_apply G 2 (by decide) (by decide), rot_apply G 3 (by decide) (by decide),
    G.x, G.w0, G.w1, G.w2, G.w3, G.cb]
  rfl

/-- The tile's input gate. -/
theorem ig_apply (G : Given q T v3 v4 v11 v12 w0 w1 w2 w3 cb Wa ba Wx bx lam) (r : Fin 256) (l : Fin 512) :
    (k0_pay15 (F := Ideal) v4 v11 w0 w1 w2 w3 cb Wx bx (ix2 r l) : EReal) = gate q q.wx q.bx l (T + r.val) := by
  unfold k0_pay15
  pointwise
  simp only [xc_apply G, G.Wx, G.bx]
  rw [block_sum (fun k => xc q k (T + r.val)) q.wx l]
  rfl

/-- The tile's recurrence gate, times minus eight. -/
theorem rg_apply (G : Given q T v3 v4 v11 v12 w0 w1 w2 w3 cb Wa ba Wx bx lam) (r : Fin 256) (l : Fin 512) :
    (k0_pay16 (F := Ideal) v4 v11 w0 w1 w2 w3 cb Wa ba (ix2 r l) : EReal)
      = Ideal.ofBits .f32 0xC1000000#32 * gate q q.wa q.ba l (T + r.val) := by
  unfold k0_pay16
  pointwise
  simp only [xc_apply G, G.Wa, G.ba]
  rw [block_sum (fun k => xc q k (T + r.val)) q.wa l]
  rfl

/-- The logarithm of the tile's decay. -/
theorem la_apply (G : Given q T v3 v4 v11 v12 w0 w1 w2 w3 cb Wa ba Wx bx lam) (r : Fin 256) (l : Fin 512) :
    (k0_pay19 (F := Ideal) (k0_pay16 v4 v11 w0 w1 w2 w3 cb Wa ba) (k0_pay17 lam) (k0_pay18 lam) (ix2 r l) : EReal)
      = la q l (T + r.val) := by
  unfold k0_pay19 k0_pay18 k0_pay17
  pointwise
  rw [rg_apply G, G.lam]
  rfl

theorem tA_apply (G : Given q T v3 v4 v11 v12 w0 w1 w2 w3 cb Wa ba Wx bx lam) (r : Fin 256) (l : Fin 512) :
    (tA (k0_pay16 v4 v11 w0 w1 w2 w3 cb Wa ba) (k0_pay17 lam) (k0_pay18 lam) (ix2 r l) : EReal) = aG q l (T + r.val) :=
  congrArg Ideal.exp (la_apply G r l)

theorem tU_apply (G : Given q T v3 v4 v11 v12 w0 w1 w2 w3 cb Wa ba Wx bx lam) (r : Fin 256) (l : Fin 512) :
    (tU (k0_pay14 v4 v11 w0 w1 w2 w3 cb) (k0_pay15 v4 v11 w0 w1 w2 w3 cb Wx bx) (k0_pay16 v4 v11 w0 w1 w2 w3 cb Wa ba)
      (k0_pay17 lam) (k0_pay18 lam) (ix2 r l) : EReal) = uG q l (T + r.val) := by
  pointwise
  rw [la_apply G, ig_apply G, xc_apply G]
  unfold uG
  rfl

variable (v4 v11 w0 w1 w2 w3 cb Wa ba Wx bx lam) in
/-- The tile's inputs after six doublings, -/
abbrev tU64 : FVec Ideal S256x512 .f32 :=
  k0_pay33 rows (k0_pay24 (k0_pay14 v4 v11 w0 w1 w2 w3 cb) (k0_pay15 v4 v11 w0 w1 w2 w3 cb Wx bx)
    (k0_pay16 v4 v11 w0 w1 w2 w3 cb Wa ba) (k0_pay17 lam) (k0_pay18 lam))
    (k0_pay25 (k0_pay16 v4 v11 w0 w1 w2 w3 cb Wa ba) (k0_pay17 lam) (k0_pay18 lam)) k0_pay26 4#32

variable (v4 v11 w0 w1 w2 w3 cb Wa ba lam) in
/-- and its coefficients. -/
abbrev tA64 : FVec Ideal S256x512 .f32 :=
  k0_pay34 rows (k0_pay25 (k0_pay16 v4 v11 w0 w1 w2 w3 cb Wa ba) (k0_pay17 lam) (k0_pay18 lam)) k0_pay26 4#32

/-- The tile's states are the recurrence's over the tile's rows. -/
theorem tH_apply (G : Given q T v3 v4 v11 v12 w0 w1 w2 w3 cb Wa ba Wx bx lam) (r : Fin 256) (l : Fin 512) :
    (k0_pay35 (F := Ideal) v3 rows (tU64 v4 v11 w0 w1 w2 w3 cb Wa ba Wx bx lam) (tA64 v4 v11 w0 w1 w2 w3 cb Wa ba lam)
      (ix2 r l) : EReal) = hG q l (T + r.val) := by
  refine (scan_apply v3 _ _ _ _ _ (fun l n => aG q l (T + n)) (fun l n => uG q l (T + n)) (fun l n => aG_coef q l _)
    (tA_apply G) (tU_apply G) r l).trans ?_
  rw [G.h]
  by_cases h : T = 0
  · subst h
    rw [if_pos rfl]
    simp only [Nat.zero_add]
    rfl
  · rw [if_neg h]
    obtain ⟨m, rfl⟩ : ∃ m, T = m + 1 := ⟨T - 1, by omega⟩
    rw [Nat.add_sub_cancel]
    exact seq_shift (aG q l) (uG q l) 0 m r.val

/-- The tile's output. -/
theorem y_apply (G : Given q T v3 v4 v11 v12 w0 w1 w2 w3 cb Wa ba Wx bx lam) (r : Fin 256) (l : Fin 512) :
    (k0_pay1 (k0_pay36 (F := Ideal) v3 v12 rows (tU64 v4 v11 w0 w1 w2 w3 cb Wa ba Wx bx lam)
      (tA64 v4 v11 w0 w1 w2 w3 cb Wa ba lam)) (ix2 r l) : EReal) = yG q l (T + r.val) := by
  unfold k0_pay1 k0_pay36
  pointwise
  rw [tH_apply G, G.g]
  rfl

/-- The state the tile leaves. -/
theorem h_apply (G : Given q T v3 v4 v11 v12 w0 w1 w2 w3 cb Wa ba Wx bx lam) (l : Fin 512) :
    (k0_pay2 (k0_pay37 (F := Ideal) v3 rows (tU64 v4 v11 w0 w1 w2 w3 cb Wa ba Wx bx lam)
      (tA64 v4 v11 w0 w1 w2 w3 cb Wa ba lam)) (ix2 0 l) : EReal) = hG q l (T + 255) := by
  unfold k0_pay2 k0_pay37
  pointwise
  rw [Finset.sum_eq_single (255 : Fin 256)]
  · rw [tH_apply G]
    rfl
  · intro r _ hr
    rw [cmpi_eq_eq_toNat]
    have h : ¬ (BitVec.ofNat 32 r.val).toNat = (255#32).toNat := by
      intro e
      refine hr (Fin.ext ?_)
      have : r.val % 4294967296 = 255 := by simpa using e
      show r.val = 255
      have := r.isLt
      omega
    simp only [h, decide_false]
    rfl
  · intro h
    exact absurd (Finset.mem_univ _) h

/-- The rows the tile leaves for the next one. -/
theorem prev_apply (G : Given q T v3 v4 v11 v12 w0 w1 w2 w3 cb Wa ba Wx bx lam) (s : Fin 8) (l : Fin 512) :
    (k0_pay3 (F := Ideal) v11 (ix2 s l) : EReal) = xr q l (T + (248 + s.val)) := by
  unfold k0_pay3
  pointwise
  exact G.x _ _

end

end Cert.LruTile

end
-- ==== Proof.LruPoint.lean ====
/-
  The forward call of the gated linear recurrence: the kernel goes over the rows a tile of 256 at a time, carrying the
  state and the last eight rows, and scans each tile by doubling; the reference steps through the rows one by one.
-/
module

public import proofs.«01_k».proof.Defs
public import proofs.«01_k».proof.Proof.LruTile
public import proofs.«01_k».proof.Proof.Gen.LruKernel.Frame
public import proofs.«01_k».proof.Proof.Gen.LruKernelIdeal.Value
public import Idealize.ShloMosaic.Lib.StableHlo.ReadAt
public import Idealize.ShloMosaic.Lib.Quiescent
public import Idealize.ShloMosaic.Lib.Tactic

@[expose] public section

set_option maxRecDepth 16384

noncomputable section

namespace Cert.Lru

open Idealize.ShloMosaic Idealize.ShloMosaic.TcCoe Idealize.ShloMosaic.WordCmp Idealize.SL.Sem Cert.Common Cert.LruSpec

section kernel

open Cert.LruKernelIdeal Cert.LruKernelIdeal.Gen Cert.LruTile

variable (m : (ℓ : Loc nD τ sig) → Buf (Elt Ideal) ℓ)

/-- The arguments the kernel is launched with. -/
def kargs (c : Dev nD) : Args where
  P := m ((c : Thread nD τ).loc main_arg0)
  cw := m ((c : Thread nD τ).loc main_arg1)
  cb := m ((c : Thread nD τ).loc main_arg2)
  wa := m ((c : Thread nD τ).loc main_arg3)
  ba := m ((c : Thread nD τ).loc main_arg4)
  wx := m ((c : Thread nD τ).loc main_arg5)
  bx := m ((c : Thread nD τ).loc main_arg6)
  lam := m ((c : Thread nD τ).loc main_arg7)

/-- The rows of the output a first point leaves, -/
theorem out_A (c : Dev nD) (i : grid0.Coords) (a1 : Memref sig .tc .vmem S256x512 .f32) (h1 : a1.IsWhole) (a2 : Memref sig .tc .vmem S256x512 .f32) (h2 : a2.IsWhole) (a3 : Memref sig .tc .vmem S1x512 .f32) (h3 : a3.IsWhole) (a4 : Memref sig .tc .vmem S1x512 .f32) (h4 : a4.IsWhole) (a5 : Memref sig .tc .vmem S1x512 .f32) (h5 : a5.IsWhole) (a6 : Memref sig .tc .vmem S1x512 .f32) (h6 : a6.IsWhole) (a7 : Memref sig .tc .vmem S1x512 .f32) (h7 : a7.IsWhole) (a8 : Memref sig .tc .vmem S512x512 .f32) (h8 : a8.IsWhole) (a9 : Memref sig .tc .vmem S1x512 .f32) (h9 : a9.IsWhole) (a10 : Memref sig .tc .vmem S512x512 .f32) (h10 : a10.IsWhole) (a11 : Memref sig .tc .vmem S1x512 .f32) (h11 : a11.IsWhole) (a12 : Memref sig .tc .vmem S1x512 .f32) (h12 : a12.IsWhole) (a13 : Memref sig .tc .vmem S256x512 .bf16) (h13 : a13.IsWhole) (a14 : Memref sig .tc .vmem S1x1x512 .f32) (h14 : a14.IsWhole) (a15 : Memref sig .tc .vmem S1x8x512 .f32) (h15 : a15.IsWhole) (a16 : Memref sig .tc .vmem S1x512 .f32) (h16 : a16.IsWhole) (a17 : Memref sig .tc .vmem S8x512 .f32) (h17 : a17.IsWhole) (hc : cond0_0 i) (x0 : Vec Ideal S256x512 .f32) (x1 : Vec Ideal S256x512 .f32) (x2 : Vec Ideal S1x512 .f32) (x3 : Vec Ideal S1x512 .f32) (x4 : Vec Ideal S1x512 .f32) (x5 : Vec Ideal S1x512 .f32) (x6 : Vec Ideal S1x512 .f32) (x7 : Vec Ideal S512x512 .f32) (x8 : Vec Ideal S1x512 .f32) (x9 : Vec Ideal S512x512 .f32) (x10 : Vec Ideal S1x512 .f32) (x11 : Vec Ideal S1x512 .f32) :
    out0_A_12 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 = k0_pay1 (k0_pay36 k0_pay4 x1 rows (tU64 k0_pay5 x0 (k0_pay8 x2) (k0_pay9 x3) (k0_pay10 x4) (k0_pay11 x5) (k0_pay12 x6) (k0_pay13 x7) x8 x9 x10 x11) (tA64 k0_pay5 x0 (k0_pay8 x2) (k0_pay9 x3) (k0_pay10 x4) (k0_pay11 x5) (k0_pay12 x6) (k0_pay13 x7) x8 x11)) := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11)]
  unfold kernelRun0_A
  dsimp only
  sl_unfold_words
  rw [View.canon_unit_zero (S := S256x512) hz]
  simp only [View.readCov_unit_zero (S := S1x512) _ hz, View.readCov_unit_zero (S := S8x512) _ hz]
  simp only [View.readAt_eq_ld, h1.read_unread, h2.read_unread, h3.read_unread, h4.read_unread, h5.read_unread, h6.read_unread, h7.read_unread, h8.read_unread, h9.read_unread, h10.read_unread, h11.read_unread, h12.read_unread, View.ld_unit_zero (S := S256x512) hz, View.ld_unit_zero (S := S1x512) hz, View.ld_unit_zero (S := S512x512) hz, View.ld_unit_zero (S := S8x512) hz]

/-- the state it leaves, -/
theorem sh_A (c : Dev nD) (i : grid0.Coords) (a1 : Memref sig .tc .vmem S256x512 .f32) (h1 : a1.IsWhole) (a2 : Memref sig .tc .vmem S256x512 .f32) (h2 : a2.IsWhole) (a3 : Memref sig .tc .vmem S1x512 .f32) (h3 : a3.IsWhole) (a4 : Memref sig .tc .vmem S1x512 .f32) (h4 : a4.IsWhole) (a5 : Memref sig .tc .vmem S1x512 .f32) (h5 : a5.IsWhole) (a6 : Memref sig .tc .vmem S1x512 .f32) (h6 : a6.IsWhole) (a7 : Memref sig .tc .vmem S1x512 .f32) (h7 : a7.IsWhole) (a8 : Memref sig .tc .vmem S512x512 .f32) (h8 : a8.IsWhole) (a9 : Memref sig .tc .vmem S1x512 .f32) (h9 : a9.IsWhole) (a10 : Memref sig .tc .vmem S512x512 .f32) (h10 : a10.IsWhole) (a11 : Memref sig .tc .vmem S1x512 .f32) (h11 : a11.IsWhole) (a12 : Memref sig .tc .vmem S1x512 .f32) (h12 : a12.IsWhole) (a13 : Memref sig .tc .vmem S256x512 .bf16) (h13 : a13.IsWhole) (a14 : Memref sig .tc .vmem S1x1x512 .f32) (h14 : a14.IsWhole) (a15 : Memref sig .tc .vmem S1x8x512 .f32) (h15 : a15.IsWhole) (a16 : Memref sig .tc .vmem S1x512 .f32) (h16 : a16.IsWhole) (a17 : Memref sig .tc .vmem S8x512 .f32) (h17 : a17.IsWhole) (hc : cond0_0 i) (x0 : Vec Ideal S256x512 .f32) (x1 : Vec Ideal S256x512 .f32) (x2 : Vec Ideal S1x512 .f32) (x3 : Vec Ideal S1x512 .f32) (x4 : Vec Ideal S1x512 .f32) (x5 : Vec Ideal S1x512 .f32) (x6 : Vec Ideal S1x512 .f32) (x7 : Vec Ideal S512x512 .f32) (x8 : Vec Ideal S1x512 .f32) (x9 : Vec Ideal S512x512 .f32) (x10 : Vec Ideal S1x512 .f32) (x11 : Vec Ideal S1x512 .f32) :
    sout0_A_0 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 = k0_pay2 (k0_pay37 k0_pay4 rows (tU64 k0_pay5 x0 (k0_pay8 x2) (k0_pay9 x3) (k0_pay10 x4) (k0_pay11 x5) (k0_pay12 x6) (k0_pay13 x7) x8 x9 x10 x11) (tA64 k0_pay5 x0 (k0_pay8 x2) (k0_pay9 x3) (k0_pay10 x4) (k0_pay11 x5) (k0_pay12 x6) (k0_pay13 x7) x8 x11)) := by
  unfold sout0_A_0
  rw [View.read_writes_eq_canon _ _ _ (scover0_A_0 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11)]
  unfold kernelRun0_A
  dsimp only
  sl_unfold_words
  rw [View.canon_cons_unit_zero (S := S1x512) hz]
  simp only [View.readCov_unit_zero (S := S1x512) _ hz, View.readCov_unit_zero (S := S8x512) _ hz]
  simp only [View.readAt_eq_ld, h1.read_unread, h2.read_unread, h3.read_unread, h4.read_unread, h5.read_unread, h6.read_unread, h7.read_unread, h8.read_unread, h9.read_unread, h10.read_unread, h11.read_unread, h12.read_unread, View.ld_unit_zero (S := S256x512) hz, View.ld_unit_zero (S := S1x512) hz, View.ld_unit_zero (S := S512x512) hz, View.ld_unit_zero (S := S8x512) hz]

/-- and the rows it leaves for the next. -/
theorem sp_A (c : Dev nD) (i : grid0.Coords) (a1 : Memref sig .tc .vmem S256x512 .f32) (h1 : a1.IsWhole) (a2 : Memref sig .tc .vmem S256x512 .f32) (h2 : a2.IsWhole) (a3 : Memref sig .tc .vmem S1x512 .f32) (h3 : a3.IsWhole) (a4 : Memref sig .tc .vmem S1x512 .f32) (h4 : a4.IsWhole) (a5 : Memref sig .tc .vmem S1x512 .f32) (h5 : a5.IsWhole) (a6 : Memref sig .tc .vmem S1x512 .f32) (h6 : a6.IsWhole) (a7 : Memref sig .tc .vmem S1x512 .f32) (h7 : a7.IsWhole) (a8 : Memref sig .tc .vmem S512x512 .f32) (h8 : a8.IsWhole) (a9 : Memref sig .tc .vmem S1x512 .f32) (h9 : a9.IsWhole) (a10 : Memref sig .tc .vmem S512x512 .f32) (h10 : a10.IsWhole) (a11 : Memref sig .tc .vmem S1x512 .f32) (h11 : a11.IsWhole) (a12 : Memref sig .tc .vmem S1x512 .f32) (h12 : a12.IsWhole) (a13 : Memref sig .tc .vmem S256x512 .bf16) (h13 : a13.IsWhole) (a14 : Memref sig .tc .vmem S1x1x512 .f32) (h14 : a14.IsWhole) (a15 : Memref sig .tc .vmem S1x8x512 .f32) (h15 : a15.IsWhole) (a16 : Memref sig .tc .vmem S1x512 .f32) (h16 : a16.IsWhole) (a17 : Memref sig .tc .vmem S8x512 .f32) (h17 : a17.IsWhole) (hc : cond0_0 i) (x0 : Vec Ideal S256x512 .f32) (x1 : Vec Ideal S256x512 .f32) (x2 : Vec Ideal S1x512 .f32) (x3 : Vec Ideal S1x512 .f32) (x4 : Vec Ideal S1x512 .f32) (x5 : Vec Ideal S1x512 .f32) (x6 : Vec Ideal S1x512 .f32) (x7 : Vec Ideal S512x512 .f32) (x8 : Vec Ideal S1x512 .f32) (x9 : Vec Ideal S512x512 .f32) (x10 : Vec Ideal S1x512 .f32) (x11 : Vec Ideal S1x512 .f32) :
    sout0_A_1 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 = k0_pay3 x0 := by
  unfold sout0_A_1
  rw [View.read_writes_eq_canon _ _ _ (scover0_A_1 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11)]
  unfold kernelRun0_A
  dsimp only
  sl_unfold_words
  rw [View.canon_cons_unit_zero (S := S8x512) hz]
  simp only [View.readAt_eq_ld, h1.read_unread, h2.read_unread, h3.read_unread, h4.read_unread, h5.read_unread, h6.read_unread, h7.read_unread, h8.read_unread, h9.read_unread, h10.read_unread, h11.read_unread, h12.read_unread, View.ld_unit_zero (S := S256x512) hz, View.ld_unit_zero (S := S1x512) hz, View.ld_unit_zero (S := S512x512) hz, View.ld_unit_zero (S := S8x512) hz]

/-- The rows of the output a later point leaves, -/
theorem out_B (c : Dev nD) (i : grid0.Coords) (a1 : Memref sig .tc .vmem S256x512 .f32) (h1 : a1.IsWhole) (a2 : Memref sig .tc .vmem S256x512 .f32) (h2 : a2.IsWhole) (a3 : Memref sig .tc .vmem S1x512 .f32) (h3 : a3.IsWhole) (a4 : Memref sig .tc .vmem S1x512 .f32) (h4 : a4.IsWhole) (a5 : Memref sig .tc .vmem S1x512 .f32) (h5 : a5.IsWhole) (a6 : Memref sig .tc .vmem S1x512 .f32) (h6 : a6.IsWhole) (a7 : Memref sig .tc .vmem S1x512 .f32) (h7 : a7.IsWhole) (a8 : Memref sig .tc .vmem S512x512 .f32) (h8 : a8.IsWhole) (a9 : Memref sig .tc .vmem S1x512 .f32) (h9 : a9.IsWhole) (a10 : Memref sig .tc .vmem S512x512 .f32) (h10 : a10.IsWhole) (a11 : Memref sig .tc .vmem S1x512 .f32) (h11 : a11.IsWhole) (a12 : Memref sig .tc .vmem S1x512 .f32) (h12 : a12.IsWhole) (a13 : Memref sig .tc .vmem S256x512 .bf16) (h13 : a13.IsWhole) (a14 : Memref sig .tc .vmem S1x1x512 .f32) (h14 : a14.IsWhole) (a15 : Memref sig .tc .vmem S1x8x512 .f32) (h15 : a15.IsWhole) (a16 : Memref sig .tc .vmem S1x512 .f32) (h16 : a16.IsWhole) (a17 : Memref sig .tc .vmem S8x512 .f32) (h17 : a17.IsWhole) (hc : ¬cond0_0 i) (x0 : Vec Ideal S256x512 .f32) (x1 : Vec Ideal S256x512 .f32) (x2 : Vec Ideal S1x512 .f32) (x3 : Vec Ideal S1x512 .f32) (x4 : Vec Ideal S1x512 .f32) (x5 : Vec Ideal S1x512 .f32) (x6 : Vec Ideal S1x512 .f32) (x7 : Vec Ideal S512x512 .f32) (x8 : Vec Ideal S1x512 .f32) (x9 : Vec Ideal S512x512 .f32) (x10 : Vec Ideal S1x512 .f32) (x11 : Vec Ideal S1x512 .f32) (xs0 : Vec Ideal S1x512 .f32) (xs1 : Vec Ideal S8x512 .f32) :
    out0_B_12 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 xs0 xs1 = k0_pay1 (k0_pay36 xs0 x1 rows (tU64 xs1 x0 (k0_pay8 x2) (k0_pay9 x3) (k0_pay10 x4) (k0_pay11 x5) (k0_pay12 x6) (k0_pay13 x7) x8 x9 x10 x11) (tA64 xs1 x0 (k0_pay8 x2) (k0_pay9 x3) (k0_pay10 x4) (k0_pay11 x5) (k0_pay12 x6) (k0_pay13 x7) x8 x11)) := by
  unfold out0_B_12
  rw [View.read_writes_eq_canon _ _ _ (cover0_B_12 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 xs0 xs1)]
  unfold kernelRun0_B
  dsimp only
  sl_unfold_words
  rw [View.canon_unit_zero (S := S256x512) hz]
  simp only [View.readAt_eq_ld, h1.read_unread, h2.read_unread, h3.read_unread, h4.read_unread, h5.read_unread, h6.read_unread, h7.read_unread, h8.read_unread, h9.read_unread, h10.read_unread, h11.read_unread, h12.read_unread, h16.read_unread, h17.read_unread, View.ld_unit_zero (S := S256x512) hz, View.ld_unit_zero (S := S1x512) hz, View.ld_unit_zero (S := S512x512) hz, View.ld_unit_zero (S := S8x512) hz]

/-- the state it leaves, -/
theorem sh_B (c : Dev nD) (i : grid0.Coords) (a1 : Memref sig .tc .vmem S256x512 .f32) (h1 : a1.IsWhole) (a2 : Memref sig .tc .vmem S256x512 .f32) (h2 : a2.IsWhole) (a3 : Memref sig .tc .vmem S1x512 .f32) (h3 : a3.IsWhole) (a4 : Memref sig .tc .vmem S1x512 .f32) (h4 : a4.IsWhole) (a5 : Memref sig .tc .vmem S1x512 .f32) (h5 : a5.IsWhole) (a6 : Memref sig .tc .vmem S1x512 .f32) (h6 : a6.IsWhole) (a7 : Memref sig .tc .vmem S1x512 .f32) (h7 : a7.IsWhole) (a8 : Memref sig .tc .vmem S512x512 .f32) (h8 : a8.IsWhole) (a9 : Memref sig .tc .vmem S1x512 .f32) (h9 : a9.IsWhole) (a10 : Memref sig .tc .vmem S512x512 .f32) (h10 : a10.IsWhole) (a11 : Memref sig .tc .vmem S1x512 .f32) (h11 : a11.IsWhole) (a12 : Memref sig .tc .vmem S1x512 .f32) (h12 : a12.IsWhole) (a13 : Memref sig .tc .vmem S256x512 .bf16) (h13 : a13.IsWhole) (a14 : Memref sig .tc .vmem S1x1x512 .f32) (h14 : a14.IsWhole) (a15 : Memref sig .tc .vmem S1x8x512 .f32) (h15 : a15.IsWhole) (a16 : Memref sig .tc .vmem S1x512 .f32) (h16 : a16.IsWhole) (a17 : Memref sig .tc .vmem S8x512 .f32) (h17 : a17.IsWhole) (hc : ¬cond0_0 i) (x0 : Vec Ideal S256x512 .f32) (x1 : Vec Ideal S256x512 .f32) (x2 : Vec Ideal S1x512 .f32) (x3 : Vec Ideal S1x512 .f32) (x4 : Vec Ideal S1x512 .f32) (x5 : Vec Ideal S1x512 .f32) (x6 : Vec Ideal S1x512 .f32) (x7 : Vec Ideal S512x512 .f32) (x8 : Vec Ideal S1x512 .f32) (x9 : Vec Ideal S512x512 .f32) (x10 : Vec Ideal S1x512 .f32) (x11 : Vec Ideal S1x512 .f32) (xs0 : Vec Ideal S1x512 .f32) (xs1 : Vec Ideal S8x512 .f32) :
    sout0_B_0 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 xs0 xs1 = k0_pay2 (k0_pay37 xs0 rows (tU64 xs1 x0 (k0_pay8 x2) (k0_pay9 x3) (k0_pay10 x4) (k0_pay11 x5) (k0_pay12 x6) (k0_pay13 x7) x8 x9 x10 x11) (tA64 xs1 x0 (k0_pay8 x2) (k0_pay9 x3) (k0_pay10 x4) (k0_pay11 x5) (k0_pay12 x6) (k0_pay13 x7) x8 x11)) := by
  unfold sout0_B_0
  rw [View.read_writes_eq_canon _ _ _ (scover0_B_0 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 xs0 xs1)]
  unfold kernelRun0_B
  dsimp only
  sl_unfold_words
  rw [View.canon_unit_zero (S := S1x512) hz]
  simp only [View.readAt_eq_ld, h1.read_unread, h2.read_unread, h3.read_unread, h4.read_unread, h5.read_unread, h6.read_unread, h7.read_unread, h8.read_unread, h9.read_unread, h10.read_unread, h11.read_unread, h12.read_unread, h16.read_unread, h17.read_unread, View.ld_unit_zero (S := S256x512) hz, View.ld_unit_zero (S := S1x512) hz, View.ld_unit_zero (S := S512x512) hz, View.ld_unit_zero (S := S8x512) hz]

/-- and the rows it leaves for the next. -/
theorem sp_B (c : Dev nD) (i : grid0.Coords) (a1 : Memref sig .tc .vmem S256x512 .f32) (h1 : a1.IsWhole) (a2 : Memref sig .tc .vmem S256x512 .f32) (h2 : a2.IsWhole) (a3 : Memref sig .tc .vmem S1x512 .f32) (h3 : a3.IsWhole) (a4 : Memref sig .tc .vmem S1x512 .f32) (h4 : a4.IsWhole) (a5 : Memref sig .tc .vmem S1x512 .f32) (h5 : a5.IsWhole) (a6 : Memref sig .tc .vmem S1x512 .f32) (h6 : a6.IsWhole) (a7 : Memref sig .tc .vmem S1x512 .f32) (h7 : a7.IsWhole) (a8 : Memref sig .tc .vmem S512x512 .f32) (h8 : a8.IsWhole) (a9 : Memref sig .tc .vmem S1x512 .f32) (h9 : a9.IsWhole) (a10 : Memref sig .tc .vmem S512x512 .f32) (h10 : a10.IsWhole) (a11 : Memref sig .tc .vmem S1x512 .f32) (h11 : a11.IsWhole) (a12 : Memref sig .tc .vmem S1x512 .f32) (h12 : a12.IsWhole) (a13 : Memref sig .tc .vmem S256x512 .bf16) (h13 : a13.IsWhole) (a14 : Memref sig .tc .vmem S1x1x512 .f32) (h14 : a14.IsWhole) (a15 : Memref sig .tc .vmem S1x8x512 .f32) (h15 : a15.IsWhole) (a16 : Memref sig .tc .vmem S1x512 .f32) (h16 : a16.IsWhole) (a17 : Memref sig .tc .vmem S8x512 .f32) (h17 : a17.IsWhole) (hc : ¬cond0_0 i) (x0 : Vec Ideal S256x512 .f32) (x1 : Vec Ideal S256x512 .f32) (x2 : Vec Ideal S1x512 .f32) (x3 : Vec Ideal S1x512 .f32) (x4 : Vec Ideal S1x512 .f32) (x5 : Vec Ideal S1x512 .f32) (x6 : Vec Ideal S1x512 .f32) (x7 : Vec Ideal S512x512 .f32) (x8 : Vec Ideal S1x512 .f32) (x9 : Vec Ideal S512x512 .f32) (x10 : Vec Ideal S1x512 .f32) (x11 : Vec Ideal S1x512 .f32) (xs0 : Vec Ideal S1x512 .f32) (xs1 : Vec Ideal S8x512 .f32) :
    sout0_B_1 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 xs0 xs1 = k0_pay3 x0 := by
  unfold sout0_B_1
  rw [View.read_writes_eq_canon _ _ _ (scover0_B_1 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 xs0 xs1)]
  unfold kernelRun0_B
  dsimp only
  sl_unfold_words
  rw [View.canon_unit_zero (S := S8x512) hz]
  simp only [View.readAt_eq_ld, h1.read_unread, h2.read_unread, h3.read_unread, h4.read_unread, h5.read_unread, h6.read_unread, h7.read_unread, h8.read_unread, h9.read_unread, h10.read_unread, h11.read_unread, h12.read_unread, h16.read_unread, h17.read_unread, View.ld_unit_zero (S := S256x512) hz, View.ld_unit_zero (S := S1x512) hz, View.ld_unit_zero (S := S512x512) hz, View.ld_unit_zero (S := S8x512) hz]

/-- An element of an array whose coordinates are known. -/
theorem eq_ix2 {α : Type} {a b : ℕ} (x : (⟨2, ![a, b]⟩ : Shape).Idx → α) (i : (⟨2, ![a, b]⟩ : Shape).Idx) (p : Fin a) (q : Fin b)
    (hp : (i 0).val = p.val) (hq : (i 1).val = q.val) : x i = x (ix2 p q) :=
  congrArg x (funext fun k => match k with | ⟨0, _⟩ => Fin.ext hp | ⟨1, _⟩ => Fin.ext hq)

/-- The printed index maps, decided over the grid. -/
theorem idx_facts : ∀ t : Fin cfg0.N, (win0_0.index t 0 = t.val ∧ win0_0.index t 1 = 13) ∧ (win0_1.index t 0 = t.val ∧ win0_1.index t 1 = 14)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0)
    ∧ (win0_8.index t 0 = 0 ∧ win0_8.index t 1 = 0) ∧ (win0_9.index t 0 = 0 ∧ win0_9.index t 1 = 0)
    ∧ (win0_10.index t 0 = 0 ∧ win0_10.index t 1 = 0) ∧ (win0_11.index t 0 = 0 ∧ win0_11.index t 1 = 0) := by decide +kernel

/-- A weight times whether two block numbers agree. -/
theorem agree_mul (a b : ℕ) (ha : a < 8) (hb : b < 8) (x y : EReal) (h : a = b → x = y) :
    (FloatOps.uitofp (F := Ideal) .f32 (IntOp.cmpi .eq (IntOp.addi (BitVec.ofNat 32 a) 0#32) (BitVec.ofNat 32 b)) : EReal) * x
      = if a = b then y else 0 := by
  by_cases e : a = b
  · rw [if_pos e, ← h e, e]
    have : IntOp.cmpi .eq (IntOp.addi (BitVec.ofNat 32 b) 0#32) (BitVec.ofNat 32 b) = 1#1 := by
      simp [IntOp.cmpi, IntOp.addi]
    rw [this]
    refine (congrArg (· * x) (?_ : _ = (1 : EReal))).trans (one_mul x)
    simp [FloatOps.uitofp]
  · rw [if_neg e]
    have : IntOp.cmpi .eq (IntOp.addi (BitVec.ofNat 32 a) 0#32) (BitVec.ofNat 32 b) = 0#1 := by
      have : BitVec.ofNat 32 a ≠ BitVec.ofNat 32 b := fun h => e (by
        have := congrArg BitVec.toNat h
        simp only [BitVec.toNat_ofNat] at this
        omega)
      simp only [IntOp.cmpi, IntOp.addi, BitVec.add_zero, beq_eq_false_iff_ne.mpr this]
      rfl
    rw [this]
    refine (congrArg (· * x) (?_ : _ = (0 : EReal))).trans (zero_mul x)
    simp [FloatOps.uitofp]

/-- The taps, one row of the argument each, -/
theorem V_w0 (c : Dev nD) (l : Fin 512) : (V m c main_v0 (ix2 0 l) : EReal) = (kargs m c).cw (ix2 0 l) := by
  unfold V
  after_reads_at
  rfl
theorem V_w1 (c : Dev nD) (l : Fin 512) : (V m c main_v1 (ix2 0 l) : EReal) = (kargs m c).cw (ix2 1 l) := by
  unfold V
  after_reads_at
  rfl
theorem V_w2 (c : Dev nD) (l : Fin 512) : (V m c main_v2 (ix2 0 l) : EReal) = (kargs m c).cw (ix2 2 l) := by
  unfold V
  after_reads_at
  rfl
theorem V_w3 (c : Dev nD) (l : Fin 512) : (V m c main_v3 (ix2 0 l) : EReal) = (kargs m c).cw (ix2 3 l) := by
  unfold V
  after_reads_at
  rfl
/-- the convolution's bias, -/
theorem V_cb (c : Dev nD) (l : Fin 512) : (V m c main_v4 (ix2 0 l) : EReal) = (kargs m c).cb (ix1 l) := by
  unfold V
  after_reads_at
  rfl
/-- the gates' biases, -/
theorem V_ba (c : Dev nD) (l : Fin 512) : (V m c main_v17 (ix2 0 l) : EReal) = (kargs m c).ba (ix1 l) := by
  unfold V
  after_reads_at
  rfl
theorem V_bx (c : Dev nD) (l : Fin 512) : (V m c main_v30 (ix2 0 l) : EReal) = (kargs m c).bx (ix1 l) := by
  unfold V
  after_reads_at
  rfl
/-- the decay's parameter, -/
theorem V_lam (c : Dev nD) (l : Fin 512) : (V m c main_v31 (ix2 0 l) : EReal) = (kargs m c).lam (ix1 l) := by
  unfold V
  after_reads_at
  rfl
/-- and the gates' weights as block-diagonal matrices. -/
theorem V_wa (c : Dev nD) (k l : Fin 512) : (V m c main_v16 (ix2 k l) : EReal) = if k.val / 64 = l.val / 64 then
    (kargs m c).wa (ix3 ⟨l.val / 64, by omega⟩ ⟨k.val % 64, by omega⟩ ⟨l.val % 64, by omega⟩) else 0 := by
  unfold V
  after_reads_at
  exact agree_mul _ _ (by omega) (by omega) _ _ fun e => by simp only [e]; rfl
theorem V_wx (c : Dev nD) (k l : Fin 512) : (V m c main_v29 (ix2 k l) : EReal) = if k.val / 64 = l.val / 64 then
    (kargs m c).wx (ix3 ⟨l.val / 64, by omega⟩ ⟨k.val % 64, by omega⟩ ⟨l.val % 64, by omega⟩) else 0 := by
  unfold V
  after_reads_at
  exact agree_mul _ _ (by omega) (by omega) _ _ fun e => by simp only [e]; rfl

/-- A tile's rows of the recurrence's columns, -/
theorem blk0 (c : Dev nD) (t : Fin cfg0.N) (r : Fin 256) (l : Fin 512) :
    ((iblk m c 0 t : Vec Ideal S256x512 .f32) (ix2 r l) : EReal) = xr (kargs m c) l (256 * t.val + r.val) := by
  obtain ⟨⟨e0, e1⟩, -⟩ := idx_facts t
  have hN : cfg0.N = 32 := N_0
  have ht := t.isLt
  unfold xr
  rw [rd_of_lt _ _ (show 256 * t.val + r.val < 8192 by omega)]
  exact eq_ix2 (m ((c : Thread nD τ).loc main_arg0)) _ _ _
    (show win0_0.index t 0 * 256 + 1 * r.val = 256 * t.val + r.val by rw [e0]; omega)
    (show win0_0.index t 1 * 512 + 1 * l.val = 6656 + l.val by rw [e1]; omega)

/-- and of the gate's. -/
theorem blk1 (c : Dev nD) (t : Fin cfg0.N) (r : Fin 256) (l : Fin 512) :
    ((iblk m c 1 t : Vec Ideal S256x512 .f32) (ix2 r l) : EReal) = gr (kargs m c) l (256 * t.val + r.val) := by
  obtain ⟨-, ⟨e0, e1⟩, -⟩ := idx_facts t
  have hN : cfg0.N = 32 := N_0
  have ht := t.isLt
  unfold gr
  rw [rd_of_lt _ _ (show 256 * t.val + r.val < 8192 by omega)]
  exact eq_ix2 (m ((c : Thread nD τ).loc main_arg0)) _ _ _
    (show win0_1.index t 0 * 256 + 1 * r.val = 256 * t.val + r.val by rw [e0]; omega)
    (show win0_1.index t 1 * 512 + 1 * l.val = 7168 + l.val by rw [e1]; omega)

/-- The parameters' blocks are the parameters: the casts between equal shapes keep them, -/
theorem pay8_eq (x : Vec Ideal S1x512 .f32) : k0_pay8 (F := Ideal) x = x := by
  unfold k0_pay8
  exact shapeCast_self _ _
theorem pay9_eq (x : Vec Ideal S1x512 .f32) : k0_pay9 (F := Ideal) x = x := by
  unfold k0_pay9
  exact shapeCast_self _ _
theorem pay10_eq (x : Vec Ideal S1x512 .f32) : k0_pay10 (F := Ideal) x = x := by
  unfold k0_pay10
  exact shapeCast_self _ _
theorem pay11_eq (x : Vec Ideal S1x512 .f32) : k0_pay11 (F := Ideal) x = x := by
  unfold k0_pay11
  exact shapeCast_self _ _
theorem pay12_eq (x : Vec Ideal S1x512 .f32) : k0_pay12 (F := Ideal) x = x := by
  unfold k0_pay12
  exact shapeCast_self _ _
theorem pay13_eq (x : Vec Ideal S512x512 .f32) : k0_pay13 (F := Ideal) x = x := by
  unfold k0_pay13
  exact shapeCast_self _ _
/-- and every point is given them whole. -/
theorem blk2 (c : Dev nD) (t : Fin cfg0.N) (l : Fin 512) :
    ((iblk m c 2 t : Vec Ideal S1x512 .f32) (ix2 0 l) : EReal) = (kargs m c).cw (ix2 0 l) := by
  obtain ⟨-, -, ⟨e0, e1⟩, -⟩ := idx_facts t
  exact (eq_ix2 (V m c main_v0) _ _ _ (show win0_2.index t 0 * 1 + 1 * 0 = 0 by rw [e0])
    (show win0_2.index t 1 * 512 + 1 * l.val = l.val by rw [e1]; omega)).trans (V_w0 m c l)
theorem blk3 (c : Dev nD) (t : Fin cfg0.N) (l : Fin 512) :
    ((iblk m c 3 t : Vec Ideal S1x512 .f32) (ix2 0 l) : EReal) = (kargs m c).cw (ix2 1 l) := by
  obtain ⟨-, -, -, ⟨e0, e1⟩, -⟩ := idx_facts t
  exact (eq_ix2 (V m c main_v1) _ _ _ (show win0_3.index t 0 * 1 + 1 * 0 = 0 by rw [e0])
    (show win0_3.index t 1 * 512 + 1 * l.val = l.val by rw [e1]; omega)).trans (V_w1 m c l)
theorem blk4 (c : Dev nD) (t : Fin cfg0.N) (l : Fin 512) :
    ((iblk m c 4 t : Vec Ideal S1x512 .f32) (ix2 0 l) : EReal) = (kargs m c).cw (ix2 2 l) := by
  obtain ⟨-, -, -, -, ⟨e0, e1⟩, -⟩ := idx_facts t
  exact (eq_ix2 (V m c main_v2) _ _ _ (show win0_4.index t 0 * 1 + 1 * 0 = 0 by rw [e0])
    (show win0_4.index t 1 * 512 + 1 * l.val = l.val by rw [e1]; omega)).trans (V_w2 m c l)
theorem blk5 (c : Dev nD) (t : Fin cfg0.N) (l : Fin 512) :
    ((iblk m c 5 t : Vec Ideal S1x512 .f32) (ix2 0 l) : EReal) = (kargs m c).cw (ix2 3 l) := by
  obtain ⟨-, -, -, -, -, ⟨e0, e1⟩, -⟩ := idx_facts t
  exact (eq_ix2 (V m c main_v3) _ _ _ (show win0_5.index t 0 * 1 + 1 * 0 = 0 by rw [e0])
    (show win0_5.index t 1 * 512 + 1 * l.val = l.val by rw [e1]; omega)).trans (V_w3 m c l)
theorem blk6 (c : Dev nD) (t : Fin cfg0.N) (l : Fin 512) :
    ((iblk m c 6 t : Vec Ideal S1x512 .f32) (ix2 0 l) : EReal) = (kargs m c).cb (ix1 l) := by
  obtain ⟨-, -, -, -, -, -, ⟨e0, e1⟩, -⟩ := idx_facts t
  exact (eq_ix2 (V m c main_v4) _ _ _ (show win0_6.index t 0 * 1 + 1 * 0 = 0 by rw [e0])
    (show win0_6.index t 1 * 512 + 1 * l.val = l.val by rw [e1]; omega)).trans (V_cb m c l)
theorem blk8 (c : Dev nD) (t : Fin cfg0.N) (l : Fin 512) :
    ((iblk m c 8 t : Vec Ideal S1x512 .f32) (ix2 0 l) : EReal) = (kargs m c).ba (ix1 l) := by
  obtain ⟨-, -, -, -, -, -, -, -, ⟨e0, e1⟩, -⟩ := idx_facts t
  exact (eq_ix2 (V m c main_v17) _ _ _ (show win0_8.index t 0 * 1 + 1 * 0 = 0 by rw [e0])
    (show win0_8.index t 1 * 512 + 1 * l.val = l.val by rw [e1]; omega)).trans (V_ba m c l)
theorem blk10 (c : Dev nD) (t : Fin cfg0.N) (l : Fin 512) :
    ((iblk m c 10 t : Vec Ideal S1x512 .f32) (ix2 0 l) : EReal) = (kargs m c).bx (ix1 l) := by
  obtain ⟨-, -, -, -, -, -, -, -, -, -, ⟨e0, e1⟩, -⟩ := idx_facts t
  exact (eq_ix2 (V m c main_v30) _ _ _ (show win0_10.index t 0 * 1 + 1 * 0 = 0 by rw [e0])
    (show win0_10.index t 1 * 512 + 1 * l.val = l.val by rw [e1]; omega)).trans (V_bx m c l)
theorem blk11 (c : Dev nD) (t : Fin cfg0.N) (l : Fin 512) :
    ((iblk m c 11 t : Vec Ideal S1x512 .f32) (ix2 0 l) : EReal) = (kargs m c).lam (ix1 l) := by
  obtain ⟨-, -, -, -, -, -, -, -, -, -, -, ⟨e0, e1⟩⟩ := idx_facts t
  exact (eq_ix2 (V m c main_v31) _ _ _ (show win0_11.index t 0 * 1 + 1 * 0 = 0 by rw [e0])
    (show win0_11.index t 1 * 512 + 1 * l.val = l.val by rw [e1]; omega)).trans (V_lam m c l)
theorem blk7 (c : Dev nD) (t : Fin cfg0.N) (k l : Fin 512) :
    ((iblk m c 7 t : Vec Ideal S512x512 .f32) (ix2 k l) : EReal) = if k.val / 64 = l.val / 64 then
      (kargs m c).wa (ix3 ⟨l.val / 64, by omega⟩ ⟨k.val % 64, by omega⟩ ⟨l.val % 64, by omega⟩) else 0 := by
  obtain ⟨-, -, -, -, -, -, -, ⟨e0, e1⟩, -⟩ := idx_facts t
  exact (eq_ix2 (V m c main_v16) _ _ _ (show win0_7.index t 0 * 512 + 1 * k.val = k.val by rw [e0]; omega)
    (show win0_7.index t 1 * 512 + 1 * l.val = l.val by rw [e1]; omega)).trans (V_wa m c k l)
theorem blk9 (c : Dev nD) (t : Fin cfg0.N) (k l : Fin 512) :
    ((iblk m c 9 t : Vec Ideal S512x512 .f32) (ix2 k l) : EReal) = if k.val / 64 = l.val / 64 then
      (kargs m c).wx (ix3 ⟨l.val / 64, by omega⟩ ⟨k.val % 64, by omega⟩ ⟨l.val % 64, by omega⟩) else 0 := by
  obtain ⟨-, -, -, -, -, -, -, -, -, ⟨e0, e1⟩, -⟩ := idx_facts t
  exact (eq_ix2 (V m c main_v29) _ _ _ (show win0_9.index t 0 * 512 + 1 * k.val = k.val by rw [e0]; omega)
    (show win0_9.index t 1 * 512 + 1 * l.val = l.val by rw [e1]; omega)).trans (V_wx m c k l)

/-- What every point is given. -/
theorem given (c : Dev nD) (t : Fin cfg0.N) (v3 : FVec Ideal S1x512 .f32) (v4 : FVec Ideal S8x512 .f32)
    (h3 : ∀ l, (v3 (ix2 0 l) : EReal) = if 256 * t.val = 0 then 0 else hG (kargs m c) l (256 * t.val - 1))
    (h4 : ∀ s l, (v4 (ix2 s l) : EReal) = back (xr (kargs m c) l) 8 (256 * t.val + s.val)) :
    Given (kargs m c) (256 * t.val) v3 v4 (iblk m c 0 t) (iblk m c 1 t) (k0_pay8 (iblk m c 2 t)) (k0_pay9 (iblk m c 3 t))
      (k0_pay10 (iblk m c 4 t)) (k0_pay11 (iblk m c 5 t)) (k0_pay12 (iblk m c 6 t)) (k0_pay13 (iblk m c 7 t)) (iblk m c 8 t)
      (iblk m c 9 t) (iblk m c 10 t) (iblk m c 11 t) := by
  rw [pay8_eq, pay9_eq, pay10_eq, pay11_eq, pay12_eq, pay13_eq]
  exact ⟨h3, h4, blk0 m c t, blk1 m c t, blk2 m c t, blk3 m c t, blk4 m c t, blk5 m c t, blk6 m c t, blk7 m c t, blk8 m c t,
    blk9 m c t, blk10 m c t, blk11 m c t⟩

/-- What a point leaves: its rows of the output, the state after them, and its last eight rows. -/
theorem point (c : Dev nD) : ∀ (n : ℕ) (h : n < cfg0.N),
    (∀ r l, ((outsAt0 m c n h).1 (ix2 r l) : EReal) = yG (kargs m c) l (256 * n + r.val))
    ∧ (∀ l, ((outsAt0 m c n h).2.2.2.1 (ix2 0 l) : EReal) = hG (kargs m c) l (256 * n + 255))
    ∧ (∀ s l, ((outsAt0 m c n h).2.2.2.2 (ix2 s l) : EReal) = xr (kargs m c) l (256 * n + (248 + s.val))) := by
  intro n
  induction n with
  | zero =>
    intro h
    have G := given m c ⟨0, h⟩ (k0_pay4 (F := Ideal)) (k0_pay5 (F := Ideal))
      (fun l => by
        unfold k0_pay4
        pointwise)
      (fun s l => by
        unfold k0_pay5
        pointwise
        unfold back
        rw [if_neg (by have := s.isLt; omega)])
    rw [outsAt0_A m c ⟨0, h⟩ (by rfl)]
    dsimp only
    rw [out_A, sh_A, sp_A]
    exact ⟨y_apply G, h_apply G, prev_apply G⟩
  | succ n ih =>
    intro h
    obtain ⟨-, e1, e2⟩ := ih (by omega)
    have hN : cfg0.N = 32 := N_0
    have G := given m c ⟨n + 1, h⟩ (outsAt0 m c n (by omega)).2.2.2.1 (outsAt0 m c n (by omega)).2.2.2.2
      (fun l => by
        rw [e1, if_neg (by dsimp only; omega)]
        exact congrArg (hG (kargs m c) l) (by dsimp only; omega))
      (fun s l => by
        rw [e2]
        unfold back
        rw [if_pos (by dsimp only; omega)]
        exact congrArg (xr (kargs m c) l) (by dsimp only; omega))
    rw [outsAt0_B m c ⟨n + 1, h⟩ (by dsimp only; omega)]
    dsimp only
    rw [out_B, sh_B, sp_B]
    exact ⟨y_apply G, h_apply G, prev_apply G⟩

/-- The gated output as an array: what the kernel's result is shown to hold. -/
def G (c : Dev nD) : Buf (Elt Ideal) ((c : Thread nD τ).loc main_v32_0) := fun i : S8192x512.Idx =>
  yG (kargs m c) (i 1) (i 0).val

/-- The kernel's result array ends holding the gated output. -/
theorem final (c : Dev nD) : Value.G12 m c = G m c := by
  funext i
  have h0 : (i 0).val < 8192 := (i 0).isLt
  have h1 : (i 1).val < 512 := (i 1).isLt
  have hN : cfg0.N = 32 := N_0
  have hr : Value.pt12Of i = (i 0).val / 256 := by unfold Value.pt12Of Value.run12Of; omega
  have hp : Value.pt12Of i < cfg0.N := by rw [hr, hN]; omega
  unfold Value.G12
  rw [dif_pos hp, ← Value.outsAt0_sweep m c _ hp]
  refine (eq_ix2 (outsAt0 m c _ hp).1 (Value.loc12Of i) ⟨(i 0).val % 256, by omega⟩ ⟨(i 1).val, h1⟩ rfl ?_).trans
    (((point m c _ hp).1 _ _).trans ?_)
  · show (i 1).val % 512 = _
    exact Nat.mod_eq_of_lt h1
  · unfold G
    refine congrArg (yG (kargs m c) (i 1)) ?_
    rw [hr]
    exact Nat.div_add_mod _ _

end kernel

end Cert.Lru

end
-- ==== Proof.LruRef.lean ====
/-
  The reference of the gated linear recurrence, element by element: its host lines compute the decay and the input of
  every row, its loop steps the state through the rows, and its last lines gate the states.
-/
module

public import proofs.«01_k».proof.Defs
public import proofs.«01_k».proof.Proof.LruSpec
public import proofs.«01_k».proof.Proof.Gen.LruReferenceIdeal.Run
public import Idealize.ShloMosaic.Lib.Pointwise
public import Idealize.ShloMosaic.Lib.StableHlo.ReadAt
public import Idealize.ShloMosaic.Lib.Quiescent
public import Idealize.ShloMosaic.Lib.WordCmp

@[expose] public section

set_option maxRecDepth 16384

noncomputable section

namespace Cert.LruRef

open Idealize.ShloMosaic Idealize.ShloMosaic.TcCoe Idealize.ShloMosaic.WordCmp Idealize.ShloMosaic.StableHlo Idealize.SL.Sem Cert.Common Cert.LruSpec
open Cert.LruReferenceIdeal Cert.LruReferenceIdeal.Gen Cert.LruReferenceIdeal.Value

variable (V : Valuation τ sig (Elt Ideal))

/-- The reference's host lines before the loop in three: the padded columns, the convolution, the gates. -/
abbrev opsA : List (HloOp τ sig (Elt Ideal)) := hostOps0.take 4
abbrev opsB : List (HloOp τ sig (Elt Ideal)) := (hostOps0.take 37).drop 4
abbrev opsC : List (HloOp τ sig (Elt Ideal)) := hostOps0.drop 37

theorem ops_cut : after hostOps0 V = after opsC (after opsB (after opsA V)) := by
  rw [← after_append, ← after_append]
  rfl

/-- The arguments as the buffers hold them. -/
def vargs : Args where
  P := V (Proc.devRef .tc main_arg0)
  cw := V (Proc.devRef .tc main_arg1)
  cb := V (Proc.devRef .tc main_arg2)
  wa := V (Proc.devRef .tc main_arg3)
  ba := V (Proc.devRef .tc main_arg4)
  wx := V (Proc.devRef .tc main_arg5)
  bx := V (Proc.devRef .tc main_arg6)
  lam := V (Proc.devRef .tc main_arg7)

theorem vargs_A : vargs (after opsA V) = vargs V := by
  unfold vargs
  after_reads_simp

theorem vargs_B : vargs (after opsB V) = vargs V := by
  unfold vargs
  after_reads_simp

/-- The padded columns: three zero rows, then the recurrence's columns. -/
theorem padded (n : Fin 8195) (l : Fin 512) : (after opsA V (Proc.devRef .tc main_v2) (ix2 n l) : EReal)
    = if n.val < 3 then 0 else xr (vargs V) l (n.val - 3) := by
  after_reads_at
  by_cases h : n.val < 3
  · rw [dif_pos h, if_pos h]
  · rw [dif_neg h, if_neg h]
    unfold xr
    rw [rd_of_lt _ _ (by have := n.isLt; omega)]
    rfl

/-- The convolution. -/
theorem conv {q : Args} (hq : vargs V = q)
    (hp : ∀ (n : Fin 8195) (l : Fin 512), (V (Proc.devRef .tc main_v2) (ix2 n l) : EReal) = if n.val < 3 then 0 else xr q l (n.val - 3))
    (n : Fin 8192) (l : Fin 512) : (after opsB V (Proc.devRef .tc main_v34) (ix2 n l) : EReal) = xc q l n.val := by
  subst hq
  after_reads_at
  rw [hp, hp, hp, hp]
  have e0 : (if n.val < 3 then 0 else xr (vargs V) l (n.val - 3)) = back (xr (vargs V) l) 3 n.val := by
    unfold back
    split <;> split <;> first | rfl | omega
  have e1 : (if 1 + n.val < 3 then 0 else xr (vargs V) l (1 + n.val - 3)) = back (xr (vargs V) l) 2 n.val := by
    unfold back
    split <;> split <;> first | rfl | omega | exact congrArg _ (by omega)
  have e2 : (if 2 + n.val < 3 then 0 else xr (vargs V) l (2 + n.val - 3)) = back (xr (vargs V) l) 1 n.val := by
    unfold back
    split <;> split <;> first | rfl | omega | exact congrArg _ (by omega)
  have e3 : (if 3 + n.val < 3 then 0 else xr (vargs V) l (3 + n.val - 3)) = xr (vargs V) l n.val := by
    rw [if_neg (by omega), Nat.add_sub_cancel_left]
  dsimp only
  rw [e0, e1, e2, e3]
  unfold xc
  have key : ∀ b0 b1 b2 b3 w0 w1 w2 w3 b : EReal, b0 * w0 + b1 * w1 + b2 * w2 + b3 * w3 + b
      = w3 * b3 + w2 * b2 + w1 * b1 + w0 * b0 + b := fun b0 b1 b2 b3 w0 w1 w2 w3 b => by
    rw [mul_comm b0, mul_comm b1, mul_comm b2, mul_comm b3]
    exact congrArg (· + b) (by ac_rfl)
  exact key _ _ _ _ _ _ _ _ _

/-- A gate, of the convolution's rows. -/
theorem gate_eq {q : Args} (C : FVec Ideal S8192x512 .f32) (hC : ∀ n l, (C (ix2 n l) : EReal) = xc q l n.val)
    (W : FVec Ideal S8x64x64 .f32) (b : FVec Ideal S512 .f32) (n : Fin 8192) (l : Fin 512) :
    Ideal.div 1 (1 + Ideal.exp (-(∑ x : Fin 64, (W (ix3 ⟨l.val / 64, by omega⟩ x ⟨l.val % 64, by omega⟩) : EReal)
      * C (ix2 n ⟨l.val / 64 * 64 + x.val, by omega⟩) + b (ix1 l)))) = gate q W b l n.val := by
  unfold gate
  have e : (∑ x : Fin 64, (W (ix3 ⟨l.val / 64, by omega⟩ x ⟨l.val % 64, by omega⟩) : EReal) * C (ix2 n ⟨l.val / 64 * 64 + x.val, by omega⟩))
      = ∑ k : Fin 64, xc q (col l k) n.val * W (ix3 ⟨l.val / 64, by omega⟩ k ⟨l.val % 64, by omega⟩) := by
    refine Finset.sum_congr rfl fun x _ => ?_
    rw [hC, mul_comm]
    exact congrArg (fun k => xc q k n.val * _) (Fin.ext (by simp only [col]; omega))
  rw [e]
  rfl

theorem gate_a {q : Args} (hq : vargs V = q) (hC : ∀ n l, (V (Proc.devRef .tc main_v34) (ix2 n l) : EReal) = xc q l n.val)
    (n : Fin 8192) (l : Fin 512) : (after opsC V (Proc.devRef .tc main_v61) (ix2 n l) : EReal)
      = Ideal.ofBits .f32 0xC1000000#32 * gate q q.wa q.ba l n.val := by
  subst hq
  after_reads_at
  exact congrArg (Ideal.ofBits .f32 0xC1000000#32 * ·) (gate_eq _ hC _ _ n l)

theorem gate_x {q : Args} (hq : vargs V = q) (hC : ∀ n l, (V (Proc.devRef .tc main_v34) (ix2 n l) : EReal) = xc q l n.val)
    (n : Fin 8192) (l : Fin 512) : (after opsC V (Proc.devRef .tc main_v59) (ix2 n l) : EReal) = gate q q.wx q.bx l n.val := by
  subst hq
  after_reads_at
  exact gate_eq _ hC _ _ n l

theorem neg_lam {q : Args} (hq : vargs V = q) (l : Fin 512) : (after opsC V (Proc.devRef .tc main_v62) (ix1 l) : EReal) = -q.lam (ix1 l) := by
  subst hq
  after_reads_at
  rfl

theorem keep_conv : after opsC V (Proc.devRef .tc main_v34) = V (Proc.devRef .tc main_v34) := by
  after_reads_simp

/-- The softplus. -/
theorem soft (x : Fin 512 → EReal) (h : ∀ l, (V (Proc.devRef .tc main_v62) (ix1 l) : EReal) = -x l) (l : Fin 512) :
    (after hostOps0_1 V (Proc.devRef .tc main_v63) (ix1 l) : EReal) = sp (x l) := by
  after_reads_at
  rw [h, if_neg (fun e => e rfl)]
  unfold sp
  rw [zero_sub, zero_sub]
  rfl

theorem keep_1 : after hostOps0_1 V (Proc.devRef .tc main_v34) = V (Proc.devRef .tc main_v34)
    ∧ after hostOps0_1 V (Proc.devRef .tc main_v61) = V (Proc.devRef .tc main_v61)
    ∧ after hostOps0_1 V (Proc.devRef .tc main_v59) = V (Proc.devRef .tc main_v59) := by
  refine ⟨?_, ?_, ?_⟩ <;> after_reads_simp

/-- The decay the loop is given, -/
theorem decay (n : Fin 8192) (l : Fin 512) {x y : EReal} (h61 : V (Proc.devRef .tc main_v61) (ix2 n l) = x)
    (h63 : V (Proc.devRef .tc main_v63) (ix1 l) = y) :
    (after hostOps0_2 V (Proc.devRef .tc main_v77_0) (ix2 n l) : EReal) = Ideal.exp (x * y) := by
  after_reads_simp
  simp only [id]
  clean_types
  pointwise
  rw [h61, h63]

/-- and the input. -/
theorem inp (n : Fin 8192) (l : Fin 512) {x y g z : EReal} (h61 : V (Proc.devRef .tc main_v61) (ix2 n l) = x)
    (h63 : V (Proc.devRef .tc main_v63) (ix1 l) = y) (h59 : V (Proc.devRef .tc main_v59) (ix2 n l) = g)
    (h34 : V (Proc.devRef .tc main_v34) (ix2 n l) = z) :
    (after hostOps0_2 V (Proc.devRef .tc main_v77_1) (ix2 n l) : EReal)
      = Ideal.sqrt (0 - (Ideal.exp (Ideal.ofBits .f32 0x40000000#32 * (x * y)) - 1)) * (g * z) := by
  after_reads_simp
  simp only [id]
  clean_types
  pointwise
  rw [h61, h63, h59, h34, zero_sub]

theorem start_h (l : Fin 512) : (after hostOps0_2 V (Proc.devRef .tc main_v77_3) (ix1 l) : EReal) = (0 : EReal) := by
  after_reads_simp
  simp only [id]
  clean_types
  pointwise

/-- What the loop starts from. -/
theorem entry (m : (ℓ : Loc nD τ sig) → Buf (Elt Ideal) ℓ) (c : Dev nD) {q : Args} (hq : vargs (launchContents m c) = q) :
    (∀ n l, (entryContents preI m c (Proc.devRef .tc main_v77_0) (ix2 n l) : EReal) = aG q l n.val)
    ∧ (∀ n l, (entryContents preI m c (Proc.devRef .tc main_v77_1) (ix2 n l) : EReal) = uG q l n.val)
    ∧ (∀ l, (entryContents preI m c (Proc.devRef .tc main_v77_3) (ix1 l) : EReal) = (0 : EReal)) := by
  simp only [entryContents, afterL_cons, afterL_nil]
  have hA := (vargs_A (launchContents m c)).trans hq
  have hB := (vargs_B (after opsA (launchContents m c))).trans hA
  have hC := conv _ hA (fun n l => (padded _ n l).trans (by rw [hq]))
  rw [ops_cut]
  have h61 := gate_a _ hB hC
  have h59 := gate_x _ hB hC
  have h63 := soft _ _ (neg_lam _ hB)
  obtain ⟨k1, k2, k3⟩ := keep_1 (after opsC (after opsB (after opsA (launchContents m c))))
  refine ⟨fun n l => ?_, fun n l => ?_, start_h _⟩
  · exact decay _ n l ((congrFun k2 _).trans (h61 n l)) (h63 l)
  · exact inp _ n l ((congrFun k2 _).trans (h61 n l)) (h63 l) ((congrFun k3 _).trans (h59 n l))
      ((congrFun k1 _).trans ((congrFun (keep_conv _) _).trans (hC n l)))

/-- An element of an array whose coordinates are known. -/
theorem eq_ix2 {α : Type} {a b : ℕ} (x : (⟨2, ![a, b]⟩ : Shape).Idx → α) (i : (⟨2, ![a, b]⟩ : Shape).Idx) (p : Fin a) (q : Fin b)
    (hp : (i 0).val = p.val) (hq : (i 1).val = q.val) : x i = x (ix2 p q) :=
  congrArg x (funext fun k => match k with | ⟨0, _⟩ => Fin.ext hp | ⟨1, _⟩ => Fin.ext hq)

/-- A trip slices at the row its counter names, -/
theorem clamp0 (k : Fin 8192) : Host.clampedStart S8192x512 S1x512 rfl (fun j => BitVec.toInt ((![fun _ => BitVec.ofNat 32 k.val, constantI S_ 32 0#32] : Fin 2 → IVec S_ 32) j (Shape.Idx.first h_S_))) 0 = k.val :=
  Host.clampedStart_of_le _ _ _ _ (toInt_ofNat_of_lt (by have := k.isLt; omega)) (Nat.succ_le_of_lt k.isLt)

/-- from the first column on. -/
theorem clamp1 (k : Fin 8192) : Host.clampedStart S8192x512 S1x512 rfl (fun j => BitVec.toInt ((![fun _ => BitVec.ofNat 32 k.val, constantI S_ 32 0#32] : Fin 2 → IVec S_ 32) j (Shape.Idx.first h_S_))) 1 = 0 :=
  Host.clampedStart_of_le _ _ _ 0 (by rfl) (by decide)

/-- One trip's state, -/
theorem state (k : Fin 8192) (l : Fin 512) {a u s : EReal} (h : V (Proc.devRef .tc main_v77_2) = fun _ => BitVec.ofNat 32 k.val)
    (ha : V (Proc.devRef .tc main_v77_0) (ix2 k l) = a) (hu : V (Proc.devRef .tc main_v77_1) (ix2 k l) = u)
    (hs : V (Proc.devRef .tc main_v77_3) (ix1 l) = s) : (res_main_while0b_v97 V (ix1 l) : EReal) = a * s + u := by
  unfold res_main_while0b_v97
  rw [h]
  pointwise
  rw [hs]
  refine congrArg₂ (fun a b : EReal => a * s + b) (Eq.trans ?_ ha) (Eq.trans ?_ hu)
  · exact eq_ix2 (V (Proc.devRef .tc main_v77_0)) _ k l (clamp0 k) ((congrArg (· + l.val) (clamp1 k)).trans (zero_add _))
  · exact eq_ix2 (V (Proc.devRef .tc main_v77_1)) _ k l (clamp0 k) ((congrArg (· + l.val) (clamp1 k)).trans (zero_add _))

/-- and the rows it leaves: its own row set to the state, the others kept. -/
theorem states (k : Fin 8192) (n : Fin 8192) (l : Fin 512) (h : V (Proc.devRef .tc main_v77_2) = fun _ => BitVec.ofNat 32 k.val) :
    step_main_v77_4 V (ix2 n l) = if n = k then res_main_while0b_v97 V (ix1 l) else V (Proc.devRef .tc main_v77_4) (ix2 n l) := by
  unfold step_main_v77_4
  simp only [id]
  rw [h]
  pointwise
  have c0 := clamp0 k
  have c1 := clamp1 k
  by_cases e : n = k
  · subst e
    rw [if_pos rfl, dif_pos]
    · refine congrArg (res_main_while0b_v97 V) (congrArg ix1 (Fin.ext ?_))
      exact (congrArg (l.val - ·) c1).trans (Nat.sub_zero _)
    · intro a
      match a with
      | ⟨0, _⟩ => exact ⟨le_of_eq c0, lt_of_lt_of_eq (Nat.lt_succ_self _) (congrArg (· + 1) c0).symm⟩
      | ⟨1, _⟩ => exact ⟨(le_of_eq c1).trans (Nat.zero_le _), lt_of_lt_of_eq (lt_of_lt_of_eq l.isLt (Nat.zero_add 512).symm) (congrArg (· + 512) c1).symm⟩
  · rw [if_neg e, dif_neg]
    intro hin
    have h0 := hin 0
    have h1 : k.val ≤ n.val := (le_of_eq c0.symm).trans h0.1
    have h2 : n.val < k.val + 1 := lt_of_lt_of_eq h0.2 (congrArg (· + 1) c0)
    exact e (Fin.ext (by omega))

/-- The state before a row. -/
def before (q : Args) (l : Fin 512) : ℕ → EReal
  | 0 => 0
  | k + 1 => hG q l k

theorem step_before (q : Args) (l : Fin 512) (k : ℕ) : aG q l k * before q l k + uG q l k = hG q l k := by
  cases k <;> rfl

/-- What the loop holds before its trip `k`. -/
theorem trips (m : (ℓ : Loc nD τ sig) → Buf (Elt Ideal) ℓ) (c : Dev nD) {q : Args} (hq : vargs (launchContents m c) = q) :
    ∀ k, k ≤ 8192 → ((STEP^[k] (entryContents preI m c)) (Proc.devRef .tc main_v77_2) = fun _ => BitVec.ofNat 32 k)
    ∧ (∀ n l, ((STEP^[k] (entryContents preI m c)) (Proc.devRef .tc main_v77_0) (ix2 n l) : EReal) = aG q l n.val)
    ∧ (∀ n l, ((STEP^[k] (entryContents preI m c)) (Proc.devRef .tc main_v77_1) (ix2 n l) : EReal) = uG q l n.val)
    ∧ (∀ l, ((STEP^[k] (entryContents preI m c)) (Proc.devRef .tc main_v77_3) (ix1 l) : EReal) = before q l k)
    ∧ (∀ (n : Fin 8192) l, n.val < k → ((STEP^[k] (entryContents preI m c)) (Proc.devRef .tc main_v77_4) (ix2 n l) : EReal) = hG q l n.val) := by
  intro k
  induction k with
  | zero =>
    intro _
    obtain ⟨e0, e1, e3⟩ := entry m c hq
    exact ⟨ctr_entry m c, e0, e1, e3, fun n l h => absurd h (Nat.not_lt_zero _)⟩
  | succ k ih =>
    intro hk
    obtain ⟨e2, e0, e1, e3, e4⟩ := ih (by omega)
    have hs : ∀ l, (res_main_while0b_v97 (STEP^[k] (entryContents preI m c)) (ix1 l) : EReal) = hG q l k := fun l =>
      (state _ ⟨k, hk⟩ l e2 (e0 _ l) (e1 _ l) (e3 l)).trans (step_before q l k)
    rw [Function.iterate_succ_apply']
    refine ⟨?_, ?_, ?_, ?_, ?_⟩
    · rw [STEP_main_v77_2]
      unfold step_main_v77_2
      simp only [id]
      rw [e2]
      funext i
      show BitVec.ofNat 32 k + 1#32 = _
      exact BitVec.ofNat_add_ofNat ..
    · rw [STEP_main_v77_0]
      exact e0
    · rw [STEP_main_v77_1]
      exact e1
    · rw [STEP_main_v77_3]
      exact hs
    · intro n l hn
      rw [STEP_main_v77_4, states _ ⟨k, hk⟩ n l e2]
      by_cases e : n = ⟨k, hk⟩
      · rw [if_pos e, e]
        exact hs l
      · rw [if_neg e]
        exact e4 n l (lt_of_le_of_ne (Nat.lt_succ_iff.1 hn) fun h => e (Fin.ext h))

/-- The reference's result is the gated output. -/
theorem result (m : (ℓ : Loc nD τ sig) → Buf (Elt Ideal) ℓ) (c : Dev nD) {q : Args} (hq : vargs (launchContents m c) = q)
    (n : Fin 8192) (l : Fin 512) : (out_main_v93 (STEP^[8192] (entryContents preI m c)) (ix2 n l) : EReal) = yG q l n.val := by
  obtain ⟨-, -, -, -, e4⟩ := trips m c hq 8192 le_rfl
  have eg : ((STEP^[8192] (entryContents preI m c)) (Proc.devRef .tc main_arg0) (ix2 n ⟨7168 + l.val, by omega⟩) : EReal) = gr q l n.val := by
    rw [iter_main_arg0]
    unfold gr
    rw [rd_of_lt _ _ n.isLt, ← hq]
    rfl
  unfold out_main_v93
  pointwise
  rw [e4 n l n.isLt, eg]
  unfold yG gelu
  refine congrArg (fun x : EReal => hG q l n.val * (gr q l n.val * (_ * (1 + Ideal.tanh (_ * (gr q l n.val + _ * x)))))) (mul_assoc _ _ _)

end Cert.LruRef

end
-- ==== Proof.Lru.lean ====
/-
  The forward call of the gated linear recurrence: the frames, and the kernel's result as the reference's.
-/
module

public import proofs.«01_k».proof.Proof.LruPoint
public import proofs.«01_k».proof.Proof.LruRef

@[expose] public section

noncomputable section

namespace Cert.Lru

open Idealize.ShloMosaic Idealize.ShloMosaic.TcCoe Idealize.SL.Sem Cert.Common Cert.LruSpec

/-- The frames: the generated runs. -/
theorem frame_k : Cert.quiescent_LruKernel := fun m ρ _ => Cert.LruKernel.Gen.frame m ρ
/-- … of the idealized kernel, -/
theorem frame_ki : Cert.quiescent_LruKernelIdeal := fun m ρ _ => Cert.LruKernelIdeal.Gen.frame m ρ
/-- … and of the reference, which has no semaphore. -/
theorem frame_r : Cert.quiescent_LruReferenceIdeal := fun m ρ _ =>
  (θ_run Cert.LruReferenceIdeal.defs _ _).mono (fun r h => ⟨fun c => (h c).2, Idealize.ShloMosaic.sem_eq_zero_of_no_sems (by decide) r.2⟩)
    (Cert.LruReferenceIdeal.Value.run (F := Ideal) m ρ)

/-- Programs launched with the same arguments compute with the same arguments. -/
theorem args_eq {m : (ℓ : Loc Cert.LruKernelIdeal.nD Cert.LruKernelIdeal.τ Cert.LruKernelIdeal.sig) → Buf (Elt Ideal) ℓ} {c : Dev Cert.LruKernelIdeal.nD}
    {q : Args} (h0 : q.P = (kargs m c).P) (h1 : q.cw = (kargs m c).cw) (h2 : q.cb = (kargs m c).cb) (h3 : q.wa = (kargs m c).wa)
    (h4 : q.ba = (kargs m c).ba) (h5 : q.wx = (kargs m c).wx) (h6 : q.bx = (kargs m c).bx) (h7 : q.lam = (kargs m c).lam) : q = kargs m c := by
  cases q
  dsimp only at *
  subst h0 h1 h2 h3 h4 h5 h6 h7
  rfl

open Cert.LruKernelIdeal Cert.LruKernelIdeal.Gen in
/-- The kernel's result and the reference's are the same array. -/
theorem algebraic : Cert.algebraic_LruKernelIdeal_LruReferenceIdeal := by
  intro m ρ m' ρ' _ hagree
  refine ⟨fun c => G m c, ?_, ?_⟩
  · exact (θ_run defs _ _).mono (fun _ h c => ⟨(h c).1.trans (final m c), (h c).2.2.2⟩) (Value.run (F := Ideal) m ρ)
  refine (θ_run Cert.LruReferenceIdeal.defs _ _).mono (fun _ h c => ⟨(h c).1.trans ?_, (h c).2⟩)
    (Cert.LruReferenceIdeal.Value.run (F := Ideal) m' ρ')
  obtain ⟨h0, h1, h2, h3, h4, h5, h6, h7⟩ := hagree c
  have e := args_eq (q := LruRef.vargs (StableHlo.launchContents m' c)) h0 h1 h2 h3 h4 h5 h6 h7
  funext i
  exact (LruRef.eq_ix2 _ i (i 0) (i 1) rfl rfl).trans (LruRef.result m' c e (i 0) (i 1))

end Cert.Lru

end
-- ==== Proof.DupZero.lean ====
/-
  The gradient of the up projection with respect to its input, in layer 0 (`l0_b_d_up`): the call's program is that of `Dup` under another name, so what is proved of the one holds of the other.
-/
module

public import proofs.«01_k».proof.Defs
public import proofs.«01_k».proof.Proof.Dup
public import proofs.«01_k».proof.Proof.Gen.DupZeroKernel.Frame
public import proofs.«01_k».proof.Proof.Gen.DupZeroKernelIdeal.Frame

@[expose] public section

namespace Cert.DupZero

open Idealize.ShloMosaic

/-- The frames: the generated runs. -/
theorem frame_k : Cert.quiescent_DupZeroKernel := fun m ρ _ => Cert.DupZeroKernel.Gen.frame m ρ
/-- … of the idealized kernel. -/
theorem frame_ki : Cert.quiescent_DupZeroKernelIdeal := fun m ρ _ => Cert.DupZeroKernelIdeal.Gen.frame m ρ

/-- The two calls have one body. -/
theorem bodies : @Cert.DupZeroKernelIdeal.defs₀ Ideal _ _ = @Cert.DupKernelIdeal.defs₀ Ideal _ _ :=
  congrArg Defs.onTc (funext fun l => funext fun a => match l, a with | ⟨0, _⟩, (_, _) => rfl)

/-- … and one pipeline around it. -/
theorem programs : @Cert.DupZeroKernelIdeal.defs Ideal _ _ = @Cert.DupKernelIdeal.defs Ideal _ _ :=
  congrArg (Pipeline.defs Cert.DupKernelIdeal.pcfgs) bodies

/-- The kernel's results and the reference's are the same arrays. -/
theorem algebraic : Cert.algebraic_DupZeroKernelIdeal_DupReferenceIdeal := by
  intro m ρ m' ρ' hp ha
  obtain ⟨v0, h1, h2⟩ := Cert.Dup.algebraic m ρ m' ρ' hp ha
  refine ⟨v0, ?_, h2⟩
  rw [programs]
  exact h1

end Cert.DupZero

end
-- ==== Proof.GdownZero.lean ====
/-
  The gradient of layer 0's down weight (`l0_b_g_down`): the call's program is that of `Gdown` under another name, so what is proved of the one holds of the other.
-/
module

public import proofs.«01_k».proof.Defs
public import proofs.«01_k».proof.Proof.Gdown
public import proofs.«01_k».proof.Proof.Gen.GdownZeroKernel.Frame
public import proofs.«01_k».proof.Proof.Gen.GdownZeroKernelIdeal.Frame

@[expose] public section

namespace Cert.GdownZero

open Idealize.ShloMosaic

/-- The frames: the generated runs. -/
theorem frame_k : Cert.quiescent_GdownZeroKernel := fun m ρ _ => Cert.GdownZeroKernel.Gen.frame m ρ
/-- … of the idealized kernel. -/
theorem frame_ki : Cert.quiescent_GdownZeroKernelIdeal := fun m ρ _ => Cert.GdownZeroKernelIdeal.Gen.frame m ρ

/-- The two calls have one body. -/
theorem bodies : @Cert.GdownZeroKernelIdeal.defs₀ Ideal _ _ = @Cert.GdownKernelIdeal.defs₀ Ideal _ _ :=
  congrArg Defs.onTc (funext fun l => funext fun a => match l, a with | ⟨0, _⟩, (_, _) => rfl)

/-- … and one pipeline around it. -/
theorem programs : @Cert.GdownZeroKernelIdeal.defs Ideal _ _ = @Cert.GdownKernelIdeal.defs Ideal _ _ :=
  congrArg (Pipeline.defs Cert.GdownKernelIdeal.pcfgs) bodies

/-- The kernel's results and the reference's are the same arrays. -/
theorem algebraic : Cert.algebraic_GdownZeroKernelIdeal_GdownReferenceIdeal := by
  intro m ρ m' ρ' hp ha
  obtain ⟨v0, h1, h2⟩ := Cert.Gdown.algebraic m ρ m' ρ' hp ha
  refine ⟨v0, ?_, h2⟩
  rw [programs]
  exact h1

end Cert.GdownZero

end
-- ==== Proof.DhTwoZero.lean ====
/-
  The gradient of the second residual stream of layer 0 (`l0_b_dh2`): the call's program is that of `DhTwo` under another name, so what is proved of the one holds of the other.
-/
module

public import proofs.«01_k».proof.Defs
public import proofs.«01_k».proof.Proof.DhTwo
public import proofs.«01_k».proof.Proof.Gen.DhTwoZeroKernel.Frame
public import proofs.«01_k».proof.Proof.Gen.DhTwoZeroKernelIdeal.Frame

@[expose] public section

namespace Cert.DhTwoZero

open Idealize.ShloMosaic

/-- The frames: the generated runs. -/
theorem frame_k : Cert.quiescent_DhTwoZeroKernel := fun m ρ _ => Cert.DhTwoZeroKernel.Gen.frame m ρ
/-- … of the idealized kernel. -/
theorem frame_ki : Cert.quiescent_DhTwoZeroKernelIdeal := fun m ρ _ => Cert.DhTwoZeroKernelIdeal.Gen.frame m ρ

/-- The two calls have one body. -/
theorem bodies : @Cert.DhTwoZeroKernelIdeal.defs₀ Ideal _ _ = @Cert.DhTwoKernelIdeal.defs₀ Ideal _ _ :=
  congrArg Defs.onTc (funext fun l => funext fun a => match l, a with | ⟨0, _⟩, (_, _) => rfl)

/-- … and one pipeline around it. -/
theorem programs : @Cert.DhTwoZeroKernelIdeal.defs Ideal _ _ = @Cert.DhTwoKernelIdeal.defs Ideal _ _ :=
  congrArg (Pipeline.defs Cert.DhTwoKernelIdeal.pcfgs) bodies

/-- The kernel's results and the reference's are the same arrays. -/
theorem algebraic : Cert.algebraic_DhTwoZeroKernelIdeal_DhTwoReferenceIdeal := by
  intro m ρ m' ρ' hp ha
  obtain ⟨v0, h1, h2⟩ := Cert.DhTwo.algebraic m ρ m' ρ' hp ha
  refine ⟨v0, ?_, h2⟩
  rw [programs]
  exact h1

end Cert.DhTwoZero

end
-- ==== Proof.GupZero.lean ====
/-
  The gradient of layer 0's up weight (`l0_b_g_up`): the call's program is that of `Gup` under another name, so what is proved of the one holds of the other.
-/
module

public import proofs.«01_k».proof.Defs
public import proofs.«01_k».proof.Proof.Gup
public import proofs.«01_k».proof.Proof.Gen.GupZeroKernel.Frame
public import proofs.«01_k».proof.Proof.Gen.GupZeroKernelIdeal.Frame

@[expose] public section

namespace Cert.GupZero

open Idealize.ShloMosaic

/-- The frames: the generated runs. -/
theorem frame_k : Cert.quiescent_GupZeroKernel := fun m ρ _ => Cert.GupZeroKernel.Gen.frame m ρ
/-- … of the idealized kernel. -/
theorem frame_ki : Cert.quiescent_GupZeroKernelIdeal := fun m ρ _ => Cert.GupZeroKernelIdeal.Gen.frame m ρ

/-- The two calls have one body. -/
theorem bodies : @Cert.GupZeroKernelIdeal.defs₀ Ideal _ _ = @Cert.GupKernelIdeal.defs₀ Ideal _ _ :=
  congrArg Defs.onTc (funext fun l => funext fun a => match l, a with | ⟨0, _⟩, (_, _) => rfl)

/-- … and one pipeline around it. -/
theorem programs : @Cert.GupZeroKernelIdeal.defs Ideal _ _ = @Cert.GupKernelIdeal.defs Ideal _ _ :=
  congrArg (Pipeline.defs Cert.GupKernelIdeal.pcfgs) bodies

/-- The kernel's results and the reference's are the same arrays. -/
theorem algebraic : Cert.algebraic_GupZeroKernelIdeal_GupReferenceIdeal := by
  intro m ρ m' ρ' hp ha
  obtain ⟨v0, h1, h2⟩ := Cert.Gup.algebraic m ρ m' ρ' hp ha
  refine ⟨v0, ?_, h2⟩
  rw [programs]
  exact h1

end Cert.GupZero

end
-- ==== Proof.DmergedZero.lean ====
/-
  The gradient of the merged branches of layer 0 (`l0_b_d_merged`): the call's program is that of `Dmerged` under another name, so what is proved of the one holds of the other.
-/
module

public import proofs.«01_k».proof.Defs
public import proofs.«01_k».proof.Proof.Dmerged
public import proofs.«01_k».proof.Proof.Gen.DmergedZeroKernel.Frame
public import proofs.«01_k».proof.Proof.Gen.DmergedZeroKernelIdeal.Frame

@[expose] public section

namespace Cert.DmergedZero

open Idealize.ShloMosaic

/-- The frames: the generated runs. -/
theorem frame_k : Cert.quiescent_DmergedZeroKernel := fun m ρ _ => Cert.DmergedZeroKernel.Gen.frame m ρ
/-- … of the idealized kernel. -/
theorem frame_ki : Cert.quiescent_DmergedZeroKernelIdeal := fun m ρ _ => Cert.DmergedZeroKernelIdeal.Gen.frame m ρ

/-- The two calls have one body. -/
theorem bodies : @Cert.DmergedZeroKernelIdeal.defs₀ Ideal _ _ = @Cert.DmergedKernelIdeal.defs₀ Ideal _ _ :=
  congrArg Defs.onTc (funext fun l => funext fun a => match l, a with | ⟨0, _⟩, (_, _) => rfl)

/-- … and one pipeline around it. -/
theorem programs : @Cert.DmergedZeroKernelIdeal.defs Ideal _ _ = @Cert.DmergedKernelIdeal.defs Ideal _ _ :=
  congrArg (Pipeline.defs Cert.DmergedKernelIdeal.pcfgs) bodies

/-- The kernel's results and the reference's are the same arrays. -/
theorem algebraic : Cert.algebraic_DmergedZeroKernelIdeal_DmergedReferenceIdeal := by
  intro m ρ m' ρ' hp ha
  obtain ⟨v0, h1, h2⟩ := Cert.Dmerged.algebraic m ρ m' ρ' hp ha
  refine ⟨v0, ?_, h2⟩
  rw [programs]
  exact h1

end Cert.DmergedZero

end
-- ==== Proof.GoutZero.lean ====
/-
  The gradient of layer 0's output weight (`l0_b_g_out`): the call's program is that of `Gout` under another name, so what is proved of the one holds of the other.
-/
module

public import proofs.«01_k».proof.Defs
public import proofs.«01_k».proof.Proof.Gout
public import proofs.«01_k».proof.Proof.Gen.GoutZeroKernel.Frame
public import proofs.«01_k».proof.Proof.Gen.GoutZeroKernelIdeal.Frame

@[expose] public section

namespace Cert.GoutZero

open Idealize.ShloMosaic

/-- The frames: the generated runs. -/
theorem frame_k : Cert.quiescent_GoutZeroKernel := fun m ρ _ => Cert.GoutZeroKernel.Gen.frame m ρ
/-- … of the idealized kernel. -/
theorem frame_ki : Cert.quiescent_GoutZeroKernelIdeal := fun m ρ _ => Cert.GoutZeroKernelIdeal.Gen.frame m ρ

/-- The two calls have one body. -/
theorem bodies : @Cert.GoutZeroKernelIdeal.defs₀ Ideal _ _ = @Cert.GoutKernelIdeal.defs₀ Ideal _ _ :=
  congrArg Defs.onTc (funext fun l => funext fun a => match l, a with | ⟨0, _⟩, (_, _) => rfl)

/-- … and one pipeline around it. -/
theorem programs : @Cert.GoutZeroKernelIdeal.defs Ideal _ _ = @Cert.GoutKernelIdeal.defs Ideal _ _ :=
  congrArg (Pipeline.defs Cert.GoutKernelIdeal.pcfgs) bodies

/-- The kernel's results and the reference's are the same arrays. -/
theorem algebraic : Cert.algebraic_GoutZeroKernelIdeal_GoutReferenceIdeal := by
  intro m ρ m' ρ' hp ha
  obtain ⟨v0, h1, h2⟩ := Cert.Gout.algebraic m ρ m' ρ' hp ha
  refine ⟨v0, ?_, h2⟩
  rw [programs]
  exact h1

end Cert.GoutZero

end
-- ==== Proof.DyZero.lean ====
/-
  The gradient of the branches' outputs of layer 0 (`l0_b_dy0`): the call's program is that of `Dy` under another name, so what is proved of the one holds of the other.
-/
module

public import proofs.«01_k».proof.Defs
public import proofs.«01_k».proof.Proof.Dy
public import proofs.«01_k».proof.Proof.Gen.DyZeroKernel.Frame
public import proofs.«01_k».proof.Proof.Gen.DyZeroKernelIdeal.Frame

@[expose] public section

namespace Cert.DyZero

open Idealize.ShloMosaic

/-- The frames: the generated runs. -/
theorem frame_k : Cert.quiescent_DyZeroKernel := fun m ρ _ => Cert.DyZeroKernel.Gen.frame m ρ
/-- … of the idealized kernel. -/
theorem frame_ki : Cert.quiescent_DyZeroKernelIdeal := fun m ρ _ => Cert.DyZeroKernelIdeal.Gen.frame m ρ

/-- The two calls have one body. -/
theorem bodies : @Cert.DyZeroKernelIdeal.defs₀ Ideal _ _ = @Cert.DyKernelIdeal.defs₀ Ideal _ _ :=
  congrArg Defs.onTc (funext fun l => funext fun a => match l, a with | ⟨0, _⟩, (_, _) => rfl)

/-- … and one pipeline around it. -/
theorem programs : @Cert.DyZeroKernelIdeal.defs Ideal _ _ = @Cert.DyKernelIdeal.defs Ideal _ _ :=
  congrArg (Pipeline.defs Cert.DyKernelIdeal.pcfgs) bodies

/-- The kernel's results and the reference's are the same arrays. -/
theorem algebraic : Cert.algebraic_DyZeroKernelIdeal_DyReferenceIdeal := by
  intro m ρ m' ρ' hp ha
  obtain ⟨v0, h1, h2⟩ := Cert.Dy.algebraic m ρ m' ρ' hp ha
  refine ⟨v0, ?_, h2⟩
  rw [programs]
  exact h1

end Cert.DyZero

end
-- ==== Proof.GbranchZero.lean ====
/-
  The gradient of layer 0's branch weight (`l0_b_g_branch0`): the call's program is that of `Gbranch` under another name, so what is proved of the one holds of the other.
-/
module

public import proofs.«01_k».proof.Defs
public import proofs.«01_k».proof.Proof.Gbranch
public import proofs.«01_k».proof.Proof.Gen.GbranchZeroKernel.Frame
public import proofs.«01_k».proof.Proof.Gen.GbranchZeroKernelIdeal.Frame

@[expose] public section

namespace Cert.GbranchZero

open Idealize.ShloMosaic

/-- The frames: the generated runs. -/
theorem frame_k : Cert.quiescent_GbranchZeroKernel := fun m ρ _ => Cert.GbranchZeroKernel.Gen.frame m ρ
/-- … of the idealized kernel. -/
theorem frame_ki : Cert.quiescent_GbranchZeroKernelIdeal := fun m ρ _ => Cert.GbranchZeroKernelIdeal.Gen.frame m ρ

/-- The two calls have one body. -/
theorem bodies : @Cert.GbranchZeroKernelIdeal.defs₀ Ideal _ _ = @Cert.GbranchKernelIdeal.defs₀ Ideal _ _ :=
  congrArg Defs.onTc (funext fun l => funext fun a => match l, a with | ⟨0, _⟩, (_, _) => rfl)

/-- … and one pipeline around it. -/
theorem programs : @Cert.GbranchZeroKernelIdeal.defs Ideal _ _ = @Cert.GbranchKernelIdeal.defs Ideal _ _ :=
  congrArg (Pipeline.defs Cert.GbranchKernelIdeal.pcfgs) bodies

/-- The kernel's results and the reference's are the same arrays. -/
theorem algebraic : Cert.algebraic_GbranchZeroKernelIdeal_GbranchReferenceIdeal := by
  intro m ρ m' ρ' hp ha
  obtain ⟨v0, h1, h2⟩ := Cert.Gbranch.algebraic m ρ m' ρ' hp ha
  refine ⟨v0, ?_, h2⟩
  rw [programs]
  exact h1

end Cert.GbranchZero

end
-- ==== Proof.GinZero.lean ====
/-
  The gradient of layer 0's input weight (`l0_b_g_in`): the call's program is that of `Gin` under another name, so what is proved of the one holds of the other.
-/
module

public import proofs.«01_k».proof.Defs
public import proofs.«01_k».proof.Proof.Gin
public import proofs.«01_k».proof.Proof.Gen.GinZeroKernel.Frame
public import proofs.«01_k».proof.Proof.Gen.GinZeroKernelIdeal.Frame

@[expose] public section

namespace Cert.GinZero

open Idealize.ShloMosaic

/-- The frames: the generated runs. -/
theorem frame_k : Cert.quiescent_GinZeroKernel := fun m ρ _ => Cert.GinZeroKernel.Gen.frame m ρ
/-- … of the idealized kernel. -/
theorem frame_ki : Cert.quiescent_GinZeroKernelIdeal := fun m ρ _ => Cert.GinZeroKernelIdeal.Gen.frame m ρ

/-- The two calls have one body. -/
theorem bodies : @Cert.GinZeroKernelIdeal.defs₀ Ideal _ _ = @Cert.GinKernelIdeal.defs₀ Ideal _ _ :=
  congrArg Defs.onTc (funext fun l => funext fun a => match l, a with | ⟨0, _⟩, (_, _) => rfl)

/-- … and one pipeline around it. -/
theorem programs : @Cert.GinZeroKernelIdeal.defs Ideal _ _ = @Cert.GinKernelIdeal.defs Ideal _ _ :=
  congrArg (Pipeline.defs Cert.GinKernelIdeal.pcfgs) bodies

/-- The kernel's results and the reference's are the same arrays. -/
theorem algebraic : Cert.algebraic_GinZeroKernelIdeal_GinReferenceIdeal := by
  intro m ρ m' ρ' hp ha
  obtain ⟨v0, h1, h2⟩ := Cert.Gin.algebraic m ρ m' ρ' hp ha
  refine ⟨v0, ?_, h2⟩
  rw [programs]
  exact h1

end Cert.GinZero

end
-- ==== Proof.BranchZero.lean ====
/-
  The branch products of layer 0 (`l0_branch0`): the call's program is that of `Branch` under another name, so what is proved of the one holds of the other.
-/
module

public import proofs.«01_k».proof.Defs
public import proofs.«01_k».proof.Proof.Branch
public import proofs.«01_k».proof.Proof.Gen.BranchZeroKernel.Frame
public import proofs.«01_k».proof.Proof.Gen.BranchZeroKernelIdeal.Frame

@[expose] public section

namespace Cert.BranchZero

open Idealize.ShloMosaic

/-- The frames: the generated runs. -/
theorem frame_k : Cert.quiescent_BranchZeroKernel := fun m ρ _ => Cert.BranchZeroKernel.Gen.frame m ρ
/-- … of the idealized kernel. -/
theorem frame_ki : Cert.quiescent_BranchZeroKernelIdeal := fun m ρ _ => Cert.BranchZeroKernelIdeal.Gen.frame m ρ

/-- The two calls have one body. -/
theorem bodies : @Cert.BranchZeroKernelIdeal.defs₀ Ideal _ _ = @Cert.BranchKernelIdeal.defs₀ Ideal _ _ :=
  congrArg Defs.onTc (funext fun l => funext fun a => match l, a with | ⟨0, _⟩, (_, _) => rfl)

/-- … and one pipeline around it. -/
theorem programs : @Cert.BranchZeroKernelIdeal.defs Ideal _ _ = @Cert.BranchKernelIdeal.defs Ideal _ _ :=
  congrArg (Pipeline.defs Cert.BranchKernelIdeal.pcfgs) bodies

/-- The kernel's results and the reference's are the same arrays. -/
theorem algebraic : Cert.algebraic_BranchZeroKernelIdeal_BranchReferenceIdeal := by
  intro m ρ m' ρ' hp ha
  obtain ⟨v0, h1, h2⟩ := Cert.Branch.algebraic m ρ m' ρ' hp ha
  refine ⟨v0, ?_, h2⟩
  rw [programs]
  exact h1

end Cert.BranchZero

end
-- ==== Proof.OutZero.lean ====
/-
  The output product of layer 0 (`l0_out`): the call's program is that of `Out` under another name, so what is proved of the one holds of the other.
-/
module

public import proofs.«01_k».proof.Defs
public import proofs.«01_k».proof.Proof.Out
public import proofs.«01_k».proof.Proof.Gen.OutZeroKernel.Frame
public import proofs.«01_k».proof.Proof.Gen.OutZeroKernelIdeal.Frame

@[expose] public section

namespace Cert.OutZero

open Idealize.ShloMosaic

/-- The frames: the generated runs. -/
theorem frame_k : Cert.quiescent_OutZeroKernel := fun m ρ _ => Cert.OutZeroKernel.Gen.frame m ρ
/-- … of the idealized kernel. -/
theorem frame_ki : Cert.quiescent_OutZeroKernelIdeal := fun m ρ _ => Cert.OutZeroKernelIdeal.Gen.frame m ρ

/-- The two calls have one body. -/
theorem bodies : @Cert.OutZeroKernelIdeal.defs₀ Ideal _ _ = @Cert.OutKernelIdeal.defs₀ Ideal _ _ :=
  congrArg Defs.onTc (funext fun l => funext fun a => match l, a with | ⟨0, _⟩, (_, _) => rfl)

/-- … and one pipeline around it. -/
theorem programs : @Cert.OutZeroKernelIdeal.defs Ideal _ _ = @Cert.OutKernelIdeal.defs Ideal _ _ :=
  congrArg (Pipeline.defs Cert.OutKernelIdeal.pcfgs) bodies

/-- The kernel's results and the reference's are the same arrays. -/
theorem algebraic : Cert.algebraic_OutZeroKernelIdeal_OutReferenceIdeal := by
  intro m ρ m' ρ' hp ha
  obtain ⟨v0, h1, h2⟩ := Cert.Out.algebraic m ρ m' ρ' hp ha
  refine ⟨v0, ?_, h2⟩
  rw [programs]
  exact h1

end Cert.OutZero

end
-- ==== Proof.DownZero.lean ====
/-
  The down product of layer 0 (`l0_down`): the call's program is that of `Down` under another name, so what is proved of the one holds of the other.
-/
module

public import proofs.«01_k».proof.Defs
public import proofs.«01_k».proof.Proof.Down
public import proofs.«01_k».proof.Proof.Gen.DownZeroKernel.Frame
public import proofs.«01_k».proof.Proof.Gen.DownZeroKernelIdeal.Frame

@[expose] public section

namespace Cert.DownZero

open Idealize.ShloMosaic

/-- The frames: the generated runs. -/
theorem frame_k : Cert.quiescent_DownZeroKernel := fun m ρ _ => Cert.DownZeroKernel.Gen.frame m ρ
/-- … of the idealized kernel. -/
theorem frame_ki : Cert.quiescent_DownZeroKernelIdeal := fun m ρ _ => Cert.DownZeroKernelIdeal.Gen.frame m ρ

/-- The two calls have one body. -/
theorem bodies : @Cert.DownZeroKernelIdeal.defs₀ Ideal _ _ = @Cert.DownKernelIdeal.defs₀ Ideal _ _ :=
  congrArg Defs.onTc (funext fun l => funext fun a => match l, a with | ⟨0, _⟩, (_, _) => rfl)

/-- … and one pipeline around it. -/
theorem programs : @Cert.DownZeroKernelIdeal.defs Ideal _ _ = @Cert.DownKernelIdeal.defs Ideal _ _ :=
  congrArg (Pipeline.defs Cert.DownKernelIdeal.pcfgs) bodies

/-- The kernel's results and the reference's are the same arrays. -/
theorem algebraic : Cert.algebraic_DownZeroKernelIdeal_DownReferenceIdeal := by
  intro m ρ m' ρ' hp ha
  obtain ⟨v0, h1, h2⟩ := Cert.Down.algebraic m ρ m' ρ' hp ha
  refine ⟨v0, ?_, h2⟩
  rw [programs]
  exact h1

end Cert.DownZero

end
-- ==== Proof.UpZero.lean ====
/-
  The up product of layer 0 (`l0_up`): the call's program is that of `Up` under another name, so what is proved of the one holds of the other.
-/
module

public import proofs.«01_k».proof.Defs
public import proofs.«01_k».proof.Proof.Up
public import proofs.«01_k».proof.Proof.Gen.UpZeroKernel.Frame
public import proofs.«01_k».proof.Proof.Gen.UpZeroKernelIdeal.Frame

@[expose] public section

namespace Cert.UpZero

open Idealize.ShloMosaic

/-- The frames: the generated runs. -/
theorem frame_k : Cert.quiescent_UpZeroKernel := fun m ρ _ => Cert.UpZeroKernel.Gen.frame m ρ
/-- … of the idealized kernel. -/
theorem frame_ki : Cert.quiescent_UpZeroKernelIdeal := fun m ρ _ => Cert.UpZeroKernelIdeal.Gen.frame m ρ

/-- The two calls have one body. -/
theorem bodies : @Cert.UpZeroKernelIdeal.defs₀ Ideal _ _ = @Cert.UpKernelIdeal.defs₀ Ideal _ _ :=
  congrArg Defs.onTc (funext fun l => funext fun a => match l, a with | ⟨0, _⟩, (_, _) => rfl)

/-- … and one pipeline around it. -/
theorem programs : @Cert.UpZeroKernelIdeal.defs Ideal _ _ = @Cert.UpKernelIdeal.defs Ideal _ _ :=
  congrArg (Pipeline.defs Cert.UpKernelIdeal.pcfgs) bodies

/-- The kernel's results and the reference's are the same arrays. -/
theorem algebraic : Cert.algebraic_UpZeroKernelIdeal_UpReferenceIdeal := by
  intro m ρ m' ρ' hp ha
  obtain ⟨v0, v1, h1, h2⟩ := Cert.Up.algebraic m ρ m' ρ' hp ha
  refine ⟨v0, v1, ?_, h2⟩
  rw [programs]
  exact h1

end Cert.UpZero

end
-- ==== Proof.NormSpec.lean ====
/-
  The gradient of a normalised, scaled and shifted row, as the backward calls and their references both compute it, and the sum
  over all rows as the sum over the blocks of rows that a grid visits from the last to the first.
-/
module

public import Idealize.ShloMosaic.PureOps.Ideal
public import Idealize.ShloMosaic.PureOps.Ideal.Laws
public import Idealize.ShloMosaic.Lib.Pipeline.Value

@[expose] public section

noncomputable section

namespace Cert.NormSpec

open Idealize.ShloMosaic

variable (x w sc sh d dx : Fin 1024 → EReal) (l : Fin 1024)

/-- The mean square of a row, and the small constant. -/
def ms : EReal := Ideal.div (∑ k, x k * x k) (Ideal.ofBits .f32 0x44800000#32) + Ideal.ofBits .f32 0x358637BD#32

/-- The row over its root mean square. -/
def nrm : EReal := x l * Ideal.rsqrt (ms x)

/-- The normalised row, scaled and shifted. -/
def fwd : EReal := nrm x l * w l * (1 + sc l) + sh l

/-- The gradient of the normalised row. -/
def dn : EReal := d l * (1 + sc l) * w l

/-- The gradient of a square of the row. -/
def dms : EReal :=
  Ideal.div ((∑ k, x k * dn w sc d k) * (Ideal.ofBits .f32 0xBF000000#32 * Ideal.div (Ideal.rsqrt (ms x)) (ms x)))
    (Ideal.ofBits .f32 0x44800000#32)

/-- The gradient of the row, where `dx` is what reaches it past the norm. -/
def dxRow : EReal := dx l + dn w sc d l * Ideal.rsqrt (ms x) + x l * dms x w sc d + dms x w sc d * x l

/-- The row's part of the gradient of the norm's weight. -/
def dwRow : EReal := nrm x l * (d l * (1 + sc l))

/-- The row's part of the gradient of the scale. -/
def dscRow : EReal := nrm x l * w l * d l

/-- A row and the gated row added to it. -/
def res (x gt y : Fin 1024 → EReal) (l : Fin 1024) : EReal := x l + gt l * y l

/-- Row `r` of the block that point `b` visits: the blocks are visited from the last to the first. -/
def rowAt (b : ℕ) (r : Fin 512) : Fin 8192 := ⟨(15 - b) * 512 + r.val, by have := r.isLt; omega⟩

/-- The sum over the rows, block by block. -/
theorem sum_rows (f : Fin 8192 → EReal) : ∑ b ∈ Finset.range 16, ∑ r : Fin 512, f (rowAt b r) = ∑ n, f n := by
  rw [← Finset.sum_range_reflect, ← Fin.sum_univ_eq_sum_range (fun b => ∑ r : Fin 512, f (rowAt (16 - 1 - b) r)) 16, ← Fintype.sum_prod_type']
  refine Fintype.sum_equiv (finProdFinEquiv : Fin 16 × Fin 512 ≃ Fin (16 * 512)) _ _ fun p => congrArg f (Fin.ext ?_)
  have := p.1.isLt
  show (15 - (16 - 1 - p.1.val)) * 512 + p.2.val = p.2.val + 512 * p.1.val
  omega

end Cert.NormSpec

end
-- ==== Proof.PreB.lean ====
/-
  The gradient of the first norm of the step (`l0_b_pre`): a row's gradient is computed with its block, whose grid runs from the
  last block of rows to the first, and the gradients of the weight, scale and shift are added up over the blocks.
-/
module

public import proofs.«01_k».proof.Defs
public import proofs.«01_k».proof.Proof.Common
public import proofs.«01_k».proof.Proof.NormSpec
public import proofs.«01_k».proof.Proof.Gen.PreBKernel.Frame
public import proofs.«01_k».proof.Proof.Gen.PreBKernelIdeal.Value
public import proofs.«01_k».proof.Proof.Gen.PreBReferenceIdeal.Run
public import Idealize.ShloMosaic.Lib.Quiescent
public import Idealize.ShloMosaic.Lib.Tactic
public import Idealize.ShloMosaic.Lib.Pointwise

@[expose] public section

noncomputable section

namespace Cert.PreB

open Idealize.ShloMosaic Idealize.ShloMosaic.TcCoe Idealize.SL.Sem Cert.Common Cert.NormSpec

section spec

variable (A0 : (⟨2, ![8192, 1024]⟩ : Shape).Idx → EReal) (A1 : (⟨2, ![1, 1024]⟩ : Shape).Idx → EReal) (A2 : (⟨2, ![1, 1024]⟩ : Shape).Idx → EReal) (A3 : (⟨2, ![1, 1024]⟩ : Shape).Idx → EReal) (A4 : (⟨2, ![8192, 1024]⟩ : Shape).Idx → EReal) (A5 : (⟨2, ![8192, 1024]⟩ : Shape).Idx → EReal) (n : Fin 8192)

/-- The gradient of the rows. -/
def R6 (l : Fin 1024) : EReal := dxRow (fun k => A0 (ix2 n k)) (fun k => A1 (ix2 0 k)) (fun k => A2 (ix2 0 k)) (fun k => A4 (ix2 n k)) (fun k => A5 (ix2 n k)) l

/-- A row's part of the gradient of the weight. -/
def P7 (l : Fin 1024) : EReal := dwRow (fun k => A0 (ix2 n k)) (fun k => A2 (ix2 0 k)) (fun k => A4 (ix2 n k)) l

/-- The sum over the rows. -/
def T7 (l : Fin 1024) : EReal := ∑ n, P7 A0 A2 A4 n l

/-- A row's part of the gradient of the scale. -/
def P8 (l : Fin 1024) : EReal := dscRow (fun k => A0 (ix2 n k)) (fun k => A1 (ix2 0 k)) (fun k => A4 (ix2 n k)) l

/-- The sum over the rows. -/
def T8 (l : Fin 1024) : EReal := ∑ n, P8 A0 A1 A4 n l

/-- A row's part of the gradient of the shift. -/
def P9 (l : Fin 1024) : EReal := A4 (ix2 n l)

/-- The sum over the rows. -/
def T9 (l : Fin 1024) : EReal := ∑ n, P9 A4 n l

end spec

open Cert.PreBKernelIdeal Cert.PreBKernelIdeal.Gen

section point

variable {c : Dev nD} {i : grid0.Coords}
  {a1 : Memref sig .tc .vmem S512x1024 .f32} {h1 : a1.IsWhole}
  {a2 : Memref sig .tc .vmem S1x1024 .f32} {h2 : a2.IsWhole}
  {a3 : Memref sig .tc .vmem S1x1024 .f32} {h3 : a3.IsWhole}
  {a4 : Memref sig .tc .vmem S1x1024 .f32} {h4 : a4.IsWhole}
  {a5 : Memref sig .tc .vmem S512x1024 .f32} {h5 : a5.IsWhole}
  {a6 : Memref sig .tc .vmem S512x1024 .f32} {h6 : a6.IsWhole}
  {a7 : Memref sig .tc .vmem S512x1024 .f32} {h7 : a7.IsWhole}
  {a8 : Memref sig .tc .vmem S1x1024 .f32} {h8 : a8.IsWhole}
  {a9 : Memref sig .tc .vmem S1x1024 .f32} {h9 : a9.IsWhole}
  {a10 : Memref sig .tc .vmem S1x1024 .f32} {h10 : a10.IsWhole}
  {x0 : Vec Ideal S512x1024 .f32} {x1 : Vec Ideal S1x1024 .f32} {x2 : Vec Ideal S1x1024 .f32} {x3 : Vec Ideal S1x1024 .f32} {x4 : Vec Ideal S512x1024 .f32} {x5 : Vec Ideal S512x1024 .f32}

/-- The outputs of a first point and of a later one, element by element. -/
theorem outs :
    (∀ r l hc, (out0_A_6 c i a1 h1 a2 h2 a3 h3 a4 h4 a5 h5 a6 h6 a7 h7 a8 h8 a9 h9 a10 h10 hc x0 x1 x2 x3 x4 x5 (ix2 r l) : EReal) = dxRow (fun k => x0 (ix2 r k)) (fun k => x1 (ix2 0 k)) (fun k => x2 (ix2 0 k)) (fun k => x4 (ix2 r k)) (fun k => x5 (ix2 r k)) l)
    ∧ (∀ (g1 : Vec Ideal S1x1024 .f32) (g2 : Vec Ideal S1x1024 .f32) (g3 : Vec Ideal S1x1024 .f32) r l hc, (out0_B_6 c i a1 h1 a2 h2 a3 h3 a4 h4 a5 h5 a6 h6 a7 h7 a8 h8 a9 h9 a10 h10 hc x0 x1 x2 x3 x4 x5 g1 g2 g3 (ix2 r l) : EReal) = dxRow (fun k => x0 (ix2 r k)) (fun k => x1 (ix2 0 k)) (fun k => x2 (ix2 0 k)) (fun k => x4 (ix2 r k)) (fun k => x5 (ix2 r k)) l)
    ∧ (∀ l hc, (out0_A_7 c i a1 h1 a2 h2 a3 h3 a4 h4 a5 h5 a6 h6 a7 h7 a8 h8 a9 h9 a10 h10 hc x0 x1 x2 x3 x4 x5 (ix2 0 l) : EReal) = ∑ r : Fin 512, dwRow (fun k => x0 (ix2 r k)) (fun k => x2 (ix2 0 k)) (fun k => x4 (ix2 r k)) l)
    ∧ (∀ (g1 : Vec Ideal S1x1024 .f32) (g2 : Vec Ideal S1x1024 .f32) (g3 : Vec Ideal S1x1024 .f32) l hc, (out0_B_7 c i a1 h1 a2 h2 a3 h3 a4 h4 a5 h5 a6 h6 a7 h7 a8 h8 a9 h9 a10 h10 hc x0 x1 x2 x3 x4 x5 g1 g2 g3 (ix2 0 l) : EReal) = g1 (ix2 0 l) + ∑ r : Fin 512, dwRow (fun k => x0 (ix2 r k)) (fun k => x2 (ix2 0 k)) (fun k => x4 (ix2 r k)) l)
    ∧ (∀ l hc, (out0_A_8 c i a1 h1 a2 h2 a3 h3 a4 h4 a5 h5 a6 h6 a7 h7 a8 h8 a9 h9 a10 h10 hc x0 x1 x2 x3 x4 x5 (ix2 0 l) : EReal) = ∑ r : Fin 512, dscRow (fun k => x0 (ix2 r k)) (fun k => x1 (ix2 0 k)) (fun k => x4 (ix2 r k)) l)
    ∧ (∀ (g1 : Vec Ideal S1x1024 .f32) (g2 : Vec Ideal S1x1024 .f32) (g3 : Vec Ideal S1x1024 .f32) l hc, (out0_B_8 c i a1 h1 a2 h2 a3 h3 a4 h4 a5 h5 a6 h6 a7 h7 a8 h8 a9 h9 a10 h10 hc x0 x1 x2 x3 x4 x5 g1 g2 g3 (ix2 0 l) : EReal) = g2 (ix2 0 l) + ∑ r : Fin 512, dscRow (fun k => x0 (ix2 r k)) (fun k => x1 (ix2 0 k)) (fun k => x4 (ix2 r k)) l)
    ∧ (∀ l hc, (out0_A_9 c i a1 h1 a2 h2 a3 h3 a4 h4 a5 h5 a6 h6 a7 h7 a8 h8 a9 h9 a10 h10 hc x0 x1 x2 x3 x4 x5 (ix2 0 l) : EReal) = ∑ r : Fin 512, x4 (ix2 r l))
    ∧ (∀ (g1 : Vec Ideal S1x1024 .f32) (g2 : Vec Ideal S1x1024 .f32) (g3 : Vec Ideal S1x1024 .f32) l hc, (out0_B_9 c i a1 h1 a2 h2 a3 h3 a4 h4 a5 h5 a6 h6 a7 h7 a8 h8 a9 h9 a10 h10 hc x0 x1 x2 x3 x4 x5 g1 g2 g3 (ix2 0 l) : EReal) = g3 (ix2 0 l) + ∑ r : Fin 512, x4 (ix2 r l)) := by
  refine ⟨fun r l hc => ?_, fun g1 g2 g3 r l hc => ?_, fun l hc => ?_, fun g1 g2 g3 l hc => ?_, fun l hc => ?_, fun g1 g2 g3 l hc => ?_, fun l hc => ?_, fun g1 g2 g3 l hc => ?_⟩
  on_goal 1 => unfold out0_A_6; rw [View.read_writes_eq_canon _ _ _ (cover0_A_6 c i _ h1 _ h2 _ h3 _ h4 _ h5 _ h6 _ h7 _ h8 _ h9 _ h10 hc x0 x1 x2 x3 x4 x5)]; unfold kernelRun0_A; dsimp only; sl_unfold_words; rw [View.canon_unit_zero (S := S512x1024) hz]
  on_goal 2 => unfold out0_B_6; rw [View.read_writes_eq_canon _ _ _ (cover0_B_6 c i _ h1 _ h2 _ h3 _ h4 _ h5 _ h6 _ h7 _ h8 _ h9 _ h10 hc x0 x1 x2 x3 x4 x5 g1 g2 g3)]; unfold kernelRun0_B; dsimp only; sl_unfold_words; rw [View.canon_unit_zero (S := S512x1024) hz]
  on_goal 3 => unfold out0_A_7; rw [View.read_writes_eq_canon _ _ _ (cover0_A_7 c i _ h1 _ h2 _ h3 _ h4 _ h5 _ h6 _ h7 _ h8 _ h9 _ h10 hc x0 x1 x2 x3 x4 x5)]; unfold kernelRun0_A; dsimp only; sl_unfold_words; rw [View.canon_cons_unit_zero (S := S1x1024) hz, View.readCov_unit_zero (S := S1x1024) _ hz]
  on_goal 4 => unfold out0_B_7; rw [View.read_writes_eq_canon _ _ _ (cover0_B_7 c i _ h1 _ h2 _ h3 _ h4 _ h5 _ h6 _ h7 _ h8 _ h9 _ h10 hc x0 x1 x2 x3 x4 x5 g1 g2 g3)]; unfold kernelRun0_B; dsimp only; sl_unfold_words; rw [View.canon_unit_zero (S := S1x1024) hz]
  on_goal 5 => unfold out0_A_8; rw [View.read_writes_eq_canon _ _ _ (cover0_A_8 c i _ h1 _ h2 _ h3 _ h4 _ h5 _ h6 _ h7 _ h8 _ h9 _ h10 hc x0 x1 x2 x3 x4 x5)]; unfold kernelRun0_A; dsimp only; sl_unfold_words; rw [View.canon_cons_unit_zero (S := S1x1024) hz, View.readCov_unit_zero (S := S1x1024) _ hz]
  on_goal 6 => unfold out0_B_8; rw [View.read_writes_eq_canon _ _ _ (cover0_B_8 c i _ h1 _ h2 _ h3 _ h4 _ h5 _ h6 _ h7 _ h8 _ h9 _ h10 hc x0 x1 x2 x3 x4 x5 g1 g2 g3)]; unfold kernelRun0_B; dsimp only; sl_unfold_words; rw [View.canon_unit_zero (S := S1x1024) hz]
  on_goal 7 => unfold out0_A_9; rw [View.read_writes_eq_canon _ _ _ (cover0_A_9 c i _ h1 _ h2 _ h3 _ h4 _ h5 _ h6 _ h7 _ h8 _ h9 _ h10 hc x0 x1 x2 x3 x4 x5)]; unfold kernelRun0_A; dsimp only; sl_unfold_words; rw [View.canon_cons_unit_zero (S := S1x1024) hz, View.readCov_unit_zero (S := S1x1024) _ hz]
  on_goal 8 => unfold out0_B_9; rw [View.read_writes_eq_canon _ _ _ (cover0_B_9 c i _ h1 _ h2 _ h3 _ h4 _ h5 _ h6 _ h7 _ h8 _ h9 _ h10 hc x0 x1 x2 x3 x4 x5 g1 g2 g3)]; unfold kernelRun0_B; dsimp only; sl_unfold_words; rw [View.canon_unit_zero (S := S1x1024) hz]
  all_goals
    simp only [View.readAt_eq_ld, h1.read_unread, h2.read_unread, h3.read_unread, h4.read_unread, h5.read_unread, h6.read_unread, h8.read_unread, h9.read_unread, h10.read_unread, View.ld_unit_zero (S := S512x1024) hz, View.ld_unit_zero (S := S1x1024) hz]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17]
    all_goals try simp only [ms, nrm, dn, dms, dxRow, dwRow, dscRow, NormSpec.res, Finset.univ_unique, Finset.sum_singleton, zero_add]

end point

section kernel

variable (m : (ℓ : Loc nD τ sig) → Buf (Elt Ideal) ℓ) (c : Dev nD) (t : Fin cfg0.N) (r : Fin 512) (k l : Fin 1024)

/-- The number of grid points. -/
theorem hN : cfg0.N = 16 := N_0

/-- The block of window 0 at a grid point. -/
theorem idx0 : ∀ t : Fin grid0.N, win0_0.index t 0 = 15 - t.val ∧ win0_0.index t 1 = 0 := by decide +kernel

/-- The block of window 1 at a grid point. -/
theorem idx1 : ∀ t : Fin grid0.N, win0_1.index t 0 = 0 ∧ win0_1.index t 1 = 0 := by decide +kernel

/-- Argument 0. -/
def V0 : (⟨2, ![8192, 1024]⟩ : Shape).Idx → EReal := m ((c : Thread nD τ).loc main_arg0)

/-- Argument 1. -/
def V1 : (⟨2, ![1, 1024]⟩ : Shape).Idx → EReal := m ((c : Thread nD τ).loc main_arg1)

/-- Argument 2. -/
def V2 : (⟨2, ![1, 1024]⟩ : Shape).Idx → EReal := m ((c : Thread nD τ).loc main_arg2)

/-- Argument 3. -/
def V3 : (⟨2, ![1, 1024]⟩ : Shape).Idx → EReal := m ((c : Thread nD τ).loc main_arg3)

/-- Argument 4. -/
def V4 : (⟨2, ![8192, 1024]⟩ : Shape).Idx → EReal := m ((c : Thread nD τ).loc main_arg4)

/-- Argument 5. -/
def V5 : (⟨2, ![8192, 1024]⟩ : Shape).Idx → EReal := m ((c : Thread nD τ).loc main_arg5)

/-- What a grid point loads of argument 0. -/
theorem blk0 : (iblk m c 0 t : Vec Ideal S512x1024 .f32) (ix2 r k) = V0 m c (ix2 (rowAt t.val r) k) := by
  obtain ⟨ea, eb⟩ := idx0 t
  refine congrArg (m ((c : Thread nD τ).loc main_arg0)) (funext fun a => ?_)
  match a with
  | ⟨0, _⟩ => exact Fin.ext (show win0_0.index t 0 * 512 + 1 * r.val = (15 - t.val) * 512 + r.val by rw [ea]; have := t.isLt; have := hN; omega)
  | ⟨1, _⟩ => exact Fin.ext (show win0_0.index t 1 * 1024 + 1 * k.val = k.val by rw [eb]; omega)

/-- What a grid point loads of argument 1. -/
theorem blk1 : (iblk m c 1 t : Vec Ideal S1x1024 .f32) (ix2 0 k) = V1 m c (ix2 0 k) := by
  obtain ⟨ea, eb⟩ := idx1 t
  refine congrArg (m ((c : Thread nD τ).loc main_arg1)) (funext fun a => ?_)
  match a with
  | ⟨0, _⟩ => exact Fin.ext (show win0_1.index t 0 * 1 + 1 * 0 = 0 by rw [ea])
  | ⟨1, _⟩ => exact Fin.ext (show win0_1.index t 1 * 1024 + 1 * k.val = k.val by rw [eb]; omega)

/-- What a grid point loads of argument 2. -/
theorem blk2 : (iblk m c 2 t : Vec Ideal S1x1024 .f32) (ix2 0 k) = V2 m c (ix2 0 k) := by
  obtain ⟨ea, eb⟩ := idx1 t
  refine congrArg (m ((c : Thread nD τ).loc main_arg2)) (funext fun a => ?_)
  match a with
  | ⟨0, _⟩ => exact Fin.ext (show win0_1.index t 0 * 1 + 1 * 0 = 0 by rw [ea])
  | ⟨1, _⟩ => exact Fin.ext (show win0_1.index t 1 * 1024 + 1 * k.val = k.val by rw [eb]; omega)

/-- What a grid point loads of argument 3. -/
theorem blk3 : (iblk m c 3 t : Vec Ideal S1x1024 .f32) (ix2 0 k) = V3 m c (ix2 0 k) := by
  obtain ⟨ea, eb⟩ := idx1 t
  refine congrArg (m ((c : Thread nD τ).loc main_arg3)) (funext fun a => ?_)
  match a with
  | ⟨0, _⟩ => exact Fin.ext (show win0_1.index t 0 * 1 + 1 * 0 = 0 by rw [ea])
  | ⟨1, _⟩ => exact Fin.ext (show win0_1.index t 1 * 1024 + 1 * k.val = k.val by rw [eb]; omega)

/-- What a grid point loads of argument 4. -/
theorem blk4 : (iblk m c 4 t : Vec Ideal S512x1024 .f32) (ix2 r k) = V4 m c (ix2 (rowAt t.val r) k) := by
  obtain ⟨ea, eb⟩ := idx0 t
  refine congrArg (m ((c : Thread nD τ).loc main_arg4)) (funext fun a => ?_)
  match a with
  | ⟨0, _⟩ => exact Fin.ext (show win0_0.index t 0 * 512 + 1 * r.val = (15 - t.val) * 512 + r.val by rw [ea]; have := t.isLt; have := hN; omega)
  | ⟨1, _⟩ => exact Fin.ext (show win0_0.index t 1 * 1024 + 1 * k.val = k.val by rw [eb]; omega)

/-- What a grid point loads of argument 5. -/
theorem blk5 : (iblk m c 5 t : Vec Ideal S512x1024 .f32) (ix2 r k) = V5 m c (ix2 (rowAt t.val r) k) := by
  obtain ⟨ea, eb⟩ := idx0 t
  refine congrArg (m ((c : Thread nD τ).loc main_arg5)) (funext fun a => ?_)
  match a with
  | ⟨0, _⟩ => exact Fin.ext (show win0_0.index t 0 * 512 + 1 * r.val = (15 - t.val) * 512 + r.val by rw [ea]; have := t.isLt; have := hN; omega)
  | ⟨1, _⟩ => exact Fin.ext (show win0_0.index t 1 * 1024 + 1 * k.val = k.val by rw [eb]; omega)

/-- The block that holds a row. -/
theorem near0 (i : S8192x1024.Idx) (t : Fin cfg0.N) (ht : t.val = 15 - (i 0).val / 512) (a : Fin 2) :
    win0_0.index t a * S512x1024.size a ≤ (i a).val ∧ (i a).val < win0_0.index t a * S512x1024.size a + S512x1024.size a := by
  have h0 : (i 0).val < 8192 := (i 0).isLt
  have h1 : (i 1).val < 1024 := (i 1).isLt
  obtain ⟨ea, eb⟩ := idx0 t
  match a with
  | ⟨0, _⟩ =>
    show win0_0.index t 0 * 512 ≤ (i 0).val ∧ (i 0).val < win0_0.index t 0 * 512 + 512
    rw [ea]; omega
  | ⟨1, _⟩ =>
    show win0_0.index t 1 * 1024 ≤ (i 1).val ∧ (i 1).val < win0_0.index t 1 * 1024 + 1024
    rw [eb]; omega

/-- The one block of a sum over the rows. -/
theorem near1 (i : S1x1024.Idx) (t : Fin cfg0.N) (a : Fin 2) :
    win0_1.index t a * S1x1024.size a ≤ (i a).val ∧ (i a).val < win0_1.index t a * S1x1024.size a + S1x1024.size a := by
  have h0 : (i 0).val < 1 := (i 0).isLt
  have h1 : (i 1).val < 1024 := (i 1).isLt
  obtain ⟨ea, eb⟩ := idx1 t
  match a with
  | ⟨0, _⟩ =>
    show win0_1.index t 0 * 1 ≤ (i 0).val ∧ (i 0).val < win0_1.index t 0 * 1 + 1
    rw [ea]; omega
  | ⟨1, _⟩ =>
    show win0_1.index t 1 * 1024 ≤ (i 1).val ∧ (i 1).val < win0_1.index t 1 * 1024 + 1024
    rw [eb]; omega

/-- An index of a sum over the rows. -/
theorem eqP {z : ℕ} (y : (⟨2, ![1, z]⟩ : Shape).Idx) : y = ix2 (n0 := 1) (n1 := z) 0 (y 1) :=
  (eq_ix2 y).trans (congrArg (ix2 · (y 1)) (Fin.ext (by have : (y 0).val < 1 := (y 0).isLt; show (y 0).val = 0; omega)))

/-- Output 6 after a point. -/
theorem at6 : ((outsAt0 m c t.val t.isLt).1 (ix2 r l) : EReal) = R6 (V0 m c) (V1 m c) (V2 m c) (V4 m c) (V5 m c) (rowAt t.val r) l := by
  by_cases h : t.val % 16 = 0
  on_goal 1 => rw [outsAt0_A m c t h]; dsimp only; rw [outs.1]
  on_goal 2 => rw [outsAt0_B m c t h]; dsimp only; rw [outs.2.1]
  all_goals simp only [blk0 m c, blk1 m c, blk2 m c, blk4 m c, blk5 m c]; rfl

/-- Output 6 as an array. -/
def G6 : Buf (Elt Ideal) ((c : Thread nD τ).loc main_v0_0) := fun i : S8192x1024.Idx => R6 (V0 m c) (V1 m c) (V2 m c) (V4 m c) (V5 m c) (i 0) (i 1)

attribute [local irreducible] R6 in
/-- What a grid point writes back is its block of that array. -/
theorem flushed6 : (dats m 0 c).flushed 6 t = ((cfg0.win 6).blk t).view.read (Elt Ideal) (G6 m c) := by
  obtain ⟨ea, eb⟩ := idx0 t
  rw [Value.flushed6]
  funext y
  refine ((congrArg (outsAt0 m c t.val t.isLt).1 (eq_ix2 y)).trans (at6 m c t (y 0) (y 1))).trans (congrArg₂ (R6 (V0 m c) (V1 m c) (V2 m c) (V4 m c) (V5 m c)) (Fin.ext ?_) (Fin.ext ?_))
  · show (15 - t.val) * 512 + (y 0).val = win0_0.index t 0 * 512 + 1 * (y 0).val
    rw [ea]; omega
  · show (y 1).val = win0_0.index t 1 * 1024 + 1 * (y 1).val
    rw [eb]; omega

/-- Every element of the array is in some point's block. -/
theorem cover6 (i : S8192x1024.Idx) : ∃ t : Fin cfg0.N, (cfg0.win 6).flush t = true ∧ i ∈ ((cfg0.win 6).blk t).view.set := by
  obtain ⟨t, ht⟩ : ∃ t : Fin cfg0.N, t.val = 15 - (i 0).val / 512 := ⟨⟨_, by have h0 : (i 0).val < 8192 := (i 0).isLt; have := hN; omega⟩, rfl⟩
  refine ⟨t, flush0_6 _, ?_⟩
  show i ∈ ((View.whole main_v0_0).slice (win0_6.rect t)).set
  rw [View.set_slice_whole, Rect.mem_set_unit]
  exact near0 i t ht

/-- Output 7 after a point: the sum over the rows visited. -/
theorem at7 (l : Fin 1024) : ∀ (n : ℕ) (h : n < cfg0.N), ((outsAt0 m c n h).2.1 (ix2 0 l) : EReal)
    = ∑ b ∈ Finset.range (n + 1), ∑ r : Fin 512, P7 (V0 m c) (V2 m c) (V4 m c) (rowAt b r) l := by
  intro n
  induction n with
  | zero =>
    intro h
    rw [outsAt0_A m c ⟨0, h⟩ rfl]
    dsimp only
    rw [outs.2.2.1, Finset.sum_range_one]
    simp only [blk0 m c, blk2 m c, blk4 m c]
    rfl
  | succ n ih =>
    intro h
    rw [outsAt0_B m c ⟨n + 1, h⟩ (by have := hN; dsimp only; omega)]
    dsimp only
    rw [outs.2.2.2.1, Finset.sum_range_succ, ← ih (by omega)]
    simp only [blk0 m c, blk2 m c, blk4 m c]
    rfl

/-- Output 7 as an array. -/
def G7 : Buf (Elt Ideal) ((c : Thread nD τ).loc main_v0_1) := fun i : S1x1024.Idx => T7 (V0 m c) (V2 m c) (V4 m c) (i 1)

attribute [local irreducible] T7 in
/-- The last point writes it back. -/
theorem flushed7 (hf : (cfg0.win 7).flush t = true) : (dats m 0 c).flushed 7 t = ((cfg0.win 7).blk t).view.read (Elt Ideal) (G7 m c) := by
  have ht : t.val = 15 := by have := (flush0_7 t).1 hf; have := hN; have := t.isLt; omega
  obtain ⟨ea, eb⟩ := idx1 t
  rw [Value.flushed7]
  funext y
  have e : ((outsAt0 m c t.val t.isLt).2.1 y : EReal) = T7 (V0 m c) (V2 m c) (V4 m c) (y 1) := by
    refine (congrArg (outsAt0 m c t.val t.isLt).2.1 (eqP y)).trans ((at7 m c (y 1) t.val t.isLt).trans ?_)
    rw [ht]
    unfold T7
    exact sum_rows fun n => P7 (V0 m c) (V2 m c) (V4 m c) n (y 1)
  refine e.trans (congrArg (T7 (V0 m c) (V2 m c) (V4 m c)) (Fin.ext ?_))
  show (y 1).val = win0_1.index t 1 * 1024 + 1 * (y 1).val
  rw [eb]; omega

/-- Its one block is the whole array. -/
theorem cover7 (i : S1x1024.Idx) : ∃ t : Fin cfg0.N, (cfg0.win 7).flush t = true ∧ i ∈ ((cfg0.win 7).blk t).view.set := by
  obtain ⟨t, ht⟩ : ∃ t : Fin cfg0.N, t.val = 15 := ⟨⟨_, by have := hN; omega⟩, rfl⟩
  refine ⟨t, (flush0_7 _).2 (by rw [ht]), ?_⟩
  show i ∈ ((View.whole main_v0_1).slice (win0_7.rect t)).set
  rw [View.set_slice_whole, Rect.mem_set_unit]
  exact near1 i t

/-- Output 8 after a point: the sum over the rows visited. -/
theorem at8 (l : Fin 1024) : ∀ (n : ℕ) (h : n < cfg0.N), ((outsAt0 m c n h).2.2.1 (ix2 0 l) : EReal)
    = ∑ b ∈ Finset.range (n + 1), ∑ r : Fin 512, P8 (V0 m c) (V1 m c) (V4 m c) (rowAt b r) l := by
  intro n
  induction n with
  | zero =>
    intro h
    rw [outsAt0_A m c ⟨0, h⟩ rfl]
    dsimp only
    rw [outs.2.2.2.2.1, Finset.sum_range_one]
    simp only [blk0 m c, blk1 m c, blk4 m c]
    rfl
  | succ n ih =>
    intro h
    rw [outsAt0_B m c ⟨n + 1, h⟩ (by have := hN; dsimp only; omega)]
    dsimp only
    rw [outs.2.2.2.2.2.1, Finset.sum_range_succ, ← ih (by omega)]
    simp only [blk0 m c, blk1 m c, blk4 m c]
    rfl

/-- Output 8 as an array. -/
def G8 : Buf (Elt Ideal) ((c : Thread nD τ).loc main_v0_2) := fun i : S1x1024.Idx => T8 (V0 m c) (V1 m c) (V4 m c) (i 1)

attribute [local irreducible] T8 in
/-- The last point writes it back. -/
theorem flushed8 (hf : (cfg0.win 8).flush t = true) : (dats m 0 c).flushed 8 t = ((cfg0.win 8).blk t).view.read (Elt Ideal) (G8 m c) := by
  have ht : t.val = 15 := by have := (flush0_8 t).1 hf; have := hN; have := t.isLt; omega
  obtain ⟨ea, eb⟩ := idx1 t
  rw [Value.flushed8]
  funext y
  have e : ((outsAt0 m c t.val t.isLt).2.2.1 y : EReal) = T8 (V0 m c) (V1 m c) (V4 m c) (y 1) := by
    refine (congrArg (outsAt0 m c t.val t.isLt).2.2.1 (eqP y)).trans ((at8 m c (y 1) t.val t.isLt).trans ?_)
    rw [ht]
    unfold T8
    exact sum_rows fun n => P8 (V0 m c) (V1 m c) (V4 m c) n (y 1)
  refine e.trans (congrArg (T8 (V0 m c) (V1 m c) (V4 m c)) (Fin.ext ?_))
  show (y 1).val = win0_1.index t 1 * 1024 + 1 * (y 1).val
  rw [eb]; omega

/-- Its one block is the whole array. -/
theorem cover8 (i : S1x1024.Idx) : ∃ t : Fin cfg0.N, (cfg0.win 8).flush t = true ∧ i ∈ ((cfg0.win 8).blk t).view.set := by
  obtain ⟨t, ht⟩ : ∃ t : Fin cfg0.N, t.val = 15 := ⟨⟨_, by have := hN; omega⟩, rfl⟩
  refine ⟨t, (flush0_8 _).2 (by rw [ht]), ?_⟩
  show i ∈ ((View.whole main_v0_2).slice (win0_8.rect t)).set
  rw [View.set_slice_whole, Rect.mem_set_unit]
  exact near1 i t

/-- Output 9 after a point: the sum over the rows visited. -/
theorem at9 (l : Fin 1024) : ∀ (n : ℕ) (h : n < cfg0.N), ((outsAt0 m c n h).2.2.2 (ix2 0 l) : EReal)
    = ∑ b ∈ Finset.range (n + 1), ∑ r : Fin 512, P9 (V4 m c) (rowAt b r) l := by
  intro n
  induction n with
  | zero =>
    intro h
    rw [outsAt0_A m c ⟨0, h⟩ rfl]
    dsimp only
    rw [outs.2.2.2.2.2.2.1, Finset.sum_range_one]
    simp only [blk4 m c]
    rfl
  | succ n ih =>
    intro h
    rw [outsAt0_B m c ⟨n + 1, h⟩ (by have := hN; dsimp only; omega)]
    dsimp only
    rw [outs.2.2.2.2.2.2.2, Finset.sum_range_succ, ← ih (by omega)]
    simp only [blk4 m c]
    rfl

/-- Output 9 as an array. -/
def G9 : Buf (Elt Ideal) ((c : Thread nD τ).loc main_v0_3) := fun i : S1x1024.Idx => T9 (V4 m c) (i 1)

attribute [local irreducible] T9 in
/-- The last point writes it back. -/
theorem flushed9 (hf : (cfg0.win 9).flush t = true) : (dats m 0 c).flushed 9 t = ((cfg0.win 9).blk t).view.read (Elt Ideal) (G9 m c) := by
  have ht : t.val = 15 := by have := (flush0_9 t).1 hf; have := hN; have := t.isLt; omega
  obtain ⟨ea, eb⟩ := idx1 t
  rw [Value.flushed9]
  funext y
  have e : ((outsAt0 m c t.val t.isLt).2.2.2 y : EReal) = T9 (V4 m c) (y 1) := by
    refine (congrArg (outsAt0 m c t.val t.isLt).2.2.2 (eqP y)).trans ((at9 m c (y 1) t.val t.isLt).trans ?_)
    rw [ht]
    unfold T9
    exact sum_rows fun n => P9 (V4 m c) n (y 1)
  refine e.trans (congrArg (T9 (V4 m c)) (Fin.ext ?_))
  show (y 1).val = win0_1.index t 1 * 1024 + 1 * (y 1).val
  rw [eb]; omega

/-- Its one block is the whole array. -/
theorem cover9 (i : S1x1024.Idx) : ∃ t : Fin cfg0.N, (cfg0.win 9).flush t = true ∧ i ∈ ((cfg0.win 9).blk t).view.set := by
  obtain ⟨t, ht⟩ : ∃ t : Fin cfg0.N, t.val = 15 := ⟨⟨_, by have := hN; omega⟩, rfl⟩
  refine ⟨t, (flush0_9 _).2 (by rw [ht]), ?_⟩
  show i ∈ ((View.whole main_v0_3).slice (win0_9.rect t)).set
  rw [View.set_slice_whole, Rect.mem_set_unit]
  exact near1 i t

end kernel

/-- The frames: the generated runs. -/
theorem frame_k : Cert.quiescent_PreBKernel := fun m ρ _ => Cert.PreBKernel.Gen.frame m ρ
/-- … of the idealized kernel, -/
theorem frame_ki : Cert.quiescent_PreBKernelIdeal := fun m ρ _ => Cert.PreBKernelIdeal.Gen.frame m ρ
/-- … and of the reference, which has no semaphore. -/
theorem frame_r : Cert.quiescent_PreBReferenceIdeal := fun m ρ _ =>
  (θ_run Cert.PreBReferenceIdeal.defs _ _).mono (fun r h => ⟨fun c => (h c).2.2.2.2, Idealize.ShloMosaic.sem_eq_zero_of_no_sems (by decide) r.2⟩)
    (Cert.PreBReferenceIdeal.Value.run (F := Ideal) m ρ)

set_option maxHeartbeats 4000000 in
/-- The kernel's results and the reference's are the same arrays. -/
theorem algebraic : Cert.algebraic_PreBKernelIdeal_PreBReferenceIdeal := by
  intro m ρ m' ρ' _ hagree
  refine ⟨fun c => G6 m c, fun c => G7 m c, fun c => G8 m c, fun c => G9 m c, ?_, ?_⟩
  · refine (θ_run defs _ _).mono (fun _ h c => ?_) (Value.run_blocks (F := Ideal) m ρ)
    obtain ⟨h6, h7, h8, h9, hk⟩ := h c
    exact ⟨h6.trans ((dats m 0 c).arrAt_eq_of_cover 6 (G6 m c) (fun t _ => flushed6 m c t) cover6), h7.trans ((dats m 0 c).arrAt_eq_of_cover 7 (G7 m c) (flushed7 m c) cover7), h8.trans ((dats m 0 c).arrAt_eq_of_cover 8 (G8 m c) (flushed8 m c) cover8), h9.trans ((dats m 0 c).arrAt_eq_of_cover 9 (G9 m c) (flushed9 m c) cover9), hk⟩
  refine (θ_run Cert.PreBReferenceIdeal.defs _ _).mono (fun _ h c => ?_) (Cert.PreBReferenceIdeal.Value.run (F := Ideal) m' ρ')
  obtain ⟨a0, a1, a2, a3, a4, a5⟩ := hagree c
  obtain ⟨h6, h7, h8, h9, hk⟩ := h c
  refine ⟨h6.trans (funext fun i => ?_), h7.trans (funext fun i => ?_), h8.trans (funext fun i => ?_), h9.trans (funext fun i => ?_), hk⟩
  · obtain ⟨n, l, rfl⟩ : ∃ n l, i = ix2 n l := ⟨_, _, eq_ix2 i⟩
    unfold Cert.PreBReferenceIdeal.Value.res_main_v48
    refine Eq.trans (b := (R6 (m' (c.tc.loc Cert.PreBReferenceIdeal.main_arg0)) (m' (c.tc.loc Cert.PreBReferenceIdeal.main_arg1)) (m' (c.tc.loc Cert.PreBReferenceIdeal.main_arg2)) (m' (c.tc.loc Cert.PreBReferenceIdeal.main_arg4)) (m' (c.tc.loc Cert.PreBReferenceIdeal.main_arg5)) n l : EReal)) ?_ (by rw [a0, a1, a2, a4, a5]; rfl)
    unfold R6
    pointwise
    all_goals try simp only [ms, nrm, dn, dms, dxRow, dwRow, dscRow, NormSpec.res, Finset.univ_unique, Finset.sum_singleton, zero_add]
  · obtain ⟨n, l, rfl⟩ : ∃ n l, i = ix2 n l := ⟨_, _, eq_ix2 i⟩
    obtain rfl : n = 0 := Subsingleton.elim _ _
    refine Eq.trans (b := T7 (m' (c.tc.loc Cert.PreBReferenceIdeal.main_arg0)) (m' (c.tc.loc Cert.PreBReferenceIdeal.main_arg2)) (m' (c.tc.loc Cert.PreBReferenceIdeal.main_arg4)) l) ?_ (by rw [a0, a2, a4]; rfl)
    unfold T7 P7
    pointwise
    all_goals try simp only [ms, nrm, dn, dms, dxRow, dwRow, dscRow, NormSpec.res, Finset.univ_unique, Finset.sum_singleton, zero_add]
  · obtain ⟨n, l, rfl⟩ : ∃ n l, i = ix2 n l := ⟨_, _, eq_ix2 i⟩
    obtain rfl : n = 0 := Subsingleton.elim _ _
    refine Eq.trans (b := T8 (m' (c.tc.loc Cert.PreBReferenceIdeal.main_arg0)) (m' (c.tc.loc Cert.PreBReferenceIdeal.main_arg1)) (m' (c.tc.loc Cert.PreBReferenceIdeal.main_arg4)) l) ?_ (by rw [a0, a1, a4]; rfl)
    unfold T8 P8
    pointwise
    all_goals try simp only [ms, nrm, dn, dms, dxRow, dwRow, dscRow, NormSpec.res, Finset.univ_unique, Finset.sum_singleton, zero_add]
  · obtain ⟨n, l, rfl⟩ : ∃ n l, i = ix2 n l := ⟨_, _, eq_ix2 i⟩
    obtain rfl : n = 0 := Subsingleton.elim _ _
    refine Eq.trans (b := T9 (m' (c.tc.loc Cert.PreBReferenceIdeal.main_arg4)) l) ?_ (by rw [a4]; rfl)
    unfold T9 P9
    pointwise
    all_goals try simp only [ms, nrm, dn, dms, dxRow, dwRow, dscRow, NormSpec.res, Finset.univ_unique, Finset.sum_singleton, zero_add]

end Cert.PreB

end
-- ==== Proof.PostB.lean ====
/-
  The gradient of a gated residual and of the norm that follows it (`l1_b_post`): the rows' gradients are computed with their
  block, whose grid runs from the last block of rows to the first, and those of the gate, weight, scale and shift are added up.
-/
module

public import proofs.«01_k».proof.Defs
public import proofs.«01_k».proof.Proof.Common
public import proofs.«01_k».proof.Proof.NormSpec
public import proofs.«01_k».proof.Proof.Gen.PostBKernel.Frame
public import proofs.«01_k».proof.Proof.Gen.PostBKernelIdeal.Value
public import proofs.«01_k».proof.Proof.Gen.PostBReferenceIdeal.Run
public import Idealize.ShloMosaic.Lib.Quiescent
public import Idealize.ShloMosaic.Lib.Tactic
public import Idealize.ShloMosaic.Lib.Pointwise

@[expose] public section

noncomputable section

namespace Cert.PostB

open Idealize.ShloMosaic Idealize.ShloMosaic.TcCoe Idealize.SL.Sem Cert.Common Cert.NormSpec

section spec

variable (A0 : (⟨2, ![8192, 1024]⟩ : Shape).Idx → EReal) (A1 : (⟨2, ![8192, 1024]⟩ : Shape).Idx → EReal) (A2 : (⟨2, ![1, 1024]⟩ : Shape).Idx → EReal) (A3 : (⟨2, ![1, 1024]⟩ : Shape).Idx → EReal) (A4 : (⟨2, ![1, 1024]⟩ : Shape).Idx → EReal) (A5 : (⟨2, ![1, 1024]⟩ : Shape).Idx → EReal) (A6 : (⟨2, ![8192, 1024]⟩ : Shape).Idx → EReal) (A7 : (⟨2, ![8192, 1024]⟩ : Shape).Idx → EReal) (n : Fin 8192)

/-- The gradient of the residual. -/
def R8 (l : Fin 1024) : EReal := dxRow (NormSpec.res (fun k => A0 (ix2 n k)) (fun k => A2 (ix2 0 k)) (fun k => A1 (ix2 n k))) (fun k => A3 (ix2 0 k)) (fun k => A4 (ix2 0 k)) (fun k => A7 (ix2 n k)) (fun k => A6 (ix2 n k)) l

/-- The gradient of the gated rows. -/
def R9 (l : Fin 1024) : EReal := A2 (ix2 0 l) * dxRow (NormSpec.res (fun k => A0 (ix2 n k)) (fun k => A2 (ix2 0 k)) (fun k => A1 (ix2 n k))) (fun k => A3 (ix2 0 k)) (fun k => A4 (ix2 0 k)) (fun k => A7 (ix2 n k)) (fun k => A6 (ix2 n k)) l

/-- A row's part of the gradient of the gate. -/
def P10 (l : Fin 1024) : EReal := dxRow (NormSpec.res (fun k => A0 (ix2 n k)) (fun k => A2 (ix2 0 k)) (fun k => A1 (ix2 n k))) (fun k => A3 (ix2 0 k)) (fun k => A4 (ix2 0 k)) (fun k => A7 (ix2 n k)) (fun k => A6 (ix2 n k)) l * A1 (ix2 n l)

/-- The sum over the rows. -/
def T10 (l : Fin 1024) : EReal := ∑ n, P10 A0 A1 A2 A3 A4 A6 A7 n l

/-- A row's part of the gradient of the weight. -/
def P11 (l : Fin 1024) : EReal := dwRow (NormSpec.res (fun k => A0 (ix2 n k)) (fun k => A2 (ix2 0 k)) (fun k => A1 (ix2 n k))) (fun k => A4 (ix2 0 k)) (fun k => A7 (ix2 n k)) l

/-- The sum over the rows. -/
def T11 (l : Fin 1024) : EReal := ∑ n, P11 A0 A1 A2 A4 A7 n l

/-- A row's part of the gradient of the scale. -/
def P12 (l : Fin 1024) : EReal := dscRow (NormSpec.res (fun k => A0 (ix2 n k)) (fun k => A2 (ix2 0 k)) (fun k => A1 (ix2 n k))) (fun k => A3 (ix2 0 k)) (fun k => A7 (ix2 n k)) l

/-- The sum over the rows. -/
def T12 (l : Fin 1024) : EReal := ∑ n, P12 A0 A1 A2 A3 A7 n l

/-- A row's part of the gradient of the shift. -/
def P13 (l : Fin 1024) : EReal := A7 (ix2 n l)

/-- The sum over the rows. -/
def T13 (l : Fin 1024) : EReal := ∑ n, P13 A7 n l

end spec

open Cert.PostBKernelIdeal Cert.PostBKernelIdeal.Gen

section point

variable {c : Dev nD} {i : grid0.Coords}
  {a1 : Memref sig .tc .vmem S512x1024 .f32} {h1 : a1.IsWhole}
  {a2 : Memref sig .tc .vmem S512x1024 .f32} {h2 : a2.IsWhole}
  {a3 : Memref sig .tc .vmem S1x1024 .f32} {h3 : a3.IsWhole}
  {a4 : Memref sig .tc .vmem S1x1024 .f32} {h4 : a4.IsWhole}
  {a5 : Memref sig .tc .vmem S1x1024 .f32} {h5 : a5.IsWhole}
  {a6 : Memref sig .tc .vmem S1x1024 .f32} {h6 : a6.IsWhole}
  {a7 : Memref sig .tc .vmem S512x1024 .f32} {h7 : a7.IsWhole}
  {a8 : Memref sig .tc .vmem S512x1024 .f32} {h8 : a8.IsWhole}
  {a9 : Memref sig .tc .vmem S512x1024 .f32} {h9 : a9.IsWhole}
  {a10 : Memref sig .tc .vmem S512x1024 .bf16} {h10 : a10.IsWhole}
  {a11 : Memref sig .tc .vmem S1x1024 .f32} {h11 : a11.IsWhole}
  {a12 : Memref sig .tc .vmem S1x1024 .f32} {h12 : a12.IsWhole}
  {a13 : Memref sig .tc .vmem S1x1024 .f32} {h13 : a13.IsWhole}
  {a14 : Memref sig .tc .vmem S1x1024 .f32} {h14 : a14.IsWhole}
  {x0 : Vec Ideal S512x1024 .f32} {x1 : Vec Ideal S512x1024 .f32} {x2 : Vec Ideal S1x1024 .f32} {x3 : Vec Ideal S1x1024 .f32} {x4 : Vec Ideal S1x1024 .f32} {x5 : Vec Ideal S1x1024 .f32} {x6 : Vec Ideal S512x1024 .f32} {x7 : Vec Ideal S512x1024 .f32}

/-- The outputs of a first point and of a later one, element by element. -/
theorem outs :
    (∀ r l hc, (out0_A_8 c i a1 h1 a2 h2 a3 h3 a4 h4 a5 h5 a6 h6 a7 h7 a8 h8 a9 h9 a10 h10 a11 h11 a12 h12 a13 h13 a14 h14 hc x0 x1 x2 x3 x4 x5 x6 x7 (ix2 r l) : EReal) = dxRow (NormSpec.res (fun k => x0 (ix2 r k)) (fun k => x2 (ix2 0 k)) (fun k => x1 (ix2 r k))) (fun k => x3 (ix2 0 k)) (fun k => x4 (ix2 0 k)) (fun k => x7 (ix2 r k)) (fun k => x6 (ix2 r k)) l)
    ∧ (∀ (g2 : Vec Ideal S1x1024 .f32) (g3 : Vec Ideal S1x1024 .f32) (g4 : Vec Ideal S1x1024 .f32) (g5 : Vec Ideal S1x1024 .f32) r l hc, (out0_B_8 c i a1 h1 a2 h2 a3 h3 a4 h4 a5 h5 a6 h6 a7 h7 a8 h8 a9 h9 a10 h10 a11 h11 a12 h12 a13 h13 a14 h14 hc x0 x1 x2 x3 x4 x5 x6 x7 g2 g3 g4 g5 (ix2 r l) : EReal) = dxRow (NormSpec.res (fun k => x0 (ix2 r k)) (fun k => x2 (ix2 0 k)) (fun k => x1 (ix2 r k))) (fun k => x3 (ix2 0 k)) (fun k => x4 (ix2 0 k)) (fun k => x7 (ix2 r k)) (fun k => x6 (ix2 r k)) l)
    ∧ (∀ r l hc, (out0_A_9 c i a1 h1 a2 h2 a3 h3 a4 h4 a5 h5 a6 h6 a7 h7 a8 h8 a9 h9 a10 h10 a11 h11 a12 h12 a13 h13 a14 h14 hc x0 x1 x2 x3 x4 x5 x6 x7 (ix2 r l) : EReal) = x2 (ix2 0 l) * dxRow (NormSpec.res (fun k => x0 (ix2 r k)) (fun k => x2 (ix2 0 k)) (fun k => x1 (ix2 r k))) (fun k => x3 (ix2 0 k)) (fun k => x4 (ix2 0 k)) (fun k => x7 (ix2 r k)) (fun k => x6 (ix2 r k)) l)
    ∧ (∀ (g2 : Vec Ideal S1x1024 .f32) (g3 : Vec Ideal S1x1024 .f32) (g4 : Vec Ideal S1x1024 .f32) (g5 : Vec Ideal S1x1024 .f32) r l hc, (out0_B_9 c i a1 h1 a2 h2 a3 h3 a4 h4 a5 h5 a6 h6 a7 h7 a8 h8 a9 h9 a10 h10 a11 h11 a12 h12 a13 h13 a14 h14 hc x0 x1 x2 x3 x4 x5 x6 x7 g2 g3 g4 g5 (ix2 r l) : EReal) = x2 (ix2 0 l) * dxRow (NormSpec.res (fun k => x0 (ix2 r k)) (fun k => x2 (ix2 0 k)) (fun k => x1 (ix2 r k))) (fun k => x3 (ix2 0 k)) (fun k => x4 (ix2 0 k)) (fun k => x7 (ix2 r k)) (fun k => x6 (ix2 r k)) l)
    ∧ (∀ l hc, (out0_A_10 c i a1 h1 a2 h2 a3 h3 a4 h4 a5 h5 a6 h6 a7 h7 a8 h8 a9 h9 a10 h10 a11 h11 a12 h12 a13 h13 a14 h14 hc x0 x1 x2 x3 x4 x5 x6 x7 (ix2 0 l) : EReal) = ∑ r : Fin 512, dxRow (NormSpec.res (fun k => x0 (ix2 r k)) (fun k => x2 (ix2 0 k)) (fun k => x1 (ix2 r k))) (fun k => x3 (ix2 0 k)) (fun k => x4 (ix2 0 k)) (fun k => x7 (ix2 r k)) (fun k => x6 (ix2 r k)) l * x1 (ix2 r l))
    ∧ (∀ (g2 : Vec Ideal S1x1024 .f32) (g3 : Vec Ideal S1x1024 .f32) (g4 : Vec Ideal S1x1024 .f32) (g5 : Vec Ideal S1x1024 .f32) l hc, (out0_B_10 c i a1 h1 a2 h2 a3 h3 a4 h4 a5 h5 a6 h6 a7 h7 a8 h8 a9 h9 a10 h10 a11 h11 a12 h12 a13 h13 a14 h14 hc x0 x1 x2 x3 x4 x5 x6 x7 g2 g3 g4 g5 (ix2 0 l) : EReal) = g2 (ix2 0 l) + ∑ r : Fin 512, dxRow (NormSpec.res (fun k => x0 (ix2 r k)) (fun k => x2 (ix2 0 k)) (fun k => x1 (ix2 r k))) (fun k => x3 (ix2 0 k)) (fun k => x4 (ix2 0 k)) (fun k => x7 (ix2 r k)) (fun k => x6 (ix2 r k)) l * x1 (ix2 r l))
    ∧ (∀ l hc, (out0_A_11 c i a1 h1 a2 h2 a3 h3 a4 h4 a5 h5 a6 h6 a7 h7 a8 h8 a9 h9 a10 h10 a11 h11 a12 h12 a13 h13 a14 h14 hc x0 x1 x2 x3 x4 x5 x6 x7 (ix2 0 l) : EReal) = ∑ r : Fin 512, dwRow (NormSpec.res (fun k => x0 (ix2 r k)) (fun k => x2 (ix2 0 k)) (fun k => x1 (ix2 r k))) (fun k => x4 (ix2 0 k)) (fun k => x7 (ix2 r k)) l)
    ∧ (∀ (g2 : Vec Ideal S1x1024 .f32) (g3 : Vec Ideal S1x1024 .f32) (g4 : Vec Ideal S1x1024 .f32) (g5 : Vec Ideal S1x1024 .f32) l hc, (out0_B_11 c i a1 h1 a2 h2 a3 h3 a4 h4 a5 h5 a6 h6 a7 h7 a8 h8 a9 h9 a10 h10 a11 h11 a12 h12 a13 h13 a14 h14 hc x0 x1 x2 x3 x4 x5 x6 x7 g2 g3 g4 g5 (ix2 0 l) : EReal) = g3 (ix2 0 l) + ∑ r : Fin 512, dwRow (NormSpec.res (fun k => x0 (ix2 r k)) (fun k => x2 (ix2 0 k)) (fun k => x1 (ix2 r k))) (fun k => x4 (ix2 0 k)) (fun k => x7 (ix2 r k)) l)
    ∧ (∀ l hc, (out0_A_12 c i a1 h1 a2 h2 a3 h3 a4 h4 a5 h5 a6 h6 a7 h7 a8 h8 a9 h9 a10 h10 a11 h11 a12 h12 a13 h13 a14 h14 hc x0 x1 x2 x3 x4 x5 x6 x7 (ix2 0 l) : EReal) = ∑ r : Fin 512, dscRow (NormSpec.res (fun k => x0 (ix2 r k)) (fun k => x2 (ix2 0 k)) (fun k => x1 (ix2 r k))) (fun k => x3 (ix2 0 k)) (fun k => x7 (ix2 r k)) l)
    ∧ (∀ (g2 : Vec Ideal S1x1024 .f32) (g3 : Vec Ideal S1x1024 .f32) (g4 : Vec Ideal S1x1024 .f32) (g5 : Vec Ideal S1x1024 .f32) l hc, (out0_B_12 c i a1 h1 a2 h2 a3 h3 a4 h4 a5 h5 a6 h6 a7 h7 a8 h8 a9 h9 a10 h10 a11 h11 a12 h12 a13 h13 a14 h14 hc x0 x1 x2 x3 x4 x5 x6 x7 g2 g3 g4 g5 (ix2 0 l) : EReal) = g4 (ix2 0 l) + ∑ r : Fin 512, dscRow (NormSpec.res (fun k => x0 (ix2 r k)) (fun k => x2 (ix2 0 k)) (fun k => x1 (ix2 r k))) (fun k => x3 (ix2 0 k)) (fun k => x7 (ix2 r k)) l)
    ∧ (∀ l hc, (out0_A_13 c i a1 h1 a2 h2 a3 h3 a4 h4 a5 h5 a6 h6 a7 h7 a8 h8 a9 h9 a10 h10 a11 h11 a12 h12 a13 h13 a14 h14 hc x0 x1 x2 x3 x4 x5 x6 x7 (ix2 0 l) : EReal) = ∑ r : Fin 512, x7 (ix2 r l))
    ∧ (∀ (g2 : Vec Ideal S1x1024 .f32) (g3 : Vec Ideal S1x1024 .f32) (g4 : Vec Ideal S1x1024 .f32) (g5 : Vec Ideal S1x1024 .f32) l hc, (out0_B_13 c i a1 h1 a2 h2 a3 h3 a4 h4 a5 h5 a6 h6 a7 h7 a8 h8 a9 h9 a10 h10 a11 h11 a12 h12 a13 h13 a14 h14 hc x0 x1 x2 x3 x4 x5 x6 x7 g2 g3 g4 g5 (ix2 0 l) : EReal) = g5 (ix2 0 l) + ∑ r : Fin 512, x7 (ix2 r l)) := by
  refine ⟨fun r l hc => ?_, fun g2 g3 g4 g5 r l hc => ?_, fun r l hc => ?_, fun g2 g3 g4 g5 r l hc => ?_, fun l hc => ?_, fun g2 g3 g4 g5 l hc => ?_, fun l hc => ?_, fun g2 g3 g4 g5 l hc => ?_, fun l hc => ?_, fun g2 g3 g4 g5 l hc => ?_, fun l hc => ?_, fun g2 g3 g4 g5 l hc => ?_⟩
  on_goal 1 => unfold out0_A_8; rw [View.read_writes_eq_canon _ _ _ (cover0_A_8 c i _ h1 _ h2 _ h3 _ h4 _ h5 _ h6 _ h7 _ h8 _ h9 _ h10 _ h11 _ h12 _ h13 _ h14 hc x0 x1 x2 x3 x4 x5 x6 x7)]; unfold kernelRun0_A; dsimp only; sl_unfold_words; rw [View.canon_unit_zero (S := S512x1024) hz]
  on_goal 2 => unfold out0_B_8; rw [View.read_writes_eq_canon _ _ _ (cover0_B_8 c i _ h1 _ h2 _ h3 _ h4 _ h5 _ h6 _ h7 _ h8 _ h9 _ h10 _ h11 _ h12 _ h13 _ h14 hc x0 x1 x2 x3 x4 x5 x6 x7 g2 g3 g4 g5)]; unfold kernelRun0_B; dsimp only; sl_unfold_words; rw [View.canon_unit_zero (S := S512x1024) hz]
  on_goal 3 => unfold out0_A_9; rw [View.read_writes_eq_canon _ _ _ (cover0_A_9 c i _ h1 _ h2 _ h3 _ h4 _ h5 _ h6 _ h7 _ h8 _ h9 _ h10 _ h11 _ h12 _ h13 _ h14 hc x0 x1 x2 x3 x4 x5 x6 x7)]; unfold kernelRun0_A; dsimp only; sl_unfold_words; rw [View.canon_unit_zero (S := S512x1024) hz]
  on_goal 4 => unfold out0_B_9; rw [View.read_writes_eq_canon _ _ _ (cover0_B_9 c i _ h1 _ h2 _ h3 _ h4 _ h5 _ h6 _ h7 _ h8 _ h9 _ h10 _ h11 _ h12 _ h13 _ h14 hc x0 x1 x2 x3 x4 x5 x6 x7 g2 g3 g4 g5)]; unfold kernelRun0_B; dsimp only; sl_unfold_words; rw [View.canon_unit_zero (S := S512x1024) hz]
  on_goal 5 => unfold out0_A_10; rw [View.read_writes_eq_canon _ _ _ (cover0_A_10 c i _ h1 _ h2 _ h3 _ h4 _ h5 _ h6 _ h7 _ h8 _ h9 _ h10 _ h11 _ h12 _ h13 _ h14 hc x0 x1 x2 x3 x4 x5 x6 x7)]; unfold kernelRun0_A; dsimp only; sl_unfold_words; rw [View.canon_cons_unit_zero (S := S1x1024) hz, View.readCov_unit_zero (S := S1x1024) _ hz]
  on_goal 6 => unfold out0_B_10; rw [View.read_writes_eq_canon _ _ _ (cover0_B_10 c i _ h1 _ h2 _ h3 _ h4 _ h5 _ h6 _ h7 _ h8 _ h9 _ h10 _ h11 _ h12 _ h13 _ h14 hc x0 x1 x2 x3 x4 x5 x6 x7 g2 g3 g4 g5)]; unfold kernelRun0_B; dsimp only; sl_unfold_words; rw [View.canon_unit_zero (S := S1x1024) hz]
  on_goal 7 => unfold out0_A_11; rw [View.read_writes_eq_canon _ _ _ (cover0_A_11 c i _ h1 _ h2 _ h3 _ h4 _ h5 _ h6 _ h7 _ h8 _ h9 _ h10 _ h11 _ h12 _ h13 _ h14 hc x0 x1 x2 x3 x4 x5 x6 x7)]; unfold kernelRun0_A; dsimp only; sl_unfold_words; rw [View.canon_cons_unit_zero (S := S1x1024) hz, View.readCov_unit_zero (S := S1x1024) _ hz]
  on_goal 8 => unfold out0_B_11; rw [View.read_writes_eq_canon _ _ _ (cover0_B_11 c i _ h1 _ h2 _ h3 _ h4 _ h5 _ h6 _ h7 _ h8 _ h9 _ h10 _ h11 _ h12 _ h13 _ h14 hc x0 x1 x2 x3 x4 x5 x6 x7 g2 g3 g4 g5)]; unfold kernelRun0_B; dsimp only; sl_unfold_words; rw [View.canon_unit_zero (S := S1x1024) hz]
  on_goal 9 => unfold out0_A_12; rw [View.read_writes_eq_canon _ _ _ (cover0_A_12 c i _ h1 _ h2 _ h3 _ h4 _ h5 _ h6 _ h7 _ h8 _ h9 _ h10 _ h11 _ h12 _ h13 _ h14 hc x0 x1 x2 x3 x4 x5 x6 x7)]; unfold kernelRun0_A; dsimp only; sl_unfold_words; rw [View.canon_cons_unit_zero (S := S1x1024) hz, View.readCov_unit_zero (S := S1x1024) _ hz]
  on_goal 10 => unfold out0_B_12; rw [View.read_writes_eq_canon _ _ _ (cover0_B_12 c i _ h1 _ h2 _ h3 _ h4 _ h5 _ h6 _ h7 _ h8 _ h9 _ h10 _ h11 _ h12 _ h13 _ h14 hc x0 x1 x2 x3 x4 x5 x6 x7 g2 g3 g4 g5)]; unfold kernelRun0_B; dsimp only; sl_unfold_words; rw [View.canon_unit_zero (S := S1x1024) hz]
  on_goal 11 => unfold out0_A_13; rw [View.read_writes_eq_canon _ _ _ (cover0_A_13 c i _ h1 _ h2 _ h3 _ h4 _ h5 _ h6 _ h7 _ h8 _ h9 _ h10 _ h11 _ h12 _ h13 _ h14 hc x0 x1 x2 x3 x4 x5 x6 x7)]; unfold kernelRun0_A; dsimp only; sl_unfold_words; rw [View.canon_cons_unit_zero (S := S1x1024) hz, View.readCov_unit_zero (S := S1x1024) _ hz]
  on_goal 12 => unfold out0_B_13; rw [View.read_writes_eq_canon _ _ _ (cover0_B_13 c i _ h1 _ h2 _ h3 _ h4 _ h5 _ h6 _ h7 _ h8 _ h9 _ h10 _ h11 _ h12 _ h13 _ h14 hc x0 x1 x2 x3 x4 x5 x6 x7 g2 g3 g4 g5)]; unfold kernelRun0_B; dsimp only; sl_unfold_words; rw [View.canon_unit_zero (S := S1x1024) hz]
  all_goals
    simp only [View.readAt_eq_ld, h1.read_unread, h2.read_unread, h3.read_unread, h4.read_unread, h5.read_unread, h6.read_unread, h7.read_unread, h8.read_unread, h11.read_unread, h12.read_unread, h13.read_unread, h14.read_unread, View.ld_unit_zero (S := S512x1024) hz, View.ld_unit_zero (S := S1x1024) hz]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22]
    all_goals try simp only [ms, nrm, dn, dms, dxRow, dwRow, dscRow, NormSpec.res, Finset.univ_unique, Finset.sum_singleton, zero_add]

end point

section kernel

variable (m : (ℓ : Loc nD τ sig) → Buf (Elt Ideal) ℓ) (c : Dev nD) (t : Fin cfg0.N) (r : Fin 512) (k l : Fin 1024)

/-- The number of grid points. -/
theorem hN : cfg0.N = 16 := N_0

/-- The block of window 0 at a grid point. -/
theorem idx0 : ∀ t : Fin grid0.N, win0_0.index t 0 = 15 - t.val ∧ win0_0.index t 1 = 0 := by decide +kernel

/-- The block of window 2 at a grid point. -/
theorem idx2 : ∀ t : Fin grid0.N, win0_2.index t 0 = 0 ∧ win0_2.index t 1 = 0 := by decide +kernel

/-- Argument 0. -/
def V0 : (⟨2, ![8192, 1024]⟩ : Shape).Idx → EReal := m ((c : Thread nD τ).loc main_arg0)

/-- Argument 1. -/
def V1 : (⟨2, ![8192, 1024]⟩ : Shape).Idx → EReal := m ((c : Thread nD τ).loc main_arg1)

/-- Argument 2. -/
def V2 : (⟨2, ![1, 1024]⟩ : Shape).Idx → EReal := m ((c : Thread nD τ).loc main_arg2)

/-- Argument 3. -/
def V3 : (⟨2, ![1, 1024]⟩ : Shape).Idx → EReal := m ((c : Thread nD τ).loc main_arg3)

/-- Argument 4. -/
def V4 : (⟨2, ![1, 1024]⟩ : Shape).Idx → EReal := m ((c : Thread nD τ).loc main_arg4)

/-- Argument 5. -/
def V5 : (⟨2, ![1, 1024]⟩ : Shape).Idx → EReal := m ((c : Thread nD τ).loc main_arg5)

/-- Argument 6. -/
def V6 : (⟨2, ![8192, 1024]⟩ : Shape).Idx → EReal := m ((c : Thread nD τ).loc main_arg6)

/-- Argument 7. -/
def V7 : (⟨2, ![8192, 1024]⟩ : Shape).Idx → EReal := m ((c : Thread nD τ).loc main_arg7)

/-- What a grid point loads of argument 0. -/
theorem blk0 : (iblk m c 0 t : Vec Ideal S512x1024 .f32) (ix2 r k) = V0 m c (ix2 (rowAt t.val r) k) := by
  obtain ⟨ea, eb⟩ := idx0 t
  refine congrArg (m ((c : Thread nD τ).loc main_arg0)) (funext fun a => ?_)
  match a with
  | ⟨0, _⟩ => exact Fin.ext (show win0_0.index t 0 * 512 + 1 * r.val = (15 - t.val) * 512 + r.val by rw [ea]; have := t.isLt; have := hN; omega)
  | ⟨1, _⟩ => exact Fin.ext (show win0_0.index t 1 * 1024 + 1 * k.val = k.val by rw [eb]; omega)

/-- What a grid point loads of argument 1. -/
theorem blk1 : (iblk m c 1 t : Vec Ideal S512x1024 .f32) (ix2 r k) = V1 m c (ix2 (rowAt t.val r) k) := by
  obtain ⟨ea, eb⟩ := idx0 t
  refine congrArg (m ((c : Thread nD τ).loc main_arg1)) (funext fun a => ?_)
  match a with
  | ⟨0, _⟩ => exact Fin.ext (show win0_0.index t 0 * 512 + 1 * r.val = (15 - t.val) * 512 + r.val by rw [ea]; have := t.isLt; have := hN; omega)
  | ⟨1, _⟩ => exact Fin.ext (show win0_0.index t 1 * 1024 + 1 * k.val = k.val by rw [eb]; omega)

/-- What a grid point loads of argument 2. -/
theorem blk2 : (iblk m c 2 t : Vec Ideal S1x1024 .f32) (ix2 0 k) = V2 m c (ix2 0 k) := by
  obtain ⟨ea, eb⟩ := idx2 t
  refine congrArg (m ((c : Thread nD τ).loc main_arg2)) (funext fun a => ?_)
  match a with
  | ⟨0, _⟩ => exact Fin.ext (show win0_2.index t 0 * 1 + 1 * 0 = 0 by rw [ea])
  | ⟨1, _⟩ => exact Fin.ext (show win0_2.index t 1 * 1024 + 1 * k.val = k.val by rw [eb]; omega)

/-- What a grid point loads of argument 3. -/
theorem blk3 : (iblk m c 3 t : Vec Ideal S1x1024 .f32) (ix2 0 k) = V3 m c (ix2 0 k) := by
  obtain ⟨ea, eb⟩ := idx2 t
  refine congrArg (m ((c : Thread nD τ).loc main_arg3)) (funext fun a => ?_)
  match a with
  | ⟨0, _⟩ => exact Fin.ext (show win0_2.index t 0 * 1 + 1 * 0 = 0 by rw [ea])
  | ⟨1, _⟩ => exact Fin.ext (show win0_2.index t 1 * 1024 + 1 * k.val = k.val by rw [eb]; omega)

/-- What a grid point loads of argument 4. -/
theorem blk4 : (iblk m c 4 t : Vec Ideal S1x1024 .f32) (ix2 0 k) = V4 m c (ix2 0 k) := by
  obtain ⟨ea, eb⟩ := idx2 t
  refine congrArg (m ((c : Thread nD τ).loc main_arg4)) (funext fun a => ?_)
  match a with
  | ⟨0, _⟩ => exact Fin.ext (show win0_2.index t 0 * 1 + 1 * 0 = 0 by rw [ea])
  | ⟨1, _⟩ => exact Fin.ext (show win0_2.index t 1 * 1024 + 1 * k.val = k.val by rw [eb]; omega)

/-- What a grid point loads of argument 5. -/
theorem blk5 : (iblk m c 5 t : Vec Ideal S1x1024 .f32) (ix2 0 k) = V5 m c (ix2 0 k) := by
  obtain ⟨ea, eb⟩ := idx2 t
  refine congrArg (m ((c : Thread nD τ).loc main_arg5)) (funext fun a => ?_)
  match a with
  | ⟨0, _⟩ => exact Fin.ext (show win0_2.index t 0 * 1 + 1 * 0 = 0 by rw [ea])
  | ⟨1, _⟩ => exact Fin.ext (show win0_2.index t 1 * 1024 + 1 * k.val = k.val by rw [eb]; omega)

/-- What a grid point loads of argument 6. -/
theorem blk6 : (iblk m c 6 t : Vec Ideal S512x1024 .f32) (ix2 r k) = V6 m c (ix2 (rowAt t.val r) k) := by
  obtain ⟨ea, eb⟩ := idx0 t
  refine congrArg (m ((c : Thread nD τ).loc main_arg6)) (funext fun a => ?_)
  match a with
  | ⟨0, _⟩ => exact Fin.ext (show win0_0.index t 0 * 512 + 1 * r.val = (15 - t.val) * 512 + r.val by rw [ea]; have := t.isLt; have := hN; omega)
  | ⟨1, _⟩ => exact Fin.ext (show win0_0.index t 1 * 1024 + 1 * k.val = k.val by rw [eb]; omega)

/-- What a grid point loads of argument 7. -/
theorem blk7 : (iblk m c 7 t : Vec Ideal S512x1024 .f32) (ix2 r k) = V7 m c (ix2 (rowAt t.val r) k) := by
  obtain ⟨ea, eb⟩ := idx0 t
  refine congrArg (m ((c : Thread nD τ).loc main_arg7)) (funext fun a => ?_)
  match a with
  | ⟨0, _⟩ => exact Fin.ext (show win0_0.index t 0 * 512 + 1 * r.val = (15 - t.val) * 512 + r.val by rw [ea]; have := t.isLt; have := hN; omega)
  | ⟨1, _⟩ => exact Fin.ext (show win0_0.index t 1 * 1024 + 1 * k.val = k.val by rw [eb]; omega)

/-- The block that holds a row. -/
theorem near0 (i : S8192x1024.Idx) (t : Fin cfg0.N) (ht : t.val = 15 - (i 0).val / 512) (a : Fin 2) :
    win0_0.index t a * S512x1024.size a ≤ (i a).val ∧ (i a).val < win0_0.index t a * S512x1024.size a + S512x1024.size a := by
  have h0 : (i 0).val < 8192 := (i 0).isLt
  have h1 : (i 1).val < 1024 := (i 1).isLt
  obtain ⟨ea, eb⟩ := idx0 t
  match a with
  | ⟨0, _⟩ =>
    show win0_0.index t 0 * 512 ≤ (i 0).val ∧ (i 0).val < win0_0.index t 0 * 512 + 512
    rw [ea]; omega
  | ⟨1, _⟩ =>
    show win0_0.index t 1 * 1024 ≤ (i 1).val ∧ (i 1).val < win0_0.index t 1 * 1024 + 1024
    rw [eb]; omega

/-- The one block of a sum over the rows. -/
theorem near2 (i : S1x1024.Idx) (t : Fin cfg0.N) (a : Fin 2) :
    win0_2.index t a * S1x1024.size a ≤ (i a).val ∧ (i a).val < win0_2.index t a * S1x1024.size a + S1x1024.size a := by
  have h0 : (i 0).val < 1 := (i 0).isLt
  have h1 : (i 1).val < 1024 := (i 1).isLt
  obtain ⟨ea, eb⟩ := idx2 t
  match a with
  | ⟨0, _⟩ =>
    show win0_2.index t 0 * 1 ≤ (i 0).val ∧ (i 0).val < win0_2.index t 0 * 1 + 1
    rw [ea]; omega
  | ⟨1, _⟩ =>
    show win0_2.index t 1 * 1024 ≤ (i 1).val ∧ (i 1).val < win0_2.index t 1 * 1024 + 1024
    rw [eb]; omega

/-- An index of a sum over the rows. -/
theorem eqP {z : ℕ} (y : (⟨2, ![1, z]⟩ : Shape).Idx) : y = ix2 (n0 := 1) (n1 := z) 0 (y 1) :=
  (eq_ix2 y).trans (congrArg (ix2 · (y 1)) (Fin.ext (by have : (y 0).val < 1 := (y 0).isLt; show (y 0).val = 0; omega)))

/-- Output 8 after a point. -/
theorem at8 : ((outsAt0 m c t.val t.isLt).1 (ix2 r l) : EReal) = R8 (V0 m c) (V1 m c) (V2 m c) (V3 m c) (V4 m c) (V6 m c) (V7 m c) (rowAt t.val r) l := by
  by_cases h : t.val % 16 = 0
  on_goal 1 => rw [outsAt0_A m c t h]; dsimp only; rw [outs.1]
  on_goal 2 => rw [outsAt0_B m c t h]; dsimp only; rw [outs.2.1]
  all_goals simp only [blk0 m c, blk1 m c, blk2 m c, blk3 m c, blk4 m c, blk6 m c, blk7 m c]; rfl

/-- Output 8 as an array. -/
def G8 : Buf (Elt Ideal) ((c : Thread nD τ).loc main_v0_0) := fun i : S8192x1024.Idx => R8 (V0 m c) (V1 m c) (V2 m c) (V3 m c) (V4 m c) (V6 m c) (V7 m c) (i 0) (i 1)

attribute [local irreducible] R8 in
/-- What a grid point writes back is its block of that array. -/
theorem flushed8 : (dats m 0 c).flushed 8 t = ((cfg0.win 8).blk t).view.read (Elt Ideal) (G8 m c) := by
  obtain ⟨ea, eb⟩ := idx0 t
  rw [Value.flushed8]
  funext y
  refine ((congrArg (outsAt0 m c t.val t.isLt).1 (eq_ix2 y)).trans (at8 m c t (y 0) (y 1))).trans (congrArg₂ (R8 (V0 m c) (V1 m c) (V2 m c) (V3 m c) (V4 m c) (V6 m c) (V7 m c)) (Fin.ext ?_) (Fin.ext ?_))
  · show (15 - t.val) * 512 + (y 0).val = win0_0.index t 0 * 512 + 1 * (y 0).val
    rw [ea]; omega
  · show (y 1).val = win0_0.index t 1 * 1024 + 1 * (y 1).val
    rw [eb]; omega

/-- Every element of the array is in some point's block. -/
theorem cover8 (i : S8192x1024.Idx) : ∃ t : Fin cfg0.N, (cfg0.win 8).flush t = true ∧ i ∈ ((cfg0.win 8).blk t).view.set := by
  obtain ⟨t, ht⟩ : ∃ t : Fin cfg0.N, t.val = 15 - (i 0).val / 512 := ⟨⟨_, by have h0 : (i 0).val < 8192 := (i 0).isLt; have := hN; omega⟩, rfl⟩
  refine ⟨t, flush0_8 _, ?_⟩
  show i ∈ ((View.whole main_v0_0).slice (win0_8.rect t)).set
  rw [View.set_slice_whole, Rect.mem_set_unit]
  exact near0 i t ht

/-- Output 9 after a point. -/
theorem at9 : ((outsAt0 m c t.val t.isLt).2.1 (ix2 r l) : EReal) = R9 (V0 m c) (V1 m c) (V2 m c) (V3 m c) (V4 m c) (V6 m c) (V7 m c) (rowAt t.val r) l := by
  by_cases h : t.val % 16 = 0
  on_goal 1 => rw [outsAt0_A m c t h]; dsimp only; rw [outs.2.2.1]
  on_goal 2 => rw [outsAt0_B m c t h]; dsimp only; rw [outs.2.2.2.1]
  all_goals simp only [blk0 m c, blk1 m c, blk2 m c, blk3 m c, blk4 m c, blk6 m c, blk7 m c]; rfl

/-- Output 9 as an array. -/
def G9 : Buf (Elt Ideal) ((c : Thread nD τ).loc main_v0_1) := fun i : S8192x1024.Idx => R9 (V0 m c) (V1 m c) (V2 m c) (V3 m c) (V4 m c) (V6 m c) (V7 m c) (i 0) (i 1)

attribute [local irreducible] R9 in
/-- What a grid point writes back is its block of that array. -/
theorem flushed9 : (dats m 0 c).flushed 9 t = ((cfg0.win 9).blk t).view.read (Elt Ideal) (G9 m c) := by
  obtain ⟨ea, eb⟩ := idx0 t
  rw [Value.flushed9]
  funext y
  refine ((congrArg (outsAt0 m c t.val t.isLt).2.1 (eq_ix2 y)).trans (at9 m c t (y 0) (y 1))).trans (congrArg₂ (R9 (V0 m c) (V1 m c) (V2 m c) (V3 m c) (V4 m c) (V6 m c) (V7 m c)) (Fin.ext ?_) (Fin.ext ?_))
  · show (15 - t.val) * 512 + (y 0).val = win0_0.index t 0 * 512 + 1 * (y 0).val
    rw [ea]; omega
  · show (y 1).val = win0_0.index t 1 * 1024 + 1 * (y 1).val
    rw [eb]; omega

/-- Every element of the array is in some point's block. -/
theorem cover9 (i : S8192x1024.Idx) : ∃ t : Fin cfg0.N, (cfg0.win 9).flush t = true ∧ i ∈ ((cfg0.win 9).blk t).view.set := by
  obtain ⟨t, ht⟩ : ∃ t : Fin cfg0.N, t.val = 15 - (i 0).val / 512 := ⟨⟨_, by have h0 : (i 0).val < 8192 := (i 0).isLt; have := hN; omega⟩, rfl⟩
  refine ⟨t, flush0_9 _, ?_⟩
  show i ∈ ((View.whole main_v0_1).slice (win0_9.rect t)).set
  rw [View.set_slice_whole, Rect.mem_set_unit]
  exact near0 i t ht

/-- Output 10 after a point: the sum over the rows visited. -/
theorem at10 (l : Fin 1024) : ∀ (n : ℕ) (h : n < cfg0.N), ((outsAt0 m c n h).2.2.1 (ix2 0 l) : EReal)
    = ∑ b ∈ Finset.range (n + 1), ∑ r : Fin 512, P10 (V0 m c) (V1 m c) (V2 m c) (V3 m c) (V4 m c) (V6 m c) (V7 m c) (rowAt b r) l := by
  intro n
  induction n with
  | zero =>
    intro h
    rw [outsAt0_A m c ⟨0, h⟩ rfl]
    dsimp only
    rw [outs.2.2.2.2.1, Finset.sum_range_one]
    simp only [blk0 m c, blk1 m c, blk2 m c, blk3 m c, blk4 m c, blk6 m c, blk7 m c]
    rfl
  | succ n ih =>
    intro h
    rw [outsAt0_B m c ⟨n + 1, h⟩ (by have := hN; dsimp only; omega)]
    dsimp only
    rw [outs.2.2.2.2.2.1, Finset.sum_range_succ, ← ih (by omega)]
    simp only [blk0 m c, blk1 m c, blk2 m c, blk3 m c, blk4 m c, blk6 m c, blk7 m c]
    rfl

/-- Output 10 as an array. -/
def G10 : Buf (Elt Ideal) ((c : Thread nD τ).loc main_v0_2) := fun i : S1x1024.Idx => T10 (V0 m c) (V1 m c) (V2 m c) (V3 m c) (V4 m c) (V6 m c) (V7 m c) (i 1)

attribute [local irreducible] T10 in
/-- The last point writes it back. -/
theorem flushed10 (hf : (cfg0.win 10).flush t = true) : (dats m 0 c).flushed 10 t = ((cfg0.win 10).blk t).view.read (Elt Ideal) (G10 m c) := by
  have ht : t.val = 15 := by have := (flush0_10 t).1 hf; have := hN; have := t.isLt; omega
  obtain ⟨ea, eb⟩ := idx2 t
  rw [Value.flushed10]
  funext y
  have e : ((outsAt0 m c t.val t.isLt).2.2.1 y : EReal) = T10 (V0 m c) (V1 m c) (V2 m c) (V3 m c) (V4 m c) (V6 m c) (V7 m c) (y 1) := by
    refine (congrArg (outsAt0 m c t.val t.isLt).2.2.1 (eqP y)).trans ((at10 m c (y 1) t.val t.isLt).trans ?_)
    rw [ht]
    unfold T10
    exact sum_rows fun n => P10 (V0 m c) (V1 m c) (V2 m c) (V3 m c) (V4 m c) (V6 m c) (V7 m c) n (y 1)
  refine e.trans (congrArg (T10 (V0 m c) (V1 m c) (V2 m c) (V3 m c) (V4 m c) (V6 m c) (V7 m c)) (Fin.ext ?_))
  show (y 1).val = win0_2.index t 1 * 1024 + 1 * (y 1).val
  rw [eb]; omega

/-- Its one block is the whole array. -/
theorem cover10 (i : S1x1024.Idx) : ∃ t : Fin cfg0.N, (cfg0.win 10).flush t = true ∧ i ∈ ((cfg0.win 10).blk t).view.set := by
  obtain ⟨t, ht⟩ : ∃ t : Fin cfg0.N, t.val = 15 := ⟨⟨_, by have := hN; omega⟩, rfl⟩
  refine ⟨t, (flush0_10 _).2 (by rw [ht]), ?_⟩
  show i ∈ ((View.whole main_v0_2).slice (win0_10.rect t)).set
  rw [View.set_slice_whole, Rect.mem_set_unit]
  exact near2 i t

/-- Output 11 after a point: the sum over the rows visited. -/
theorem at11 (l : Fin 1024) : ∀ (n : ℕ) (h : n < cfg0.N), ((outsAt0 m c n h).2.2.2.1 (ix2 0 l) : EReal)
    = ∑ b ∈ Finset.range (n + 1), ∑ r : Fin 512, P11 (V0 m c) (V1 m c) (V2 m c) (V4 m c) (V7 m c) (rowAt b r) l := by
  intro n
  induction n with
  | zero =>
    intro h
    rw [outsAt0_A m c ⟨0, h⟩ rfl]
    dsimp only
    rw [outs.2.2.2.2.2.2.1, Finset.sum_range_one]
    simp only [blk0 m c, blk1 m c, blk2 m c, blk4 m c, blk7 m c]
    rfl
  | succ n ih =>
    intro h
    rw [outsAt0_B m c ⟨n + 1, h⟩ (by have := hN; dsimp only; omega)]
    dsimp only
    rw [outs.2.2.2.2.2.2.2.1, Finset.sum_range_succ, ← ih (by omega)]
    simp only [blk0 m c, blk1 m c, blk2 m c, blk4 m c, blk7 m c]
    rfl

/-- Output 11 as an array. -/
def G11 : Buf (Elt Ideal) ((c : Thread nD τ).loc main_v0_3) := fun i : S1x1024.Idx => T11 (V0 m c) (V1 m c) (V2 m c) (V4 m c) (V7 m c) (i 1)

attribute [local irreducible] T11 in
/-- The last point writes it back. -/
theorem flushed11 (hf : (cfg0.win 11).flush t = true) : (dats m 0 c).flushed 11 t = ((cfg0.win 11).blk t).view.read (Elt Ideal) (G11 m c) := by
  have ht : t.val = 15 := by have := (flush0_11 t).1 hf; have := hN; have := t.isLt; omega
  obtain ⟨ea, eb⟩ := idx2 t
  rw [Value.flushed11]
  funext y
  have e : ((outsAt0 m c t.val t.isLt).2.2.2.1 y : EReal) = T11 (V0 m c) (V1 m c) (V2 m c) (V4 m c) (V7 m c) (y 1) := by
    refine (congrArg (outsAt0 m c t.val t.isLt).2.2.2.1 (eqP y)).trans ((at11 m c (y 1) t.val t.isLt).trans ?_)
    rw [ht]
    unfold T11
    exact sum_rows fun n => P11 (V0 m c) (V1 m c) (V2 m c) (V4 m c) (V7 m c) n (y 1)
  refine e.trans (congrArg (T11 (V0 m c) (V1 m c) (V2 m c) (V4 m c) (V7 m c)) (Fin.ext ?_))
  show (y 1).val = win0_2.index t 1 * 1024 + 1 * (y 1).val
  rw [eb]; omega

/-- Its one block is the whole array. -/
theorem cover11 (i : S1x1024.Idx) : ∃ t : Fin cfg0.N, (cfg0.win 11).flush t = true ∧ i ∈ ((cfg0.win 11).blk t).view.set := by
  obtain ⟨t, ht⟩ : ∃ t : Fin cfg0.N, t.val = 15 := ⟨⟨_, by have := hN; omega⟩, rfl⟩
  refine ⟨t, (flush0_11 _).2 (by rw [ht]), ?_⟩
  show i ∈ ((View.whole main_v0_3).slice (win0_11.rect t)).set
  rw [View.set_slice_whole, Rect.mem_set_unit]
  exact near2 i t

/-- Output 12 after a point: the sum over the rows visited. -/
theorem at12 (l : Fin 1024) : ∀ (n : ℕ) (h : n < cfg0.N), ((outsAt0 m c n h).2.2.2.2.1 (ix2 0 l) : EReal)
    = ∑ b ∈ Finset.range (n + 1), ∑ r : Fin 512, P12 (V0 m c) (V1 m c) (V2 m c) (V3 m c) (V7 m c) (rowAt b r) l := by
  intro n
  induction n with
  | zero =>
    intro h
    rw [outsAt0_A m c ⟨0, h⟩ rfl]
    dsimp only
    rw [outs.2.2.2.2.2.2.2.2.1, Finset.sum_range_one]
    simp only [blk0 m c, blk1 m c, blk2 m c, blk3 m c, blk7 m c]
    rfl
  | succ n ih =>
    intro h
    rw [outsAt0_B m c ⟨n + 1, h⟩ (by have := hN; dsimp only; omega)]
    dsimp only
    rw [outs.2.2.2.2.2.2.2.2.2.1, Finset.sum_range_succ, ← ih (by omega)]
    simp only [blk0 m c, blk1 m c, blk2 m c, blk3 m c, blk7 m c]
    rfl

/-- Output 12 as an array. -/
def G12 : Buf (Elt Ideal) ((c : Thread nD τ).loc main_v0_4) := fun i : S1x1024.Idx => T12 (V0 m c) (V1 m c) (V2 m c) (V3 m c) (V7 m c) (i 1)

attribute [local irreducible] T12 in
/-- The last point writes it back. -/
theorem flushed12 (hf : (cfg0.win 12).flush t = true) : (dats m 0 c).flushed 12 t = ((cfg0.win 12).blk t).view.read (Elt Ideal) (G12 m c) := by
  have ht : t.val = 15 := by have := (flush0_12 t).1 hf; have := hN; have := t.isLt; omega
  obtain ⟨ea, eb⟩ := idx2 t
  rw [Value.flushed12]
  funext y
  have e : ((outsAt0 m c t.val t.isLt).2.2.2.2.1 y : EReal) = T12 (V0 m c) (V1 m c) (V2 m c) (V3 m c) (V7 m c) (y 1) := by
    refine (congrArg (outsAt0 m c t.val t.isLt).2.2.2.2.1 (eqP y)).trans ((at12 m c (y 1) t.val t.isLt).trans ?_)
    rw [ht]
    unfold T12
    exact sum_rows fun n => P12 (V0 m c) (V1 m c) (V2 m c) (V3 m c) (V7 m c) n (y 1)
  refine e.trans (congrArg (T12 (V0 m c) (V1 m c) (V2 m c) (V3 m c) (V7 m c)) (Fin.ext ?_))
  show (y 1).val = win0_2.index t 1 * 1024 + 1 * (y 1).val
  rw [eb]; omega

/-- Its one block is the whole array. -/
theorem cover12 (i : S1x1024.Idx) : ∃ t : Fin cfg0.N, (cfg0.win 12).flush t = true ∧ i ∈ ((cfg0.win 12).blk t).view.set := by
  obtain ⟨t, ht⟩ : ∃ t : Fin cfg0.N, t.val = 15 := ⟨⟨_, by have := hN; omega⟩, rfl⟩
  refine ⟨t, (flush0_12 _).2 (by rw [ht]), ?_⟩
  show i ∈ ((View.whole main_v0_4).slice (win0_12.rect t)).set
  rw [View.set_slice_whole, Rect.mem_set_unit]
  exact near2 i t

/-- Output 13 after a point: the sum over the rows visited. -/
theorem at13 (l : Fin 1024) : ∀ (n : ℕ) (h : n < cfg0.N), ((outsAt0 m c n h).2.2.2.2.2 (ix2 0 l) : EReal)
    = ∑ b ∈ Finset.range (n + 1), ∑ r : Fin 512, P13 (V7 m c) (rowAt b r) l := by
  intro n
  induction n with
  | zero =>
    intro h
    rw [outsAt0_A m c ⟨0, h⟩ rfl]
    dsimp only
    rw [outs.2.2.2.2.2.2.2.2.2.2.1, Finset.sum_range_one]
    simp only [blk7 m c]
    rfl
  | succ n ih =>
    intro h
    rw [outsAt0_B m c ⟨n + 1, h⟩ (by have := hN; dsimp only; omega)]
    dsimp only
    rw [outs.2.2.2.2.2.2.2.2.2.2.2, Finset.sum_range_succ, ← ih (by omega)]
    simp only [blk7 m c]
    rfl

/-- Output 13 as an array. -/
def G13 : Buf (Elt Ideal) ((c : Thread nD τ).loc main_v0_5) := fun i : S1x1024.Idx => T13 (V7 m c) (i 1)

attribute [local irreducible] T13 in
/-- The last point writes it back. -/
theorem flushed13 (hf : (cfg0.win 13).flush t = true) : (dats m 0 c).flushed 13 t = ((cfg0.win 13).blk t).view.read (Elt Ideal) (G13 m c) := by
  have ht : t.val = 15 := by have := (flush0_13 t).1 hf; have := hN; have := t.isLt; omega
  obtain ⟨ea, eb⟩ := idx2 t
  rw [Value.flushed13]
  funext y
  have e : ((outsAt0 m c t.val t.isLt).2.2.2.2.2 y : EReal) = T13 (V7 m c) (y 1) := by
    refine (congrArg (outsAt0 m c t.val t.isLt).2.2.2.2.2 (eqP y)).trans ((at13 m c (y 1) t.val t.isLt).trans ?_)
    rw [ht]
    unfold T13
    exact sum_rows fun n => P13 (V7 m c) n (y 1)
  refine e.trans (congrArg (T13 (V7 m c)) (Fin.ext ?_))
  show (y 1).val = win0_2.index t 1 * 1024 + 1 * (y 1).val
  rw [eb]; omega

/-- Its one block is the whole array. -/
theorem cover13 (i : S1x1024.Idx) : ∃ t : Fin cfg0.N, (cfg0.win 13).flush t = true ∧ i ∈ ((cfg0.win 13).blk t).view.set := by
  obtain ⟨t, ht⟩ : ∃ t : Fin cfg0.N, t.val = 15 := ⟨⟨_, by have := hN; omega⟩, rfl⟩
  refine ⟨t, (flush0_13 _).2 (by rw [ht]), ?_⟩
  show i ∈ ((View.whole main_v0_5).slice (win0_13.rect t)).set
  rw [View.set_slice_whole, Rect.mem_set_unit]
  exact near2 i t

end kernel

/-- The frames: the generated runs. -/
theorem frame_k : Cert.quiescent_PostBKernel := fun m ρ _ => Cert.PostBKernel.Gen.frame m ρ
/-- … of the idealized kernel, -/
theorem frame_ki : Cert.quiescent_PostBKernelIdeal := fun m ρ _ => Cert.PostBKernelIdeal.Gen.frame m ρ
/-- … and of the reference, which has no semaphore. -/
theorem frame_r : Cert.quiescent_PostBReferenceIdeal := fun m ρ _ =>
  (θ_run Cert.PostBReferenceIdeal.defs _ _).mono (fun r h => ⟨fun c => (h c).2.2.2.2.2.2, Idealize.ShloMosaic.sem_eq_zero_of_no_sems (by decide) r.2⟩)
    (Cert.PostBReferenceIdeal.Value.run (F := Ideal) m ρ)

set_option maxHeartbeats 4000000 in
/-- The kernel's results and the reference's are the same arrays. -/
theorem algebraic : Cert.algebraic_PostBKernelIdeal_PostBReferenceIdeal := by
  intro m ρ m' ρ' _ hagree
  refine ⟨fun c => G8 m c, fun c => G9 m c, fun c => G10 m c, fun c => G11 m c, fun c => G12 m c, fun c => G13 m c, ?_, ?_⟩
  · refine (θ_run defs _ _).mono (fun _ h c => ?_) (Value.run_blocks (F := Ideal) m ρ)
    obtain ⟨h8, h9, h10, h11, h12, h13, hk⟩ := h c
    exact ⟨h8.trans ((dats m 0 c).arrAt_eq_of_cover 8 (G8 m c) (fun t _ => flushed8 m c t) cover8), h9.trans ((dats m 0 c).arrAt_eq_of_cover 9 (G9 m c) (fun t _ => flushed9 m c t) cover9), h10.trans ((dats m 0 c).arrAt_eq_of_cover 10 (G10 m c) (flushed10 m c) cover10), h11.trans ((dats m 0 c).arrAt_eq_of_cover 11 (G11 m c) (flushed11 m c) cover11), h12.trans ((dats m 0 c).arrAt_eq_of_cover 12 (G12 m c) (flushed12 m c) cover12), h13.trans ((dats m 0 c).arrAt_eq_of_cover 13 (G13 m c) (flushed13 m c) cover13), hk⟩
  refine (θ_run Cert.PostBReferenceIdeal.defs _ _).mono (fun _ h c => ?_) (Cert.PostBReferenceIdeal.Value.run (F := Ideal) m' ρ')
  obtain ⟨a0, a1, a2, a3, a4, a5, a6, a7⟩ := hagree c
  obtain ⟨h8, h9, h10, h11, h12, h13, hk⟩ := h c
  refine ⟨h8.trans (funext fun i => ?_), h9.trans (funext fun i => ?_), h10.trans (funext fun i => ?_), h11.trans (funext fun i => ?_), h12.trans (funext fun i => ?_), h13.trans (funext fun i => ?_), hk⟩
  · obtain ⟨n, l, rfl⟩ : ∃ n l, i = ix2 n l := ⟨_, _, eq_ix2 i⟩
    unfold Cert.PostBReferenceIdeal.Value.res_main_v51
    refine Eq.trans (b := (R8 (m' (c.tc.loc Cert.PostBReferenceIdeal.main_arg0)) (m' (c.tc.loc Cert.PostBReferenceIdeal.main_arg1)) (m' (c.tc.loc Cert.PostBReferenceIdeal.main_arg2)) (m' (c.tc.loc Cert.PostBReferenceIdeal.main_arg3)) (m' (c.tc.loc Cert.PostBReferenceIdeal.main_arg4)) (m' (c.tc.loc Cert.PostBReferenceIdeal.main_arg6)) (m' (c.tc.loc Cert.PostBReferenceIdeal.main_arg7)) n l : EReal)) ?_ (by rw [a0, a1, a2, a3, a4, a6, a7]; rfl)
    unfold R8
    pointwise
    all_goals try simp only [ms, nrm, dn, dms, dxRow, dwRow, dscRow, NormSpec.res, Finset.univ_unique, Finset.sum_singleton, zero_add]
  · obtain ⟨n, l, rfl⟩ : ∃ n l, i = ix2 n l := ⟨_, _, eq_ix2 i⟩
    unfold Cert.PostBReferenceIdeal.Value.res_main_v58
    refine Eq.trans (b := (R9 (m' (c.tc.loc Cert.PostBReferenceIdeal.main_arg0)) (m' (c.tc.loc Cert.PostBReferenceIdeal.main_arg1)) (m' (c.tc.loc Cert.PostBReferenceIdeal.main_arg2)) (m' (c.tc.loc Cert.PostBReferenceIdeal.main_arg3)) (m' (c.tc.loc Cert.PostBReferenceIdeal.main_arg4)) (m' (c.tc.loc Cert.PostBReferenceIdeal.main_arg6)) (m' (c.tc.loc Cert.PostBReferenceIdeal.main_arg7)) n l : EReal)) ?_ (by rw [a0, a1, a2, a3, a4, a6, a7]; rfl)
    unfold R9
    pointwise
    all_goals try simp only [ms, nrm, dn, dms, dxRow, dwRow, dscRow, NormSpec.res, Finset.univ_unique, Finset.sum_singleton, zero_add]
  · obtain ⟨n, l, rfl⟩ : ∃ n l, i = ix2 n l := ⟨_, _, eq_ix2 i⟩
    unfold Cert.PostBReferenceIdeal.Value.res_main_v57
    obtain rfl : n = 0 := Subsingleton.elim _ _
    refine Eq.trans (b := T10 (m' (c.tc.loc Cert.PostBReferenceIdeal.main_arg0)) (m' (c.tc.loc Cert.PostBReferenceIdeal.main_arg1)) (m' (c.tc.loc Cert.PostBReferenceIdeal.main_arg2)) (m' (c.tc.loc Cert.PostBReferenceIdeal.main_arg3)) (m' (c.tc.loc Cert.PostBReferenceIdeal.main_arg4)) (m' (c.tc.loc Cert.PostBReferenceIdeal.main_arg6)) (m' (c.tc.loc Cert.PostBReferenceIdeal.main_arg7)) l) ?_ (by rw [a0, a1, a2, a3, a4, a6, a7]; rfl)
    unfold T10 P10
    pointwise
    all_goals try simp only [ms, nrm, dn, dms, dxRow, dwRow, dscRow, NormSpec.res, Finset.univ_unique, Finset.sum_singleton, zero_add]
  · obtain ⟨n, l, rfl⟩ : ∃ n l, i = ix2 n l := ⟨_, _, eq_ix2 i⟩
    obtain rfl : n = 0 := Subsingleton.elim _ _
    refine Eq.trans (b := T11 (m' (c.tc.loc Cert.PostBReferenceIdeal.main_arg0)) (m' (c.tc.loc Cert.PostBReferenceIdeal.main_arg1)) (m' (c.tc.loc Cert.PostBReferenceIdeal.main_arg2)) (m' (c.tc.loc Cert.PostBReferenceIdeal.main_arg4)) (m' (c.tc.loc Cert.PostBReferenceIdeal.main_arg7)) l) ?_ (by rw [a0, a1, a2, a4, a7]; rfl)
    unfold T11 P11
    pointwise
    all_goals try simp only [ms, nrm, dn, dms, dxRow, dwRow, dscRow, NormSpec.res, Finset.univ_unique, Finset.sum_singleton, zero_add]
  · obtain ⟨n, l, rfl⟩ : ∃ n l, i = ix2 n l := ⟨_, _, eq_ix2 i⟩
    obtain rfl : n = 0 := Subsingleton.elim _ _
    refine Eq.trans (b := T12 (m' (c.tc.loc Cert.PostBReferenceIdeal.main_arg0)) (m' (c.tc.loc Cert.PostBReferenceIdeal.main_arg1)) (m' (c.tc.loc Cert.PostBReferenceIdeal.main_arg2)) (m' (c.tc.loc Cert.PostBReferenceIdeal.main_arg3)) (m' (c.tc.loc Cert.PostBReferenceIdeal.main_arg7)) l) ?_ (by rw [a0, a1, a2, a3, a7]; rfl)
    unfold T12 P12
    pointwise
    all_goals try simp only [ms, nrm, dn, dms, dxRow, dwRow, dscRow, NormSpec.res, Finset.univ_unique, Finset.sum_singleton, zero_add]
  · obtain ⟨n, l, rfl⟩ : ∃ n l, i = ix2 n l := ⟨_, _, eq_ix2 i⟩
    obtain rfl : n = 0 := Subsingleton.elim _ _
    refine Eq.trans (b := T13 (m' (c.tc.loc Cert.PostBReferenceIdeal.main_arg7)) l) ?_ (by rw [a7]; rfl)
    unfold T13 P13
    pointwise
    all_goals try simp only [ms, nrm, dn, dms, dxRow, dwRow, dscRow, NormSpec.res, Finset.univ_unique, Finset.sum_singleton, zero_add]

end Cert.PostB

end
-- ==== Proof.PostBZero.lean ====
/-
  The gradient of the first gated residual of layer 0 and of the norm that follows it (`l0_b_post`): the call's program is that of `PostB` under another name, so what is proved of the one holds of the other.
-/
module

public import proofs.«01_k».proof.Defs
public import proofs.«01_k».proof.Proof.PostB
public import proofs.«01_k».proof.Proof.Gen.PostBZeroKernel.Frame
public import proofs.«01_k».proof.Proof.Gen.PostBZeroKernelIdeal.Frame

@[expose] public section

namespace Cert.PostBZero

open Idealize.ShloMosaic

/-- The frames: the generated runs. -/
theorem frame_k : Cert.quiescent_PostBZeroKernel := fun m ρ _ => Cert.PostBZeroKernel.Gen.frame m ρ
/-- … of the idealized kernel. -/
theorem frame_ki : Cert.quiescent_PostBZeroKernelIdeal := fun m ρ _ => Cert.PostBZeroKernelIdeal.Gen.frame m ρ

/-- The two calls have one body. -/
theorem bodies : @Cert.PostBZeroKernelIdeal.defs₀ Ideal _ _ = @Cert.PostBKernelIdeal.defs₀ Ideal _ _ :=
  congrArg Defs.onTc (funext fun l => funext fun a => match l, a with | ⟨0, _⟩, (_, _) => rfl)

/-- … and one pipeline around it. -/
theorem programs : @Cert.PostBZeroKernelIdeal.defs Ideal _ _ = @Cert.PostBKernelIdeal.defs Ideal _ _ :=
  congrArg (Pipeline.defs Cert.PostBKernelIdeal.pcfgs) bodies

/-- The kernel's results and the reference's are the same arrays. -/
theorem algebraic : Cert.algebraic_PostBZeroKernelIdeal_PostBReferenceIdeal := by
  intro m ρ m' ρ' hp ha
  obtain ⟨v0, v1, v2, v3, v4, v5, h1, h2⟩ := Cert.PostB.algebraic m ρ m' ρ' hp ha
  refine ⟨v0, v1, v2, v3, v4, v5, ?_, h2⟩
  rw [programs]
  exact h1

end Cert.PostBZero

end
-- ==== Proof.ResPreBZero.lean ====
/-
  The gradient of the second gated residual of layer 0 and of the first norm of layer 1 (`l0_b_res_pre`): the call's program is that of `PostB` under another name, so what is proved of the one holds of the other.
-/
module

public import proofs.«01_k».proof.Defs
public import proofs.«01_k».proof.Proof.PostB
public import proofs.«01_k».proof.Proof.Gen.ResPreBZeroKernel.Frame
public import proofs.«01_k».proof.Proof.Gen.ResPreBZeroKernelIdeal.Frame

@[expose] public section

namespace Cert.ResPreBZero

open Idealize.ShloMosaic

/-- The frames: the generated runs. -/
theorem frame_k : Cert.quiescent_ResPreBZeroKernel := fun m ρ _ => Cert.ResPreBZeroKernel.Gen.frame m ρ
/-- … of the idealized kernel. -/
theorem frame_ki : Cert.quiescent_ResPreBZeroKernelIdeal := fun m ρ _ => Cert.ResPreBZeroKernelIdeal.Gen.frame m ρ

/-- The two calls have one body. -/
theorem bodies : @Cert.ResPreBZeroKernelIdeal.defs₀ Ideal _ _ = @Cert.PostBKernelIdeal.defs₀ Ideal _ _ :=
  congrArg Defs.onTc (funext fun l => funext fun a => match l, a with | ⟨0, _⟩, (_, _) => rfl)

/-- … and one pipeline around it. -/
theorem programs : @Cert.ResPreBZeroKernelIdeal.defs Ideal _ _ = @Cert.PostBKernelIdeal.defs Ideal _ _ :=
  congrArg (Pipeline.defs Cert.PostBKernelIdeal.pcfgs) bodies

/-- The kernel's results and the reference's are the same arrays. -/
theorem algebraic : Cert.algebraic_ResPreBZeroKernelIdeal_PostBReferenceIdeal := by
  intro m ρ m' ρ' hp ha
  obtain ⟨v0, v1, v2, v3, v4, v5, h1, h2⟩ := Cert.PostB.algebraic m ρ m' ρ' hp ha
  refine ⟨v0, v1, v2, v3, v4, v5, ?_, h2⟩
  rw [programs]
  exact h1

end Cert.ResPreBZero

end
-- ==== Proof.ResB.lean ====
/-
  The gradient of a gated residual (`l1_b_res`): the rows' gradients are computed with their block, whose grid runs from the last
  block of rows to the first, and the gradient of the gate is added up over the blocks.
-/
module

public import proofs.«01_k».proof.Defs
public import proofs.«01_k».proof.Proof.Common
public import proofs.«01_k».proof.Proof.NormSpec
public import proofs.«01_k».proof.Proof.Gen.ResBKernel.Frame
public import proofs.«01_k».proof.Proof.Gen.ResBKernelIdeal.Value
public import proofs.«01_k».proof.Proof.Gen.ResBReferenceIdeal.Run
public import Idealize.ShloMosaic.Lib.Quiescent
public import Idealize.ShloMosaic.Lib.Tactic
public import Idealize.ShloMosaic.Lib.Pointwise

@[expose] public section

noncomputable section

namespace Cert.ResB

open Idealize.ShloMosaic Idealize.ShloMosaic.TcCoe Idealize.SL.Sem Cert.Common Cert.NormSpec

section spec

variable (A0 : (⟨2, ![8192, 1024]⟩ : Shape).Idx → EReal) (A1 : (⟨2, ![8192, 1024]⟩ : Shape).Idx → EReal) (A2 : (⟨2, ![1, 1024]⟩ : Shape).Idx → EReal) (A3 : (⟨2, ![8192, 1024]⟩ : Shape).Idx → EReal) (n : Fin 8192)

/-- The gradient of the residual. -/
def R4 (l : Fin 1024) : EReal := A3 (ix2 n l)

/-- The gradient of the gated rows. -/
def R5 (l : Fin 1024) : EReal := A2 (ix2 0 l) * A3 (ix2 n l)

/-- A row's part of the gradient of the gate. -/
def P6 (l : Fin 1024) : EReal := A3 (ix2 n l) * A1 (ix2 n l)

/-- The sum over the rows. -/
def T6 (l : Fin 1024) : EReal := ∑ n, P6 A1 A3 n l

end spec

open Cert.ResBKernelIdeal Cert.ResBKernelIdeal.Gen

section point

variable {c : Dev nD} {i : grid0.Coords}
  {a1 : Memref sig .tc .vmem S512x1024 .f32} {h1 : a1.IsWhole}
  {a2 : Memref sig .tc .vmem S512x1024 .f32} {h2 : a2.IsWhole}
  {a3 : Memref sig .tc .vmem S1x1024 .f32} {h3 : a3.IsWhole}
  {a4 : Memref sig .tc .vmem S512x1024 .f32} {h4 : a4.IsWhole}
  {a5 : Memref sig .tc .vmem S512x1024 .f32} {h5 : a5.IsWhole}
  {a6 : Memref sig .tc .vmem S512x1024 .bf16} {h6 : a6.IsWhole}
  {a7 : Memref sig .tc .vmem S1x1024 .f32} {h7 : a7.IsWhole}
  {x0 : Vec Ideal S512x1024 .f32} {x1 : Vec Ideal S512x1024 .f32} {x2 : Vec Ideal S1x1024 .f32} {x3 : Vec Ideal S512x1024 .f32}

/-- The outputs of a first point and of a later one, element by element. -/
theorem outs :
    (∀ r l hc, (out0_A_4 c i a1 h1 a2 h2 a3 h3 a4 h4 a5 h5 a6 h6 a7 h7 hc x0 x1 x2 x3 (ix2 r l) : EReal) = x3 (ix2 r l))
    ∧ (∀ (g2 : Vec Ideal S1x1024 .f32) r l hc, (out0_B_4 c i a1 h1 a2 h2 a3 h3 a4 h4 a5 h5 a6 h6 a7 h7 hc x0 x1 x2 x3 g2 (ix2 r l) : EReal) = x3 (ix2 r l))
    ∧ (∀ r l hc, (out0_A_5 c i a1 h1 a2 h2 a3 h3 a4 h4 a5 h5 a6 h6 a7 h7 hc x0 x1 x2 x3 (ix2 r l) : EReal) = x2 (ix2 0 l) * x3 (ix2 r l))
    ∧ (∀ (g2 : Vec Ideal S1x1024 .f32) r l hc, (out0_B_5 c i a1 h1 a2 h2 a3 h3 a4 h4 a5 h5 a6 h6 a7 h7 hc x0 x1 x2 x3 g2 (ix2 r l) : EReal) = x2 (ix2 0 l) * x3 (ix2 r l))
    ∧ (∀ l hc, (out0_A_6 c i a1 h1 a2 h2 a3 h3 a4 h4 a5 h5 a6 h6 a7 h7 hc x0 x1 x2 x3 (ix2 0 l) : EReal) = ∑ r : Fin 512, x3 (ix2 r l) * x1 (ix2 r l))
    ∧ (∀ (g2 : Vec Ideal S1x1024 .f32) l hc, (out0_B_6 c i a1 h1 a2 h2 a3 h3 a4 h4 a5 h5 a6 h6 a7 h7 hc x0 x1 x2 x3 g2 (ix2 0 l) : EReal) = g2 (ix2 0 l) + ∑ r : Fin 512, x3 (ix2 r l) * x1 (ix2 r l)) := by
  refine ⟨fun r l hc => ?_, fun g2 r l hc => ?_, fun r l hc => ?_, fun g2 r l hc => ?_, fun l hc => ?_, fun g2 l hc => ?_⟩
  on_goal 1 => unfold out0_A_4; rw [View.read_writes_eq_canon _ _ _ (cover0_A_4 c i _ h1 _ h2 _ h3 _ h4 _ h5 _ h6 _ h7 hc x0 x1 x2 x3)]; unfold kernelRun0_A; dsimp only; sl_unfold_words; rw [View.canon_unit_zero (S := S512x1024) hz]
  on_goal 2 => unfold out0_B_4; rw [View.read_writes_eq_canon _ _ _ (cover0_B_4 c i _ h1 _ h2 _ h3 _ h4 _ h5 _ h6 _ h7 hc x0 x1 x2 x3 g2)]; unfold kernelRun0_B; dsimp only; sl_unfold_words; rw [View.canon_unit_zero (S := S512x1024) hz]
  on_goal 3 => unfold out0_A_5; rw [View.read_writes_eq_canon _ _ _ (cover0_A_5 c i _ h1 _ h2 _ h3 _ h4 _ h5 _ h6 _ h7 hc x0 x1 x2 x3)]; unfold kernelRun0_A; dsimp only; sl_unfold_words; rw [View.canon_unit_zero (S := S512x1024) hz]
  on_goal 4 => unfold out0_B_5; rw [View.read_writes_eq_canon _ _ _ (cover0_B_5 c i _ h1 _ h2 _ h3 _ h4 _ h5 _ h6 _ h7 hc x0 x1 x2 x3 g2)]; unfold kernelRun0_B; dsimp only; sl_unfold_words; rw [View.canon_unit_zero (S := S512x1024) hz]
  on_goal 5 => unfold out0_A_6; rw [View.read_writes_eq_canon _ _ _ (cover0_A_6 c i _ h1 _ h2 _ h3 _ h4 _ h5 _ h6 _ h7 hc x0 x1 x2 x3)]; unfold kernelRun0_A; dsimp only; sl_unfold_words; rw [View.canon_cons_unit_zero (S := S1x1024) hz, View.readCov_unit_zero (S := S1x1024) _ hz]
  on_goal 6 => unfold out0_B_6; rw [View.read_writes_eq_canon _ _ _ (cover0_B_6 c i _ h1 _ h2 _ h3 _ h4 _ h5 _ h6 _ h7 hc x0 x1 x2 x3 g2)]; unfold kernelRun0_B; dsimp only; sl_unfold_words; rw [View.canon_unit_zero (S := S1x1024) hz]
  all_goals
    simp only [View.readAt_eq_ld, h1.read_unread, h2.read_unread, h3.read_unread, h4.read_unread, h7.read_unread, View.ld_unit_zero (S := S512x1024) hz, View.ld_unit_zero (S := S1x1024) hz]
    pointwise [k0_pay1, k0_pay2, k0_pay3, k0_pay4]
    all_goals try simp only [ms, nrm, dn, dms, dxRow, dwRow, dscRow, NormSpec.res, Finset.univ_unique, Finset.sum_singleton, zero_add]

end point

section kernel

variable (m : (ℓ : Loc nD τ sig) → Buf (Elt Ideal) ℓ) (c : Dev nD) (t : Fin cfg0.N) (r : Fin 512) (k l : Fin 1024)

/-- The number of grid points. -/
theorem hN : cfg0.N = 16 := N_0

/-- The block of window 0 at a grid point. -/
theorem idx0 : ∀ t : Fin grid0.N, win0_0.index t 0 = 15 - t.val ∧ win0_0.index t 1 = 0 := by decide +kernel

/-- The block of window 2 at a grid point. -/
theorem idx2 : ∀ t : Fin grid0.N, win0_2.index t 0 = 0 ∧ win0_2.index t 1 = 0 := by decide +kernel

/-- Argument 0. -/
def V0 : (⟨2, ![8192, 1024]⟩ : Shape).Idx → EReal := m ((c : Thread nD τ).loc main_arg0)

/-- Argument 1. -/
def V1 : (⟨2, ![8192, 1024]⟩ : Shape).Idx → EReal := m ((c : Thread nD τ).loc main_arg1)

/-- Argument 2. -/
def V2 : (⟨2, ![1, 1024]⟩ : Shape).Idx → EReal := m ((c : Thread nD τ).loc main_arg2)

/-- Argument 3. -/
def V3 : (⟨2, ![8192, 1024]⟩ : Shape).Idx → EReal := m ((c : Thread nD τ).loc main_arg3)

/-- What a grid point loads of argument 0. -/
theorem blk0 : (iblk m c 0 t : Vec Ideal S512x1024 .f32) (ix2 r k) = V0 m c (ix2 (rowAt t.val r) k) := by
  obtain ⟨ea, eb⟩ := idx0 t
  refine congrArg (m ((c : Thread nD τ).loc main_arg0)) (funext fun a => ?_)
  match a with
  | ⟨0, _⟩ => exact Fin.ext (show win0_0.index t 0 * 512 + 1 * r.val = (15 - t.val) * 512 + r.val by rw [ea]; have := t.isLt; have := hN; omega)
  | ⟨1, _⟩ => exact Fin.ext (show win0_0.index t 1 * 1024 + 1 * k.val = k.val by rw [eb]; omega)

/-- What a grid point loads of argument 1. -/
theorem blk1 : (iblk m c 1 t : Vec Ideal S512x1024 .f32) (ix2 r k) = V1 m c (ix2 (rowAt t.val r) k) := by
  obtain ⟨ea, eb⟩ := idx0 t
  refine congrArg (m ((c : Thread nD τ).loc main_arg1)) (funext fun a => ?_)
  match a with
  | ⟨0, _⟩ => exact Fin.ext (show win0_0.index t 0 * 512 + 1 * r.val = (15 - t.val) * 512 + r.val by rw [ea]; have := t.isLt; have := hN; omega)
  | ⟨1, _⟩ => exact Fin.ext (show win0_0.index t 1 * 1024 + 1 * k.val = k.val by rw [eb]; omega)

/-- What a grid point loads of argument 2. -/
theorem blk2 : (iblk m c 2 t : Vec Ideal S1x1024 .f32) (ix2 0 k) = V2 m c (ix2 0 k) := by
  obtain ⟨ea, eb⟩ := idx2 t
  refine congrArg (m ((c : Thread nD τ).loc main_arg2)) (funext fun a => ?_)
  match a with
  | ⟨0, _⟩ => exact Fin.ext (show win0_2.index t 0 * 1 + 1 * 0 = 0 by rw [ea])
  | ⟨1, _⟩ => exact Fin.ext (show win0_2.index t 1 * 1024 + 1 * k.val = k.val by rw [eb]; omega)

/-- What a grid point loads of argument 3. -/
theorem blk3 : (iblk m c 3 t : Vec Ideal S512x1024 .f32) (ix2 r k) = V3 m c (ix2 (rowAt t.val r) k) := by
  obtain ⟨ea, eb⟩ := idx0 t
  refine congrArg (m ((c : Thread nD τ).loc main_arg3)) (funext fun a => ?_)
  match a with
  | ⟨0, _⟩ => exact Fin.ext (show win0_0.index t 0 * 512 + 1 * r.val = (15 - t.val) * 512 + r.val by rw [ea]; have := t.isLt; have := hN; omega)
  | ⟨1, _⟩ => exact Fin.ext (show win0_0.index t 1 * 1024 + 1 * k.val = k.val by rw [eb]; omega)

/-- The block that holds a row. -/
theorem near0 (i : S8192x1024.Idx) (t : Fin cfg0.N) (ht : t.val = 15 - (i 0).val / 512) (a : Fin 2) :
    win0_0.index t a * S512x1024.size a ≤ (i a).val ∧ (i a).val < win0_0.index t a * S512x1024.size a + S512x1024.size a := by
  have h0 : (i 0).val < 8192 := (i 0).isLt
  have h1 : (i 1).val < 1024 := (i 1).isLt
  obtain ⟨ea, eb⟩ := idx0 t
  match a with
  | ⟨0, _⟩ =>
    show win0_0.index t 0 * 512 ≤ (i 0).val ∧ (i 0).val < win0_0.index t 0 * 512 + 512
    rw [ea]; omega
  | ⟨1, _⟩ =>
    show win0_0.index t 1 * 1024 ≤ (i 1).val ∧ (i 1).val < win0_0.index t 1 * 1024 + 1024
    rw [eb]; omega

/-- The one block of a sum over the rows. -/
theorem near2 (i : S1x1024.Idx) (t : Fin cfg0.N) (a : Fin 2) :
    win0_2.index t a * S1x1024.size a ≤ (i a).val ∧ (i a).val < win0_2.index t a * S1x1024.size a + S1x1024.size a := by
  have h0 : (i 0).val < 1 := (i 0).isLt
  have h1 : (i 1).val < 1024 := (i 1).isLt
  obtain ⟨ea, eb⟩ := idx2 t
  match a with
  | ⟨0, _⟩ =>
    show win0_2.index t 0 * 1 ≤ (i 0).val ∧ (i 0).val < win0_2.index t 0 * 1 + 1
    rw [ea]; omega
  | ⟨1, _⟩ =>
    show win0_2.index t 1 * 1024 ≤ (i 1).val ∧ (i 1).val < win0_2.index t 1 * 1024 + 1024
    rw [eb]; omega

/-- An index of a sum over the rows. -/
theorem eqP {z : ℕ} (y : (⟨2, ![1, z]⟩ : Shape).Idx) : y = ix2 (n0 := 1) (n1 := z) 0 (y 1) :=
  (eq_ix2 y).trans (congrArg (ix2 · (y 1)) (Fin.ext (by have : (y 0).val < 1 := (y 0).isLt; show (y 0).val = 0; omega)))

/-- Output 4 after a point. -/
theorem at4 : ((outsAt0 m c t.val t.isLt).1 (ix2 r l) : EReal) = R4 (V3 m c) (rowAt t.val r) l := by
  by_cases h : t.val % 16 = 0
  on_goal 1 => rw [outsAt0_A m c t h]; dsimp only; rw [outs.1]
  on_goal 2 => rw [outsAt0_B m c t h]; dsimp only; rw [outs.2.1]
  all_goals simp only [blk3 m c]; rfl

/-- Output 4 as an array. -/
def G4 : Buf (Elt Ideal) ((c : Thread nD τ).loc main_v0_0) := fun i : S8192x1024.Idx => R4 (V3 m c) (i 0) (i 1)

attribute [local irreducible] R4 in
/-- What a grid point writes back is its block of that array. -/
theorem flushed4 : (dats m 0 c).flushed 4 t = ((cfg0.win 4).blk t).view.read (Elt Ideal) (G4 m c) := by
  obtain ⟨ea, eb⟩ := idx0 t
  rw [Value.flushed4]
  funext y
  refine ((congrArg (outsAt0 m c t.val t.isLt).1 (eq_ix2 y)).trans (at4 m c t (y 0) (y 1))).trans (congrArg₂ (R4 (V3 m c)) (Fin.ext ?_) (Fin.ext ?_))
  · show (15 - t.val) * 512 + (y 0).val = win0_0.index t 0 * 512 + 1 * (y 0).val
    rw [ea]; omega
  · show (y 1).val = win0_0.index t 1 * 1024 + 1 * (y 1).val
    rw [eb]; omega

/-- Every element of the array is in some point's block. -/
theorem cover4 (i : S8192x1024.Idx) : ∃ t : Fin cfg0.N, (cfg0.win 4).flush t = true ∧ i ∈ ((cfg0.win 4).blk t).view.set := by
  obtain ⟨t, ht⟩ : ∃ t : Fin cfg0.N, t.val = 15 - (i 0).val / 512 := ⟨⟨_, by have h0 : (i 0).val < 8192 := (i 0).isLt; have := hN; omega⟩, rfl⟩
  refine ⟨t, flush0_4 _, ?_⟩
  show i ∈ ((View.whole main_v0_0).slice (win0_4.rect t)).set
  rw [View.set_slice_whole, Rect.mem_set_unit]
  exact near0 i t ht

/-- Output 5 after a point. -/
theorem at5 : ((outsAt0 m c t.val t.isLt).2.1 (ix2 r l) : EReal) = R5 (V2 m c) (V3 m c) (rowAt t.val r) l := by
  by_cases h : t.val % 16 = 0
  on_goal 1 => rw [outsAt0_A m c t h]; dsimp only; rw [outs.2.2.1]
  on_goal 2 => rw [outsAt0_B m c t h]; dsimp only; rw [outs.2.2.2.1]
  all_goals simp only [blk2 m c, blk3 m c]; rfl

/-- Output 5 as an array. -/
def G5 : Buf (Elt Ideal) ((c : Thread nD τ).loc main_v0_1) := fun i : S8192x1024.Idx => R5 (V2 m c) (V3 m c) (i 0) (i 1)

attribute [local irreducible] R5 in
/-- What a grid point writes back is its block of that array. -/
theorem flushed5 : (dats m 0 c).flushed 5 t = ((cfg0.win 5).blk t).view.read (Elt Ideal) (G5 m c) := by
  obtain ⟨ea, eb⟩ := idx0 t
  rw [Value.flushed5]
  funext y
  refine ((congrArg (outsAt0 m c t.val t.isLt).2.1 (eq_ix2 y)).trans (at5 m c t (y 0) (y 1))).trans (congrArg₂ (R5 (V2 m c) (V3 m c)) (Fin.ext ?_) (Fin.ext ?_))
  · show (15 - t.val) * 512 + (y 0).val = win0_0.index t 0 * 512 + 1 * (y 0).val
    rw [ea]; omega
  · show (y 1).val = win0_0.index t 1 * 1024 + 1 * (y 1).val
    rw [eb]; omega

/-- Every element of the array is in some point's block. -/
theorem cover5 (i : S8192x1024.Idx) : ∃ t : Fin cfg0.N, (cfg0.win 5).flush t = true ∧ i ∈ ((cfg0.win 5).blk t).view.set := by
  obtain ⟨t, ht⟩ : ∃ t : Fin cfg0.N, t.val = 15 - (i 0).val / 512 := ⟨⟨_, by have h0 : (i 0).val < 8192 := (i 0).isLt; have := hN; omega⟩, rfl⟩
  refine ⟨t, flush0_5 _, ?_⟩
  show i ∈ ((View.whole main_v0_1).slice (win0_5.rect t)).set
  rw [View.set_slice_whole, Rect.mem_set_unit]
  exact near0 i t ht

/-- Output 6 after a point: the sum over the rows visited. -/
theorem at6 (l : Fin 1024) : ∀ (n : ℕ) (h : n < cfg0.N), ((outsAt0 m c n h).2.2 (ix2 0 l) : EReal)
    = ∑ b ∈ Finset.range (n + 1), ∑ r : Fin 512, P6 (V1 m c) (V3 m c) (rowAt b r) l := by
  intro n
  induction n with
  | zero =>
    intro h
    rw [outsAt0_A m c ⟨0, h⟩ rfl]
    dsimp only
    rw [outs.2.2.2.2.1, Finset.sum_range_one]
    simp only [blk1 m c, blk3 m c]
    rfl
  | succ n ih =>
    intro h
    rw [outsAt0_B m c ⟨n + 1, h⟩ (by have := hN; dsimp only; omega)]
    dsimp only
    rw [outs.2.2.2.2.2, Finset.sum_range_succ, ← ih (by omega)]
    simp only [blk1 m c, blk3 m c]
    rfl

/-- Output 6 as an array. -/
def G6 : Buf (Elt Ideal) ((c : Thread nD τ).loc main_v0_2) := fun i : S1x1024.Idx => T6 (V1 m c) (V3 m c) (i 1)

attribute [local irreducible] T6 in
/-- The last point writes it back. -/
theorem flushed6 (hf : (cfg0.win 6).flush t = true) : (dats m 0 c).flushed 6 t = ((cfg0.win 6).blk t).view.read (Elt Ideal) (G6 m c) := by
  have ht : t.val = 15 := by have := (flush0_6 t).1 hf; have := hN; have := t.isLt; omega
  obtain ⟨ea, eb⟩ := idx2 t
  rw [Value.flushed6]
  funext y
  have e : ((outsAt0 m c t.val t.isLt).2.2 y : EReal) = T6 (V1 m c) (V3 m c) (y 1) := by
    refine (congrArg (outsAt0 m c t.val t.isLt).2.2 (eqP y)).trans ((at6 m c (y 1) t.val t.isLt).trans ?_)
    rw [ht]
    unfold T6
    exact sum_rows fun n => P6 (V1 m c) (V3 m c) n (y 1)
  refine e.trans (congrArg (T6 (V1 m c) (V3 m c)) (Fin.ext ?_))
  show (y 1).val = win0_2.index t 1 * 1024 + 1 * (y 1).val
  rw [eb]; omega

/-- Its one block is the whole array. -/
theorem cover6 (i : S1x1024.Idx) : ∃ t : Fin cfg0.N, (cfg0.win 6).flush t = true ∧ i ∈ ((cfg0.win 6).blk t).view.set := by
  obtain ⟨t, ht⟩ : ∃ t : Fin cfg0.N, t.val = 15 := ⟨⟨_, by have := hN; omega⟩, rfl⟩
  refine ⟨t, (flush0_6 _).2 (by rw [ht]), ?_⟩
  show i ∈ ((View.whole main_v0_2).slice (win0_6.rect t)).set
  rw [View.set_slice_whole, Rect.mem_set_unit]
  exact near2 i t

end kernel

/-- The frames: the generated runs. -/
theorem frame_k : Cert.quiescent_ResBKernel := fun m ρ _ => Cert.ResBKernel.Gen.frame m ρ
/-- … of the idealized kernel, -/
theorem frame_ki : Cert.quiescent_ResBKernelIdeal := fun m ρ _ => Cert.ResBKernelIdeal.Gen.frame m ρ
/-- … and of the reference, which has no semaphore. -/
theorem frame_r : Cert.quiescent_ResBReferenceIdeal := fun m ρ _ =>
  (θ_run Cert.ResBReferenceIdeal.defs _ _).mono (fun r h => ⟨fun c => (h c).2.2.2, Idealize.ShloMosaic.sem_eq_zero_of_no_sems (by decide) r.2⟩)
    (Cert.ResBReferenceIdeal.Value.run (F := Ideal) m ρ)

set_option maxHeartbeats 4000000 in
/-- The kernel's results and the reference's are the same arrays. -/
theorem algebraic : Cert.algebraic_ResBKernelIdeal_ResBReferenceIdeal := by
  intro m ρ m' ρ' _ hagree
  refine ⟨fun c => G4 m c, fun c => G5 m c, fun c => G6 m c, ?_, ?_⟩
  · refine (θ_run defs _ _).mono (fun _ h c => ?_) (Value.run_blocks (F := Ideal) m ρ)
    obtain ⟨h4, h5, h6, hk⟩ := h c
    exact ⟨h4.trans ((dats m 0 c).arrAt_eq_of_cover 4 (G4 m c) (fun t _ => flushed4 m c t) cover4), h5.trans ((dats m 0 c).arrAt_eq_of_cover 5 (G5 m c) (fun t _ => flushed5 m c t) cover5), h6.trans ((dats m 0 c).arrAt_eq_of_cover 6 (G6 m c) (flushed6 m c) cover6), hk⟩
  refine (θ_run Cert.ResBReferenceIdeal.defs _ _).mono (fun _ h c => ?_) (Cert.ResBReferenceIdeal.Value.run (F := Ideal) m' ρ')
  obtain ⟨a0, a1, a2, a3⟩ := hagree c
  obtain ⟨h4, h5, h6, hk⟩ := h c
  refine ⟨h4.trans (funext fun i => ?_), h5.trans (funext fun i => ?_), h6.trans (funext fun i => ?_), hk⟩
  · obtain ⟨n, l, rfl⟩ : ∃ n l, i = ix2 n l := ⟨_, _, eq_ix2 i⟩
    refine Eq.trans (b := (R4 (m' (c.tc.loc Cert.ResBReferenceIdeal.main_arg3)) n l : EReal)) ?_ (by rw [a3]; rfl)
    unfold R4
    pointwise
    all_goals try simp only [ms, nrm, dn, dms, dxRow, dwRow, dscRow, NormSpec.res, Finset.univ_unique, Finset.sum_singleton, zero_add]
  · obtain ⟨n, l, rfl⟩ : ∃ n l, i = ix2 n l := ⟨_, _, eq_ix2 i⟩
    refine Eq.trans (b := (R5 (m' (c.tc.loc Cert.ResBReferenceIdeal.main_arg2)) (m' (c.tc.loc Cert.ResBReferenceIdeal.main_arg3)) n l : EReal)) ?_ (by rw [a2, a3]; rfl)
    unfold R5
    pointwise
    all_goals try simp only [ms, nrm, dn, dms, dxRow, dwRow, dscRow, NormSpec.res, Finset.univ_unique, Finset.sum_singleton, zero_add]
  · obtain ⟨n, l, rfl⟩ : ∃ n l, i = ix2 n l := ⟨_, _, eq_ix2 i⟩
    obtain rfl : n = 0 := Subsingleton.elim _ _
    refine Eq.trans (b := T6 (m' (c.tc.loc Cert.ResBReferenceIdeal.main_arg1)) (m' (c.tc.loc Cert.ResBReferenceIdeal.main_arg3)) l) ?_ (by rw [a1, a3]; rfl)
    unfold T6 P6
    pointwise
    all_goals try simp only [ms, nrm, dn, dms, dxRow, dwRow, dscRow, NormSpec.res, Finset.univ_unique, Finset.sum_singleton, zero_add]

end Cert.ResB

end
-- ==== Proof.AdamSpec.lean ====
/-
  One element's step of the optimiser, as the calls and their references both compute it.
-/
module

public import Idealize.ShloMosaic.PureOps.Ideal
public import Idealize.ShloMosaic.PureOps.Ideal.Laws
public import Idealize.ShloMosaic.Lib.Pipeline.Value

@[expose] public section

noncomputable section

namespace Cert.AdamSpec

open Idealize.ShloMosaic

variable (g w m v : EReal)

/-- The offsets of a store or load that starts at the corner of its buffer. -/
theorem hz3 : (![0, 0, 0] : Fin 3 → Nat) = fun _ => 0 := funext fun a => by fin_cases a <;> rfl

/-- A function of three coordinates at equal coordinates. -/
theorem congr3 {A B C D : Type} (f : A → B → C → D) {a a' : A} {b b' : B} {c c' : C} (ha : a = a') (hb : b = b') (hc : c = c') :
    f a b c = f a' b' c' := by
  subst ha hb hc
  rfl

/-- The gradient's running mean. -/
def mn : EReal := Ideal.ofBits .f32 0x3F666666#32 * m + Ideal.ofBits .f32 0x3DCCCCCD#32 * g

/-- The running mean of its square. -/
def vn : EReal := Ideal.ofBits .f32 0x3F7FBE77#32 * v + Ideal.ofBits .f32 0x3A83126F#32 * (g * g)

/-- The step that the weight takes. -/
def delta : EReal :=
  Ideal.ofBits .f32 0xBA83126F#32
    * (Ideal.div (Ideal.div (mn g m) (Ideal.ofBits .f32 0x3F26BD02#32))
        (Ideal.sqrt (Ideal.div (vn g v) (Ideal.ofBits .f32 0x3C231ACC#32)) + Ideal.ofBits .f32 0x322BCC77#32)
      + Ideal.ofBits .f32 0x3C23D70A#32 * w)

end Cert.AdamSpec

end
-- ==== Proof.Post.lean ====
/-
  The gated residual and the norm that follows it (`l1_post`): a grid point computes one tile of rows.
-/
module

public import proofs.«01_k».proof.Defs
public import proofs.«01_k».proof.Proof.Common
public import proofs.«01_k».proof.Proof.NormSpec
public import proofs.«01_k».proof.Proof.AdamSpec
public import proofs.«01_k».proof.Proof.Gen.PostKernel.Frame
public import proofs.«01_k».proof.Proof.Gen.PostKernelIdeal.Value
public import proofs.«01_k».proof.Proof.Gen.PostReferenceIdeal.Run
public import Idealize.ShloMosaic.Lib.Quiescent
public import Idealize.ShloMosaic.Lib.Tactic
public import Idealize.ShloMosaic.Lib.Pointwise

@[expose] public section

noncomputable section

namespace Cert.Post

open Idealize.ShloMosaic Idealize.ShloMosaic.TcCoe Idealize.SL.Sem Cert.Common Cert.NormSpec

section spec

variable (A0 : (⟨2, ![8192, 1024]⟩ : Shape).Idx → EReal) (A1 : (⟨2, ![8192, 1024]⟩ : Shape).Idx → EReal) (A2 : (⟨2, ![1, 1024]⟩ : Shape).Idx → EReal) (A3 : (⟨2, ![1, 1024]⟩ : Shape).Idx → EReal) (A4 : (⟨2, ![1, 1024]⟩ : Shape).Idx → EReal) (A5 : (⟨2, ![1, 1024]⟩ : Shape).Idx → EReal) (n : Fin 8192) (l : Fin 1024)

/-- The residual. -/
def R6 : EReal := NormSpec.res (fun k => A0 (ix2 n k)) (fun k => A2 (ix2 0 k)) (fun k => A1 (ix2 n k)) l

/-- The normalised rows. -/
def R7 : EReal := fwd (NormSpec.res (fun k => A0 (ix2 n k)) (fun k => A2 (ix2 0 k)) (fun k => A1 (ix2 n k))) (fun k => A3 (ix2 0 k)) (fun k => A4 (ix2 0 k)) (fun k => A5 (ix2 0 k)) l

end spec

section kernel

open Cert.PostKernelIdeal Cert.PostKernelIdeal.Gen

variable (m : (ℓ : Loc nD τ sig) → Buf (Elt Ideal) ℓ) (c : Dev nD) (t : Fin cfg0.N) (x0 : Vec Ideal S512x1024 .f32) (x1 : Vec Ideal S512x1024 .f32) (x2 : Vec Ideal S1x1024 .f32) (x3 : Vec Ideal S1x1024 .f32) (x4 : Vec Ideal S1x1024 .f32) (x5 : Vec Ideal S1x1024 .f32) (s : Fin 1) (r : Fin 512) (k l : Fin 1024)

/-- The block of window 0 at a grid point. -/
theorem idx0 : ∀ t : Fin grid0.N, win0_0.index t 0 = t.val ∧ win0_0.index t 1 = 0 := by decide +kernel

/-- The block of window 2 at a grid point. -/
theorem idx2 : ∀ t : Fin grid0.N, win0_2.index t 0 = 0 ∧ win0_2.index t 1 = 0 := by decide +kernel

/-- Argument 0. -/
def V0 : (⟨2, ![8192, 1024]⟩ : Shape).Idx → EReal := m ((c : Thread nD τ).loc main_arg0)

/-- Argument 1. -/
def V1 : (⟨2, ![8192, 1024]⟩ : Shape).Idx → EReal := m ((c : Thread nD τ).loc main_arg1)

/-- Argument 2. -/
def V2 : (⟨2, ![1, 1024]⟩ : Shape).Idx → EReal := m ((c : Thread nD τ).loc main_arg2)

/-- Argument 3. -/
def V3 : (⟨2, ![1, 1024]⟩ : Shape).Idx → EReal := m ((c : Thread nD τ).loc main_arg3)

/-- Argument 4. -/
def V4 : (⟨2, ![1, 1024]⟩ : Shape).Idx → EReal := m ((c : Thread nD τ).loc main_arg4)

/-- Argument 5. -/
def V5 : (⟨2, ![1, 1024]⟩ : Shape).Idx → EReal := m ((c : Thread nD τ).loc main_arg5)

/-- A row of a grid point's tile. -/
def row : Fin 8192 := ⟨t.val * 512 + r.val, by have := r.isLt; have := t.isLt; have : cfg0.N = 16 := N_0; omega⟩

/-- The residual, at a point. -/
theorem out6 : (out0_6 x0 x1 x2 x3 x4 x5 (ix2 r l) : EReal) = NormSpec.res (fun k => x0 (ix2 r k)) (fun k => x2 (ix2 0 k)) (fun k => x1 (ix2 r k)) l := by
  unfold out0_6
  rw [View.canon_unit_zero (S := S512x1024) hz]
  simp only [View.ld_unit_zero (S := S1x1024) hz, View.ld_unit_zero (S := S512x1024) hz]
  pointwise [k0_pay1, k0_pay2]
  all_goals try simp only [NormSpec.res, fwd, nrm, ms]

/-- The normalised rows, at a point. -/
theorem out7 : (out0_7 x0 x1 x2 x3 x4 x5 (ix2 r l) : EReal) = fwd (NormSpec.res (fun k => x0 (ix2 r k)) (fun k => x2 (ix2 0 k)) (fun k => x1 (ix2 r k))) (fun k => x3 (ix2 0 k)) (fun k => x4 (ix2 0 k)) (fun k => x5 (ix2 0 k)) l := by
  unfold out0_7
  rw [View.canon_unit_zero (S := S512x1024) hz]
  simp only [View.ld_unit_zero (S := S1x1024) hz, View.ld_unit_zero (S := S512x1024) hz]
  pointwise [k0_pay1, k0_pay2]
  all_goals try simp only [NormSpec.res, fwd, nrm, ms]

/-- An element of what a grid point loads through window 0. -/
theorem blk0 : (iblk m c 0 t : Vec Ideal S512x1024 .f32) (ix2 r k) = V0 m c (ix2 (row t r) k) := by
  obtain ⟨ea, eb⟩ := idx0 t
  refine congrArg (m ((c : Thread nD τ).loc main_arg0)) (funext fun a => ?_)
  match a with
  | ⟨0, _⟩ => exact Fin.ext (show win0_0.index t 0 * 512 + 1 * r.val = t.val * 512 + r.val by rw [ea]; omega)
  | ⟨1, _⟩ => exact Fin.ext (show win0_0.index t 1 * 1024 + 1 * k.val = k.val by rw [eb]; omega)

/-- An element of what a grid point loads through window 1. -/
theorem blk1 : (iblk m c 1 t : Vec Ideal S512x1024 .f32) (ix2 r k) = V1 m c (ix2 (row t r) k) := by
  obtain ⟨ea, eb⟩ := idx0 t
  refine congrArg (m ((c : Thread nD τ).loc main_arg1)) (funext fun a => ?_)
  match a with
  | ⟨0, _⟩ => exact Fin.ext (show win0_0.index t 0 * 512 + 1 * r.val = t.val * 512 + r.val by rw [ea]; omega)
  | ⟨1, _⟩ => exact Fin.ext (show win0_0.index t 1 * 1024 + 1 * k.val = k.val by rw [eb]; omega)

/-- An element of what a grid point loads through window 2. -/
theorem blk2 : (iblk m c 2 t : Vec Ideal S1x1024 .f32) (ix2 0 k) = V2 m c (ix2 0 k) := by
  obtain ⟨ea, eb⟩ := idx2 t
  refine congrArg (m ((c : Thread nD τ).loc main_arg2)) (funext fun a => ?_)
  match a with
  | ⟨0, _⟩ => exact Fin.ext (show win0_2.index t 0 * 1 + 1 * 0 = 0 by rw [ea])
  | ⟨1, _⟩ => exact Fin.ext (show win0_2.index t 1 * 1024 + 1 * k.val = k.val by rw [eb]; omega)

/-- An element of what a grid point loads through window 3. -/
theorem blk3 : (iblk m c 3 t : Vec Ideal S1x1024 .f32) (ix2 0 k) = V3 m c (ix2 0 k) := by
  obtain ⟨ea, eb⟩ := idx2 t
  refine congrArg (m ((c : Thread nD τ).loc main_arg3)) (funext fun a => ?_)
  match a with
  | ⟨0, _⟩ => exact Fin.ext (show win0_2.index t 0 * 1 + 1 * 0 = 0 by rw [ea])
  | ⟨1, _⟩ => exact Fin.ext (show win0_2.index t 1 * 1024 + 1 * k.val = k.val by rw [eb]; omega)

/-- An element of what a grid point loads through window 4. -/
theorem blk4 : (iblk m c 4 t : Vec Ideal S1x1024 .f32) (ix2 0 k) = V4 m c (ix2 0 k) := by
  obtain ⟨ea, eb⟩ := idx2 t
  refine congrArg (m ((c : Thread nD τ).loc main_arg4)) (funext fun a => ?_)
  match a with
  | ⟨0, _⟩ => exact Fin.ext (show win0_2.index t 0 * 1 + 1 * 0 = 0 by rw [ea])
  | ⟨1, _⟩ => exact Fin.ext (show win0_2.index t 1 * 1024 + 1 * k.val = k.val by rw [eb]; omega)

/-- An element of what a grid point loads through window 5. -/
theorem blk5 : (iblk m c 5 t : Vec Ideal S1x1024 .f32) (ix2 0 k) = V5 m c (ix2 0 k) := by
  obtain ⟨ea, eb⟩ := idx2 t
  refine congrArg (m ((c : Thread nD τ).loc main_arg5)) (funext fun a => ?_)
  match a with
  | ⟨0, _⟩ => exact Fin.ext (show win0_2.index t 0 * 1 + 1 * 0 = 0 by rw [ea])
  | ⟨1, _⟩ => exact Fin.ext (show win0_2.index t 1 * 1024 + 1 * k.val = k.val by rw [eb]; omega)

/-- The tile that holds a row. -/
theorem near (i : S8192x1024.Idx) : ∃ t : Fin cfg0.N, ∀ a,
    win0_0.index t a * S512x1024.size a ≤ (i a).val ∧ (i a).val < win0_0.index t a * S512x1024.size a + S512x1024.size a := by
  have h0 : (i 0).val < 8192 := (i 0).isLt
  have h1 : (i 1).val < 1024 := (i 1).isLt
  have hN : cfg0.N = 16 := N_0
  obtain ⟨t, ht⟩ : ∃ t : Fin cfg0.N, t.val = (i 0).val / 512 := ⟨⟨_, by omega⟩, rfl⟩
  obtain ⟨ea, eb⟩ := idx0 t
  refine ⟨t, fun a => ?_⟩
  match a with
  | ⟨0, _⟩ =>
    show win0_0.index _ 0 * 512 ≤ (i 0).val ∧ (i 0).val < win0_0.index _ 0 * 512 + 512
    rw [ea]; omega
  | ⟨1, _⟩ =>
    show win0_0.index _ 1 * 1024 ≤ (i 1).val ∧ (i 1).val < win0_0.index _ 1 * 1024 + 1024
    rw [eb]; omega

/-- The residual, at every point. -/
theorem at6 : (out0_6 (iblk m c 0 t) (iblk m c 1 t) (iblk m c 2 t) (iblk m c 3 t) (iblk m c 4 t) (iblk m c 5 t) (ix2 r l) : EReal) = R6 (V0 m c) (V1 m c) (V2 m c) (row t r) l := by
  rw [out6]
  unfold R6
  simp only [blk0 m c, blk1 m c, blk2 m c]

/-- The array of output 6. -/
def G6 : Buf (Elt Ideal) ((c : Thread nD τ).loc main_v0_0) := fun i : S8192x1024.Idx => R6 (V0 m c) (V1 m c) (V2 m c) (i 0) (i 1)

attribute [local irreducible] R6 in
/-- What a grid point writes back is its tile of that array. -/
theorem flushed6 : (dats m 0 c).flushed 6 t = ((cfg0.win 6).blk t).view.read (Elt Ideal) (G6 m c) := by
  obtain ⟨ea, eb⟩ := idx0 t
  rw [Value.flushed6]
  funext y
  refine ((congrArg (out0_6 (iblk m c 0 t) (iblk m c 1 t) (iblk m c 2 t) (iblk m c 3 t) (iblk m c 4 t) (iblk m c 5 t)) (eq_ix2 y)).trans (at6 m c t (y 0) (y 1))).trans (congrArg₂ (R6 (V0 m c) (V1 m c) (V2 m c)) (Fin.ext ?_) (Fin.ext ?_))
  · show t.val * 512 + (y 0).val = win0_0.index t 0 * 512 + 1 * (y 0).val
    rw [ea]; omega
  · show (y 1).val = win0_0.index t 1 * 1024 + 1 * (y 1).val
    rw [eb]; omega

/-- Every element of the array is in some point's tile. -/
theorem cover6 (i : S8192x1024.Idx) : ∃ t : Fin cfg0.N, (cfg0.win 6).flush t = true ∧ i ∈ ((cfg0.win 6).blk t).view.set := by
  obtain ⟨t, h⟩ := near i
  refine ⟨t, flush0_6 _, ?_⟩
  show i ∈ ((View.whole main_v0_0).slice (win0_6.rect t)).set
  rw [View.set_slice_whole, Rect.mem_set_unit]
  exact h

/-- The normalised rows, at every point. -/
theorem at7 : (out0_7 (iblk m c 0 t) (iblk m c 1 t) (iblk m c 2 t) (iblk m c 3 t) (iblk m c 4 t) (iblk m c 5 t) (ix2 r l) : EReal) = R7 (V0 m c) (V1 m c) (V2 m c) (V3 m c) (V4 m c) (V5 m c) (row t r) l := by
  rw [out7]
  unfold R7
  simp only [blk0 m c, blk1 m c, blk2 m c, blk3 m c, blk4 m c, blk5 m c]

/-- The array of output 7. -/
def G7 : Buf (Elt Ideal) ((c : Thread nD τ).loc main_v0_1) := fun i : S8192x1024.Idx => R7 (V0 m c) (V1 m c) (V2 m c) (V3 m c) (V4 m c) (V5 m c) (i 0) (i 1)

attribute [local irreducible] R7 in
/-- What a grid point writes back is its tile of that array. -/
theorem flushed7 : (dats m 0 c).flushed 7 t = ((cfg0.win 7).blk t).view.read (Elt Ideal) (G7 m c) := by
  obtain ⟨ea, eb⟩ := idx0 t
  rw [Value.flushed7]
  funext y
  refine ((congrArg (out0_7 (iblk m c 0 t) (iblk m c 1 t) (iblk m c 2 t) (iblk m c 3 t) (iblk m c 4 t) (iblk m c 5 t)) (eq_ix2 y)).trans (at7 m c t (y 0) (y 1))).trans (congrArg₂ (R7 (V0 m c) (V1 m c) (V2 m c) (V3 m c) (V4 m c) (V5 m c)) (Fin.ext ?_) (Fin.ext ?_))
  · show t.val * 512 + (y 0).val = win0_0.index t 0 * 512 + 1 * (y 0).val
    rw [ea]; omega
  · show (y 1).val = win0_0.index t 1 * 1024 + 1 * (y 1).val
    rw [eb]; omega

/-- Every element of the array is in some point's tile. -/
theorem cover7 (i : S8192x1024.Idx) : ∃ t : Fin cfg0.N, (cfg0.win 7).flush t = true ∧ i ∈ ((cfg0.win 7).blk t).view.set := by
  obtain ⟨t, h⟩ := near i
  refine ⟨t, flush0_7 _, ?_⟩
  show i ∈ ((View.whole main_v0_1).slice (win0_7.rect t)).set
  rw [View.set_slice_whole, Rect.mem_set_unit]
  exact h

end kernel

/-- The frames: the generated runs. -/
theorem frame_k : Cert.quiescent_PostKernel := fun m ρ _ => Cert.PostKernel.Gen.frame m ρ
/-- … of the idealized kernel, -/
theorem frame_ki : Cert.quiescent_PostKernelIdeal := fun m ρ _ => Cert.PostKernelIdeal.Gen.frame m ρ
/-- … and of the reference, which has no semaphore. -/
theorem frame_r : Cert.quiescent_PostReferenceIdeal := fun m ρ _ =>
  (θ_run Cert.PostReferenceIdeal.defs _ _).mono (fun r h => ⟨fun c => (h c).2.2, Idealize.ShloMosaic.sem_eq_zero_of_no_sems (by decide) r.2⟩)
    (Cert.PostReferenceIdeal.Value.run (F := Ideal) m ρ)

set_option maxHeartbeats 4000000 in
open Cert.PostKernelIdeal Cert.PostKernelIdeal.Gen in
/-- The kernel's results and the reference's are the same arrays. -/
theorem algebraic : Cert.algebraic_PostKernelIdeal_PostReferenceIdeal := by
  intro m ρ m' ρ' _ hagree
  refine ⟨fun c => G6 m c, fun c => G7 m c, ?_, ?_⟩
  · refine (θ_run defs _ _).mono (fun _ h c => ?_) (Value.run_blocks (F := Ideal) m ρ)
    obtain ⟨h6, h7, hk⟩ := h c
    exact ⟨h6.trans ((dats m 0 c).arrAt_eq_of_cover 6 (G6 m c) (fun t _ => flushed6 m c t) cover6), h7.trans ((dats m 0 c).arrAt_eq_of_cover 7 (G7 m c) (fun t _ => flushed7 m c t) cover7), hk⟩
  refine (θ_run Cert.PostReferenceIdeal.defs _ _).mono (fun _ h c => ?_) (Cert.PostReferenceIdeal.Value.run (F := Ideal) m' ρ')
  obtain ⟨a0, a1, a2, a3, a4, a5⟩ := hagree c
  obtain ⟨h6, h7, hk⟩ := h c
  refine ⟨h6.trans (funext fun i => ?_), h7.trans (funext fun i => ?_), hk⟩
  · obtain ⟨n, l, rfl⟩ : ∃ n l, i = ix2 n l := ⟨_, _, eq_ix2 i⟩
    refine Eq.trans (b := (R6 (m' (c.tc.loc Cert.PostReferenceIdeal.main_arg0)) (m' (c.tc.loc Cert.PostReferenceIdeal.main_arg1)) (m' (c.tc.loc Cert.PostReferenceIdeal.main_arg2)) n l : EReal)) ?_ (by rw [a0, a1, a2]; rfl)
    unfold R6
    pointwise
    all_goals try simp only [NormSpec.res, fwd, nrm, ms]
  · obtain ⟨n, l, rfl⟩ : ∃ n l, i = ix2 n l := ⟨_, _, eq_ix2 i⟩
    refine Eq.trans (b := (R7 (m' (c.tc.loc Cert.PostReferenceIdeal.main_arg0)) (m' (c.tc.loc Cert.PostReferenceIdeal.main_arg1)) (m' (c.tc.loc Cert.PostReferenceIdeal.main_arg2)) (m' (c.tc.loc Cert.PostReferenceIdeal.main_arg3)) (m' (c.tc.loc Cert.PostReferenceIdeal.main_arg4)) (m' (c.tc.loc Cert.PostReferenceIdeal.main_arg5)) n l : EReal)) ?_ (by rw [a0, a1, a2, a3, a4, a5]; rfl)
    unfold R7
    pointwise
    all_goals try simp only [NormSpec.res, fwd, nrm, ms]

end Cert.Post

end
-- ==== Proof.Res.lean ====
/-
  The gated residual (`l1_res`): a grid point computes one tile of rows.
-/
module

public import proofs.«01_k».proof.Defs
public import proofs.«01_k».proof.Proof.Common
public import proofs.«01_k».proof.Proof.NormSpec
public import proofs.«01_k».proof.Proof.AdamSpec
public import proofs.«01_k».proof.Proof.Gen.ResKernel.Frame
public import proofs.«01_k».proof.Proof.Gen.ResKernelIdeal.Value
public import proofs.«01_k».proof.Proof.Gen.ResReferenceIdeal.Run
public import Idealize.ShloMosaic.Lib.Quiescent
public import Idealize.ShloMosaic.Lib.Tactic
public import Idealize.ShloMosaic.Lib.Pointwise

@[expose] public section

noncomputable section

namespace Cert.Res

open Idealize.ShloMosaic Idealize.ShloMosaic.TcCoe Idealize.SL.Sem Cert.Common Cert.NormSpec

section spec

variable (A0 : (⟨2, ![8192, 1024]⟩ : Shape).Idx → EReal) (A1 : (⟨2, ![8192, 1024]⟩ : Shape).Idx → EReal) (A2 : (⟨2, ![1, 1024]⟩ : Shape).Idx → EReal) (n : Fin 8192) (l : Fin 1024)

/-- The residual. -/
def R3 : EReal := NormSpec.res (fun k => A0 (ix2 n k)) (fun k => A2 (ix2 0 k)) (fun k => A1 (ix2 n k)) l

end spec

section kernel

open Cert.ResKernelIdeal Cert.ResKernelIdeal.Gen

variable (m : (ℓ : Loc nD τ sig) → Buf (Elt Ideal) ℓ) (c : Dev nD) (t : Fin cfg0.N) (x0 : Vec Ideal S512x1024 .f32) (x1 : Vec Ideal S512x1024 .f32) (x2 : Vec Ideal S1x1024 .f32) (s : Fin 1) (r : Fin 512) (k l : Fin 1024)

/-- The block of window 0 at a grid point. -/
theorem idx0 : ∀ t : Fin grid0.N, win0_0.index t 0 = t.val ∧ win0_0.index t 1 = 0 := by decide +kernel

/-- The block of window 2 at a grid point. -/
theorem idx2 : ∀ t : Fin grid0.N, win0_2.index t 0 = 0 ∧ win0_2.index t 1 = 0 := by decide +kernel

/-- Argument 0. -/
def V0 : (⟨2, ![8192, 1024]⟩ : Shape).Idx → EReal := m ((c : Thread nD τ).loc main_arg0)

/-- Argument 1. -/
def V1 : (⟨2, ![8192, 1024]⟩ : Shape).Idx → EReal := m ((c : Thread nD τ).loc main_arg1)

/-- Argument 2. -/
def V2 : (⟨2, ![1, 1024]⟩ : Shape).Idx → EReal := m ((c : Thread nD τ).loc main_arg2)

/-- A row of a grid point's tile. -/
def row : Fin 8192 := ⟨t.val * 512 + r.val, by have := r.isLt; have := t.isLt; have : cfg0.N = 16 := N_0; omega⟩

/-- The residual, at a point. -/
theorem out3 : (out0_3 x0 x1 x2 (ix2 r l) : EReal) = NormSpec.res (fun k => x0 (ix2 r k)) (fun k => x2 (ix2 0 k)) (fun k => x1 (ix2 r k)) l := by
  unfold out0_3
  rw [View.canon_unit_zero (S := S512x1024) hz]
  simp only [View.ld_unit_zero (S := S1x1024) hz, View.ld_unit_zero (S := S512x1024) hz]
  pointwise [k0_pay1]
  all_goals try simp only [NormSpec.res]

/-- An element of what a grid point loads through window 0. -/
theorem blk0 : (iblk m c 0 t : Vec Ideal S512x1024 .f32) (ix2 r k) = V0 m c (ix2 (row t r) k) := by
  obtain ⟨ea, eb⟩ := idx0 t
  refine congrArg (m ((c : Thread nD τ).loc main_arg0)) (funext fun a => ?_)
  match a with
  | ⟨0, _⟩ => exact Fin.ext (show win0_0.index t 0 * 512 + 1 * r.val = t.val * 512 + r.val by rw [ea]; omega)
  | ⟨1, _⟩ => exact Fin.ext (show win0_0.index t 1 * 1024 + 1 * k.val = k.val by rw [eb]; omega)

/-- An element of what a grid point loads through window 1. -/
theorem blk1 : (iblk m c 1 t : Vec Ideal S512x1024 .f32) (ix2 r k) = V1 m c (ix2 (row t r) k) := by
  obtain ⟨ea, eb⟩ := idx0 t
  refine congrArg (m ((c : Thread nD τ).loc main_arg1)) (funext fun a => ?_)
  match a with
  | ⟨0, _⟩ => exact Fin.ext (show win0_0.index t 0 * 512 + 1 * r.val = t.val * 512 + r.val by rw [ea]; omega)
  | ⟨1, _⟩ => exact Fin.ext (show win0_0.index t 1 * 1024 + 1 * k.val = k.val by rw [eb]; omega)

/-- An element of what a grid point loads through window 2. -/
theorem blk2 : (iblk m c 2 t : Vec Ideal S1x1024 .f32) (ix2 0 k) = V2 m c (ix2 0 k) := by
  obtain ⟨ea, eb⟩ := idx2 t
  refine congrArg (m ((c : Thread nD τ).loc main_arg2)) (funext fun a => ?_)
  match a with
  | ⟨0, _⟩ => exact Fin.ext (show win0_2.index t 0 * 1 + 1 * 0 = 0 by rw [ea])
  | ⟨1, _⟩ => exact Fin.ext (show win0_2.index t 1 * 1024 + 1 * k.val = k.val by rw [eb]; omega)

/-- The tile that holds a row. -/
theorem near (i : S8192x1024.Idx) : ∃ t : Fin cfg0.N, ∀ a,
    win0_0.index t a * S512x1024.size a ≤ (i a).val ∧ (i a).val < win0_0.index t a * S512x1024.size a + S512x1024.size a := by
  have h0 : (i 0).val < 8192 := (i 0).isLt
  have h1 : (i 1).val < 1024 := (i 1).isLt
  have hN : cfg0.N = 16 := N_0
  obtain ⟨t, ht⟩ : ∃ t : Fin cfg0.N, t.val = (i 0).val / 512 := ⟨⟨_, by omega⟩, rfl⟩
  obtain ⟨ea, eb⟩ := idx0 t
  refine ⟨t, fun a => ?_⟩
  match a with
  | ⟨0, _⟩ =>
    show win0_0.index _ 0 * 512 ≤ (i 0).val ∧ (i 0).val < win0_0.index _ 0 * 512 + 512
    rw [ea]; omega
  | ⟨1, _⟩ =>
    show win0_0.index _ 1 * 1024 ≤ (i 1).val ∧ (i 1).val < win0_0.index _ 1 * 1024 + 1024
    rw [eb]; omega

/-- The residual, at every point. -/
theorem at3 : (out0_3 (iblk m c 0 t) (iblk m c 1 t) (iblk m c 2 t) (ix2 r l) : EReal) = R3 (V0 m c) (V1 m c) (V2 m c) (row t r) l := by
  rw [out3]
  unfold R3
  simp only [blk0 m c, blk1 m c, blk2 m c]

/-- The array of output 3. -/
def G3 : Buf (Elt Ideal) ((c : Thread nD τ).loc main_v0) := fun i : S8192x1024.Idx => R3 (V0 m c) (V1 m c) (V2 m c) (i 0) (i 1)

attribute [local irreducible] R3 in
/-- What a grid point writes back is its tile of that array. -/
theorem flushed3 : (dats m 0 c).flushed 3 t = ((cfg0.win 3).blk t).view.read (Elt Ideal) (G3 m c) := by
  obtain ⟨ea, eb⟩ := idx0 t
  rw [Value.flushed3]
  funext y
  refine ((congrArg (out0_3 (iblk m c 0 t) (iblk m c 1 t) (iblk m c 2 t)) (eq_ix2 y)).trans (at3 m c t (y 0) (y 1))).trans (congrArg₂ (R3 (V0 m c) (V1 m c) (V2 m c)) (Fin.ext ?_) (Fin.ext ?_))
  · show t.val * 512 + (y 0).val = win0_0.index t 0 * 512 + 1 * (y 0).val
    rw [ea]; omega
  · show (y 1).val = win0_0.index t 1 * 1024 + 1 * (y 1).val
    rw [eb]; omega

/-- Every element of the array is in some point's tile. -/
theorem cover3 (i : S8192x1024.Idx) : ∃ t : Fin cfg0.N, (cfg0.win 3).flush t = true ∧ i ∈ ((cfg0.win 3).blk t).view.set := by
  obtain ⟨t, h⟩ := near i
  refine ⟨t, flush0_3 _, ?_⟩
  show i ∈ ((View.whole main_v0).slice (win0_3.rect t)).set
  rw [View.set_slice_whole, Rect.mem_set_unit]
  exact h

end kernel

/-- The frames: the generated runs. -/
theorem frame_k : Cert.quiescent_ResKernel := fun m ρ _ => Cert.ResKernel.Gen.frame m ρ
/-- … of the idealized kernel, -/
theorem frame_ki : Cert.quiescent_ResKernelIdeal := fun m ρ _ => Cert.ResKernelIdeal.Gen.frame m ρ
/-- … and of the reference, which has no semaphore. -/
theorem frame_r : Cert.quiescent_ResReferenceIdeal := fun m ρ _ =>
  (θ_run Cert.ResReferenceIdeal.defs _ _).mono (fun r h => ⟨fun c => (h c).2, Idealize.ShloMosaic.sem_eq_zero_of_no_sems (by decide) r.2⟩)
    (Cert.ResReferenceIdeal.Value.run (F := Ideal) m ρ)

set_option maxHeartbeats 4000000 in
open Cert.ResKernelIdeal Cert.ResKernelIdeal.Gen in
/-- The kernel's results and the reference's are the same arrays. -/
theorem algebraic : Cert.algebraic_ResKernelIdeal_ResReferenceIdeal := by
  intro m ρ m' ρ' _ hagree
  refine ⟨fun c => G3 m c, ?_, ?_⟩
  · refine (θ_run defs _ _).mono (fun _ h c => ?_) (Value.run_blocks (F := Ideal) m ρ)
    obtain ⟨h3, hk⟩ := h c
    exact ⟨h3.trans ((dats m 0 c).arrAt_eq_of_cover 3 (G3 m c) (fun t _ => flushed3 m c t) cover3), hk⟩
  refine (θ_run Cert.ResReferenceIdeal.defs _ _).mono (fun _ h c => ?_) (Cert.ResReferenceIdeal.Value.run (F := Ideal) m' ρ')
  obtain ⟨a0, a1, a2⟩ := hagree c
  obtain ⟨h3, hk⟩ := h c
  refine ⟨h3.trans (funext fun i => ?_), hk⟩
  · obtain ⟨n, l, rfl⟩ : ∃ n l, i = ix2 n l := ⟨_, _, eq_ix2 i⟩
    refine Eq.trans (b := (R3 (m' (c.tc.loc Cert.ResReferenceIdeal.main_arg0)) (m' (c.tc.loc Cert.ResReferenceIdeal.main_arg1)) (m' (c.tc.loc Cert.ResReferenceIdeal.main_arg2)) n l : EReal)) ?_ (by rw [a0, a1, a2]; rfl)
    unfold R3
    pointwise
    all_goals try simp only [NormSpec.res]

end Cert.Res

end
-- ==== Proof.AdamAda.lean ====
/-
  The optimiser's step on the modulation weight (`adam_ada_w`): a grid point steps one tile of the weight.
-/
module

public import proofs.«01_k».proof.Defs
public import proofs.«01_k».proof.Proof.Common
public import proofs.«01_k».proof.Proof.NormSpec
public import proofs.«01_k».proof.Proof.AdamSpec
public import proofs.«01_k».proof.Proof.Gen.AdamAdaKernel.Frame
public import proofs.«01_k».proof.Proof.Gen.AdamAdaKernelIdeal.Value
public import proofs.«01_k».proof.Proof.Gen.AdamAdaReferenceIdeal.Run
public import Idealize.ShloMosaic.Lib.Quiescent
public import Idealize.ShloMosaic.Lib.Tactic
public import Idealize.ShloMosaic.Lib.Pointwise

@[expose] public section

noncomputable section

namespace Cert.AdamAda

open Idealize.ShloMosaic Idealize.ShloMosaic.TcCoe Idealize.SL.Sem Cert.Common Cert.AdamSpec

section spec

variable (A0 : (⟨2, ![2048, 768]⟩ : Shape).Idx → EReal) (A1 : (⟨2, ![2048, 768]⟩ : Shape).Idx → EReal) (A2 : (⟨2, ![2048, 768]⟩ : Shape).Idx → EReal) (A3 : (⟨3, ![1, 2048, 768]⟩ : Shape).Idx → EReal) (n : Fin 2048) (l : Fin 768)

/-- The gradient. -/
def R4 : EReal := (A3 (ix3 0 n l))

/-- The step. -/
def R5 : EReal := delta (A3 (ix3 0 n l)) (A0 (ix2 n l)) (A1 (ix2 n l)) (A2 (ix2 n l))

/-- The new running mean. -/
def R6 : EReal := mn (A3 (ix3 0 n l)) (A1 (ix2 n l))

/-- The new running mean of the square. -/
def R7 : EReal := vn (A3 (ix3 0 n l)) (A2 (ix2 n l))

end spec

section kernel

open Cert.AdamAdaKernelIdeal Cert.AdamAdaKernelIdeal.Gen

variable (m : (ℓ : Loc nD τ sig) → Buf (Elt Ideal) ℓ) (c : Dev nD) (t : Fin cfg0.N) (x0 : Vec Ideal S256x768 .f32) (x1 : Vec Ideal S256x768 .f32) (x2 : Vec Ideal S256x768 .f32) (x3 : Vec Ideal S1x256x768 .f32) (s : Fin 1) (r : Fin 256) (k l : Fin 768)

/-- The block of window 0 at a grid point. -/
theorem idx0 : ∀ t : Fin grid0.N, win0_0.index t 0 = t.val ∧ win0_0.index t 1 = 0 := by decide +kernel

/-- The block of window 3 at a grid point. -/
theorem idx3 : ∀ t : Fin grid0.N, win0_3.index t 0 = 0 ∧ win0_3.index t 1 = t.val ∧ win0_3.index t 2 = 0 := by decide +kernel

/-- Argument 0. -/
def V0 : (⟨2, ![2048, 768]⟩ : Shape).Idx → EReal := m ((c : Thread nD τ).loc main_arg0)

/-- Argument 1. -/
def V1 : (⟨2, ![2048, 768]⟩ : Shape).Idx → EReal := m ((c : Thread nD τ).loc main_arg1)

/-- Argument 2. -/
def V2 : (⟨2, ![2048, 768]⟩ : Shape).Idx → EReal := m ((c : Thread nD τ).loc main_arg2)

/-- Argument 3. -/
def V3 : (⟨3, ![1, 2048, 768]⟩ : Shape).Idx → EReal := m ((c : Thread nD τ).loc main_arg3)

/-- A row of a grid point's tile. -/
def row : Fin 2048 := ⟨t.val * 256 + r.val, by have := r.isLt; have := t.isLt; have : cfg0.N = 8 := N_0; omega⟩

/-- The gradient, at a point. -/
theorem out4 : (out0_4 x0 x1 x2 x3 (ix2 r l) : EReal) = (x3 (ix3 0 r l)) := by
  unfold out0_4
  rw [View.canon_unit_zero (S := S256x768) hz]
  simp only [View.ld_unit_zero (S := S1x256x768) hz3, View.ld_unit_zero (S := S256x768) hz]
  pointwise [k0_pay1, k0_pay2, k0_pay3, k0_pay4]
  all_goals try simp only [mn, vn, delta, Finset.univ_unique, Finset.sum_singleton, Fin.default_eq_zero]

/-- The step, at a point. -/
theorem out5 : (out0_5 x0 x1 x2 x3 (ix2 r l) : EReal) = delta (x3 (ix3 0 r l)) (x0 (ix2 r l)) (x1 (ix2 r l)) (x2 (ix2 r l)) := by
  unfold out0_5
  rw [View.canon_unit_zero (S := S256x768) hz]
  simp only [View.ld_unit_zero (S := S1x256x768) hz3, View.ld_unit_zero (S := S256x768) hz]
  pointwise [k0_pay1, k0_pay2, k0_pay3, k0_pay4]
  all_goals try simp only [mn, vn, delta, Finset.univ_unique, Finset.sum_singleton, Fin.default_eq_zero]

/-- The new running mean, at a point. -/
theorem out6 : (out0_6 x0 x1 x2 x3 (ix2 r l) : EReal) = mn (x3 (ix3 0 r l)) (x1 (ix2 r l)) := by
  unfold out0_6
  rw [View.canon_unit_zero (S := S256x768) hz]
  simp only [View.ld_unit_zero (S := S1x256x768) hz3, View.ld_unit_zero (S := S256x768) hz]
  pointwise [k0_pay1, k0_pay2, k0_pay3, k0_pay4]
  all_goals try simp only [mn, vn, delta, Finset.univ_unique, Finset.sum_singleton, Fin.default_eq_zero]

/-- The new running mean of the square, at a point. -/
theorem out7 : (out0_7 x0 x1 x2 x3 (ix2 r l) : EReal) = vn (x3 (ix3 0 r l)) (x2 (ix2 r l)) := by
  unfold out0_7
  rw [View.canon_unit_zero (S := S256x768) hz]
  simp only [View.ld_unit_zero (S := S1x256x768) hz3, View.ld_unit_zero (S := S256x768) hz]
  pointwise [k0_pay1, k0_pay2, k0_pay3, k0_pay4]
  all_goals try simp only [mn, vn, delta, Finset.univ_unique, Finset.sum_singleton, Fin.default_eq_zero]

/-- An element of what a grid point loads through window 0. -/
theorem blk0 : (iblk m c 0 t : Vec Ideal S256x768 .f32) (ix2 r k) = V0 m c (ix2 (row t r) k) := by
  obtain ⟨ea, eb⟩ := idx0 t
  refine congrArg (m ((c : Thread nD τ).loc main_arg0)) (funext fun a => ?_)
  match a with
  | ⟨0, _⟩ => exact Fin.ext (show win0_0.index t 0 * 256 + 1 * r.val = t.val * 256 + r.val by rw [ea]; omega)
  | ⟨1, _⟩ => exact Fin.ext (show win0_0.index t 1 * 768 + 1 * k.val = k.val by rw [eb]; omega)

/-- An element of what a grid point loads through window 1. -/
theorem blk1 : (iblk m c 1 t : Vec Ideal S256x768 .f32) (ix2 r k) = V1 m c (ix2 (row t r) k) := by
  obtain ⟨ea, eb⟩ := idx0 t
  refine congrArg (m ((c : Thread nD τ).loc main_arg1)) (funext fun a => ?_)
  match a with
  | ⟨0, _⟩ => exact Fin.ext (show win0_0.index t 0 * 256 + 1 * r.val = t.val * 256 + r.val by rw [ea]; omega)
  | ⟨1, _⟩ => exact Fin.ext (show win0_0.index t 1 * 768 + 1 * k.val = k.val by rw [eb]; omega)

/-- An element of what a grid point loads through window 2. -/
theorem blk2 : (iblk m c 2 t : Vec Ideal S256x768 .f32) (ix2 r k) = V2 m c (ix2 (row t r) k) := by
  obtain ⟨ea, eb⟩ := idx0 t
  refine congrArg (m ((c : Thread nD τ).loc main_arg2)) (funext fun a => ?_)
  match a with
  | ⟨0, _⟩ => exact Fin.ext (show win0_0.index t 0 * 256 + 1 * r.val = t.val * 256 + r.val by rw [ea]; omega)
  | ⟨1, _⟩ => exact Fin.ext (show win0_0.index t 1 * 768 + 1 * k.val = k.val by rw [eb]; omega)

/-- An element of what a grid point loads through window 3. -/
theorem blk3 : (iblk m c 3 t : Vec Ideal S1x256x768 .f32) (ix3 0 r k) = V3 m c (ix3 0 (row t r) k) := by
  obtain ⟨ea, eb, ec⟩ := idx3 t
  refine congrArg (m ((c : Thread nD τ).loc main_arg3)) (funext fun a => ?_)
  match a with
  | ⟨0, _⟩ => exact Fin.ext (show win0_3.index t 0 * 1 + 1 * 0 = 0 by rw [ea])
  | ⟨1, _⟩ => exact Fin.ext (show win0_3.index t 1 * 256 + 1 * r.val = t.val * 256 + r.val by rw [eb]; omega)
  | ⟨2, _⟩ => exact Fin.ext (show win0_3.index t 2 * 768 + 1 * k.val = k.val by rw [ec]; omega)

/-- The tile that holds a row. -/
theorem near (i : S2048x768.Idx) : ∃ t : Fin cfg0.N, ∀ a,
    win0_0.index t a * S256x768.size a ≤ (i a).val ∧ (i a).val < win0_0.index t a * S256x768.size a + S256x768.size a := by
  have h0 : (i 0).val < 2048 := (i 0).isLt
  have h1 : (i 1).val < 768 := (i 1).isLt
  have hN : cfg0.N = 8 := N_0
  obtain ⟨t, ht⟩ : ∃ t : Fin cfg0.N, t.val = (i 0).val / 256 := ⟨⟨_, by omega⟩, rfl⟩
  obtain ⟨ea, eb⟩ := idx0 t
  refine ⟨t, fun a => ?_⟩
  match a with
  | ⟨0, _⟩ =>
    show win0_0.index _ 0 * 256 ≤ (i 0).val ∧ (i 0).val < win0_0.index _ 0 * 256 + 256
    rw [ea]; omega
  | ⟨1, _⟩ =>
    show win0_0.index _ 1 * 768 ≤ (i 1).val ∧ (i 1).val < win0_0.index _ 1 * 768 + 768
    rw [eb]; omega

/-- The gradient, at every point. -/
theorem at4 : (out0_4 (iblk m c 0 t) (iblk m c 1 t) (iblk m c 2 t) (iblk m c 3 t) (ix2 r l) : EReal) = R4 (V3 m c) (row t r) l := by
  rw [out4]
  unfold R4
  simp only [blk3 m c]

/-- The array of output 4. -/
def G4 : Buf (Elt Ideal) ((c : Thread nD τ).loc main_v0_0) := fun i : S2048x768.Idx => R4 (V3 m c) (i 0) (i 1)

attribute [local irreducible] R4 in
/-- What a grid point writes back is its tile of that array. -/
theorem flushed4 : (dats m 0 c).flushed 4 t = ((cfg0.win 4).blk t).view.read (Elt Ideal) (G4 m c) := by
  obtain ⟨ea, eb⟩ := idx0 t
  rw [Value.flushed4]
  funext y
  refine ((congrArg (out0_4 (iblk m c 0 t) (iblk m c 1 t) (iblk m c 2 t) (iblk m c 3 t)) (eq_ix2 y)).trans (at4 m c t (y 0) (y 1))).trans (congrArg₂ (R4 (V3 m c)) (Fin.ext ?_) (Fin.ext ?_))
  · show t.val * 256 + (y 0).val = win0_0.index t 0 * 256 + 1 * (y 0).val
    rw [ea]; omega
  · show (y 1).val = win0_0.index t 1 * 768 + 1 * (y 1).val
    rw [eb]; omega

/-- Every element of the array is in some point's tile. -/
theorem cover4 (i : S2048x768.Idx) : ∃ t : Fin cfg0.N, (cfg0.win 4).flush t = true ∧ i ∈ ((cfg0.win 4).blk t).view.set := by
  obtain ⟨t, h⟩ := near i
  refine ⟨t, flush0_4 _, ?_⟩
  show i ∈ ((View.whole main_v0_0).slice (win0_4.rect t)).set
  rw [View.set_slice_whole, Rect.mem_set_unit]
  exact h

/-- The step, at every point. -/
theorem at5 : (out0_5 (iblk m c 0 t) (iblk m c 1 t) (iblk m c 2 t) (iblk m c 3 t) (ix2 r l) : EReal) = R5 (V0 m c) (V1 m c) (V2 m c) (V3 m c) (row t r) l := by
  rw [out5]
  unfold R5
  simp only [blk0 m c, blk1 m c, blk2 m c, blk3 m c]

/-- The array of output 5. -/
def G5 : Buf (Elt Ideal) ((c : Thread nD τ).loc main_v0_1) := fun i : S2048x768.Idx => R5 (V0 m c) (V1 m c) (V2 m c) (V3 m c) (i 0) (i 1)

attribute [local irreducible] R5 in
/-- What a grid point writes back is its tile of that array. -/
theorem flushed5 : (dats m 0 c).flushed 5 t = ((cfg0.win 5).blk t).view.read (Elt Ideal) (G5 m c) := by
  obtain ⟨ea, eb⟩ := idx0 t
  rw [Value.flushed5]
  funext y
  refine ((congrArg (out0_5 (iblk m c 0 t) (iblk m c 1 t) (iblk m c 2 t) (iblk m c 3 t)) (eq_ix2 y)).trans (at5 m c t (y 0) (y 1))).trans (congrArg₂ (R5 (V0 m c) (V1 m c) (V2 m c) (V3 m c)) (Fin.ext ?_) (Fin.ext ?_))
  · show t.val * 256 + (y 0).val = win0_0.index t 0 * 256 + 1 * (y 0).val
    rw [ea]; omega
  · show (y 1).val = win0_0.index t 1 * 768 + 1 * (y 1).val
    rw [eb]; omega

/-- Every element of the array is in some point's tile. -/
theorem cover5 (i : S2048x768.Idx) : ∃ t : Fin cfg0.N, (cfg0.win 5).flush t = true ∧ i ∈ ((cfg0.win 5).blk t).view.set := by
  obtain ⟨t, h⟩ := near i
  refine ⟨t, flush0_5 _, ?_⟩
  show i ∈ ((View.whole main_v0_1).slice (win0_5.rect t)).set
  rw [View.set_slice_whole, Rect.mem_set_unit]
  exact h

/-- The new running mean, at every point. -/
theorem at6 : (out0_6 (iblk m c 0 t) (iblk m c 1 t) (iblk m c 2 t) (iblk m c 3 t) (ix2 r l) : EReal) = R6 (V1 m c) (V3 m c) (row t r) l := by
  rw [out6]
  unfold R6
  simp only [blk1 m c, blk3 m c]

/-- The array of output 6. -/
def G6 : Buf (Elt Ideal) ((c : Thread nD τ).loc main_v0_2) := fun i : S2048x768.Idx => R6 (V1 m c) (V3 m c) (i 0) (i 1)

attribute [local irreducible] R6 in
/-- What a grid point writes back is its tile of that array. -/
theorem flushed6 : (dats m 0 c).flushed 6 t = ((cfg0.win 6).blk t).view.read (Elt Ideal) (G6 m c) := by
  obtain ⟨ea, eb⟩ := idx0 t
  rw [Value.flushed6]
  funext y
  refine ((congrArg (out0_6 (iblk m c 0 t) (iblk m c 1 t) (iblk m c 2 t) (iblk m c 3 t)) (eq_ix2 y)).trans (at6 m c t (y 0) (y 1))).trans (congrArg₂ (R6 (V1 m c) (V3 m c)) (Fin.ext ?_) (Fin.ext ?_))
  · show t.val * 256 + (y 0).val = win0_0.index t 0 * 256 + 1 * (y 0).val
    rw [ea]; omega
  · show (y 1).val = win0_0.index t 1 * 768 + 1 * (y 1).val
    rw [eb]; omega

/-- Every element of the array is in some point's tile. -/
theorem cover6 (i : S2048x768.Idx) : ∃ t : Fin cfg0.N, (cfg0.win 6).flush t = true ∧ i ∈ ((cfg0.win 6).blk t).view.set := by
  obtain ⟨t, h⟩ := near i
  refine ⟨t, flush0_6 _, ?_⟩
  show i ∈ ((View.whole main_v0_2).slice (win0_6.rect t)).set
  rw [View.set_slice_whole, Rect.mem_set_unit]
  exact h

/-- The new running mean of the square, at every point. -/
theorem at7 : (out0_7 (iblk m c 0 t) (iblk m c 1 t) (iblk m c 2 t) (iblk m c 3 t) (ix2 r l) : EReal) = R7 (V2 m c) (V3 m c) (row t r) l := by
  rw [out7]
  unfold R7
  simp only [blk2 m c, blk3 m c]

/-- The array of output 7. -/
def G7 : Buf (Elt Ideal) ((c : Thread nD τ).loc main_v0_3) := fun i : S2048x768.Idx => R7 (V2 m c) (V3 m c) (i 0) (i 1)

attribute [local irreducible] R7 in
/-- What a grid point writes back is its tile of that array. -/
theorem flushed7 : (dats m 0 c).flushed 7 t = ((cfg0.win 7).blk t).view.read (Elt Ideal) (G7 m c) := by
  obtain ⟨ea, eb⟩ := idx0 t
  rw [Value.flushed7]
  funext y
  refine ((congrArg (out0_7 (iblk m c 0 t) (iblk m c 1 t) (iblk m c 2 t) (iblk m c 3 t)) (eq_ix2 y)).trans (at7 m c t (y 0) (y 1))).trans (congrArg₂ (R7 (V2 m c) (V3 m c)) (Fin.ext ?_) (Fin.ext ?_))
  · show t.val * 256 + (y 0).val = win0_0.index t 0 * 256 + 1 * (y 0).val
    rw [ea]; omega
  · show (y 1).val = win0_0.index t 1 * 768 + 1 * (y 1).val
    rw [eb]; omega

/-- Every element of the array is in some point's tile. -/
theorem cover7 (i : S2048x768.Idx) : ∃ t : Fin cfg0.N, (cfg0.win 7).flush t = true ∧ i ∈ ((cfg0.win 7).blk t).view.set := by
  obtain ⟨t, h⟩ := near i
  refine ⟨t, flush0_7 _, ?_⟩
  show i ∈ ((View.whole main_v0_3).slice (win0_7.rect t)).set
  rw [View.set_slice_whole, Rect.mem_set_unit]
  exact h

end kernel

/-- The frames: the generated runs. -/
theorem frame_k : Cert.quiescent_AdamAdaKernel := fun m ρ _ => Cert.AdamAdaKernel.Gen.frame m ρ
/-- … of the idealized kernel, -/
theorem frame_ki : Cert.quiescent_AdamAdaKernelIdeal := fun m ρ _ => Cert.AdamAdaKernelIdeal.Gen.frame m ρ
/-- … and of the reference, which has no semaphore. -/
theorem frame_r : Cert.quiescent_AdamAdaReferenceIdeal := fun m ρ _ =>
  (θ_run Cert.AdamAdaReferenceIdeal.defs _ _).mono (fun r h => ⟨fun c => (h c).2.2.2.2, Idealize.ShloMosaic.sem_eq_zero_of_no_sems (by decide) r.2⟩)
    (Cert.AdamAdaReferenceIdeal.Value.run (F := Ideal) m ρ)

set_option maxHeartbeats 4000000 in
open Cert.AdamAdaKernelIdeal Cert.AdamAdaKernelIdeal.Gen in
/-- The kernel's results and the reference's are the same arrays. -/
theorem algebraic : Cert.algebraic_AdamAdaKernelIdeal_AdamAdaReferenceIdeal := by
  intro m ρ m' ρ' _ hagree
  refine ⟨fun c => G4 m c, fun c => G5 m c, fun c => G6 m c, fun c => G7 m c, ?_, ?_⟩
  · refine (θ_run defs _ _).mono (fun _ h c => ?_) (Value.run_blocks (F := Ideal) m ρ)
    obtain ⟨h4, h5, h6, h7, hk⟩ := h c
    exact ⟨h4.trans ((dats m 0 c).arrAt_eq_of_cover 4 (G4 m c) (fun t _ => flushed4 m c t) cover4), h5.trans ((dats m 0 c).arrAt_eq_of_cover 5 (G5 m c) (fun t _ => flushed5 m c t) cover5), h6.trans ((dats m 0 c).arrAt_eq_of_cover 6 (G6 m c) (fun t _ => flushed6 m c t) cover6), h7.trans ((dats m 0 c).arrAt_eq_of_cover 7 (G7 m c) (fun t _ => flushed7 m c t) cover7), hk⟩
  refine (θ_run Cert.AdamAdaReferenceIdeal.defs _ _).mono (fun _ h c => ?_) (Cert.AdamAdaReferenceIdeal.Value.run (F := Ideal) m' ρ')
  obtain ⟨a0, a1, a2, a3⟩ := hagree c
  obtain ⟨h4, h5, h6, h7, hk⟩ := h c
  refine ⟨h4.trans (funext fun i => ?_), h5.trans (funext fun i => ?_), h6.trans (funext fun i => ?_), h7.trans (funext fun i => ?_), hk⟩
  · obtain ⟨n, l, rfl⟩ : ∃ n l, i = ix2 n l := ⟨_, _, eq_ix2 i⟩
    refine Eq.trans (b := (R4 (m' (c.tc.loc Cert.AdamAdaReferenceIdeal.main_arg3)) n l : EReal)) ?_ (by rw [a3]; rfl)
    unfold R4
    pointwise
    all_goals try simp only [mn, vn, delta, Finset.univ_unique, Finset.sum_singleton, Fin.default_eq_zero]
  · obtain ⟨n, l, rfl⟩ : ∃ n l, i = ix2 n l := ⟨_, _, eq_ix2 i⟩
    refine Eq.trans (b := (R5 (m' (c.tc.loc Cert.AdamAdaReferenceIdeal.main_arg0)) (m' (c.tc.loc Cert.AdamAdaReferenceIdeal.main_arg1)) (m' (c.tc.loc Cert.AdamAdaReferenceIdeal.main_arg2)) (m' (c.tc.loc Cert.AdamAdaReferenceIdeal.main_arg3)) n l : EReal)) ?_ (by rw [a0, a1, a2, a3]; rfl)
    unfold R5
    pointwise
    all_goals try simp only [mn, vn, delta, Finset.univ_unique, Finset.sum_singleton, Fin.default_eq_zero]
  · obtain ⟨n, l, rfl⟩ : ∃ n l, i = ix2 n l := ⟨_, _, eq_ix2 i⟩
    refine Eq.trans (b := (R6 (m' (c.tc.loc Cert.AdamAdaReferenceIdeal.main_arg1)) (m' (c.tc.loc Cert.AdamAdaReferenceIdeal.main_arg3)) n l : EReal)) ?_ (by rw [a1, a3]; rfl)
    unfold R6
    pointwise
    all_goals try simp only [mn, vn, delta, Finset.univ_unique, Finset.sum_singleton, Fin.default_eq_zero]
  · obtain ⟨n, l, rfl⟩ : ∃ n l, i = ix2 n l := ⟨_, _, eq_ix2 i⟩
    refine Eq.trans (b := (R7 (m' (c.tc.loc Cert.AdamAdaReferenceIdeal.main_arg2)) (m' (c.tc.loc Cert.AdamAdaReferenceIdeal.main_arg3)) n l : EReal)) ?_ (by rw [a2, a3]; rfl)
    unfold R7
    pointwise
    all_goals try simp only [mn, vn, delta, Finset.univ_unique, Finset.sum_singleton, Fin.default_eq_zero]

end Cert.AdamAda

end
-- ==== Proof.AdamUp.lean ====
/-
  The optimiser's step on a weight of both layers (`adam_w_up`): a grid point adds the eight devices' parts of its layer's gradient
  and steps one tile of the weight.
-/
module

public import proofs.«01_k».proof.Defs
public import proofs.«01_k».proof.Proof.Common
public import proofs.«01_k».proof.Proof.AdamSpec
public import proofs.«01_k».proof.Proof.Gen.AdamUpKernel.Frame
public import proofs.«01_k».proof.Proof.Gen.AdamUpKernelIdeal.Value
public import proofs.«01_k».proof.Proof.Gen.AdamUpReferenceIdeal.Run
public import Idealize.ShloMosaic.Lib.Quiescent
public import Idealize.ShloMosaic.Lib.Tactic
public import Idealize.ShloMosaic.Lib.Pointwise

@[expose] public section

noncomputable section

namespace Cert.AdamUp

open Idealize.ShloMosaic Idealize.ShloMosaic.TcCoe Idealize.SL.Sem Cert.Common Cert.AdamSpec

section spec

variable (W M V : (⟨3, ![2, 1024, 512]⟩ : Shape).Idx → EReal) (S0 S1 : (⟨3, ![8, 1024, 512]⟩ : Shape).Idx → EReal)
  (b : Fin 2) (n : Fin 1024) (k : Fin 512)

/-- The gradient of layer `b`: the sum of the devices' parts. -/
def grad : EReal := if b = 0 then ∑ s, S0 (ix3 s n k) else ∑ s, S1 (ix3 s n k)

/-- The gradient. -/
def R5 : EReal := grad S0 S1 b n k

/-- The step. -/
def R6 : EReal := delta (grad S0 S1 b n k) (W (ix3 b n k)) (M (ix3 b n k)) (V (ix3 b n k))

/-- The new running mean. -/
def R7 : EReal := mn (grad S0 S1 b n k) (M (ix3 b n k))

/-- The new running mean of the square. -/
def R8 : EReal := vn (grad S0 S1 b n k) (V (ix3 b n k))

end spec

section kernel

open Cert.AdamUpKernelIdeal Cert.AdamUpKernelIdeal.Gen

variable (m : (ℓ : Loc nD τ sig) → Buf (Elt Ideal) ℓ) (c : Dev nD) (t : Fin cfg0.N) (i : grid0.Coords)
  (a0 : Memref sig .tc .vmem S1x256x512 .f32) (h0 : a0.IsWhole)
  (a1 : Memref sig .tc .vmem S1x256x512 .f32) (h1 : a1.IsWhole)
  (a2 : Memref sig .tc .vmem S1x256x512 .f32) (h2 : a2.IsWhole)
  (a3 : Memref sig .tc .vmem S8x256x512 .bf16) (h3 : a3.IsWhole)
  (a4 : Memref sig .tc .vmem S8x256x512 .bf16) (h4 : a4.IsWhole)
  (a5 : Memref sig .tc .vmem S1x256x512 .f32) (h5 : a5.IsWhole)
  (a6 : Memref sig .tc .vmem S1x256x512 .f32) (h6 : a6.IsWhole)
  (a7 : Memref sig .tc .vmem S1x256x512 .f32) (h7 : a7.IsWhole)
  (a8 : Memref sig .tc .vmem S1x256x512 .f32) (h8 : a8.IsWhole)
  (x0 x1 x2 : Vec Ideal S1x256x512 .f32) (x3 x4 : Vec Ideal S8x256x512 .bf16) (s : Fin 8) (r : Fin 256) (k : Fin 512)

/-- The block of window 0 at a grid point. -/
theorem idx0 : ∀ t : Fin grid0.N, win0_0.index t 0 = t.val / 4 ∧ win0_0.index t 1 = t.val % 4 ∧ win0_0.index t 2 = 0 := by decide +kernel

/-- The block of window 3 at a grid point. -/
theorem idx3 : ∀ t : Fin grid0.N, win0_3.index t 0 = 0 ∧ win0_3.index t 1 = (if t.val < 4 then t.val % 4 else 0) ∧ win0_3.index t 2 = 0 := by decide +kernel

/-- The block of window 4 at a grid point. -/
theorem idx4 : ∀ t : Fin grid0.N, win0_4.index t 0 = 0 ∧ win0_4.index t 1 = (if t.val < 4 then 0 else t.val % 4) ∧ win0_4.index t 2 = 0 := by decide +kernel

/-- Argument 0. -/
def V0 : (⟨3, ![2, 1024, 512]⟩ : Shape).Idx → EReal := m ((c : Thread nD τ).loc main_arg0)

/-- Argument 1. -/
def V1 : (⟨3, ![2, 1024, 512]⟩ : Shape).Idx → EReal := m ((c : Thread nD τ).loc main_arg1)

/-- Argument 2. -/
def V2 : (⟨3, ![2, 1024, 512]⟩ : Shape).Idx → EReal := m ((c : Thread nD τ).loc main_arg2)

/-- Argument 3. -/
def V3 : (⟨3, ![8, 1024, 512]⟩ : Shape).Idx → EReal := m ((c : Thread nD τ).loc main_arg3)

/-- Argument 4. -/
def V4 : (⟨3, ![8, 1024, 512]⟩ : Shape).Idx → EReal := m ((c : Thread nD τ).loc main_arg4)

/-- The layer of a grid point. -/
def lay : Fin 2 := ⟨t.val / 4, by have := t.isLt; have : cfg0.N = 8 := N_0; omega⟩

/-- A row of its tile. -/
def row : Fin 1024 := ⟨t.val % 4 * 256 + r.val, by have := r.isLt; omega⟩

/-- What a point of layer 0 writes. -/
theorem outA (hc0 : cond0_0 i) (hc1 : ¬cond0_1 i) :
    (out0_A_5 c i a0 h0 a1 h1 a2 h2 a3 h3 a4 h4 a5 h5 a6 h6 a7 h7 a8 h8 hc0 hc1 x0 x1 x2 x3 x4 (ix3 0 r k) : EReal) = ∑ s, x3 (ix3 s r k)
    ∧ (out0_A_6 c i a0 h0 a1 h1 a2 h2 a3 h3 a4 h4 a5 h5 a6 h6 a7 h7 a8 h8 hc0 hc1 x0 x1 x2 x3 x4 (ix3 0 r k) : EReal) = delta (∑ s, x3 (ix3 s r k)) (x0 (ix3 0 r k)) (x1 (ix3 0 r k)) (x2 (ix3 0 r k))
    ∧ (out0_A_7 c i a0 h0 a1 h1 a2 h2 a3 h3 a4 h4 a5 h5 a6 h6 a7 h7 a8 h8 hc0 hc1 x0 x1 x2 x3 x4 (ix3 0 r k) : EReal) = mn (∑ s, x3 (ix3 s r k)) (x1 (ix3 0 r k))
    ∧ (out0_A_8 c i a0 h0 a1 h1 a2 h2 a3 h3 a4 h4 a5 h5 a6 h6 a7 h7 a8 h8 hc0 hc1 x0 x1 x2 x3 x4 (ix3 0 r k) : EReal) = vn (∑ s, x3 (ix3 s r k)) (x2 (ix3 0 r k)) := by
  refine ⟨?_, ?_, ?_, ?_⟩
  on_goal 1 => unfold out0_A_5; rw [View.read_writes_eq_canon _ _ _ (cover0_A_5 c i a0 h0 a1 h1 a2 h2 a3 h3 a4 h4 a5 h5 a6 h6 a7 h7 a8 h8 hc0 hc1 x0 x1 x2 x3 x4)]
  on_goal 2 => unfold out0_A_6; rw [View.read_writes_eq_canon _ _ _ (cover0_A_6 c i a0 h0 a1 h1 a2 h2 a3 h3 a4 h4 a5 h5 a6 h6 a7 h7 a8 h8 hc0 hc1 x0 x1 x2 x3 x4)]
  on_goal 3 => unfold out0_A_7; rw [View.read_writes_eq_canon _ _ _ (cover0_A_7 c i a0 h0 a1 h1 a2 h2 a3 h3 a4 h4 a5 h5 a6 h6 a7 h7 a8 h8 hc0 hc1 x0 x1 x2 x3 x4)]
  on_goal 4 => unfold out0_A_8; rw [View.read_writes_eq_canon _ _ _ (cover0_A_8 c i a0 h0 a1 h1 a2 h2 a3 h3 a4 h4 a5 h5 a6 h6 a7 h7 a8 h8 hc0 hc1 x0 x1 x2 x3 x4)]
  all_goals
    unfold kernelRun0_A
    dsimp only
    sl_unfold_words
    rw [View.canon_unit_zero (S := S1x256x512) hz3]
    simp only [View.readAt_eq_ld, h0.read_unread, h1.read_unread, h2.read_unread, h3.read_unread, h4.read_unread, View.ld_unit_zero (S := S1x256x512) hz3, View.ld_unit]
    pointwise [k0_pay1, k0_pay2, k0_pay3, k0_pay4, k0_pay5, k0_pay6, k0_pay7, k0_pay8, k0_pay9, k0_pay10, k0_pay11, k0_pay12, k0_pay13, k0_pay14, k0_pay15, k0_pay16]
    simp only [mn, vn, delta, Fin.sum_univ_eight]
    try rfl

/-- What a point of layer 1 writes. -/
theorem outB (hc0 : ¬cond0_0 i) (hc1 : cond0_1 i) :
    (out0_B_5 c i a0 h0 a1 h1 a2 h2 a3 h3 a4 h4 a5 h5 a6 h6 a7 h7 a8 h8 hc0 hc1 x0 x1 x2 x3 x4 (ix3 0 r k) : EReal) = ∑ s, x4 (ix3 s r k)
    ∧ (out0_B_6 c i a0 h0 a1 h1 a2 h2 a3 h3 a4 h4 a5 h5 a6 h6 a7 h7 a8 h8 hc0 hc1 x0 x1 x2 x3 x4 (ix3 0 r k) : EReal) = delta (∑ s, x4 (ix3 s r k)) (x0 (ix3 0 r k)) (x1 (ix3 0 r k)) (x2 (ix3 0 r k))
    ∧ (out0_B_7 c i a0 h0 a1 h1 a2 h2 a3 h3 a4 h4 a5 h5 a6 h6 a7 h7 a8 h8 hc0 hc1 x0 x1 x2 x3 x4 (ix3 0 r k) : EReal) = mn (∑ s, x4 (ix3 s r k)) (x1 (ix3 0 r k))
    ∧ (out0_B_8 c i a0 h0 a1 h1 a2 h2 a3 h3 a4 h4 a5 h5 a6 h6 a7 h7 a8 h8 hc0 hc1 x0 x1 x2 x3 x4 (ix3 0 r k) : EReal) = vn (∑ s, x4 (ix3 s r k)) (x2 (ix3 0 r k)) := by
  refine ⟨?_, ?_, ?_, ?_⟩
  on_goal 1 => unfold out0_B_5; rw [View.read_writes_eq_canon _ _ _ (cover0_B_5 c i a0 h0 a1 h1 a2 h2 a3 h3 a4 h4 a5 h5 a6 h6 a7 h7 a8 h8 hc0 hc1 x0 x1 x2 x3 x4)]
  on_goal 2 => unfold out0_B_6; rw [View.read_writes_eq_canon _ _ _ (cover0_B_6 c i a0 h0 a1 h1 a2 h2 a3 h3 a4 h4 a5 h5 a6 h6 a7 h7 a8 h8 hc0 hc1 x0 x1 x2 x3 x4)]
  on_goal 3 => unfold out0_B_7; rw [View.read_writes_eq_canon _ _ _ (cover0_B_7 c i a0 h0 a1 h1 a2 h2 a3 h3 a4 h4 a5 h5 a6 h6 a7 h7 a8 h8 hc0 hc1 x0 x1 x2 x3 x4)]
  on_goal 4 => unfold out0_B_8; rw [View.read_writes_eq_canon _ _ _ (cover0_B_8 c i a0 h0 a1 h1 a2 h2 a3 h3 a4 h4 a5 h5 a6 h6 a7 h7 a8 h8 hc0 hc1 x0 x1 x2 x3 x4)]
  all_goals
    unfold kernelRun0_B
    dsimp only
    sl_unfold_words
    rw [View.canon_unit_zero (S := S1x256x512) hz3]
    simp only [View.readAt_eq_ld, h0.read_unread, h1.read_unread, h2.read_unread, h3.read_unread, h4.read_unread, View.ld_unit_zero (S := S1x256x512) hz3, View.ld_unit]
    pointwise [k0_pay1, k0_pay2, k0_pay3, k0_pay4, k0_pay5, k0_pay6, k0_pay7, k0_pay8, k0_pay9, k0_pay10, k0_pay11, k0_pay12, k0_pay13, k0_pay14, k0_pay15, k0_pay16]
    simp only [mn, vn, delta, Fin.sum_univ_eight]
    try rfl

/-- Where an element of a grid point's tile lies. -/
theorem emb : ((cfg0.win 0).blk t).view.emb (ix3 0 r k : S1x256x512.Idx) = ix3 (lay t) (row t r) k := by
  obtain ⟨ea, eb, ec⟩ := idx0 t
  refine funext fun a => ?_
  match a with
  | ⟨0, _⟩ => exact Fin.ext (show win0_0.index t 0 * 1 + 1 * 0 = t.val / 4 by rw [ea]; omega)
  | ⟨1, _⟩ => exact Fin.ext (show win0_0.index t 1 * 256 + 1 * r.val = t.val % 4 * 256 + r.val by rw [eb]; omega)
  | ⟨2, _⟩ => exact Fin.ext (show win0_0.index t 2 * 512 + 1 * k.val = k.val by rw [ec]; omega)

/-- An element of the tile of argument 0 that a grid point loads. -/
theorem blk0 : (iblk m c 0 t : Vec Ideal S1x256x512 .f32) (ix3 0 r k) = V0 m c (ix3 (lay t) (row t r) k) :=
  congrArg (m ((c : Thread nD τ).loc main_arg0)) (emb t r k)

/-- An element of the tile of argument 1 that a grid point loads. -/
theorem blk1 : (iblk m c 1 t : Vec Ideal S1x256x512 .f32) (ix3 0 r k) = V1 m c (ix3 (lay t) (row t r) k) :=
  congrArg (m ((c : Thread nD τ).loc main_arg1)) (emb t r k)

/-- An element of the tile of argument 2 that a grid point loads. -/
theorem blk2 : (iblk m c 2 t : Vec Ideal S1x256x512 .f32) (ix3 0 r k) = V2 m c (ix3 (lay t) (row t r) k) :=
  congrArg (m ((c : Thread nD τ).loc main_arg2)) (emb t r k)

/-- An element of the tile of argument 3 that a grid point of its layer loads. -/
theorem blk3 (h : t.val < 4) : (iblk m c 3 t : Vec Ideal S8x256x512 .bf16) (ix3 s r k) = V3 m c (ix3 s (row t r) k) := by
  obtain ⟨ea, eb, ec⟩ := idx3 t
  rw [if_pos h] at eb
  refine congrArg (m ((c : Thread nD τ).loc main_arg3)) (funext fun a => ?_)
  match a with
  | ⟨0, _⟩ => exact Fin.ext (show win0_3.index t 0 * 8 + 1 * s.val = s.val by rw [ea]; omega)
  | ⟨1, _⟩ => exact Fin.ext (show win0_3.index t 1 * 256 + 1 * r.val = t.val % 4 * 256 + r.val by rw [eb]; omega)
  | ⟨2, _⟩ => exact Fin.ext (show win0_3.index t 2 * 512 + 1 * k.val = k.val by rw [ec]; omega)

/-- An element of the tile of argument 4 that a grid point of its layer loads. -/
theorem blk4 (h : 4 ≤ t.val) : (iblk m c 4 t : Vec Ideal S8x256x512 .bf16) (ix3 s r k) = V4 m c (ix3 s (row t r) k) := by
  obtain ⟨ea, eb, ec⟩ := idx4 t
  rw [if_neg (by omega)] at eb
  refine congrArg (m ((c : Thread nD τ).loc main_arg4)) (funext fun a => ?_)
  match a with
  | ⟨0, _⟩ => exact Fin.ext (show win0_4.index t 0 * 8 + 1 * s.val = s.val by rw [ea]; omega)
  | ⟨1, _⟩ => exact Fin.ext (show win0_4.index t 1 * 256 + 1 * r.val = t.val % 4 * 256 + r.val by rw [eb]; omega)
  | ⟨2, _⟩ => exact Fin.ext (show win0_4.index t 2 * 512 + 1 * k.val = k.val by rw [ec]; omega)

/-- What a point leaves in its outputs. -/
theorem at_ : ((outsAt0 m c t.val t.isLt).1 (ix3 0 r k) : EReal) = R5 (V3 m c) (V4 m c) (lay t) (row t r) k
    ∧ ((outsAt0 m c t.val t.isLt).2.1 (ix3 0 r k) : EReal) = R6 (V0 m c) (V1 m c) (V2 m c) (V3 m c) (V4 m c) (lay t) (row t r) k
    ∧ ((outsAt0 m c t.val t.isLt).2.2.1 (ix3 0 r k) : EReal) = R7 (V1 m c) (V3 m c) (V4 m c) (lay t) (row t r) k
    ∧ ((outsAt0 m c t.val t.isLt).2.2.2 (ix3 0 r k) : EReal) = R8 (V2 m c) (V3 m c) (V4 m c) (lay t) (row t r) k := by
  have hN : cfg0.N = 8 := N_0; have ht := t.isLt
  by_cases h : t.val < 4
  · have hl : lay t = 0 := Fin.ext (show t.val / 4 = 0 by omega)
    rw [outsAt0_A m c t h (by omega)]
    dsimp only
    rw [(outA ..).1, (outA ..).2.1, (outA ..).2.2.1, (outA ..).2.2.2, R5, R6, R7, R8, grad, if_pos hl]
    simp only [blk0 m c t, blk1 m c t, blk2 m c t, blk3 m c t _ _ _ h, true_and]
  · have hl : lay t ≠ 0 := fun e => by have e : t.val / 4 = 0 := congrArg Fin.val e; omega
    rw [outsAt0_B m c t h (by omega)]
    dsimp only
    rw [(outB ..).1, (outB ..).2.1, (outB ..).2.2.1, (outB ..).2.2.2, R5, R6, R7, R8, grad, if_neg hl]
    simp only [blk0 m c t, blk1 m c t, blk2 m c t, blk4 m c t _ _ _ (Nat.le_of_not_lt h), true_and]

/-- An element of a tile is that of its row and column. -/
theorem pt (y : S1x256x512.Idx) : y = ix3 (n0 := 1) (n1 := 256) (n2 := 512) 0 (y 1) (y 2) :=
  (eq_ix3 y).trans (congrArg (ix3 · (y 1) (y 2)) (Subsingleton.elim (α := Fin 1) _ _))

/-- The tile that holds a row of a layer. -/
theorem near (i : S2x1024x512.Idx) : ∃ t : Fin cfg0.N, ∀ a, win0_0.index t a * S1x256x512.size a ≤ (i a).val ∧ (i a).val < win0_0.index t a * S1x256x512.size a + S1x256x512.size a := by
  have h0 : (i 0).val < 2 := (i 0).isLt
  have h1 : (i 1).val < 1024 := (i 1).isLt
  have h2 : (i 2).val < 512 := (i 2).isLt
  have hN : cfg0.N = 8 := N_0
  have ht : (i 0).val * 4 + (i 1).val / 256 < cfg0.N := by rw [hN]; omega
  obtain ⟨ea, eb, ec⟩ := idx0 ⟨_, ht⟩
  dsimp only at ea eb ec
  refine ⟨⟨_, ht⟩, fun a => ?_⟩
  match a with
  | ⟨0, _⟩ =>
    show win0_0.index _ 0 * 1 ≤ (i 0).val ∧ (i 0).val < win0_0.index _ 0 * 1 + 1
    rw [ea]; omega
  | ⟨1, _⟩ =>
    show win0_0.index _ 1 * 256 ≤ (i 1).val ∧ (i 1).val < win0_0.index _ 1 * 256 + 256
    rw [eb]; omega
  | ⟨2, _⟩ =>
    show win0_0.index _ 2 * 512 ≤ (i 2).val ∧ (i 2).val < win0_0.index _ 2 * 512 + 512
    rw [ec]; omega

/-- An element of a grid point's tile of an array is the array's at the point's layer, row and column. -/
theorem tile (R : Fin 2 → Fin 1024 → Fin 512 → EReal) (y : S1x256x512.Idx) : R (lay t) (row t (y 1)) (y 2)
    = R (((cfg0.win 5).blk t).view.emb y 0) (((cfg0.win 5).blk t).view.emb y 1) (((cfg0.win 5).blk t).view.emb y 2) := by
  obtain ⟨ea, eb, ec⟩ := idx0 t
  have hy0 : (y 0).val < 1 := (y 0).isLt
  refine congr3 R (Fin.ext ?_) (Fin.ext ?_) (Fin.ext ?_)
  · show t.val / 4 = win0_0.index t 0 * 1 + 1 * (y 0).val
    rw [ea]; omega
  · show t.val % 4 * 256 + (y 1).val = win0_0.index t 1 * 256 + 1 * (y 1).val
    rw [eb]; omega
  · show (y 2).val = win0_0.index t 2 * 512 + 1 * (y 2).val
    rw [ec]; omega

/-- The array of output 5. -/
def G5 : Buf (Elt Ideal) ((c : Thread nD τ).loc main_v0_0) := fun i : S2x1024x512.Idx => R5 (V3 m c) (V4 m c) (i 0) (i 1) (i 2)

attribute [local irreducible] R5 in
/-- What a grid point writes back is its tile of that array. -/
theorem flushed5 : (dats m 0 c).flushed 5 t = ((cfg0.win 5).blk t).view.read (Elt Ideal) (G5 m c) :=
  (Value.flushed5 m c t).trans (funext fun y => ((congrArg (outsAt0 m c t.val t.isLt).1 (pt y)).trans (at_ m c t (y 1) (y 2)).1).trans (tile t (R5 (V3 m c) (V4 m c)) y))

/-- Every element of the array is in some point's tile. -/
theorem cover5 (i : S2x1024x512.Idx) : ∃ t : Fin cfg0.N, (cfg0.win 5).flush t = true ∧ i ∈ ((cfg0.win 5).blk t).view.set := by
  obtain ⟨t, h⟩ := near i
  refine ⟨t, flush0_5 _, ?_⟩
  show i ∈ ((View.whole main_v0_0).slice (win0_5.rect t)).set
  rw [View.set_slice_whole, Rect.mem_set_unit]
  exact h

/-- The array of output 6. -/
def G6 : Buf (Elt Ideal) ((c : Thread nD τ).loc main_v0_1) := fun i : S2x1024x512.Idx => R6 (V0 m c) (V1 m c) (V2 m c) (V3 m c) (V4 m c) (i 0) (i 1) (i 2)

attribute [local irreducible] R6 in
/-- What a grid point writes back is its tile of that array. -/
theorem flushed6 : (dats m 0 c).flushed 6 t = ((cfg0.win 6).blk t).view.read (Elt Ideal) (G6 m c) :=
  (Value.flushed6 m c t).trans (funext fun y => ((congrArg (outsAt0 m c t.val t.isLt).2.1 (pt y)).trans (at_ m c t (y 1) (y 2)).2.1).trans (tile t (R6 (V0 m c) (V1 m c) (V2 m c) (V3 m c) (V4 m c)) y))

/-- Every element of the array is in some point's tile. -/
theorem cover6 (i : S2x1024x512.Idx) : ∃ t : Fin cfg0.N, (cfg0.win 6).flush t = true ∧ i ∈ ((cfg0.win 6).blk t).view.set := by
  obtain ⟨t, h⟩ := near i
  refine ⟨t, flush0_6 _, ?_⟩
  show i ∈ ((View.whole main_v0_1).slice (win0_6.rect t)).set
  rw [View.set_slice_whole, Rect.mem_set_unit]
  exact h

/-- The array of output 7. -/
def G7 : Buf (Elt Ideal) ((c : Thread nD τ).loc main_v0_2) := fun i : S2x1024x512.Idx => R7 (V1 m c) (V3 m c) (V4 m c) (i 0) (i 1) (i 2)

attribute [local irreducible] R7 in
/-- What a grid point writes back is its tile of that array. -/
theorem flushed7 : (dats m 0 c).flushed 7 t = ((cfg0.win 7).blk t).view.read (Elt Ideal) (G7 m c) :=
  (Value.flushed7 m c t).trans (funext fun y => ((congrArg (outsAt0 m c t.val t.isLt).2.2.1 (pt y)).trans (at_ m c t (y 1) (y 2)).2.2.1).trans (tile t (R7 (V1 m c) (V3 m c) (V4 m c)) y))

/-- Every element of the array is in some point's tile. -/
theorem cover7 (i : S2x1024x512.Idx) : ∃ t : Fin cfg0.N, (cfg0.win 7).flush t = true ∧ i ∈ ((cfg0.win 7).blk t).view.set := by
  obtain ⟨t, h⟩ := near i
  refine ⟨t, flush0_7 _, ?_⟩
  show i ∈ ((View.whole main_v0_2).slice (win0_7.rect t)).set
  rw [View.set_slice_whole, Rect.mem_set_unit]
  exact h

/-- The array of output 8. -/
def G8 : Buf (Elt Ideal) ((c : Thread nD τ).loc main_v0_3) := fun i : S2x1024x512.Idx => R8 (V2 m c) (V3 m c) (V4 m c) (i 0) (i 1) (i 2)

attribute [local irreducible] R8 in
/-- What a grid point writes back is its tile of that array. -/
theorem flushed8 : (dats m 0 c).flushed 8 t = ((cfg0.win 8).blk t).view.read (Elt Ideal) (G8 m c) :=
  (Value.flushed8 m c t).trans (funext fun y => ((congrArg (outsAt0 m c t.val t.isLt).2.2.2 (pt y)).trans (at_ m c t (y 1) (y 2)).2.2.2).trans (tile t (R8 (V2 m c) (V3 m c) (V4 m c)) y))

/-- Every element of the array is in some point's tile. -/
theorem cover8 (i : S2x1024x512.Idx) : ∃ t : Fin cfg0.N, (cfg0.win 8).flush t = true ∧ i ∈ ((cfg0.win 8).blk t).view.set := by
  obtain ⟨t, h⟩ := near i
  refine ⟨t, flush0_8 _, ?_⟩
  show i ∈ ((View.whole main_v0_3).slice (win0_8.rect t)).set
  rw [View.set_slice_whole, Rect.mem_set_unit]
  exact h

end kernel

/-- The frames: the generated runs. -/
theorem frame_k : Cert.quiescent_AdamUpKernel := fun m ρ _ => Cert.AdamUpKernel.Gen.frame m ρ
/-- … of the idealized kernel, -/
theorem frame_ki : Cert.quiescent_AdamUpKernelIdeal := fun m ρ _ => Cert.AdamUpKernelIdeal.Gen.frame m ρ
/-- … and of the reference, which has no semaphore. -/
theorem frame_r : Cert.quiescent_AdamUpReferenceIdeal := fun m ρ _ =>
  (θ_run Cert.AdamUpReferenceIdeal.defs _ _).mono (fun r h => ⟨fun c => (h c).2.2.2.2, Idealize.ShloMosaic.sem_eq_zero_of_no_sems (by decide) r.2⟩)
    (Cert.AdamUpReferenceIdeal.Value.run (F := Ideal) m ρ)

set_option maxHeartbeats 4000000 in
open Cert.AdamUpKernelIdeal Cert.AdamUpKernelIdeal.Gen in
/-- The kernel's results and the reference's are the same arrays. -/
theorem algebraic : Cert.algebraic_AdamUpKernelIdeal_AdamUpReferenceIdeal := by
  intro m ρ m' ρ' _ hagree
  refine ⟨fun c => G5 m c, fun c => G6 m c, fun c => G7 m c, fun c => G8 m c, ?_, ?_⟩
  · refine (θ_run defs _ _).mono (fun _ h c => ?_) (Value.run_blocks (F := Ideal) m ρ)
    obtain ⟨h5, h6, h7, h8, hk⟩ := h c
    exact ⟨h5.trans ((dats m 0 c).arrAt_eq_of_cover 5 (G5 m c) (fun t _ => flushed5 m c t) cover5), h6.trans ((dats m 0 c).arrAt_eq_of_cover 6 (G6 m c) (fun t _ => flushed6 m c t) cover6), h7.trans ((dats m 0 c).arrAt_eq_of_cover 7 (G7 m c) (fun t _ => flushed7 m c t) cover7), h8.trans ((dats m 0 c).arrAt_eq_of_cover 8 (G8 m c) (fun t _ => flushed8 m c t) cover8), hk⟩
  refine (θ_run Cert.AdamUpReferenceIdeal.defs _ _).mono (fun _ h c => ?_) (Cert.AdamUpReferenceIdeal.Value.run (F := Ideal) m' ρ')
  obtain ⟨a0, a1, a2, a3, a4⟩ := hagree c
  obtain ⟨h5, h6, h7, h8, hk⟩ := h c
  refine ⟨h5.trans (funext fun i => ?_), h6.trans (funext fun i => ?_), h7.trans (funext fun i => ?_), h8.trans (funext fun i => ?_), hk⟩
  all_goals obtain ⟨b, n, k, rfl⟩ : ∃ b n k, i = ix3 b n k := ⟨_, _, _, eq_ix3 i⟩
  on_goal 1 => refine Eq.trans (b := (R5 (m' (c.tc.loc Cert.AdamUpReferenceIdeal.main_arg3)) (m' (c.tc.loc Cert.AdamUpReferenceIdeal.main_arg4)) b n k : EReal)) ?_ (by rw [a3, a4]; rfl); unfold R5
  on_goal 2 => refine Eq.trans (b := (R6 (m' (c.tc.loc Cert.AdamUpReferenceIdeal.main_arg0)) (m' (c.tc.loc Cert.AdamUpReferenceIdeal.main_arg1)) (m' (c.tc.loc Cert.AdamUpReferenceIdeal.main_arg2)) (m' (c.tc.loc Cert.AdamUpReferenceIdeal.main_arg3)) (m' (c.tc.loc Cert.AdamUpReferenceIdeal.main_arg4)) b n k : EReal)) ?_ (by rw [a0, a1, a2, a3, a4]; rfl); unfold R6
  on_goal 3 => refine Eq.trans (b := (R7 (m' (c.tc.loc Cert.AdamUpReferenceIdeal.main_arg1)) (m' (c.tc.loc Cert.AdamUpReferenceIdeal.main_arg3)) (m' (c.tc.loc Cert.AdamUpReferenceIdeal.main_arg4)) b n k : EReal)) ?_ (by rw [a1, a3, a4]; rfl); unfold R7
  on_goal 4 => refine Eq.trans (b := (R8 (m' (c.tc.loc Cert.AdamUpReferenceIdeal.main_arg2)) (m' (c.tc.loc Cert.AdamUpReferenceIdeal.main_arg3)) (m' (c.tc.loc Cert.AdamUpReferenceIdeal.main_arg4)) b n k : EReal)) ?_ (by rw [a2, a3, a4]; rfl); unfold R8
  all_goals
    unfold grad
    match b with
    | 0 =>
      rw [if_pos rfl]
      pointwise
      try simp only [mn, vn, delta]
    | 1 =>
      rw [if_neg (by decide)]
      pointwise
      try simp only [mn, vn, delta]

end Cert.AdamUp

end
-- ==== Proof.AdamDown.lean ====
/-
  The optimiser's step on a weight of both layers (`adam_w_down`): a grid point adds the eight devices' parts of its layer's gradient
  and steps one tile of the weight.
-/
module

public import proofs.«01_k».proof.Defs
public import proofs.«01_k».proof.Proof.Common
public import proofs.«01_k».proof.Proof.AdamSpec
public import proofs.«01_k».proof.Proof.Gen.AdamDownKernel.Frame
public import proofs.«01_k».proof.Proof.Gen.AdamDownKernelIdeal.Value
public import proofs.«01_k».proof.Proof.Gen.AdamDownReferenceIdeal.Run
public import Idealize.ShloMosaic.Lib.Quiescent
public import Idealize.ShloMosaic.Lib.Tactic
public import Idealize.ShloMosaic.Lib.Pointwise

@[expose] public section

noncomputable section

namespace Cert.AdamDown

open Idealize.ShloMosaic Idealize.ShloMosaic.TcCoe Idealize.SL.Sem Cert.Common Cert.AdamSpec

section spec

variable (W M V : (⟨3, ![2, 512, 1024]⟩ : Shape).Idx → EReal) (S0 S1 : (⟨3, ![8, 512, 1024]⟩ : Shape).Idx → EReal)
  (b : Fin 2) (n : Fin 512) (k : Fin 1024)

/-- The gradient of layer `b`: the sum of the devices' parts. -/
def grad : EReal := if b = 0 then ∑ s, S0 (ix3 s n k) else ∑ s, S1 (ix3 s n k)

/-- The gradient. -/
def R5 : EReal := grad S0 S1 b n k

/-- The step. -/
def R6 : EReal := delta (grad S0 S1 b n k) (W (ix3 b n k)) (M (ix3 b n k)) (V (ix3 b n k))

/-- The new running mean. -/
def R7 : EReal := mn (grad S0 S1 b n k) (M (ix3 b n k))

/-- The new running mean of the square. -/
def R8 : EReal := vn (grad S0 S1 b n k) (V (ix3 b n k))

end spec

section kernel

open Cert.AdamDownKernelIdeal Cert.AdamDownKernelIdeal.Gen

variable (m : (ℓ : Loc nD τ sig) → Buf (Elt Ideal) ℓ) (c : Dev nD) (t : Fin cfg0.N) (i : grid0.Coords)
  (a0 : Memref sig .tc .vmem S1x256x1024 .f32) (h0 : a0.IsWhole)
  (a1 : Memref sig .tc .vmem S1x256x1024 .f32) (h1 : a1.IsWhole)
  (a2 : Memref sig .tc .vmem S1x256x1024 .f32) (h2 : a2.IsWhole)
  (a3 : Memref sig .tc .vmem S8x256x1024 .bf16) (h3 : a3.IsWhole)
  (a4 : Memref sig .tc .vmem S8x256x1024 .bf16) (h4 : a4.IsWhole)
  (a5 : Memref sig .tc .vmem S1x256x1024 .f32) (h5 : a5.IsWhole)
  (a6 : Memref sig .tc .vmem S1x256x1024 .f32) (h6 : a6.IsWhole)
  (a7 : Memref sig .tc .vmem S1x256x1024 .f32) (h7 : a7.IsWhole)
  (a8 : Memref sig .tc .vmem S1x256x1024 .f32) (h8 : a8.IsWhole)
  (x0 x1 x2 : Vec Ideal S1x256x1024 .f32) (x3 x4 : Vec Ideal S8x256x1024 .bf16) (s : Fin 8) (r : Fin 256) (k : Fin 1024)

/-- The block of window 0 at a grid point. -/
theorem idx0 : ∀ t : Fin grid0.N, win0_0.index t 0 = t.val / 2 ∧ win0_0.index t 1 = t.val % 2 ∧ win0_0.index t 2 = 0 := by decide +kernel

/-- The block of window 3 at a grid point. -/
theorem idx3 : ∀ t : Fin grid0.N, win0_3.index t 0 = 0 ∧ win0_3.index t 1 = (if t.val < 2 then t.val % 2 else 0) ∧ win0_3.index t 2 = 0 := by decide +kernel

/-- The block of window 4 at a grid point. -/
theorem idx4 : ∀ t : Fin grid0.N, win0_4.index t 0 = 0 ∧ win0_4.index t 1 = (if t.val < 2 then 0 else t.val % 2) ∧ win0_4.index t 2 = 0 := by decide +kernel

/-- Argument 0. -/
def V0 : (⟨3, ![2, 512, 1024]⟩ : Shape).Idx → EReal := m ((c : Thread nD τ).loc main_arg0)

/-- Argument 1. -/
def V1 : (⟨3, ![2, 512, 1024]⟩ : Shape).Idx → EReal := m ((c : Thread nD τ).loc main_arg1)

/-- Argument 2. -/
def V2 : (⟨3, ![2, 512, 1024]⟩ : Shape).Idx → EReal := m ((c : Thread nD τ).loc main_arg2)

/-- Argument 3. -/
def V3 : (⟨3, ![8, 512, 1024]⟩ : Shape).Idx → EReal := m ((c : Thread nD τ).loc main_arg3)

/-- Argument 4. -/
def V4 : (⟨3, ![8, 512, 1024]⟩ : Shape).Idx → EReal := m ((c : Thread nD τ).loc main_arg4)

/-- The layer of a grid point. -/
def lay : Fin 2 := ⟨t.val / 2, by have := t.isLt; have : cfg0.N = 4 := N_0; omega⟩

/-- A row of its tile. -/
def row : Fin 512 := ⟨t.val % 2 * 256 + r.val, by have := r.isLt; omega⟩

/-- What a point of layer 0 writes. -/
theorem outA (hc0 : cond0_0 i) (hc1 : ¬cond0_1 i) :
    (out0_A_5 c i a0 h0 a1 h1 a2 h2 a3 h3 a4 h4 a5 h5 a6 h6 a7 h7 a8 h8 hc0 hc1 x0 x1 x2 x3 x4 (ix3 0 r k) : EReal) = ∑ s, x3 (ix3 s r k)
    ∧ (out0_A_6 c i a0 h0 a1 h1 a2 h2 a3 h3 a4 h4 a5 h5 a6 h6 a7 h7 a8 h8 hc0 hc1 x0 x1 x2 x3 x4 (ix3 0 r k) : EReal) = delta (∑ s, x3 (ix3 s r k)) (x0 (ix3 0 r k)) (x1 (ix3 0 r k)) (x2 (ix3 0 r k))
    ∧ (out0_A_7 c i a0 h0 a1 h1 a2 h2 a3 h3 a4 h4 a5 h5 a6 h6 a7 h7 a8 h8 hc0 hc1 x0 x1 x2 x3 x4 (ix3 0 r k) : EReal) = mn (∑ s, x3 (ix3 s r k)) (x1 (ix3 0 r k))
    ∧ (out0_A_8 c i a0 h0 a1 h1 a2 h2 a3 h3 a4 h4 a5 h5 a6 h6 a7 h7 a8 h8 hc0 hc1 x0 x1 x2 x3 x4 (ix3 0 r k) : EReal) = vn (∑ s, x3 (ix3 s r k)) (x2 (ix3 0 r k)) := by
  refine ⟨?_, ?_, ?_, ?_⟩
  on_goal 1 => unfold out0_A_5; rw [View.read_writes_eq_canon _ _ _ (cover0_A_5 c i a0 h0 a1 h1 a2 h2 a3 h3 a4 h4 a5 h5 a6 h6 a7 h7 a8 h8 hc0 hc1 x0 x1 x2 x3 x4)]
  on_goal 2 => unfold out0_A_6; rw [View.read_writes_eq_canon _ _ _ (cover0_A_6 c i a0 h0 a1 h1 a2 h2 a3 h3 a4 h4 a5 h5 a6 h6 a7 h7 a8 h8 hc0 hc1 x0 x1 x2 x3 x4)]
  on_goal 3 => unfold out0_A_7; rw [View.read_writes_eq_canon _ _ _ (cover0_A_7 c i a0 h0 a1 h1 a2 h2 a3 h3 a4 h4 a5 h5 a6 h6 a7 h7 a8 h8 hc0 hc1 x0 x1 x2 x3 x4)]
  on_goal 4 => unfold out0_A_8; rw [View.read_writes_eq_canon _ _ _ (cover0_A_8 c i a0 h0 a1 h1 a2 h2 a3 h3 a4 h4 a5 h5 a6 h6 a7 h7 a8 h8 hc0 hc1 x0 x1 x2 x3 x4)]
  all_goals
    unfold kernelRun0_A
    dsimp only
    sl_unfold_words
    rw [View.canon_unit_zero (S := S1x256x1024) hz3]
    simp only [View.readAt_eq_ld, h0.read_unread, h1.read_unread, h2.read_unread, h3.read_unread, h4.read_unread, View.ld_unit_zero (S := S1x256x1024) hz3, View.ld_unit]
    pointwise [k0_pay1, k0_pay2, k0_pay3, k0_pay4, k0_pay5, k0_pay6, k0_pay7, k0_pay8, k0_pay9, k0_pay10, k0_pay11, k0_pay12, k0_pay13, k0_pay14, k0_pay15, k0_pay16]
    simp only [mn, vn, delta, Fin.sum_univ_eight]
    try rfl

/-- What a point of layer 1 writes. -/
theorem outB (hc0 : ¬cond0_0 i) (hc1 : cond0_1 i) :
    (out0_B_5 c i a0 h0 a1 h1 a2 h2 a3 h3 a4 h4 a5 h5 a6 h6 a7 h7 a8 h8 hc0 hc1 x0 x1 x2 x3 x4 (ix3 0 r k) : EReal) = ∑ s, x4 (ix3 s r k)
    ∧ (out0_B_6 c i a0 h0 a1 h1 a2 h2 a3 h3 a4 h4 a5 h5 a6 h6 a7 h7 a8 h8 hc0 hc1 x0 x1 x2 x3 x4 (ix3 0 r k) : EReal) = delta (∑ s, x4 (ix3 s r k)) (x0 (ix3 0 r k)) (x1 (ix3 0 r k)) (x2 (ix3 0 r k))
    ∧ (out0_B_7 c i a0 h0 a1 h1 a2 h2 a3 h3 a4 h4 a5 h5 a6 h6 a7 h7 a8 h8 hc0 hc1 x0 x1 x2 x3 x4 (ix3 0 r k) : EReal) = mn (∑ s, x4 (ix3 s r k)) (x1 (ix3 0 r k))
    ∧ (out0_B_8 c i a0 h0 a1 h1 a2 h2 a3 h3 a4 h4 a5 h5 a6 h6 a7 h7 a8 h8 hc0 hc1 x0 x1 x2 x3 x4 (ix3 0 r k) : EReal) = vn (∑ s, x4 (ix3 s r k)) (x2 (ix3 0 r k)) := by
  refine ⟨?_, ?_, ?_, ?_⟩
  on_goal 1 => unfold out0_B_5; rw [View.read_writes_eq_canon _ _ _ (cover0_B_5 c i a0 h0 a1 h1 a2 h2 a3 h3 a4 h4 a5 h5 a6 h6 a7 h7 a8 h8 hc0 hc1 x0 x1 x2 x3 x4)]
  on_goal 2 => unfold out0_B_6; rw [View.read_writes_eq_canon _ _ _ (cover0_B_6 c i a0 h0 a1 h1 a2 h2 a3 h3 a4 h4 a5 h5 a6 h6 a7 h7 a8 h8 hc0 hc1 x0 x1 x2 x3 x4)]
  on_goal 3 => unfold out0_B_7; rw [View.read_writes_eq_canon _ _ _ (cover0_B_7 c i a0 h0 a1 h1 a2 h2 a3 h3 a4 h4 a5 h5 a6 h6 a7 h7 a8 h8 hc0 hc1 x0 x1 x2 x3 x4)]
  on_goal 4 => unfold out0_B_8; rw [View.read_writes_eq_canon _ _ _ (cover0_B_8 c i a0 h0 a1 h1 a2 h2 a3 h3 a4 h4 a5 h5 a6 h6 a7 h7 a8 h8 hc0 hc1 x0 x1 x2 x3 x4)]
  all_goals
    unfold kernelRun0_B
    dsimp only
    sl_unfold_words
    rw [View.canon_unit_zero (S := S1x256x1024) hz3]
    simp only [View.readAt_eq_ld, h0.read_unread, h1.read_unread, h2.read_unread, h3.read_unread, h4.read_unread, View.ld_unit_zero (S := S1x256x1024) hz3, View.ld_unit]
    pointwise [k0_pay1, k0_pay2, k0_pay3, k0_pay4, k0_pay5, k0_pay6, k0_pay7, k0_pay8, k0_pay9, k0_pay10, k0_pay11, k0_pay12, k0_pay13, k0_pay14, k0_pay15, k0_pay16]
    simp only [mn, vn, delta, Fin.sum_univ_eight]
    try rfl

/-- Where an element of a grid point's tile lies. -/
theorem emb : ((cfg0.win 0).blk t).view.emb (ix3 0 r k : S1x256x1024.Idx) = ix3 (lay t) (row t r) k := by
  obtain ⟨ea, eb, ec⟩ := idx0 t
  refine funext fun a => ?_
  match a with
  | ⟨0, _⟩ => exact Fin.ext (show win0_0.index t 0 * 1 + 1 * 0 = t.val / 2 by rw [ea]; omega)
  | ⟨1, _⟩ => exact Fin.ext (show win0_0.index t 1 * 256 + 1 * r.val = t.val % 2 * 256 + r.val by rw [eb]; omega)
  | ⟨2, _⟩ => exact Fin.ext (show win0_0.index t 2 * 1024 + 1 * k.val = k.val by rw [ec]; omega)

/-- An element of the tile of argument 0 that a grid point loads. -/
theorem blk0 : (iblk m c 0 t : Vec Ideal S1x256x1024 .f32) (ix3 0 r k) = V0 m c (ix3 (lay t) (row t r) k) :=
  congrArg (m ((c : Thread nD τ).loc main_arg0)) (emb t r k)

/-- An element of the tile of argument 1 that a grid point loads. -/
theorem blk1 : (iblk m c 1 t : Vec Ideal S1x256x1024 .f32) (ix3 0 r k) = V1 m c (ix3 (lay t) (row t r) k) :=
  congrArg (m ((c : Thread nD τ).loc main_arg1)) (emb t r k)

/-- An element of the tile of argument 2 that a grid point loads. -/
theorem blk2 : (iblk m c 2 t : Vec Ideal S1x256x1024 .f32) (ix3 0 r k) = V2 m c (ix3 (lay t) (row t r) k) :=
  congrArg (m ((c : Thread nD τ).loc main_arg2)) (emb t r k)

/-- An element of the tile of argument 3 that a grid point of its layer loads. -/
theorem blk3 (h : t.val < 2) : (iblk m c 3 t : Vec Ideal S8x256x1024 .bf16) (ix3 s r k) = V3 m c (ix3 s (row t r) k) := by
  obtain ⟨ea, eb, ec⟩ := idx3 t
  rw [if_pos h] at eb
  refine congrArg (m ((c : Thread nD τ).loc main_arg3)) (funext fun a => ?_)
  match a with
  | ⟨0, _⟩ => exact Fin.ext (show win0_3.index t 0 * 8 + 1 * s.val = s.val by rw [ea]; omega)
  | ⟨1, _⟩ => exact Fin.ext (show win0_3.index t 1 * 256 + 1 * r.val = t.val % 2 * 256 + r.val by rw [eb]; omega)
  | ⟨2, _⟩ => exact Fin.ext (show win0_3.index t 2 * 1024 + 1 * k.val = k.val by rw [ec]; omega)

/-- An element of the tile of argument 4 that a grid point of its layer loads. -/
theorem blk4 (h : 2 ≤ t.val) : (iblk m c 4 t : Vec Ideal S8x256x1024 .bf16) (ix3 s r k) = V4 m c (ix3 s (row t r) k) := by
  obtain ⟨ea, eb, ec⟩ := idx4 t
  rw [if_neg (by omega)] at eb
  refine congrArg (m ((c : Thread nD τ).loc main_arg4)) (funext fun a => ?_)
  match a with
  | ⟨0, _⟩ => exact Fin.ext (show win0_4.index t 0 * 8 + 1 * s.val = s.val by rw [ea]; omega)
  | ⟨1, _⟩ => exact Fin.ext (show win0_4.index t 1 * 256 + 1 * r.val = t.val % 2 * 256 + r.val by rw [eb]; omega)
  | ⟨2, _⟩ => exact Fin.ext (show win0_4.index t 2 * 1024 + 1 * k.val = k.val by rw [ec]; omega)

/-- What a point leaves in its outputs. -/
theorem at_ : ((outsAt0 m c t.val t.isLt).1 (ix3 0 r k) : EReal) = R5 (V3 m c) (V4 m c) (lay t) (row t r) k
    ∧ ((outsAt0 m c t.val t.isLt).2.1 (ix3 0 r k) : EReal) = R6 (V0 m c) (V1 m c) (V2 m c) (V3 m c) (V4 m c) (lay t) (row t r) k
    ∧ ((outsAt0 m c t.val t.isLt).2.2.1 (ix3 0 r k) : EReal) = R7 (V1 m c) (V3 m c) (V4 m c) (lay t) (row t r) k
    ∧ ((outsAt0 m c t.val t.isLt).2.2.2 (ix3 0 r k) : EReal) = R8 (V2 m c) (V3 m c) (V4 m c) (lay t) (row t r) k := by
  have hN : cfg0.N = 4 := N_0; have ht := t.isLt
  by_cases h : t.val < 2
  · have hl : lay t = 0 := Fin.ext (show t.val / 2 = 0 by omega)
    rw [outsAt0_A m c t h (by omega)]
    dsimp only
    rw [(outA ..).1, (outA ..).2.1, (outA ..).2.2.1, (outA ..).2.2.2, R5, R6, R7, R8, grad, if_pos hl]
    simp only [blk0 m c t, blk1 m c t, blk2 m c t, blk3 m c t _ _ _ h, true_and]
  · have hl : lay t ≠ 0 := fun e => by have e : t.val / 2 = 0 := congrArg Fin.val e; omega
    rw [outsAt0_B m c t h (by omega)]
    dsimp only
    rw [(outB ..).1, (outB ..).2.1, (outB ..).2.2.1, (outB ..).2.2.2, R5, R6, R7, R8, grad, if_neg hl]
    simp only [blk0 m c t, blk1 m c t, blk2 m c t, blk4 m c t _ _ _ (Nat.le_of_not_lt h), true_and]

/-- An element of a tile is that of its row and column. -/
theorem pt (y : S1x256x1024.Idx) : y = ix3 (n0 := 1) (n1 := 256) (n2 := 1024) 0 (y 1) (y 2) :=
  (eq_ix3 y).trans (congrArg (ix3 · (y 1) (y 2)) (Subsingleton.elim (α := Fin 1) _ _))

/-- The tile that holds a row of a layer. -/
theorem near (i : S2x512x1024.Idx) : ∃ t : Fin cfg0.N, ∀ a, win0_0.index t a * S1x256x1024.size a ≤ (i a).val ∧ (i a).val < win0_0.index t a * S1x256x1024.size a + S1x256x1024.size a := by
  have h0 : (i 0).val < 2 := (i 0).isLt
  have h1 : (i 1).val < 512 := (i 1).isLt
  have h2 : (i 2).val < 1024 := (i 2).isLt
  have hN : cfg0.N = 4 := N_0
  have ht : (i 0).val * 2 + (i 1).val / 256 < cfg0.N := by rw [hN]; omega
  obtain ⟨ea, eb, ec⟩ := idx0 ⟨_, ht⟩
  dsimp only at ea eb ec
  refine ⟨⟨_, ht⟩, fun a => ?_⟩
  match a with
  | ⟨0, _⟩ =>
    show win0_0.index _ 0 * 1 ≤ (i 0).val ∧ (i 0).val < win0_0.index _ 0 * 1 + 1
    rw [ea]; omega
  | ⟨1, _⟩ =>
    show win0_0.index _ 1 * 256 ≤ (i 1).val ∧ (i 1).val < win0_0.index _ 1 * 256 + 256
    rw [eb]; omega
  | ⟨2, _⟩ =>
    show win0_0.index _ 2 * 1024 ≤ (i 2).val ∧ (i 2).val < win0_0.index _ 2 * 1024 + 1024
    rw [ec]; omega

/-- An element of a grid point's tile of an array is the array's at the point's layer, row and column. -/
theorem tile (R : Fin 2 → Fin 512 → Fin 1024 → EReal) (y : S1x256x1024.Idx) : R (lay t) (row t (y 1)) (y 2)
    = R (((cfg0.win 5).blk t).view.emb y 0) (((cfg0.win 5).blk t).view.emb y 1) (((cfg0.win 5).blk t).view.emb y 2) := by
  obtain ⟨ea, eb, ec⟩ := idx0 t
  have hy0 : (y 0).val < 1 := (y 0).isLt
  refine congr3 R (Fin.ext ?_) (Fin.ext ?_) (Fin.ext ?_)
  · show t.val / 2 = win0_0.index t 0 * 1 + 1 * (y 0).val
    rw [ea]; omega
  · show t.val % 2 * 256 + (y 1).val = win0_0.index t 1 * 256 + 1 * (y 1).val
    rw [eb]; omega
  · show (y 2).val = win0_0.index t 2 * 1024 + 1 * (y 2).val
    rw [ec]; omega

/-- The array of output 5. -/
def G5 : Buf (Elt Ideal) ((c : Thread nD τ).loc main_v0_0) := fun i : S2x512x1024.Idx => R5 (V3 m c) (V4 m c) (i 0) (i 1) (i 2)

attribute [local irreducible] R5 in
/-- What a grid point writes back is its tile of that array. -/
theorem flushed5 : (dats m 0 c).flushed 5 t = ((cfg0.win 5).blk t).view.read (Elt Ideal) (G5 m c) :=
  (Value.flushed5 m c t).trans (funext fun y => ((congrArg (outsAt0 m c t.val t.isLt).1 (pt y)).trans (at_ m c t (y 1) (y 2)).1).trans (tile t (R5 (V3 m c) (V4 m c)) y))

/-- Every element of the array is in some point's tile. -/
theorem cover5 (i : S2x512x1024.Idx) : ∃ t : Fin cfg0.N, (cfg0.win 5).flush t = true ∧ i ∈ ((cfg0.win 5).blk t).view.set := by
  obtain ⟨t, h⟩ := near i
  refine ⟨t, flush0_5 _, ?_⟩
  show i ∈ ((View.whole main_v0_0).slice (win0_5.rect t)).set
  rw [View.set_slice_whole, Rect.mem_set_unit]
  exact h

/-- The array of output 6. -/
def G6 : Buf (Elt Ideal) ((c : Thread nD τ).loc main_v0_1) := fun i : S2x512x1024.Idx => R6 (V0 m c) (V1 m c) (V2 m c) (V3 m c) (V4 m c) (i 0) (i 1) (i 2)

attribute [local irreducible] R6 in
/-- What a grid point writes back is its tile of that array. -/
theorem flushed6 : (dats m 0 c).flushed 6 t = ((cfg0.win 6).blk t).view.read (Elt Ideal) (G6 m c) :=
  (Value.flushed6 m c t).trans (funext fun y => ((congrArg (outsAt0 m c t.val t.isLt).2.1 (pt y)).trans (at_ m c t (y 1) (y 2)).2.1).trans (tile t (R6 (V0 m c) (V1 m c) (V2 m c) (V3 m c) (V4 m c)) y))

/-- Every element of the array is in some point's tile. -/
theorem cover6 (i : S2x512x1024.Idx) : ∃ t : Fin cfg0.N, (cfg0.win 6).flush t = true ∧ i ∈ ((cfg0.win 6).blk t).view.set := by
  obtain ⟨t, h⟩ := near i
  refine ⟨t, flush0_6 _, ?_⟩
  show i ∈ ((View.whole main_v0_1).slice (win0_6.rect t)).set
  rw [View.set_slice_whole, Rect.mem_set_unit]
  exact h

/-- The array of output 7. -/
def G7 : Buf (Elt Ideal) ((c : Thread nD τ).loc main_v0_2) := fun i : S2x512x1024.Idx => R7 (V1 m c) (V3 m c) (V4 m c) (i 0) (i 1) (i 2)

attribute [local irreducible] R7 in
/-- What a grid point writes back is its tile of that array. -/
theorem flushed7 : (dats m 0 c).flushed 7 t = ((cfg0.win 7).blk t).view.read (Elt Ideal) (G7 m c) :=
  (Value.flushed7 m c t).trans (funext fun y => ((congrArg (outsAt0 m c t.val t.isLt).2.2.1 (pt y)).trans (at_ m c t (y 1) (y 2)).2.2.1).trans (tile t (R7 (V1 m c) (V3 m c) (V4 m c)) y))

/-- Every element of the array is in some point's tile. -/
theorem cover7 (i : S2x512x1024.Idx) : ∃ t : Fin cfg0.N, (cfg0.win 7).flush t = true ∧ i ∈ ((cfg0.win 7).blk t).view.set := by
  obtain ⟨t, h⟩ := near i
  refine ⟨t, flush0_7 _, ?_⟩
  show i ∈ ((View.whole main_v0_2).slice (win0_7.rect t)).set
  rw [View.set_slice_whole, Rect.mem_set_unit]
  exact h

/-- The array of output 8. -/
def G8 : Buf (Elt Ideal) ((c : Thread nD τ).loc main_v0_3) := fun i : S2x512x1024.Idx => R8 (V2 m c) (V3 m c) (V4 m c) (i 0) (i 1) (i 2)

attribute [local irreducible] R8 in
/-- What a grid point writes back is its tile of that array. -/
theorem flushed8 : (dats m 0 c).flushed 8 t = ((cfg0.win 8).blk t).view.read (Elt Ideal) (G8 m c) :=
  (Value.flushed8 m c t).trans (funext fun y => ((congrArg (outsAt0 m c t.val t.isLt).2.2.2 (pt y)).trans (at_ m c t (y 1) (y 2)).2.2.2).trans (tile t (R8 (V2 m c) (V3 m c) (V4 m c)) y))

/-- Every element of the array is in some point's tile. -/
theorem cover8 (i : S2x512x1024.Idx) : ∃ t : Fin cfg0.N, (cfg0.win 8).flush t = true ∧ i ∈ ((cfg0.win 8).blk t).view.set := by
  obtain ⟨t, h⟩ := near i
  refine ⟨t, flush0_8 _, ?_⟩
  show i ∈ ((View.whole main_v0_3).slice (win0_8.rect t)).set
  rw [View.set_slice_whole, Rect.mem_set_unit]
  exact h

end kernel

/-- The frames: the generated runs. -/
theorem frame_k : Cert.quiescent_AdamDownKernel := fun m ρ _ => Cert.AdamDownKernel.Gen.frame m ρ
/-- … of the idealized kernel, -/
theorem frame_ki : Cert.quiescent_AdamDownKernelIdeal := fun m ρ _ => Cert.AdamDownKernelIdeal.Gen.frame m ρ
/-- … and of the reference, which has no semaphore. -/
theorem frame_r : Cert.quiescent_AdamDownReferenceIdeal := fun m ρ _ =>
  (θ_run Cert.AdamDownReferenceIdeal.defs _ _).mono (fun r h => ⟨fun c => (h c).2.2.2.2, Idealize.ShloMosaic.sem_eq_zero_of_no_sems (by decide) r.2⟩)
    (Cert.AdamDownReferenceIdeal.Value.run (F := Ideal) m ρ)

set_option maxHeartbeats 4000000 in
open Cert.AdamDownKernelIdeal Cert.AdamDownKernelIdeal.Gen in
/-- The kernel's results and the reference's are the same arrays. -/
theorem algebraic : Cert.algebraic_AdamDownKernelIdeal_AdamDownReferenceIdeal := by
  intro m ρ m' ρ' _ hagree
  refine ⟨fun c => G5 m c, fun c => G6 m c, fun c => G7 m c, fun c => G8 m c, ?_, ?_⟩
  · refine (θ_run defs _ _).mono (fun _ h c => ?_) (Value.run_blocks (F := Ideal) m ρ)
    obtain ⟨h5, h6, h7, h8, hk⟩ := h c
    exact ⟨h5.trans ((dats m 0 c).arrAt_eq_of_cover 5 (G5 m c) (fun t _ => flushed5 m c t) cover5), h6.trans ((dats m 0 c).arrAt_eq_of_cover 6 (G6 m c) (fun t _ => flushed6 m c t) cover6), h7.trans ((dats m 0 c).arrAt_eq_of_cover 7 (G7 m c) (fun t _ => flushed7 m c t) cover7), h8.trans ((dats m 0 c).arrAt_eq_of_cover 8 (G8 m c) (fun t _ => flushed8 m c t) cover8), hk⟩
  refine (θ_run Cert.AdamDownReferenceIdeal.defs _ _).mono (fun _ h c => ?_) (Cert.AdamDownReferenceIdeal.Value.run (F := Ideal) m' ρ')
  obtain ⟨a0, a1, a2, a3, a4⟩ := hagree c
  obtain ⟨h5, h6, h7, h8, hk⟩ := h c
  refine ⟨h5.trans (funext fun i => ?_), h6.trans (funext fun i => ?_), h7.trans (funext fun i => ?_), h8.trans (funext fun i => ?_), hk⟩
  all_goals obtain ⟨b, n, k, rfl⟩ : ∃ b n k, i = ix3 b n k := ⟨_, _, _, eq_ix3 i⟩
  on_goal 1 => refine Eq.trans (b := (R5 (m' (c.tc.loc Cert.AdamDownReferenceIdeal.main_arg3)) (m' (c.tc.loc Cert.AdamDownReferenceIdeal.main_arg4)) b n k : EReal)) ?_ (by rw [a3, a4]; rfl); unfold R5
  on_goal 2 => refine Eq.trans (b := (R6 (m' (c.tc.loc Cert.AdamDownReferenceIdeal.main_arg0)) (m' (c.tc.loc Cert.AdamDownReferenceIdeal.main_arg1)) (m' (c.tc.loc Cert.AdamDownReferenceIdeal.main_arg2)) (m' (c.tc.loc Cert.AdamDownReferenceIdeal.main_arg3)) (m' (c.tc.loc Cert.AdamDownReferenceIdeal.main_arg4)) b n k : EReal)) ?_ (by rw [a0, a1, a2, a3, a4]; rfl); unfold R6
  on_goal 3 => refine Eq.trans (b := (R7 (m' (c.tc.loc Cert.AdamDownReferenceIdeal.main_arg1)) (m' (c.tc.loc Cert.AdamDownReferenceIdeal.main_arg3)) (m' (c.tc.loc Cert.AdamDownReferenceIdeal.main_arg4)) b n k : EReal)) ?_ (by rw [a1, a3, a4]; rfl); unfold R7
  on_goal 4 => refine Eq.trans (b := (R8 (m' (c.tc.loc Cert.AdamDownReferenceIdeal.main_arg2)) (m' (c.tc.loc Cert.AdamDownReferenceIdeal.main_arg3)) (m' (c.tc.loc Cert.AdamDownReferenceIdeal.main_arg4)) b n k : EReal)) ?_ (by rw [a2, a3, a4]; rfl); unfold R8
  all_goals
    unfold grad
    match b with
    | 0 =>
      rw [if_pos rfl]
      pointwise
      try simp only [mn, vn, delta]
    | 1 =>
      rw [if_neg (by decide)]
      pointwise
      try simp only [mn, vn, delta]

end Cert.AdamDown

end
-- ==== Proof.AdamIn.lean ====
/-
  The optimiser's step on a weight of both layers (`adam_w_in`): a grid point adds the eight devices' parts of its layer's gradient
  and steps one tile of the weight.
-/
module

public import proofs.«01_k».proof.Defs
public import proofs.«01_k».proof.Proof.Common
public import proofs.«01_k».proof.Proof.AdamSpec
public import proofs.«01_k».proof.Proof.Gen.AdamInKernel.Frame
public import proofs.«01_k».proof.Proof.Gen.AdamInKernelIdeal.Value
public import proofs.«01_k».proof.Proof.Gen.AdamInReferenceIdeal.Run
public import Idealize.ShloMosaic.Lib.Quiescent
public import Idealize.ShloMosaic.Lib.Tactic
public import Idealize.ShloMosaic.Lib.Pointwise

@[expose] public section

noncomputable section

namespace Cert.AdamIn

open Idealize.ShloMosaic Idealize.ShloMosaic.TcCoe Idealize.SL.Sem Cert.Common Cert.AdamSpec

section spec

variable (W M V : (⟨3, ![2, 1024, 962]⟩ : Shape).Idx → EReal) (S0 S1 : (⟨3, ![8, 1024, 962]⟩ : Shape).Idx → EReal)
  (b : Fin 2) (n : Fin 1024) (k : Fin 962)

/-- The gradient of layer `b`: the sum of the devices' parts. -/
def grad : EReal := if b = 0 then ∑ s, S0 (ix3 s n k) else ∑ s, S1 (ix3 s n k)

/-- The gradient. -/
def R5 : EReal := grad S0 S1 b n k

/-- The step. -/
def R6 : EReal := delta (grad S0 S1 b n k) (W (ix3 b n k)) (M (ix3 b n k)) (V (ix3 b n k))

/-- The new running mean. -/
def R7 : EReal := mn (grad S0 S1 b n k) (M (ix3 b n k))

/-- The new running mean of the square. -/
def R8 : EReal := vn (grad S0 S1 b n k) (V (ix3 b n k))

end spec

section kernel

open Cert.AdamInKernelIdeal Cert.AdamInKernelIdeal.Gen

variable (m : (ℓ : Loc nD τ sig) → Buf (Elt Ideal) ℓ) (c : Dev nD) (t : Fin cfg0.N) (i : grid0.Coords)
  (a0 : Memref sig .tc .vmem S1x256x962 .f32) (h0 : a0.IsWhole)
  (a1 : Memref sig .tc .vmem S1x256x962 .f32) (h1 : a1.IsWhole)
  (a2 : Memref sig .tc .vmem S1x256x962 .f32) (h2 : a2.IsWhole)
  (a3 : Memref sig .tc .vmem S8x256x962 .bf16) (h3 : a3.IsWhole)
  (a4 : Memref sig .tc .vmem S8x256x962 .bf16) (h4 : a4.IsWhole)
  (a5 : Memref sig .tc .vmem S1x256x962 .f32) (h5 : a5.IsWhole)
  (a6 : Memref sig .tc .vmem S1x256x962 .f32) (h6 : a6.IsWhole)
  (a7 : Memref sig .tc .vmem S1x256x962 .f32) (h7 : a7.IsWhole)
  (a8 : Memref sig .tc .vmem S1x256x962 .f32) (h8 : a8.IsWhole)
  (x0 x1 x2 : Vec Ideal S1x256x962 .f32) (x3 x4 : Vec Ideal S8x256x962 .bf16) (s : Fin 8) (r : Fin 256) (k : Fin 962)

/-- The block of window 0 at a grid point. -/
theorem idx0 : ∀ t : Fin grid0.N, win0_0.index t 0 = t.val / 4 ∧ win0_0.index t 1 = t.val % 4 ∧ win0_0.index t 2 = 0 := by decide +kernel

/-- The block of window 3 at a grid point. -/
theorem idx3 : ∀ t : Fin grid0.N, win0_3.index t 0 = 0 ∧ win0_3.index t 1 = (if t.val < 4 then t.val % 4 else 0) ∧ win0_3.index t 2 = 0 := by decide +kernel

/-- The block of window 4 at a grid point. -/
theorem idx4 : ∀ t : Fin grid0.N, win0_4.index t 0 = 0 ∧ win0_4.index t 1 = (if t.val < 4 then 0 else t.val % 4) ∧ win0_4.index t 2 = 0 := by decide +kernel

/-- Argument 0. -/
def V0 : (⟨3, ![2, 1024, 962]⟩ : Shape).Idx → EReal := m ((c : Thread nD τ).loc main_arg0)

/-- Argument 1. -/
def V1 : (⟨3, ![2, 1024, 962]⟩ : Shape).Idx → EReal := m ((c : Thread nD τ).loc main_arg1)

/-- Argument 2. -/
def V2 : (⟨3, ![2, 1024, 962]⟩ : Shape).Idx → EReal := m ((c : Thread nD τ).loc main_arg2)

/-- Argument 3. -/
def V3 : (⟨3, ![8, 1024, 962]⟩ : Shape).Idx → EReal := m ((c : Thread nD τ).loc main_arg3)

/-- Argument 4. -/
def V4 : (⟨3, ![8, 1024, 962]⟩ : Shape).Idx → EReal := m ((c : Thread nD τ).loc main_arg4)

/-- The layer of a grid point. -/
def lay : Fin 2 := ⟨t.val / 4, by have := t.isLt; have : cfg0.N = 8 := N_0; omega⟩

/-- A row of its tile. -/
def row : Fin 1024 := ⟨t.val % 4 * 256 + r.val, by have := r.isLt; omega⟩

/-- What a point of layer 0 writes. -/
theorem outA (hc0 : cond0_0 i) (hc1 : ¬cond0_1 i) :
    (out0_A_5 c i a0 h0 a1 h1 a2 h2 a3 h3 a4 h4 a5 h5 a6 h6 a7 h7 a8 h8 hc0 hc1 x0 x1 x2 x3 x4 (ix3 0 r k) : EReal) = ∑ s, x3 (ix3 s r k)
    ∧ (out0_A_6 c i a0 h0 a1 h1 a2 h2 a3 h3 a4 h4 a5 h5 a6 h6 a7 h7 a8 h8 hc0 hc1 x0 x1 x2 x3 x4 (ix3 0 r k) : EReal) = delta (∑ s, x3 (ix3 s r k)) (x0 (ix3 0 r k)) (x1 (ix3 0 r k)) (x2 (ix3 0 r k))
    ∧ (out0_A_7 c i a0 h0 a1 h1 a2 h2 a3 h3 a4 h4 a5 h5 a6 h6 a7 h7 a8 h8 hc0 hc1 x0 x1 x2 x3 x4 (ix3 0 r k) : EReal) = mn (∑ s, x3 (ix3 s r k)) (x1 (ix3 0 r k))
    ∧ (out0_A_8 c i a0 h0 a1 h1 a2 h2 a3 h3 a4 h4 a5 h5 a6 h6 a7 h7 a8 h8 hc0 hc1 x0 x1 x2 x3 x4 (ix3 0 r k) : EReal) = vn (∑ s, x3 (ix3 s r k)) (x2 (ix3 0 r k)) := by
  refine ⟨?_, ?_, ?_, ?_⟩
  on_goal 1 => unfold out0_A_5; rw [View.read_writes_eq_canon _ _ _ (cover0_A_5 c i a0 h0 a1 h1 a2 h2 a3 h3 a4 h4 a5 h5 a6 h6 a7 h7 a8 h8 hc0 hc1 x0 x1 x2 x3 x4)]
  on_goal 2 => unfold out0_A_6; rw [View.read_writes_eq_canon _ _ _ (cover0_A_6 c i a0 h0 a1 h1 a2 h2 a3 h3 a4 h4 a5 h5 a6 h6 a7 h7 a8 h8 hc0 hc1 x0 x1 x2 x3 x4)]
  on_goal 3 => unfold out0_A_7; rw [View.read_writes_eq_canon _ _ _ (cover0_A_7 c i a0 h0 a1 h1 a2 h2 a3 h3 a4 h4 a5 h5 a6 h6 a7 h7 a8 h8 hc0 hc1 x0 x1 x2 x3 x4)]
  on_goal 4 => unfold out0_A_8; rw [View.read_writes_eq_canon _ _ _ (cover0_A_8 c i a0 h0 a1 h1 a2 h2 a3 h3 a4 h4 a5 h5 a6 h6 a7 h7 a8 h8 hc0 hc1 x0 x1 x2 x3 x4)]
  all_goals
    unfold kernelRun0_A
    dsimp only
    sl_unfold_words
    rw [View.canon_unit_zero (S := S1x256x962) hz3]
    simp only [View.readAt_eq_ld, h0.read_unread, h1.read_unread, h2.read_unread, h3.read_unread, h4.read_unread, View.ld_unit_zero (S := S1x256x962) hz3, View.ld_unit]
    pointwise [k0_pay1, k0_pay2, k0_pay3, k0_pay4, k0_pay5, k0_pay6, k0_pay7, k0_pay8, k0_pay9, k0_pay10, k0_pay11, k0_pay12, k0_pay13, k0_pay14, k0_pay15, k0_pay16]
    simp only [mn, vn, delta, Fin.sum_univ_eight]
    try rfl

/-- What a point of layer 1 writes. -/
theorem outB (hc0 : ¬cond0_0 i) (hc1 : cond0_1 i) :
    (out0_B_5 c i a0 h0 a1 h1 a2 h2 a3 h3 a4 h4 a5 h5 a6 h6 a7 h7 a8 h8 hc0 hc1 x0 x1 x2 x3 x4 (ix3 0 r k) : EReal) = ∑ s, x4 (ix3 s r k)
    ∧ (out0_B_6 c i a0 h0 a1 h1 a2 h2 a3 h3 a4 h4 a5 h5 a6 h6 a7 h7 a8 h8 hc0 hc1 x0 x1 x2 x3 x4 (ix3 0 r k) : EReal) = delta (∑ s, x4 (ix3 s r k)) (x0 (ix3 0 r k)) (x1 (ix3 0 r k)) (x2 (ix3 0 r k))
    ∧ (out0_B_7 c i a0 h0 a1 h1 a2 h2 a3 h3 a4 h4 a5 h5 a6 h6 a7 h7 a8 h8 hc0 hc1 x0 x1 x2 x3 x4 (ix3 0 r k) : EReal) = mn (∑ s, x4 (ix3 s r k)) (x1 (ix3 0 r k))
    ∧ (out0_B_8 c i a0 h0 a1 h1 a2 h2 a3 h3 a4 h4 a5 h5 a6 h6 a7 h7 a8 h8 hc0 hc1 x0 x1 x2 x3 x4 (ix3 0 r k) : EReal) = vn (∑ s, x4 (ix3 s r k)) (x2 (ix3 0 r k)) := by
  refine ⟨?_, ?_, ?_, ?_⟩
  on_goal 1 => unfold out0_B_5; rw [View.read_writes_eq_canon _ _ _ (cover0_B_5 c i a0 h0 a1 h1 a2 h2 a3 h3 a4 h4 a5 h5 a6 h6 a7 h7 a8 h8 hc0 hc1 x0 x1 x2 x3 x4)]
  on_goal 2 => unfold out0_B_6; rw [View.read_writes_eq_canon _ _ _ (cover0_B_6 c i a0 h0 a1 h1 a2 h2 a3 h3 a4 h4 a5 h5 a6 h6 a7 h7 a8 h8 hc0 hc1 x0 x1 x2 x3 x4)]
  on_goal 3 => unfold out0_B_7; rw [View.read_writes_eq_canon _ _ _ (cover0_B_7 c i a0 h0 a1 h1 a2 h2 a3 h3 a4 h4 a5 h5 a6 h6 a7 h7 a8 h8 hc0 hc1 x0 x1 x2 x3 x4)]
  on_goal 4 => unfold out0_B_8; rw [View.read_writes_eq_canon _ _ _ (cover0_B_8 c i a0 h0 a1 h1 a2 h2 a3 h3 a4 h4 a5 h5 a6 h6 a7 h7 a8 h8 hc0 hc1 x0 x1 x2 x3 x4)]
  all_goals
    unfold kernelRun0_B
    dsimp only
    sl_unfold_words
    rw [View.canon_unit_zero (S := S1x256x962) hz3]
    simp only [View.readAt_eq_ld, h0.read_unread, h1.read_unread, h2.read_unread, h3.read_unread, h4.read_unread, View.ld_unit_zero (S := S1x256x962) hz3, View.ld_unit]
    pointwise [k0_pay1, k0_pay2, k0_pay3, k0_pay4, k0_pay5, k0_pay6, k0_pay7, k0_pay8, k0_pay9, k0_pay10, k0_pay11, k0_pay12, k0_pay13, k0_pay14, k0_pay15, k0_pay16]
    simp only [mn, vn, delta, Fin.sum_univ_eight]
    try rfl

/-- Where an element of a grid point's tile lies. -/
theorem emb : ((cfg0.win 0).blk t).view.emb (ix3 0 r k : S1x256x962.Idx) = ix3 (lay t) (row t r) k := by
  obtain ⟨ea, eb, ec⟩ := idx0 t
  refine funext fun a => ?_
  match a with
  | ⟨0, _⟩ => exact Fin.ext (show win0_0.index t 0 * 1 + 1 * 0 = t.val / 4 by rw [ea]; omega)
  | ⟨1, _⟩ => exact Fin.ext (show win0_0.index t 1 * 256 + 1 * r.val = t.val % 4 * 256 + r.val by rw [eb]; omega)
  | ⟨2, _⟩ => exact Fin.ext (show win0_0.index t 2 * 962 + 1 * k.val = k.val by rw [ec]; omega)

/-- An element of the tile of argument 0 that a grid point loads. -/
theorem blk0 : (iblk m c 0 t : Vec Ideal S1x256x962 .f32) (ix3 0 r k) = V0 m c (ix3 (lay t) (row t r) k) :=
  congrArg (m ((c : Thread nD τ).loc main_arg0)) (emb t r k)

/-- An element of the tile of argument 1 that a grid point loads. -/
theorem blk1 : (iblk m c 1 t : Vec Ideal S1x256x962 .f32) (ix3 0 r k) = V1 m c (ix3 (lay t) (row t r) k) :=
  congrArg (m ((c : Thread nD τ).loc main_arg1)) (emb t r k)

/-- An element of the tile of argument 2 that a grid point loads. -/
theorem blk2 : (iblk m c 2 t : Vec Ideal S1x256x962 .f32) (ix3 0 r k) = V2 m c (ix3 (lay t) (row t r) k) :=
  congrArg (m ((c : Thread nD τ).loc main_arg2)) (emb t r k)

/-- An element of the tile of argument 3 that a grid point of its layer loads. -/
theorem blk3 (h : t.val < 4) : (iblk m c 3 t : Vec Ideal S8x256x962 .bf16) (ix3 s r k) = V3 m c (ix3 s (row t r) k) := by
  obtain ⟨ea, eb, ec⟩ := idx3 t
  rw [if_pos h] at eb
  refine congrArg (m ((c : Thread nD τ).loc main_arg3)) (funext fun a => ?_)
  match a with
  | ⟨0, _⟩ => exact Fin.ext (show win0_3.index t 0 * 8 + 1 * s.val = s.val by rw [ea]; omega)
  | ⟨1, _⟩ => exact Fin.ext (show win0_3.index t 1 * 256 + 1 * r.val = t.val % 4 * 256 + r.val by rw [eb]; omega)
  | ⟨2, _⟩ => exact Fin.ext (show win0_3.index t 2 * 962 + 1 * k.val = k.val by rw [ec]; omega)

/-- An element of the tile of argument 4 that a grid point of its layer loads. -/
theorem blk4 (h : 4 ≤ t.val) : (iblk m c 4 t : Vec Ideal S8x256x962 .bf16) (ix3 s r k) = V4 m c (ix3 s (row t r) k) := by
  obtain ⟨ea, eb, ec⟩ := idx4 t
  rw [if_neg (by omega)] at eb
  refine congrArg (m ((c : Thread nD τ).loc main_arg4)) (funext fun a => ?_)
  match a with
  | ⟨0, _⟩ => exact Fin.ext (show win0_4.index t 0 * 8 + 1 * s.val = s.val by rw [ea]; omega)
  | ⟨1, _⟩ => exact Fin.ext (show win0_4.index t 1 * 256 + 1 * r.val = t.val % 4 * 256 + r.val by rw [eb]; omega)
  | ⟨2, _⟩ => exact Fin.ext (show win0_4.index t 2 * 962 + 1 * k.val = k.val by rw [ec]; omega)

/-- What a point leaves in its outputs. -/
theorem at_ : ((outsAt0 m c t.val t.isLt).1 (ix3 0 r k) : EReal) = R5 (V3 m c) (V4 m c) (lay t) (row t r) k
    ∧ ((outsAt0 m c t.val t.isLt).2.1 (ix3 0 r k) : EReal) = R6 (V0 m c) (V1 m c) (V2 m c) (V3 m c) (V4 m c) (lay t) (row t r) k
    ∧ ((outsAt0 m c t.val t.isLt).2.2.1 (ix3 0 r k) : EReal) = R7 (V1 m c) (V3 m c) (V4 m c) (lay t) (row t r) k
    ∧ ((outsAt0 m c t.val t.isLt).2.2.2 (ix3 0 r k) : EReal) = R8 (V2 m c) (V3 m c) (V4 m c) (lay t) (row t r) k := by
  have hN : cfg0.N = 8 := N_0; have ht := t.isLt
  by_cases h : t.val < 4
  · have hl : lay t = 0 := Fin.ext (show t.val / 4 = 0 by omega)
    rw [outsAt0_A m c t h (by omega)]
    dsimp only
    rw [(outA ..).1, (outA ..).2.1, (outA ..).2.2.1, (outA ..).2.2.2, R5, R6, R7, R8, grad, if_pos hl]
    simp only [blk0 m c t, blk1 m c t, blk2 m c t, blk3 m c t _ _ _ h, true_and]
  · have hl : lay t ≠ 0 := fun e => by have e : t.val / 4 = 0 := congrArg Fin.val e; omega
    rw [outsAt0_B m c t h (by omega)]
    dsimp only
    rw [(outB ..).1, (outB ..).2.1, (outB ..).2.2.1, (outB ..).2.2.2, R5, R6, R7, R8, grad, if_neg hl]
    simp only [blk0 m c t, blk1 m c t, blk2 m c t, blk4 m c t _ _ _ (Nat.le_of_not_lt h), true_and]

/-- An element of a tile is that of its row and column. -/
theorem pt (y : S1x256x962.Idx) : y = ix3 (n0 := 1) (n1 := 256) (n2 := 962) 0 (y 1) (y 2) :=
  (eq_ix3 y).trans (congrArg (ix3 · (y 1) (y 2)) (Subsingleton.elim (α := Fin 1) _ _))

/-- The tile that holds a row of a layer. -/
theorem near (i : S2x1024x962.Idx) : ∃ t : Fin cfg0.N, ∀ a, win0_0.index t a * S1x256x962.size a ≤ (i a).val ∧ (i a).val < win0_0.index t a * S1x256x962.size a + S1x256x962.size a := by
  have h0 : (i 0).val < 2 := (i 0).isLt
  have h1 : (i 1).val < 1024 := (i 1).isLt
  have h2 : (i 2).val < 962 := (i 2).isLt
  have hN : cfg0.N = 8 := N_0
  have ht : (i 0).val * 4 + (i 1).val / 256 < cfg0.N := by rw [hN]; omega
  obtain ⟨ea, eb, ec⟩ := idx0 ⟨_, ht⟩
  dsimp only at ea eb ec
  refine ⟨⟨_, ht⟩, fun a => ?_⟩
  match a with
  | ⟨0, _⟩ =>
    show win0_0.index _ 0 * 1 ≤ (i 0).val ∧ (i 0).val < win0_0.index _ 0 * 1 + 1
    rw [ea]; omega
  | ⟨1, _⟩ =>
    show win0_0.index _ 1 * 256 ≤ (i 1).val ∧ (i 1).val < win0_0.index _ 1 * 256 + 256
    rw [eb]; omega
  | ⟨2, _⟩ =>
    show win0_0.index _ 2 * 962 ≤ (i 2).val ∧ (i 2).val < win0_0.index _ 2 * 962 + 962
    rw [ec]; omega

/-- An element of a grid point's tile of an array is the array's at the point's layer, row and column. -/
theorem tile (R : Fin 2 → Fin 1024 → Fin 962 → EReal) (y : S1x256x962.Idx) : R (lay t) (row t (y 1)) (y 2)
    = R (((cfg0.win 5).blk t).view.emb y 0) (((cfg0.win 5).blk t).view.emb y 1) (((cfg0.win 5).blk t).view.emb y 2) := by
  obtain ⟨ea, eb, ec⟩ := idx0 t
  have hy0 : (y 0).val < 1 := (y 0).isLt
  refine congr3 R (Fin.ext ?_) (Fin.ext ?_) (Fin.ext ?_)
  · show t.val / 4 = win0_0.index t 0 * 1 + 1 * (y 0).val
    rw [ea]; omega
  · show t.val % 4 * 256 + (y 1).val = win0_0.index t 1 * 256 + 1 * (y 1).val
    rw [eb]; omega
  · show (y 2).val = win0_0.index t 2 * 962 + 1 * (y 2).val
    rw [ec]; omega

/-- The array of output 5. -/
def G5 : Buf (Elt Ideal) ((c : Thread nD τ).loc main_v0_0) := fun i : S2x1024x962.Idx => R5 (V3 m c) (V4 m c) (i 0) (i 1) (i 2)

attribute [local irreducible] R5 in
/-- What a grid point writes back is its tile of that array. -/
theorem flushed5 : (dats m 0 c).flushed 5 t = ((cfg0.win 5).blk t).view.read (Elt Ideal) (G5 m c) :=
  (Value.flushed5 m c t).trans (funext fun y => ((congrArg (outsAt0 m c t.val t.isLt).1 (pt y)).trans (at_ m c t (y 1) (y 2)).1).trans (tile t (R5 (V3 m c) (V4 m c)) y))

/-- Every element of the array is in some point's tile. -/
theorem cover5 (i : S2x1024x962.Idx) : ∃ t : Fin cfg0.N, (cfg0.win 5).flush t = true ∧ i ∈ ((cfg0.win 5).blk t).view.set := by
  obtain ⟨t, h⟩ := near i
  refine ⟨t, flush0_5 _, ?_⟩
  show i ∈ ((View.whole main_v0_0).slice (win0_5.rect t)).set
  rw [View.set_slice_whole, Rect.mem_set_unit]
  exact h

/-- The array of output 6. -/
def G6 : Buf (Elt Ideal) ((c : Thread nD τ).loc main_v0_1) := fun i : S2x1024x962.Idx => R6 (V0 m c) (V1 m c) (V2 m c) (V3 m c) (V4 m c) (i 0) (i 1) (i 2)

attribute [local irreducible] R6 in
/-- What a grid point writes back is its tile of that array. -/
theorem flushed6 : (dats m 0 c).flushed 6 t = ((cfg0.win 6).blk t).view.read (Elt Ideal) (G6 m c) :=
  (Value.flushed6 m c t).trans (funext fun y => ((congrArg (outsAt0 m c t.val t.isLt).2.1 (pt y)).trans (at_ m c t (y 1) (y 2)).2.1).trans (tile t (R6 (V0 m c) (V1 m c) (V2 m c) (V3 m c) (V4 m c)) y))

/-- Every element of the array is in some point's tile. -/
theorem cover6 (i : S2x1024x962.Idx) : ∃ t : Fin cfg0.N, (cfg0.win 6).flush t = true ∧ i ∈ ((cfg0.win 6).blk t).view.set := by
  obtain ⟨t, h⟩ := near i
  refine ⟨t, flush0_6 _, ?_⟩
  show i ∈ ((View.whole main_v0_1).slice (win0_6.rect t)).set
  rw [View.set_slice_whole, Rect.mem_set_unit]
  exact h

/-- The array of output 7. -/
def G7 : Buf (Elt Ideal) ((c : Thread nD τ).loc main_v0_2) := fun i : S2x1024x962.Idx => R7 (V1 m c) (V3 m c) (V4 m c) (i 0) (i 1) (i 2)

attribute [local irreducible] R7 in
/-- What a grid point writes back is its tile of that array. -/
theorem flushed7 : (dats m 0 c).flushed 7 t = ((cfg0.win 7).blk t).view.read (Elt Ideal) (G7 m c) :=
  (Value.flushed7 m c t).trans (funext fun y => ((congrArg (outsAt0 m c t.val t.isLt).2.2.1 (pt y)).trans (at_ m c t (y 1) (y 2)).2.2.1).trans (tile t (R7 (V1 m c) (V3 m c) (V4 m c)) y))

/-- Every element of the array is in some point's tile. -/
theorem cover7 (i : S2x1024x962.Idx) : ∃ t : Fin cfg0.N, (cfg0.win 7).flush t = true ∧ i ∈ ((cfg0.win 7).blk t).view.set := by
  obtain ⟨t, h⟩ := near i
  refine ⟨t, flush0_7 _, ?_⟩
  show i ∈ ((View.whole main_v0_2).slice (win0_7.rect t)).set
  rw [View.set_slice_whole, Rect.mem_set_unit]
  exact h

/-- The array of output 8. -/
def G8 : Buf (Elt Ideal) ((c : Thread nD τ).loc main_v0_3) := fun i : S2x1024x962.Idx => R8 (V2 m c) (V3 m c) (V4 m c) (i 0) (i 1) (i 2)

attribute [local irreducible] R8 in
/-- What a grid point writes back is its tile of that array. -/
theorem flushed8 : (dats m 0 c).flushed 8 t = ((cfg0.win 8).blk t).view.read (Elt Ideal) (G8 m c) :=
  (Value.flushed8 m c t).trans (funext fun y => ((congrArg (outsAt0 m c t.val t.isLt).2.2.2 (pt y)).trans (at_ m c t (y 1) (y 2)).2.2.2).trans (tile t (R8 (V2 m c) (V3 m c) (V4 m c)) y))

/-- Every element of the array is in some point's tile. -/
theorem cover8 (i : S2x1024x962.Idx) : ∃ t : Fin cfg0.N, (cfg0.win 8).flush t = true ∧ i ∈ ((cfg0.win 8).blk t).view.set := by
  obtain ⟨t, h⟩ := near i
  refine ⟨t, flush0_8 _, ?_⟩
  show i ∈ ((View.whole main_v0_3).slice (win0_8.rect t)).set
  rw [View.set_slice_whole, Rect.mem_set_unit]
  exact h

end kernel

/-- The frames: the generated runs. -/
theorem frame_k : Cert.quiescent_AdamInKernel := fun m ρ _ => Cert.AdamInKernel.Gen.frame m ρ
/-- … of the idealized kernel, -/
theorem frame_ki : Cert.quiescent_AdamInKernelIdeal := fun m ρ _ => Cert.AdamInKernelIdeal.Gen.frame m ρ
/-- … and of the reference, which has no semaphore. -/
theorem frame_r : Cert.quiescent_AdamInReferenceIdeal := fun m ρ _ =>
  (θ_run Cert.AdamInReferenceIdeal.defs _ _).mono (fun r h => ⟨fun c => (h c).2.2.2.2, Idealize.ShloMosaic.sem_eq_zero_of_no_sems (by decide) r.2⟩)
    (Cert.AdamInReferenceIdeal.Value.run (F := Ideal) m ρ)

set_option maxHeartbeats 4000000 in
open Cert.AdamInKernelIdeal Cert.AdamInKernelIdeal.Gen in
/-- The kernel's results and the reference's are the same arrays. -/
theorem algebraic : Cert.algebraic_AdamInKernelIdeal_AdamInReferenceIdeal := by
  intro m ρ m' ρ' _ hagree
  refine ⟨fun c => G5 m c, fun c => G6 m c, fun c => G7 m c, fun c => G8 m c, ?_, ?_⟩
  · refine (θ_run defs _ _).mono (fun _ h c => ?_) (Value.run_blocks (F := Ideal) m ρ)
    obtain ⟨h5, h6, h7, h8, hk⟩ := h c
    exact ⟨h5.trans ((dats m 0 c).arrAt_eq_of_cover 5 (G5 m c) (fun t _ => flushed5 m c t) cover5), h6.trans ((dats m 0 c).arrAt_eq_of_cover 6 (G6 m c) (fun t _ => flushed6 m c t) cover6), h7.trans ((dats m 0 c).arrAt_eq_of_cover 7 (G7 m c) (fun t _ => flushed7 m c t) cover7), h8.trans ((dats m 0 c).arrAt_eq_of_cover 8 (G8 m c) (fun t _ => flushed8 m c t) cover8), hk⟩
  refine (θ_run Cert.AdamInReferenceIdeal.defs _ _).mono (fun _ h c => ?_) (Cert.AdamInReferenceIdeal.Value.run (F := Ideal) m' ρ')
  obtain ⟨a0, a1, a2, a3, a4⟩ := hagree c
  obtain ⟨h5, h6, h7, h8, hk⟩ := h c
  refine ⟨h5.trans (funext fun i => ?_), h6.trans (funext fun i => ?_), h7.trans (funext fun i => ?_), h8.trans (funext fun i => ?_), hk⟩
  all_goals obtain ⟨b, n, k, rfl⟩ : ∃ b n k, i = ix3 b n k := ⟨_, _, _, eq_ix3 i⟩
  on_goal 1 => refine Eq.trans (b := (R5 (m' (c.tc.loc Cert.AdamInReferenceIdeal.main_arg3)) (m' (c.tc.loc Cert.AdamInReferenceIdeal.main_arg4)) b n k : EReal)) ?_ (by rw [a3, a4]; rfl); unfold R5
  on_goal 2 => refine Eq.trans (b := (R6 (m' (c.tc.loc Cert.AdamInReferenceIdeal.main_arg0)) (m' (c.tc.loc Cert.AdamInReferenceIdeal.main_arg1)) (m' (c.tc.loc Cert.AdamInReferenceIdeal.main_arg2)) (m' (c.tc.loc Cert.AdamInReferenceIdeal.main_arg3)) (m' (c.tc.loc Cert.AdamInReferenceIdeal.main_arg4)) b n k : EReal)) ?_ (by rw [a0, a1, a2, a3, a4]; rfl); unfold R6
  on_goal 3 => refine Eq.trans (b := (R7 (m' (c.tc.loc Cert.AdamInReferenceIdeal.main_arg1)) (m' (c.tc.loc Cert.AdamInReferenceIdeal.main_arg3)) (m' (c.tc.loc Cert.AdamInReferenceIdeal.main_arg4)) b n k : EReal)) ?_ (by rw [a1, a3, a4]; rfl); unfold R7
  on_goal 4 => refine Eq.trans (b := (R8 (m' (c.tc.loc Cert.AdamInReferenceIdeal.main_arg2)) (m' (c.tc.loc Cert.AdamInReferenceIdeal.main_arg3)) (m' (c.tc.loc Cert.AdamInReferenceIdeal.main_arg4)) b n k : EReal)) ?_ (by rw [a2, a3, a4]; rfl); unfold R8
  all_goals
    unfold grad
    match b with
    | 0 =>
      rw [if_pos rfl]
      pointwise
      try simp only [mn, vn, delta]
    | 1 =>
      rw [if_neg (by decide)]
      pointwise
      try simp only [mn, vn, delta]

end Cert.AdamIn

end
-- ==== Proof.AdamBranch.lean ====
/-
  The optimiser's step on a weight of both layers (`adam_w_branch`): a grid point adds the eight devices' parts of its layer's gradient
  and steps one tile of the weight.
-/
module

public import proofs.«01_k».proof.Defs
public import proofs.«01_k».proof.Proof.Common
public import proofs.«01_k».proof.Proof.AdamSpec
public import proofs.«01_k».proof.Proof.Gen.AdamBranchKernel.Frame
public import proofs.«01_k».proof.Proof.Gen.AdamBranchKernelIdeal.Value
public import proofs.«01_k».proof.Proof.Gen.AdamBranchReferenceIdeal.Run
public import Idealize.ShloMosaic.Lib.Quiescent
public import Idealize.ShloMosaic.Lib.Tactic
public import Idealize.ShloMosaic.Lib.Pointwise

@[expose] public section

noncomputable section

namespace Cert.AdamBranch

open Idealize.ShloMosaic Idealize.ShloMosaic.TcCoe Idealize.SL.Sem Cert.Common Cert.AdamSpec

section spec

variable (W M V : (⟨3, ![2, 1536, 128]⟩ : Shape).Idx → EReal) (S0 S1 : (⟨3, ![8, 1536, 128]⟩ : Shape).Idx → EReal)
  (b : Fin 2) (n : Fin 1536) (k : Fin 128)

/-- The gradient of layer `b`: the sum of the devices' parts. -/
def grad : EReal := if b = 0 then ∑ s, S0 (ix3 s n k) else ∑ s, S1 (ix3 s n k)

/-- The gradient. -/
def R5 : EReal := grad S0 S1 b n k

/-- The step. -/
def R6 : EReal := delta (grad S0 S1 b n k) (W (ix3 b n k)) (M (ix3 b n k)) (V (ix3 b n k))

/-- The new running mean. -/
def R7 : EReal := mn (grad S0 S1 b n k) (M (ix3 b n k))

/-- The new running mean of the square. -/
def R8 : EReal := vn (grad S0 S1 b n k) (V (ix3 b n k))

end spec

section kernel

open Cert.AdamBranchKernelIdeal Cert.AdamBranchKernelIdeal.Gen

variable (m : (ℓ : Loc nD τ sig) → Buf (Elt Ideal) ℓ) (c : Dev nD) (t : Fin cfg0.N) (i : grid0.Coords)
  (a0 : Memref sig .tc .vmem S1x256x128 .f32) (h0 : a0.IsWhole)
  (a1 : Memref sig .tc .vmem S1x256x128 .f32) (h1 : a1.IsWhole)
  (a2 : Memref sig .tc .vmem S1x256x128 .f32) (h2 : a2.IsWhole)
  (a3 : Memref sig .tc .vmem S8x256x128 .bf16) (h3 : a3.IsWhole)
  (a4 : Memref sig .tc .vmem S8x256x128 .bf16) (h4 : a4.IsWhole)
  (a5 : Memref sig .tc .vmem S1x256x128 .f32) (h5 : a5.IsWhole)
  (a6 : Memref sig .tc .vmem S1x256x128 .f32) (h6 : a6.IsWhole)
  (a7 : Memref sig .tc .vmem S1x256x128 .f32) (h7 : a7.IsWhole)
  (a8 : Memref sig .tc .vmem S1x256x128 .f32) (h8 : a8.IsWhole)
  (x0 x1 x2 : Vec Ideal S1x256x128 .f32) (x3 x4 : Vec Ideal S8x256x128 .bf16) (s : Fin 8) (r : Fin 256) (k : Fin 128)

/-- The block of window 0 at a grid point. -/
theorem idx0 : ∀ t : Fin grid0.N, win0_0.index t 0 = t.val / 6 ∧ win0_0.index t 1 = t.val % 6 ∧ win0_0.index t 2 = 0 := by decide +kernel

/-- The block of window 3 at a grid point. -/
theorem idx3 : ∀ t : Fin grid0.N, win0_3.index t 0 = 0 ∧ win0_3.index t 1 = (if t.val < 6 then t.val % 6 else 0) ∧ win0_3.index t 2 = 0 := by decide +kernel

/-- The block of window 4 at a grid point. -/
theorem idx4 : ∀ t : Fin grid0.N, win0_4.index t 0 = 0 ∧ win0_4.index t 1 = (if t.val < 6 then 0 else t.val % 6) ∧ win0_4.index t 2 = 0 := by decide +kernel

/-- Argument 0. -/
def V0 : (⟨3, ![2, 1536, 128]⟩ : Shape).Idx → EReal := m ((c : Thread nD τ).loc main_arg0)

/-- Argument 1. -/
def V1 : (⟨3, ![2, 1536, 128]⟩ : Shape).Idx → EReal := m ((c : Thread nD τ).loc main_arg1)

/-- Argument 2. -/
def V2 : (⟨3, ![2, 1536, 128]⟩ : Shape).Idx → EReal := m ((c : Thread nD τ).loc main_arg2)

/-- Argument 3. -/
def V3 : (⟨3, ![8, 1536, 128]⟩ : Shape).Idx → EReal := m ((c : Thread nD τ).loc main_arg3)

/-- Argument 4. -/
def V4 : (⟨3, ![8, 1536, 128]⟩ : Shape).Idx → EReal := m ((c : Thread nD τ).loc main_arg4)

/-- The layer of a grid point. -/
def lay : Fin 2 := ⟨t.val / 6, by have := t.isLt; have : cfg0.N = 12 := N_0; omega⟩

/-- A row of its tile. -/
def row : Fin 1536 := ⟨t.val % 6 * 256 + r.val, by have := r.isLt; omega⟩

/-- What a point of layer 0 writes. -/
theorem outA (hc0 : cond0_0 i) (hc1 : ¬cond0_1 i) :
    (out0_A_5 c i a0 h0 a1 h1 a2 h2 a3 h3 a4 h4 a5 h5 a6 h6 a7 h7 a8 h8 hc0 hc1 x0 x1 x2 x3 x4 (ix3 0 r k) : EReal) = ∑ s, x3 (ix3 s r k)
    ∧ (out0_A_6 c i a0 h0 a1 h1 a2 h2 a3 h3 a4 h4 a5 h5 a6 h6 a7 h7 a8 h8 hc0 hc1 x0 x1 x2 x3 x4 (ix3 0 r k) : EReal) = delta (∑ s, x3 (ix3 s r k)) (x0 (ix3 0 r k)) (x1 (ix3 0 r k)) (x2 (ix3 0 r k))
    ∧ (out0_A_7 c i a0 h0 a1 h1 a2 h2 a3 h3 a4 h4 a5 h5 a6 h6 a7 h7 a8 h8 hc0 hc1 x0 x1 x2 x3 x4 (ix3 0 r k) : EReal) = mn (∑ s, x3 (ix3 s r k)) (x1 (ix3 0 r k))
    ∧ (out0_A_8 c i a0 h0 a1 h1 a2 h2 a3 h3 a4 h4 a5 h5 a6 h6 a7 h7 a8 h8 hc0 hc1 x0 x1 x2 x3 x4 (ix3 0 r k) : EReal) = vn (∑ s, x3 (ix3 s r k)) (x2 (ix3 0 r k)) := by
  refine ⟨?_, ?_, ?_, ?_⟩
  on_goal 1 => unfold out0_A_5; rw [View.read_writes_eq_canon _ _ _ (cover0_A_5 c i a0 h0 a1 h1 a2 h2 a3 h3 a4 h4 a5 h5 a6 h6 a7 h7 a8 h8 hc0 hc1 x0 x1 x2 x3 x4)]
  on_goal 2 => unfold out0_A_6; rw [View.read_writes_eq_canon _ _ _ (cover0_A_6 c i a0 h0 a1 h1 a2 h2 a3 h3 a4 h4 a5 h5 a6 h6 a7 h7 a8 h8 hc0 hc1 x0 x1 x2 x3 x4)]
  on_goal 3 => unfold out0_A_7; rw [View.read_writes_eq_canon _ _ _ (cover0_A_7 c i a0 h0 a1 h1 a2 h2 a3 h3 a4 h4 a5 h5 a6 h6 a7 h7 a8 h8 hc0 hc1 x0 x1 x2 x3 x4)]
  on_goal 4 => unfold out0_A_8; rw [View.read_writes_eq_canon _ _ _ (cover0_A_8 c i a0 h0 a1 h1 a2 h2 a3 h3 a4 h4 a5 h5 a6 h6 a7 h7 a8 h8 hc0 hc1 x0 x1 x2 x3 x4)]
  all_goals
    unfold kernelRun0_A
    dsimp only
    sl_unfold_words
    rw [View.canon_unit_zero (S := S1x256x128) hz3]
    simp only [View.readAt_eq_ld, h0.read_unread, h1.read_unread, h2.read_unread, h3.read_unread, h4.read_unread, View.ld_unit_zero (S := S1x256x128) hz3, View.ld_unit]
    pointwise [k0_pay1, k0_pay2, k0_pay3, k0_pay4, k0_pay5, k0_pay6, k0_pay7, k0_pay8, k0_pay9, k0_pay10, k0_pay11, k0_pay12, k0_pay13, k0_pay14, k0_pay15, k0_pay16]
    simp only [mn, vn, delta, Fin.sum_univ_eight]
    try rfl

/-- What a point of layer 1 writes. -/
theorem outB (hc0 : ¬cond0_0 i) (hc1 : cond0_1 i) :
    (out0_B_5 c i a0 h0 a1 h1 a2 h2 a3 h3 a4 h4 a5 h5 a6 h6 a7 h7 a8 h8 hc0 hc1 x0 x1 x2 x3 x4 (ix3 0 r k) : EReal) = ∑ s, x4 (ix3 s r k)
    ∧ (out0_B_6 c i a0 h0 a1 h1 a2 h2 a3 h3 a4 h4 a5 h5 a6 h6 a7 h7 a8 h8 hc0 hc1 x0 x1 x2 x3 x4 (ix3 0 r k) : EReal) = delta (∑ s, x4 (ix3 s r k)) (x0 (ix3 0 r k)) (x1 (ix3 0 r k)) (x2 (ix3 0 r k))
    ∧ (out0_B_7 c i a0 h0 a1 h1 a2 h2 a3 h3 a4 h4 a5 h5 a6 h6 a7 h7 a8 h8 hc0 hc1 x0 x1 x2 x3 x4 (ix3 0 r k) : EReal) = mn (∑ s, x4 (ix3 s r k)) (x1 (ix3 0 r k))
    ∧ (out0_B_8 c i a0 h0 a1 h1 a2 h2 a3 h3 a4 h4 a5 h5 a6 h6 a7 h7 a8 h8 hc0 hc1 x0 x1 x2 x3 x4 (ix3 0 r k) : EReal) = vn (∑ s, x4 (ix3 s r k)) (x2 (ix3 0 r k)) := by
  refine ⟨?_, ?_, ?_, ?_⟩
  on_goal 1 => unfold out0_B_5; rw [View.read_writes_eq_canon _ _ _ (cover0_B_5 c i a0 h0 a1 h1 a2 h2 a3 h3 a4 h4 a5 h5 a6 h6 a7 h7 a8 h8 hc0 hc1 x0 x1 x2 x3 x4)]
  on_goal 2 => unfold out0_B_6; rw [View.read_writes_eq_canon _ _ _ (cover0_B_6 c i a0 h0 a1 h1 a2 h2 a3 h3 a4 h4 a5 h5 a6 h6 a7 h7 a8 h8 hc0 hc1 x0 x1 x2 x3 x4)]
  on_goal 3 => unfold out0_B_7; rw [View.read_writes_eq_canon _ _ _ (cover0_B_7 c i a0 h0 a1 h1 a2 h2 a3 h3 a4 h4 a5 h5 a6 h6 a7 h7 a8 h8 hc0 hc1 x0 x1 x2 x3 x4)]
  on_goal 4 => unfold out0_B_8; rw [View.read_writes_eq_canon _ _ _ (cover0_B_8 c i a0 h0 a1 h1 a2 h2 a3 h3 a4 h4 a5 h5 a6 h6 a7 h7 a8 h8 hc0 hc1 x0 x1 x2 x3 x4)]
  all_goals
    unfold kernelRun0_B
    dsimp only
    sl_unfold_words
    rw [View.canon_unit_zero (S := S1x256x128) hz3]
    simp only [View.readAt_eq_ld, h0.read_unread, h1.read_unread, h2.read_unread, h3.read_unread, h4.read_unread, View.ld_unit_zero (S := S1x256x128) hz3, View.ld_unit]
    pointwise [k0_pay1, k0_pay2, k0_pay3, k0_pay4, k0_pay5, k0_pay6, k0_pay7, k0_pay8, k0_pay9, k0_pay10, k0_pay11, k0_pay12, k0_pay13, k0_pay14, k0_pay15, k0_pay16]
    simp only [mn, vn, delta, Fin.sum_univ_eight]
    try rfl

/-- Where an element of a grid point's tile lies. -/
theorem emb : ((cfg0.win 0).blk t).view.emb (ix3 0 r k : S1x256x128.Idx) = ix3 (lay t) (row t r) k := by
  obtain ⟨ea, eb, ec⟩ := idx0 t
  refine funext fun a => ?_
  match a with
  | ⟨0, _⟩ => exact Fin.ext (show win0_0.index t 0 * 1 + 1 * 0 = t.val / 6 by rw [ea]; omega)
  | ⟨1, _⟩ => exact Fin.ext (show win0_0.index t 1 * 256 + 1 * r.val = t.val % 6 * 256 + r.val by rw [eb]; omega)
  | ⟨2, _⟩ => exact Fin.ext (show win0_0.index t 2 * 128 + 1 * k.val = k.val by rw [ec]; omega)

/-- An element of the tile of argument 0 that a grid point loads. -/
theorem blk0 : (iblk m c 0 t : Vec Ideal S1x256x128 .f32) (ix3 0 r k) = V0 m c (ix3 (lay t) (row t r) k) :=
  congrArg (m ((c : Thread nD τ).loc main_arg0)) (emb t r k)

/-- An element of the tile of argument 1 that a grid point loads. -/
theorem blk1 : (iblk m c 1 t : Vec Ideal S1x256x128 .f32) (ix3 0 r k) = V1 m c (ix3 (lay t) (row t r) k) :=
  congrArg (m ((c : Thread nD τ).loc main_arg1)) (emb t r k)

/-- An element of the tile of argument 2 that a grid point loads. -/
theorem blk2 : (iblk m c 2 t : Vec Ideal S1x256x128 .f32) (ix3 0 r k) = V2 m c (ix3 (lay t) (row t r) k) :=
  congrArg (m ((c : Thread nD τ).loc main_arg2)) (emb t r k)

/-- An element of the tile of argument 3 that a grid point of its layer loads. -/
theorem blk3 (h : t.val < 6) : (iblk m c 3 t : Vec Ideal S8x256x128 .bf16) (ix3 s r k) = V3 m c (ix3 s (row t r) k) := by
  obtain ⟨ea, eb, ec⟩ := idx3 t
  rw [if_pos h] at eb
  refine congrArg (m ((c : Thread nD τ).loc main_arg3)) (funext fun a => ?_)
  match a with
  | ⟨0, _⟩ => exact Fin.ext (show win0_3.index t 0 * 8 + 1 * s.val = s.val by rw [ea]; omega)
  | ⟨1, _⟩ => exact Fin.ext (show win0_3.index t 1 * 256 + 1 * r.val = t.val % 6 * 256 + r.val by rw [eb]; omega)
  | ⟨2, _⟩ => exact Fin.ext (show win0_3.index t 2 * 128 + 1 * k.val = k.val by rw [ec]; omega)

/-- An element of the tile of argument 4 that a grid point of its layer loads. -/
theorem blk4 (h : 6 ≤ t.val) : (iblk m c 4 t : Vec Ideal S8x256x128 .bf16) (ix3 s r k) = V4 m c (ix3 s (row t r) k) := by
  obtain ⟨ea, eb, ec⟩ := idx4 t
  rw [if_neg (by omega)] at eb
  refine congrArg (m ((c : Thread nD τ).loc main_arg4)) (funext fun a => ?_)
  match a with
  | ⟨0, _⟩ => exact Fin.ext (show win0_4.index t 0 * 8 + 1 * s.val = s.val by rw [ea]; omega)
  | ⟨1, _⟩ => exact Fin.ext (show win0_4.index t 1 * 256 + 1 * r.val = t.val % 6 * 256 + r.val by rw [eb]; omega)
  | ⟨2, _⟩ => exact Fin.ext (show win0_4.index t 2 * 128 + 1 * k.val = k.val by rw [ec]; omega)

/-- What a point leaves in its outputs. -/
theorem at_ : ((outsAt0 m c t.val t.isLt).1 (ix3 0 r k) : EReal) = R5 (V3 m c) (V4 m c) (lay t) (row t r) k
    ∧ ((outsAt0 m c t.val t.isLt).2.1 (ix3 0 r k) : EReal) = R6 (V0 m c) (V1 m c) (V2 m c) (V3 m c) (V4 m c) (lay t) (row t r) k
    ∧ ((outsAt0 m c t.val t.isLt).2.2.1 (ix3 0 r k) : EReal) = R7 (V1 m c) (V3 m c) (V4 m c) (lay t) (row t r) k
    ∧ ((outsAt0 m c t.val t.isLt).2.2.2 (ix3 0 r k) : EReal) = R8 (V2 m c) (V3 m c) (V4 m c) (lay t) (row t r) k := by
  have hN : cfg0.N = 12 := N_0; have ht := t.isLt
  by_cases h : t.val < 6
  · have hl : lay t = 0 := Fin.ext (show t.val / 6 = 0 by omega)
    rw [outsAt0_A m c t h (by omega)]
    dsimp only
    rw [(outA ..).1, (outA ..).2.1, (outA ..).2.2.1, (outA ..).2.2.2, R5, R6, R7, R8, grad, if_pos hl]
    simp only [blk0 m c t, blk1 m c t, blk2 m c t, blk3 m c t _ _ _ h, true_and]
  · have hl : lay t ≠ 0 := fun e => by have e : t.val / 6 = 0 := congrArg Fin.val e; omega
    rw [outsAt0_B m c t h (by omega)]
    dsimp only
    rw [(outB ..).1, (outB ..).2.1, (outB ..).2.2.1, (outB ..).2.2.2, R5, R6, R7, R8, grad, if_neg hl]
    simp only [blk0 m c t, blk1 m c t, blk2 m c t, blk4 m c t _ _ _ (Nat.le_of_not_lt h), true_and]

/-- An element of a tile is that of its row and column. -/
theorem pt (y : S1x256x128.Idx) : y = ix3 (n0 := 1) (n1 := 256) (n2 := 128) 0 (y 1) (y 2) :=
  (eq_ix3 y).trans (congrArg (ix3 · (y 1) (y 2)) (Subsingleton.elim (α := Fin 1) _ _))

/-- The tile that holds a row of a layer. -/
theorem near (i : S2x1536x128.Idx) : ∃ t : Fin cfg0.N, ∀ a, win0_0.index t a * S1x256x128.size a ≤ (i a).val ∧ (i a).val < win0_0.index t a * S1x256x128.size a + S1x256x128.size a := by
  have h0 : (i 0).val < 2 := (i 0).isLt
  have h1 : (i 1).val < 1536 := (i 1).isLt
  have h2 : (i 2).val < 128 := (i 2).isLt
  have hN : cfg0.N = 12 := N_0
  have ht : (i 0).val * 6 + (i 1).val / 256 < cfg0.N := by rw [hN]; omega
  obtain ⟨ea, eb, ec⟩ := idx0 ⟨_, ht⟩
  dsimp only at ea eb ec
  refine ⟨⟨_, ht⟩, fun a => ?_⟩
  match a with
  | ⟨0, _⟩ =>
    show win0_0.index _ 0 * 1 ≤ (i 0).val ∧ (i 0).val < win0_0.index _ 0 * 1 + 1
    rw [ea]; omega
  | ⟨1, _⟩ =>
    show win0_0.index _ 1 * 256 ≤ (i 1).val ∧ (i 1).val < win0_0.index _ 1 * 256 + 256
    rw [eb]; omega
  | ⟨2, _⟩ =>
    show win0_0.index _ 2 * 128 ≤ (i 2).val ∧ (i 2).val < win0_0.index _ 2 * 128 + 128
    rw [ec]; omega

/-- An element of a grid point's tile of an array is the array's at the point's layer, row and column. -/
theorem tile (R : Fin 2 → Fin 1536 → Fin 128 → EReal) (y : S1x256x128.Idx) : R (lay t) (row t (y 1)) (y 2)
    = R (((cfg0.win 5).blk t).view.emb y 0) (((cfg0.win 5).blk t).view.emb y 1) (((cfg0.win 5).blk t).view.emb y 2) := by
  obtain ⟨ea, eb, ec⟩ := idx0 t
  have hy0 : (y 0).val < 1 := (y 0).isLt
  refine congr3 R (Fin.ext ?_) (Fin.ext ?_) (Fin.ext ?_)
  · show t.val / 6 = win0_0.index t 0 * 1 + 1 * (y 0).val
    rw [ea]; omega
  · show t.val % 6 * 256 + (y 1).val = win0_0.index t 1 * 256 + 1 * (y 1).val
    rw [eb]; omega
  · show (y 2).val = win0_0.index t 2 * 128 + 1 * (y 2).val
    rw [ec]; omega

/-- The array of output 5. -/
def G5 : Buf (Elt Ideal) ((c : Thread nD τ).loc main_v0_0) := fun i : S2x1536x128.Idx => R5 (V3 m c) (V4 m c) (i 0) (i 1) (i 2)

attribute [local irreducible] R5 in
/-- What a grid point writes back is its tile of that array. -/
theorem flushed5 : (dats m 0 c).flushed 5 t = ((cfg0.win 5).blk t).view.read (Elt Ideal) (G5 m c) :=
  (Value.flushed5 m c t).trans (funext fun y => ((congrArg (outsAt0 m c t.val t.isLt).1 (pt y)).trans (at_ m c t (y 1) (y 2)).1).trans (tile t (R5 (V3 m c) (V4 m c)) y))

/-- Every element of the array is in some point's tile. -/
theorem cover5 (i : S2x1536x128.Idx) : ∃ t : Fin cfg0.N, (cfg0.win 5).flush t = true ∧ i ∈ ((cfg0.win 5).blk t).view.set := by
  obtain ⟨t, h⟩ := near i
  refine ⟨t, flush0_5 _, ?_⟩
  show i ∈ ((View.whole main_v0_0).slice (win0_5.rect t)).set
  rw [View.set_slice_whole, Rect.mem_set_unit]
  exact h

/-- The array of output 6. -/
def G6 : Buf (Elt Ideal) ((c : Thread nD τ).loc main_v0_1) := fun i : S2x1536x128.Idx => R6 (V0 m c) (V1 m c) (V2 m c) (V3 m c) (V4 m c) (i 0) (i 1) (i 2)

attribute [local irreducible] R6 in
/-- What a grid point writes back is its tile of that array. -/
theorem flushed6 : (dats m 0 c).flushed 6 t = ((cfg0.win 6).blk t).view.read (Elt Ideal) (G6 m c) :=
  (Value.flushed6 m c t).trans (funext fun y => ((congrArg (outsAt0 m c t.val t.isLt).2.1 (pt y)).trans (at_ m c t (y 1) (y 2)).2.1).trans (tile t (R6 (V0 m c) (V1 m c) (V2 m c) (V3 m c) (V4 m c)) y))

/-- Every element of the array is in some point's tile. -/
theorem cover6 (i : S2x1536x128.Idx) : ∃ t : Fin cfg0.N, (cfg0.win 6).flush t = true ∧ i ∈ ((cfg0.win 6).blk t).view.set := by
  obtain ⟨t, h⟩ := near i
  refine ⟨t, flush0_6 _, ?_⟩
  show i ∈ ((View.whole main_v0_1).slice (win0_6.rect t)).set
  rw [View.set_slice_whole, Rect.mem_set_unit]
  exact h

/-- The array of output 7. -/
def G7 : Buf (Elt Ideal) ((c : Thread nD τ).loc main_v0_2) := fun i : S2x1536x128.Idx => R7 (V1 m c) (V3 m c) (V4 m c) (i 0) (i 1) (i 2)

attribute [local irreducible] R7 in
/-- What a grid point writes back is its tile of that array. -/
theorem flushed7 : (dats m 0 c).flushed 7 t = ((cfg0.win 7).blk t).view.read (Elt Ideal) (G7 m c) :=
  (Value.flushed7 m c t).trans (funext fun y => ((congrArg (outsAt0 m c t.val t.isLt).2.2.1 (pt y)).trans (at_ m c t (y 1) (y 2)).2.2.1).trans (tile t (R7 (V1 m c) (V3 m c) (V4 m c)) y))

/-- Every element of the array is in some point's tile. -/
theorem cover7 (i : S2x1536x128.Idx) : ∃ t : Fin cfg0.N, (cfg0.win 7).flush t = true ∧ i ∈ ((cfg0.win 7).blk t).view.set := by
  obtain ⟨t, h⟩ := near i
  refine ⟨t, flush0_7 _, ?_⟩
  show i ∈ ((View.whole main_v0_2).slice (win0_7.rect t)).set
  rw [View.set_slice_whole, Rect.mem_set_unit]
  exact h

/-- The array of output 8. -/
def G8 : Buf (Elt Ideal) ((c : Thread nD τ).loc main_v0_3) := fun i : S2x1536x128.Idx => R8 (V2 m c) (V3 m c) (V4 m c) (i 0) (i 1) (i 2)

attribute [local irreducible] R8 in
/-- What a grid point writes back is its tile of that array. -/
theorem flushed8 : (dats m 0 c).flushed 8 t = ((cfg0.win 8).blk t).view.read (Elt Ideal) (G8 m c) :=
  (Value.flushed8 m c t).trans (funext fun y => ((congrArg (outsAt0 m c t.val t.isLt).2.2.2 (pt y)).trans (at_ m c t (y 1) (y 2)).2.2.2).trans (tile t (R8 (V2 m c) (V3 m c) (V4 m c)) y))

/-- Every element of the array is in some point's tile. -/
theorem cover8 (i : S2x1536x128.Idx) : ∃ t : Fin cfg0.N, (cfg0.win 8).flush t = true ∧ i ∈ ((cfg0.win 8).blk t).view.set := by
  obtain ⟨t, h⟩ := near i
  refine ⟨t, flush0_8 _, ?_⟩
  show i ∈ ((View.whole main_v0_3).slice (win0_8.rect t)).set
  rw [View.set_slice_whole, Rect.mem_set_unit]
  exact h

end kernel

/-- The frames: the generated runs. -/
theorem frame_k : Cert.quiescent_AdamBranchKernel := fun m ρ _ => Cert.AdamBranchKernel.Gen.frame m ρ
/-- … of the idealized kernel, -/
theorem frame_ki : Cert.quiescent_AdamBranchKernelIdeal := fun m ρ _ => Cert.AdamBranchKernelIdeal.Gen.frame m ρ
/-- … and of the reference, which has no semaphore. -/
theorem frame_r : Cert.quiescent_AdamBranchReferenceIdeal := fun m ρ _ =>
  (θ_run Cert.AdamBranchReferenceIdeal.defs _ _).mono (fun r h => ⟨fun c => (h c).2.2.2.2, Idealize.ShloMosaic.sem_eq_zero_of_no_sems (by decide) r.2⟩)
    (Cert.AdamBranchReferenceIdeal.Value.run (F := Ideal) m ρ)

set_option maxHeartbeats 4000000 in
open Cert.AdamBranchKernelIdeal Cert.AdamBranchKernelIdeal.Gen in
/-- The kernel's results and the reference's are the same arrays. -/
theorem algebraic : Cert.algebraic_AdamBranchKernelIdeal_AdamBranchReferenceIdeal := by
  intro m ρ m' ρ' _ hagree
  refine ⟨fun c => G5 m c, fun c => G6 m c, fun c => G7 m c, fun c => G8 m c, ?_, ?_⟩
  · refine (θ_run defs _ _).mono (fun _ h c => ?_) (Value.run_blocks (F := Ideal) m ρ)
    obtain ⟨h5, h6, h7, h8, hk⟩ := h c
    exact ⟨h5.trans ((dats m 0 c).arrAt_eq_of_cover 5 (G5 m c) (fun t _ => flushed5 m c t) cover5), h6.trans ((dats m 0 c).arrAt_eq_of_cover 6 (G6 m c) (fun t _ => flushed6 m c t) cover6), h7.trans ((dats m 0 c).arrAt_eq_of_cover 7 (G7 m c) (fun t _ => flushed7 m c t) cover7), h8.trans ((dats m 0 c).arrAt_eq_of_cover 8 (G8 m c) (fun t _ => flushed8 m c t) cover8), hk⟩
  refine (θ_run Cert.AdamBranchReferenceIdeal.defs _ _).mono (fun _ h c => ?_) (Cert.AdamBranchReferenceIdeal.Value.run (F := Ideal) m' ρ')
  obtain ⟨a0, a1, a2, a3, a4⟩ := hagree c
  obtain ⟨h5, h6, h7, h8, hk⟩ := h c
  refine ⟨h5.trans (funext fun i => ?_), h6.trans (funext fun i => ?_), h7.trans (funext fun i => ?_), h8.trans (funext fun i => ?_), hk⟩
  all_goals obtain ⟨b, n, k, rfl⟩ : ∃ b n k, i = ix3 b n k := ⟨_, _, _, eq_ix3 i⟩
  on_goal 1 => refine Eq.trans (b := (R5 (m' (c.tc.loc Cert.AdamBranchReferenceIdeal.main_arg3)) (m' (c.tc.loc Cert.AdamBranchReferenceIdeal.main_arg4)) b n k : EReal)) ?_ (by rw [a3, a4]; rfl); unfold R5
  on_goal 2 => refine Eq.trans (b := (R6 (m' (c.tc.loc Cert.AdamBranchReferenceIdeal.main_arg0)) (m' (c.tc.loc Cert.AdamBranchReferenceIdeal.main_arg1)) (m' (c.tc.loc Cert.AdamBranchReferenceIdeal.main_arg2)) (m' (c.tc.loc Cert.AdamBranchReferenceIdeal.main_arg3)) (m' (c.tc.loc Cert.AdamBranchReferenceIdeal.main_arg4)) b n k : EReal)) ?_ (by rw [a0, a1, a2, a3, a4]; rfl); unfold R6
  on_goal 3 => refine Eq.trans (b := (R7 (m' (c.tc.loc Cert.AdamBranchReferenceIdeal.main_arg1)) (m' (c.tc.loc Cert.AdamBranchReferenceIdeal.main_arg3)) (m' (c.tc.loc Cert.AdamBranchReferenceIdeal.main_arg4)) b n k : EReal)) ?_ (by rw [a1, a3, a4]; rfl); unfold R7
  on_goal 4 => refine Eq.trans (b := (R8 (m' (c.tc.loc Cert.AdamBranchReferenceIdeal.main_arg2)) (m' (c.tc.loc Cert.AdamBranchReferenceIdeal.main_arg3)) (m' (c.tc.loc Cert.AdamBranchReferenceIdeal.main_arg4)) b n k : EReal)) ?_ (by rw [a2, a3, a4]; rfl); unfold R8
  all_goals
    unfold grad
    match b with
    | 0 =>
      rw [if_pos rfl]
      pointwise
      try simp only [mn, vn, delta]
    | 1 =>
      rw [if_neg (by decide)]
      pointwise
      try simp only [mn, vn, delta]

end Cert.AdamBranch

end
-- ==== Proof.AdamOut.lean ====
/-
  The optimiser's step on a weight of both layers (`adam_w_out`): a grid point adds the eight devices' parts of its layer's gradient
  and steps one tile of the weight.
-/
module

public import proofs.«01_k».proof.Defs
public import proofs.«01_k».proof.Proof.Common
public import proofs.«01_k».proof.Proof.AdamSpec
public import proofs.«01_k».proof.Proof.Gen.AdamOutKernel.Frame
public import proofs.«01_k».proof.Proof.Gen.AdamOutKernelIdeal.Value
public import proofs.«01_k».proof.Proof.Gen.AdamOutReferenceIdeal.Run
public import Idealize.ShloMosaic.Lib.Quiescent
public import Idealize.ShloMosaic.Lib.Tactic
public import Idealize.ShloMosaic.Lib.Pointwise

@[expose] public section

noncomputable section

namespace Cert.AdamOut

open Idealize.ShloMosaic Idealize.ShloMosaic.TcCoe Idealize.SL.Sem Cert.Common Cert.AdamSpec

section spec

variable (W M V : (⟨3, ![2, 128, 1024]⟩ : Shape).Idx → EReal) (S0 S1 : (⟨3, ![8, 128, 1024]⟩ : Shape).Idx → EReal)
  (b : Fin 2) (n : Fin 128) (k : Fin 1024)

/-- The gradient of layer `b`: the sum of the devices' parts. -/
def grad : EReal := if b = 0 then ∑ s, S0 (ix3 s n k) else ∑ s, S1 (ix3 s n k)

/-- The gradient. -/
def R5 : EReal := grad S0 S1 b n k

/-- The step. -/
def R6 : EReal := delta (grad S0 S1 b n k) (W (ix3 b n k)) (M (ix3 b n k)) (V (ix3 b n k))

/-- The new running mean. -/
def R7 : EReal := mn (grad S0 S1 b n k) (M (ix3 b n k))

/-- The new running mean of the square. -/
def R8 : EReal := vn (grad S0 S1 b n k) (V (ix3 b n k))

end spec

section kernel

open Cert.AdamOutKernelIdeal Cert.AdamOutKernelIdeal.Gen

variable (m : (ℓ : Loc nD τ sig) → Buf (Elt Ideal) ℓ) (c : Dev nD) (t : Fin cfg0.N) (i : grid0.Coords)
  (a0 : Memref sig .tc .vmem S1x128x1024 .f32) (h0 : a0.IsWhole)
  (a1 : Memref sig .tc .vmem S1x128x1024 .f32) (h1 : a1.IsWhole)
  (a2 : Memref sig .tc .vmem S1x128x1024 .f32) (h2 : a2.IsWhole)
  (a3 : Memref sig .tc .vmem S8x128x1024 .bf16) (h3 : a3.IsWhole)
  (a4 : Memref sig .tc .vmem S8x128x1024 .bf16) (h4 : a4.IsWhole)
  (a5 : Memref sig .tc .vmem S1x128x1024 .f32) (h5 : a5.IsWhole)
  (a6 : Memref sig .tc .vmem S1x128x1024 .f32) (h6 : a6.IsWhole)
  (a7 : Memref sig .tc .vmem S1x128x1024 .f32) (h7 : a7.IsWhole)
  (a8 : Memref sig .tc .vmem S1x128x1024 .f32) (h8 : a8.IsWhole)
  (x0 x1 x2 : Vec Ideal S1x128x1024 .f32) (x3 x4 : Vec Ideal S8x128x1024 .bf16) (s : Fin 8) (r : Fin 128) (k : Fin 1024)

/-- The block of window 0 at a grid point. -/
theorem idx0 : ∀ t : Fin grid0.N, win0_0.index t 0 = t.val / 1 ∧ win0_0.index t 1 = t.val % 1 ∧ win0_0.index t 2 = 0 := by decide +kernel

/-- The block of window 3 at a grid point. -/
theorem idx3 : ∀ t : Fin grid0.N, win0_3.index t 0 = 0 ∧ win0_3.index t 1 = (if t.val < 1 then t.val % 1 else 0) ∧ win0_3.index t 2 = 0 := by decide +kernel

/-- The block of window 4 at a grid point. -/
theorem idx4 : ∀ t : Fin grid0.N, win0_4.index t 0 = 0 ∧ win0_4.index t 1 = (if t.val < 1 then 0 else t.val % 1) ∧ win0_4.index t 2 = 0 := by decide +kernel

/-- Argument 0. -/
def V0 : (⟨3, ![2, 128, 1024]⟩ : Shape).Idx → EReal := m ((c : Thread nD τ).loc main_arg0)

/-- Argument 1. -/
def V1 : (⟨3, ![2, 128, 1024]⟩ : Shape).Idx → EReal := m ((c : Thread nD τ).loc main_arg1)

/-- Argument 2. -/
def V2 : (⟨3, ![2, 128, 1024]⟩ : Shape).Idx → EReal := m ((c : Thread nD τ).loc main_arg2)

/-- Argument 3. -/
def V3 : (⟨3, ![8, 128, 1024]⟩ : Shape).Idx → EReal := m ((c : Thread nD τ).loc main_arg3)

/-- Argument 4. -/
def V4 : (⟨3, ![8, 128, 1024]⟩ : Shape).Idx → EReal := m ((c : Thread nD τ).loc main_arg4)

/-- The layer of a grid point. -/
def lay : Fin 2 := ⟨t.val / 1, by have := t.isLt; have : cfg0.N = 2 := N_0; omega⟩

/-- A row of its tile. -/
def row : Fin 128 := ⟨t.val % 1 * 128 + r.val, by have := r.isLt; omega⟩

/-- What a point of layer 0 writes. -/
theorem outA (hc0 : cond0_0 i) (hc1 : ¬cond0_1 i) :
    (out0_A_5 c i a0 h0 a1 h1 a2 h2 a3 h3 a4 h4 a5 h5 a6 h6 a7 h7 a8 h8 hc0 hc1 x0 x1 x2 x3 x4 (ix3 0 r k) : EReal) = ∑ s, x3 (ix3 s r k)
    ∧ (out0_A_6 c i a0 h0 a1 h1 a2 h2 a3 h3 a4 h4 a5 h5 a6 h6 a7 h7 a8 h8 hc0 hc1 x0 x1 x2 x3 x4 (ix3 0 r k) : EReal) = delta (∑ s, x3 (ix3 s r k)) (x0 (ix3 0 r k)) (x1 (ix3 0 r k)) (x2 (ix3 0 r k))
    ∧ (out0_A_7 c i a0 h0 a1 h1 a2 h2 a3 h3 a4 h4 a5 h5 a6 h6 a7 h7 a8 h8 hc0 hc1 x0 x1 x2 x3 x4 (ix3 0 r k) : EReal) = mn (∑ s, x3 (ix3 s r k)) (x1 (ix3 0 r k))
    ∧ (out0_A_8 c i a0 h0 a1 h1 a2 h2 a3 h3 a4 h4 a5 h5 a6 h6 a7 h7 a8 h8 hc0 hc1 x0 x1 x2 x3 x4 (ix3 0 r k) : EReal) = vn (∑ s, x3 (ix3 s r k)) (x2 (ix3 0 r k)) := by
  refine ⟨?_, ?_, ?_, ?_⟩
  on_goal 1 => unfold out0_A_5; rw [View.read_writes_eq_canon _ _ _ (cover0_A_5 c i a0 h0 a1 h1 a2 h2 a3 h3 a4 h4 a5 h5 a6 h6 a7 h7 a8 h8 hc0 hc1 x0 x1 x2 x3 x4)]
  on_goal 2 => unfold out0_A_6; rw [View.read_writes_eq_canon _ _ _ (cover0_A_6 c i a0 h0 a1 h1 a2 h2 a3 h3 a4 h4 a5 h5 a6 h6 a7 h7 a8 h8 hc0 hc1 x0 x1 x2 x3 x4)]
  on_goal 3 => unfold out0_A_7; rw [View.read_writes_eq_canon _ _ _ (cover0_A_7 c i a0 h0 a1 h1 a2 h2 a3 h3 a4 h4 a5 h5 a6 h6 a7 h7 a8 h8 hc0 hc1 x0 x1 x2 x3 x4)]
  on_goal 4 => unfold out0_A_8; rw [View.read_writes_eq_canon _ _ _ (cover0_A_8 c i a0 h0 a1 h1 a2 h2 a3 h3 a4 h4 a5 h5 a6 h6 a7 h7 a8 h8 hc0 hc1 x0 x1 x2 x3 x4)]
  all_goals
    unfold kernelRun0_A
    dsimp only
    sl_unfold_words
    rw [View.canon_unit_zero (S := S1x128x1024) hz3]
    simp only [View.readAt_eq_ld, h0.read_unread, h1.read_unread, h2.read_unread, h3.read_unread, h4.read_unread, View.ld_unit_zero (S := S1x128x1024) hz3, View.ld_unit]
    pointwise [k0_pay1, k0_pay2, k0_pay3, k0_pay4, k0_pay5, k0_pay6, k0_pay7, k0_pay8, k0_pay9, k0_pay10, k0_pay11, k0_pay12, k0_pay13, k0_pay14, k0_pay15, k0_pay16]
    simp only [mn, vn, delta, Fin.sum_univ_eight]
    try rfl

/-- What a point of layer 1 writes. -/
theorem outB (hc0 : ¬cond0_0 i) (hc1 : cond0_1 i) :
    (out0_B_5 c i a0 h0 a1 h1 a2 h2 a3 h3 a4 h4 a5 h5 a6 h6 a7 h7 a8 h8 hc0 hc1 x0 x1 x2 x3 x4 (ix3 0 r k) : EReal) = ∑ s, x4 (ix3 s r k)
    ∧ (out0_B_6 c i a0 h0 a1 h1 a2 h2 a3 h3 a4 h4 a5 h5 a6 h6 a7 h7 a8 h8 hc0 hc1 x0 x1 x2 x3 x4 (ix3 0 r k) : EReal) = delta (∑ s, x4 (ix3 s r k)) (x0 (ix3 0 r k)) (x1 (ix3 0 r k)) (x2 (ix3 0 r k))
    ∧ (out0_B_7 c i a0 h0 a1 h1 a2 h2 a3 h3 a4 h4 a5 h5 a6 h6 a7 h7 a8 h8 hc0 hc1 x0 x1 x2 x3 x4 (ix3 0 r k) : EReal) = mn (∑ s, x4 (ix3 s r k)) (x1 (ix3 0 r k))
    ∧ (out0_B_8 c i a0 h0 a1 h1 a2 h2 a3 h3 a4 h4 a5 h5 a6 h6 a7 h7 a8 h8 hc0 hc1 x0 x1 x2 x3 x4 (ix3 0 r k) : EReal) = vn (∑ s, x4 (ix3 s r k)) (x2 (ix3 0 r k)) := by
  refine ⟨?_, ?_, ?_, ?_⟩
  on_goal 1 => unfold out0_B_5; rw [View.read_writes_eq_canon _ _ _ (cover0_B_5 c i a0 h0 a1 h1 a2 h2 a3 h3 a4 h4 a5 h5 a6 h6 a7 h7 a8 h8 hc0 hc1 x0 x1 x2 x3 x4)]
  on_goal 2 => unfold out0_B_6; rw [View.read_writes_eq_canon _ _ _ (cover0_B_6 c i a0 h0 a1 h1 a2 h2 a3 h3 a4 h4 a5 h5 a6 h6 a7 h7 a8 h8 hc0 hc1 x0 x1 x2 x3 x4)]
  on_goal 3 => unfold out0_B_7; rw [View.read_writes_eq_canon _ _ _ (cover0_B_7 c i a0 h0 a1 h1 a2 h2 a3 h3 a4 h4 a5 h5 a6 h6 a7 h7 a8 h8 hc0 hc1 x0 x1 x2 x3 x4)]
  on_goal 4 => unfold out0_B_8; rw [View.read_writes_eq_canon _ _ _ (cover0_B_8 c i a0 h0 a1 h1 a2 h2 a3 h3 a4 h4 a5 h5 a6 h6 a7 h7 a8 h8 hc0 hc1 x0 x1 x2 x3 x4)]
  all_goals
    unfold kernelRun0_B
    dsimp only
    sl_unfold_words
    rw [View.canon_unit_zero (S := S1x128x1024) hz3]
    simp only [View.readAt_eq_ld, h0.read_unread, h1.read_unread, h2.read_unread, h3.read_unread, h4.read_unread, View.ld_unit_zero (S := S1x128x1024) hz3, View.ld_unit]
    pointwise [k0_pay1, k0_pay2, k0_pay3, k0_pay4, k0_pay5, k0_pay6, k0_pay7, k0_pay8, k0_pay9, k0_pay10, k0_pay11, k0_pay12, k0_pay13, k0_pay14, k0_pay15, k0_pay16]
    simp only [mn, vn, delta, Fin.sum_univ_eight]
    try rfl

/-- Where an element of a grid point's tile lies. -/
theorem emb : ((cfg0.win 0).blk t).view.emb (ix3 0 r k : S1x128x1024.Idx) = ix3 (lay t) (row t r) k := by
  obtain ⟨ea, eb, ec⟩ := idx0 t
  refine funext fun a => ?_
  match a with
  | ⟨0, _⟩ => exact Fin.ext (show win0_0.index t 0 * 1 + 1 * 0 = t.val / 1 by rw [ea]; omega)
  | ⟨1, _⟩ => exact Fin.ext (show win0_0.index t 1 * 128 + 1 * r.val = t.val % 1 * 128 + r.val by rw [eb]; omega)
  | ⟨2, _⟩ => exact Fin.ext (show win0_0.index t 2 * 1024 + 1 * k.val = k.val by rw [ec]; omega)

/-- An element of the tile of argument 0 that a grid point loads. -/
theorem blk0 : (iblk m c 0 t : Vec Ideal S1x128x1024 .f32) (ix3 0 r k) = V0 m c (ix3 (lay t) (row t r) k) :=
  congrArg (m ((c : Thread nD τ).loc main_arg0)) (emb t r k)

/-- An element of the tile of argument 1 that a grid point loads. -/
theorem blk1 : (iblk m c 1 t : Vec Ideal S1x128x1024 .f32) (ix3 0 r k) = V1 m c (ix3 (lay t) (row t r) k) :=
  congrArg (m ((c : Thread nD τ).loc main_arg1)) (emb t r k)

/-- An element of the tile of argument 2 that a grid point loads. -/
theorem blk2 : (iblk m c 2 t : Vec Ideal S1x128x1024 .f32) (ix3 0 r k) = V2 m c (ix3 (lay t) (row t r) k) :=
  congrArg (m ((c : Thread nD τ).loc main_arg2)) (emb t r k)

/-- An element of the tile of argument 3 that a grid point of its layer loads. -/
theorem blk3 (h : t.val < 1) : (iblk m c 3 t : Vec Ideal S8x128x1024 .bf16) (ix3 s r k) = V3 m c (ix3 s (row t r) k) := by
  obtain ⟨ea, eb, ec⟩ := idx3 t
  rw [if_pos h] at eb
  refine congrArg (m ((c : Thread nD τ).loc main_arg3)) (funext fun a => ?_)
  match a with
  | ⟨0, _⟩ => exact Fin.ext (show win0_3.index t 0 * 8 + 1 * s.val = s.val by rw [ea]; omega)
  | ⟨1, _⟩ => exact Fin.ext (show win0_3.index t 1 * 128 + 1 * r.val = t.val % 1 * 128 + r.val by rw [eb]; omega)
  | ⟨2, _⟩ => exact Fin.ext (show win0_3.index t 2 * 1024 + 1 * k.val = k.val by rw [ec]; omega)

/-- An element of the tile of argument 4 that a grid point of its layer loads. -/
theorem blk4 (h : 1 ≤ t.val) : (iblk m c 4 t : Vec Ideal S8x128x1024 .bf16) (ix3 s r k) = V4 m c (ix3 s (row t r) k) := by
  obtain ⟨ea, eb, ec⟩ := idx4 t
  rw [if_neg (by omega)] at eb
  refine congrArg (m ((c : Thread nD τ).loc main_arg4)) (funext fun a => ?_)
  match a with
  | ⟨0, _⟩ => exact Fin.ext (show win0_4.index t 0 * 8 + 1 * s.val = s.val by rw [ea]; omega)
  | ⟨1, _⟩ => exact Fin.ext (show win0_4.index t 1 * 128 + 1 * r.val = t.val % 1 * 128 + r.val by rw [eb]; omega)
  | ⟨2, _⟩ => exact Fin.ext (show win0_4.index t 2 * 1024 + 1 * k.val = k.val by rw [ec]; omega)

/-- What a point leaves in its outputs. -/
theorem at_ : ((outsAt0 m c t.val t.isLt).1 (ix3 0 r k) : EReal) = R5 (V3 m c) (V4 m c) (lay t) (row t r) k
    ∧ ((outsAt0 m c t.val t.isLt).2.1 (ix3 0 r k) : EReal) = R6 (V0 m c) (V1 m c) (V2 m c) (V3 m c) (V4 m c) (lay t) (row t r) k
    ∧ ((outsAt0 m c t.val t.isLt).2.2.1 (ix3 0 r k) : EReal) = R7 (V1 m c) (V3 m c) (V4 m c) (lay t) (row t r) k
    ∧ ((outsAt0 m c t.val t.isLt).2.2.2 (ix3 0 r k) : EReal) = R8 (V2 m c) (V3 m c) (V4 m c) (lay t) (row t r) k := by
  have hN : cfg0.N = 2 := N_0; have ht := t.isLt
  by_cases h : t.val < 1
  · have hl : lay t = 0 := Fin.ext (show t.val / 1 = 0 by omega)
    rw [outsAt0_A m c t (by omega) (by omega)]
    dsimp only
    rw [(outA ..).1, (outA ..).2.1, (outA ..).2.2.1, (outA ..).2.2.2, R5, R6, R7, R8, grad, if_pos hl]
    simp only [blk0 m c t, blk1 m c t, blk2 m c t, blk3 m c t _ _ _ h, true_and]
  · have hl : lay t ≠ 0 := fun e => by have e : t.val / 1 = 0 := congrArg Fin.val e; omega
    rw [outsAt0_B m c t (by omega) (by omega)]
    dsimp only
    rw [(outB ..).1, (outB ..).2.1, (outB ..).2.2.1, (outB ..).2.2.2, R5, R6, R7, R8, grad, if_neg hl]
    simp only [blk0 m c t, blk1 m c t, blk2 m c t, blk4 m c t _ _ _ (Nat.le_of_not_lt h), true_and]

/-- An element of a tile is that of its row and column. -/
theorem pt (y : S1x128x1024.Idx) : y = ix3 (n0 := 1) (n1 := 128) (n2 := 1024) 0 (y 1) (y 2) :=
  (eq_ix3 y).trans (congrArg (ix3 · (y 1) (y 2)) (Subsingleton.elim (α := Fin 1) _ _))

/-- The tile that holds a row of a layer. -/
theorem near (i : S2x128x1024.Idx) : ∃ t : Fin cfg0.N, ∀ a, win0_0.index t a * S1x128x1024.size a ≤ (i a).val ∧ (i a).val < win0_0.index t a * S1x128x1024.size a + S1x128x1024.size a := by
  have h0 : (i 0).val < 2 := (i 0).isLt
  have h1 : (i 1).val < 128 := (i 1).isLt
  have h2 : (i 2).val < 1024 := (i 2).isLt
  have hN : cfg0.N = 2 := N_0
  have ht : (i 0).val * 1 + (i 1).val / 128 < cfg0.N := by rw [hN]; omega
  obtain ⟨ea, eb, ec⟩ := idx0 ⟨_, ht⟩
  dsimp only at ea eb ec
  refine ⟨⟨_, ht⟩, fun a => ?_⟩
  match a with
  | ⟨0, _⟩ =>
    show win0_0.index _ 0 * 1 ≤ (i 0).val ∧ (i 0).val < win0_0.index _ 0 * 1 + 1
    rw [ea]; omega
  | ⟨1, _⟩ =>
    show win0_0.index _ 1 * 128 ≤ (i 1).val ∧ (i 1).val < win0_0.index _ 1 * 128 + 128
    rw [eb]; omega
  | ⟨2, _⟩ =>
    show win0_0.index _ 2 * 1024 ≤ (i 2).val ∧ (i 2).val < win0_0.index _ 2 * 1024 + 1024
    rw [ec]; omega

/-- An element of a grid point's tile of an array is the array's at the point's layer, row and column. -/
theorem tile (R : Fin 2 → Fin 128 → Fin 1024 → EReal) (y : S1x128x1024.Idx) : R (lay t) (row t (y 1)) (y 2)
    = R (((cfg0.win 5).blk t).view.emb y 0) (((cfg0.win 5).blk t).view.emb y 1) (((cfg0.win 5).blk t).view.emb y 2) := by
  obtain ⟨ea, eb, ec⟩ := idx0 t
  have hy0 : (y 0).val < 1 := (y 0).isLt
  refine congr3 R (Fin.ext ?_) (Fin.ext ?_) (Fin.ext ?_)
  · show t.val / 1 = win0_0.index t 0 * 1 + 1 * (y 0).val
    rw [ea]; omega
  · show t.val % 1 * 128 + (y 1).val = win0_0.index t 1 * 128 + 1 * (y 1).val
    rw [eb]; omega
  · show (y 2).val = win0_0.index t 2 * 1024 + 1 * (y 2).val
    rw [ec]; omega

/-- The array of output 5. -/
def G5 : Buf (Elt Ideal) ((c : Thread nD τ).loc main_v0_0) := fun i : S2x128x1024.Idx => R5 (V3 m c) (V4 m c) (i 0) (i 1) (i 2)

attribute [local irreducible] R5 in
/-- What a grid point writes back is its tile of that array. -/
theorem flushed5 : (dats m 0 c).flushed 5 t = ((cfg0.win 5).blk t).view.read (Elt Ideal) (G5 m c) :=
  (Value.flushed5 m c t).trans (funext fun y => ((congrArg (outsAt0 m c t.val t.isLt).1 (pt y)).trans (at_ m c t (y 1) (y 2)).1).trans (tile t (R5 (V3 m c) (V4 m c)) y))

/-- Every element of the array is in some point's tile. -/
theorem cover5 (i : S2x128x1024.Idx) : ∃ t : Fin cfg0.N, (cfg0.win 5).flush t = true ∧ i ∈ ((cfg0.win 5).blk t).view.set := by
  obtain ⟨t, h⟩ := near i
  refine ⟨t, flush0_5 _, ?_⟩
  show i ∈ ((View.whole main_v0_0).slice (win0_5.rect t)).set
  rw [View.set_slice_whole, Rect.mem_set_unit]
  exact h

/-- The array of output 6. -/
def G6 : Buf (Elt Ideal) ((c : Thread nD τ).loc main_v0_1) := fun i : S2x128x1024.Idx => R6 (V0 m c) (V1 m c) (V2 m c) (V3 m c) (V4 m c) (i 0) (i 1) (i 2)

attribute [local irreducible] R6 in
/-- What a grid point writes back is its tile of that array. -/
theorem flushed6 : (dats m 0 c).flushed 6 t = ((cfg0.win 6).blk t).view.read (Elt Ideal) (G6 m c) :=
  (Value.flushed6 m c t).trans (funext fun y => ((congrArg (outsAt0 m c t.val t.isLt).2.1 (pt y)).trans (at_ m c t (y 1) (y 2)).2.1).trans (tile t (R6 (V0 m c) (V1 m c) (V2 m c) (V3 m c) (V4 m c)) y))

/-- Every element of the array is in some point's tile. -/
theorem cover6 (i : S2x128x1024.Idx) : ∃ t : Fin cfg0.N, (cfg0.win 6).flush t = true ∧ i ∈ ((cfg0.win 6).blk t).view.set := by
  obtain ⟨t, h⟩ := near i
  refine ⟨t, flush0_6 _, ?_⟩
  show i ∈ ((View.whole main_v0_1).slice (win0_6.rect t)).set
  rw [View.set_slice_whole, Rect.mem_set_unit]
  exact h

/-- The array of output 7. -/
def G7 : Buf (Elt Ideal) ((c : Thread nD τ).loc main_v0_2) := fun i : S2x128x1024.Idx => R7 (V1 m c) (V3 m c) (V4 m c) (i 0) (i 1) (i 2)

attribute [local irreducible] R7 in
/-- What a grid point writes back is its tile of that array. -/
theorem flushed7 : (dats m 0 c).flushed 7 t = ((cfg0.win 7).blk t).view.read (Elt Ideal) (G7 m c) :=
  (Value.flushed7 m c t).trans (funext fun y => ((congrArg (outsAt0 m c t.val t.isLt).2.2.1 (pt y)).trans (at_ m c t (y 1) (y 2)).2.2.1).trans (tile t (R7 (V1 m c) (V3 m c) (V4 m c)) y))

/-- Every element of the array is in some point's tile. -/
theorem cover7 (i : S2x128x1024.Idx) : ∃ t : Fin cfg0.N, (cfg0.win 7).flush t = true ∧ i ∈ ((cfg0.win 7).blk t).view.set := by
  obtain ⟨t, h⟩ := near i
  refine ⟨t, flush0_7 _, ?_⟩
  show i ∈ ((View.whole main_v0_2).slice (win0_7.rect t)).set
  rw [View.set_slice_whole, Rect.mem_set_unit]
  exact h

/-- The array of output 8. -/
def G8 : Buf (Elt Ideal) ((c : Thread nD τ).loc main_v0_3) := fun i : S2x128x1024.Idx => R8 (V2 m c) (V3 m c) (V4 m c) (i 0) (i 1) (i 2)

attribute [local irreducible] R8 in
/-- What a grid point writes back is its tile of that array. -/
theorem flushed8 : (dats m 0 c).flushed 8 t = ((cfg0.win 8).blk t).view.read (Elt Ideal) (G8 m c) :=
  (Value.flushed8 m c t).trans (funext fun y => ((congrArg (outsAt0 m c t.val t.isLt).2.2.2 (pt y)).trans (at_ m c t (y 1) (y 2)).2.2.2).trans (tile t (R8 (V2 m c) (V3 m c) (V4 m c)) y))

/-- Every element of the array is in some point's tile. -/
theorem cover8 (i : S2x128x1024.Idx) : ∃ t : Fin cfg0.N, (cfg0.win 8).flush t = true ∧ i ∈ ((cfg0.win 8).blk t).view.set := by
  obtain ⟨t, h⟩ := near i
  refine ⟨t, flush0_8 _, ?_⟩
  show i ∈ ((View.whole main_v0_3).slice (win0_8.rect t)).set
  rw [View.set_slice_whole, Rect.mem_set_unit]
  exact h

end kernel

/-- The frames: the generated runs. -/
theorem frame_k : Cert.quiescent_AdamOutKernel := fun m ρ _ => Cert.AdamOutKernel.Gen.frame m ρ
/-- … of the idealized kernel, -/
theorem frame_ki : Cert.quiescent_AdamOutKernelIdeal := fun m ρ _ => Cert.AdamOutKernelIdeal.Gen.frame m ρ
/-- … and of the reference, which has no semaphore. -/
theorem frame_r : Cert.quiescent_AdamOutReferenceIdeal := fun m ρ _ =>
  (θ_run Cert.AdamOutReferenceIdeal.defs _ _).mono (fun r h => ⟨fun c => (h c).2.2.2.2, Idealize.ShloMosaic.sem_eq_zero_of_no_sems (by decide) r.2⟩)
    (Cert.AdamOutReferenceIdeal.Value.run (F := Ideal) m ρ)

set_option maxHeartbeats 4000000 in
open Cert.AdamOutKernelIdeal Cert.AdamOutKernelIdeal.Gen in
/-- The kernel's results and the reference's are the same arrays. -/
theorem algebraic : Cert.algebraic_AdamOutKernelIdeal_AdamOutReferenceIdeal := by
  intro m ρ m' ρ' _ hagree
  refine ⟨fun c => G5 m c, fun c => G6 m c, fun c => G7 m c, fun c => G8 m c, ?_, ?_⟩
  · refine (θ_run defs _ _).mono (fun _ h c => ?_) (Value.run_blocks (F := Ideal) m ρ)
    obtain ⟨h5, h6, h7, h8, hk⟩ := h c
    exact ⟨h5.trans ((dats m 0 c).arrAt_eq_of_cover 5 (G5 m c) (fun t _ => flushed5 m c t) cover5), h6.trans ((dats m 0 c).arrAt_eq_of_cover 6 (G6 m c) (fun t _ => flushed6 m c t) cover6), h7.trans ((dats m 0 c).arrAt_eq_of_cover 7 (G7 m c) (fun t _ => flushed7 m c t) cover7), h8.trans ((dats m 0 c).arrAt_eq_of_cover 8 (G8 m c) (fun t _ => flushed8 m c t) cover8), hk⟩
  refine (θ_run Cert.AdamOutReferenceIdeal.defs _ _).mono (fun _ h c => ?_) (Cert.AdamOutReferenceIdeal.Value.run (F := Ideal) m' ρ')
  obtain ⟨a0, a1, a2, a3, a4⟩ := hagree c
  obtain ⟨h5, h6, h7, h8, hk⟩ := h c
  refine ⟨h5.trans (funext fun i => ?_), h6.trans (funext fun i => ?_), h7.trans (funext fun i => ?_), h8.trans (funext fun i => ?_), hk⟩
  all_goals obtain ⟨b, n, k, rfl⟩ : ∃ b n k, i = ix3 b n k := ⟨_, _, _, eq_ix3 i⟩
  on_goal 1 => refine Eq.trans (b := (R5 (m' (c.tc.loc Cert.AdamOutReferenceIdeal.main_arg3)) (m' (c.tc.loc Cert.AdamOutReferenceIdeal.main_arg4)) b n k : EReal)) ?_ (by rw [a3, a4]; rfl); unfold R5
  on_goal 2 => refine Eq.trans (b := (R6 (m' (c.tc.loc Cert.AdamOutReferenceIdeal.main_arg0)) (m' (c.tc.loc Cert.AdamOutReferenceIdeal.main_arg1)) (m' (c.tc.loc Cert.AdamOutReferenceIdeal.main_arg2)) (m' (c.tc.loc Cert.AdamOutReferenceIdeal.main_arg3)) (m' (c.tc.loc Cert.AdamOutReferenceIdeal.main_arg4)) b n k : EReal)) ?_ (by rw [a0, a1, a2, a3, a4]; rfl); unfold R6
  on_goal 3 => refine Eq.trans (b := (R7 (m' (c.tc.loc Cert.AdamOutReferenceIdeal.main_arg1)) (m' (c.tc.loc Cert.AdamOutReferenceIdeal.main_arg3)) (m' (c.tc.loc Cert.AdamOutReferenceIdeal.main_arg4)) b n k : EReal)) ?_ (by rw [a1, a3, a4]; rfl); unfold R7
  on_goal 4 => refine Eq.trans (b := (R8 (m' (c.tc.loc Cert.AdamOutReferenceIdeal.main_arg2)) (m' (c.tc.loc Cert.AdamOutReferenceIdeal.main_arg3)) (m' (c.tc.loc Cert.AdamOutReferenceIdeal.main_arg4)) b n k : EReal)) ?_ (by rw [a2, a3, a4]; rfl); unfold R8
  all_goals
    unfold grad
    match b with
    | 0 =>
      rw [if_pos rfl]
      pointwise
      try simp only [mn, vn, delta]
    | 1 =>
      rw [if_neg (by decide)]
      pointwise
      try simp only [mn, vn, delta]

end Cert.AdamOut

end
-- ==== Proof.MergeZero.lean ====
/-
  The gradient of the merge of the branches in layer 0 (`l0_b_merge`): the call's program is that of `Merge` under another name, so what is proved of the one holds of the other.
-/
module

public import proofs.«01_k».proof.Defs
public import proofs.«01_k».proof.Proof.Merge
public import proofs.«01_k».proof.Proof.Gen.MergeZeroKernel.Frame
public import proofs.«01_k».proof.Proof.Gen.MergeZeroKernelIdeal.Frame

@[expose] public section

namespace Cert.MergeZero

open Idealize.ShloMosaic

/-- The frames: the generated runs. -/
theorem frame_k : Cert.quiescent_MergeZeroKernel := fun m ρ _ => Cert.MergeZeroKernel.Gen.frame m ρ
/-- … of the idealized kernel. -/
theorem frame_ki : Cert.quiescent_MergeZeroKernelIdeal := fun m ρ _ => Cert.MergeZeroKernelIdeal.Gen.frame m ρ

/-- The two calls have one body. -/
theorem bodies : @Cert.MergeZeroKernelIdeal.defs₀ Ideal _ _ = @Cert.MergeKernelIdeal.defs₀ Ideal _ _ :=
  congrArg Defs.onTc (funext fun l => funext fun a => match l, a with | ⟨0, _⟩, (_, _) => rfl)

/-- … and one pipeline around it. -/
theorem programs : @Cert.MergeZeroKernelIdeal.defs Ideal _ _ = @Cert.MergeKernelIdeal.defs Ideal _ _ :=
  congrArg (Pipeline.defs Cert.MergeKernelIdeal.pcfgs) bodies

/-- The kernel's results and the reference's are the same arrays. -/
theorem algebraic : Cert.algebraic_MergeZeroKernelIdeal_MergeReferenceIdeal := by
  intro m ρ m' ρ' hp ha
  obtain ⟨v0, v1, v2, v3, v4, v5, h1, h2⟩ := Cert.Merge.algebraic m ρ m' ρ' hp ha
  refine ⟨v0, v1, v2, v3, v4, v5, ?_, h2⟩
  rw [programs]
  exact h1

end Cert.MergeZero

end
-- ==== Proof.PostZero.lean ====
/-
  The first gated residual of layer 0 and the norm that follows it (`l0_post`): the call's program is that of `Post` under another name, so what is proved of the one holds of the other.
-/
module

public import proofs.«01_k».proof.Defs
public import proofs.«01_k».proof.Proof.Post
public import proofs.«01_k».proof.Proof.Gen.PostZeroKernel.Frame
public import proofs.«01_k».proof.Proof.Gen.PostZeroKernelIdeal.Frame

@[expose] public section

namespace Cert.PostZero

open Idealize.ShloMosaic

/-- The frames: the generated runs. -/
theorem frame_k : Cert.quiescent_PostZeroKernel := fun m ρ _ => Cert.PostZeroKernel.Gen.frame m ρ
/-- … of the idealized kernel. -/
theorem frame_ki : Cert.quiescent_PostZeroKernelIdeal := fun m ρ _ => Cert.PostZeroKernelIdeal.Gen.frame m ρ

/-- The two calls have one body. -/
theorem bodies : @Cert.PostZeroKernelIdeal.defs₀ Ideal _ _ = @Cert.PostKernelIdeal.defs₀ Ideal _ _ :=
  congrArg Defs.onTc (funext fun l => funext fun a => match l, a with | ⟨0, _⟩, (_, _) => rfl)

/-- … and one pipeline around it. -/
theorem programs : @Cert.PostZeroKernelIdeal.defs Ideal _ _ = @Cert.PostKernelIdeal.defs Ideal _ _ :=
  congrArg (Pipeline.defs Cert.PostKernelIdeal.pcfgs) bodies

/-- The kernel's results and the reference's are the same arrays. -/
theorem algebraic : Cert.algebraic_PostZeroKernelIdeal_PostReferenceIdeal := by
  intro m ρ m' ρ' hp ha
  obtain ⟨v0, v1, h1, h2⟩ := Cert.Post.algebraic m ρ m' ρ' hp ha
  refine ⟨v0, v1, ?_, h2⟩
  rw [programs]
  exact h1

end Cert.PostZero

end
-- ==== Proof.ResPreZero.lean ====
/-
  The second gated residual of layer 0 and the first norm of layer 1 (`l0_res_pre`): the call's program is that of `Post` under another name, so what is proved of the one holds of the other.
-/
module

public import proofs.«01_k».proof.Defs
public import proofs.«01_k».proof.Proof.Post
public import proofs.«01_k».proof.Proof.Gen.ResPreZeroKernel.Frame
public import proofs.«01_k».proof.Proof.Gen.ResPreZeroKernelIdeal.Frame

@[expose] public section

namespace Cert.ResPreZero

open Idealize.ShloMosaic

/-- The frames: the generated runs. -/
theorem frame_k : Cert.quiescent_ResPreZeroKernel := fun m ρ _ => Cert.ResPreZeroKernel.Gen.frame m ρ
/-- … of the idealized kernel. -/
theorem frame_ki : Cert.quiescent_ResPreZeroKernelIdeal := fun m ρ _ => Cert.ResPreZeroKernelIdeal.Gen.frame m ρ

/-- The two calls have one body. -/
theorem bodies : @Cert.ResPreZeroKernelIdeal.defs₀ Ideal _ _ = @Cert.PostKernelIdeal.defs₀ Ideal _ _ :=
  congrArg Defs.onTc (funext fun l => funext fun a => match l, a with | ⟨0, _⟩, (_, _) => rfl)

/-- … and one pipeline around it. -/
theorem programs : @Cert.ResPreZeroKernelIdeal.defs Ideal _ _ = @Cert.PostKernelIdeal.defs Ideal _ _ :=
  congrArg (Pipeline.defs Cert.PostKernelIdeal.pcfgs) bodies

/-- The kernel's results and the reference's are the same arrays. -/
theorem algebraic : Cert.algebraic_ResPreZeroKernelIdeal_PostReferenceIdeal := by
  intro m ρ m' ρ' hp ha
  obtain ⟨v0, v1, h1, h2⟩ := Cert.Post.algebraic m ρ m' ρ' hp ha
  refine ⟨v0, v1, ?_, h2⟩
  rw [programs]
  exact h1

end Cert.ResPreZero

end
-- ==== Proof.MergeF.lean ====
/-
  The gated merge of the branches (`l1_merge`): a grid point computes one tile of rows.
-/
module

public import proofs.«01_k».proof.Defs
public import proofs.«01_k».proof.Proof.Common
public import proofs.«01_k».proof.Proof.NormSpec
public import proofs.«01_k».proof.Proof.AdamSpec
public import proofs.«01_k».proof.Proof.Gen.MergeFKernel.Frame
public import proofs.«01_k».proof.Proof.Gen.MergeFKernelIdeal.Value
public import proofs.«01_k».proof.Proof.Gen.MergeFReferenceIdeal.Run
public import Idealize.ShloMosaic.Lib.Quiescent
public import Idealize.ShloMosaic.Lib.Tactic
public import Idealize.ShloMosaic.Lib.Pointwise

@[expose] public section

noncomputable section

namespace Cert.MergeF

open Idealize.ShloMosaic Idealize.ShloMosaic.TcCoe Idealize.SL.Sem Cert.Common Cert.NormSpec

section spec

/-- Column `k` of the 1024 columns that start at a multiple of 1024. -/
def col (q : Fin 8) (k : Fin 1024) : Fin 8192 := ⟨q.val * 1024 + k.val, by have := k.isLt; have := q.isLt; omega⟩

variable (A0 : (⟨2, ![8192, 8192]⟩ : Shape).Idx → EReal) (A1 : (⟨2, ![8192, 1024]⟩ : Shape).Idx → EReal) (A2 : (⟨2, ![8192, 1024]⟩ : Shape).Idx → EReal) (A3 : (⟨2, ![8192, 1024]⟩ : Shape).Idx → EReal) (n : Fin 8192) (l : Fin 1024)

/-- The sum of the gated branches. -/
def R6 : EReal := Ideal.logistic (A0 (ix2 n (col 0 l))) * (A1 (ix2 n l)) + Ideal.logistic (A0 (ix2 n (col 1 l))) * (A2 (ix2 n l)) + Ideal.logistic (A0 (ix2 n (col 2 l))) * (A3 (ix2 n l))

end spec

section kernel

open Cert.MergeFKernelIdeal Cert.MergeFKernelIdeal.Gen

variable (m : (ℓ : Loc nD τ sig) → Buf (Elt Ideal) ℓ) (c : Dev nD) (t : Fin cfg0.N) (x0 : Vec Ideal S256x1024 .f32) (x1 : Vec Ideal S256x1024 .f32) (x2 : Vec Ideal S256x1024 .f32) (x3 : Vec Ideal S256x1024 .bf16) (x4 : Vec Ideal S256x1024 .bf16) (x5 : Vec Ideal S256x1024 .bf16) (s : Fin 1) (r : Fin 256) (k l : Fin 1024)

/-- The block of window 0 at a grid point. -/
theorem idx0 : ∀ t : Fin grid0.N, win0_0.index t 0 = t.val ∧ win0_0.index t 1 = 0 := by decide +kernel

/-- The block of window 1 at a grid point. -/
theorem idx1 : ∀ t : Fin grid0.N, win0_1.index t 0 = t.val ∧ win0_1.index t 1 = 1 := by decide +kernel

/-- The block of window 2 at a grid point. -/
theorem idx2 : ∀ t : Fin grid0.N, win0_2.index t 0 = t.val ∧ win0_2.index t 1 = 2 := by decide +kernel

/-- The block of window 3 at a grid point. -/
theorem idx3 : ∀ t : Fin grid0.N, win0_3.index t 0 = t.val ∧ win0_3.index t 1 = 0 := by decide +kernel

/-- Argument 0. -/
def V0 : (⟨2, ![8192, 8192]⟩ : Shape).Idx → EReal := m ((c : Thread nD τ).loc main_arg0)

/-- Argument 1. -/
def V1 : (⟨2, ![8192, 1024]⟩ : Shape).Idx → EReal := m ((c : Thread nD τ).loc main_arg1)

/-- Argument 2. -/
def V2 : (⟨2, ![8192, 1024]⟩ : Shape).Idx → EReal := m ((c : Thread nD τ).loc main_arg2)

/-- Argument 3. -/
def V3 : (⟨2, ![8192, 1024]⟩ : Shape).Idx → EReal := m ((c : Thread nD τ).loc main_arg3)

/-- A row of a grid point's tile. -/
def row : Fin 8192 := ⟨t.val * 256 + r.val, by have := r.isLt; have := t.isLt; have : cfg0.N = 32 := N_0; omega⟩

/-- The sum of the gated branches, at a point. -/
theorem out6 : (out0_6 x0 x1 x2 x3 x4 x5 (ix2 r l) : EReal) = Ideal.logistic (x0 (ix2 r l)) * (x3 (ix2 r l)) + Ideal.logistic (x1 (ix2 r l)) * (x4 (ix2 r l)) + Ideal.logistic (x2 (ix2 r l)) * (x5 (ix2 r l)) := by
  unfold out0_6
  rw [View.canon_unit_zero (S := S256x1024) hz]
  simp only [View.ld_unit_zero (S := S256x1024) hz]
  pointwise [k0_pay1]
  all_goals try simp only [col, Ideal.logistic, Fin.isValue, Fin.val_zero, Fin.val_one, Fin.val_two, Nat.zero_mul, Nat.one_mul, Nat.zero_add, Nat.reduceMul]

/-- An element of what a grid point loads through window 0. -/
theorem blk0 : (iblk m c 0 t : Vec Ideal S256x1024 .f32) (ix2 r k) = V0 m c (ix2 (row t r) (col 0 k)) := by
  obtain ⟨ea, eb⟩ := idx0 t
  refine congrArg (m ((c : Thread nD τ).loc main_arg0)) (funext fun a => ?_)
  match a with
  | ⟨0, _⟩ => exact Fin.ext (show win0_0.index t 0 * 256 + 1 * r.val = t.val * 256 + r.val by rw [ea]; omega)
  | ⟨1, _⟩ => exact Fin.ext (show win0_0.index t 1 * 1024 + 1 * k.val = 0 * 1024 + k.val by rw [eb]; omega)

/-- An element of what a grid point loads through window 1. -/
theorem blk1 : (iblk m c 1 t : Vec Ideal S256x1024 .f32) (ix2 r k) = V0 m c (ix2 (row t r) (col 1 k)) := by
  obtain ⟨ea, eb⟩ := idx1 t
  refine congrArg (m ((c : Thread nD τ).loc main_arg0)) (funext fun a => ?_)
  match a with
  | ⟨0, _⟩ => exact Fin.ext (show win0_1.index t 0 * 256 + 1 * r.val = t.val * 256 + r.val by rw [ea]; omega)
  | ⟨1, _⟩ => exact Fin.ext (show win0_1.index t 1 * 1024 + 1 * k.val = 1 * 1024 + k.val by rw [eb]; omega)

/-- An element of what a grid point loads through window 2. -/
theorem blk2 : (iblk m c 2 t : Vec Ideal S256x1024 .f32) (ix2 r k) = V0 m c (ix2 (row t r) (col 2 k)) := by
  obtain ⟨ea, eb⟩ := idx2 t
  refine congrArg (m ((c : Thread nD τ).loc main_arg0)) (funext fun a => ?_)
  match a with
  | ⟨0, _⟩ => exact Fin.ext (show win0_2.index t 0 * 256 + 1 * r.val = t.val * 256 + r.val by rw [ea]; omega)
  | ⟨1, _⟩ => exact Fin.ext (show win0_2.index t 1 * 1024 + 1 * k.val = 2 * 1024 + k.val by rw [eb]; omega)

/-- An element of what a grid point loads through window 3. -/
theorem blk3 : (iblk m c 3 t : Vec Ideal S256x1024 .bf16) (ix2 r k) = V1 m c (ix2 (row t r) k) := by
  obtain ⟨ea, eb⟩ := idx3 t
  refine congrArg (m ((c : Thread nD τ).loc main_arg1)) (funext fun a => ?_)
  match a with
  | ⟨0, _⟩ => exact Fin.ext (show win0_3.index t 0 * 256 + 1 * r.val = t.val * 256 + r.val by rw [ea]; omega)
  | ⟨1, _⟩ => exact Fin.ext (show win0_3.index t 1 * 1024 + 1 * k.val = k.val by rw [eb]; omega)

/-- An element of what a grid point loads through window 4. -/
theorem blk4 : (iblk m c 4 t : Vec Ideal S256x1024 .bf16) (ix2 r k) = V2 m c (ix2 (row t r) k) := by
  obtain ⟨ea, eb⟩ := idx3 t
  refine congrArg (m ((c : Thread nD τ).loc main_arg2)) (funext fun a => ?_)
  match a with
  | ⟨0, _⟩ => exact Fin.ext (show win0_3.index t 0 * 256 + 1 * r.val = t.val * 256 + r.val by rw [ea]; omega)
  | ⟨1, _⟩ => exact Fin.ext (show win0_3.index t 1 * 1024 + 1 * k.val = k.val by rw [eb]; omega)

/-- An element of what a grid point loads through window 5. -/
theorem blk5 : (iblk m c 5 t : Vec Ideal S256x1024 .bf16) (ix2 r k) = V3 m c (ix2 (row t r) k) := by
  obtain ⟨ea, eb⟩ := idx3 t
  refine congrArg (m ((c : Thread nD τ).loc main_arg3)) (funext fun a => ?_)
  match a with
  | ⟨0, _⟩ => exact Fin.ext (show win0_3.index t 0 * 256 + 1 * r.val = t.val * 256 + r.val by rw [ea]; omega)
  | ⟨1, _⟩ => exact Fin.ext (show win0_3.index t 1 * 1024 + 1 * k.val = k.val by rw [eb]; omega)

/-- The tile that holds a row. -/
theorem near (i : S8192x1024.Idx) : ∃ t : Fin cfg0.N, ∀ a,
    win0_3.index t a * S256x1024.size a ≤ (i a).val ∧ (i a).val < win0_3.index t a * S256x1024.size a + S256x1024.size a := by
  have h0 : (i 0).val < 8192 := (i 0).isLt
  have h1 : (i 1).val < 1024 := (i 1).isLt
  have hN : cfg0.N = 32 := N_0
  obtain ⟨t, ht⟩ : ∃ t : Fin cfg0.N, t.val = (i 0).val / 256 := ⟨⟨_, by omega⟩, rfl⟩
  obtain ⟨ea, eb⟩ := idx3 t
  refine ⟨t, fun a => ?_⟩
  match a with
  | ⟨0, _⟩ =>
    show win0_3.index _ 0 * 256 ≤ (i 0).val ∧ (i 0).val < win0_3.index _ 0 * 256 + 256
    rw [ea]; omega
  | ⟨1, _⟩ =>
    show win0_3.index _ 1 * 1024 ≤ (i 1).val ∧ (i 1).val < win0_3.index _ 1 * 1024 + 1024
    rw [eb]; omega

/-- The sum of the gated branches, at every point. -/
theorem at6 : (out0_6 (iblk m c 0 t) (iblk m c 1 t) (iblk m c 2 t) (iblk m c 3 t) (iblk m c 4 t) (iblk m c 5 t) (ix2 r l) : EReal) = R6 (V0 m c) (V1 m c) (V2 m c) (V3 m c) (row t r) l := by
  rw [out6]
  unfold R6
  simp only [blk0 m c, blk1 m c, blk2 m c, blk3 m c, blk4 m c, blk5 m c]

/-- The array of output 6. -/
def G6 : Buf (Elt Ideal) ((c : Thread nD τ).loc main_v0) := fun i : S8192x1024.Idx => R6 (V0 m c) (V1 m c) (V2 m c) (V3 m c) (i 0) (i 1)

attribute [local irreducible] R6 in
/-- What a grid point writes back is its tile of that array. -/
theorem flushed6 : (dats m 0 c).flushed 6 t = ((cfg0.win 6).blk t).view.read (Elt Ideal) (G6 m c) := by
  obtain ⟨ea, eb⟩ := idx3 t
  rw [Value.flushed6]
  funext y
  refine ((congrArg (out0_6 (iblk m c 0 t) (iblk m c 1 t) (iblk m c 2 t) (iblk m c 3 t) (iblk m c 4 t) (iblk m c 5 t)) (eq_ix2 y)).trans (at6 m c t (y 0) (y 1))).trans (congrArg₂ (R6 (V0 m c) (V1 m c) (V2 m c) (V3 m c)) (Fin.ext ?_) (Fin.ext ?_))
  · show t.val * 256 + (y 0).val = win0_3.index t 0 * 256 + 1 * (y 0).val
    rw [ea]; omega
  · show (y 1).val = win0_3.index t 1 * 1024 + 1 * (y 1).val
    rw [eb]; omega

/-- Every element of the array is in some point's tile. -/
theorem cover6 (i : S8192x1024.Idx) : ∃ t : Fin cfg0.N, (cfg0.win 6).flush t = true ∧ i ∈ ((cfg0.win 6).blk t).view.set := by
  obtain ⟨t, h⟩ := near i
  refine ⟨t, flush0_6 _, ?_⟩
  show i ∈ ((View.whole main_v0).slice (win0_6.rect t)).set
  rw [View.set_slice_whole, Rect.mem_set_unit]
  exact h

end kernel

/-- The frames: the generated runs. -/
theorem frame_k : Cert.quiescent_MergeFKernel := fun m ρ _ => Cert.MergeFKernel.Gen.frame m ρ
/-- … of the idealized kernel, -/
theorem frame_ki : Cert.quiescent_MergeFKernelIdeal := fun m ρ _ => Cert.MergeFKernelIdeal.Gen.frame m ρ
/-- … and of the reference, which has no semaphore. -/
theorem frame_r : Cert.quiescent_MergeFReferenceIdeal := fun m ρ _ =>
  (θ_run Cert.MergeFReferenceIdeal.defs _ _).mono (fun r h => ⟨fun c => (h c).2, Idealize.ShloMosaic.sem_eq_zero_of_no_sems (by decide) r.2⟩)
    (Cert.MergeFReferenceIdeal.Value.run (F := Ideal) m ρ)

set_option maxHeartbeats 4000000 in
open Cert.MergeFKernelIdeal Cert.MergeFKernelIdeal.Gen in
/-- The kernel's results and the reference's are the same arrays. -/
theorem algebraic : Cert.algebraic_MergeFKernelIdeal_MergeFReferenceIdeal := by
  intro m ρ m' ρ' _ hagree
  refine ⟨fun c => G6 m c, ?_, ?_⟩
  · refine (θ_run defs _ _).mono (fun _ h c => ?_) (Value.run_blocks (F := Ideal) m ρ)
    obtain ⟨h6, hk⟩ := h c
    exact ⟨h6.trans ((dats m 0 c).arrAt_eq_of_cover 6 (G6 m c) (fun t _ => flushed6 m c t) cover6), hk⟩
  refine (θ_run Cert.MergeFReferenceIdeal.defs _ _).mono (fun _ h c => ?_) (Cert.MergeFReferenceIdeal.Value.run (F := Ideal) m' ρ')
  obtain ⟨a0, a1, a2, a3⟩ := hagree c
  obtain ⟨h6, hk⟩ := h c
  refine ⟨h6.trans (funext fun i => ?_), hk⟩
  · obtain ⟨n, l, rfl⟩ : ∃ n l, i = ix2 n l := ⟨_, _, eq_ix2 i⟩
    refine Eq.trans (b := (R6 (m' (c.tc.loc Cert.MergeFReferenceIdeal.main_arg0)) (m' (c.tc.loc Cert.MergeFReferenceIdeal.main_arg1)) (m' (c.tc.loc Cert.MergeFReferenceIdeal.main_arg2)) (m' (c.tc.loc Cert.MergeFReferenceIdeal.main_arg3)) n l : EReal)) ?_ (by rw [a0, a1, a2, a3]; rfl)
    unfold R6
    pointwise
    all_goals try simp only [col, Ideal.logistic, Fin.isValue, Fin.val_zero, Fin.val_one, Fin.val_two, Nat.zero_mul, Nat.one_mul, Nat.zero_add, Nat.reduceMul]

end Cert.MergeF

end
-- ==== Proof.LossHead.lean ====
/-
  The loss and its gradient (`loss_head`): a grid point computes one tile of rows of the gradient, and the loss and the gradient of
  the norm's weight are added up over the tiles.
-/
module

public import proofs.«01_k».proof.Defs
public import proofs.«01_k».proof.Proof.Common
public import proofs.«01_k».proof.Proof.NormSpec
public import proofs.«01_k».proof.Proof.Gen.LossHeadKernel.Frame
public import proofs.«01_k».proof.Proof.Gen.LossHeadKernelIdeal.Value
public import proofs.«01_k».proof.Proof.Gen.LossHeadReferenceIdeal.Run
public import Idealize.ShloMosaic.Lib.Quiescent
public import Idealize.ShloMosaic.Lib.Tactic
public import Idealize.ShloMosaic.Lib.Pointwise

@[expose] public section

noncomputable section

namespace Cert.LossHead

open Idealize.ShloMosaic Idealize.ShloMosaic.TcCoe Idealize.SL.Sem Cert.Common Cert.NormSpec

section row

variable (x w y : Fin 1024 → EReal) (l : Fin 1024)

/-- The normalised row minus the target. -/
def dif : EReal := nrm x l * w l - y l

/-- The gradient of the normalised row. -/
def gr : EReal :=
  Ideal.div (Ideal.ofBits .f32 0x3F000000#32) (Ideal.ofBits .f32 0x44800000#32) * (Ideal.ofBits .f32 0x40000000#32 * dif x w y l)

/-- The gradient of a square of the row. -/
def dsq : EReal :=
  Ideal.div ((∑ k, x k * (gr x w y k * w k)) * (Ideal.ofBits .f32 0xBF000000#32 * Ideal.div (Ideal.rsqrt (ms x)) (ms x))) (Ideal.ofBits .f32 0x44800000#32)

/-- The gradient of the row. -/
def dxl : EReal := gr x w y l * w l * Ideal.rsqrt (ms x) + x l * dsq x w y + dsq x w y * x l

/-- The row's part of the gradient of the norm's weight. -/
def dwl : EReal := nrm x l * gr x w y l

/-- The row's mean squared difference. -/
def los : EReal := Ideal.div (∑ k, dif x w y k * dif x w y k) (Ideal.ofBits .f32 0x44800000#32)

end row

/-- Row `r` of the tile that point `b` visits. -/
def rowF (b : ℕ) (r : Fin 256) : Fin 8192 := ⟨b % 32 * 256 + r.val, by have := r.isLt; omega⟩

/-- The sum over the rows, tile by tile. -/
theorem sumF (f : Fin 8192 → EReal) : ∑ b ∈ Finset.range 32, ∑ r : Fin 256, f (rowF b r) = ∑ n, f n := by
  rw [← Fin.sum_univ_eq_sum_range (fun b => ∑ r : Fin 256, f (rowF b r)) 32, ← Fintype.sum_prod_type']
  refine Fintype.sum_equiv (finProdFinEquiv : Fin 32 × Fin 256 ≃ Fin (32 * 256)) _ _ fun p => congrArg f (Fin.ext ?_)
  have := p.1.isLt
  have := p.2.isLt
  show p.1.val % 32 * 256 + p.2.val = p.2.val + 256 * p.1.val
  omega

/-- One half. -/
theorem half_f32 : Ideal.ofBits .f32 0x3F000000#32 = ((1 / 2 : ℝ) : EReal) := by
  simp [Ideal.ofBits, Ideal.ieee]
  rw [← EReal.coe_mul]
  norm_num

/-- Half a sum is the sum of the halves, whatever the numbers. -/
theorem half_sum (s : Finset ℕ) (g : ℕ → EReal) : ∑ b ∈ s, Ideal.ofBits .f32 0x3F000000#32 * g b = Ideal.ofBits .f32 0x3F000000#32 * ∑ b ∈ s, g b := by
  rw [half_f32]
  induction s using Finset.induction_on with
  | empty => simp
  | insert a s ha ih =>
    rw [Finset.sum_insert ha, Finset.sum_insert ha, ih,
      EReal.left_distrib_of_nonneg_of_ne_top (by exact_mod_cast (by norm_num : (0 : ℝ) ≤ 1 / 2)) (EReal.coe_ne_top _)]

/-- Half the sum over the rows, tile by tile. -/
theorem sumF_half (f : Fin 8192 → EReal) :
    ∑ b ∈ Finset.range 32, Ideal.ofBits .f32 0x3F000000#32 * (∑ r : Fin 256, f (rowF b r)) = Ideal.ofBits .f32 0x3F000000#32 * (∑ n, f n) := by
  rw [half_sum, sumF]

section spec

variable (A0 : (⟨2, ![8192, 1024]⟩ : Shape).Idx → EReal) (A1 : (⟨2, ![8192, 1024]⟩ : Shape).Idx → EReal) (A2 : (⟨2, ![1, 1024]⟩ : Shape).Idx → EReal) (n : Fin 8192)

/-- A row's part of the loss. -/
def P3 (l : Fin 128) : EReal := los (fun k => A0 (ix2 n k)) (fun k => A2 (ix2 0 k)) (fun k => A1 (ix2 n k))

/-- The sum over the rows. -/
def T3 (l : Fin 128) : EReal := Ideal.ofBits .f32 0x3F000000#32 * (∑ n, P3 A0 A1 A2 n l)

/-- The gradient of the rows. -/
def R4 (l : Fin 1024) : EReal := dxl (fun k => A0 (ix2 n k)) (fun k => A2 (ix2 0 k)) (fun k => A1 (ix2 n k)) l

/-- A row's part of the gradient of the weight. -/
def P5 (l : Fin 1024) : EReal := dwl (fun k => A0 (ix2 n k)) (fun k => A2 (ix2 0 k)) (fun k => A1 (ix2 n k)) l

/-- The sum over the rows. -/
def T5 (l : Fin 1024) : EReal := ∑ n, P5 A0 A1 A2 n l

end spec

open Cert.LossHeadKernelIdeal Cert.LossHeadKernelIdeal.Gen

section point

variable {c : Dev nD} {i : grid0.Coords}
  {a1 : Memref sig .tc .vmem S256x1024 .f32} {h1 : a1.IsWhole}
  {a2 : Memref sig .tc .vmem S256x1024 .f32} {h2 : a2.IsWhole}
  {a3 : Memref sig .tc .vmem S1x1024 .f32} {h3 : a3.IsWhole}
  {a4 : Memref sig .tc .vmem S1x128 .f32} {h4 : a4.IsWhole}
  {a5 : Memref sig .tc .vmem S256x1024 .f32} {h5 : a5.IsWhole}
  {a6 : Memref sig .tc .vmem S1x1024 .f32} {h6 : a6.IsWhole}
  {x0 : Vec Ideal S256x1024 .f32} {x1 : Vec Ideal S256x1024 .f32} {x2 : Vec Ideal S1x1024 .f32}

/-- The outputs of a first point and of a later one, element by element. -/
theorem outs :
    (∀ l hc, (out0_A_3 c i a1 h1 a2 h2 a3 h3 a4 h4 a5 h5 a6 h6 hc x0 x1 x2 (ix2 0 l) : EReal) = Ideal.ofBits .f32 0x3F000000#32 * (∑ r : Fin 256, los (fun k => x0 (ix2 r k)) (fun k => x2 (ix2 0 k)) (fun k => x1 (ix2 r k))))
    ∧ (∀ (g0 : Vec Ideal S1x128 .f32) (g2 : Vec Ideal S1x1024 .f32) l hc, (out0_B_3 c i a1 h1 a2 h2 a3 h3 a4 h4 a5 h5 a6 h6 hc x0 x1 x2 g0 g2 (ix2 0 l) : EReal) = g0 (ix2 0 l) + Ideal.ofBits .f32 0x3F000000#32 * (∑ r : Fin 256, los (fun k => x0 (ix2 r k)) (fun k => x2 (ix2 0 k)) (fun k => x1 (ix2 r k))))
    ∧ (∀ r l hc, (out0_A_4 c i a1 h1 a2 h2 a3 h3 a4 h4 a5 h5 a6 h6 hc x0 x1 x2 (ix2 r l) : EReal) = dxl (fun k => x0 (ix2 r k)) (fun k => x2 (ix2 0 k)) (fun k => x1 (ix2 r k)) l)
    ∧ (∀ (g0 : Vec Ideal S1x128 .f32) (g2 : Vec Ideal S1x1024 .f32) r l hc, (out0_B_4 c i a1 h1 a2 h2 a3 h3 a4 h4 a5 h5 a6 h6 hc x0 x1 x2 g0 g2 (ix2 r l) : EReal) = dxl (fun k => x0 (ix2 r k)) (fun k => x2 (ix2 0 k)) (fun k => x1 (ix2 r k)) l)
    ∧ (∀ l hc, (out0_A_5 c i a1 h1 a2 h2 a3 h3 a4 h4 a5 h5 a6 h6 hc x0 x1 x2 (ix2 0 l) : EReal) = ∑ r : Fin 256, dwl (fun k => x0 (ix2 r k)) (fun k => x2 (ix2 0 k)) (fun k => x1 (ix2 r k)) l)
    ∧ (∀ (g0 : Vec Ideal S1x128 .f32) (g2 : Vec Ideal S1x1024 .f32) l hc, (out0_B_5 c i a1 h1 a2 h2 a3 h3 a4 h4 a5 h5 a6 h6 hc x0 x1 x2 g0 g2 (ix2 0 l) : EReal) = g2 (ix2 0 l) + ∑ r : Fin 256, dwl (fun k => x0 (ix2 r k)) (fun k => x2 (ix2 0 k)) (fun k => x1 (ix2 r k)) l) := by
  refine ⟨fun l hc => ?_, fun g0 g2 l hc => ?_, fun r l hc => ?_, fun g0 g2 r l hc => ?_, fun l hc => ?_, fun g0 g2 l hc => ?_⟩
  on_goal 1 => unfold out0_A_3; rw [View.read_writes_eq_canon _ _ _ (cover0_A_3 c i _ h1 _ h2 _ h3 _ h4 _ h5 _ h6 hc x0 x1 x2)]; unfold kernelRun0_A; dsimp only; sl_unfold_words; rw [View.canon_cons_unit_zero (S := S1x128) hz, View.readCov_unit_zero (S := S1x128) _ hz]
  on_goal 2 => unfold out0_B_3; rw [View.read_writes_eq_canon _ _ _ (cover0_B_3 c i _ h1 _ h2 _ h3 _ h4 _ h5 _ h6 hc x0 x1 x2 g0 g2)]; unfold kernelRun0_B; dsimp only; sl_unfold_words; rw [View.canon_unit_zero (S := S1x128) hz]
  on_goal 3 => unfold out0_A_4; rw [View.read_writes_eq_canon _ _ _ (cover0_A_4 c i _ h1 _ h2 _ h3 _ h4 _ h5 _ h6 hc x0 x1 x2)]; unfold kernelRun0_A; dsimp only; sl_unfold_words; rw [View.canon_unit_zero (S := S256x1024) hz]
  on_goal 4 => unfold out0_B_4; rw [View.read_writes_eq_canon _ _ _ (cover0_B_4 c i _ h1 _ h2 _ h3 _ h4 _ h5 _ h6 hc x0 x1 x2 g0 g2)]; unfold kernelRun0_B; dsimp only; sl_unfold_words; rw [View.canon_unit_zero (S := S256x1024) hz]
  on_goal 5 => unfold out0_A_5; rw [View.read_writes_eq_canon _ _ _ (cover0_A_5 c i _ h1 _ h2 _ h3 _ h4 _ h5 _ h6 hc x0 x1 x2)]; unfold kernelRun0_A; dsimp only; sl_unfold_words; rw [View.canon_cons_unit_zero (S := S1x1024) hz, View.readCov_unit_zero (S := S1x1024) _ hz]
  on_goal 6 => unfold out0_B_5; rw [View.read_writes_eq_canon _ _ _ (cover0_B_5 c i _ h1 _ h2 _ h3 _ h4 _ h5 _ h6 hc x0 x1 x2 g0 g2)]; unfold kernelRun0_B; dsimp only; sl_unfold_words; rw [View.canon_unit_zero (S := S1x1024) hz]
  all_goals
    simp only [View.readAt_eq_ld, h1.read_unread, h2.read_unread, h3.read_unread, h4.read_unread, h6.read_unread, View.ld_unit_zero (S := S256x1024) hz, View.ld_unit_zero (S := S1x128) hz, View.ld_unit_zero (S := S1x1024) hz]
    pointwise [k0_pay1, k0_pay2, k0_pay3, k0_pay4, k0_pay5, k0_pay6, k0_pay7, k0_pay8, k0_pay9, k0_pay10, k0_pay11, k0_pay12, k0_pay13, k0_pay14]
    all_goals try simp only [ms, nrm, dif, gr, dsq, dxl, dwl, los, Finset.univ_unique, Finset.sum_singleton, zero_add]

end point

section kernel

variable (m : (ℓ : Loc nD τ sig) → Buf (Elt Ideal) ℓ) (c : Dev nD) (t : Fin cfg0.N) (r : Fin 256) (k l : Fin 1024)

/-- The number of grid points. -/
theorem hN : cfg0.N = 32 := N_0

/-- The block of window 0 at a grid point. -/
theorem idx0 : ∀ t : Fin grid0.N, win0_0.index t 0 = t.val ∧ win0_0.index t 1 = 0 := by decide +kernel

/-- The block of window 2 at a grid point. -/
theorem idx2 : ∀ t : Fin grid0.N, win0_2.index t 0 = 0 ∧ win0_2.index t 1 = 0 := by decide +kernel

/-- The block of window 3 at a grid point. -/
theorem idx3 : ∀ t : Fin grid0.N, win0_3.index t 0 = 0 ∧ win0_3.index t 1 = 0 := by decide +kernel

/-- Argument 0. -/
def V0 : (⟨2, ![8192, 1024]⟩ : Shape).Idx → EReal := m ((c : Thread nD τ).loc main_arg0)

/-- Argument 1. -/
def V1 : (⟨2, ![8192, 1024]⟩ : Shape).Idx → EReal := m ((c : Thread nD τ).loc main_arg1)

/-- Argument 2. -/
def V2 : (⟨2, ![1, 1024]⟩ : Shape).Idx → EReal := m ((c : Thread nD τ).loc main_arg2)

/-- What a grid point loads of argument 0. -/
theorem blk0 : (iblk m c 0 t : Vec Ideal S256x1024 .f32) (ix2 r k) = V0 m c (ix2 (rowF t.val r) k) := by
  obtain ⟨ea, eb⟩ := idx0 t
  refine congrArg (m ((c : Thread nD τ).loc main_arg0)) (funext fun a => ?_)
  match a with
  | ⟨0, _⟩ => exact Fin.ext (show win0_0.index t 0 * 256 + 1 * r.val = t.val % 32 * 256 + r.val by rw [ea]; have := t.isLt; have := hN; omega)
  | ⟨1, _⟩ => exact Fin.ext (show win0_0.index t 1 * 1024 + 1 * k.val = k.val by rw [eb]; omega)

/-- What a grid point loads of argument 1. -/
theorem blk1 : (iblk m c 1 t : Vec Ideal S256x1024 .f32) (ix2 r k) = V1 m c (ix2 (rowF t.val r) k) := by
  obtain ⟨ea, eb⟩ := idx0 t
  refine congrArg (m ((c : Thread nD τ).loc main_arg1)) (funext fun a => ?_)
  match a with
  | ⟨0, _⟩ => exact Fin.ext (show win0_0.index t 0 * 256 + 1 * r.val = t.val % 32 * 256 + r.val by rw [ea]; have := t.isLt; have := hN; omega)
  | ⟨1, _⟩ => exact Fin.ext (show win0_0.index t 1 * 1024 + 1 * k.val = k.val by rw [eb]; omega)

/-- What a grid point loads of argument 2. -/
theorem blk2 : (iblk m c 2 t : Vec Ideal S1x1024 .f32) (ix2 0 k) = V2 m c (ix2 0 k) := by
  obtain ⟨ea, eb⟩ := idx2 t
  refine congrArg (m ((c : Thread nD τ).loc main_arg2)) (funext fun a => ?_)
  match a with
  | ⟨0, _⟩ => exact Fin.ext (show win0_2.index t 0 * 1 + 1 * 0 = 0 by rw [ea])
  | ⟨1, _⟩ => exact Fin.ext (show win0_2.index t 1 * 1024 + 1 * k.val = k.val by rw [eb]; omega)

/-- The block that holds a row. -/
theorem near0 (i : S8192x1024.Idx) (t : Fin cfg0.N) (ht : t.val = (i 0).val / 256) (a : Fin 2) :
    win0_0.index t a * S256x1024.size a ≤ (i a).val ∧ (i a).val < win0_0.index t a * S256x1024.size a + S256x1024.size a := by
  have h0 : (i 0).val < 8192 := (i 0).isLt
  have h1 : (i 1).val < 1024 := (i 1).isLt
  obtain ⟨ea, eb⟩ := idx0 t
  match a with
  | ⟨0, _⟩ =>
    show win0_0.index t 0 * 256 ≤ (i 0).val ∧ (i 0).val < win0_0.index t 0 * 256 + 256
    rw [ea]; omega
  | ⟨1, _⟩ =>
    show win0_0.index t 1 * 1024 ≤ (i 1).val ∧ (i 1).val < win0_0.index t 1 * 1024 + 1024
    rw [eb]; omega

/-- The one block of a sum over the rows. -/
theorem near2 (i : S1x1024.Idx) (t : Fin cfg0.N) (a : Fin 2) :
    win0_2.index t a * S1x1024.size a ≤ (i a).val ∧ (i a).val < win0_2.index t a * S1x1024.size a + S1x1024.size a := by
  have h0 : (i 0).val < 1 := (i 0).isLt
  have h1 : (i 1).val < 1024 := (i 1).isLt
  obtain ⟨ea, eb⟩ := idx2 t
  match a with
  | ⟨0, _⟩ =>
    show win0_2.index t 0 * 1 ≤ (i 0).val ∧ (i 0).val < win0_2.index t 0 * 1 + 1
    rw [ea]; omega
  | ⟨1, _⟩ =>
    show win0_2.index t 1 * 1024 ≤ (i 1).val ∧ (i 1).val < win0_2.index t 1 * 1024 + 1024
    rw [eb]; omega

/-- The one block of a sum over the rows. -/
theorem near3 (i : S1x128.Idx) (t : Fin cfg0.N) (a : Fin 2) :
    win0_3.index t a * S1x128.size a ≤ (i a).val ∧ (i a).val < win0_3.index t a * S1x128.size a + S1x128.size a := by
  have h0 : (i 0).val < 1 := (i 0).isLt
  have h1 : (i 1).val < 128 := (i 1).isLt
  obtain ⟨ea, eb⟩ := idx3 t
  match a with
  | ⟨0, _⟩ =>
    show win0_3.index t 0 * 1 ≤ (i 0).val ∧ (i 0).val < win0_3.index t 0 * 1 + 1
    rw [ea]; omega
  | ⟨1, _⟩ =>
    show win0_3.index t 1 * 128 ≤ (i 1).val ∧ (i 1).val < win0_3.index t 1 * 128 + 128
    rw [eb]; omega

/-- An index of a sum over the rows. -/
theorem eqP {z : ℕ} (y : (⟨2, ![1, z]⟩ : Shape).Idx) : y = ix2 (n0 := 1) (n1 := z) 0 (y 1) :=
  (eq_ix2 y).trans (congrArg (ix2 · (y 1)) (Fin.ext (by have : (y 0).val < 1 := (y 0).isLt; show (y 0).val = 0; omega)))

/-- Output 3 after a point: the sum over the rows visited. -/
theorem at3 (l : Fin 128) : ∀ (n : ℕ) (h : n < cfg0.N), ((outsAt0 m c n h).1 (ix2 0 l) : EReal)
    = ∑ b ∈ Finset.range (n + 1), Ideal.ofBits .f32 0x3F000000#32 * (∑ r : Fin 256, P3 (V0 m c) (V1 m c) (V2 m c) (rowF b r) l) := by
  intro n
  induction n with
  | zero =>
    intro h
    rw [outsAt0_A m c ⟨0, h⟩ rfl]
    dsimp only
    rw [outs.1, Finset.sum_range_one]
    simp only [blk0 m c, blk1 m c, blk2 m c]
    rfl
  | succ n ih =>
    intro h
    rw [outsAt0_B m c ⟨n + 1, h⟩ (by have := hN; dsimp only; omega)]
    dsimp only
    rw [outs.2.1, Finset.sum_range_succ, ← ih (by omega)]
    simp only [blk0 m c, blk1 m c, blk2 m c]
    rfl

/-- Output 3 as an array. -/
def G3 : Buf (Elt Ideal) ((c : Thread nD τ).loc main_v0_0) := fun i : S1x128.Idx => T3 (V0 m c) (V1 m c) (V2 m c) (i 1)

attribute [local irreducible] T3 in
/-- The last point writes it back. -/
theorem flushed3 (hf : (cfg0.win 3).flush t = true) : (dats m 0 c).flushed 3 t = ((cfg0.win 3).blk t).view.read (Elt Ideal) (G3 m c) := by
  have ht : t.val = 31 := by have := (flush0_3 t).1 hf; have := hN; have := t.isLt; omega
  obtain ⟨ea, eb⟩ := idx3 t
  rw [Value.flushed3]
  funext y
  have e : ((outsAt0 m c t.val t.isLt).1 y : EReal) = T3 (V0 m c) (V1 m c) (V2 m c) (y 1) := by
    refine (congrArg (outsAt0 m c t.val t.isLt).1 (eqP y)).trans ((at3 m c (y 1) t.val t.isLt).trans ?_)
    rw [ht]
    unfold T3
    exact sumF_half fun n => P3 (V0 m c) (V1 m c) (V2 m c) n (y 1)
  refine e.trans (congrArg (T3 (V0 m c) (V1 m c) (V2 m c)) (Fin.ext ?_))
  show (y 1).val = win0_3.index t 1 * 128 + 1 * (y 1).val
  rw [eb]; omega

/-- Its one block is the whole array. -/
theorem cover3 (i : S1x128.Idx) : ∃ t : Fin cfg0.N, (cfg0.win 3).flush t = true ∧ i ∈ ((cfg0.win 3).blk t).view.set := by
  obtain ⟨t, ht⟩ : ∃ t : Fin cfg0.N, t.val = 31 := ⟨⟨_, by have := hN; omega⟩, rfl⟩
  refine ⟨t, (flush0_3 _).2 (by rw [ht]), ?_⟩
  show i ∈ ((View.whole main_v0_0).slice (win0_3.rect t)).set
  rw [View.set_slice_whole, Rect.mem_set_unit]
  exact near3 i t

/-- Output 4 after a point. -/
theorem at4 : ((outsAt0 m c t.val t.isLt).2.1 (ix2 r l) : EReal) = R4 (V0 m c) (V1 m c) (V2 m c) (rowF t.val r) l := by
  by_cases h : t.val % 32 = 0
  on_goal 1 => rw [outsAt0_A m c t h]; dsimp only; rw [outs.2.2.1]
  on_goal 2 => rw [outsAt0_B m c t h]; dsimp only; rw [outs.2.2.2.1]
  all_goals simp only [blk0 m c, blk1 m c, blk2 m c]; rfl

/-- Output 4 as an array. -/
def G4 : Buf (Elt Ideal) ((c : Thread nD τ).loc main_v0_1) := fun i : S8192x1024.Idx => R4 (V0 m c) (V1 m c) (V2 m c) (i 0) (i 1)

attribute [local irreducible] R4 in
/-- What a grid point writes back is its block of that array. -/
theorem flushed4 : (dats m 0 c).flushed 4 t = ((cfg0.win 4).blk t).view.read (Elt Ideal) (G4 m c) := by
  obtain ⟨ea, eb⟩ := idx0 t
  rw [Value.flushed4]
  funext y
  refine ((congrArg (outsAt0 m c t.val t.isLt).2.1 (eq_ix2 y)).trans (at4 m c t (y 0) (y 1))).trans (congrArg₂ (R4 (V0 m c) (V1 m c) (V2 m c)) (Fin.ext ?_) (Fin.ext ?_))
  · show t.val % 32 * 256 + (y 0).val = win0_0.index t 0 * 256 + 1 * (y 0).val
    rw [ea]; have := t.isLt; have := hN; omega
  · show (y 1).val = win0_0.index t 1 * 1024 + 1 * (y 1).val
    rw [eb]; omega

/-- Every element of the array is in some point's block. -/
theorem cover4 (i : S8192x1024.Idx) : ∃ t : Fin cfg0.N, (cfg0.win 4).flush t = true ∧ i ∈ ((cfg0.win 4).blk t).view.set := by
  obtain ⟨t, ht⟩ : ∃ t : Fin cfg0.N, t.val = (i 0).val / 256 := ⟨⟨_, by have h0 : (i 0).val < 8192 := (i 0).isLt; have := hN; omega⟩, rfl⟩
  refine ⟨t, flush0_4 _, ?_⟩
  show i ∈ ((View.whole main_v0_1).slice (win0_4.rect t)).set
  rw [View.set_slice_whole, Rect.mem_set_unit]
  exact near0 i t ht

/-- Output 5 after a point: the sum over the rows visited. -/
theorem at5 (l : Fin 1024) : ∀ (n : ℕ) (h : n < cfg0.N), ((outsAt0 m c n h).2.2 (ix2 0 l) : EReal)
    = ∑ b ∈ Finset.range (n + 1), ∑ r : Fin 256, P5 (V0 m c) (V1 m c) (V2 m c) (rowF b r) l := by
  intro n
  induction n with
  | zero =>
    intro h
    rw [outsAt0_A m c ⟨0, h⟩ rfl]
    dsimp only
    rw [outs.2.2.2.2.1, Finset.sum_range_one]
    simp only [blk0 m c, blk1 m c, blk2 m c]
    rfl
  | succ n ih =>
    intro h
    rw [outsAt0_B m c ⟨n + 1, h⟩ (by have := hN; dsimp only; omega)]
    dsimp only
    rw [outs.2.2.2.2.2, Finset.sum_range_succ, ← ih (by omega)]
    simp only [blk0 m c, blk1 m c, blk2 m c]
    rfl

/-- Output 5 as an array. -/
def G5 : Buf (Elt Ideal) ((c : Thread nD τ).loc main_v0_2) := fun i : S1x1024.Idx => T5 (V0 m c) (V1 m c) (V2 m c) (i 1)

attribute [local irreducible] T5 in
/-- The last point writes it back. -/
theorem flushed5 (hf : (cfg0.win 5).flush t = true) : (dats m 0 c).flushed 5 t = ((cfg0.win 5).blk t).view.read (Elt Ideal) (G5 m c) := by
  have ht : t.val = 31 := by have := (flush0_5 t).1 hf; have := hN; have := t.isLt; omega
  obtain ⟨ea, eb⟩ := idx2 t
  rw [Value.flushed5]
  funext y
  have e : ((outsAt0 m c t.val t.isLt).2.2 y : EReal) = T5 (V0 m c) (V1 m c) (V2 m c) (y 1) := by
    refine (congrArg (outsAt0 m c t.val t.isLt).2.2 (eqP y)).trans ((at5 m c (y 1) t.val t.isLt).trans ?_)
    rw [ht]
    unfold T5
    exact sumF fun n => P5 (V0 m c) (V1 m c) (V2 m c) n (y 1)
  refine e.trans (congrArg (T5 (V0 m c) (V1 m c) (V2 m c)) (Fin.ext ?_))
  show (y 1).val = win0_2.index t 1 * 1024 + 1 * (y 1).val
  rw [eb]; omega

/-- Its one block is the whole array. -/
theorem cover5 (i : S1x1024.Idx) : ∃ t : Fin cfg0.N, (cfg0.win 5).flush t = true ∧ i ∈ ((cfg0.win 5).blk t).view.set := by
  obtain ⟨t, ht⟩ : ∃ t : Fin cfg0.N, t.val = 31 := ⟨⟨_, by have := hN; omega⟩, rfl⟩
  refine ⟨t, (flush0_5 _).2 (by rw [ht]), ?_⟩
  show i ∈ ((View.whole main_v0_2).slice (win0_5.rect t)).set
  rw [View.set_slice_whole, Rect.mem_set_unit]
  exact near2 i t

end kernel

/-- The frames: the generated runs. -/
theorem frame_k : Cert.quiescent_LossHeadKernel := fun m ρ _ => Cert.LossHeadKernel.Gen.frame m ρ
/-- … of the idealized kernel, -/
theorem frame_ki : Cert.quiescent_LossHeadKernelIdeal := fun m ρ _ => Cert.LossHeadKernelIdeal.Gen.frame m ρ
/-- … and of the reference, which has no semaphore. -/
theorem frame_r : Cert.quiescent_LossHeadReferenceIdeal := fun m ρ _ =>
  (θ_run Cert.LossHeadReferenceIdeal.defs _ _).mono (fun r h => ⟨fun c => (h c).2.2.2, Idealize.ShloMosaic.sem_eq_zero_of_no_sems (by decide) r.2⟩)
    (Cert.LossHeadReferenceIdeal.Value.run (F := Ideal) m ρ)

set_option maxHeartbeats 4000000 in
/-- The kernel's results and the reference's are the same arrays. -/
theorem algebraic : Cert.algebraic_LossHeadKernelIdeal_LossHeadReferenceIdeal := by
  intro m ρ m' ρ' _ hagree
  refine ⟨fun c => G3 m c, fun c => G4 m c, fun c => G5 m c, ?_, ?_⟩
  · refine (θ_run defs _ _).mono (fun _ h c => ?_) (Value.run_blocks (F := Ideal) m ρ)
    obtain ⟨h3, h4, h5, hk⟩ := h c
    exact ⟨h3.trans ((dats m 0 c).arrAt_eq_of_cover 3 (G3 m c) (flushed3 m c) cover3), h4.trans ((dats m 0 c).arrAt_eq_of_cover 4 (G4 m c) (fun t _ => flushed4 m c t) cover4), h5.trans ((dats m 0 c).arrAt_eq_of_cover 5 (G5 m c) (flushed5 m c) cover5), hk⟩
  refine (θ_run Cert.LossHeadReferenceIdeal.defs _ _).mono (fun _ h c => ?_) (Cert.LossHeadReferenceIdeal.Value.run (F := Ideal) m' ρ')
  obtain ⟨a0, a1, a2⟩ := hagree c
  obtain ⟨h3, h4, h5, hk⟩ := h c
  refine ⟨h3.trans (funext fun i => ?_), h4.trans (funext fun i => ?_), h5.trans (funext fun i => ?_), hk⟩
  · obtain ⟨n, l, rfl⟩ : ∃ n l, i = ix2 n l := ⟨_, _, eq_ix2 i⟩
    obtain rfl : n = 0 := Subsingleton.elim _ _
    refine Eq.trans (b := T3 (m' (c.tc.loc Cert.LossHeadReferenceIdeal.main_arg0)) (m' (c.tc.loc Cert.LossHeadReferenceIdeal.main_arg1)) (m' (c.tc.loc Cert.LossHeadReferenceIdeal.main_arg2)) l) ?_ (by rw [a0, a1, a2]; rfl)
    unfold T3 P3
    pointwise
    all_goals try simp only [ms, nrm, dif, gr, dsq, dxl, dwl, los, Finset.univ_unique, Finset.sum_singleton, zero_add]
  · obtain ⟨n, l, rfl⟩ : ∃ n l, i = ix2 n l := ⟨_, _, eq_ix2 i⟩
    unfold Cert.LossHeadReferenceIdeal.Value.res_main_v48
    refine Eq.trans (b := (R4 (m' (c.tc.loc Cert.LossHeadReferenceIdeal.main_arg0)) (m' (c.tc.loc Cert.LossHeadReferenceIdeal.main_arg1)) (m' (c.tc.loc Cert.LossHeadReferenceIdeal.main_arg2)) n l : EReal)) ?_ (by rw [a0, a1, a2]; rfl)
    unfold R4
    pointwise
    all_goals try simp only [ms, nrm, dif, gr, dsq, dxl, dwl, los, Finset.univ_unique, Finset.sum_singleton, zero_add]
  · obtain ⟨n, l, rfl⟩ : ∃ n l, i = ix2 n l := ⟨_, _, eq_ix2 i⟩
    obtain rfl : n = 0 := Subsingleton.elim _ _
    refine Eq.trans (b := T5 (m' (c.tc.loc Cert.LossHeadReferenceIdeal.main_arg0)) (m' (c.tc.loc Cert.LossHeadReferenceIdeal.main_arg1)) (m' (c.tc.loc Cert.LossHeadReferenceIdeal.main_arg2)) l) ?_ (by rw [a0, a1, a2]; rfl)
    unfold T5 P5
    pointwise
    all_goals try simp only [ms, nrm, dif, gr, dsq, dxl, dwl, los, Finset.univ_unique, Finset.sum_singleton, zero_add]

end Cert.LossHead

end
-- ==== Proof.AdamSmall.lean ====
/-
  The optimiser's step on the small weights, packed into one array (`adam_small`): a grid point adds the eight devices' parts of the
  gradient and steps one tile of the array.
-/
module

public import proofs.«01_k».proof.Defs
public import proofs.«01_k».proof.Proof.Common
public import proofs.«01_k».proof.Proof.NormSpec
public import proofs.«01_k».proof.Proof.AdamSpec
public import proofs.«01_k».proof.Proof.Gen.AdamSmallKernel.Frame
public import proofs.«01_k».proof.Proof.Gen.AdamSmallKernelIdeal.Value
public import proofs.«01_k».proof.Proof.Gen.AdamSmallReferenceIdeal.Run
public import Idealize.ShloMosaic.Lib.Quiescent
public import Idealize.ShloMosaic.Lib.Tactic
public import Idealize.ShloMosaic.Lib.Pointwise

@[expose] public section

noncomputable section

namespace Cert.AdamSmall

open Idealize.ShloMosaic Idealize.ShloMosaic.TcCoe Idealize.SL.Sem Cert.Common Cert.AdamSpec

section spec

variable (A0 : (⟨2, ![296, 1024]⟩ : Shape).Idx → EReal) (A1 : (⟨2, ![296, 1024]⟩ : Shape).Idx → EReal) (A2 : (⟨2, ![296, 1024]⟩ : Shape).Idx → EReal) (A3 : (⟨3, ![8, 296, 1024]⟩ : Shape).Idx → EReal) (n : Fin 296) (l : Fin 1024)

/-- The gradient. -/
def R4 : EReal := (∑ s, A3 (ix3 s n l))

/-- The step. -/
def R5 : EReal := delta (∑ s, A3 (ix3 s n l)) (A0 (ix2 n l)) (A1 (ix2 n l)) (A2 (ix2 n l))

/-- The new running mean. -/
def R6 : EReal := mn (∑ s, A3 (ix3 s n l)) (A1 (ix2 n l))

/-- The new running mean of the square. -/
def R7 : EReal := vn (∑ s, A3 (ix3 s n l)) (A2 (ix2 n l))

end spec

section kernel

open Cert.AdamSmallKernelIdeal Cert.AdamSmallKernelIdeal.Gen

variable (m : (ℓ : Loc nD τ sig) → Buf (Elt Ideal) ℓ) (c : Dev nD) (t : Fin cfg0.N) (x0 : Vec Ideal S8x1024 .f32) (x1 : Vec Ideal S8x1024 .f32) (x2 : Vec Ideal S8x1024 .f32) (x3 : Vec Ideal S8x8x1024 .f32) (s : Fin 8) (r : Fin 8) (k l : Fin 1024)

/-- The block of window 0 at a grid point. -/
theorem idx0 : ∀ t : Fin grid0.N, win0_0.index t 0 = t.val ∧ win0_0.index t 1 = 0 := by decide +kernel

/-- The block of window 3 at a grid point. -/
theorem idx3 : ∀ t : Fin grid0.N, win0_3.index t 0 = 0 ∧ win0_3.index t 1 = t.val ∧ win0_3.index t 2 = 0 := by decide +kernel

/-- Argument 0. -/
def V0 : (⟨2, ![296, 1024]⟩ : Shape).Idx → EReal := m ((c : Thread nD τ).loc main_arg0)

/-- Argument 1. -/
def V1 : (⟨2, ![296, 1024]⟩ : Shape).Idx → EReal := m ((c : Thread nD τ).loc main_arg1)

/-- Argument 2. -/
def V2 : (⟨2, ![296, 1024]⟩ : Shape).Idx → EReal := m ((c : Thread nD τ).loc main_arg2)

/-- Argument 3. -/
def V3 : (⟨3, ![8, 296, 1024]⟩ : Shape).Idx → EReal := m ((c : Thread nD τ).loc main_arg3)

/-- A row of a grid point's tile. -/
def row : Fin 296 := ⟨t.val * 8 + r.val, by have := r.isLt; have := t.isLt; have : cfg0.N = 37 := N_0; omega⟩

/-- The gradient, at a point. -/
theorem out4 : (out0_4 x0 x1 x2 x3 (ix2 r l) : EReal) = (∑ s, x3 (ix3 s r l)) := by
  unfold out0_4
  rw [View.canon_unit_zero (S := S8x1024) hz]
  try simp only [View.ld_unit_zero (S := S8x1024) hz, View.ld_unit]
  pointwise [k0_pay1, k0_pay2, k0_pay3, k0_pay4, k0_pay5, k0_pay6, k0_pay7, k0_pay8, k0_pay9]
  all_goals try simp only [mn, vn, delta, Fin.sum_univ_eight]
  all_goals try rfl

/-- The step, at a point. -/
theorem out5 : (out0_5 x0 x1 x2 x3 (ix2 r l) : EReal) = delta (∑ s, x3 (ix3 s r l)) (x0 (ix2 r l)) (x1 (ix2 r l)) (x2 (ix2 r l)) := by
  unfold out0_5
  rw [View.canon_unit_zero (S := S8x1024) hz]
  try simp only [View.ld_unit_zero (S := S8x1024) hz, View.ld_unit]
  pointwise [k0_pay1, k0_pay2, k0_pay3, k0_pay4, k0_pay5, k0_pay6, k0_pay7, k0_pay8, k0_pay9]
  all_goals try simp only [mn, vn, delta, Fin.sum_univ_eight]
  all_goals try rfl

/-- The new running mean, at a point. -/
theorem out6 : (out0_6 x0 x1 x2 x3 (ix2 r l) : EReal) = mn (∑ s, x3 (ix3 s r l)) (x1 (ix2 r l)) := by
  unfold out0_6
  rw [View.canon_unit_zero (S := S8x1024) hz]
  try simp only [View.ld_unit_zero (S := S8x1024) hz, View.ld_unit]
  pointwise [k0_pay1, k0_pay2, k0_pay3, k0_pay4, k0_pay5, k0_pay6, k0_pay7, k0_pay8, k0_pay9]
  all_goals try simp only [mn, vn, delta, Fin.sum_univ_eight]
  all_goals try rfl

/-- The new running mean of the square, at a point. -/
theorem out7 : (out0_7 x0 x1 x2 x3 (ix2 r l) : EReal) = vn (∑ s, x3 (ix3 s r l)) (x2 (ix2 r l)) := by
  unfold out0_7
  rw [View.canon_unit_zero (S := S8x1024) hz]
  try simp only [View.ld_unit_zero (S := S8x1024) hz, View.ld_unit]
  pointwise [k0_pay1, k0_pay2, k0_pay3, k0_pay4, k0_pay5, k0_pay6, k0_pay7, k0_pay8, k0_pay9]
  all_goals try simp only [mn, vn, delta, Fin.sum_univ_eight]
  all_goals try rfl

/-- An element of what a grid point loads through window 0. -/
theorem blk0 : (iblk m c 0 t : Vec Ideal S8x1024 .f32) (ix2 r k) = V0 m c (ix2 (row t r) k) := by
  obtain ⟨ea, eb⟩ := idx0 t
  refine congrArg (m ((c : Thread nD τ).loc main_arg0)) (funext fun a => ?_)
  match a with
  | ⟨0, _⟩ => exact Fin.ext (show win0_0.index t 0 * 8 + 1 * r.val = t.val * 8 + r.val by rw [ea]; omega)
  | ⟨1, _⟩ => exact Fin.ext (show win0_0.index t 1 * 1024 + 1 * k.val = k.val by rw [eb]; omega)

/-- An element of what a grid point loads through window 1. -/
theorem blk1 : (iblk m c 1 t : Vec Ideal S8x1024 .f32) (ix2 r k) = V1 m c (ix2 (row t r) k) := by
  obtain ⟨ea, eb⟩ := idx0 t
  refine congrArg (m ((c : Thread nD τ).loc main_arg1)) (funext fun a => ?_)
  match a with
  | ⟨0, _⟩ => exact Fin.ext (show win0_0.index t 0 * 8 + 1 * r.val = t.val * 8 + r.val by rw [ea]; omega)
  | ⟨1, _⟩ => exact Fin.ext (show win0_0.index t 1 * 1024 + 1 * k.val = k.val by rw [eb]; omega)

/-- An element of what a grid point loads through window 2. -/
theorem blk2 : (iblk m c 2 t : Vec Ideal S8x1024 .f32) (ix2 r k) = V2 m c (ix2 (row t r) k) := by
  obtain ⟨ea, eb⟩ := idx0 t
  refine congrArg (m ((c : Thread nD τ).loc main_arg2)) (funext fun a => ?_)
  match a with
  | ⟨0, _⟩ => exact Fin.ext (show win0_0.index t 0 * 8 + 1 * r.val = t.val * 8 + r.val by rw [ea]; omega)
  | ⟨1, _⟩ => exact Fin.ext (show win0_0.index t 1 * 1024 + 1 * k.val = k.val by rw [eb]; omega)

/-- An element of what a grid point loads through window 3. -/
theorem blk3 : (iblk m c 3 t : Vec Ideal S8x8x1024 .f32) (ix3 s r k) = V3 m c (ix3 s (row t r) k) := by
  obtain ⟨ea, eb, ec⟩ := idx3 t
  refine congrArg (m ((c : Thread nD τ).loc main_arg3)) (funext fun a => ?_)
  match a with
  | ⟨0, _⟩ => exact Fin.ext (show win0_3.index t 0 * 8 + 1 * s.val = s.val by rw [ea]; omega)
  | ⟨1, _⟩ => exact Fin.ext (show win0_3.index t 1 * 8 + 1 * r.val = t.val * 8 + r.val by rw [eb]; omega)
  | ⟨2, _⟩ => exact Fin.ext (show win0_3.index t 2 * 1024 + 1 * k.val = k.val by rw [ec]; omega)

/-- The tile that holds a row. -/
theorem near (i : S296x1024.Idx) : ∃ t : Fin cfg0.N, ∀ a,
    win0_0.index t a * S8x1024.size a ≤ (i a).val ∧ (i a).val < win0_0.index t a * S8x1024.size a + S8x1024.size a := by
  have h0 : (i 0).val < 296 := (i 0).isLt
  have h1 : (i 1).val < 1024 := (i 1).isLt
  have hN : cfg0.N = 37 := N_0
  obtain ⟨t, ht⟩ : ∃ t : Fin cfg0.N, t.val = (i 0).val / 8 := ⟨⟨_, by omega⟩, rfl⟩
  obtain ⟨ea, eb⟩ := idx0 t
  refine ⟨t, fun a => ?_⟩
  match a with
  | ⟨0, _⟩ =>
    show win0_0.index _ 0 * 8 ≤ (i 0).val ∧ (i 0).val < win0_0.index _ 0 * 8 + 8
    rw [ea]; omega
  | ⟨1, _⟩ =>
    show win0_0.index _ 1 * 1024 ≤ (i 1).val ∧ (i 1).val < win0_0.index _ 1 * 1024 + 1024
    rw [eb]; omega

/-- The gradient, at every point. -/
theorem at4 : (out0_4 (iblk m c 0 t) (iblk m c 1 t) (iblk m c 2 t) (iblk m c 3 t) (ix2 r l) : EReal) = R4 (V3 m c) (row t r) l := by
  rw [out4]
  unfold R4
  simp only [blk3 m c]

/-- The array of output 4. -/
def G4 : Buf (Elt Ideal) ((c : Thread nD τ).loc main_v0_0) := fun i : S296x1024.Idx => R4 (V3 m c) (i 0) (i 1)

attribute [local irreducible] R4 in
/-- What a grid point writes back is its tile of that array. -/
theorem flushed4 : (dats m 0 c).flushed 4 t = ((cfg0.win 4).blk t).view.read (Elt Ideal) (G4 m c) := by
  obtain ⟨ea, eb⟩ := idx0 t
  rw [Value.flushed4]
  funext y
  refine ((congrArg (out0_4 (iblk m c 0 t) (iblk m c 1 t) (iblk m c 2 t) (iblk m c 3 t)) (eq_ix2 y)).trans (at4 m c t (y 0) (y 1))).trans (congrArg₂ (R4 (V3 m c)) (Fin.ext ?_) (Fin.ext ?_))
  · show t.val * 8 + (y 0).val = win0_0.index t 0 * 8 + 1 * (y 0).val
    rw [ea]; omega
  · show (y 1).val = win0_0.index t 1 * 1024 + 1 * (y 1).val
    rw [eb]; omega

/-- Every element of the array is in some point's tile. -/
theorem cover4 (i : S296x1024.Idx) : ∃ t : Fin cfg0.N, (cfg0.win 4).flush t = true ∧ i ∈ ((cfg0.win 4).blk t).view.set := by
  obtain ⟨t, h⟩ := near i
  refine ⟨t, flush0_4 _, ?_⟩
  show i ∈ ((View.whole main_v0_0).slice (win0_4.rect t)).set
  rw [View.set_slice_whole, Rect.mem_set_unit]
  exact h

/-- The step, at every point. -/
theorem at5 : (out0_5 (iblk m c 0 t) (iblk m c 1 t) (iblk m c 2 t) (iblk m c 3 t) (ix2 r l) : EReal) = R5 (V0 m c) (V1 m c) (V2 m c) (V3 m c) (row t r) l := by
  rw [out5]
  unfold R5
  simp only [blk0 m c, blk1 m c, blk2 m c, blk3 m c]

/-- The array of output 5. -/
def G5 : Buf (Elt Ideal) ((c : Thread nD τ).loc main_v0_1) := fun i : S296x1024.Idx => R5 (V0 m c) (V1 m c) (V2 m c) (V3 m c) (i 0) (i 1)

attribute [local irreducible] R5 in
/-- What a grid point writes back is its tile of that array. -/
theorem flushed5 : (dats m 0 c).flushed 5 t = ((cfg0.win 5).blk t).view.read (Elt Ideal) (G5 m c) := by
  obtain ⟨ea, eb⟩ := idx0 t
  rw [Value.flushed5]
  funext y
  refine ((congrArg (out0_5 (iblk m c 0 t) (iblk m c 1 t) (iblk m c 2 t) (iblk m c 3 t)) (eq_ix2 y)).trans (at5 m c t (y 0) (y 1))).trans (congrArg₂ (R5 (V0 m c) (V1 m c) (V2 m c) (V3 m c)) (Fin.ext ?_) (Fin.ext ?_))
  · show t.val * 8 + (y 0).val = win0_0.index t 0 * 8 + 1 * (y 0).val
    rw [ea]; omega
  · show (y 1).val = win0_0.index t 1 * 1024 + 1 * (y 1).val
    rw [eb]; omega

/-- Every element of the array is in some point's tile. -/
theorem cover5 (i : S296x1024.Idx) : ∃ t : Fin cfg0.N, (cfg0.win 5).flush t = true ∧ i ∈ ((cfg0.win 5).blk t).view.set := by
  obtain ⟨t, h⟩ := near i
  refine ⟨t, flush0_5 _, ?_⟩
  show i ∈ ((View.whole main_v0_1).slice (win0_5.rect t)).set
  rw [View.set_slice_whole, Rect.mem_set_unit]
  exact h

/-- The new running mean, at every point. -/
theorem at6 : (out0_6 (iblk m c 0 t) (iblk m c 1 t) (iblk m c 2 t) (iblk m c 3 t) (ix2 r l) : EReal) = R6 (V1 m c) (V3 m c) (row t r) l := by
  rw [out6]
  unfold R6
  simp only [blk1 m c, blk3 m c]

/-- The array of output 6. -/
def G6 : Buf (Elt Ideal) ((c : Thread nD τ).loc main_v0_2) := fun i : S296x1024.Idx => R6 (V1 m c) (V3 m c) (i 0) (i 1)

attribute [local irreducible] R6 in
/-- What a grid point writes back is its tile of that array. -/
theorem flushed6 : (dats m 0 c).flushed 6 t = ((cfg0.win 6).blk t).view.read (Elt Ideal) (G6 m c) := by
  obtain ⟨ea, eb⟩ := idx0 t
  rw [Value.flushed6]
  funext y
  refine ((congrArg (out0_6 (iblk m c 0 t) (iblk m c 1 t) (iblk m c 2 t) (iblk m c 3 t)) (eq_ix2 y)).trans (at6 m c t (y 0) (y 1))).trans (congrArg₂ (R6 (V1 m c) (V3 m c)) (Fin.ext ?_) (Fin.ext ?_))
  · show t.val * 8 + (y 0).val = win0_0.index t 0 * 8 + 1 * (y 0).val
    rw [ea]; omega
  · show (y 1).val = win0_0.index t 1 * 1024 + 1 * (y 1).val
    rw [eb]; omega

/-- Every element of the array is in some point's tile. -/
theorem cover6 (i : S296x1024.Idx) : ∃ t : Fin cfg0.N, (cfg0.win 6).flush t = true ∧ i ∈ ((cfg0.win 6).blk t).view.set := by
  obtain ⟨t, h⟩ := near i
  refine ⟨t, flush0_6 _, ?_⟩
  show i ∈ ((View.whole main_v0_2).slice (win0_6.rect t)).set
  rw [View.set_slice_whole, Rect.mem_set_unit]
  exact h

/-- The new running mean of the square, at every point. -/
theorem at7 : (out0_7 (iblk m c 0 t) (iblk m c 1 t) (iblk m c 2 t) (iblk m c 3 t) (ix2 r l) : EReal) = R7 (V2 m c) (V3 m c) (row t r) l := by
  rw [out7]
  unfold R7
  simp only [blk2 m c, blk3 m c]

/-- The array of output 7. -/
def G7 : Buf (Elt Ideal) ((c : Thread nD τ).loc main_v0_3) := fun i : S296x1024.Idx => R7 (V2 m c) (V3 m c) (i 0) (i 1)

attribute [local irreducible] R7 in
/-- What a grid point writes back is its tile of that array. -/
theorem flushed7 : (dats m 0 c).flushed 7 t = ((cfg0.win 7).blk t).view.read (Elt Ideal) (G7 m c) := by
  obtain ⟨ea, eb⟩ := idx0 t
  rw [Value.flushed7]
  funext y
  refine ((congrArg (out0_7 (iblk m c 0 t) (iblk m c 1 t) (iblk m c 2 t) (iblk m c 3 t)) (eq_ix2 y)).trans (at7 m c t (y 0) (y 1))).trans (congrArg₂ (R7 (V2 m c) (V3 m c)) (Fin.ext ?_) (Fin.ext ?_))
  · show t.val * 8 + (y 0).val = win0_0.index t 0 * 8 + 1 * (y 0).val
    rw [ea]; omega
  · show (y 1).val = win0_0.index t 1 * 1024 + 1 * (y 1).val
    rw [eb]; omega

/-- Every element of the array is in some point's tile. -/
theorem cover7 (i : S296x1024.Idx) : ∃ t : Fin cfg0.N, (cfg0.win 7).flush t = true ∧ i ∈ ((cfg0.win 7).blk t).view.set := by
  obtain ⟨t, h⟩ := near i
  refine ⟨t, flush0_7 _, ?_⟩
  show i ∈ ((View.whole main_v0_3).slice (win0_7.rect t)).set
  rw [View.set_slice_whole, Rect.mem_set_unit]
  exact h

end kernel

/-- The frames: the generated runs. -/
theorem frame_k : Cert.quiescent_AdamSmallKernel := fun m ρ _ => Cert.AdamSmallKernel.Gen.frame m ρ
/-- … of the idealized kernel, -/
theorem frame_ki : Cert.quiescent_AdamSmallKernelIdeal := fun m ρ _ => Cert.AdamSmallKernelIdeal.Gen.frame m ρ
/-- … and of the reference, which has no semaphore. -/
theorem frame_r : Cert.quiescent_AdamSmallReferenceIdeal := fun m ρ _ =>
  (θ_run Cert.AdamSmallReferenceIdeal.defs _ _).mono (fun r h => ⟨fun c => (h c).2.2.2.2, Idealize.ShloMosaic.sem_eq_zero_of_no_sems (by decide) r.2⟩)
    (Cert.AdamSmallReferenceIdeal.Value.run (F := Ideal) m ρ)

set_option maxHeartbeats 4000000 in
open Cert.AdamSmallKernelIdeal Cert.AdamSmallKernelIdeal.Gen in
/-- The kernel's results and the reference's are the same arrays. -/
theorem algebraic : Cert.algebraic_AdamSmallKernelIdeal_AdamSmallReferenceIdeal := by
  intro m ρ m' ρ' _ hagree
  refine ⟨fun c => G4 m c, fun c => G5 m c, fun c => G6 m c, fun c => G7 m c, ?_, ?_⟩
  · refine (θ_run defs _ _).mono (fun _ h c => ?_) (Value.run_blocks (F := Ideal) m ρ)
    obtain ⟨h4, h5, h6, h7, hk⟩ := h c
    exact ⟨h4.trans ((dats m 0 c).arrAt_eq_of_cover 4 (G4 m c) (fun t _ => flushed4 m c t) cover4), h5.trans ((dats m 0 c).arrAt_eq_of_cover 5 (G5 m c) (fun t _ => flushed5 m c t) cover5), h6.trans ((dats m 0 c).arrAt_eq_of_cover 6 (G6 m c) (fun t _ => flushed6 m c t) cover6), h7.trans ((dats m 0 c).arrAt_eq_of_cover 7 (G7 m c) (fun t _ => flushed7 m c t) cover7), hk⟩
  refine (θ_run Cert.AdamSmallReferenceIdeal.defs _ _).mono (fun _ h c => ?_) (Cert.AdamSmallReferenceIdeal.Value.run (F := Ideal) m' ρ')
  obtain ⟨a0, a1, a2, a3⟩ := hagree c
  obtain ⟨h4, h5, h6, h7, hk⟩ := h c
  refine ⟨h4.trans (funext fun i => ?_), h5.trans (funext fun i => ?_), h6.trans (funext fun i => ?_), h7.trans (funext fun i => ?_), hk⟩
  · obtain ⟨n, l, rfl⟩ : ∃ n l, i = ix2 n l := ⟨_, _, eq_ix2 i⟩
    refine Eq.trans (b := (R4 (m' (c.tc.loc Cert.AdamSmallReferenceIdeal.main_arg3)) n l : EReal)) ?_ (by rw [a3]; rfl)
    unfold R4
    pointwise
    all_goals try simp only [mn, vn, delta, Fin.sum_univ_eight]
  · obtain ⟨n, l, rfl⟩ : ∃ n l, i = ix2 n l := ⟨_, _, eq_ix2 i⟩
    refine Eq.trans (b := (R5 (m' (c.tc.loc Cert.AdamSmallReferenceIdeal.main_arg0)) (m' (c.tc.loc Cert.AdamSmallReferenceIdeal.main_arg1)) (m' (c.tc.loc Cert.AdamSmallReferenceIdeal.main_arg2)) (m' (c.tc.loc Cert.AdamSmallReferenceIdeal.main_arg3)) n l : EReal)) ?_ (by rw [a0, a1, a2, a3]; rfl)
    unfold R5
    pointwise
    all_goals try simp only [mn, vn, delta, Fin.sum_univ_eight]
  · obtain ⟨n, l, rfl⟩ : ∃ n l, i = ix2 n l := ⟨_, _, eq_ix2 i⟩
    refine Eq.trans (b := (R6 (m' (c.tc.loc Cert.AdamSmallReferenceIdeal.main_arg1)) (m' (c.tc.loc Cert.AdamSmallReferenceIdeal.main_arg3)) n l : EReal)) ?_ (by rw [a1, a3]; rfl)
    unfold R6
    pointwise
    all_goals try simp only [mn, vn, delta, Fin.sum_univ_eight]
  · obtain ⟨n, l, rfl⟩ : ∃ n l, i = ix2 n l := ⟨_, _, eq_ix2 i⟩
    refine Eq.trans (b := (R7 (m' (c.tc.loc Cert.AdamSmallReferenceIdeal.main_arg2)) (m' (c.tc.loc Cert.AdamSmallReferenceIdeal.main_arg3)) n l : EReal)) ?_ (by rw [a2, a3]; rfl)
    unfold R7
    pointwise
    all_goals try simp only [mn, vn, delta, Fin.sum_univ_eight]

end Cert.AdamSmall

end
-- ==== Proof.lean ====
module

public import proofs.«01_k».proof.Defs
public import proofs.«01_k».proof.Proof.Merge
public import proofs.«01_k».proof.Proof.Dup
public import proofs.«01_k».proof.Proof.Gdown
public import proofs.«01_k».proof.Proof.DhTwo
public import proofs.«01_k».proof.Proof.Gup
public import proofs.«01_k».proof.Proof.Dmerged
public import proofs.«01_k».proof.Proof.Gout
public import proofs.«01_k».proof.Proof.Dy
public import proofs.«01_k».proof.Proof.Gbranch
public import proofs.«01_k».proof.Proof.Gin
public import proofs.«01_k».proof.Proof.Dh
public import proofs.«01_k».proof.Proof.Proj
public import proofs.«01_k».proof.Proof.Branch
public import proofs.«01_k».proof.Proof.Out
public import proofs.«01_k».proof.Proof.Down
public import proofs.«01_k».proof.Proof.Up
public import proofs.«01_k».proof.Proof.Lru
public import proofs.«01_k».proof.Proof.DupZero
public import proofs.«01_k».proof.Proof.GdownZero
public import proofs.«01_k».proof.Proof.DhTwoZero
public import proofs.«01_k».proof.Proof.GupZero
public import proofs.«01_k».proof.Proof.DmergedZero
public import proofs.«01_k».proof.Proof.GoutZero
public import proofs.«01_k».proof.Proof.DyZero
public import proofs.«01_k».proof.Proof.GbranchZero
public import proofs.«01_k».proof.Proof.GinZero
public import proofs.«01_k».proof.Proof.BranchZero
public import proofs.«01_k».proof.Proof.OutZero
public import proofs.«01_k».proof.Proof.DownZero
public import proofs.«01_k».proof.Proof.UpZero
public import proofs.«01_k».proof.Proof.PreB
public import proofs.«01_k».proof.Proof.PostB
public import proofs.«01_k».proof.Proof.PostBZero
public import proofs.«01_k».proof.Proof.ResPreBZero
public import proofs.«01_k».proof.Proof.ResB
public import proofs.«01_k».proof.Proof.Post
public import proofs.«01_k».proof.Proof.Res
public import proofs.«01_k».proof.Proof.AdamAda
public import proofs.«01_k».proof.Proof.AdamUp
public import proofs.«01_k».proof.Proof.AdamDown
public import proofs.«01_k».proof.Proof.AdamIn
public import proofs.«01_k».proof.Proof.AdamBranch
public import proofs.«01_k».proof.Proof.AdamOut
public import proofs.«01_k».proof.Proof.MergeZero
public import proofs.«01_k».proof.Proof.PostZero
public import proofs.«01_k».proof.Proof.ResPreZero
public import proofs.«01_k».proof.Proof.MergeF
public import proofs.«01_k».proof.Proof.LossHead
public import proofs.«01_k».proof.Proof.AdamSmall
public import proofs.«01_k».proof.Proof.Gen.MergeKernelIdeal.Value
public import proofs.«01_k».proof.Proof.Gen.MergeReferenceIdeal.Run
public import proofs.«01_k».proof.Proof.Gen.DupKernelIdeal.Value
public import proofs.«01_k».proof.Proof.Gen.DupReferenceIdeal.Run
public import proofs.«01_k».proof.Proof.Gen.GdownKernelIdeal.Value
public import proofs.«01_k».proof.Proof.Gen.GdownReferenceIdeal.Run
public import proofs.«01_k».proof.Proof.Gen.DhTwoKernelIdeal.Value
public import proofs.«01_k».proof.Proof.Gen.DhTwoReferenceIdeal.Run
public import proofs.«01_k».proof.Proof.Gen.GupKernelIdeal.Value
public import proofs.«01_k».proof.Proof.Gen.GupReferenceIdeal.Run
public import proofs.«01_k».proof.Proof.Gen.DmergedKernelIdeal.Value
public import proofs.«01_k».proof.Proof.Gen.DmergedReferenceIdeal.Run
public import proofs.«01_k».proof.Proof.Gen.GoutKernelIdeal.Value
public import proofs.«01_k».proof.Proof.Gen.GoutReferenceIdeal.Run
public import proofs.«01_k».proof.Proof.Gen.DyKernelIdeal.Value
public import proofs.«01_k».proof.Proof.Gen.DyReferenceIdeal.Run
public import proofs.«01_k».proof.Proof.Gen.GbranchKernelIdeal.Value
public import proofs.«01_k».proof.Proof.Gen.GbranchReferenceIdeal.Run
public import proofs.«01_k».proof.Proof.Gen.GinKernelIdeal.Value
public import proofs.«01_k».proof.Proof.Gen.GinReferenceIdeal.Run
public import proofs.«01_k».proof.Proof.Gen.DhKernelIdeal.Value
public import proofs.«01_k».proof.Proof.Gen.DhReferenceIdeal.Run
public import proofs.«01_k».proof.Proof.Gen.ProjKernelIdeal.Value
public import proofs.«01_k».proof.Proof.Gen.ProjReferenceIdeal.Run
public import proofs.«01_k».proof.Proof.Gen.BranchKernelIdeal.Value
public import proofs.«01_k».proof.Proof.Gen.BranchReferenceIdeal.Run
public import proofs.«01_k».proof.Proof.Gen.OutKernelIdeal.Value
public import proofs.«01_k».proof.Proof.Gen.OutReferenceIdeal.Run
public import proofs.«01_k».proof.Proof.Gen.DownKernelIdeal.Value
public import proofs.«01_k».proof.Proof.Gen.DownReferenceIdeal.Run
public import proofs.«01_k».proof.Proof.Gen.UpKernelIdeal.Value
public import proofs.«01_k».proof.Proof.Gen.UpReferenceIdeal.Run
public import proofs.«01_k».proof.Proof.Gen.LruKernelIdeal.Value
public import proofs.«01_k».proof.Proof.Gen.LruReferenceIdeal.Run
public import proofs.«01_k».proof.Proof.Gen.PreBKernelIdeal.Value
public import proofs.«01_k».proof.Proof.Gen.PreBReferenceIdeal.Run
public import proofs.«01_k».proof.Proof.Gen.PostBKernelIdeal.Value
public import proofs.«01_k».proof.Proof.Gen.PostBReferenceIdeal.Run
public import proofs.«01_k».proof.Proof.Gen.ResBKernelIdeal.Value
public import proofs.«01_k».proof.Proof.Gen.ResBReferenceIdeal.Run
public import proofs.«01_k».proof.Proof.Gen.PostKernelIdeal.Value
public import proofs.«01_k».proof.Proof.Gen.PostReferenceIdeal.Run
public import proofs.«01_k».proof.Proof.Gen.ResKernelIdeal.Value
public import proofs.«01_k».proof.Proof.Gen.ResReferenceIdeal.Run
public import proofs.«01_k».proof.Proof.Gen.AdamAdaKernelIdeal.Value
public import proofs.«01_k».proof.Proof.Gen.AdamAdaReferenceIdeal.Run
public import proofs.«01_k».proof.Proof.Gen.AdamUpKernelIdeal.Value
public import proofs.«01_k».proof.Proof.Gen.AdamUpReferenceIdeal.Run
public import proofs.«01_k».proof.Proof.Gen.AdamDownKernelIdeal.Value
public import proofs.«01_k».proof.Proof.Gen.AdamDownReferenceIdeal.Run
public import proofs.«01_k».proof.Proof.Gen.AdamInKernelIdeal.Value
public import proofs.«01_k».proof.Proof.Gen.AdamInReferenceIdeal.Run
public import proofs.«01_k».proof.Proof.Gen.AdamBranchKernelIdeal.Value
public import proofs.«01_k».proof.Proof.Gen.AdamBranchReferenceIdeal.Run
public import proofs.«01_k».proof.Proof.Gen.AdamOutKernelIdeal.Value
public import proofs.«01_k».proof.Proof.Gen.AdamOutReferenceIdeal.Run
public import proofs.«01_k».proof.Proof.Gen.MergeFKernelIdeal.Value
public import proofs.«01_k».proof.Proof.Gen.MergeFReferenceIdeal.Run
public import proofs.«01_k».proof.Proof.Gen.LossHeadKernelIdeal.Value
public import proofs.«01_k».proof.Proof.Gen.LossHeadReferenceIdeal.Run
public import proofs.«01_k».proof.Proof.Gen.AdamSmallKernelIdeal.Value
public import proofs.«01_k».proof.Proof.Gen.AdamSmallReferenceIdeal.Run
public import Idealize.ShloMosaic.Adequacy
public import Idealize.ShloMosaic.Init

@[expose] public section

noncomputable section

namespace Cert.Proof

open Idealize.ShloMosaic Idealize.SL.Sem

/-- Everything the certificate claims. -/
theorem claim : Cert.Claim := ⟨Cert.MergeKernel.Gen.facts, Cert.MergeKernelIdeal.Gen.facts, Cert.MergeReferenceIdeal.Gen.facts, Cert.DupKernel.Gen.facts, Cert.DupKernelIdeal.Gen.facts, Cert.DupReferenceIdeal.Gen.facts, Cert.GdownKernel.Gen.facts, Cert.GdownKernelIdeal.Gen.facts, Cert.GdownReferenceIdeal.Gen.facts, Cert.DhTwoKernel.Gen.facts, Cert.DhTwoKernelIdeal.Gen.facts, Cert.DhTwoReferenceIdeal.Gen.facts, Cert.GupKernel.Gen.facts, Cert.GupKernelIdeal.Gen.facts, Cert.GupReferenceIdeal.Gen.facts, Cert.DmergedKernel.Gen.facts, Cert.DmergedKernelIdeal.Gen.facts, Cert.DmergedReferenceIdeal.Gen.facts, Cert.GoutKernel.Gen.facts, Cert.GoutKernelIdeal.Gen.facts, Cert.GoutReferenceIdeal.Gen.facts, Cert.DyKernel.Gen.facts, Cert.DyKernelIdeal.Gen.facts, Cert.DyReferenceIdeal.Gen.facts, Cert.GbranchKernel.Gen.facts, Cert.GbranchKernelIdeal.Gen.facts, Cert.GbranchReferenceIdeal.Gen.facts, Cert.GinKernel.Gen.facts, Cert.GinKernelIdeal.Gen.facts, Cert.GinReferenceIdeal.Gen.facts, Cert.DhKernel.Gen.facts, Cert.DhKernelIdeal.Gen.facts, Cert.DhReferenceIdeal.Gen.facts, Cert.ProjKernel.Gen.facts, Cert.ProjKernelIdeal.Gen.facts, Cert.ProjReferenceIdeal.Gen.facts, Cert.BranchKernel.Gen.facts, Cert.BranchKernelIdeal.Gen.facts, Cert.BranchReferenceIdeal.Gen.facts, Cert.OutKernel.Gen.facts, Cert.OutKernelIdeal.Gen.facts, Cert.OutReferenceIdeal.Gen.facts, Cert.DownKernel.Gen.facts, Cert.DownKernelIdeal.Gen.facts, Cert.DownReferenceIdeal.Gen.facts, Cert.UpKernel.Gen.facts, Cert.UpKernelIdeal.Gen.facts, Cert.UpReferenceIdeal.Gen.facts, Cert.LruKernel.Gen.facts, Cert.LruKernelIdeal.Gen.facts, Cert.LruReferenceIdeal.Gen.facts, Cert.DupZeroKernel.Gen.facts, Cert.DupZeroKernelIdeal.Gen.facts, Cert.GdownZeroKernel.Gen.facts, Cert.GdownZeroKernelIdeal.Gen.facts, Cert.DhTwoZeroKernel.Gen.facts, Cert.DhTwoZeroKernelIdeal.Gen.facts, Cert.GupZeroKernel.Gen.facts, Cert.GupZeroKernelIdeal.Gen.facts, Cert.DmergedZeroKernel.Gen.facts, Cert.DmergedZeroKernelIdeal.Gen.facts, Cert.GoutZeroKernel.Gen.facts, Cert.GoutZeroKernelIdeal.Gen.facts, Cert.DyZeroKernel.Gen.facts, Cert.DyZeroKernelIdeal.Gen.facts, Cert.GbranchZeroKernel.Gen.facts, Cert.GbranchZeroKernelIdeal.Gen.facts, Cert.GinZeroKernel.Gen.facts, Cert.GinZeroKernelIdeal.Gen.facts, Cert.BranchZeroKernel.Gen.facts, Cert.BranchZeroKernelIdeal.Gen.facts, Cert.OutZeroKernel.Gen.facts, Cert.OutZeroKernelIdeal.Gen.facts, Cert.DownZeroKernel.Gen.facts, Cert.DownZeroKernelIdeal.Gen.facts, Cert.UpZeroKernel.Gen.facts, Cert.UpZeroKernelIdeal.Gen.facts, Cert.PreBKernel.Gen.facts, Cert.PreBKernelIdeal.Gen.facts, Cert.PreBReferenceIdeal.Gen.facts, Cert.PostBKernel.Gen.facts, Cert.PostBKernelIdeal.Gen.facts, Cert.PostBReferenceIdeal.Gen.facts, Cert.PostBZeroKernel.Gen.facts, Cert.PostBZeroKernelIdeal.Gen.facts, Cert.ResPreBZeroKernel.Gen.facts, Cert.ResPreBZeroKernelIdeal.Gen.facts, Cert.ResBKernel.Gen.facts, Cert.ResBKernelIdeal.Gen.facts, Cert.ResBReferenceIdeal.Gen.facts, Cert.PostKernel.Gen.facts, Cert.PostKernelIdeal.Gen.facts, Cert.PostReferenceIdeal.Gen.facts, Cert.ResKernel.Gen.facts, Cert.ResKernelIdeal.Gen.facts, Cert.ResReferenceIdeal.Gen.facts, Cert.AdamAdaKernel.Gen.facts, Cert.AdamAdaKernelIdeal.Gen.facts, Cert.AdamAdaReferenceIdeal.Gen.facts, Cert.AdamUpKernel.Gen.facts, Cert.AdamUpKernelIdeal.Gen.facts, Cert.AdamUpReferenceIdeal.Gen.facts, Cert.AdamDownKernel.Gen.facts, Cert.AdamDownKernelIdeal.Gen.facts, Cert.AdamDownReferenceIdeal.Gen.facts, Cert.AdamInKernel.Gen.facts, Cert.AdamInKernelIdeal.Gen.facts, Cert.AdamInReferenceIdeal.Gen.facts, Cert.AdamBranchKernel.Gen.facts, Cert.AdamBranchKernelIdeal.Gen.facts, Cert.AdamBranchReferenceIdeal.Gen.facts, Cert.AdamOutKernel.Gen.facts, Cert.AdamOutKernelIdeal.Gen.facts, Cert.AdamOutReferenceIdeal.Gen.facts, Cert.MergeFKernel.Gen.facts, Cert.MergeFKernelIdeal.Gen.facts, Cert.MergeFReferenceIdeal.Gen.facts, Cert.LossHeadKernel.Gen.facts, Cert.LossHeadKernelIdeal.Gen.facts, Cert.LossHeadReferenceIdeal.Gen.facts, Cert.AdamSmallKernel.Gen.facts, Cert.AdamSmallKernelIdeal.Gen.facts, Cert.AdamSmallReferenceIdeal.Gen.facts, Cert.MergeZeroKernel.Gen.facts, Cert.MergeZeroKernelIdeal.Gen.facts, Cert.PostZeroKernel.Gen.facts, Cert.PostZeroKernelIdeal.Gen.facts, Cert.ResPreZeroKernel.Gen.facts, Cert.ResPreZeroKernelIdeal.Gen.facts,
  Cert.Merge.frame_k, Cert.Merge.frame_ki, Cert.Merge.frame_r, Cert.Dup.frame_k, Cert.Dup.frame_ki, Cert.Dup.frame_r, Cert.Gdown.frame_k, Cert.Gdown.frame_ki, Cert.Gdown.frame_r, Cert.DhTwo.frame_k, Cert.DhTwo.frame_ki, Cert.DhTwo.frame_r, Cert.Gup.frame_k, Cert.Gup.frame_ki, Cert.Gup.frame_r, Cert.Dmerged.frame_k, Cert.Dmerged.frame_ki, Cert.Dmerged.frame_r, Cert.Gout.frame_k, Cert.Gout.frame_ki, Cert.Gout.frame_r, Cert.Dy.frame_k, Cert.Dy.frame_ki, Cert.Dy.frame_r, Cert.Gbranch.frame_k, Cert.Gbranch.frame_ki, Cert.Gbranch.frame_r, Cert.Gin.frame_k, Cert.Gin.frame_ki, Cert.Gin.frame_r, Cert.Dh.frame_k, Cert.Dh.frame_ki, Cert.Dh.frame_r, Cert.Proj.frame_k, Cert.Proj.frame_ki, Cert.Proj.frame_r, Cert.Branch.frame_k, Cert.Branch.frame_ki, Cert.Branch.frame_r, Cert.Out.frame_k, Cert.Out.frame_ki, Cert.Out.frame_r, Cert.Down.frame_k, Cert.Down.frame_ki, Cert.Down.frame_r, Cert.Up.frame_k, Cert.Up.frame_ki, Cert.Up.frame_r, Cert.Lru.frame_k, Cert.Lru.frame_ki, Cert.Lru.frame_r, Cert.DupZero.frame_k, Cert.DupZero.frame_ki, Cert.GdownZero.frame_k, Cert.GdownZero.frame_ki, Cert.DhTwoZero.frame_k, Cert.DhTwoZero.frame_ki, Cert.GupZero.frame_k, Cert.GupZero.frame_ki, Cert.DmergedZero.frame_k, Cert.DmergedZero.frame_ki, Cert.GoutZero.frame_k, Cert.GoutZero.frame_ki, Cert.DyZero.frame_k, Cert.DyZero.frame_ki, Cert.GbranchZero.frame_k, Cert.GbranchZero.frame_ki, Cert.GinZero.frame_k, Cert.GinZero.frame_ki, Cert.BranchZero.frame_k, Cert.BranchZero.frame_ki, Cert.OutZero.frame_k, Cert.OutZero.frame_ki, Cert.DownZero.frame_k, Cert.DownZero.frame_ki, Cert.UpZero.frame_k, Cert.UpZero.frame_ki, Cert.PreB.frame_k, Cert.PreB.frame_ki, Cert.PreB.frame_r, Cert.PostB.frame_k, Cert.PostB.frame_ki, Cert.PostB.frame_r, Cert.PostBZero.frame_k, Cert.PostBZero.frame_ki, Cert.ResPreBZero.frame_k, Cert.ResPreBZero.frame_ki, Cert.ResB.frame_k, Cert.ResB.frame_ki, Cert.ResB.frame_r, Cert.Post.frame_k, Cert.Post.frame_ki, Cert.Post.frame_r, Cert.Res.frame_k, Cert.Res.frame_ki, Cert.Res.frame_r, Cert.AdamAda.frame_k, Cert.AdamAda.frame_ki, Cert.AdamAda.frame_r, Cert.AdamUp.frame_k, Cert.AdamUp.frame_ki, Cert.AdamUp.frame_r, Cert.AdamDown.frame_k, Cert.AdamDown.frame_ki, Cert.AdamDown.frame_r, Cert.AdamIn.frame_k, Cert.AdamIn.frame_ki, Cert.AdamIn.frame_r, Cert.AdamBranch.frame_k, Cert.AdamBranch.frame_ki, Cert.AdamBranch.frame_r, Cert.AdamOut.frame_k, Cert.AdamOut.frame_ki, Cert.AdamOut.frame_r, Cert.MergeF.frame_k, Cert.MergeF.frame_ki, Cert.MergeF.frame_r, Cert.LossHead.frame_k, Cert.LossHead.frame_ki, Cert.LossHead.frame_r, Cert.AdamSmall.frame_k, Cert.AdamSmall.frame_ki, Cert.AdamSmall.frame_r, Cert.MergeZero.frame_k, Cert.MergeZero.frame_ki, Cert.PostZero.frame_k, Cert.PostZero.frame_ki, Cert.ResPreZero.frame_k, Cert.ResPreZero.frame_ki,
  trivial, Cert.Merge.algebraic, trivial, Cert.Dup.algebraic, trivial, Cert.Gdown.algebraic, trivial, Cert.DhTwo.algebraic, trivial, Cert.Gup.algebraic, trivial, Cert.Dmerged.algebraic, trivial, Cert.Gout.algebraic, trivial, Cert.Dy.algebraic, trivial, Cert.Gbranch.algebraic, trivial, Cert.Gin.algebraic, trivial, Cert.Dh.algebraic, trivial, Cert.Proj.algebraic, trivial, Cert.Branch.algebraic, trivial, Cert.Out.algebraic, trivial, Cert.Down.algebraic, trivial, Cert.Up.algebraic, trivial, Cert.Lru.algebraic, trivial, Cert.DupZero.algebraic, trivial, Cert.GdownZero.algebraic, trivial, Cert.DhTwoZero.algebraic, trivial, Cert.GupZero.algebraic, trivial, Cert.DmergedZero.algebraic, trivial, Cert.GoutZero.algebraic, trivial, Cert.DyZero.algebraic, trivial, Cert.GbranchZero.algebraic, trivial, Cert.GinZero.algebraic, trivial, Cert.BranchZero.algebraic, trivial, Cert.OutZero.algebraic, trivial, Cert.DownZero.algebraic, trivial, Cert.UpZero.algebraic, trivial, Cert.PreB.algebraic, trivial, Cert.PostB.algebraic, trivial, Cert.PostBZero.algebraic, trivial, Cert.ResPreBZero.algebraic, trivial, Cert.ResB.algebraic, trivial, Cert.Post.algebraic, trivial, Cert.Res.algebraic, trivial, Cert.AdamAda.algebraic, trivial, Cert.AdamUp.algebraic, trivial, Cert.AdamDown.algebraic, trivial, Cert.AdamIn.algebraic, trivial, Cert.AdamBranch.algebraic, trivial, Cert.AdamOut.algebraic, trivial, Cert.MergeF.algebraic, trivial, Cert.LossHead.algebraic, trivial, Cert.AdamSmall.algebraic, trivial, Cert.MergeZero.algebraic, trivial, Cert.PostZero.algebraic, trivial, Cert.ResPreZero.algebraic⟩

end Cert.Proof

end
